-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Partials (m : (ℓ : Loc Cert.Partials.nD Cert.Partials.τ Cert.Partials.sig) → Buf (Elt Bits) ℓ) : Prop :=
  True

def Pre_PartialsIdeal (m : (ℓ : Loc Cert.PartialsIdeal.nD Cert.PartialsIdeal.τ Cert.PartialsIdeal.sig) → Buf (Elt Ideal) ℓ) : Prop :=
  True

def Pre_PartialsRefIdeal (m : (ℓ : Loc Cert.PartialsRefIdeal.nD Cert.PartialsRefIdeal.τ Cert.PartialsRefIdeal.sig) → Buf (Elt Ideal) ℓ) : Prop :=
  True

def Pre_PartialsRef (m : (ℓ : Loc Cert.PartialsRef.nD Cert.PartialsRef.τ Cert.PartialsRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Result (m : (ℓ : Loc Cert.Result.nD Cert.Result.τ Cert.Result.sig) → Buf (Elt Bits) ℓ) : Prop :=
  True

def Pre_ResultIdeal (m : (ℓ : Loc Cert.ResultIdeal.nD Cert.ResultIdeal.τ Cert.ResultIdeal.sig) → Buf (Elt Ideal) ℓ) : Prop :=
  True

def Pre_ResultRefIdeal (m : (ℓ : Loc Cert.ResultRefIdeal.nD Cert.ResultRefIdeal.τ Cert.ResultRefIdeal.sig) → Buf (Elt Ideal) ℓ) : Prop :=
  True

def Pre_ResultRef (m : (ℓ : Loc Cert.ResultRef.nD Cert.ResultRef.τ Cert.ResultRef.sig) → Buf (Elt Bits) ℓ) : Prop :=
  True

def Pre_Grads (m : (ℓ : Loc Cert.Grads.nD Cert.Grads.τ Cert.Grads.sig) → Buf (Elt Bits) ℓ) : Prop :=
  True

def Pre_GradsIdeal (m : (ℓ : Loc Cert.GradsIdeal.nD Cert.GradsIdeal.τ Cert.GradsIdeal.sig) → Buf (Elt Ideal) ℓ) : Prop :=
  True

def Pre_GradsRefIdeal (m : (ℓ : Loc Cert.GradsRefIdeal.nD Cert.GradsRefIdeal.τ Cert.GradsRefIdeal.sig) → Buf (Elt Ideal) ℓ) : Prop :=
  True

def Pre_GradsRef (m : (ℓ : Loc Cert.GradsRef.nD Cert.GradsRef.τ Cert.GradsRef.sig) → Buf (Elt Bits) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def Pre_PairSumRef (m : (ℓ : Loc Cert.PairSumRef.nD Cert.PairSumRef.τ Cert.PairSumRef.sig) → Buf (Elt Bits) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Adamw2x1024 (m : (ℓ : Loc Cert.Adamw2x1024.nD Cert.Adamw2x1024.τ Cert.Adamw2x1024.sig) → Buf (Elt Bits) ℓ) : Prop :=
  True

def Pre_Adamw2x1024Ideal (m : (ℓ : Loc Cert.Adamw2x1024Ideal.nD Cert.Adamw2x1024Ideal.τ Cert.Adamw2x1024Ideal.sig) → Buf (Elt Ideal) ℓ) : Prop :=
  True

def Pre_Adamw2x1024RefIdeal (m : (ℓ : Loc Cert.Adamw2x1024RefIdeal.nD Cert.Adamw2x1024RefIdeal.τ Cert.Adamw2x1024RefIdeal.sig) → Buf (Elt Ideal) ℓ) : Prop :=
  True

def Pre_Adamw2048x2564 (m : (ℓ : Loc Cert.Adamw2048x2564.nD Cert.Adamw2048x2564.τ Cert.Adamw2048x2564.sig) → Buf (Elt Bits) ℓ) : Prop :=
  True

def Pre_Adamw2048x2564Ideal (m : (ℓ : Loc Cert.Adamw2048x2564Ideal.nD Cert.Adamw2048x2564Ideal.τ Cert.Adamw2048x2564Ideal.sig) → Buf (Elt Ideal) ℓ) : Prop :=
  True

def Pre_Adamw2048x2564RefIdeal (m : (ℓ : Loc Cert.Adamw2048x2564RefIdeal.nD Cert.Adamw2048x2564RefIdeal.τ Cert.Adamw2048x2564RefIdeal.sig) → Buf (Elt Ideal) ℓ) : Prop :=
  True

def Pre_Adamw62x128 (m : (ℓ : Loc Cert.Adamw62x128.nD Cert.Adamw62x128.τ Cert.Adamw62x128.sig) → Buf (Elt Bits) ℓ) : Prop :=
  True

def Pre_Adamw62x128Ideal (m : (ℓ : Loc Cert.Adamw62x128Ideal.nD Cert.Adamw62x128Ideal.τ Cert.Adamw62x128Ideal.sig) → Buf (Elt Ideal) ℓ) : Prop :=
  True

def Pre_Adamw62x128RefIdeal (m : (ℓ : Loc Cert.Adamw62x128RefIdeal.nD Cert.Adamw62x128RefIdeal.τ Cert.Adamw62x128RefIdeal.sig) → Buf (Elt Ideal) ℓ) : Prop :=
  True

def Pre_Adamw2x512 (m : (ℓ : Loc Cert.Adamw2x512.nD Cert.Adamw2x512.τ Cert.Adamw2x512.sig) → Buf (Elt Bits) ℓ) : Prop :=
  True

def Pre_Adamw2x512Ideal (m : (ℓ : Loc Cert.Adamw2x512Ideal.nD Cert.Adamw2x512Ideal.τ Cert.Adamw2x512Ideal.sig) → Buf (Elt Ideal) ℓ) : Prop :=
  True

def Pre_Adamw2x512RefIdeal (m : (ℓ : Loc Cert.Adamw2x512RefIdeal.nD Cert.Adamw2x512RefIdeal.τ Cert.Adamw2x512RefIdeal.sig) → Buf (Elt Ideal) ℓ) : Prop :=
  True

def Pre_Adamw1024x256 (m : (ℓ : Loc Cert.Adamw1024x256.nD Cert.Adamw1024x256.τ Cert.Adamw1024x256.sig) → Buf (Elt Bits) ℓ) : Prop :=
  True

def Pre_Adamw1024x256Ideal (m : (ℓ : Loc Cert.Adamw1024x256Ideal.nD Cert.Adamw1024x256Ideal.τ Cert.Adamw1024x256Ideal.sig) → Buf (Elt Ideal) ℓ) : Prop :=
  True

def Pre_Adamw1024x256RefIdeal (m : (ℓ : Loc Cert.Adamw1024x256RefIdeal.nD Cert.Adamw1024x256RefIdeal.τ Cert.Adamw1024x256RefIdeal.sig) → Buf (Elt Ideal) ℓ) : Prop :=
  True

def Pre_Adamw8x768 (m : (ℓ : Loc Cert.Adamw8x768.nD Cert.Adamw8x768.τ Cert.Adamw8x768.sig) → Buf (Elt Bits) ℓ) : Prop :=
  True

def Pre_Adamw8x768Ideal (m : (ℓ : Loc Cert.Adamw8x768Ideal.nD Cert.Adamw8x768Ideal.τ Cert.Adamw8x768Ideal.sig) → Buf (Elt Ideal) ℓ) : Prop :=
  True

def Pre_Adamw8x768RefIdeal (m : (ℓ : Loc Cert.Adamw8x768RefIdeal.nD Cert.Adamw8x768RefIdeal.τ Cert.Adamw8x768RefIdeal.sig) → Buf (Elt Ideal) ℓ) : Prop :=
  True

def Pre_Adamw2x8 (m : (ℓ : Loc Cert.Adamw2x8.nD Cert.Adamw2x8.τ Cert.Adamw2x8.sig) → Buf (Elt Bits) ℓ) : Prop :=
  True

def Pre_Adamw2x8Ideal (m : (ℓ : Loc Cert.Adamw2x8Ideal.nD Cert.Adamw2x8Ideal.τ Cert.Adamw2x8Ideal.sig) → Buf (Elt Ideal) ℓ) : Prop :=
  True

def Pre_Adamw2x8RefIdeal (m : (ℓ : Loc Cert.Adamw2x8RefIdeal.nD Cert.Adamw2x8RefIdeal.τ Cert.Adamw2x8RefIdeal.sig) → Buf (Elt Ideal) ℓ) : Prop :=
  True

def Pre_Adamw2x128 (m : (ℓ : Loc Cert.Adamw2x128.nD Cert.Adamw2x128.τ Cert.Adamw2x128.sig) → Buf (Elt Bits) ℓ) : Prop :=
  True

def Pre_Adamw2x128Ideal (m : (ℓ : Loc Cert.Adamw2x128Ideal.nD Cert.Adamw2x128Ideal.τ Cert.Adamw2x128Ideal.sig) → Buf (Elt Ideal) ℓ) : Prop :=
  True

def Pre_Adamw2x128RefIdeal (m : (ℓ : Loc Cert.Adamw2x128RefIdeal.nD Cert.Adamw2x128RefIdeal.τ Cert.Adamw2x128RefIdeal.sig) → Buf (Elt Ideal) ℓ) : Prop :=
  True

def Pre_Adamw512x1024 (m : (ℓ : Loc Cert.Adamw512x1024.nD Cert.Adamw512x1024.τ Cert.Adamw512x1024.sig) → Buf (Elt Bits) ℓ) : Prop :=
  True

def Pre_Adamw512x1024Ideal (m : (ℓ : Loc Cert.Adamw512x1024Ideal.nD Cert.Adamw512x1024Ideal.τ Cert.Adamw512x1024Ideal.sig) → Buf (Elt Ideal) ℓ) : Prop :=
  True

def Pre_Adamw512x1024RefIdeal (m : (ℓ : Loc Cert.Adamw512x1024RefIdeal.nD Cert.Adamw512x1024RefIdeal.τ Cert.Adamw512x1024RefIdeal.sig) → Buf (Elt Ideal) ℓ) : Prop :=
  True

def Pre_Adamw1024x128 (m : (ℓ : Loc Cert.Adamw1024x128.nD Cert.Adamw1024x128.τ Cert.Adamw1024x128.sig) → Buf (Elt Bits) ℓ) : Prop :=
  True

def Pre_Adamw1024x128Ideal (m : (ℓ : Loc Cert.Adamw1024x128Ideal.nD Cert.Adamw1024x128Ideal.τ Cert.Adamw1024x128Ideal.sig) → Buf (Elt Ideal) ℓ) : Prop :=
  True

def Pre_Adamw1024x128RefIdeal (m : (ℓ : Loc Cert.Adamw1024x128RefIdeal.nD Cert.Adamw1024x128RefIdeal.τ Cert.Adamw1024x128RefIdeal.sig) → Buf (Elt Ideal) ℓ) : Prop :=
  True

def Pre_Adamw8x128 (m : (ℓ : Loc Cert.Adamw8x128.nD Cert.Adamw8x128.τ Cert.Adamw8x128.sig) → Buf (Elt Bits) ℓ) : Prop :=
  True

def Pre_Adamw8x128Ideal (m : (ℓ : Loc Cert.Adamw8x128Ideal.nD Cert.Adamw8x128Ideal.τ Cert.Adamw8x128Ideal.sig) → Buf (Elt Ideal) ℓ) : Prop :=
  True

def Pre_Adamw8x128RefIdeal (m : (ℓ : Loc Cert.Adamw8x128RefIdeal.nD Cert.Adamw8x128RefIdeal.τ Cert.Adamw8x128RefIdeal.sig) → Buf (Elt Ideal) ℓ) : Prop :=
  True

def Pre_Adamw1x1024 (m : (ℓ : Loc Cert.Adamw1x1024.nD Cert.Adamw1x1024.τ Cert.Adamw1x1024.sig) → Buf (Elt Bits) ℓ) : Prop :=
  True

def Pre_Adamw1x1024Ideal (m : (ℓ : Loc Cert.Adamw1x1024Ideal.nD Cert.Adamw1x1024Ideal.τ Cert.Adamw1x1024Ideal.sig) → Buf (Elt Ideal) ℓ) : Prop :=
  True

def Pre_Adamw1x1024RefIdeal (m : (ℓ : Loc Cert.Adamw1x1024RefIdeal.nD Cert.Adamw1x1024RefIdeal.τ Cert.Adamw1x1024RefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Partials [hPartials : Cert.Partials.Facts] : Prop :=
  ∀ (m : (ℓ : Loc Cert.Partials.nD Cert.Partials.τ Cert.Partials.sig) → Buf (Elt Bits) ℓ) (g : Dev Cert.Partials.nD → PrngReg), Pre_Partials m →
    θ_run (Cert.Partials.defs (F := Bits)) (onTc (τ := Cert.Partials.τ) (Cert.Partials.main (F := Bits))) ⟨m, fun _ => 0, g⟩ (fun r => (∀ c : Dev Cert.Partials.nD,
      r.2.mem ((c.tc : Thread Cert.Partials.nD Cert.Partials.τ).loc Cert.Partials.main_arg0) = m ((c.tc : Thread Cert.Partials.nD Cert.Partials.τ).loc Cert.Partials.main_arg0))
      ∧ r.2.sem = fun _ => 0)

def quiescent_PartialsIdeal [hPartialsIdeal : Cert.PartialsIdeal.Facts] : Prop :=
  ∀ (m : (ℓ : Loc Cert.PartialsIdeal.nD Cert.PartialsIdeal.τ Cert.PartialsIdeal.sig) → Buf (Elt Ideal) ℓ) (g : Dev Cert.PartialsIdeal.nD → PrngReg), Pre_PartialsIdeal m →
    θ_run (Cert.PartialsIdeal.defs (F := Ideal)) (onTc (τ := Cert.PartialsIdeal.τ) (Cert.PartialsIdeal.main (F := Ideal))) ⟨m, fun _ => 0, g⟩ (fun r => (∀ c : Dev Cert.PartialsIdeal.nD,
      r.2.mem ((c.tc : Thread Cert.PartialsIdeal.nD Cert.PartialsIdeal.τ).loc Cert.PartialsIdeal.main_arg0) = m ((c.tc : Thread Cert.PartialsIdeal.nD Cert.PartialsIdeal.τ).loc Cert.PartialsIdeal.main_arg0))
      ∧ r.2.sem = fun _ => 0)

def quiescent_PartialsRefIdeal [hPartialsRefIdeal : Cert.PartialsRefIdeal.Facts] : Prop :=
  ∀ (m : (ℓ : Loc Cert.PartialsRefIdeal.nD Cert.PartialsRefIdeal.τ Cert.PartialsRefIdeal.sig) → Buf (Elt Ideal) ℓ) (g : Dev Cert.PartialsRefIdeal.nD → PrngReg), Pre_PartialsRefIdeal m →
    θ_run (Cert.PartialsRefIdeal.defs (F := Ideal)) (onTc (τ := Cert.PartialsRefIdeal.τ) (Cert.PartialsRefIdeal.main (F := Ideal))) ⟨m, fun _ => 0, g⟩ (fun r => (∀ c : Dev Cert.PartialsRefIdeal.nD,
      r.2.mem ((c.tc : Thread Cert.PartialsRefIdeal.nD Cert.PartialsRefIdeal.τ).loc Cert.PartialsRefIdeal.main_arg0) = m ((c.tc : Thread Cert.PartialsRefIdeal.nD Cert.PartialsRefIdeal.τ).loc Cert.PartialsRefIdeal.main_arg0))
      ∧ r.2.sem = fun _ => 0)

def quiescent_PartialsRef [hPartialsRef : Cert.PartialsRef.Facts] : Prop :=
  ∀ (m : (ℓ : Loc Cert.PartialsRef.nD Cert.PartialsRef.τ Cert.PartialsRef.sig) → Buf (Elt Bits) ℓ) (g : Dev Cert.PartialsRef.nD → PrngReg), Pre_PartialsRef m →
    θ_run (Cert.PartialsRef.defs (F := Bits)) (onTc (τ := Cert.PartialsRef.τ) (Cert.PartialsRef.main (F := Bits))) ⟨m, fun _ => 0, g⟩ (fun r => (∀ c : Dev Cert.PartialsRef.nD,
      r.2.mem ((c.tc : Thread Cert.PartialsRef.nD Cert.PartialsRef.τ).loc Cert.PartialsRef.main_arg0) = m ((c.tc : Thread Cert.PartialsRef.nD Cert.PartialsRef.τ).loc Cert.PartialsRef.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0))
      ∧ r.2.sem = fun _ => 0)

def quiescent_Result [hResult : Cert.Result.Facts] : Prop :=
  ∀ (m : (ℓ : Loc Cert.Result.nD Cert.Result.τ Cert.Result.sig) → Buf (Elt Bits) ℓ) (g : Dev Cert.Result.nD → PrngReg), Pre_Result m →
    θ_run (Cert.Result.defs (F := Bits)) (onTc (τ := Cert.Result.τ) (Cert.Result.main (F := Bits))) ⟨m, fun _ => 0, g⟩ (fun r => (∀ c : Dev Cert.Result.nD,
      r.2.mem ((c.tc : Thread Cert.Result.nD Cert.Result.τ).loc Cert.Result.main_arg0) = m ((c.tc : Thread Cert.Result.nD Cert.Result.τ).loc Cert.Result.main_arg0))
      ∧ r.2.sem = fun _ => 0)

def quiescent_ResultIdeal [hResultIdeal : Cert.ResultIdeal.Facts] : Prop :=
  ∀ (m : (ℓ : Loc Cert.ResultIdeal.nD Cert.ResultIdeal.τ Cert.ResultIdeal.sig) → Buf (Elt Ideal) ℓ) (g : Dev Cert.ResultIdeal.nD → PrngReg), Pre_ResultIdeal m →
    θ_run (Cert.ResultIdeal.defs (F := Ideal)) (onTc (τ := Cert.ResultIdeal.τ) (Cert.ResultIdeal.main (F := Ideal))) ⟨m, fun _ => 0, g⟩ (fun r => (∀ c : Dev Cert.ResultIdeal.nD,
      r.2.mem ((c.tc : Thread Cert.ResultIdeal.nD Cert.ResultIdeal.τ).loc Cert.ResultIdeal.main_arg0) = m ((c.tc : Thread Cert.ResultIdeal.nD Cert.ResultIdeal.τ).loc Cert.ResultIdeal.main_arg0))
      ∧ r.2.sem = fun _ => 0)

def quiescent_ResultRefIdeal [hResultRefIdeal : Cert.ResultRefIdeal.Facts] : Prop :=
  ∀ (m : (ℓ : Loc Cert.ResultRefIdeal.nD Cert.ResultRefIdeal.τ Cert.ResultRefIdeal.sig) → Buf (Elt Ideal) ℓ) (g : Dev Cert.ResultRefIdeal.nD → PrngReg), Pre_ResultRefIdeal m →
    θ_run (Cert.ResultRefIdeal.defs (F := Ideal)) (onTc (τ := Cert.ResultRefIdeal.τ) (Cert.ResultRefIdeal.main (F := Ideal))) ⟨m, fun _ => 0, g⟩ (fun r => (∀ c : Dev Cert.ResultRefIdeal.nD,
      r.2.mem ((c.tc : Thread Cert.ResultRefIdeal.nD Cert.ResultRefIdeal.τ).loc Cert.ResultRefIdeal.main_arg0) = m ((c.tc : Thread Cert.ResultRefIdeal.nD Cert.ResultRefIdeal.τ).loc Cert.ResultRefIdeal.main_arg0))
      ∧ r.2.sem = fun _ => 0)

def quiescent_ResultRef [hResultRef : Cert.ResultRef.Facts] : Prop :=
  ∀ (m : (ℓ : Loc Cert.ResultRef.nD Cert.ResultRef.τ Cert.ResultRef.sig) → Buf (Elt Bits) ℓ) (g : Dev Cert.ResultRef.nD → PrngReg), Pre_ResultRef m →
    θ_run (Cert.ResultRef.defs (F := Bits)) (onTc (τ := Cert.ResultRef.τ) (Cert.ResultRef.main (F := Bits))) ⟨m, fun _ => 0, g⟩ (fun r => (∀ c : Dev Cert.ResultRef.nD,
      r.2.mem ((c.tc : Thread Cert.ResultRef.nD Cert.ResultRef.τ).loc Cert.ResultRef.main_arg0) = m ((c.tc : Thread Cert.ResultRef.nD Cert.ResultRef.τ).loc Cert.ResultRef.main_arg0))
      ∧ r.2.sem = fun _ => 0)

def quiescent_Grads [hGrads : Cert.Grads.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0))
      ∧ r.2.sem = fun _ => 0)

def quiescent_GradsIdeal [hGradsIdeal : Cert.GradsIdeal.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ r.2.sem = fun _ => 0)

def quiescent_GradsRefIdeal [hGradsRefIdeal : Cert.GradsRefIdeal.Facts] : Prop :=
  ∀ (m : (ℓ : Loc Cert.GradsRefIdeal.nD Cert.GradsRefIdeal.τ Cert.GradsRefIdeal.sig) → Buf (Elt Ideal) ℓ) (g : Dev Cert.GradsRefIdeal.nD → PrngReg), Pre_GradsRefIdeal m →
    θ_run (Cert.GradsRefIdeal.defs (F := Ideal)) (onTc (τ := Cert.GradsRefIdeal.τ) (Cert.GradsRefIdeal.main (F := Ideal))) ⟨m, fun _ => 0, g⟩ (fun r => (∀ c : Dev Cert.GradsRefIdeal.nD,
      r.2.mem ((c.tc : Thread Cert.GradsRefIdeal.nD Cert.GradsRefIdeal.τ).loc Cert.GradsRefIdeal.main_arg0) = m ((c.tc : Thread Cert.GradsRefIdeal.nD Cert.GradsRefIdeal.τ).loc Cert.GradsRefIdeal.main_arg0))
      ∧ r.2.sem = fun _ => 0)

def quiescent_GradsRef [hGradsRef : Cert.GradsRef.Facts] : Prop :=
  ∀ (m : (ℓ : Loc Cert.GradsRef.nD Cert.GradsRef.τ Cert.GradsRef.sig) → Buf (Elt Bits) ℓ) (g : Dev Cert.GradsRef.nD → PrngReg), Pre_GradsRef m →
    θ_run (Cert.GradsRef.defs (F := Bits)) (onTc (τ := Cert.GradsRef.τ) (Cert.GradsRef.main (F := Bits))) ⟨m, fun _ => 0, g⟩ (fun r => (∀ c : Dev Cert.GradsRef.nD,
      r.2.mem ((c.tc : Thread Cert.GradsRef.nD Cert.GradsRef.τ).loc Cert.GradsRef.main_arg0) = m ((c.tc : Thread Cert.GradsRef.nD Cert.GradsRef.τ).loc Cert.GradsRef.main_arg0))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def quiescent_PairSumRef [hPairSumRef : Cert.PairSumRef.Facts] : Prop :=
  ∀ (m : (ℓ : Loc Cert.PairSumRef.nD Cert.PairSumRef.τ Cert.PairSumRef.sig) → Buf (Elt Bits) ℓ) (g : Dev Cert.PairSumRef.nD → PrngReg), Pre_PairSumRef m →
    θ_run (Cert.PairSumRef.defs (F := Bits)) (onTc (τ := Cert.PairSumRef.τ) (Cert.PairSumRef.main (F := Bits))) ⟨m, fun _ => 0, g⟩ (fun r => (∀ c : Dev Cert.PairSumRef.nD,
      r.2.mem ((c.tc : Thread Cert.PairSumRef.nD Cert.PairSumRef.τ).loc Cert.PairSumRef.main_arg0) = m ((c.tc : Thread Cert.PairSumRef.nD Cert.PairSumRef.τ).loc Cert.PairSumRef.main_arg0)
      ∧ r.2.mem ((c.tc : Thread Cert.PairSumRef.nD Cert.PairSumRef.τ).loc Cert.PairSumRef.main_arg1) = m ((c.tc : Thread Cert.PairSumRef.nD Cert.PairSumRef.τ).loc Cert.PairSumRef.main_arg1))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Adamw2x1024 [hAdamw2x1024 : Cert.Adamw2x1024.Facts] : Prop :=
  ∀ (m : (ℓ : Loc Cert.Adamw2x1024.nD Cert.Adamw2x1024.τ Cert.Adamw2x1024.sig) → Buf (Elt Bits) ℓ) (g : Dev Cert.Adamw2x1024.nD → PrngReg), Pre_Adamw2x1024 m →
    θ_run (Cert.Adamw2x1024.defs (F := Bits)) (onTc (τ := Cert.Adamw2x1024.τ) (Cert.Adamw2x1024.main (F := Bits))) ⟨m, fun _ => 0, g⟩ (fun r => (∀ c : Dev Cert.Adamw2x1024.nD,
      r.2.mem ((c.tc : Thread Cert.Adamw2x1024.nD Cert.Adamw2x1024.τ).loc Cert.Adamw2x1024.main_arg0) = m ((c.tc : Thread Cert.Adamw2x1024.nD Cert.Adamw2x1024.τ).loc Cert.Adamw2x1024.main_arg0)
      ∧ r.2.mem ((c.tc : Thread Cert.Adamw2x1024.nD Cert.Adamw2x1024.τ).loc Cert.Adamw2x1024.main_arg1) = m ((c.tc : Thread Cert.Adamw2x1024.nD Cert.Adamw2x1024.τ).loc Cert.Adamw2x1024.main_arg1)
      ∧ r.2.mem ((c.tc : Thread Cert.Adamw2x1024.nD Cert.Adamw2x1024.τ).loc Cert.Adamw2x1024.main_arg2) = m ((c.tc : Thread Cert.Adamw2x1024.nD Cert.Adamw2x1024.τ).loc Cert.Adamw2x1024.main_arg2)
      ∧ r.2.mem ((c.tc : Thread Cert.Adamw2x1024.nD Cert.Adamw2x1024.τ).loc Cert.Adamw2x1024.main_arg3) = m ((c.tc : Thread Cert.Adamw2x1024.nD Cert.Adamw2x1024.τ).loc Cert.Adamw2x1024.main_arg3))
      ∧ r.2.sem = fun _ => 0)

def quiescent_Adamw2x1024Ideal [hAdamw2x1024Ideal : Cert.Adamw2x1024Ideal.Facts] : Prop :=
  ∀ (m : (ℓ : Loc Cert.Adamw2x1024Ideal.nD Cert.Adamw2x1024Ideal.τ Cert.Adamw2x1024Ideal.sig) → Buf (Elt Ideal) ℓ) (g : Dev Cert.Adamw2x1024Ideal.nD → PrngReg), Pre_Adamw2x1024Ideal m →
    θ_run (Cert.Adamw2x1024Ideal.defs (F := Ideal)) (onTc (τ := Cert.Adamw2x1024Ideal.τ) (Cert.Adamw2x1024Ideal.main (F := Ideal))) ⟨m, fun _ => 0, g⟩ (fun r => (∀ c : Dev Cert.Adamw2x1024Ideal.nD,
      r.2.mem ((c.tc : Thread Cert.Adamw2x1024Ideal.nD Cert.Adamw2x1024Ideal.τ).loc Cert.Adamw2x1024Ideal.main_arg0) = m ((c.tc : Thread Cert.Adamw2x1024Ideal.nD Cert.Adamw2x1024Ideal.τ).loc Cert.Adamw2x1024Ideal.main_arg0)
      ∧ r.2.mem ((c.tc : Thread Cert.Adamw2x1024Ideal.nD Cert.Adamw2x1024Ideal.τ).loc Cert.Adamw2x1024Ideal.main_arg1) = m ((c.tc : Thread Cert.Adamw2x1024Ideal.nD Cert.Adamw2x1024Ideal.τ).loc Cert.Adamw2x1024Ideal.main_arg1)
      ∧ r.2.mem ((c.tc : Thread Cert.Adamw2x1024Ideal.nD Cert.Adamw2x1024Ideal.τ).loc Cert.Adamw2x1024Ideal.main_arg2) = m ((c.tc : Thread Cert.Adamw2x1024Ideal.nD Cert.Adamw2x1024Ideal.τ).loc Cert.Adamw2x1024Ideal.main_arg2)
      ∧ r.2.mem ((c.tc : Thread Cert.Adamw2x1024Ideal.nD Cert.Adamw2x1024Ideal.τ).loc Cert.Adamw2x1024Ideal.main_arg3) = m ((c.tc : Thread Cert.Adamw2x1024Ideal.nD Cert.Adamw2x1024Ideal.τ).loc Cert.Adamw2x1024Ideal.main_arg3))
      ∧ r.2.sem = fun _ => 0)

def quiescent_Adamw2x1024RefIdeal [hAdamw2x1024RefIdeal : Cert.Adamw2x1024RefIdeal.Facts] : Prop :=
  ∀ (m : (ℓ : Loc Cert.Adamw2x1024RefIdeal.nD Cert.Adamw2x1024RefIdeal.τ Cert.Adamw2x1024RefIdeal.sig) → Buf (Elt Ideal) ℓ) (g : Dev Cert.Adamw2x1024RefIdeal.nD → PrngReg), Pre_Adamw2x1024RefIdeal m →
    θ_run (Cert.Adamw2x1024RefIdeal.defs (F := Ideal)) (onTc (τ := Cert.Adamw2x1024RefIdeal.τ) (Cert.Adamw2x1024RefIdeal.main (F := Ideal))) ⟨m, fun _ => 0, g⟩ (fun r => (∀ c : Dev Cert.Adamw2x1024RefIdeal.nD,
      r.2.mem ((c.tc : Thread Cert.Adamw2x1024RefIdeal.nD Cert.Adamw2x1024RefIdeal.τ).loc Cert.Adamw2x1024RefIdeal.main_arg0) = m ((c.tc : Thread Cert.Adamw2x1024RefIdeal.nD Cert.Adamw2x1024RefIdeal.τ).loc Cert.Adamw2x1024RefIdeal.main_arg0)
      ∧ r.2.mem ((c.tc : Thread Cert.Adamw2x1024RefIdeal.nD Cert.Adamw2x1024RefIdeal.τ).loc Cert.Adamw2x1024RefIdeal.main_arg1) = m ((c.tc : Thread Cert.Adamw2x1024RefIdeal.nD Cert.Adamw2x1024RefIdeal.τ).loc Cert.Adamw2x1024RefIdeal.main_arg1)
      ∧ r.2.mem ((c.tc : Thread Cert.Adamw2x1024RefIdeal.nD Cert.Adamw2x1024RefIdeal.τ).loc Cert.Adamw2x1024RefIdeal.main_arg2) = m ((c.tc : Thread Cert.Adamw2x1024RefIdeal.nD Cert.Adamw2x1024RefIdeal.τ).loc Cert.Adamw2x1024RefIdeal.main_arg2)
      ∧ r.2.mem ((c.tc : Thread Cert.Adamw2x1024RefIdeal.nD Cert.Adamw2x1024RefIdeal.τ).loc Cert.Adamw2x1024RefIdeal.main_arg3) = m ((c.tc : Thread Cert.Adamw2x1024RefIdeal.nD Cert.Adamw2x1024RefIdeal.τ).loc Cert.Adamw2x1024RefIdeal.main_arg3))
      ∧ r.2.sem = fun _ => 0)

def quiescent_Adamw2048x2564 [hAdamw2048x2564 : Cert.Adamw2048x2564.Facts] : Prop :=
  ∀ (m : (ℓ : Loc Cert.Adamw2048x2564.nD Cert.Adamw2048x2564.τ Cert.Adamw2048x2564.sig) → Buf (Elt Bits) ℓ) (g : Dev Cert.Adamw2048x2564.nD → PrngReg), Pre_Adamw2048x2564 m →
    θ_run (Cert.Adamw2048x2564.defs (F := Bits)) (onTc (τ := Cert.Adamw2048x2564.τ) (Cert.Adamw2048x2564.main (F := Bits))) ⟨m, fun _ => 0, g⟩ (fun r => (∀ c : Dev Cert.Adamw2048x2564.nD,
      r.2.mem ((c.tc : Thread Cert.Adamw2048x2564.nD Cert.Adamw2048x2564.τ).loc Cert.Adamw2048x2564.main_arg0) = m ((c.tc : Thread Cert.Adamw2048x2564.nD Cert.Adamw2048x2564.τ).loc Cert.Adamw2048x2564.main_arg0)
      ∧ r.2.mem ((c.tc : Thread Cert.Adamw2048x2564.nD Cert.Adamw2048x2564.τ).loc Cert.Adamw2048x2564.main_arg1) = m ((c.tc : Thread Cert.Adamw2048x2564.nD Cert.Adamw2048x2564.τ).loc Cert.Adamw2048x2564.main_arg1)
      ∧ r.2.mem ((c.tc : Thread Cert.Adamw2048x2564.nD Cert.Adamw2048x2564.τ).loc Cert.Adamw2048x2564.main_arg2) = m ((c.tc : Thread Cert.Adamw2048x2564.nD Cert.Adamw2048x2564.τ).loc Cert.Adamw2048x2564.main_arg2)
      ∧ r.2.mem ((c.tc : Thread Cert.Adamw2048x2564.nD Cert.Adamw2048x2564.τ).loc Cert.Adamw2048x2564.main_arg3) = m ((c.tc : Thread Cert.Adamw2048x2564.nD Cert.Adamw2048x2564.τ).loc Cert.Adamw2048x2564.main_arg3))
      ∧ r.2.sem = fun _ => 0)

def quiescent_Adamw2048x2564Ideal [hAdamw2048x2564Ideal : Cert.Adamw2048x2564Ideal.Facts] : Prop :=
  ∀ (m : (ℓ : Loc Cert.Adamw2048x2564Ideal.nD Cert.Adamw2048x2564Ideal.τ Cert.Adamw2048x2564Ideal.sig) → Buf (Elt Ideal) ℓ) (g : Dev Cert.Adamw2048x2564Ideal.nD → PrngReg), Pre_Adamw2048x2564Ideal m →
    θ_run (Cert.Adamw2048x2564Ideal.defs (F := Ideal)) (onTc (τ := Cert.Adamw2048x2564Ideal.τ) (Cert.Adamw2048x2564Ideal.main (F := Ideal))) ⟨m, fun _ => 0, g⟩ (fun r => (∀ c : Dev Cert.Adamw2048x2564Ideal.nD,
      r.2.mem ((c.tc : Thread Cert.Adamw2048x2564Ideal.nD Cert.Adamw2048x2564Ideal.τ).loc Cert.Adamw2048x2564Ideal.main_arg0) = m ((c.tc : Thread Cert.Adamw2048x2564Ideal.nD Cert.Adamw2048x2564Ideal.τ).loc Cert.Adamw2048x2564Ideal.main_arg0)
      ∧ r.2.mem ((c.tc : Thread Cert.Adamw2048x2564Ideal.nD Cert.Adamw2048x2564Ideal.τ).loc Cert.Adamw2048x2564Ideal.main_arg1) = m ((c.tc : Thread Cert.Adamw2048x2564Ideal.nD Cert.Adamw2048x2564Ideal.τ).loc Cert.Adamw2048x2564Ideal.main_arg1)
      ∧ r.2.mem ((c.tc : Thread Cert.Adamw2048x2564Ideal.nD Cert.Adamw2048x2564Ideal.τ).loc Cert.Adamw2048x2564Ideal.main_arg2) = m ((c.tc : Thread Cert.Adamw2048x2564Ideal.nD Cert.Adamw2048x2564Ideal.τ).loc Cert.Adamw2048x2564Ideal.main_arg2)
      ∧ r.2.mem ((c.tc : Thread Cert.Adamw2048x2564Ideal.nD Cert.Adamw2048x2564Ideal.τ).loc Cert.Adamw2048x2564Ideal.main_arg3) = m ((c.tc : Thread Cert.Adamw2048x2564Ideal.nD Cert.Adamw2048x2564Ideal.τ).loc Cert.Adamw2048x2564Ideal.main_arg3))
      ∧ r.2.sem = fun _ => 0)

def quiescent_Adamw2048x2564RefIdeal [hAdamw2048x2564RefIdeal : Cert.Adamw2048x2564RefIdeal.Facts] : Prop :=
  ∀ (m : (ℓ : Loc Cert.Adamw2048x2564RefIdeal.nD Cert.Adamw2048x2564RefIdeal.τ Cert.Adamw2048x2564RefIdeal.sig) → Buf (Elt Ideal) ℓ) (g : Dev Cert.Adamw2048x2564RefIdeal.nD → PrngReg), Pre_Adamw2048x2564RefIdeal m →
    θ_run (Cert.Adamw2048x2564RefIdeal.defs (F := Ideal)) (onTc (τ := Cert.Adamw2048x2564RefIdeal.τ) (Cert.Adamw2048x2564RefIdeal.main (F := Ideal))) ⟨m, fun _ => 0, g⟩ (fun r => (∀ c : Dev Cert.Adamw2048x2564RefIdeal.nD,
      r.2.mem ((c.tc : Thread Cert.Adamw2048x2564RefIdeal.nD Cert.Adamw2048x2564RefIdeal.τ).loc Cert.Adamw2048x2564RefIdeal.main_arg0) = m ((c.tc : Thread Cert.Adamw2048x2564RefIdeal.nD Cert.Adamw2048x2564RefIdeal.τ).loc Cert.Adamw2048x2564RefIdeal.main_arg0)
      ∧ r.2.mem ((c.tc : Thread Cert.Adamw2048x2564RefIdeal.nD Cert.Adamw2048x2564RefIdeal.τ).loc Cert.Adamw2048x2564RefIdeal.main_arg1) = m ((c.tc : Thread Cert.Adamw2048x2564RefIdeal.nD Cert.Adamw2048x2564RefIdeal.τ).loc Cert.Adamw2048x2564RefIdeal.main_arg1)
      ∧ r.2.mem ((c.tc : Thread Cert.Adamw2048x2564RefIdeal.nD Cert.Adamw2048x2564RefIdeal.τ).loc Cert.Adamw2048x2564RefIdeal.main_arg2) = m ((c.tc : Thread Cert.Adamw2048x2564RefIdeal.nD Cert.Adamw2048x2564RefIdeal.τ).loc Cert.Adamw2048x2564RefIdeal.main_arg2)
      ∧ r.2.mem ((c.tc : Thread Cert.Adamw2048x2564RefIdeal.nD Cert.Adamw2048x2564RefIdeal.τ).loc Cert.Adamw2048x2564RefIdeal.main_arg3) = m ((c.tc : Thread Cert.Adamw2048x2564RefIdeal.nD Cert.Adamw2048x2564RefIdeal.τ).loc Cert.Adamw2048x2564RefIdeal.main_arg3))
      ∧ r.2.sem = fun _ => 0)

def quiescent_Adamw62x128 [hAdamw62x128 : Cert.Adamw62x128.Facts] : Prop :=
  ∀ (m : (ℓ : Loc Cert.Adamw62x128.nD Cert.Adamw62x128.τ Cert.Adamw62x128.sig) → Buf (Elt Bits) ℓ) (g : Dev Cert.Adamw62x128.nD → PrngReg), Pre_Adamw62x128 m →
    θ_run (Cert.Adamw62x128.defs (F := Bits)) (onTc (τ := Cert.Adamw62x128.τ) (Cert.Adamw62x128.main (F := Bits))) ⟨m, fun _ => 0, g⟩ (fun r => (∀ c : Dev Cert.Adamw62x128.nD,
      r.2.mem ((c.tc : Thread Cert.Adamw62x128.nD Cert.Adamw62x128.τ).loc Cert.Adamw62x128.main_arg0) = m ((c.tc : Thread Cert.Adamw62x128.nD Cert.Adamw62x128.τ).loc Cert.Adamw62x128.main_arg0)
      ∧ r.2.mem ((c.tc : Thread Cert.Adamw62x128.nD Cert.Adamw62x128.τ).loc Cert.Adamw62x128.main_arg1) = m ((c.tc : Thread Cert.Adamw62x128.nD Cert.Adamw62x128.τ).loc Cert.Adamw62x128.main_arg1)
      ∧ r.2.mem ((c.tc : Thread Cert.Adamw62x128.nD Cert.Adamw62x128.τ).loc Cert.Adamw62x128.main_arg2) = m ((c.tc : Thread Cert.Adamw62x128.nD Cert.Adamw62x128.τ).loc Cert.Adamw62x128.main_arg2)
      ∧ r.2.mem ((c.tc : Thread Cert.Adamw62x128.nD Cert.Adamw62x128.τ).loc Cert.Adamw62x128.main_arg3) = m ((c.tc : Thread Cert.Adamw62x128.nD Cert.Adamw62x128.τ).loc Cert.Adamw62x128.main_arg3))
      ∧ r.2.sem = fun _ => 0)

def quiescent_Adamw62x128Ideal [hAdamw62x128Ideal : Cert.Adamw62x128Ideal.Facts] : Prop :=
  ∀ (m : (ℓ : Loc Cert.Adamw62x128Ideal.nD Cert.Adamw62x128Ideal.τ Cert.Adamw62x128Ideal.sig) → Buf (Elt Ideal) ℓ) (g : Dev Cert.Adamw62x128Ideal.nD → PrngReg), Pre_Adamw62x128Ideal m →
    θ_run (Cert.Adamw62x128Ideal.defs (F := Ideal)) (onTc (τ := Cert.Adamw62x128Ideal.τ) (Cert.Adamw62x128Ideal.main (F := Ideal))) ⟨m, fun _ => 0, g⟩ (fun r => (∀ c : Dev Cert.Adamw62x128Ideal.nD,
      r.2.mem ((c.tc : Thread Cert.Adamw62x128Ideal.nD Cert.Adamw62x128Ideal.τ).loc Cert.Adamw62x128Ideal.main_arg0) = m ((c.tc : Thread Cert.Adamw62x128Ideal.nD Cert.Adamw62x128Ideal.τ).loc Cert.Adamw62x128Ideal.main_arg0)
      ∧ r.2.mem ((c.tc : Thread Cert.Adamw62x128Ideal.nD Cert.Adamw62x128Ideal.τ).loc Cert.Adamw62x128Ideal.main_arg1) = m ((c.tc : Thread Cert.Adamw62x128Ideal.nD Cert.Adamw62x128Ideal.τ).loc Cert.Adamw62x128Ideal.main_arg1)
      ∧ r.2.mem ((c.tc : Thread Cert.Adamw62x128Ideal.nD Cert.Adamw62x128Ideal.τ).loc Cert.Adamw62x128Ideal.main_arg2) = m ((c.tc : Thread Cert.Adamw62x128Ideal.nD Cert.Adamw62x128Ideal.τ).loc Cert.Adamw62x128Ideal.main_arg2)
      ∧ r.2.mem ((c.tc : Thread Cert.Adamw62x128Ideal.nD Cert.Adamw62x128Ideal.τ).loc Cert.Adamw62x128Ideal.main_arg3) = m ((c.tc : Thread Cert.Adamw62x128Ideal.nD Cert.Adamw62x128Ideal.τ).loc Cert.Adamw62x128Ideal.main_arg3))
      ∧ r.2.sem = fun _ => 0)

def quiescent_Adamw62x128RefIdeal [hAdamw62x128RefIdeal : Cert.Adamw62x128RefIdeal.Facts] : Prop :=
  ∀ (m : (ℓ : Loc Cert.Adamw62x128RefIdeal.nD Cert.Adamw62x128RefIdeal.τ Cert.Adamw62x128RefIdeal.sig) → Buf (Elt Ideal) ℓ) (g : Dev Cert.Adamw62x128RefIdeal.nD → PrngReg), Pre_Adamw62x128RefIdeal m →
    θ_run (Cert.Adamw62x128RefIdeal.defs (F := Ideal)) (onTc (τ := Cert.Adamw62x128RefIdeal.τ) (Cert.Adamw62x128RefIdeal.main (F := Ideal))) ⟨m, fun _ => 0, g⟩ (fun r => (∀ c : Dev Cert.Adamw62x128RefIdeal.nD,
      r.2.mem ((c.tc : Thread Cert.Adamw62x128RefIdeal.nD Cert.Adamw62x128RefIdeal.τ).loc Cert.Adamw62x128RefIdeal.main_arg0) = m ((c.tc : Thread Cert.Adamw62x128RefIdeal.nD Cert.Adamw62x128RefIdeal.τ).loc Cert.Adamw62x128RefIdeal.main_arg0)
      ∧ r.2.mem ((c.tc : Thread Cert.Adamw62x128RefIdeal.nD Cert.Adamw62x128RefIdeal.τ).loc Cert.Adamw62x128RefIdeal.main_arg1) = m ((c.tc : Thread Cert.Adamw62x128RefIdeal.nD Cert.Adamw62x128RefIdeal.τ).loc Cert.Adamw62x128RefIdeal.main_arg1)
      ∧ r.2.mem ((c.tc : Thread Cert.Adamw62x128RefIdeal.nD Cert.Adamw62x128RefIdeal.τ).loc Cert.Adamw62x128RefIdeal.main_arg2) = m ((c.tc : Thread Cert.Adamw62x128RefIdeal.nD Cert.Adamw62x128RefIdeal.τ).loc Cert.Adamw62x128RefIdeal.main_arg2)
      ∧ r.2.mem ((c.tc : Thread Cert.Adamw62x128RefIdeal.nD Cert.Adamw62x128RefIdeal.τ).loc Cert.Adamw62x128RefIdeal.main_arg3) = m ((c.tc : Thread Cert.Adamw62x128RefIdeal.nD Cert.Adamw62x128RefIdeal.τ).loc Cert.Adamw62x128RefIdeal.main_arg3))
      ∧ r.2.sem = fun _ => 0)

def quiescent_Adamw2x512 [hAdamw2x512 : Cert.Adamw2x512.Facts] : Prop :=
  ∀ (m : (ℓ : Loc Cert.Adamw2x512.nD Cert.Adamw2x512.τ Cert.Adamw2x512.sig) → Buf (Elt Bits) ℓ) (g : Dev Cert.Adamw2x512.nD → PrngReg), Pre_Adamw2x512 m →
    θ_run (Cert.Adamw2x512.defs (F := Bits)) (onTc (τ := Cert.Adamw2x512.τ) (Cert.Adamw2x512.main (F := Bits))) ⟨m, fun _ => 0, g⟩ (fun r => (∀ c : Dev Cert.Adamw2x512.nD,
      r.2.mem ((c.tc : Thread Cert.Adamw2x512.nD Cert.Adamw2x512.τ).loc Cert.Adamw2x512.main_arg0) = m ((c.tc : Thread Cert.Adamw2x512.nD Cert.Adamw2x512.τ).loc Cert.Adamw2x512.main_arg0)
      ∧ r.2.mem ((c.tc : Thread Cert.Adamw2x512.nD Cert.Adamw2x512.τ).loc Cert.Adamw2x512.main_arg1) = m ((c.tc : Thread Cert.Adamw2x512.nD Cert.Adamw2x512.τ).loc Cert.Adamw2x512.main_arg1)
      ∧ r.2.mem ((c.tc : Thread Cert.Adamw2x512.nD Cert.Adamw2x512.τ).loc Cert.Adamw2x512.main_arg2) = m ((c.tc : Thread Cert.Adamw2x512.nD Cert.Adamw2x512.τ).loc Cert.Adamw2x512.main_arg2)
      ∧ r.2.mem ((c.tc : Thread Cert.Adamw2x512.nD Cert.Adamw2x512.τ).loc Cert.Adamw2x512.main_arg3) = m ((c.tc : Thread Cert.Adamw2x512.nD Cert.Adamw2x512.τ).loc Cert.Adamw2x512.main_arg3))
      ∧ r.2.sem = fun _ => 0)

def quiescent_Adamw2x512Ideal [hAdamw2x512Ideal : Cert.Adamw2x512Ideal.Facts] : Prop :=
  ∀ (m : (ℓ : Loc Cert.Adamw2x512Ideal.nD Cert.Adamw2x512Ideal.τ Cert.Adamw2x512Ideal.sig) → Buf (Elt Ideal) ℓ) (g : Dev Cert.Adamw2x512Ideal.nD → PrngReg), Pre_Adamw2x512Ideal m →
    θ_run (Cert.Adamw2x512Ideal.defs (F := Ideal)) (onTc (τ := Cert.Adamw2x512Ideal.τ) (Cert.Adamw2x512Ideal.main (F := Ideal))) ⟨m, fun _ => 0, g⟩ (fun r => (∀ c : Dev Cert.Adamw2x512Ideal.nD,
      r.2.mem ((c.tc : Thread Cert.Adamw2x512Ideal.nD Cert.Adamw2x512Ideal.τ).loc Cert.Adamw2x512Ideal.main_arg0) = m ((c.tc : Thread Cert.Adamw2x512Ideal.nD Cert.Adamw2x512Ideal.τ).loc Cert.Adamw2x512Ideal.main_arg0)
      ∧ r.2.mem ((c.tc : Thread Cert.Adamw2x512Ideal.nD Cert.Adamw2x512Ideal.τ).loc Cert.Adamw2x512Ideal.main_arg1) = m ((c.tc : Thread Cert.Adamw2x512Ideal.nD Cert.Adamw2x512Ideal.τ).loc Cert.Adamw2x512Ideal.main_arg1)
      ∧ r.2.mem ((c.tc : Thread Cert.Adamw2x512Ideal.nD Cert.Adamw2x512Ideal.τ).loc Cert.Adamw2x512Ideal.main_arg2) = m ((c.tc : Thread Cert.Adamw2x512Ideal.nD Cert.Adamw2x512Ideal.τ).loc Cert.Adamw2x512Ideal.main_arg2)
      ∧ r.2.mem ((c.tc : Thread Cert.Adamw2x512Ideal.nD Cert.Adamw2x512Ideal.τ).loc Cert.Adamw2x512Ideal.main_arg3) = m ((c.tc : Thread Cert.Adamw2x512Ideal.nD Cert.Adamw2x512Ideal.τ).loc Cert.Adamw2x512Ideal.main_arg3))
      ∧ r.2.sem = fun _ => 0)

def quiescent_Adamw2x512RefIdeal [hAdamw2x512RefIdeal : Cert.Adamw2x512RefIdeal.Facts] : Prop :=
  ∀ (m : (ℓ : Loc Cert.Adamw2x512RefIdeal.nD Cert.Adamw2x512RefIdeal.τ Cert.Adamw2x512RefIdeal.sig) → Buf (Elt Ideal) ℓ) (g : Dev Cert.Adamw2x512RefIdeal.nD → PrngReg), Pre_Adamw2x512RefIdeal m →
    θ_run (Cert.Adamw2x512RefIdeal.defs (F := Ideal)) (onTc (τ := Cert.Adamw2x512RefIdeal.τ) (Cert.Adamw2x512RefIdeal.main (F := Ideal))) ⟨m, fun _ => 0, g⟩ (fun r => (∀ c : Dev Cert.Adamw2x512RefIdeal.nD,
      r.2.mem ((c.tc : Thread Cert.Adamw2x512RefIdeal.nD Cert.Adamw2x512RefIdeal.τ).loc Cert.Adamw2x512RefIdeal.main_arg0) = m ((c.tc : Thread Cert.Adamw2x512RefIdeal.nD Cert.Adamw2x512RefIdeal.τ).loc Cert.Adamw2x512RefIdeal.main_arg0)
      ∧ r.2.mem ((c.tc : Thread Cert.Adamw2x512RefIdeal.nD Cert.Adamw2x512RefIdeal.τ).loc Cert.Adamw2x512RefIdeal.main_arg1) = m ((c.tc : Thread Cert.Adamw2x512RefIdeal.nD Cert.Adamw2x512RefIdeal.τ).loc Cert.Adamw2x512RefIdeal.main_arg1)
      ∧ r.2.mem ((c.tc : Thread Cert.Adamw2x512RefIdeal.nD Cert.Adamw2x512RefIdeal.τ).loc Cert.Adamw2x512RefIdeal.main_arg2) = m ((c.tc : Thread Cert.Adamw2x512RefIdeal.nD Cert.Adamw2x512RefIdeal.τ).loc Cert.Adamw2x512RefIdeal.main_arg2)
      ∧ r.2.mem ((c.tc : Thread Cert.Adamw2x512RefIdeal.nD Cert.Adamw2x512RefIdeal.τ).loc Cert.Adamw2x512RefIdeal.main_arg3) = m ((c.tc : Thread Cert.Adamw2x512RefIdeal.nD Cert.Adamw2x512RefIdeal.τ).loc Cert.Adamw2x512RefIdeal.main_arg3))
      ∧ r.2.sem = fun _ => 0)

def quiescent_Adamw1024x256 [hAdamw1024x256 : Cert.Adamw1024x256.Facts] : Prop :=
  ∀ (m : (ℓ : Loc Cert.Adamw1024x256.nD Cert.Adamw1024x256.τ Cert.Adamw1024x256.sig) → Buf (Elt Bits) ℓ) (g : Dev Cert.Adamw1024x256.nD → PrngReg), Pre_Adamw1024x256 m →
    θ_run (Cert.Adamw1024x256.defs (F := Bits)) (onTc (τ := Cert.Adamw1024x256.τ) (Cert.Adamw1024x256.main (F := Bits))) ⟨m, fun _ => 0, g⟩ (fun r => (∀ c : Dev Cert.Adamw1024x256.nD,
      r.2.mem ((c.tc : Thread Cert.Adamw1024x256.nD Cert.Adamw1024x256.τ).loc Cert.Adamw1024x256.main_arg0) = m ((c.tc : Thread Cert.Adamw1024x256.nD Cert.Adamw1024x256.τ).loc Cert.Adamw1024x256.main_arg0)
      ∧ r.2.mem ((c.tc : Thread Cert.Adamw1024x256.nD Cert.Adamw1024x256.τ).loc Cert.Adamw1024x256.main_arg1) = m ((c.tc : Thread Cert.Adamw1024x256.nD Cert.Adamw1024x256.τ).loc Cert.Adamw1024x256.main_arg1)
      ∧ r.2.mem ((c.tc : Thread Cert.Adamw1024x256.nD Cert.Adamw1024x256.τ).loc Cert.Adamw1024x256.main_arg2) = m ((c.tc : Thread Cert.Adamw1024x256.nD Cert.Adamw1024x256.τ).loc Cert.Adamw1024x256.main_arg2)
      ∧ r.2.mem ((c.tc : Thread Cert.Adamw1024x256.nD Cert.Adamw1024x256.τ).loc Cert.Adamw1024x256.main_arg3) = m ((c.tc : Thread Cert.Adamw1024x256.nD Cert.Adamw1024x256.τ).loc Cert.Adamw1024x256.main_arg3))
      ∧ r.2.sem = fun _ => 0)

def quiescent_Adamw1024x256Ideal [hAdamw1024x256Ideal : Cert.Adamw1024x256Ideal.Facts] : Prop :=
  ∀ (m : (ℓ : Loc Cert.Adamw1024x256Ideal.nD Cert.Adamw1024x256Ideal.τ Cert.Adamw1024x256Ideal.sig) → Buf (Elt Ideal) ℓ) (g : Dev Cert.Adamw1024x256Ideal.nD → PrngReg), Pre_Adamw1024x256Ideal m →
    θ_run (Cert.Adamw1024x256Ideal.defs (F := Ideal)) (onTc (τ := Cert.Adamw1024x256Ideal.τ) (Cert.Adamw1024x256Ideal.main (F := Ideal))) ⟨m, fun _ => 0, g⟩ (fun r => (∀ c : Dev Cert.Adamw1024x256Ideal.nD,
      r.2.mem ((c.tc : Thread Cert.Adamw1024x256Ideal.nD Cert.Adamw1024x256Ideal.τ).loc Cert.Adamw1024x256Ideal.main_arg0) = m ((c.tc : Thread Cert.Adamw1024x256Ideal.nD Cert.Adamw1024x256Ideal.τ).loc Cert.Adamw1024x256Ideal.main_arg0)
      ∧ r.2.mem ((c.tc : Thread Cert.Adamw1024x256Ideal.nD Cert.Adamw1024x256Ideal.τ).loc Cert.Adamw1024x256Ideal.main_arg1) = m ((c.tc : Thread Cert.Adamw1024x256Ideal.nD Cert.Adamw1024x256Ideal.τ).loc Cert.Adamw1024x256Ideal.main_arg1)
      ∧ r.2.mem ((c.tc : Thread Cert.Adamw1024x256Ideal.nD Cert.Adamw1024x256Ideal.τ).loc Cert.Adamw1024x256Ideal.main_arg2) = m ((c.tc : Thread Cert.Adamw1024x256Ideal.nD Cert.Adamw1024x256Ideal.τ).loc Cert.Adamw1024x256Ideal.main_arg2)
      ∧ r.2.mem ((c.tc : Thread Cert.Adamw1024x256Ideal.nD Cert.Adamw1024x256Ideal.τ).loc Cert.Adamw1024x256Ideal.main_arg3) = m ((c.tc : Thread Cert.Adamw1024x256Ideal.nD Cert.Adamw1024x256Ideal.τ).loc Cert.Adamw1024x256Ideal.main_arg3))
      ∧ r.2.sem = fun _ => 0)

def quiescent_Adamw1024x256RefIdeal [hAdamw1024x256RefIdeal : Cert.Adamw1024x256RefIdeal.Facts] : Prop :=
  ∀ (m : (ℓ : Loc Cert.Adamw1024x256RefIdeal.nD Cert.Adamw1024x256RefIdeal.τ Cert.Adamw1024x256RefIdeal.sig) → Buf (Elt Ideal) ℓ) (g : Dev Cert.Adamw1024x256RefIdeal.nD → PrngReg), Pre_Adamw1024x256RefIdeal m →
    θ_run (Cert.Adamw1024x256RefIdeal.defs (F := Ideal)) (onTc (τ := Cert.Adamw1024x256RefIdeal.τ) (Cert.Adamw1024x256RefIdeal.main (F := Ideal))) ⟨m, fun _ => 0, g⟩ (fun r => (∀ c : Dev Cert.Adamw1024x256RefIdeal.nD,
      r.2.mem ((c.tc : Thread Cert.Adamw1024x256RefIdeal.nD Cert.Adamw1024x256RefIdeal.τ).loc Cert.Adamw1024x256RefIdeal.main_arg0) = m ((c.tc : Thread Cert.Adamw1024x256RefIdeal.nD Cert.Adamw1024x256RefIdeal.τ).loc Cert.Adamw1024x256RefIdeal.main_arg0)
      ∧ r.2.mem ((c.tc : Thread Cert.Adamw1024x256RefIdeal.nD Cert.Adamw1024x256RefIdeal.τ).loc Cert.Adamw1024x256RefIdeal.main_arg1) = m ((c.tc : Thread Cert.Adamw1024x256RefIdeal.nD Cert.Adamw1024x256RefIdeal.τ).loc Cert.Adamw1024x256RefIdeal.main_arg1)
      ∧ r.2.mem ((c.tc : Thread Cert.Adamw1024x256RefIdeal.nD Cert.Adamw1024x256RefIdeal.τ).loc Cert.Adamw1024x256RefIdeal.main_arg2) = m ((c.tc : Thread Cert.Adamw1024x256RefIdeal.nD Cert.Adamw1024x256RefIdeal.τ).loc Cert.Adamw1024x256RefIdeal.main_arg2)
      ∧ r.2.mem ((c.tc : Thread Cert.Adamw1024x256RefIdeal.nD Cert.Adamw1024x256RefIdeal.τ).loc Cert.Adamw1024x256RefIdeal.main_arg3) = m ((c.tc : Thread Cert.Adamw1024x256RefIdeal.nD Cert.Adamw1024x256RefIdeal.τ).loc Cert.Adamw1024x256RefIdeal.main_arg3))
      ∧ r.2.sem = fun _ => 0)

def quiescent_Adamw8x768 [hAdamw8x768 : Cert.Adamw8x768.Facts] : Prop :=
  ∀ (m : (ℓ : Loc Cert.Adamw8x768.nD Cert.Adamw8x768.τ Cert.Adamw8x768.sig) → Buf (Elt Bits) ℓ) (g : Dev Cert.Adamw8x768.nD → PrngReg), Pre_Adamw8x768 m →
    θ_run (Cert.Adamw8x768.defs (F := Bits)) (onTc (τ := Cert.Adamw8x768.τ) (Cert.Adamw8x768.main (F := Bits))) ⟨m, fun _ => 0, g⟩ (fun r => (∀ c : Dev Cert.Adamw8x768.nD,
      r.2.mem ((c.tc : Thread Cert.Adamw8x768.nD Cert.Adamw8x768.τ).loc Cert.Adamw8x768.main_arg0) = m ((c.tc : Thread Cert.Adamw8x768.nD Cert.Adamw8x768.τ).loc Cert.Adamw8x768.main_arg0)
      ∧ r.2.mem ((c.tc : Thread Cert.Adamw8x768.nD Cert.Adamw8x768.τ).loc Cert.Adamw8x768.main_arg1) = m ((c.tc : Thread Cert.Adamw8x768.nD Cert.Adamw8x768.τ).loc Cert.Adamw8x768.main_arg1)
      ∧ r.2.mem ((c.tc : Thread Cert.Adamw8x768.nD Cert.Adamw8x768.τ).loc Cert.Adamw8x768.main_arg2) = m ((c.tc : Thread Cert.Adamw8x768.nD Cert.Adamw8x768.τ).loc Cert.Adamw8x768.main_arg2)
      ∧ r.2.mem ((c.tc : Thread Cert.Adamw8x768.nD Cert.Adamw8x768.τ).loc Cert.Adamw8x768.main_arg3) = m ((c.tc : Thread Cert.Adamw8x768.nD Cert.Adamw8x768.τ).loc Cert.Adamw8x768.main_arg3))
      ∧ r.2.sem = fun _ => 0)

def quiescent_Adamw8x768Ideal [hAdamw8x768Ideal : Cert.Adamw8x768Ideal.Facts] : Prop :=
  ∀ (m : (ℓ : Loc Cert.Adamw8x768Ideal.nD Cert.Adamw8x768Ideal.τ Cert.Adamw8x768Ideal.sig) → Buf (Elt Ideal) ℓ) (g : Dev Cert.Adamw8x768Ideal.nD → PrngReg), Pre_Adamw8x768Ideal m →
    θ_run (Cert.Adamw8x768Ideal.defs (F := Ideal)) (onTc (τ := Cert.Adamw8x768Ideal.τ) (Cert.Adamw8x768Ideal.main (F := Ideal))) ⟨m, fun _ => 0, g⟩ (fun r => (∀ c : Dev Cert.Adamw8x768Ideal.nD,
      r.2.mem ((c.tc : Thread Cert.Adamw8x768Ideal.nD Cert.Adamw8x768Ideal.τ).loc Cert.Adamw8x768Ideal.main_arg0) = m ((c.tc : Thread Cert.Adamw8x768Ideal.nD Cert.Adamw8x768Ideal.τ).loc Cert.Adamw8x768Ideal.main_arg0)
      ∧ r.2.mem ((c.tc : Thread Cert.Adamw8x768Ideal.nD Cert.Adamw8x768Ideal.τ).loc Cert.Adamw8x768Ideal.main_arg1) = m ((c.tc : Thread Cert.Adamw8x768Ideal.nD Cert.Adamw8x768Ideal.τ).loc Cert.Adamw8x768Ideal.main_arg1)
      ∧ r.2.mem ((c.tc : Thread Cert.Adamw8x768Ideal.nD Cert.Adamw8x768Ideal.τ).loc Cert.Adamw8x768Ideal.main_arg2) = m ((c.tc : Thread Cert.Adamw8x768Ideal.nD Cert.Adamw8x768Ideal.τ).loc Cert.Adamw8x768Ideal.main_arg2)
      ∧ r.2.mem ((c.tc : Thread Cert.Adamw8x768Ideal.nD Cert.Adamw8x768Ideal.τ).loc Cert.Adamw8x768Ideal.main_arg3) = m ((c.tc : Thread Cert.Adamw8x768Ideal.nD Cert.Adamw8x768Ideal.τ).loc Cert.Adamw8x768Ideal.main_arg3))
      ∧ r.2.sem = fun _ => 0)

def quiescent_Adamw8x768RefIdeal [hAdamw8x768RefIdeal : Cert.Adamw8x768RefIdeal.Facts] : Prop :=
  ∀ (m : (ℓ : Loc Cert.Adamw8x768RefIdeal.nD Cert.Adamw8x768RefIdeal.τ Cert.Adamw8x768RefIdeal.sig) → Buf (Elt Ideal) ℓ) (g : Dev Cert.Adamw8x768RefIdeal.nD → PrngReg), Pre_Adamw8x768RefIdeal m →
    θ_run (Cert.Adamw8x768RefIdeal.defs (F := Ideal)) (onTc (τ := Cert.Adamw8x768RefIdeal.τ) (Cert.Adamw8x768RefIdeal.main (F := Ideal))) ⟨m, fun _ => 0, g⟩ (fun r => (∀ c : Dev Cert.Adamw8x768RefIdeal.nD,
      r.2.mem ((c.tc : Thread Cert.Adamw8x768RefIdeal.nD Cert.Adamw8x768RefIdeal.τ).loc Cert.Adamw8x768RefIdeal.main_arg0) = m ((c.tc : Thread Cert.Adamw8x768RefIdeal.nD Cert.Adamw8x768RefIdeal.τ).loc Cert.Adamw8x768RefIdeal.main_arg0)
      ∧ r.2.mem ((c.tc : Thread Cert.Adamw8x768RefIdeal.nD Cert.Adamw8x768RefIdeal.τ).loc Cert.Adamw8x768RefIdeal.main_arg1) = m ((c.tc : Thread Cert.Adamw8x768RefIdeal.nD Cert.Adamw8x768RefIdeal.τ).loc Cert.Adamw8x768RefIdeal.main_arg1)
      ∧ r.2.mem ((c.tc : Thread Cert.Adamw8x768RefIdeal.nD Cert.Adamw8x768RefIdeal.τ).loc Cert.Adamw8x768RefIdeal.main_arg2) = m ((c.tc : Thread Cert.Adamw8x768RefIdeal.nD Cert.Adamw8x768RefIdeal.τ).loc Cert.Adamw8x768RefIdeal.main_arg2)
      ∧ r.2.mem ((c.tc : Thread Cert.Adamw8x768RefIdeal.nD Cert.Adamw8x768RefIdeal.τ).loc Cert.Adamw8x768RefIdeal.main_arg3) = m ((c.tc : Thread Cert.Adamw8x768RefIdeal.nD Cert.Adamw8x768RefIdeal.τ).loc Cert.Adamw8x768RefIdeal.main_arg3))
      ∧ r.2.sem = fun _ => 0)

def quiescent_Adamw2x8 [hAdamw2x8 : Cert.Adamw2x8.Facts] : Prop :=
  ∀ (m : (ℓ : Loc Cert.Adamw2x8.nD Cert.Adamw2x8.τ Cert.Adamw2x8.sig) → Buf (Elt Bits) ℓ) (g : Dev Cert.Adamw2x8.nD → PrngReg), Pre_Adamw2x8 m →
    θ_run (Cert.Adamw2x8.defs (F := Bits)) (onTc (τ := Cert.Adamw2x8.τ) (Cert.Adamw2x8.main (F := Bits))) ⟨m, fun _ => 0, g⟩ (fun r => (∀ c : Dev Cert.Adamw2x8.nD,
      r.2.mem ((c.tc : Thread Cert.Adamw2x8.nD Cert.Adamw2x8.τ).loc Cert.Adamw2x8.main_arg0) = m ((c.tc : Thread Cert.Adamw2x8.nD Cert.Adamw2x8.τ).loc Cert.Adamw2x8.main_arg0)
      ∧ r.2.mem ((c.tc : Thread Cert.Adamw2x8.nD Cert.Adamw2x8.τ).loc Cert.Adamw2x8.main_arg1) = m ((c.tc : Thread Cert.Adamw2x8.nD Cert.Adamw2x8.τ).loc Cert.Adamw2x8.main_arg1)
      ∧ r.2.mem ((c.tc : Thread Cert.Adamw2x8.nD Cert.Adamw2x8.τ).loc Cert.Adamw2x8.main_arg2) = m ((c.tc : Thread Cert.Adamw2x8.nD Cert.Adamw2x8.τ).loc Cert.Adamw2x8.main_arg2)
      ∧ r.2.mem ((c.tc : Thread Cert.Adamw2x8.nD Cert.Adamw2x8.τ).loc Cert.Adamw2x8.main_arg3) = m ((c.tc : Thread Cert.Adamw2x8.nD Cert.Adamw2x8.τ).loc Cert.Adamw2x8.main_arg3))
      ∧ r.2.sem = fun _ => 0)

def quiescent_Adamw2x8Ideal [hAdamw2x8Ideal : Cert.Adamw2x8Ideal.Facts] : Prop :=
  ∀ (m : (ℓ : Loc Cert.Adamw2x8Ideal.nD Cert.Adamw2x8Ideal.τ Cert.Adamw2x8Ideal.sig) → Buf (Elt Ideal) ℓ) (g : Dev Cert.Adamw2x8Ideal.nD → PrngReg), Pre_Adamw2x8Ideal m →
    θ_run (Cert.Adamw2x8Ideal.defs (F := Ideal)) (onTc (τ := Cert.Adamw2x8Ideal.τ) (Cert.Adamw2x8Ideal.main (F := Ideal))) ⟨m, fun _ => 0, g⟩ (fun r => (∀ c : Dev Cert.Adamw2x8Ideal.nD,
      r.2.mem ((c.tc : Thread Cert.Adamw2x8Ideal.nD Cert.Adamw2x8Ideal.τ).loc Cert.Adamw2x8Ideal.main_arg0) = m ((c.tc : Thread Cert.Adamw2x8Ideal.nD Cert.Adamw2x8Ideal.τ).loc Cert.Adamw2x8Ideal.main_arg0)
      ∧ r.2.mem ((c.tc : Thread Cert.Adamw2x8Ideal.nD Cert.Adamw2x8Ideal.τ).loc Cert.Adamw2x8Ideal.main_arg1) = m ((c.tc : Thread Cert.Adamw2x8Ideal.nD Cert.Adamw2x8Ideal.τ).loc Cert.Adamw2x8Ideal.main_arg1)
      ∧ r.2.mem ((c.tc : Thread Cert.Adamw2x8Ideal.nD Cert.Adamw2x8Ideal.τ).loc Cert.Adamw2x8Ideal.main_arg2) = m ((c.tc : Thread Cert.Adamw2x8Ideal.nD Cert.Adamw2x8Ideal.τ).loc Cert.Adamw2x8Ideal.main_arg2)
      ∧ r.2.mem ((c.tc : Thread Cert.Adamw2x8Ideal.nD Cert.Adamw2x8Ideal.τ).loc Cert.Adamw2x8Ideal.main_arg3) = m ((c.tc : Thread Cert.Adamw2x8Ideal.nD Cert.Adamw2x8Ideal.τ).loc Cert.Adamw2x8Ideal.main_arg3))
      ∧ r.2.sem = fun _ => 0)

def quiescent_Adamw2x8RefIdeal [hAdamw2x8RefIdeal : Cert.Adamw2x8RefIdeal.Facts] : Prop :=
  ∀ (m : (ℓ : Loc Cert.Adamw2x8RefIdeal.nD Cert.Adamw2x8RefIdeal.τ Cert.Adamw2x8RefIdeal.sig) → Buf (Elt Ideal) ℓ) (g : Dev Cert.Adamw2x8RefIdeal.nD → PrngReg), Pre_Adamw2x8RefIdeal m →
    θ_run (Cert.Adamw2x8RefIdeal.defs (F := Ideal)) (onTc (τ := Cert.Adamw2x8RefIdeal.τ) (Cert.Adamw2x8RefIdeal.main (F := Ideal))) ⟨m, fun _ => 0, g⟩ (fun r => (∀ c : Dev Cert.Adamw2x8RefIdeal.nD,
      r.2.mem ((c.tc : Thread Cert.Adamw2x8RefIdeal.nD Cert.Adamw2x8RefIdeal.τ).loc Cert.Adamw2x8RefIdeal.main_arg0) = m ((c.tc : Thread Cert.Adamw2x8RefIdeal.nD Cert.Adamw2x8RefIdeal.τ).loc Cert.Adamw2x8RefIdeal.main_arg0)
      ∧ r.2.mem ((c.tc : Thread Cert.Adamw2x8RefIdeal.nD Cert.Adamw2x8RefIdeal.τ).loc Cert.Adamw2x8RefIdeal.main_arg1) = m ((c.tc : Thread Cert.Adamw2x8RefIdeal.nD Cert.Adamw2x8RefIdeal.τ).loc Cert.Adamw2x8RefIdeal.main_arg1)
      ∧ r.2.mem ((c.tc : Thread Cert.Adamw2x8RefIdeal.nD Cert.Adamw2x8RefIdeal.τ).loc Cert.Adamw2x8RefIdeal.main_arg2) = m ((c.tc : Thread Cert.Adamw2x8RefIdeal.nD Cert.Adamw2x8RefIdeal.τ).loc Cert.Adamw2x8RefIdeal.main_arg2)
      ∧ r.2.mem ((c.tc : Thread Cert.Adamw2x8RefIdeal.nD Cert.Adamw2x8RefIdeal.τ).loc Cert.Adamw2x8RefIdeal.main_arg3) = m ((c.tc : Thread Cert.Adamw2x8RefIdeal.nD Cert.Adamw2x8RefIdeal.τ).loc Cert.Adamw2x8RefIdeal.main_arg3))
      ∧ r.2.sem = fun _ => 0)

def quiescent_Adamw2x128 [hAdamw2x128 : Cert.Adamw2x128.Facts] : Prop :=
  ∀ (m : (ℓ : Loc Cert.Adamw2x128.nD Cert.Adamw2x128.τ Cert.Adamw2x128.sig) → Buf (Elt Bits) ℓ) (g : Dev Cert.Adamw2x128.nD → PrngReg), Pre_Adamw2x128 m →
    θ_run (Cert.Adamw2x128.defs (F := Bits)) (onTc (τ := Cert.Adamw2x128.τ) (Cert.Adamw2x128.main (F := Bits))) ⟨m, fun _ => 0, g⟩ (fun r => (∀ c : Dev Cert.Adamw2x128.nD,
      r.2.mem ((c.tc : Thread Cert.Adamw2x128.nD Cert.Adamw2x128.τ).loc Cert.Adamw2x128.main_arg0) = m ((c.tc : Thread Cert.Adamw2x128.nD Cert.Adamw2x128.τ).loc Cert.Adamw2x128.main_arg0)
      ∧ r.2.mem ((c.tc : Thread Cert.Adamw2x128.nD Cert.Adamw2x128.τ).loc Cert.Adamw2x128.main_arg1) = m ((c.tc : Thread Cert.Adamw2x128.nD Cert.Adamw2x128.τ).loc Cert.Adamw2x128.main_arg1)
      ∧ r.2.mem ((c.tc : Thread Cert.Adamw2x128.nD Cert.Adamw2x128.τ).loc Cert.Adamw2x128.main_arg2) = m ((c.tc : Thread Cert.Adamw2x128.nD Cert.Adamw2x128.τ).loc Cert.Adamw2x128.main_arg2)
      ∧ r.2.mem ((c.tc : Thread Cert.Adamw2x128.nD Cert.Adamw2x128.τ).loc Cert.Adamw2x128.main_arg3) = m ((c.tc : Thread Cert.Adamw2x128.nD Cert.Adamw2x128.τ).loc Cert.Adamw2x128.main_arg3))
      ∧ r.2.sem = fun _ => 0)

def quiescent_Adamw2x128Ideal [hAdamw2x128Ideal : Cert.Adamw2x128Ideal.Facts] : Prop :=
  ∀ (m : (ℓ : Loc Cert.Adamw2x128Ideal.nD Cert.Adamw2x128Ideal.τ Cert.Adamw2x128Ideal.sig) → Buf (Elt Ideal) ℓ) (g : Dev Cert.Adamw2x128Ideal.nD → PrngReg), Pre_Adamw2x128Ideal m →
    θ_run (Cert.Adamw2x128Ideal.defs (F := Ideal)) (onTc (τ := Cert.Adamw2x128Ideal.τ) (Cert.Adamw2x128Ideal.main (F := Ideal))) ⟨m, fun _ => 0, g⟩ (fun r => (∀ c : Dev Cert.Adamw2x128Ideal.nD,
      r.2.mem ((c.tc : Thread Cert.Adamw2x128Ideal.nD Cert.Adamw2x128Ideal.τ).loc Cert.Adamw2x128Ideal.main_arg0) = m ((c.tc : Thread Cert.Adamw2x128Ideal.nD Cert.Adamw2x128Ideal.τ).loc Cert.Adamw2x128Ideal.main_arg0)
      ∧ r.2.mem ((c.tc : Thread Cert.Adamw2x128Ideal.nD Cert.Adamw2x128Ideal.τ).loc Cert.Adamw2x128Ideal.main_arg1) = m ((c.tc : Thread Cert.Adamw2x128Ideal.nD Cert.Adamw2x128Ideal.τ).loc Cert.Adamw2x128Ideal.main_arg1)
      ∧ r.2.mem ((c.tc : Thread Cert.Adamw2x128Ideal.nD Cert.Adamw2x128Ideal.τ).loc Cert.Adamw2x128Ideal.main_arg2) = m ((c.tc : Thread Cert.Adamw2x128Ideal.nD Cert.Adamw2x128Ideal.τ).loc Cert.Adamw2x128Ideal.main_arg2)
      ∧ r.2.mem ((c.tc : Thread Cert.Adamw2x128Ideal.nD Cert.Adamw2x128Ideal.τ).loc Cert.Adamw2x128Ideal.main_arg3) = m ((c.tc : Thread Cert.Adamw2x128Ideal.nD Cert.Adamw2x128Ideal.τ).loc Cert.Adamw2x128Ideal.main_arg3))
      ∧ r.2.sem = fun _ => 0)

def quiescent_Adamw2x128RefIdeal [hAdamw2x128RefIdeal : Cert.Adamw2x128RefIdeal.Facts] : Prop :=
  ∀ (m : (ℓ : Loc Cert.Adamw2x128RefIdeal.nD Cert.Adamw2x128RefIdeal.τ Cert.Adamw2x128RefIdeal.sig) → Buf (Elt Ideal) ℓ) (g : Dev Cert.Adamw2x128RefIdeal.nD → PrngReg), Pre_Adamw2x128RefIdeal m →
    θ_run (Cert.Adamw2x128RefIdeal.defs (F := Ideal)) (onTc (τ := Cert.Adamw2x128RefIdeal.τ) (Cert.Adamw2x128RefIdeal.main (F := Ideal))) ⟨m, fun _ => 0, g⟩ (fun r => (∀ c : Dev Cert.Adamw2x128RefIdeal.nD,
      r.2.mem ((c.tc : Thread Cert.Adamw2x128RefIdeal.nD Cert.Adamw2x128RefIdeal.τ).loc Cert.Adamw2x128RefIdeal.main_arg0) = m ((c.tc : Thread Cert.Adamw2x128RefIdeal.nD Cert.Adamw2x128RefIdeal.τ).loc Cert.Adamw2x128RefIdeal.main_arg0)
      ∧ r.2.mem ((c.tc : Thread Cert.Adamw2x128RefIdeal.nD Cert.Adamw2x128RefIdeal.τ).loc Cert.Adamw2x128RefIdeal.main_arg1) = m ((c.tc : Thread Cert.Adamw2x128RefIdeal.nD Cert.Adamw2x128RefIdeal.τ).loc Cert.Adamw2x128RefIdeal.main_arg1)
      ∧ r.2.mem ((c.tc : Thread Cert.Adamw2x128RefIdeal.nD Cert.Adamw2x128RefIdeal.τ).loc Cert.Adamw2x128RefIdeal.main_arg2) = m ((c.tc : Thread Cert.Adamw2x128RefIdeal.nD Cert.Adamw2x128RefIdeal.τ).loc Cert.Adamw2x128RefIdeal.main_arg2)
      ∧ r.2.mem ((c.tc : Thread Cert.Adamw2x128RefIdeal.nD Cert.Adamw2x128RefIdeal.τ).loc Cert.Adamw2x128RefIdeal.main_arg3) = m ((c.tc : Thread Cert.Adamw2x128RefIdeal.nD Cert.Adamw2x128RefIdeal.τ).loc Cert.Adamw2x128RefIdeal.main_arg3))
      ∧ r.2.sem = fun _ => 0)

def quiescent_Adamw512x1024 [hAdamw512x1024 : Cert.Adamw512x1024.Facts] : Prop :=
  ∀ (m : (ℓ : Loc Cert.Adamw512x1024.nD Cert.Adamw512x1024.τ Cert.Adamw512x1024.sig) → Buf (Elt Bits) ℓ) (g : Dev Cert.Adamw512x1024.nD → PrngReg), Pre_Adamw512x1024 m →
    θ_run (Cert.Adamw512x1024.defs (F := Bits)) (onTc (τ := Cert.Adamw512x1024.τ) (Cert.Adamw512x1024.main (F := Bits))) ⟨m, fun _ => 0, g⟩ (fun r => (∀ c : Dev Cert.Adamw512x1024.nD,
      r.2.mem ((c.tc : Thread Cert.Adamw512x1024.nD Cert.Adamw512x1024.τ).loc Cert.Adamw512x1024.main_arg0) = m ((c.tc : Thread Cert.Adamw512x1024.nD Cert.Adamw512x1024.τ).loc Cert.Adamw512x1024.main_arg0)
      ∧ r.2.mem ((c.tc : Thread Cert.Adamw512x1024.nD Cert.Adamw512x1024.τ).loc Cert.Adamw512x1024.main_arg1) = m ((c.tc : Thread Cert.Adamw512x1024.nD Cert.Adamw512x1024.τ).loc Cert.Adamw512x1024.main_arg1)
      ∧ r.2.mem ((c.tc : Thread Cert.Adamw512x1024.nD Cert.Adamw512x1024.τ).loc Cert.Adamw512x1024.main_arg2) = m ((c.tc : Thread Cert.Adamw512x1024.nD Cert.Adamw512x1024.τ).loc Cert.Adamw512x1024.main_arg2)
      ∧ r.2.mem ((c.tc : Thread Cert.Adamw512x1024.nD Cert.Adamw512x1024.τ).loc Cert.Adamw512x1024.main_arg3) = m ((c.tc : Thread Cert.Adamw512x1024.nD Cert.Adamw512x1024.τ).loc Cert.Adamw512x1024.main_arg3))
      ∧ r.2.sem = fun _ => 0)

def quiescent_Adamw512x1024Ideal [hAdamw512x1024Ideal : Cert.Adamw512x1024Ideal.Facts] : Prop :=
  ∀ (m : (ℓ : Loc Cert.Adamw512x1024Ideal.nD Cert.Adamw512x1024Ideal.τ Cert.Adamw512x1024Ideal.sig) → Buf (Elt Ideal) ℓ) (g : Dev Cert.Adamw512x1024Ideal.nD → PrngReg), Pre_Adamw512x1024Ideal m →
    θ_run (Cert.Adamw512x1024Ideal.defs (F := Ideal)) (onTc (τ := Cert.Adamw512x1024Ideal.τ) (Cert.Adamw512x1024Ideal.main (F := Ideal))) ⟨m, fun _ => 0, g⟩ (fun r => (∀ c : Dev Cert.Adamw512x1024Ideal.nD,
      r.2.mem ((c.tc : Thread Cert.Adamw512x1024Ideal.nD Cert.Adamw512x1024Ideal.τ).loc Cert.Adamw512x1024Ideal.main_arg0) = m ((c.tc : Thread Cert.Adamw512x1024Ideal.nD Cert.Adamw512x1024Ideal.τ).loc Cert.Adamw512x1024Ideal.main_arg0)
      ∧ r.2.mem ((c.tc : Thread Cert.Adamw512x1024Ideal.nD Cert.Adamw512x1024Ideal.τ).loc Cert.Adamw512x1024Ideal.main_arg1) = m ((c.tc : Thread Cert.Adamw512x1024Ideal.nD Cert.Adamw512x1024Ideal.τ).loc Cert.Adamw512x1024Ideal.main_arg1)
      ∧ r.2.mem ((c.tc : Thread Cert.Adamw512x1024Ideal.nD Cert.Adamw512x1024Ideal.τ).loc Cert.Adamw512x1024Ideal.main_arg2) = m ((c.tc : Thread Cert.Adamw512x1024Ideal.nD Cert.Adamw512x1024Ideal.τ).loc Cert.Adamw512x1024Ideal.main_arg2)
      ∧ r.2.mem ((c.tc : Thread Cert.Adamw512x1024Ideal.nD Cert.Adamw512x1024Ideal.τ).loc Cert.Adamw512x1024Ideal.main_arg3) = m ((c.tc : Thread Cert.Adamw512x1024Ideal.nD Cert.Adamw512x1024Ideal.τ).loc Cert.Adamw512x1024Ideal.main_arg3))
      ∧ r.2.sem = fun _ => 0)

def quiescent_Adamw512x1024RefIdeal [hAdamw512x1024RefIdeal : Cert.Adamw512x1024RefIdeal.Facts] : Prop :=
  ∀ (m : (ℓ : Loc Cert.Adamw512x1024RefIdeal.nD Cert.Adamw512x1024RefIdeal.τ Cert.Adamw512x1024RefIdeal.sig) → Buf (Elt Ideal) ℓ) (g : Dev Cert.Adamw512x1024RefIdeal.nD → PrngReg), Pre_Adamw512x1024RefIdeal m →
    θ_run (Cert.Adamw512x1024RefIdeal.defs (F := Ideal)) (onTc (τ := Cert.Adamw512x1024RefIdeal.τ) (Cert.Adamw512x1024RefIdeal.main (F := Ideal))) ⟨m, fun _ => 0, g⟩ (fun r => (∀ c : Dev Cert.Adamw512x1024RefIdeal.nD,
      r.2.mem ((c.tc : Thread Cert.Adamw512x1024RefIdeal.nD Cert.Adamw512x1024RefIdeal.τ).loc Cert.Adamw512x1024RefIdeal.main_arg0) = m ((c.tc : Thread Cert.Adamw512x1024RefIdeal.nD Cert.Adamw512x1024RefIdeal.τ).loc Cert.Adamw512x1024RefIdeal.main_arg0)
      ∧ r.2.mem ((c.tc : Thread Cert.Adamw512x1024RefIdeal.nD Cert.Adamw512x1024RefIdeal.τ).loc Cert.Adamw512x1024RefIdeal.main_arg1) = m ((c.tc : Thread Cert.Adamw512x1024RefIdeal.nD Cert.Adamw512x1024RefIdeal.τ).loc Cert.Adamw512x1024RefIdeal.main_arg1)
      ∧ r.2.mem ((c.tc : Thread Cert.Adamw512x1024RefIdeal.nD Cert.Adamw512x1024RefIdeal.τ).loc Cert.Adamw512x1024RefIdeal.main_arg2) = m ((c.tc : Thread Cert.Adamw512x1024RefIdeal.nD Cert.Adamw512x1024RefIdeal.τ).loc Cert.Adamw512x1024RefIdeal.main_arg2)
      ∧ r.2.mem ((c.tc : Thread Cert.Adamw512x1024RefIdeal.nD Cert.Adamw512x1024RefIdeal.τ).loc Cert.Adamw512x1024RefIdeal.main_arg3) = m ((c.tc : Thread Cert.Adamw512x1024RefIdeal.nD Cert.Adamw512x1024RefIdeal.τ).loc Cert.Adamw512x1024RefIdeal.main_arg3))
      ∧ r.2.sem = fun _ => 0)

def quiescent_Adamw1024x128 [hAdamw1024x128 : Cert.Adamw1024x128.Facts] : Prop :=
  ∀ (m : (ℓ : Loc Cert.Adamw1024x128.nD Cert.Adamw1024x128.τ Cert.Adamw1024x128.sig) → Buf (Elt Bits) ℓ) (g : Dev Cert.Adamw1024x128.nD → PrngReg), Pre_Adamw1024x128 m →
    θ_run (Cert.Adamw1024x128.defs (F := Bits)) (onTc (τ := Cert.Adamw1024x128.τ) (Cert.Adamw1024x128.main (F := Bits))) ⟨m, fun _ => 0, g⟩ (fun r => (∀ c : Dev Cert.Adamw1024x128.nD,
      r.2.mem ((c.tc : Thread Cert.Adamw1024x128.nD Cert.Adamw1024x128.τ).loc Cert.Adamw1024x128.main_arg0) = m ((c.tc : Thread Cert.Adamw1024x128.nD Cert.Adamw1024x128.τ).loc Cert.Adamw1024x128.main_arg0)
      ∧ r.2.mem ((c.tc : Thread Cert.Adamw1024x128.nD Cert.Adamw1024x128.τ).loc Cert.Adamw1024x128.main_arg1) = m ((c.tc : Thread Cert.Adamw1024x128.nD Cert.Adamw1024x128.τ).loc Cert.Adamw1024x128.main_arg1)
      ∧ r.2.mem ((c.tc : Thread Cert.Adamw1024x128.nD Cert.Adamw1024x128.τ).loc Cert.Adamw1024x128.main_arg2) = m ((c.tc : Thread Cert.Adamw1024x128.nD Cert.Adamw1024x128.τ).loc Cert.Adamw1024x128.main_arg2)
      ∧ r.2.mem ((c.tc : Thread Cert.Adamw1024x128.nD Cert.Adamw1024x128.τ).loc Cert.Adamw1024x128.main_arg3) = m ((c.tc : Thread Cert.Adamw1024x128.nD Cert.Adamw1024x128.τ).loc Cert.Adamw1024x128.main_arg3))
      ∧ r.2.sem = fun _ => 0)

def quiescent_Adamw1024x128Ideal [hAdamw1024x128Ideal : Cert.Adamw1024x128Ideal.Facts] : Prop :=
  ∀ (m : (ℓ : Loc Cert.Adamw1024x128Ideal.nD Cert.Adamw1024x128Ideal.τ Cert.Adamw1024x128Ideal.sig) → Buf (Elt Ideal) ℓ) (g : Dev Cert.Adamw1024x128Ideal.nD → PrngReg), Pre_Adamw1024x128Ideal m →
    θ_run (Cert.Adamw1024x128Ideal.defs (F := Ideal)) (onTc (τ := Cert.Adamw1024x128Ideal.τ) (Cert.Adamw1024x128Ideal.main (F := Ideal))) ⟨m, fun _ => 0, g⟩ (fun r => (∀ c : Dev Cert.Adamw1024x128Ideal.nD,
      r.2.mem ((c.tc : Thread Cert.Adamw1024x128Ideal.nD Cert.Adamw1024x128Ideal.τ).loc Cert.Adamw1024x128Ideal.main_arg0) = m ((c.tc : Thread Cert.Adamw1024x128Ideal.nD Cert.Adamw1024x128Ideal.τ).loc Cert.Adamw1024x128Ideal.main_arg0)
      ∧ r.2.mem ((c.tc : Thread Cert.Adamw1024x128Ideal.nD Cert.Adamw1024x128Ideal.τ).loc Cert.Adamw1024x128Ideal.main_arg1) = m ((c.tc : Thread Cert.Adamw1024x128Ideal.nD Cert.Adamw1024x128Ideal.τ).loc Cert.Adamw1024x128Ideal.main_arg1)
      ∧ r.2.mem ((c.tc : Thread Cert.Adamw1024x128Ideal.nD Cert.Adamw1024x128Ideal.τ).loc Cert.Adamw1024x128Ideal.main_arg2) = m ((c.tc : Thread Cert.Adamw1024x128Ideal.nD Cert.Adamw1024x128Ideal.τ).loc Cert.Adamw1024x128Ideal.main_arg2)
      ∧ r.2.mem ((c.tc : Thread Cert.Adamw1024x128Ideal.nD Cert.Adamw1024x128Ideal.τ).loc Cert.Adamw1024x128Ideal.main_arg3) = m ((c.tc : Thread Cert.Adamw1024x128Ideal.nD Cert.Adamw1024x128Ideal.τ).loc Cert.Adamw1024x128Ideal.main_arg3))
      ∧ r.2.sem = fun _ => 0)

def quiescent_Adamw1024x128RefIdeal [hAdamw1024x128RefIdeal : Cert.Adamw1024x128RefIdeal.Facts] : Prop :=
  ∀ (m : (ℓ : Loc Cert.Adamw1024x128RefIdeal.nD Cert.Adamw1024x128RefIdeal.τ Cert.Adamw1024x128RefIdeal.sig) → Buf (Elt Ideal) ℓ) (g : Dev Cert.Adamw1024x128RefIdeal.nD → PrngReg), Pre_Adamw1024x128RefIdeal m →
    θ_run (Cert.Adamw1024x128RefIdeal.defs (F := Ideal)) (onTc (τ := Cert.Adamw1024x128RefIdeal.τ) (Cert.Adamw1024x128RefIdeal.main (F := Ideal))) ⟨m, fun _ => 0, g⟩ (fun r => (∀ c : Dev Cert.Adamw1024x128RefIdeal.nD,
      r.2.mem ((c.tc : Thread Cert.Adamw1024x128RefIdeal.nD Cert.Adamw1024x128RefIdeal.τ).loc Cert.Adamw1024x128RefIdeal.main_arg0) = m ((c.tc : Thread Cert.Adamw1024x128RefIdeal.nD Cert.Adamw1024x128RefIdeal.τ).loc Cert.Adamw1024x128RefIdeal.main_arg0)
      ∧ r.2.mem ((c.tc : Thread Cert.Adamw1024x128RefIdeal.nD Cert.Adamw1024x128RefIdeal.τ).loc Cert.Adamw1024x128RefIdeal.main_arg1) = m ((c.tc : Thread Cert.Adamw1024x128RefIdeal.nD Cert.Adamw1024x128RefIdeal.τ).loc Cert.Adamw1024x128RefIdeal.main_arg1)
      ∧ r.2.mem ((c.tc : Thread Cert.Adamw1024x128RefIdeal.nD Cert.Adamw1024x128RefIdeal.τ).loc Cert.Adamw1024x128RefIdeal.main_arg2) = m ((c.tc : Thread Cert.Adamw1024x128RefIdeal.nD Cert.Adamw1024x128RefIdeal.τ).loc Cert.Adamw1024x128RefIdeal.main_arg2)
      ∧ r.2.mem ((c.tc : Thread Cert.Adamw1024x128RefIdeal.nD Cert.Adamw1024x128RefIdeal.τ).loc Cert.Adamw1024x128RefIdeal.main_arg3) = m ((c.tc : Thread Cert.Adamw1024x128RefIdeal.nD Cert.Adamw1024x128RefIdeal.τ).loc Cert.Adamw1024x128RefIdeal.main_arg3))
      ∧ r.2.sem = fun _ => 0)

def quiescent_Adamw8x128 [hAdamw8x128 : Cert.Adamw8x128.Facts] : Prop :=
  ∀ (m : (ℓ : Loc Cert.Adamw8x128.nD Cert.Adamw8x128.τ Cert.Adamw8x128.sig) → Buf (Elt Bits) ℓ) (g : Dev Cert.Adamw8x128.nD → PrngReg), Pre_Adamw8x128 m →
    θ_run (Cert.Adamw8x128.defs (F := Bits)) (onTc (τ := Cert.Adamw8x128.τ) (Cert.Adamw8x128.main (F := Bits))) ⟨m, fun _ => 0, g⟩ (fun r => (∀ c : Dev Cert.Adamw8x128.nD,
      r.2.mem ((c.tc : Thread Cert.Adamw8x128.nD Cert.Adamw8x128.τ).loc Cert.Adamw8x128.main_arg0) = m ((c.tc : Thread Cert.Adamw8x128.nD Cert.Adamw8x128.τ).loc Cert.Adamw8x128.main_arg0)
      ∧ r.2.mem ((c.tc : Thread Cert.Adamw8x128.nD Cert.Adamw8x128.τ).loc Cert.Adamw8x128.main_arg1) = m ((c.tc : Thread Cert.Adamw8x128.nD Cert.Adamw8x128.τ).loc Cert.Adamw8x128.main_arg1)
      ∧ r.2.mem ((c.tc : Thread Cert.Adamw8x128.nD Cert.Adamw8x128.τ).loc Cert.Adamw8x128.main_arg2) = m ((c.tc : Thread Cert.Adamw8x128.nD Cert.Adamw8x128.τ).loc Cert.Adamw8x128.main_arg2)
      ∧ r.2.mem ((c.tc : Thread Cert.Adamw8x128.nD Cert.Adamw8x128.τ).loc Cert.Adamw8x128.main_arg3) = m ((c.tc : Thread Cert.Adamw8x128.nD Cert.Adamw8x128.τ).loc Cert.Adamw8x128.main_arg3))
      ∧ r.2.sem = fun _ => 0)

def quiescent_Adamw8x128Ideal [hAdamw8x128Ideal : Cert.Adamw8x128Ideal.Facts] : Prop :=
  ∀ (m : (ℓ : Loc Cert.Adamw8x128Ideal.nD Cert.Adamw8x128Ideal.τ Cert.Adamw8x128Ideal.sig) → Buf (Elt Ideal) ℓ) (g : Dev Cert.Adamw8x128Ideal.nD → PrngReg), Pre_Adamw8x128Ideal m →
    θ_run (Cert.Adamw8x128Ideal.defs (F := Ideal)) (onTc (τ := Cert.Adamw8x128Ideal.τ) (Cert.Adamw8x128Ideal.main (F := Ideal))) ⟨m, fun _ => 0, g⟩ (fun r => (∀ c : Dev Cert.Adamw8x128Ideal.nD,
      r.2.mem ((c.tc : Thread Cert.Adamw8x128Ideal.nD Cert.Adamw8x128Ideal.τ).loc Cert.Adamw8x128Ideal.main_arg0) = m ((c.tc : Thread Cert.Adamw8x128Ideal.nD Cert.Adamw8x128Ideal.τ).loc Cert.Adamw8x128Ideal.main_arg0)
      ∧ r.2.mem ((c.tc : Thread Cert.Adamw8x128Ideal.nD Cert.Adamw8x128Ideal.τ).loc Cert.Adamw8x128Ideal.main_arg1) = m ((c.tc : Thread Cert.Adamw8x128Ideal.nD Cert.Adamw8x128Ideal.τ).loc Cert.Adamw8x128Ideal.main_arg1)
      ∧ r.2.mem ((c.tc : Thread Cert.Adamw8x128Ideal.nD Cert.Adamw8x128Ideal.τ).loc Cert.Adamw8x128Ideal.main_arg2) = m ((c.tc : Thread Cert.Adamw8x128Ideal.nD Cert.Adamw8x128Ideal.τ).loc Cert.Adamw8x128Ideal.main_arg2)
      ∧ r.2.mem ((c.tc : Thread Cert.Adamw8x128Ideal.nD Cert.Adamw8x128Ideal.τ).loc Cert.Adamw8x128Ideal.main_arg3) = m ((c.tc : Thread Cert.Adamw8x128Ideal.nD Cert.Adamw8x128Ideal.τ).loc Cert.Adamw8x128Ideal.main_arg3))
      ∧ r.2.sem = fun _ => 0)

def quiescent_Adamw8x128RefIdeal [hAdamw8x128RefIdeal : Cert.Adamw8x128RefIdeal.Facts] : Prop :=
  ∀ (m : (ℓ : Loc Cert.Adamw8x128RefIdeal.nD Cert.Adamw8x128RefIdeal.τ Cert.Adamw8x128RefIdeal.sig) → Buf (Elt Ideal) ℓ) (g : Dev Cert.Adamw8x128RefIdeal.nD → PrngReg), Pre_Adamw8x128RefIdeal m →
    θ_run (Cert.Adamw8x128RefIdeal.defs (F := Ideal)) (onTc (τ := Cert.Adamw8x128RefIdeal.τ) (Cert.Adamw8x128RefIdeal.main (F := Ideal))) ⟨m, fun _ => 0, g⟩ (fun r => (∀ c : Dev Cert.Adamw8x128RefIdeal.nD,
      r.2.mem ((c.tc : Thread Cert.Adamw8x128RefIdeal.nD Cert.Adamw8x128RefIdeal.τ).loc Cert.Adamw8x128RefIdeal.main_arg0) = m ((c.tc : Thread Cert.Adamw8x128RefIdeal.nD Cert.Adamw8x128RefIdeal.τ).loc Cert.Adamw8x128RefIdeal.main_arg0)
      ∧ r.2.mem ((c.tc : Thread Cert.Adamw8x128RefIdeal.nD Cert.Adamw8x128RefIdeal.τ).loc Cert.Adamw8x128RefIdeal.main_arg1) = m ((c.tc : Thread Cert.Adamw8x128RefIdeal.nD Cert.Adamw8x128RefIdeal.τ).loc Cert.Adamw8x128RefIdeal.main_arg1)
      ∧ r.2.mem ((c.tc : Thread Cert.Adamw8x128RefIdeal.nD Cert.Adamw8x128RefIdeal.τ).loc Cert.Adamw8x128RefIdeal.main_arg2) = m ((c.tc : Thread Cert.Adamw8x128RefIdeal.nD Cert.Adamw8x128RefIdeal.τ).loc Cert.Adamw8x128RefIdeal.main_arg2)
      ∧ r.2.mem ((c.tc : Thread Cert.Adamw8x128RefIdeal.nD Cert.Adamw8x128RefIdeal.τ).loc Cert.Adamw8x128RefIdeal.main_arg3) = m ((c.tc : Thread Cert.Adamw8x128RefIdeal.nD Cert.Adamw8x128RefIdeal.τ).loc Cert.Adamw8x128RefIdeal.main_arg3))
      ∧ r.2.sem = fun _ => 0)

def quiescent_Adamw1x1024 [hAdamw1x1024 : Cert.Adamw1x1024.Facts] : Prop :=
  ∀ (m : (ℓ : Loc Cert.Adamw1x1024.nD Cert.Adamw1x1024.τ Cert.Adamw1x1024.sig) → Buf (Elt Bits) ℓ) (g : Dev Cert.Adamw1x1024.nD → PrngReg), Pre_Adamw1x1024 m →
    θ_run (Cert.Adamw1x1024.defs (F := Bits)) (onTc (τ := Cert.Adamw1x1024.τ) (Cert.Adamw1x1024.main (F := Bits))) ⟨m, fun _ => 0, g⟩ (fun r => (∀ c : Dev Cert.Adamw1x1024.nD,
      r.2.mem ((c.tc : Thread Cert.Adamw1x1024.nD Cert.Adamw1x1024.τ).loc Cert.Adamw1x1024.main_arg0) = m ((c.tc : Thread Cert.Adamw1x1024.nD Cert.Adamw1x1024.τ).loc Cert.Adamw1x1024.main_arg0)
      ∧ r.2.mem ((c.tc : Thread Cert.Adamw1x1024.nD Cert.Adamw1x1024.τ).loc Cert.Adamw1x1024.main_arg1) = m ((c.tc : Thread Cert.Adamw1x1024.nD Cert.Adamw1x1024.τ).loc Cert.Adamw1x1024.main_arg1)
      ∧ r.2.mem ((c.tc : Thread Cert.Adamw1x1024.nD Cert.Adamw1x1024.τ).loc Cert.Adamw1x1024.main_arg2) = m ((c.tc : Thread Cert.Adamw1x1024.nD Cert.Adamw1x1024.τ).loc Cert.Adamw1x1024.main_arg2)
      ∧ r.2.mem ((c.tc : Thread Cert.Adamw1x1024.nD Cert.Adamw1x1024.τ).loc Cert.Adamw1x1024.main_arg3) = m ((c.tc : Thread Cert.Adamw1x1024.nD Cert.Adamw1x1024.τ).loc Cert.Adamw1x1024.main_arg3))
      ∧ r.2.sem = fun _ => 0)

def quiescent_Adamw1x1024Ideal [hAdamw1x1024Ideal : Cert.Adamw1x1024Ideal.Facts] : Prop :=
  ∀ (m : (ℓ : Loc Cert.Adamw1x1024Ideal.nD Cert.Adamw1x1024Ideal.τ Cert.Adamw1x1024Ideal.sig) → Buf (Elt Ideal) ℓ) (g : Dev Cert.Adamw1x1024Ideal.nD → PrngReg), Pre_Adamw1x1024Ideal m →
    θ_run (Cert.Adamw1x1024Ideal.defs (F := Ideal)) (onTc (τ := Cert.Adamw1x1024Ideal.τ) (Cert.Adamw1x1024Ideal.main (F := Ideal))) ⟨m, fun _ => 0, g⟩ (fun r => (∀ c : Dev Cert.Adamw1x1024Ideal.nD,
      r.2.mem ((c.tc : Thread Cert.Adamw1x1024Ideal.nD Cert.Adamw1x1024Ideal.τ).loc Cert.Adamw1x1024Ideal.main_arg0) = m ((c.tc : Thread Cert.Adamw1x1024Ideal.nD Cert.Adamw1x1024Ideal.τ).loc Cert.Adamw1x1024Ideal.main_arg0)
      ∧ r.2.mem ((c.tc : Thread Cert.Adamw1x1024Ideal.nD Cert.Adamw1x1024Ideal.τ).loc Cert.Adamw1x1024Ideal.main_arg1) = m ((c.tc : Thread Cert.Adamw1x1024Ideal.nD Cert.Adamw1x1024Ideal.τ).loc Cert.Adamw1x1024Ideal.main_arg1)
      ∧ r.2.mem ((c.tc : Thread Cert.Adamw1x1024Ideal.nD Cert.Adamw1x1024Ideal.τ).loc Cert.Adamw1x1024Ideal.main_arg2) = m ((c.tc : Thread Cert.Adamw1x1024Ideal.nD Cert.Adamw1x1024Ideal.τ).loc Cert.Adamw1x1024Ideal.main_arg2)
      ∧ r.2.mem ((c.tc : Thread Cert.Adamw1x1024Ideal.nD Cert.Adamw1x1024Ideal.τ).loc Cert.Adamw1x1024Ideal.main_arg3) = m ((c.tc : Thread Cert.Adamw1x1024Ideal.nD Cert.Adamw1x1024Ideal.τ).loc Cert.Adamw1x1024Ideal.main_arg3))
      ∧ r.2.sem = fun _ => 0)

def quiescent_Adamw1x1024RefIdeal [hAdamw1x1024RefIdeal : Cert.Adamw1x1024RefIdeal.Facts] : Prop :=
  ∀ (m : (ℓ : Loc Cert.Adamw1x1024RefIdeal.nD Cert.Adamw1x1024RefIdeal.τ Cert.Adamw1x1024RefIdeal.sig) → Buf (Elt Ideal) ℓ) (g : Dev Cert.Adamw1x1024RefIdeal.nD → PrngReg), Pre_Adamw1x1024RefIdeal m →
    θ_run (Cert.Adamw1x1024RefIdeal.defs (F := Ideal)) (onTc (τ := Cert.Adamw1x1024RefIdeal.τ) (Cert.Adamw1x1024RefIdeal.main (F := Ideal))) ⟨m, fun _ => 0, g⟩ (fun r => (∀ c : Dev Cert.Adamw1x1024RefIdeal.nD,
      r.2.mem ((c.tc : Thread Cert.Adamw1x1024RefIdeal.nD Cert.Adamw1x1024RefIdeal.τ).loc Cert.Adamw1x1024RefIdeal.main_arg0) = m ((c.tc : Thread Cert.Adamw1x1024RefIdeal.nD Cert.Adamw1x1024RefIdeal.τ).loc Cert.Adamw1x1024RefIdeal.main_arg0)
      ∧ r.2.mem ((c.tc : Thread Cert.Adamw1x1024RefIdeal.nD Cert.Adamw1x1024RefIdeal.τ).loc Cert.Adamw1x1024RefIdeal.main_arg1) = m ((c.tc : Thread Cert.Adamw1x1024RefIdeal.nD Cert.Adamw1x1024RefIdeal.τ).loc Cert.Adamw1x1024RefIdeal.main_arg1)
      ∧ r.2.mem ((c.tc : Thread Cert.Adamw1x1024RefIdeal.nD Cert.Adamw1x1024RefIdeal.τ).loc Cert.Adamw1x1024RefIdeal.main_arg2) = m ((c.tc : Thread Cert.Adamw1x1024RefIdeal.nD Cert.Adamw1x1024RefIdeal.τ).loc Cert.Adamw1x1024RefIdeal.main_arg2)
      ∧ r.2.mem ((c.tc : Thread Cert.Adamw1x1024RefIdeal.nD Cert.Adamw1x1024RefIdeal.τ).loc Cert.Adamw1x1024RefIdeal.main_arg3) = m ((c.tc : Thread Cert.Adamw1x1024RefIdeal.nD Cert.Adamw1x1024RefIdeal.τ).loc Cert.Adamw1x1024RefIdeal.main_arg3))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![6688, 1024]⟩ ⟨2, ![26752, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![6688, 1024]⟩ ⟨2, ![26752, 1024]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Partials_PartialsIdeal : Prop :=
  True

def algebraic_PartialsIdeal_PartialsRefIdeal [hPartialsIdeal : Cert.PartialsIdeal.Facts] [hPartialsRefIdeal : Cert.PartialsRefIdeal.Facts] : Prop :=
  ∀ (m : (ℓ : Loc Cert.PartialsIdeal.nD Cert.PartialsIdeal.τ Cert.PartialsIdeal.sig) → Buf (Elt Ideal) ℓ) (g : Dev Cert.PartialsIdeal.nD → PrngReg)
    (m' : (ℓ : Loc Cert.PartialsRefIdeal.nD Cert.PartialsRefIdeal.τ Cert.PartialsRefIdeal.sig) → Buf (Elt Ideal) ℓ) (g' : Dev Cert.PartialsRefIdeal.nD → PrngReg), Pre_PartialsIdeal m →
    (∀ c : Dev Cert.PartialsIdeal.nD,
      m ((c.tc : Thread Cert.PartialsIdeal.nD Cert.PartialsIdeal.τ).loc Cert.PartialsIdeal.main_arg0) = Layout.block ⟨3, ![4, 3344, 1024]⟩ ⟨3, ![32, 3344, 1024]⟩ 0 8 c (m' (((0 : Dev Cert.PartialsRefIdeal.nD).tc : Thread Cert.PartialsRefIdeal.nD Cert.PartialsRefIdeal.τ).loc Cert.PartialsRefIdeal.main_arg0))) →
    ∃ (v0 : Buf (Elt Ideal) (((0 : Dev Cert.PartialsRefIdeal.nD).tc : Thread Cert.PartialsRefIdeal.nD Cert.PartialsRefIdeal.τ).loc Cert.PartialsRefIdeal.main_v2)),
      θ_run (Cert.PartialsIdeal.defs (F := Ideal)) (onTc (τ := Cert.PartialsIdeal.τ) (Cert.PartialsIdeal.main (F := Ideal))) ⟨m, fun _ => 0, g⟩ (fun r => ∀ c : Dev Cert.PartialsIdeal.nD,
          r.2.mem ((c.tc : Thread Cert.PartialsIdeal.nD Cert.PartialsIdeal.τ).loc Cert.PartialsIdeal.main_v1) = Layout.block ⟨3, ![4, 3344, 1024]⟩ ⟨3, ![32, 3344, 1024]⟩ 0 8 c v0
          ∧ r.2.mem ((c.tc : Thread Cert.PartialsIdeal.nD Cert.PartialsIdeal.τ).loc Cert.PartialsIdeal.main_arg0) = m ((c.tc : Thread Cert.PartialsIdeal.nD Cert.PartialsIdeal.τ).loc Cert.PartialsIdeal.main_arg0))
      ∧ θ_run (Cert.PartialsRefIdeal.defs (F := Ideal)) (onTc (τ := Cert.PartialsRefIdeal.τ) (Cert.PartialsRefIdeal.main (F := Ideal))) ⟨m', fun _ => 0, g'⟩ (fun r =>
          r.2.mem (((0 : Dev Cert.PartialsRefIdeal.nD).tc : Thread Cert.PartialsRefIdeal.nD Cert.PartialsRefIdeal.τ).loc Cert.PartialsRefIdeal.main_v2) = v0
          ∧ r.2.mem (((0 : Dev Cert.PartialsRefIdeal.nD).tc : Thread Cert.PartialsRefIdeal.nD Cert.PartialsRefIdeal.τ).loc Cert.PartialsRefIdeal.main_arg0) = m' (((0 : Dev Cert.PartialsRefIdeal.nD).tc : Thread Cert.PartialsRefIdeal.nD Cert.PartialsRefIdeal.τ).loc Cert.PartialsRefIdeal.main_arg0))

def bitexact_Partials_PartialsRef [hPartials : Cert.Partials.Facts] [hPartialsRef : Cert.PartialsRef.Facts] : Prop :=
  ∀ (m : (ℓ : Loc Cert.Partials.nD Cert.Partials.τ Cert.Partials.sig) → Buf (Elt Bits) ℓ) (g : Dev Cert.Partials.nD → PrngReg)
    (m' : (ℓ : Loc Cert.PartialsRef.nD Cert.PartialsRef.τ Cert.PartialsRef.sig) → Buf (Elt Bits) ℓ) (g' : Dev Cert.PartialsRef.nD → PrngReg), Pre_Partials m →
    (∀ c : Dev Cert.Partials.nD,
      m ((c.tc : Thread Cert.Partials.nD Cert.Partials.τ).loc Cert.Partials.main_arg0) = Layout.block ⟨3, ![4, 3344, 1024]⟩ ⟨3, ![32, 3344, 1024]⟩ 0 8 c (m' (((0 : Dev Cert.PartialsRef.nD).tc : Thread Cert.PartialsRef.nD Cert.PartialsRef.τ).loc Cert.PartialsRef.main_arg0))) →
    ∃ (v0 : Buf (Elt Bits) (((0 : Dev Cert.PartialsRef.nD).tc : Thread Cert.PartialsRef.nD Cert.PartialsRef.τ).loc Cert.PartialsRef.main_v2)),
      θ_run (Cert.Partials.defs (F := Bits)) (onTc (τ := Cert.Partials.τ) (Cert.Partials.main (F := Bits))) ⟨m, fun _ => 0, g⟩ (fun r => ∀ c : Dev Cert.Partials.nD,
          r.2.mem ((c.tc : Thread Cert.Partials.nD Cert.Partials.τ).loc Cert.Partials.main_v1) = Layout.block ⟨3, ![4, 3344, 1024]⟩ ⟨3, ![32, 3344, 1024]⟩ 0 8 c v0
          ∧ r.2.mem ((c.tc : Thread Cert.Partials.nD Cert.Partials.τ).loc Cert.Partials.main_arg0) = m ((c.tc : Thread Cert.Partials.nD Cert.Partials.τ).loc Cert.Partials.main_arg0))
      ∧ θ_run (Cert.PartialsRef.defs (F := Bits)) (onTc (τ := Cert.PartialsRef.τ) (Cert.PartialsRef.main (F := Bits))) ⟨m', fun _ => 0, g'⟩ (fun r =>
          r.2.mem (((0 : Dev Cert.PartialsRef.nD).tc : Thread Cert.PartialsRef.nD Cert.PartialsRef.τ).loc Cert.PartialsRef.main_v2) = v0
          ∧ r.2.mem (((0 : Dev Cert.PartialsRef.nD).tc : Thread Cert.PartialsRef.nD Cert.PartialsRef.τ).loc Cert.PartialsRef.main_arg0) = m' (((0 : Dev Cert.PartialsRef.nD).tc : Thread Cert.PartialsRef.nD Cert.PartialsRef.τ).loc Cert.PartialsRef.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 3344, 1024]⟩ ⟨3, ![32, 3344, 1024]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v26)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.block ⟨3, ![3, 3344, 1024]⟩ ⟨3, ![24, 3344, 1024]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v26) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 3344, 1024]⟩ ⟨3, ![32, 3344, 1024]⟩ 0 8 c (m' (((0 : Dev Cert.ScatterRef.nD).tc : Thread Cert.ScatterRef.nD Cert.ScatterRef.τ).loc Cert.ScatterRef.main_arg0))) →
    ∃ (v0 : Buf (Elt Bits) (((0 : Dev Cert.ScatterRef.nD).tc : Thread Cert.ScatterRef.nD Cert.ScatterRef.τ).loc Cert.ScatterRef.main_v26)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1) = Layout.block ⟨3, ![3, 3344, 1024]⟩ ⟨3, ![24, 3344, 1024]⟩ 0 8 c v0
          ∧ r.2.mem ((c.tc : Thread Cert.Scatter.nD Cert.Scatter.τ).loc Cert.Scatter.main_arg0) = m ((c.tc : Thread Cert.Scatter.nD Cert.Scatter.τ).loc Cert.Scatter.main_arg0))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v26) = v0
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0))

def preserves_Result_ResultIdeal : Prop :=
  True

def algebraic_ResultIdeal_ResultRefIdeal [hResultIdeal : Cert.ResultIdeal.Facts] [hResultRefIdeal : Cert.ResultRefIdeal.Facts] : Prop :=
  ∀ (m : (ℓ : Loc Cert.ResultIdeal.nD Cert.ResultIdeal.τ Cert.ResultIdeal.sig) → Buf (Elt Ideal) ℓ) (g : Dev Cert.ResultIdeal.nD → PrngReg)
    (m' : (ℓ : Loc Cert.ResultRefIdeal.nD Cert.ResultRefIdeal.τ Cert.ResultRefIdeal.sig) → Buf (Elt Ideal) ℓ) (g' : Dev Cert.ResultRefIdeal.nD → PrngReg), Pre_ResultIdeal m →
    (∀ c : Dev Cert.ResultIdeal.nD,
      m ((c.tc : Thread Cert.ResultIdeal.nD Cert.ResultIdeal.τ).loc Cert.ResultIdeal.main_arg0) = Layout.block ⟨2, ![3344, 1024]⟩ ⟨2, ![26752, 1024]⟩ 0 8 c (m' (((0 : Dev Cert.ResultRefIdeal.nD).tc : Thread Cert.ResultRefIdeal.nD Cert.ResultRefIdeal.τ).loc Cert.ResultRefIdeal.main_arg0))) →
    ∃ (v0 : Buf (Elt Ideal) (((0 : Dev Cert.ResultRefIdeal.nD).tc : Thread Cert.ResultRefIdeal.nD Cert.ResultRefIdeal.τ).loc Cert.ResultRefIdeal.main_v2)),
      θ_run (Cert.ResultIdeal.defs (F := Ideal)) (onTc (τ := Cert.ResultIdeal.τ) (Cert.ResultIdeal.main (F := Ideal))) ⟨m, fun _ => 0, g⟩ (fun r => ∀ c : Dev Cert.ResultIdeal.nD,
          r.2.mem ((c.tc : Thread Cert.ResultIdeal.nD Cert.ResultIdeal.τ).loc Cert.ResultIdeal.main_v1) = Layout.block ⟨2, ![3344, 1024]⟩ ⟨2, ![26752, 1024]⟩ 0 8 c v0
          ∧ r.2.mem ((c.tc : Thread Cert.ResultIdeal.nD Cert.ResultIdeal.τ).loc Cert.ResultIdeal.main_arg0) = m ((c.tc : Thread Cert.ResultIdeal.nD Cert.ResultIdeal.τ).loc Cert.ResultIdeal.main_arg0))
      ∧ θ_run (Cert.ResultRefIdeal.defs (F := Ideal)) (onTc (τ := Cert.ResultRefIdeal.τ) (Cert.ResultRefIdeal.main (F := Ideal))) ⟨m', fun _ => 0, g'⟩ (fun r =>
          r.2.mem (((0 : Dev Cert.ResultRefIdeal.nD).tc : Thread Cert.ResultRefIdeal.nD Cert.ResultRefIdeal.τ).loc Cert.ResultRefIdeal.main_v2) = v0
          ∧ r.2.mem (((0 : Dev Cert.ResultRefIdeal.nD).tc : Thread Cert.ResultRefIdeal.nD Cert.ResultRefIdeal.τ).loc Cert.ResultRefIdeal.main_arg0) = m' (((0 : Dev Cert.ResultRefIdeal.nD).tc : Thread Cert.ResultRefIdeal.nD Cert.ResultRefIdeal.τ).loc Cert.ResultRefIdeal.main_arg0))

def bitexact_Result_ResultRef [hResult : Cert.Result.Facts] [hResultRef : Cert.ResultRef.Facts] : Prop :=
  ∀ (m : (ℓ : Loc Cert.Result.nD Cert.Result.τ Cert.Result.sig) → Buf (Elt Bits) ℓ) (g : Dev Cert.Result.nD → PrngReg)
    (m' : (ℓ : Loc Cert.ResultRef.nD Cert.ResultRef.τ Cert.ResultRef.sig) → Buf (Elt Bits) ℓ) (g' : Dev Cert.ResultRef.nD → PrngReg), Pre_Result m →
    (∀ c : Dev Cert.Result.nD,
      m ((c.tc : Thread Cert.Result.nD Cert.Result.τ).loc Cert.Result.main_arg0) = Layout.block ⟨2, ![3344, 1024]⟩ ⟨2, ![26752, 1024]⟩ 0 8 c (m' (((0 : Dev Cert.ResultRef.nD).tc : Thread Cert.ResultRef.nD Cert.ResultRef.τ).loc Cert.ResultRef.main_arg0))) →
    ∃ (v0 : Buf (Elt Bits) (((0 : Dev Cert.ResultRef.nD).tc : Thread Cert.ResultRef.nD Cert.ResultRef.τ).loc Cert.ResultRef.main_v2)),
      θ_run (Cert.Result.defs (F := Bits)) (onTc (τ := Cert.Result.τ) (Cert.Result.main (F := Bits))) ⟨m, fun _ => 0, g⟩ (fun r => ∀ c : Dev Cert.Result.nD,
          r.2.mem ((c.tc : Thread Cert.Result.nD Cert.Result.τ).loc Cert.Result.main_v1) = Layout.block ⟨2, ![3344, 1024]⟩ ⟨2, ![26752, 1024]⟩ 0 8 c v0
          ∧ r.2.mem ((c.tc : Thread Cert.Result.nD Cert.Result.τ).loc Cert.Result.main_arg0) = m ((c.tc : Thread Cert.Result.nD Cert.Result.τ).loc Cert.Result.main_arg0))
      ∧ θ_run (Cert.ResultRef.defs (F := Bits)) (onTc (τ := Cert.ResultRef.τ) (Cert.ResultRef.main (F := Bits))) ⟨m', fun _ => 0, g'⟩ (fun r =>
          r.2.mem (((0 : Dev Cert.ResultRef.nD).tc : Thread Cert.ResultRef.nD Cert.ResultRef.τ).loc Cert.ResultRef.main_v2) = v0
          ∧ r.2.mem (((0 : Dev Cert.ResultRef.nD).tc : Thread Cert.ResultRef.nD Cert.ResultRef.τ).loc Cert.ResultRef.main_arg0) = m' (((0 : Dev Cert.ResultRef.nD).tc : Thread Cert.ResultRef.nD Cert.ResultRef.τ).loc Cert.ResultRef.main_arg0))

def preserves_Grads_GradsIdeal : Prop :=
  True

def algebraic_GradsIdeal_GradsRefIdeal [hGradsIdeal : Cert.GradsIdeal.Facts] [hGradsRefIdeal : Cert.GradsRefIdeal.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsRefIdeal.nD Cert.GradsRefIdeal.τ Cert.GradsRefIdeal.sig) → Buf (Elt Ideal) ℓ) (g' : Dev Cert.GradsRefIdeal.nD → PrngReg), Pre_GradsIdeal m →
    (∀ c : Dev Cert.GradsIdeal.nD,
      m ((c.tc : Thread Cert.GradsIdeal.nD Cert.GradsIdeal.τ).loc Cert.GradsIdeal.main_arg0) = Layout.block ⟨2, ![3344, 1024]⟩ ⟨2, ![26752, 1024]⟩ 0 8 c (m' (((0 : Dev Cert.GradsRefIdeal.nD).tc : Thread Cert.GradsRefIdeal.nD Cert.GradsRefIdeal.τ).loc Cert.GradsRefIdeal.main_arg0))) →
    ∃ (v0 : Buf (Elt Ideal) (((0 : Dev Cert.GradsRefIdeal.nD).tc : Thread Cert.GradsRefIdeal.nD Cert.GradsRefIdeal.τ).loc Cert.GradsRefIdeal.main_v4)) (v1 : Buf (Elt Ideal) (((0 : Dev Cert.GradsRefIdeal.nD).tc : Thread Cert.GradsRefIdeal.nD Cert.GradsRefIdeal.τ).loc Cert.GradsRefIdeal.main_v8)) (v2 : Buf (Elt Ideal) (((0 : Dev Cert.GradsRefIdeal.nD).tc : Thread Cert.GradsRefIdeal.nD Cert.GradsRefIdeal.τ).loc Cert.GradsRefIdeal.main_v12)) (v3 : Buf (Elt Ideal) (((0 : Dev Cert.GradsRefIdeal.nD).tc : Thread Cert.GradsRefIdeal.nD Cert.GradsRefIdeal.τ).loc Cert.GradsRefIdeal.main_v16)) (v4 : Buf (Elt Ideal) (((0 : Dev Cert.GradsRefIdeal.nD).tc : Thread Cert.GradsRefIdeal.nD Cert.GradsRefIdeal.τ).loc Cert.GradsRefIdeal.main_v20)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v20) = Layout.blockN ⟨3, ![2, 1024, 2564]⟩ ⟨3, ![2, 1024, 10256]⟩ (Layout.meshBlock [2, 2, 2] ![[], [], [0, 1]] c) v0
          ∧ r.2.mem ((c.tc : Thread Cert.GradsIdeal.nD Cert.GradsIdeal.τ).loc Cert.GradsIdeal.main_v23) = Layout.blockN ⟨3, ![2, 512, 256]⟩ ⟨3, ![2, 512, 1024]⟩ (Layout.meshBlock [2, 2, 2] ![[], [], [0, 1]] c) v1
          ∧ r.2.mem ((c.tc : Thread Cert.GradsIdeal.nD Cert.GradsIdeal.τ).loc Cert.GradsIdeal.main_v26) = Layout.blockN ⟨3, ![2, 256, 1024]⟩ ⟨3, ![2, 1024, 1024]⟩ (Layout.meshBlock [2, 2, 2] ![[], [0, 1], []] c) v2
          ∧ r.2.mem ((c.tc : Thread Cert.GradsIdeal.nD Cert.GradsIdeal.τ).loc Cert.GradsIdeal.main_v29) = Layout.blockN ⟨3, ![2, 512, 256]⟩ ⟨3, ![2, 512, 1024]⟩ (Layout.meshBlock [2, 2, 2] ![[], [], [0, 1]] c) v3
          ∧ r.2.mem ((c.tc : Thread Cert.GradsIdeal.nD Cert.GradsIdeal.τ).loc Cert.GradsIdeal.main_v32) = Layout.blockN ⟨3, ![2, 256, 1024]⟩ ⟨3, ![2, 1024, 1024]⟩ (Layout.meshBlock [2, 2, 2] ![[], [0, 1], []] c) v4
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ θ_run (Cert.GradsRefIdeal.defs (F := Ideal)) (onTc (τ := Cert.GradsRefIdeal.τ) (Cert.GradsRefIdeal.main (F := Ideal))) ⟨m', fun _ => 0, g'⟩ (fun r =>
          r.2.mem (((0 : Dev Cert.GradsRefIdeal.nD).tc : Thread Cert.GradsRefIdeal.nD Cert.GradsRefIdeal.τ).loc Cert.GradsRefIdeal.main_v4) = v0
          ∧ r.2.mem (((0 : Dev Cert.GradsRefIdeal.nD).tc : Thread Cert.GradsRefIdeal.nD Cert.GradsRefIdeal.τ).loc Cert.GradsRefIdeal.main_v8) = v1
          ∧ r.2.mem (((0 : Dev Cert.GradsRefIdeal.nD).tc : Thread Cert.GradsRefIdeal.nD Cert.GradsRefIdeal.τ).loc Cert.GradsRefIdeal.main_v12) = v2
          ∧ r.2.mem (((0 : Dev Cert.GradsRefIdeal.nD).tc : Thread Cert.GradsRefIdeal.nD Cert.GradsRefIdeal.τ).loc Cert.GradsRefIdeal.main_v16) = v3
          ∧ r.2.mem (((0 : Dev Cert.GradsRefIdeal.nD).tc : Thread Cert.GradsRefIdeal.nD Cert.GradsRefIdeal.τ).loc Cert.GradsRefIdeal.main_v20) = v4
          ∧ r.2.mem (((0 : Dev Cert.GradsRefIdeal.nD).tc : Thread Cert.GradsRefIdeal.nD Cert.GradsRefIdeal.τ).loc Cert.GradsRefIdeal.main_arg0) = m' (((0 : Dev Cert.GradsRefIdeal.nD).tc : Thread Cert.GradsRefIdeal.nD Cert.GradsRefIdeal.τ).loc Cert.GradsRefIdeal.main_arg0))

def bitexact_Grads_GradsRef [hGrads : Cert.Grads.Facts] [hGradsRef : Cert.GradsRef.Facts] : Prop :=
  ∀ (m : (ℓ : Loc Cert.Grads.nD Cert.Grads.τ Cert.Grads.sig) → Buf (Elt Bits) ℓ) (g : Dev Cert.Grads.nD → PrngReg)
    (m' : (ℓ : Loc Cert.GradsRef.nD Cert.GradsRef.τ Cert.GradsRef.sig) → Buf (Elt Bits) ℓ) (g' : Dev Cert.GradsRef.nD → PrngReg), Pre_Grads m →
    (∀ c : Dev Cert.Grads.nD,
      m ((c.tc : Thread Cert.Grads.nD Cert.Grads.τ).loc Cert.Grads.main_arg0) = Layout.block ⟨2, ![3344, 1024]⟩ ⟨2, ![26752, 1024]⟩ 0 8 c (m' (((0 : Dev Cert.GradsRef.nD).tc : Thread Cert.GradsRef.nD Cert.GradsRef.τ).loc Cert.GradsRef.main_arg0))) →
    ∃ (v0 : Buf (Elt Bits) (((0 : Dev Cert.GradsRef.nD).tc : Thread Cert.GradsRef.nD Cert.GradsRef.τ).loc Cert.GradsRef.main_v4)) (v1 : Buf (Elt Bits) (((0 : Dev Cert.GradsRef.nD).tc : Thread Cert.GradsRef.nD Cert.GradsRef.τ).loc Cert.GradsRef.main_v8)) (v2 : Buf (Elt Bits) (((0 : Dev Cert.GradsRef.nD).tc : Thread Cert.GradsRef.nD Cert.GradsRef.τ).loc Cert.GradsRef.main_v12)) (v3 : Buf (Elt Bits) (((0 : Dev Cert.GradsRef.nD).tc : Thread Cert.GradsRef.nD Cert.GradsRef.τ).loc Cert.GradsRef.main_v16)) (v4 : Buf (Elt Bits) (((0 : Dev Cert.GradsRef.nD).tc : Thread Cert.GradsRef.nD Cert.GradsRef.τ).loc Cert.GradsRef.main_v20)),
      θ_run (Cert.Grads.defs (F := Bits)) (onTc (τ := Cert.Grads.τ) (Cert.Grads.main (F := Bits))) ⟨m, fun _ => 0, g⟩ (fun r => ∀ c : Dev Cert.Grads.nD,
          r.2.mem ((c.tc : Thread Cert.Grads.nD Cert.Grads.τ).loc Cert.Grads.main_v20) = Layout.blockN ⟨3, ![2, 1024, 2564]⟩ ⟨3, ![2, 1024, 10256]⟩ (Layout.meshBlock [2, 2, 2] ![[], [], [0, 1]] c) v0
          ∧ r.2.mem ((c.tc : Thread Cert.Grads.nD Cert.Grads.τ).loc Cert.Grads.main_v23) = Layout.blockN ⟨3, ![2, 512, 256]⟩ ⟨3, ![2, 512, 1024]⟩ (Layout.meshBlock [2, 2, 2] ![[], [], [0, 1]] c) v1
          ∧ r.2.mem ((c.tc : Thread Cert.Grads.nD Cert.Grads.τ).loc Cert.Grads.main_v26) = Layout.blockN ⟨3, ![2, 256, 1024]⟩ ⟨3, ![2, 1024, 1024]⟩ (Layout.meshBlock [2, 2, 2] ![[], [0, 1], []] c) v2
          ∧ r.2.mem ((c.tc : Thread Cert.Grads.nD Cert.Grads.τ).loc Cert.Grads.main_v29) = Layout.blockN ⟨3, ![2, 512, 256]⟩ ⟨3, ![2, 512, 1024]⟩ (Layout.meshBlock [2, 2, 2] ![[], [], [0, 1]] c) v3
          ∧ r.2.mem ((c.tc : Thread Cert.Grads.nD Cert.Grads.τ).loc Cert.Grads.main_v32) = Layout.blockN ⟨3, ![2, 256, 1024]⟩ ⟨3, ![2, 1024, 1024]⟩ (Layout.meshBlock [2, 2, 2] ![[], [0, 1], []] c) v4
          ∧ r.2.mem ((c.tc : Thread Cert.Grads.nD Cert.Grads.τ).loc Cert.Grads.main_arg0) = m ((c.tc : Thread Cert.Grads.nD Cert.Grads.τ).loc Cert.Grads.main_arg0))
      ∧ θ_run (Cert.GradsRef.defs (F := Bits)) (onTc (τ := Cert.GradsRef.τ) (Cert.GradsRef.main (F := Bits))) ⟨m', fun _ => 0, g'⟩ (fun r =>
          r.2.mem (((0 : Dev Cert.GradsRef.nD).tc : Thread Cert.GradsRef.nD Cert.GradsRef.τ).loc Cert.GradsRef.main_v4) = v0
          ∧ r.2.mem (((0 : Dev Cert.GradsRef.nD).tc : Thread Cert.GradsRef.nD Cert.GradsRef.τ).loc Cert.GradsRef.main_v8) = v1
          ∧ r.2.mem (((0 : Dev Cert.GradsRef.nD).tc : Thread Cert.GradsRef.nD Cert.GradsRef.τ).loc Cert.GradsRef.main_v12) = v2
          ∧ r.2.mem (((0 : Dev Cert.GradsRef.nD).tc : Thread Cert.GradsRef.nD Cert.GradsRef.τ).loc Cert.GradsRef.main_v16) = v3
          ∧ r.2.mem (((0 : Dev Cert.GradsRef.nD).tc : Thread Cert.GradsRef.nD Cert.GradsRef.τ).loc Cert.GradsRef.main_v20) = v4
          ∧ r.2.mem (((0 : Dev Cert.GradsRef.nD).tc : Thread Cert.GradsRef.nD Cert.GradsRef.τ).loc Cert.GradsRef.main_arg0) = m' (((0 : Dev Cert.GradsRef.nD).tc : Thread Cert.GradsRef.nD Cert.GradsRef.τ).loc Cert.GradsRef.main_arg0))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v0_0)) (v1 : (c : Dev Cert.PairSumIdeal.nD) → Buf (Elt Ideal) ((c.tc : Thread Cert.PairSumIdeal.nD Cert.PairSumIdeal.τ).loc Cert.PairSumIdeal.main_v0_1)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0_0) = v0 c
          ∧ r.2.mem ((c.tc : Thread Cert.PairSumIdeal.nD Cert.PairSumIdeal.τ).loc Cert.PairSumIdeal.main_v0_1) = v1 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v1) = v0 c
          ∧ r.2.mem ((c.tc : Thread Cert.PairSumRefIdeal.nD Cert.PairSumRefIdeal.τ).loc Cert.PairSumRefIdeal.main_v2) = v1 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def bitexact_PairSum_PairSumRef [hPairSum : Cert.PairSum.Facts] [hPairSumRef : Cert.PairSumRef.Facts] : Prop :=
  ∀ (m : (ℓ : Loc Cert.PairSum.nD Cert.PairSum.τ Cert.PairSum.sig) → Buf (Elt Bits) ℓ) (g : Dev Cert.PairSum.nD → PrngReg)
    (m' : (ℓ : Loc Cert.PairSumRef.nD Cert.PairSumRef.τ Cert.PairSumRef.sig) → Buf (Elt Bits) ℓ) (g' : Dev Cert.PairSumRef.nD → PrngReg), Pre_PairSum m →
    (∀ c : Dev Cert.PairSum.nD,
      m' ((c.tc : Thread Cert.PairSumRef.nD Cert.PairSumRef.τ).loc Cert.PairSumRef.main_arg0) = m ((c.tc : Thread Cert.PairSum.nD Cert.PairSum.τ).loc Cert.PairSum.main_arg0)
      ∧ m' ((c.tc : Thread Cert.PairSumRef.nD Cert.PairSumRef.τ).loc Cert.PairSumRef.main_arg1) = m ((c.tc : Thread Cert.PairSum.nD Cert.PairSum.τ).loc Cert.PairSum.main_arg1)) →
    ∃ (v0 : (c : Dev Cert.PairSum.nD) → Buf (Elt Bits) ((c.tc : Thread Cert.PairSum.nD Cert.PairSum.τ).loc Cert.PairSum.main_v0_0)) (v1 : (c : Dev Cert.PairSum.nD) → Buf (Elt Bits) ((c.tc : Thread Cert.PairSum.nD Cert.PairSum.τ).loc Cert.PairSum.main_v0_1)),
      θ_run (Cert.PairSum.defs (F := Bits)) (onTc (τ := Cert.PairSum.τ) (Cert.PairSum.main (F := Bits))) ⟨m, fun _ => 0, g⟩ (fun r => ∀ c : Dev Cert.PairSum.nD,
          r.2.mem ((c.tc : Thread Cert.PairSum.nD Cert.PairSum.τ).loc Cert.PairSum.main_v0_0) = v0 c
          ∧ r.2.mem ((c.tc : Thread Cert.PairSum.nD Cert.PairSum.τ).loc Cert.PairSum.main_v0_1) = v1 c
          ∧ r.2.mem ((c.tc : Thread Cert.PairSum.nD Cert.PairSum.τ).loc Cert.PairSum.main_arg0) = m ((c.tc : Thread Cert.PairSum.nD Cert.PairSum.τ).loc Cert.PairSum.main_arg0)
          ∧ r.2.mem ((c.tc : Thread Cert.PairSum.nD Cert.PairSum.τ).loc Cert.PairSum.main_arg1) = m ((c.tc : Thread Cert.PairSum.nD Cert.PairSum.τ).loc Cert.PairSum.main_arg1))
      ∧ θ_run (Cert.PairSumRef.defs (F := Bits)) (onTc (τ := Cert.PairSumRef.τ) (Cert.PairSumRef.main (F := Bits))) ⟨m', fun _ => 0, g'⟩ (fun r => ∀ c : Dev Cert.PairSumRef.nD,
          r.2.mem ((c.tc : Thread Cert.PairSumRef.nD Cert.PairSumRef.τ).loc Cert.PairSumRef.main_v1) = v0 c
          ∧ r.2.mem ((c.tc : Thread Cert.PairSumRef.nD Cert.PairSumRef.τ).loc Cert.PairSumRef.main_v2) = v1 c
          ∧ r.2.mem ((c.tc : Thread Cert.PairSumRef.nD Cert.PairSumRef.τ).loc Cert.PairSumRef.main_arg0) = m' ((c.tc : Thread Cert.PairSumRef.nD Cert.PairSumRef.τ).loc Cert.PairSumRef.main_arg0)
          ∧ r.2.mem ((c.tc : Thread Cert.PairSumRef.nD Cert.PairSumRef.τ).loc Cert.PairSumRef.main_arg1) = m' ((c.tc : Thread Cert.PairSumRef.nD Cert.PairSumRef.τ).loc Cert.PairSumRef.main_arg1))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v2) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v2) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v34) = v0 c
          ∧ r.2.mem ((c.tc : Thread Cert.DxRefIdeal.nD Cert.DxRefIdeal.τ).loc Cert.DxRefIdeal.main_v35) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v2)) (v1 : (c : Dev Cert.LossHeadIdeal.nD) → Buf (Elt Ideal) ((c.tc : Thread Cert.LossHeadIdeal.nD Cert.LossHeadIdeal.τ).loc Cert.LossHeadIdeal.main_v0_0)) (v2 : (c : Dev Cert.LossHeadIdeal.nD) → Buf (Elt Ideal) ((c.tc : Thread Cert.LossHeadIdeal.nD Cert.LossHeadIdeal.τ).loc Cert.LossHeadIdeal.main_v4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2) = v0 c
          ∧ r.2.mem ((c.tc : Thread Cert.LossHeadIdeal.nD Cert.LossHeadIdeal.τ).loc Cert.LossHeadIdeal.main_v0_0) = v1 c
          ∧ r.2.mem ((c.tc : Thread Cert.LossHeadIdeal.nD Cert.LossHeadIdeal.τ).loc Cert.LossHeadIdeal.main_v4) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v23) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v49) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v1)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v1) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v4) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v1)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v1) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Adamw2x1024_Adamw2x1024Ideal : Prop :=
  True

def algebraic_Adamw2x1024Ideal_Adamw2x1024RefIdeal [hAdamw2x1024Ideal : Cert.Adamw2x1024Ideal.Facts] [hAdamw2x1024RefIdeal : Cert.Adamw2x1024RefIdeal.Facts] : Prop :=
  ∀ (m : (ℓ : Loc Cert.Adamw2x1024Ideal.nD Cert.Adamw2x1024Ideal.τ Cert.Adamw2x1024Ideal.sig) → Buf (Elt Ideal) ℓ) (g : Dev Cert.Adamw2x1024Ideal.nD → PrngReg)
    (m' : (ℓ : Loc Cert.Adamw2x1024RefIdeal.nD Cert.Adamw2x1024RefIdeal.τ Cert.Adamw2x1024RefIdeal.sig) → Buf (Elt Ideal) ℓ) (g' : Dev Cert.Adamw2x1024RefIdeal.nD → PrngReg), Pre_Adamw2x1024Ideal m →
    (∀ c : Dev Cert.Adamw2x1024Ideal.nD,
      m' ((c.tc : Thread Cert.Adamw2x1024RefIdeal.nD Cert.Adamw2x1024RefIdeal.τ).loc Cert.Adamw2x1024RefIdeal.main_arg0) = m ((c.tc : Thread Cert.Adamw2x1024Ideal.nD Cert.Adamw2x1024Ideal.τ).loc Cert.Adamw2x1024Ideal.main_arg0)
      ∧ m' ((c.tc : Thread Cert.Adamw2x1024RefIdeal.nD Cert.Adamw2x1024RefIdeal.τ).loc Cert.Adamw2x1024RefIdeal.main_arg1) = m ((c.tc : Thread Cert.Adamw2x1024Ideal.nD Cert.Adamw2x1024Ideal.τ).loc Cert.Adamw2x1024Ideal.main_arg1)
      ∧ m' ((c.tc : Thread Cert.Adamw2x1024RefIdeal.nD Cert.Adamw2x1024RefIdeal.τ).loc Cert.Adamw2x1024RefIdeal.main_arg2) = m ((c.tc : Thread Cert.Adamw2x1024Ideal.nD Cert.Adamw2x1024Ideal.τ).loc Cert.Adamw2x1024Ideal.main_arg2)
      ∧ m' ((c.tc : Thread Cert.Adamw2x1024RefIdeal.nD Cert.Adamw2x1024RefIdeal.τ).loc Cert.Adamw2x1024RefIdeal.main_arg3) = m ((c.tc : Thread Cert.Adamw2x1024Ideal.nD Cert.Adamw2x1024Ideal.τ).loc Cert.Adamw2x1024Ideal.main_arg3)) →
    ∃ (v0 : (c : Dev Cert.Adamw2x1024Ideal.nD) → Buf (Elt Ideal) ((c.tc : Thread Cert.Adamw2x1024Ideal.nD Cert.Adamw2x1024Ideal.τ).loc Cert.Adamw2x1024Ideal.main_v0_0)) (v1 : (c : Dev Cert.Adamw2x1024Ideal.nD) → Buf (Elt Ideal) ((c.tc : Thread Cert.Adamw2x1024Ideal.nD Cert.Adamw2x1024Ideal.τ).loc Cert.Adamw2x1024Ideal.main_v0_1)) (v2 : (c : Dev Cert.Adamw2x1024Ideal.nD) → Buf (Elt Ideal) ((c.tc : Thread Cert.Adamw2x1024Ideal.nD Cert.Adamw2x1024Ideal.τ).loc Cert.Adamw2x1024Ideal.main_v0_2)),
      θ_run (Cert.Adamw2x1024Ideal.defs (F := Ideal)) (onTc (τ := Cert.Adamw2x1024Ideal.τ) (Cert.Adamw2x1024Ideal.main (F := Ideal))) ⟨m, fun _ => 0, g⟩ (fun r => ∀ c : Dev Cert.Adamw2x1024Ideal.nD,
          r.2.mem ((c.tc : Thread Cert.Adamw2x1024Ideal.nD Cert.Adamw2x1024Ideal.τ).loc Cert.Adamw2x1024Ideal.main_v0_0) = v0 c
          ∧ r.2.mem ((c.tc : Thread Cert.Adamw2x1024Ideal.nD Cert.Adamw2x1024Ideal.τ).loc Cert.Adamw2x1024Ideal.main_v0_1) = v1 c
          ∧ r.2.mem ((c.tc : Thread Cert.Adamw2x1024Ideal.nD Cert.Adamw2x1024Ideal.τ).loc Cert.Adamw2x1024Ideal.main_v0_2) = v2 c
          ∧ r.2.mem ((c.tc : Thread Cert.Adamw2x1024Ideal.nD Cert.Adamw2x1024Ideal.τ).loc Cert.Adamw2x1024Ideal.main_arg0) = m ((c.tc : Thread Cert.Adamw2x1024Ideal.nD Cert.Adamw2x1024Ideal.τ).loc Cert.Adamw2x1024Ideal.main_arg0)
          ∧ r.2.mem ((c.tc : Thread Cert.Adamw2x1024Ideal.nD Cert.Adamw2x1024Ideal.τ).loc Cert.Adamw2x1024Ideal.main_arg1) = m ((c.tc : Thread Cert.Adamw2x1024Ideal.nD Cert.Adamw2x1024Ideal.τ).loc Cert.Adamw2x1024Ideal.main_arg1)
          ∧ r.2.mem ((c.tc : Thread Cert.Adamw2x1024Ideal.nD Cert.Adamw2x1024Ideal.τ).loc Cert.Adamw2x1024Ideal.main_arg2) = m ((c.tc : Thread Cert.Adamw2x1024Ideal.nD Cert.Adamw2x1024Ideal.τ).loc Cert.Adamw2x1024Ideal.main_arg2)
          ∧ r.2.mem ((c.tc : Thread Cert.Adamw2x1024Ideal.nD Cert.Adamw2x1024Ideal.τ).loc Cert.Adamw2x1024Ideal.main_arg3) = m ((c.tc : Thread Cert.Adamw2x1024Ideal.nD Cert.Adamw2x1024Ideal.τ).loc Cert.Adamw2x1024Ideal.main_arg3))
      ∧ θ_run (Cert.Adamw2x1024RefIdeal.defs (F := Ideal)) (onTc (τ := Cert.Adamw2x1024RefIdeal.τ) (Cert.Adamw2x1024RefIdeal.main (F := Ideal))) ⟨m', fun _ => 0, g'⟩ (fun r => ∀ c : Dev Cert.Adamw2x1024RefIdeal.nD,
          r.2.mem ((c.tc : Thread Cert.Adamw2x1024RefIdeal.nD Cert.Adamw2x1024RefIdeal.τ).loc Cert.Adamw2x1024RefIdeal.main_v23) = v0 c
          ∧ r.2.mem ((c.tc : Thread Cert.Adamw2x1024RefIdeal.nD Cert.Adamw2x1024RefIdeal.τ).loc Cert.Adamw2x1024RefIdeal.main_v4) = v1 c
          ∧ r.2.mem ((c.tc : Thread Cert.Adamw2x1024RefIdeal.nD Cert.Adamw2x1024RefIdeal.τ).loc Cert.Adamw2x1024RefIdeal.main_v10) = v2 c
          ∧ r.2.mem ((c.tc : Thread Cert.Adamw2x1024RefIdeal.nD Cert.Adamw2x1024RefIdeal.τ).loc Cert.Adamw2x1024RefIdeal.main_arg0) = m' ((c.tc : Thread Cert.Adamw2x1024RefIdeal.nD Cert.Adamw2x1024RefIdeal.τ).loc Cert.Adamw2x1024RefIdeal.main_arg0)
          ∧ r.2.mem ((c.tc : Thread Cert.Adamw2x1024RefIdeal.nD Cert.Adamw2x1024RefIdeal.τ).loc Cert.Adamw2x1024RefIdeal.main_arg1) = m' ((c.tc : Thread Cert.Adamw2x1024RefIdeal.nD Cert.Adamw2x1024RefIdeal.τ).loc Cert.Adamw2x1024RefIdeal.main_arg1)
          ∧ r.2.mem ((c.tc : Thread Cert.Adamw2x1024RefIdeal.nD Cert.Adamw2x1024RefIdeal.τ).loc Cert.Adamw2x1024RefIdeal.main_arg2) = m' ((c.tc : Thread Cert.Adamw2x1024RefIdeal.nD Cert.Adamw2x1024RefIdeal.τ).loc Cert.Adamw2x1024RefIdeal.main_arg2)
          ∧ r.2.mem ((c.tc : Thread Cert.Adamw2x1024RefIdeal.nD Cert.Adamw2x1024RefIdeal.τ).loc Cert.Adamw2x1024RefIdeal.main_arg3) = m' ((c.tc : Thread Cert.Adamw2x1024RefIdeal.nD Cert.Adamw2x1024RefIdeal.τ).loc Cert.Adamw2x1024RefIdeal.main_arg3))

def preserves_Adamw2048x2564_Adamw2048x2564Ideal : Prop :=
  True

def algebraic_Adamw2048x2564Ideal_Adamw2048x2564RefIdeal [hAdamw2048x2564Ideal : Cert.Adamw2048x2564Ideal.Facts] [hAdamw2048x2564RefIdeal : Cert.Adamw2048x2564RefIdeal.Facts] : Prop :=
  ∀ (m : (ℓ : Loc Cert.Adamw2048x2564Ideal.nD Cert.Adamw2048x2564Ideal.τ Cert.Adamw2048x2564Ideal.sig) → Buf (Elt Ideal) ℓ) (g : Dev Cert.Adamw2048x2564Ideal.nD → PrngReg)
    (m' : (ℓ : Loc Cert.Adamw2048x2564RefIdeal.nD Cert.Adamw2048x2564RefIdeal.τ Cert.Adamw2048x2564RefIdeal.sig) → Buf (Elt Ideal) ℓ) (g' : Dev Cert.Adamw2048x2564RefIdeal.nD → PrngReg), Pre_Adamw2048x2564Ideal m →
    (∀ c : Dev Cert.Adamw2048x2564Ideal.nD,
      m' ((c.tc : Thread Cert.Adamw2048x2564RefIdeal.nD Cert.Adamw2048x2564RefIdeal.τ).loc Cert.Adamw2048x2564RefIdeal.main_arg0) = m ((c.tc : Thread Cert.Adamw2048x2564Ideal.nD Cert.Adamw2048x2564Ideal.τ).loc Cert.Adamw2048x2564Ideal.main_arg0)
      ∧ m' ((c.tc : Thread Cert.Adamw2048x2564RefIdeal.nD Cert.Adamw2048x2564RefIdeal.τ).loc Cert.Adamw2048x2564RefIdeal.main_arg1) = m ((c.tc : Thread Cert.Adamw2048x2564Ideal.nD Cert.Adamw2048x2564Ideal.τ).loc Cert.Adamw2048x2564Ideal.main_arg1)
      ∧ m' ((c.tc : Thread Cert.Adamw2048x2564RefIdeal.nD Cert.Adamw2048x2564RefIdeal.τ).loc Cert.Adamw2048x2564RefIdeal.main_arg2) = m ((c.tc : Thread Cert.Adamw2048x2564Ideal.nD Cert.Adamw2048x2564Ideal.τ).loc Cert.Adamw2048x2564Ideal.main_arg2)
      ∧ m' ((c.tc : Thread Cert.Adamw2048x2564RefIdeal.nD Cert.Adamw2048x2564RefIdeal.τ).loc Cert.Adamw2048x2564RefIdeal.main_arg3) = m ((c.tc : Thread Cert.Adamw2048x2564Ideal.nD Cert.Adamw2048x2564Ideal.τ).loc Cert.Adamw2048x2564Ideal.main_arg3)) →
    ∃ (v0 : (c : Dev Cert.Adamw2048x2564Ideal.nD) → Buf (Elt Ideal) ((c.tc : Thread Cert.Adamw2048x2564Ideal.nD Cert.Adamw2048x2564Ideal.τ).loc Cert.Adamw2048x2564Ideal.main_v0_0)) (v1 : (c : Dev Cert.Adamw2048x2564Ideal.nD) → Buf (Elt Ideal) ((c.tc : Thread Cert.Adamw2048x2564Ideal.nD Cert.Adamw2048x2564Ideal.τ).loc Cert.Adamw2048x2564Ideal.main_v0_1)) (v2 : (c : Dev Cert.Adamw2048x2564Ideal.nD) → Buf (Elt Ideal) ((c.tc : Thread Cert.Adamw2048x2564Ideal.nD Cert.Adamw2048x2564Ideal.τ).loc Cert.Adamw2048x2564Ideal.main_v0_2)),
      θ_run (Cert.Adamw2048x2564Ideal.defs (F := Ideal)) (onTc (τ := Cert.Adamw2048x2564Ideal.τ) (Cert.Adamw2048x2564Ideal.main (F := Ideal))) ⟨m, fun _ => 0, g⟩ (fun r => ∀ c : Dev Cert.Adamw2048x2564Ideal.nD,
          r.2.mem ((c.tc : Thread Cert.Adamw2048x2564Ideal.nD Cert.Adamw2048x2564Ideal.τ).loc Cert.Adamw2048x2564Ideal.main_v0_0) = v0 c
          ∧ r.2.mem ((c.tc : Thread Cert.Adamw2048x2564Ideal.nD Cert.Adamw2048x2564Ideal.τ).loc Cert.Adamw2048x2564Ideal.main_v0_1) = v1 c
          ∧ r.2.mem ((c.tc : Thread Cert.Adamw2048x2564Ideal.nD Cert.Adamw2048x2564Ideal.τ).loc Cert.Adamw2048x2564Ideal.main_v0_2) = v2 c
          ∧ r.2.mem ((c.tc : Thread Cert.Adamw2048x2564Ideal.nD Cert.Adamw2048x2564Ideal.τ).loc Cert.Adamw2048x2564Ideal.main_arg0) = m ((c.tc : Thread Cert.Adamw2048x2564Ideal.nD Cert.Adamw2048x2564Ideal.τ).loc Cert.Adamw2048x2564Ideal.main_arg0)
          ∧ r.2.mem ((c.tc : Thread Cert.Adamw2048x2564Ideal.nD Cert.Adamw2048x2564Ideal.τ).loc Cert.Adamw2048x2564Ideal.main_arg1) = m ((c.tc : Thread Cert.Adamw2048x2564Ideal.nD Cert.Adamw2048x2564Ideal.τ).loc Cert.Adamw2048x2564Ideal.main_arg1)
          ∧ r.2.mem ((c.tc : Thread Cert.Adamw2048x2564Ideal.nD Cert.Adamw2048x2564Ideal.τ).loc Cert.Adamw2048x2564Ideal.main_arg2) = m ((c.tc : Thread Cert.Adamw2048x2564Ideal.nD Cert.Adamw2048x2564Ideal.τ).loc Cert.Adamw2048x2564Ideal.main_arg2)
          ∧ r.2.mem ((c.tc : Thread Cert.Adamw2048x2564Ideal.nD Cert.Adamw2048x2564Ideal.τ).loc Cert.Adamw2048x2564Ideal.main_arg3) = m ((c.tc : Thread Cert.Adamw2048x2564Ideal.nD Cert.Adamw2048x2564Ideal.τ).loc Cert.Adamw2048x2564Ideal.main_arg3))
      ∧ θ_run (Cert.Adamw2048x2564RefIdeal.defs (F := Ideal)) (onTc (τ := Cert.Adamw2048x2564RefIdeal.τ) (Cert.Adamw2048x2564RefIdeal.main (F := Ideal))) ⟨m', fun _ => 0, g'⟩ (fun r => ∀ c : Dev Cert.Adamw2048x2564RefIdeal.nD,
          r.2.mem ((c.tc : Thread Cert.Adamw2048x2564RefIdeal.nD Cert.Adamw2048x2564RefIdeal.τ).loc Cert.Adamw2048x2564RefIdeal.main_v23) = v0 c
          ∧ r.2.mem ((c.tc : Thread Cert.Adamw2048x2564RefIdeal.nD Cert.Adamw2048x2564RefIdeal.τ).loc Cert.Adamw2048x2564RefIdeal.main_v4) = v1 c
          ∧ r.2.mem ((c.tc : Thread Cert.Adamw2048x2564RefIdeal.nD Cert.Adamw2048x2564RefIdeal.τ).loc Cert.Adamw2048x2564RefIdeal.main_v10) = v2 c
          ∧ r.2.mem ((c.tc : Thread Cert.Adamw2048x2564RefIdeal.nD Cert.Adamw2048x2564RefIdeal.τ).loc Cert.Adamw2048x2564RefIdeal.main_arg0) = m' ((c.tc : Thread Cert.Adamw2048x2564RefIdeal.nD Cert.Adamw2048x2564RefIdeal.τ).loc Cert.Adamw2048x2564RefIdeal.main_arg0)
          ∧ r.2.mem ((c.tc : Thread Cert.Adamw2048x2564RefIdeal.nD Cert.Adamw2048x2564RefIdeal.τ).loc Cert.Adamw2048x2564RefIdeal.main_arg1) = m' ((c.tc : Thread Cert.Adamw2048x2564RefIdeal.nD Cert.Adamw2048x2564RefIdeal.τ).loc Cert.Adamw2048x2564RefIdeal.main_arg1)
          ∧ r.2.mem ((c.tc : Thread Cert.Adamw2048x2564RefIdeal.nD Cert.Adamw2048x2564RefIdeal.τ).loc Cert.Adamw2048x2564RefIdeal.main_arg2) = m' ((c.tc : Thread Cert.Adamw2048x2564RefIdeal.nD Cert.Adamw2048x2564RefIdeal.τ).loc Cert.Adamw2048x2564RefIdeal.main_arg2)
          ∧ r.2.mem ((c.tc : Thread Cert.Adamw2048x2564RefIdeal.nD Cert.Adamw2048x2564RefIdeal.τ).loc Cert.Adamw2048x2564RefIdeal.main_arg3) = m' ((c.tc : Thread Cert.Adamw2048x2564RefIdeal.nD Cert.Adamw2048x2564RefIdeal.τ).loc Cert.Adamw2048x2564RefIdeal.main_arg3))

def preserves_Adamw62x128_Adamw62x128Ideal : Prop :=
  True

def algebraic_Adamw62x128Ideal_Adamw62x128RefIdeal [hAdamw62x128Ideal : Cert.Adamw62x128Ideal.Facts] [hAdamw62x128RefIdeal : Cert.Adamw62x128RefIdeal.Facts] : Prop :=
  ∀ (m : (ℓ : Loc Cert.Adamw62x128Ideal.nD Cert.Adamw62x128Ideal.τ Cert.Adamw62x128Ideal.sig) → Buf (Elt Ideal) ℓ) (g : Dev Cert.Adamw62x128Ideal.nD → PrngReg)
    (m' : (ℓ : Loc Cert.Adamw62x128RefIdeal.nD Cert.Adamw62x128RefIdeal.τ Cert.Adamw62x128RefIdeal.sig) → Buf (Elt Ideal) ℓ) (g' : Dev Cert.Adamw62x128RefIdeal.nD → PrngReg), Pre_Adamw62x128Ideal m →
    (∀ c : Dev Cert.Adamw62x128Ideal.nD,
      m' ((c.tc : Thread Cert.Adamw62x128RefIdeal.nD Cert.Adamw62x128RefIdeal.τ).loc Cert.Adamw62x128RefIdeal.main_arg0) = m ((c.tc : Thread Cert.Adamw62x128Ideal.nD Cert.Adamw62x128Ideal.τ).loc Cert.Adamw62x128Ideal.main_arg0)
      ∧ m' ((c.tc : Thread Cert.Adamw62x128RefIdeal.nD Cert.Adamw62x128RefIdeal.τ).loc Cert.Adamw62x128RefIdeal.main_arg1) = m ((c.tc : Thread Cert.Adamw62x128Ideal.nD Cert.Adamw62x128Ideal.τ).loc Cert.Adamw62x128Ideal.main_arg1)
      ∧ m' ((c.tc : Thread Cert.Adamw62x128RefIdeal.nD Cert.Adamw62x128RefIdeal.τ).loc Cert.Adamw62x128RefIdeal.main_arg2) = m ((c.tc : Thread Cert.Adamw62x128Ideal.nD Cert.Adamw62x128Ideal.τ).loc Cert.Adamw62x128Ideal.main_arg2)
      ∧ m' ((c.tc : Thread Cert.Adamw62x128RefIdeal.nD Cert.Adamw62x128RefIdeal.τ).loc Cert.Adamw62x128RefIdeal.main_arg3) = m ((c.tc : Thread Cert.Adamw62x128Ideal.nD Cert.Adamw62x128Ideal.τ).loc Cert.Adamw62x128Ideal.main_arg3)) →
    ∃ (v0 : (c : Dev Cert.Adamw62x128Ideal.nD) → Buf (Elt Ideal) ((c.tc : Thread Cert.Adamw62x128Ideal.nD Cert.Adamw62x128Ideal.τ).loc Cert.Adamw62x128Ideal.main_v0_0)) (v1 : (c : Dev Cert.Adamw62x128Ideal.nD) → Buf (Elt Ideal) ((c.tc : Thread Cert.Adamw62x128Ideal.nD Cert.Adamw62x128Ideal.τ).loc Cert.Adamw62x128Ideal.main_v0_1)) (v2 : (c : Dev Cert.Adamw62x128Ideal.nD) → Buf (Elt Ideal) ((c.tc : Thread Cert.Adamw62x128Ideal.nD Cert.Adamw62x128Ideal.τ).loc Cert.Adamw62x128Ideal.main_v0_2)),
      θ_run (Cert.Adamw62x128Ideal.defs (F := Ideal)) (onTc (τ := Cert.Adamw62x128Ideal.τ) (Cert.Adamw62x128Ideal.main (F := Ideal))) ⟨m, fun _ => 0, g⟩ (fun r => ∀ c : Dev Cert.Adamw62x128Ideal.nD,
          r.2.mem ((c.tc : Thread Cert.Adamw62x128Ideal.nD Cert.Adamw62x128Ideal.τ).loc Cert.Adamw62x128Ideal.main_v0_0) = v0 c
          ∧ r.2.mem ((c.tc : Thread Cert.Adamw62x128Ideal.nD Cert.Adamw62x128Ideal.τ).loc Cert.Adamw62x128Ideal.main_v0_1) = v1 c
          ∧ r.2.mem ((c.tc : Thread Cert.Adamw62x128Ideal.nD Cert.Adamw62x128Ideal.τ).loc Cert.Adamw62x128Ideal.main_v0_2) = v2 c
          ∧ r.2.mem ((c.tc : Thread Cert.Adamw62x128Ideal.nD Cert.Adamw62x128Ideal.τ).loc Cert.Adamw62x128Ideal.main_arg0) = m ((c.tc : Thread Cert.Adamw62x128Ideal.nD Cert.Adamw62x128Ideal.τ).loc Cert.Adamw62x128Ideal.main_arg0)
          ∧ r.2.mem ((c.tc : Thread Cert.Adamw62x128Ideal.nD Cert.Adamw62x128Ideal.τ).loc Cert.Adamw62x128Ideal.main_arg1) = m ((c.tc : Thread Cert.Adamw62x128Ideal.nD Cert.Adamw62x128Ideal.τ).loc Cert.Adamw62x128Ideal.main_arg1)
          ∧ r.2.mem ((c.tc : Thread Cert.Adamw62x128Ideal.nD Cert.Adamw62x128Ideal.τ).loc Cert.Adamw62x128Ideal.main_arg2) = m ((c.tc : Thread Cert.Adamw62x128Ideal.nD Cert.Adamw62x128Ideal.τ).loc Cert.Adamw62x128Ideal.main_arg2)
          ∧ r.2.mem ((c.tc : Thread Cert.Adamw62x128Ideal.nD Cert.Adamw62x128Ideal.τ).loc Cert.Adamw62x128Ideal.main_arg3) = m ((c.tc : Thread Cert.Adamw62x128Ideal.nD Cert.Adamw62x128Ideal.τ).loc Cert.Adamw62x128Ideal.main_arg3))
      ∧ θ_run (Cert.Adamw62x128RefIdeal.defs (F := Ideal)) (onTc (τ := Cert.Adamw62x128RefIdeal.τ) (Cert.Adamw62x128RefIdeal.main (F := Ideal))) ⟨m', fun _ => 0, g'⟩ (fun r => ∀ c : Dev Cert.Adamw62x128RefIdeal.nD,
          r.2.mem ((c.tc : Thread Cert.Adamw62x128RefIdeal.nD Cert.Adamw62x128RefIdeal.τ).loc Cert.Adamw62x128RefIdeal.main_v23) = v0 c
          ∧ r.2.mem ((c.tc : Thread Cert.Adamw62x128RefIdeal.nD Cert.Adamw62x128RefIdeal.τ).loc Cert.Adamw62x128RefIdeal.main_v4) = v1 c
          ∧ r.2.mem ((c.tc : Thread Cert.Adamw62x128RefIdeal.nD Cert.Adamw62x128RefIdeal.τ).loc Cert.Adamw62x128RefIdeal.main_v10) = v2 c
          ∧ r.2.mem ((c.tc : Thread Cert.Adamw62x128RefIdeal.nD Cert.Adamw62x128RefIdeal.τ).loc Cert.Adamw62x128RefIdeal.main_arg0) = m' ((c.tc : Thread Cert.Adamw62x128RefIdeal.nD Cert.Adamw62x128RefIdeal.τ).loc Cert.Adamw62x128RefIdeal.main_arg0)
          ∧ r.2.mem ((c.tc : Thread Cert.Adamw62x128RefIdeal.nD Cert.Adamw62x128RefIdeal.τ).loc Cert.Adamw62x128RefIdeal.main_arg1) = m' ((c.tc : Thread Cert.Adamw62x128RefIdeal.nD Cert.Adamw62x128RefIdeal.τ).loc Cert.Adamw62x128RefIdeal.main_arg1)
          ∧ r.2.mem ((c.tc : Thread Cert.Adamw62x128RefIdeal.nD Cert.Adamw62x128RefIdeal.τ).loc Cert.Adamw62x128RefIdeal.main_arg2) = m' ((c.tc : Thread Cert.Adamw62x128RefIdeal.nD Cert.Adamw62x128RefIdeal.τ).loc Cert.Adamw62x128RefIdeal.main_arg2)
          ∧ r.2.mem ((c.tc : Thread Cert.Adamw62x128RefIdeal.nD Cert.Adamw62x128RefIdeal.τ).loc Cert.Adamw62x128RefIdeal.main_arg3) = m' ((c.tc : Thread Cert.Adamw62x128RefIdeal.nD Cert.Adamw62x128RefIdeal.τ).loc Cert.Adamw62x128RefIdeal.main_arg3))

def preserves_Adamw2x512_Adamw2x512Ideal : Prop :=
  True

def algebraic_Adamw2x512Ideal_Adamw2x512RefIdeal [hAdamw2x512Ideal : Cert.Adamw2x512Ideal.Facts] [hAdamw2x512RefIdeal : Cert.Adamw2x512RefIdeal.Facts] : Prop :=
  ∀ (m : (ℓ : Loc Cert.Adamw2x512Ideal.nD Cert.Adamw2x512Ideal.τ Cert.Adamw2x512Ideal.sig) → Buf (Elt Ideal) ℓ) (g : Dev Cert.Adamw2x512Ideal.nD → PrngReg)
    (m' : (ℓ : Loc Cert.Adamw2x512RefIdeal.nD Cert.Adamw2x512RefIdeal.τ Cert.Adamw2x512RefIdeal.sig) → Buf (Elt Ideal) ℓ) (g' : Dev Cert.Adamw2x512RefIdeal.nD → PrngReg), Pre_Adamw2x512Ideal m →
    (∀ c : Dev Cert.Adamw2x512Ideal.nD,
      m' ((c.tc : Thread Cert.Adamw2x512RefIdeal.nD Cert.Adamw2x512RefIdeal.τ).loc Cert.Adamw2x512RefIdeal.main_arg0) = m ((c.tc : Thread Cert.Adamw2x512Ideal.nD Cert.Adamw2x512Ideal.τ).loc Cert.Adamw2x512Ideal.main_arg0)
      ∧ m' ((c.tc : Thread Cert.Adamw2x512RefIdeal.nD Cert.Adamw2x512RefIdeal.τ).loc Cert.Adamw2x512RefIdeal.main_arg1) = m ((c.tc : Thread Cert.Adamw2x512Ideal.nD Cert.Adamw2x512Ideal.τ).loc Cert.Adamw2x512Ideal.main_arg1)
      ∧ m' ((c.tc : Thread Cert.Adamw2x512RefIdeal.nD Cert.Adamw2x512RefIdeal.τ).loc Cert.Adamw2x512RefIdeal.main_arg2) = m ((c.tc : Thread Cert.Adamw2x512Ideal.nD Cert.Adamw2x512Ideal.τ).loc Cert.Adamw2x512Ideal.main_arg2)
      ∧ m' ((c.tc : Thread Cert.Adamw2x512RefIdeal.nD Cert.Adamw2x512RefIdeal.τ).loc Cert.Adamw2x512RefIdeal.main_arg3) = m ((c.tc : Thread Cert.Adamw2x512Ideal.nD Cert.Adamw2x512Ideal.τ).loc Cert.Adamw2x512Ideal.main_arg3)) →
    ∃ (v0 : (c : Dev Cert.Adamw2x512Ideal.nD) → Buf (Elt Ideal) ((c.tc : Thread Cert.Adamw2x512Ideal.nD Cert.Adamw2x512Ideal.τ).loc Cert.Adamw2x512Ideal.main_v0_0)) (v1 : (c : Dev Cert.Adamw2x512Ideal.nD) → Buf (Elt Ideal) ((c.tc : Thread Cert.Adamw2x512Ideal.nD Cert.Adamw2x512Ideal.τ).loc Cert.Adamw2x512Ideal.main_v0_1)) (v2 : (c : Dev Cert.Adamw2x512Ideal.nD) → Buf (Elt Ideal) ((c.tc : Thread Cert.Adamw2x512Ideal.nD Cert.Adamw2x512Ideal.τ).loc Cert.Adamw2x512Ideal.main_v0_2)),
      θ_run (Cert.Adamw2x512Ideal.defs (F := Ideal)) (onTc (τ := Cert.Adamw2x512Ideal.τ) (Cert.Adamw2x512Ideal.main (F := Ideal))) ⟨m, fun _ => 0, g⟩ (fun r => ∀ c : Dev Cert.Adamw2x512Ideal.nD,
          r.2.mem ((c.tc : Thread Cert.Adamw2x512Ideal.nD Cert.Adamw2x512Ideal.τ).loc Cert.Adamw2x512Ideal.main_v0_0) = v0 c
          ∧ r.2.mem ((c.tc : Thread Cert.Adamw2x512Ideal.nD Cert.Adamw2x512Ideal.τ).loc Cert.Adamw2x512Ideal.main_v0_1) = v1 c
          ∧ r.2.mem ((c.tc : Thread Cert.Adamw2x512Ideal.nD Cert.Adamw2x512Ideal.τ).loc Cert.Adamw2x512Ideal.main_v0_2) = v2 c
          ∧ r.2.mem ((c.tc : Thread Cert.Adamw2x512Ideal.nD Cert.Adamw2x512Ideal.τ).loc Cert.Adamw2x512Ideal.main_arg0) = m ((c.tc : Thread Cert.Adamw2x512Ideal.nD Cert.Adamw2x512Ideal.τ).loc Cert.Adamw2x512Ideal.main_arg0)
          ∧ r.2.mem ((c.tc : Thread Cert.Adamw2x512Ideal.nD Cert.Adamw2x512Ideal.τ).loc Cert.Adamw2x512Ideal.main_arg1) = m ((c.tc : Thread Cert.Adamw2x512Ideal.nD Cert.Adamw2x512Ideal.τ).loc Cert.Adamw2x512Ideal.main_arg1)
          ∧ r.2.mem ((c.tc : Thread Cert.Adamw2x512Ideal.nD Cert.Adamw2x512Ideal.τ).loc Cert.Adamw2x512Ideal.main_arg2) = m ((c.tc : Thread Cert.Adamw2x512Ideal.nD Cert.Adamw2x512Ideal.τ).loc Cert.Adamw2x512Ideal.main_arg2)
          ∧ r.2.mem ((c.tc : Thread Cert.Adamw2x512Ideal.nD Cert.Adamw2x512Ideal.τ).loc Cert.Adamw2x512Ideal.main_arg3) = m ((c.tc : Thread Cert.Adamw2x512Ideal.nD Cert.Adamw2x512Ideal.τ).loc Cert.Adamw2x512Ideal.main_arg3))
      ∧ θ_run (Cert.Adamw2x512RefIdeal.defs (F := Ideal)) (onTc (τ := Cert.Adamw2x512RefIdeal.τ) (Cert.Adamw2x512RefIdeal.main (F := Ideal))) ⟨m', fun _ => 0, g'⟩ (fun r => ∀ c : Dev Cert.Adamw2x512RefIdeal.nD,
          r.2.mem ((c.tc : Thread Cert.Adamw2x512RefIdeal.nD Cert.Adamw2x512RefIdeal.τ).loc Cert.Adamw2x512RefIdeal.main_v23) = v0 c
          ∧ r.2.mem ((c.tc : Thread Cert.Adamw2x512RefIdeal.nD Cert.Adamw2x512RefIdeal.τ).loc Cert.Adamw2x512RefIdeal.main_v4) = v1 c
          ∧ r.2.mem ((c.tc : Thread Cert.Adamw2x512RefIdeal.nD Cert.Adamw2x512RefIdeal.τ).loc Cert.Adamw2x512RefIdeal.main_v10) = v2 c
          ∧ r.2.mem ((c.tc : Thread Cert.Adamw2x512RefIdeal.nD Cert.Adamw2x512RefIdeal.τ).loc Cert.Adamw2x512RefIdeal.main_arg0) = m' ((c.tc : Thread Cert.Adamw2x512RefIdeal.nD Cert.Adamw2x512RefIdeal.τ).loc Cert.Adamw2x512RefIdeal.main_arg0)
          ∧ r.2.mem ((c.tc : Thread Cert.Adamw2x512RefIdeal.nD Cert.Adamw2x512RefIdeal.τ).loc Cert.Adamw2x512RefIdeal.main_arg1) = m' ((c.tc : Thread Cert.Adamw2x512RefIdeal.nD Cert.Adamw2x512RefIdeal.τ).loc Cert.Adamw2x512RefIdeal.main_arg1)
          ∧ r.2.mem ((c.tc : Thread Cert.Adamw2x512RefIdeal.nD Cert.Adamw2x512RefIdeal.τ).loc Cert.Adamw2x512RefIdeal.main_arg2) = m' ((c.tc : Thread Cert.Adamw2x512RefIdeal.nD Cert.Adamw2x512RefIdeal.τ).loc Cert.Adamw2x512RefIdeal.main_arg2)
          ∧ r.2.mem ((c.tc : Thread Cert.Adamw2x512RefIdeal.nD Cert.Adamw2x512RefIdeal.τ).loc Cert.Adamw2x512RefIdeal.main_arg3) = m' ((c.tc : Thread Cert.Adamw2x512RefIdeal.nD Cert.Adamw2x512RefIdeal.τ).loc Cert.Adamw2x512RefIdeal.main_arg3))

def preserves_Adamw1024x256_Adamw1024x256Ideal : Prop :=
  True

def algebraic_Adamw1024x256Ideal_Adamw1024x256RefIdeal [hAdamw1024x256Ideal : Cert.Adamw1024x256Ideal.Facts] [hAdamw1024x256RefIdeal : Cert.Adamw1024x256RefIdeal.Facts] : Prop :=
  ∀ (m : (ℓ : Loc Cert.Adamw1024x256Ideal.nD Cert.Adamw1024x256Ideal.τ Cert.Adamw1024x256Ideal.sig) → Buf (Elt Ideal) ℓ) (g : Dev Cert.Adamw1024x256Ideal.nD → PrngReg)
    (m' : (ℓ : Loc Cert.Adamw1024x256RefIdeal.nD Cert.Adamw1024x256RefIdeal.τ Cert.Adamw1024x256RefIdeal.sig) → Buf (Elt Ideal) ℓ) (g' : Dev Cert.Adamw1024x256RefIdeal.nD → PrngReg), Pre_Adamw1024x256Ideal m →
    (∀ c : Dev Cert.Adamw1024x256Ideal.nD,
      m' ((c.tc : Thread Cert.Adamw1024x256RefIdeal.nD Cert.Adamw1024x256RefIdeal.τ).loc Cert.Adamw1024x256RefIdeal.main_arg0) = m ((c.tc : Thread Cert.Adamw1024x256Ideal.nD Cert.Adamw1024x256Ideal.τ).loc Cert.Adamw1024x256Ideal.main_arg0)
      ∧ m' ((c.tc : Thread Cert.Adamw1024x256RefIdeal.nD Cert.Adamw1024x256RefIdeal.τ).loc Cert.Adamw1024x256RefIdeal.main_arg1) = m ((c.tc : Thread Cert.Adamw1024x256Ideal.nD Cert.Adamw1024x256Ideal.τ).loc Cert.Adamw1024x256Ideal.main_arg1)
      ∧ m' ((c.tc : Thread Cert.Adamw1024x256RefIdeal.nD Cert.Adamw1024x256RefIdeal.τ).loc Cert.Adamw1024x256RefIdeal.main_arg2) = m ((c.tc : Thread Cert.Adamw1024x256Ideal.nD Cert.Adamw1024x256Ideal.τ).loc Cert.Adamw1024x256Ideal.main_arg2)
      ∧ m' ((c.tc : Thread Cert.Adamw1024x256RefIdeal.nD Cert.Adamw1024x256RefIdeal.τ).loc Cert.Adamw1024x256RefIdeal.main_arg3) = m ((c.tc : Thread Cert.Adamw1024x256Ideal.nD Cert.Adamw1024x256Ideal.τ).loc Cert.Adamw1024x256Ideal.main_arg3)) →
    ∃ (v0 : (c : Dev Cert.Adamw1024x256Ideal.nD) → Buf (Elt Ideal) ((c.tc : Thread Cert.Adamw1024x256Ideal.nD Cert.Adamw1024x256Ideal.τ).loc Cert.Adamw1024x256Ideal.main_v0_0)) (v1 : (c : Dev Cert.Adamw1024x256Ideal.nD) → Buf (Elt Ideal) ((c.tc : Thread Cert.Adamw1024x256Ideal.nD Cert.Adamw1024x256Ideal.τ).loc Cert.Adamw1024x256Ideal.main_v0_1)) (v2 : (c : Dev Cert.Adamw1024x256Ideal.nD) → Buf (Elt Ideal) ((c.tc : Thread Cert.Adamw1024x256Ideal.nD Cert.Adamw1024x256Ideal.τ).loc Cert.Adamw1024x256Ideal.main_v0_2)),
      θ_run (Cert.Adamw1024x256Ideal.defs (F := Ideal)) (onTc (τ := Cert.Adamw1024x256Ideal.τ) (Cert.Adamw1024x256Ideal.main (F := Ideal))) ⟨m, fun _ => 0, g⟩ (fun r => ∀ c : Dev Cert.Adamw1024x256Ideal.nD,
          r.2.mem ((c.tc : Thread Cert.Adamw1024x256Ideal.nD Cert.Adamw1024x256Ideal.τ).loc Cert.Adamw1024x256Ideal.main_v0_0) = v0 c
          ∧ r.2.mem ((c.tc : Thread Cert.Adamw1024x256Ideal.nD Cert.Adamw1024x256Ideal.τ).loc Cert.Adamw1024x256Ideal.main_v0_1) = v1 c
          ∧ r.2.mem ((c.tc : Thread Cert.Adamw1024x256Ideal.nD Cert.Adamw1024x256Ideal.τ).loc Cert.Adamw1024x256Ideal.main_v0_2) = v2 c
          ∧ r.2.mem ((c.tc : Thread Cert.Adamw1024x256Ideal.nD Cert.Adamw1024x256Ideal.τ).loc Cert.Adamw1024x256Ideal.main_arg0) = m ((c.tc : Thread Cert.Adamw1024x256Ideal.nD Cert.Adamw1024x256Ideal.τ).loc Cert.Adamw1024x256Ideal.main_arg0)
          ∧ r.2.mem ((c.tc : Thread Cert.Adamw1024x256Ideal.nD Cert.Adamw1024x256Ideal.τ).loc Cert.Adamw1024x256Ideal.main_arg1) = m ((c.tc : Thread Cert.Adamw1024x256Ideal.nD Cert.Adamw1024x256Ideal.τ).loc Cert.Adamw1024x256Ideal.main_arg1)
          ∧ r.2.mem ((c.tc : Thread Cert.Adamw1024x256Ideal.nD Cert.Adamw1024x256Ideal.τ).loc Cert.Adamw1024x256Ideal.main_arg2) = m ((c.tc : Thread Cert.Adamw1024x256Ideal.nD Cert.Adamw1024x256Ideal.τ).loc Cert.Adamw1024x256Ideal.main_arg2)
          ∧ r.2.mem ((c.tc : Thread Cert.Adamw1024x256Ideal.nD Cert.Adamw1024x256Ideal.τ).loc Cert.Adamw1024x256Ideal.main_arg3) = m ((c.tc : Thread Cert.Adamw1024x256Ideal.nD Cert.Adamw1024x256Ideal.τ).loc Cert.Adamw1024x256Ideal.main_arg3))
      ∧ θ_run (Cert.Adamw1024x256RefIdeal.defs (F := Ideal)) (onTc (τ := Cert.Adamw1024x256RefIdeal.τ) (Cert.Adamw1024x256RefIdeal.main (F := Ideal))) ⟨m', fun _ => 0, g'⟩ (fun r => ∀ c : Dev Cert.Adamw1024x256RefIdeal.nD,
          r.2.mem ((c.tc : Thread Cert.Adamw1024x256RefIdeal.nD Cert.Adamw1024x256RefIdeal.τ).loc Cert.Adamw1024x256RefIdeal.main_v23) = v0 c
          ∧ r.2.mem ((c.tc : Thread Cert.Adamw1024x256RefIdeal.nD Cert.Adamw1024x256RefIdeal.τ).loc Cert.Adamw1024x256RefIdeal.main_v4) = v1 c
          ∧ r.2.mem ((c.tc : Thread Cert.Adamw1024x256RefIdeal.nD Cert.Adamw1024x256RefIdeal.τ).loc Cert.Adamw1024x256RefIdeal.main_v10) = v2 c
          ∧ r.2.mem ((c.tc : Thread Cert.Adamw1024x256RefIdeal.nD Cert.Adamw1024x256RefIdeal.τ).loc Cert.Adamw1024x256RefIdeal.main_arg0) = m' ((c.tc : Thread Cert.Adamw1024x256RefIdeal.nD Cert.Adamw1024x256RefIdeal.τ).loc Cert.Adamw1024x256RefIdeal.main_arg0)
          ∧ r.2.mem ((c.tc : Thread Cert.Adamw1024x256RefIdeal.nD Cert.Adamw1024x256RefIdeal.τ).loc Cert.Adamw1024x256RefIdeal.main_arg1) = m' ((c.tc : Thread Cert.Adamw1024x256RefIdeal.nD Cert.Adamw1024x256RefIdeal.τ).loc Cert.Adamw1024x256RefIdeal.main_arg1)
          ∧ r.2.mem ((c.tc : Thread Cert.Adamw1024x256RefIdeal.nD Cert.Adamw1024x256RefIdeal.τ).loc Cert.Adamw1024x256RefIdeal.main_arg2) = m' ((c.tc : Thread Cert.Adamw1024x256RefIdeal.nD Cert.Adamw1024x256RefIdeal.τ).loc Cert.Adamw1024x256RefIdeal.main_arg2)
          ∧ r.2.mem ((c.tc : Thread Cert.Adamw1024x256RefIdeal.nD Cert.Adamw1024x256RefIdeal.τ).loc Cert.Adamw1024x256RefIdeal.main_arg3) = m' ((c.tc : Thread Cert.Adamw1024x256RefIdeal.nD Cert.Adamw1024x256RefIdeal.τ).loc Cert.Adamw1024x256RefIdeal.main_arg3))

def preserves_Adamw8x768_Adamw8x768Ideal : Prop :=
  True

def algebraic_Adamw8x768Ideal_Adamw8x768RefIdeal [hAdamw8x768Ideal : Cert.Adamw8x768Ideal.Facts] [hAdamw8x768RefIdeal : Cert.Adamw8x768RefIdeal.Facts] : Prop :=
  ∀ (m : (ℓ : Loc Cert.Adamw8x768Ideal.nD Cert.Adamw8x768Ideal.τ Cert.Adamw8x768Ideal.sig) → Buf (Elt Ideal) ℓ) (g : Dev Cert.Adamw8x768Ideal.nD → PrngReg)
    (m' : (ℓ : Loc Cert.Adamw8x768RefIdeal.nD Cert.Adamw8x768RefIdeal.τ Cert.Adamw8x768RefIdeal.sig) → Buf (Elt Ideal) ℓ) (g' : Dev Cert.Adamw8x768RefIdeal.nD → PrngReg), Pre_Adamw8x768Ideal m →
    (∀ c : Dev Cert.Adamw8x768Ideal.nD,
      m' ((c.tc : Thread Cert.Adamw8x768RefIdeal.nD Cert.Adamw8x768RefIdeal.τ).loc Cert.Adamw8x768RefIdeal.main_arg0) = m ((c.tc : Thread Cert.Adamw8x768Ideal.nD Cert.Adamw8x768Ideal.τ).loc Cert.Adamw8x768Ideal.main_arg0)
      ∧ m' ((c.tc : Thread Cert.Adamw8x768RefIdeal.nD Cert.Adamw8x768RefIdeal.τ).loc Cert.Adamw8x768RefIdeal.main_arg1) = m ((c.tc : Thread Cert.Adamw8x768Ideal.nD Cert.Adamw8x768Ideal.τ).loc Cert.Adamw8x768Ideal.main_arg1)
      ∧ m' ((c.tc : Thread Cert.Adamw8x768RefIdeal.nD Cert.Adamw8x768RefIdeal.τ).loc Cert.Adamw8x768RefIdeal.main_arg2) = m ((c.tc : Thread Cert.Adamw8x768Ideal.nD Cert.Adamw8x768Ideal.τ).loc Cert.Adamw8x768Ideal.main_arg2)
      ∧ m' ((c.tc : Thread Cert.Adamw8x768RefIdeal.nD Cert.Adamw8x768RefIdeal.τ).loc Cert.Adamw8x768RefIdeal.main_arg3) = m ((c.tc : Thread Cert.Adamw8x768Ideal.nD Cert.Adamw8x768Ideal.τ).loc Cert.Adamw8x768Ideal.main_arg3)) →
    ∃ (v0 : (c : Dev Cert.Adamw8x768Ideal.nD) → Buf (Elt Ideal) ((c.tc : Thread Cert.Adamw8x768Ideal.nD Cert.Adamw8x768Ideal.τ).loc Cert.Adamw8x768Ideal.main_v0_0)) (v1 : (c : Dev Cert.Adamw8x768Ideal.nD) → Buf (Elt Ideal) ((c.tc : Thread Cert.Adamw8x768Ideal.nD Cert.Adamw8x768Ideal.τ).loc Cert.Adamw8x768Ideal.main_v0_1)) (v2 : (c : Dev Cert.Adamw8x768Ideal.nD) → Buf (Elt Ideal) ((c.tc : Thread Cert.Adamw8x768Ideal.nD Cert.Adamw8x768Ideal.τ).loc Cert.Adamw8x768Ideal.main_v0_2)),
      θ_run (Cert.Adamw8x768Ideal.defs (F := Ideal)) (onTc (τ := Cert.Adamw8x768Ideal.τ) (Cert.Adamw8x768Ideal.main (F := Ideal))) ⟨m, fun _ => 0, g⟩ (fun r => ∀ c : Dev Cert.Adamw8x768Ideal.nD,
          r.2.mem ((c.tc : Thread Cert.Adamw8x768Ideal.nD Cert.Adamw8x768Ideal.τ).loc Cert.Adamw8x768Ideal.main_v0_0) = v0 c
          ∧ r.2.mem ((c.tc : Thread Cert.Adamw8x768Ideal.nD Cert.Adamw8x768Ideal.τ).loc Cert.Adamw8x768Ideal.main_v0_1) = v1 c
          ∧ r.2.mem ((c.tc : Thread Cert.Adamw8x768Ideal.nD Cert.Adamw8x768Ideal.τ).loc Cert.Adamw8x768Ideal.main_v0_2) = v2 c
          ∧ r.2.mem ((c.tc : Thread Cert.Adamw8x768Ideal.nD Cert.Adamw8x768Ideal.τ).loc Cert.Adamw8x768Ideal.main_arg0) = m ((c.tc : Thread Cert.Adamw8x768Ideal.nD Cert.Adamw8x768Ideal.τ).loc Cert.Adamw8x768Ideal.main_arg0)
          ∧ r.2.mem ((c.tc : Thread Cert.Adamw8x768Ideal.nD Cert.Adamw8x768Ideal.τ).loc Cert.Adamw8x768Ideal.main_arg1) = m ((c.tc : Thread Cert.Adamw8x768Ideal.nD Cert.Adamw8x768Ideal.τ).loc Cert.Adamw8x768Ideal.main_arg1)
          ∧ r.2.mem ((c.tc : Thread Cert.Adamw8x768Ideal.nD Cert.Adamw8x768Ideal.τ).loc Cert.Adamw8x768Ideal.main_arg2) = m ((c.tc : Thread Cert.Adamw8x768Ideal.nD Cert.Adamw8x768Ideal.τ).loc Cert.Adamw8x768Ideal.main_arg2)
          ∧ r.2.mem ((c.tc : Thread Cert.Adamw8x768Ideal.nD Cert.Adamw8x768Ideal.τ).loc Cert.Adamw8x768Ideal.main_arg3) = m ((c.tc : Thread Cert.Adamw8x768Ideal.nD Cert.Adamw8x768Ideal.τ).loc Cert.Adamw8x768Ideal.main_arg3))
      ∧ θ_run (Cert.Adamw8x768RefIdeal.defs (F := Ideal)) (onTc (τ := Cert.Adamw8x768RefIdeal.τ) (Cert.Adamw8x768RefIdeal.main (F := Ideal))) ⟨m', fun _ => 0, g'⟩ (fun r => ∀ c : Dev Cert.Adamw8x768RefIdeal.nD,
          r.2.mem ((c.tc : Thread Cert.Adamw8x768RefIdeal.nD Cert.Adamw8x768RefIdeal.τ).loc Cert.Adamw8x768RefIdeal.main_v23) = v0 c
          ∧ r.2.mem ((c.tc : Thread Cert.Adamw8x768RefIdeal.nD Cert.Adamw8x768RefIdeal.τ).loc Cert.Adamw8x768RefIdeal.main_v4) = v1 c
          ∧ r.2.mem ((c.tc : Thread Cert.Adamw8x768RefIdeal.nD Cert.Adamw8x768RefIdeal.τ).loc Cert.Adamw8x768RefIdeal.main_v10) = v2 c
          ∧ r.2.mem ((c.tc : Thread Cert.Adamw8x768RefIdeal.nD Cert.Adamw8x768RefIdeal.τ).loc Cert.Adamw8x768RefIdeal.main_arg0) = m' ((c.tc : Thread Cert.Adamw8x768RefIdeal.nD Cert.Adamw8x768RefIdeal.τ).loc Cert.Adamw8x768RefIdeal.main_arg0)
          ∧ r.2.mem ((c.tc : Thread Cert.Adamw8x768RefIdeal.nD Cert.Adamw8x768RefIdeal.τ).loc Cert.Adamw8x768RefIdeal.main_arg1) = m' ((c.tc : Thread Cert.Adamw8x768RefIdeal.nD Cert.Adamw8x768RefIdeal.τ).loc Cert.Adamw8x768RefIdeal.main_arg1)
          ∧ r.2.mem ((c.tc : Thread Cert.Adamw8x768RefIdeal.nD Cert.Adamw8x768RefIdeal.τ).loc Cert.Adamw8x768RefIdeal.main_arg2) = m' ((c.tc : Thread Cert.Adamw8x768RefIdeal.nD Cert.Adamw8x768RefIdeal.τ).loc Cert.Adamw8x768RefIdeal.main_arg2)
          ∧ r.2.mem ((c.tc : Thread Cert.Adamw8x768RefIdeal.nD Cert.Adamw8x768RefIdeal.τ).loc Cert.Adamw8x768RefIdeal.main_arg3) = m' ((c.tc : Thread Cert.Adamw8x768RefIdeal.nD Cert.Adamw8x768RefIdeal.τ).loc Cert.Adamw8x768RefIdeal.main_arg3))

def preserves_Adamw2x8_Adamw2x8Ideal : Prop :=
  True

def algebraic_Adamw2x8Ideal_Adamw2x8RefIdeal [hAdamw2x8Ideal : Cert.Adamw2x8Ideal.Facts] [hAdamw2x8RefIdeal : Cert.Adamw2x8RefIdeal.Facts] : Prop :=
  ∀ (m : (ℓ : Loc Cert.Adamw2x8Ideal.nD Cert.Adamw2x8Ideal.τ Cert.Adamw2x8Ideal.sig) → Buf (Elt Ideal) ℓ) (g : Dev Cert.Adamw2x8Ideal.nD → PrngReg)
    (m' : (ℓ : Loc Cert.Adamw2x8RefIdeal.nD Cert.Adamw2x8RefIdeal.τ Cert.Adamw2x8RefIdeal.sig) → Buf (Elt Ideal) ℓ) (g' : Dev Cert.Adamw2x8RefIdeal.nD → PrngReg), Pre_Adamw2x8Ideal m →
    (∀ c : Dev Cert.Adamw2x8Ideal.nD,
      m' ((c.tc : Thread Cert.Adamw2x8RefIdeal.nD Cert.Adamw2x8RefIdeal.τ).loc Cert.Adamw2x8RefIdeal.main_arg0) = m ((c.tc : Thread Cert.Adamw2x8Ideal.nD Cert.Adamw2x8Ideal.τ).loc Cert.Adamw2x8Ideal.main_arg0)
      ∧ m' ((c.tc : Thread Cert.Adamw2x8RefIdeal.nD Cert.Adamw2x8RefIdeal.τ).loc Cert.Adamw2x8RefIdeal.main_arg1) = m ((c.tc : Thread Cert.Adamw2x8Ideal.nD Cert.Adamw2x8Ideal.τ).loc Cert.Adamw2x8Ideal.main_arg1)
      ∧ m' ((c.tc : Thread Cert.Adamw2x8RefIdeal.nD Cert.Adamw2x8RefIdeal.τ).loc Cert.Adamw2x8RefIdeal.main_arg2) = m ((c.tc : Thread Cert.Adamw2x8Ideal.nD Cert.Adamw2x8Ideal.τ).loc Cert.Adamw2x8Ideal.main_arg2)
      ∧ m' ((c.tc : Thread Cert.Adamw2x8RefIdeal.nD Cert.Adamw2x8RefIdeal.τ).loc Cert.Adamw2x8RefIdeal.main_arg3) = m ((c.tc : Thread Cert.Adamw2x8Ideal.nD Cert.Adamw2x8Ideal.τ).loc Cert.Adamw2x8Ideal.main_arg3)) →
    ∃ (v0 : (c : Dev Cert.Adamw2x8Ideal.nD) → Buf (Elt Ideal) ((c.tc : Thread Cert.Adamw2x8Ideal.nD Cert.Adamw2x8Ideal.τ).loc Cert.Adamw2x8Ideal.main_v0_0)) (v1 : (c : Dev Cert.Adamw2x8Ideal.nD) → Buf (Elt Ideal) ((c.tc : Thread Cert.Adamw2x8Ideal.nD Cert.Adamw2x8Ideal.τ).loc Cert.Adamw2x8Ideal.main_v0_1)) (v2 : (c : Dev Cert.Adamw2x8Ideal.nD) → Buf (Elt Ideal) ((c.tc : Thread Cert.Adamw2x8Ideal.nD Cert.Adamw2x8Ideal.τ).loc Cert.Adamw2x8Ideal.main_v0_2)),
      θ_run (Cert.Adamw2x8Ideal.defs (F := Ideal)) (onTc (τ := Cert.Adamw2x8Ideal.τ) (Cert.Adamw2x8Ideal.main (F := Ideal))) ⟨m, fun _ => 0, g⟩ (fun r => ∀ c : Dev Cert.Adamw2x8Ideal.nD,
          r.2.mem ((c.tc : Thread Cert.Adamw2x8Ideal.nD Cert.Adamw2x8Ideal.τ).loc Cert.Adamw2x8Ideal.main_v0_0) = v0 c
          ∧ r.2.mem ((c.tc : Thread Cert.Adamw2x8Ideal.nD Cert.Adamw2x8Ideal.τ).loc Cert.Adamw2x8Ideal.main_v0_1) = v1 c
          ∧ r.2.mem ((c.tc : Thread Cert.Adamw2x8Ideal.nD Cert.Adamw2x8Ideal.τ).loc Cert.Adamw2x8Ideal.main_v0_2) = v2 c
          ∧ r.2.mem ((c.tc : Thread Cert.Adamw2x8Ideal.nD Cert.Adamw2x8Ideal.τ).loc Cert.Adamw2x8Ideal.main_arg0) = m ((c.tc : Thread Cert.Adamw2x8Ideal.nD Cert.Adamw2x8Ideal.τ).loc Cert.Adamw2x8Ideal.main_arg0)
          ∧ r.2.mem ((c.tc : Thread Cert.Adamw2x8Ideal.nD Cert.Adamw2x8Ideal.τ).loc Cert.Adamw2x8Ideal.main_arg1) = m ((c.tc : Thread Cert.Adamw2x8Ideal.nD Cert.Adamw2x8Ideal.τ).loc Cert.Adamw2x8Ideal.main_arg1)
          ∧ r.2.mem ((c.tc : Thread Cert.Adamw2x8Ideal.nD Cert.Adamw2x8Ideal.τ).loc Cert.Adamw2x8Ideal.main_arg2) = m ((c.tc : Thread Cert.Adamw2x8Ideal.nD Cert.Adamw2x8Ideal.τ).loc Cert.Adamw2x8Ideal.main_arg2)
          ∧ r.2.mem ((c.tc : Thread Cert.Adamw2x8Ideal.nD Cert.Adamw2x8Ideal.τ).loc Cert.Adamw2x8Ideal.main_arg3) = m ((c.tc : Thread Cert.Adamw2x8Ideal.nD Cert.Adamw2x8Ideal.τ).loc Cert.Adamw2x8Ideal.main_arg3))
      ∧ θ_run (Cert.Adamw2x8RefIdeal.defs (F := Ideal)) (onTc (τ := Cert.Adamw2x8RefIdeal.τ) (Cert.Adamw2x8RefIdeal.main (F := Ideal))) ⟨m', fun _ => 0, g'⟩ (fun r => ∀ c : Dev Cert.Adamw2x8RefIdeal.nD,
          r.2.mem ((c.tc : Thread Cert.Adamw2x8RefIdeal.nD Cert.Adamw2x8RefIdeal.τ).loc Cert.Adamw2x8RefIdeal.main_v23) = v0 c
          ∧ r.2.mem ((c.tc : Thread Cert.Adamw2x8RefIdeal.nD Cert.Adamw2x8RefIdeal.τ).loc Cert.Adamw2x8RefIdeal.main_v4) = v1 c
          ∧ r.2.mem ((c.tc : Thread Cert.Adamw2x8RefIdeal.nD Cert.Adamw2x8RefIdeal.τ).loc Cert.Adamw2x8RefIdeal.main_v10) = v2 c
          ∧ r.2.mem ((c.tc : Thread Cert.Adamw2x8RefIdeal.nD Cert.Adamw2x8RefIdeal.τ).loc Cert.Adamw2x8RefIdeal.main_arg0) = m' ((c.tc : Thread Cert.Adamw2x8RefIdeal.nD Cert.Adamw2x8RefIdeal.τ).loc Cert.Adamw2x8RefIdeal.main_arg0)
          ∧ r.2.mem ((c.tc : Thread Cert.Adamw2x8RefIdeal.nD Cert.Adamw2x8RefIdeal.τ).loc Cert.Adamw2x8RefIdeal.main_arg1) = m' ((c.tc : Thread Cert.Adamw2x8RefIdeal.nD Cert.Adamw2x8RefIdeal.τ).loc Cert.Adamw2x8RefIdeal.main_arg1)
          ∧ r.2.mem ((c.tc : Thread Cert.Adamw2x8RefIdeal.nD Cert.Adamw2x8RefIdeal.τ).loc Cert.Adamw2x8RefIdeal.main_arg2) = m' ((c.tc : Thread Cert.Adamw2x8RefIdeal.nD Cert.Adamw2x8RefIdeal.τ).loc Cert.Adamw2x8RefIdeal.main_arg2)
          ∧ r.2.mem ((c.tc : Thread Cert.Adamw2x8RefIdeal.nD Cert.Adamw2x8RefIdeal.τ).loc Cert.Adamw2x8RefIdeal.main_arg3) = m' ((c.tc : Thread Cert.Adamw2x8RefIdeal.nD Cert.Adamw2x8RefIdeal.τ).loc Cert.Adamw2x8RefIdeal.main_arg3))

def preserves_Adamw2x128_Adamw2x128Ideal : Prop :=
  True

def algebraic_Adamw2x128Ideal_Adamw2x128RefIdeal [hAdamw2x128Ideal : Cert.Adamw2x128Ideal.Facts] [hAdamw2x128RefIdeal : Cert.Adamw2x128RefIdeal.Facts] : Prop :=
  ∀ (m : (ℓ : Loc Cert.Adamw2x128Ideal.nD Cert.Adamw2x128Ideal.τ Cert.Adamw2x128Ideal.sig) → Buf (Elt Ideal) ℓ) (g : Dev Cert.Adamw2x128Ideal.nD → PrngReg)
    (m' : (ℓ : Loc Cert.Adamw2x128RefIdeal.nD Cert.Adamw2x128RefIdeal.τ Cert.Adamw2x128RefIdeal.sig) → Buf (Elt Ideal) ℓ) (g' : Dev Cert.Adamw2x128RefIdeal.nD → PrngReg), Pre_Adamw2x128Ideal m →
    (∀ c : Dev Cert.Adamw2x128Ideal.nD,
      m' ((c.tc : Thread Cert.Adamw2x128RefIdeal.nD Cert.Adamw2x128RefIdeal.τ).loc Cert.Adamw2x128RefIdeal.main_arg0) = m ((c.tc : Thread Cert.Adamw2x128Ideal.nD Cert.Adamw2x128Ideal.τ).loc Cert.Adamw2x128Ideal.main_arg0)
      ∧ m' ((c.tc : Thread Cert.Adamw2x128RefIdeal.nD Cert.Adamw2x128RefIdeal.τ).loc Cert.Adamw2x128RefIdeal.main_arg1) = m ((c.tc : Thread Cert.Adamw2x128Ideal.nD Cert.Adamw2x128Ideal.τ).loc Cert.Adamw2x128Ideal.main_arg1)
      ∧ m' ((c.tc : Thread Cert.Adamw2x128RefIdeal.nD Cert.Adamw2x128RefIdeal.τ).loc Cert.Adamw2x128RefIdeal.main_arg2) = m ((c.tc : Thread Cert.Adamw2x128Ideal.nD Cert.Adamw2x128Ideal.τ).loc Cert.Adamw2x128Ideal.main_arg2)
      ∧ m' ((c.tc : Thread Cert.Adamw2x128RefIdeal.nD Cert.Adamw2x128RefIdeal.τ).loc Cert.Adamw2x128RefIdeal.main_arg3) = m ((c.tc : Thread Cert.Adamw2x128Ideal.nD Cert.Adamw2x128Ideal.τ).loc Cert.Adamw2x128Ideal.main_arg3)) →
    ∃ (v0 : (c : Dev Cert.Adamw2x128Ideal.nD) → Buf (Elt Ideal) ((c.tc : Thread Cert.Adamw2x128Ideal.nD Cert.Adamw2x128Ideal.τ).loc Cert.Adamw2x128Ideal.main_v0_0)) (v1 : (c : Dev Cert.Adamw2x128Ideal.nD) → Buf (Elt Ideal) ((c.tc : Thread Cert.Adamw2x128Ideal.nD Cert.Adamw2x128Ideal.τ).loc Cert.Adamw2x128Ideal.main_v0_1)) (v2 : (c : Dev Cert.Adamw2x128Ideal.nD) → Buf (Elt Ideal) ((c.tc : Thread Cert.Adamw2x128Ideal.nD Cert.Adamw2x128Ideal.τ).loc Cert.Adamw2x128Ideal.main_v0_2)),
      θ_run (Cert.Adamw2x128Ideal.defs (F := Ideal)) (onTc (τ := Cert.Adamw2x128Ideal.τ) (Cert.Adamw2x128Ideal.main (F := Ideal))) ⟨m, fun _ => 0, g⟩ (fun r => ∀ c : Dev Cert.Adamw2x128Ideal.nD,
          r.2.mem ((c.tc : Thread Cert.Adamw2x128Ideal.nD Cert.Adamw2x128Ideal.τ).loc Cert.Adamw2x128Ideal.main_v0_0) = v0 c
          ∧ r.2.mem ((c.tc : Thread Cert.Adamw2x128Ideal.nD Cert.Adamw2x128Ideal.τ).loc Cert.Adamw2x128Ideal.main_v0_1) = v1 c
          ∧ r.2.mem ((c.tc : Thread Cert.Adamw2x128Ideal.nD Cert.Adamw2x128Ideal.τ).loc Cert.Adamw2x128Ideal.main_v0_2) = v2 c
          ∧ r.2.mem ((c.tc : Thread Cert.Adamw2x128Ideal.nD Cert.Adamw2x128Ideal.τ).loc Cert.Adamw2x128Ideal.main_arg0) = m ((c.tc : Thread Cert.Adamw2x128Ideal.nD Cert.Adamw2x128Ideal.τ).loc Cert.Adamw2x128Ideal.main_arg0)
          ∧ r.2.mem ((c.tc : Thread Cert.Adamw2x128Ideal.nD Cert.Adamw2x128Ideal.τ).loc Cert.Adamw2x128Ideal.main_arg1) = m ((c.tc : Thread Cert.Adamw2x128Ideal.nD Cert.Adamw2x128Ideal.τ).loc Cert.Adamw2x128Ideal.main_arg1)
          ∧ r.2.mem ((c.tc : Thread Cert.Adamw2x128Ideal.nD Cert.Adamw2x128Ideal.τ).loc Cert.Adamw2x128Ideal.main_arg2) = m ((c.tc : Thread Cert.Adamw2x128Ideal.nD Cert.Adamw2x128Ideal.τ).loc Cert.Adamw2x128Ideal.main_arg2)
          ∧ r.2.mem ((c.tc : Thread Cert.Adamw2x128Ideal.nD Cert.Adamw2x128Ideal.τ).loc Cert.Adamw2x128Ideal.main_arg3) = m ((c.tc : Thread Cert.Adamw2x128Ideal.nD Cert.Adamw2x128Ideal.τ).loc Cert.Adamw2x128Ideal.main_arg3))
      ∧ θ_run (Cert.Adamw2x128RefIdeal.defs (F := Ideal)) (onTc (τ := Cert.Adamw2x128RefIdeal.τ) (Cert.Adamw2x128RefIdeal.main (F := Ideal))) ⟨m', fun _ => 0, g'⟩ (fun r => ∀ c : Dev Cert.Adamw2x128RefIdeal.nD,
          r.2.mem ((c.tc : Thread Cert.Adamw2x128RefIdeal.nD Cert.Adamw2x128RefIdeal.τ).loc Cert.Adamw2x128RefIdeal.main_v23) = v0 c
          ∧ r.2.mem ((c.tc : Thread Cert.Adamw2x128RefIdeal.nD Cert.Adamw2x128RefIdeal.τ).loc Cert.Adamw2x128RefIdeal.main_v4) = v1 c
          ∧ r.2.mem ((c.tc : Thread Cert.Adamw2x128RefIdeal.nD Cert.Adamw2x128RefIdeal.τ).loc Cert.Adamw2x128RefIdeal.main_v10) = v2 c
          ∧ r.2.mem ((c.tc : Thread Cert.Adamw2x128RefIdeal.nD Cert.Adamw2x128RefIdeal.τ).loc Cert.Adamw2x128RefIdeal.main_arg0) = m' ((c.tc : Thread Cert.Adamw2x128RefIdeal.nD Cert.Adamw2x128RefIdeal.τ).loc Cert.Adamw2x128RefIdeal.main_arg0)
          ∧ r.2.mem ((c.tc : Thread Cert.Adamw2x128RefIdeal.nD Cert.Adamw2x128RefIdeal.τ).loc Cert.Adamw2x128RefIdeal.main_arg1) = m' ((c.tc : Thread Cert.Adamw2x128RefIdeal.nD Cert.Adamw2x128RefIdeal.τ).loc Cert.Adamw2x128RefIdeal.main_arg1)
          ∧ r.2.mem ((c.tc : Thread Cert.Adamw2x128RefIdeal.nD Cert.Adamw2x128RefIdeal.τ).loc Cert.Adamw2x128RefIdeal.main_arg2) = m' ((c.tc : Thread Cert.Adamw2x128RefIdeal.nD Cert.Adamw2x128RefIdeal.τ).loc Cert.Adamw2x128RefIdeal.main_arg2)
          ∧ r.2.mem ((c.tc : Thread Cert.Adamw2x128RefIdeal.nD Cert.Adamw2x128RefIdeal.τ).loc Cert.Adamw2x128RefIdeal.main_arg3) = m' ((c.tc : Thread Cert.Adamw2x128RefIdeal.nD Cert.Adamw2x128RefIdeal.τ).loc Cert.Adamw2x128RefIdeal.main_arg3))

def preserves_Adamw512x1024_Adamw512x1024Ideal : Prop :=
  True

def algebraic_Adamw512x1024Ideal_Adamw512x1024RefIdeal [hAdamw512x1024Ideal : Cert.Adamw512x1024Ideal.Facts] [hAdamw512x1024RefIdeal : Cert.Adamw512x1024RefIdeal.Facts] : Prop :=
  ∀ (m : (ℓ : Loc Cert.Adamw512x1024Ideal.nD Cert.Adamw512x1024Ideal.τ Cert.Adamw512x1024Ideal.sig) → Buf (Elt Ideal) ℓ) (g : Dev Cert.Adamw512x1024Ideal.nD → PrngReg)
    (m' : (ℓ : Loc Cert.Adamw512x1024RefIdeal.nD Cert.Adamw512x1024RefIdeal.τ Cert.Adamw512x1024RefIdeal.sig) → Buf (Elt Ideal) ℓ) (g' : Dev Cert.Adamw512x1024RefIdeal.nD → PrngReg), Pre_Adamw512x1024Ideal m →
    (∀ c : Dev Cert.Adamw512x1024Ideal.nD,
      m' ((c.tc : Thread Cert.Adamw512x1024RefIdeal.nD Cert.Adamw512x1024RefIdeal.τ).loc Cert.Adamw512x1024RefIdeal.main_arg0) = m ((c.tc : Thread Cert.Adamw512x1024Ideal.nD Cert.Adamw512x1024Ideal.τ).loc Cert.Adamw512x1024Ideal.main_arg0)
      ∧ m' ((c.tc : Thread Cert.Adamw512x1024RefIdeal.nD Cert.Adamw512x1024RefIdeal.τ).loc Cert.Adamw512x1024RefIdeal.main_arg1) = m ((c.tc : Thread Cert.Adamw512x1024Ideal.nD Cert.Adamw512x1024Ideal.τ).loc Cert.Adamw512x1024Ideal.main_arg1)
      ∧ m' ((c.tc : Thread Cert.Adamw512x1024RefIdeal.nD Cert.Adamw512x1024RefIdeal.τ).loc Cert.Adamw512x1024RefIdeal.main_arg2) = m ((c.tc : Thread Cert.Adamw512x1024Ideal.nD Cert.Adamw512x1024Ideal.τ).loc Cert.Adamw512x1024Ideal.main_arg2)
      ∧ m' ((c.tc : Thread Cert.Adamw512x1024RefIdeal.nD Cert.Adamw512x1024RefIdeal.τ).loc Cert.Adamw512x1024RefIdeal.main_arg3) = m ((c.tc : Thread Cert.Adamw512x1024Ideal.nD Cert.Adamw512x1024Ideal.τ).loc Cert.Adamw512x1024Ideal.main_arg3)) →
    ∃ (v0 : (c : Dev Cert.Adamw512x1024Ideal.nD) → Buf (Elt Ideal) ((c.tc : Thread Cert.Adamw512x1024Ideal.nD Cert.Adamw512x1024Ideal.τ).loc Cert.Adamw512x1024Ideal.main_v0_0)) (v1 : (c : Dev Cert.Adamw512x1024Ideal.nD) → Buf (Elt Ideal) ((c.tc : Thread Cert.Adamw512x1024Ideal.nD Cert.Adamw512x1024Ideal.τ).loc Cert.Adamw512x1024Ideal.main_v0_1)) (v2 : (c : Dev Cert.Adamw512x1024Ideal.nD) → Buf (Elt Ideal) ((c.tc : Thread Cert.Adamw512x1024Ideal.nD Cert.Adamw512x1024Ideal.τ).loc Cert.Adamw512x1024Ideal.main_v0_2)),
      θ_run (Cert.Adamw512x1024Ideal.defs (F := Ideal)) (onTc (τ := Cert.Adamw512x1024Ideal.τ) (Cert.Adamw512x1024Ideal.main (F := Ideal))) ⟨m, fun _ => 0, g⟩ (fun r => ∀ c : Dev Cert.Adamw512x1024Ideal.nD,
          r.2.mem ((c.tc : Thread Cert.Adamw512x1024Ideal.nD Cert.Adamw512x1024Ideal.τ).loc Cert.Adamw512x1024Ideal.main_v0_0) = v0 c
          ∧ r.2.mem ((c.tc : Thread Cert.Adamw512x1024Ideal.nD Cert.Adamw512x1024Ideal.τ).loc Cert.Adamw512x1024Ideal.main_v0_1) = v1 c
          ∧ r.2.mem ((c.tc : Thread Cert.Adamw512x1024Ideal.nD Cert.Adamw512x1024Ideal.τ).loc Cert.Adamw512x1024Ideal.main_v0_2) = v2 c
          ∧ r.2.mem ((c.tc : Thread Cert.Adamw512x1024Ideal.nD Cert.Adamw512x1024Ideal.τ).loc Cert.Adamw512x1024Ideal.main_arg0) = m ((c.tc : Thread Cert.Adamw512x1024Ideal.nD Cert.Adamw512x1024Ideal.τ).loc Cert.Adamw512x1024Ideal.main_arg0)
          ∧ r.2.mem ((c.tc : Thread Cert.Adamw512x1024Ideal.nD Cert.Adamw512x1024Ideal.τ).loc Cert.Adamw512x1024Ideal.main_arg1) = m ((c.tc : Thread Cert.Adamw512x1024Ideal.nD Cert.Adamw512x1024Ideal.τ).loc Cert.Adamw512x1024Ideal.main_arg1)
          ∧ r.2.mem ((c.tc : Thread Cert.Adamw512x1024Ideal.nD Cert.Adamw512x1024Ideal.τ).loc Cert.Adamw512x1024Ideal.main_arg2) = m ((c.tc : Thread Cert.Adamw512x1024Ideal.nD Cert.Adamw512x1024Ideal.τ).loc Cert.Adamw512x1024Ideal.main_arg2)
          ∧ r.2.mem ((c.tc : Thread Cert.Adamw512x1024Ideal.nD Cert.Adamw512x1024Ideal.τ).loc Cert.Adamw512x1024Ideal.main_arg3) = m ((c.tc : Thread Cert.Adamw512x1024Ideal.nD Cert.Adamw512x1024Ideal.τ).loc Cert.Adamw512x1024Ideal.main_arg3))
      ∧ θ_run (Cert.Adamw512x1024RefIdeal.defs (F := Ideal)) (onTc (τ := Cert.Adamw512x1024RefIdeal.τ) (Cert.Adamw512x1024RefIdeal.main (F := Ideal))) ⟨m', fun _ => 0, g'⟩ (fun r => ∀ c : Dev Cert.Adamw512x1024RefIdeal.nD,
          r.2.mem ((c.tc : Thread Cert.Adamw512x1024RefIdeal.nD Cert.Adamw512x1024RefIdeal.τ).loc Cert.Adamw512x1024RefIdeal.main_v23) = v0 c
          ∧ r.2.mem ((c.tc : Thread Cert.Adamw512x1024RefIdeal.nD Cert.Adamw512x1024RefIdeal.τ).loc Cert.Adamw512x1024RefIdeal.main_v4) = v1 c
          ∧ r.2.mem ((c.tc : Thread Cert.Adamw512x1024RefIdeal.nD Cert.Adamw512x1024RefIdeal.τ).loc Cert.Adamw512x1024RefIdeal.main_v10) = v2 c
          ∧ r.2.mem ((c.tc : Thread Cert.Adamw512x1024RefIdeal.nD Cert.Adamw512x1024RefIdeal.τ).loc Cert.Adamw512x1024RefIdeal.main_arg0) = m' ((c.tc : Thread Cert.Adamw512x1024RefIdeal.nD Cert.Adamw512x1024RefIdeal.τ).loc Cert.Adamw512x1024RefIdeal.main_arg0)
          ∧ r.2.mem ((c.tc : Thread Cert.Adamw512x1024RefIdeal.nD Cert.Adamw512x1024RefIdeal.τ).loc Cert.Adamw512x1024RefIdeal.main_arg1) = m' ((c.tc : Thread Cert.Adamw512x1024RefIdeal.nD Cert.Adamw512x1024RefIdeal.τ).loc Cert.Adamw512x1024RefIdeal.main_arg1)
          ∧ r.2.mem ((c.tc : Thread Cert.Adamw512x1024RefIdeal.nD Cert.Adamw512x1024RefIdeal.τ).loc Cert.Adamw512x1024RefIdeal.main_arg2) = m' ((c.tc : Thread Cert.Adamw512x1024RefIdeal.nD Cert.Adamw512x1024RefIdeal.τ).loc Cert.Adamw512x1024RefIdeal.main_arg2)
          ∧ r.2.mem ((c.tc : Thread Cert.Adamw512x1024RefIdeal.nD Cert.Adamw512x1024RefIdeal.τ).loc Cert.Adamw512x1024RefIdeal.main_arg3) = m' ((c.tc : Thread Cert.Adamw512x1024RefIdeal.nD Cert.Adamw512x1024RefIdeal.τ).loc Cert.Adamw512x1024RefIdeal.main_arg3))

def preserves_Adamw1024x128_Adamw1024x128Ideal : Prop :=
  True

def algebraic_Adamw1024x128Ideal_Adamw1024x128RefIdeal [hAdamw1024x128Ideal : Cert.Adamw1024x128Ideal.Facts] [hAdamw1024x128RefIdeal : Cert.Adamw1024x128RefIdeal.Facts] : Prop :=
  ∀ (m : (ℓ : Loc Cert.Adamw1024x128Ideal.nD Cert.Adamw1024x128Ideal.τ Cert.Adamw1024x128Ideal.sig) → Buf (Elt Ideal) ℓ) (g : Dev Cert.Adamw1024x128Ideal.nD → PrngReg)
    (m' : (ℓ : Loc Cert.Adamw1024x128RefIdeal.nD Cert.Adamw1024x128RefIdeal.τ Cert.Adamw1024x128RefIdeal.sig) → Buf (Elt Ideal) ℓ) (g' : Dev Cert.Adamw1024x128RefIdeal.nD → PrngReg), Pre_Adamw1024x128Ideal m →
    (∀ c : Dev Cert.Adamw1024x128Ideal.nD,
      m' ((c.tc : Thread Cert.Adamw1024x128RefIdeal.nD Cert.Adamw1024x128RefIdeal.τ).loc Cert.Adamw1024x128RefIdeal.main_arg0) = m ((c.tc : Thread Cert.Adamw1024x128Ideal.nD Cert.Adamw1024x128Ideal.τ).loc Cert.Adamw1024x128Ideal.main_arg0)
      ∧ m' ((c.tc : Thread Cert.Adamw1024x128RefIdeal.nD Cert.Adamw1024x128RefIdeal.τ).loc Cert.Adamw1024x128RefIdeal.main_arg1) = m ((c.tc : Thread Cert.Adamw1024x128Ideal.nD Cert.Adamw1024x128Ideal.τ).loc Cert.Adamw1024x128Ideal.main_arg1)
      ∧ m' ((c.tc : Thread Cert.Adamw1024x128RefIdeal.nD Cert.Adamw1024x128RefIdeal.τ).loc Cert.Adamw1024x128RefIdeal.main_arg2) = m ((c.tc : Thread Cert.Adamw1024x128Ideal.nD Cert.Adamw1024x128Ideal.τ).loc Cert.Adamw1024x128Ideal.main_arg2)
      ∧ m' ((c.tc : Thread Cert.Adamw1024x128RefIdeal.nD Cert.Adamw1024x128RefIdeal.τ).loc Cert.Adamw1024x128RefIdeal.main_arg3) = m ((c.tc : Thread Cert.Adamw1024x128Ideal.nD Cert.Adamw1024x128Ideal.τ).loc Cert.Adamw1024x128Ideal.main_arg3)) →
    ∃ (v0 : (c : Dev Cert.Adamw1024x128Ideal.nD) → Buf (Elt Ideal) ((c.tc : Thread Cert.Adamw1024x128Ideal.nD Cert.Adamw1024x128Ideal.τ).loc Cert.Adamw1024x128Ideal.main_v0_0)) (v1 : (c : Dev Cert.Adamw1024x128Ideal.nD) → Buf (Elt Ideal) ((c.tc : Thread Cert.Adamw1024x128Ideal.nD Cert.Adamw1024x128Ideal.τ).loc Cert.Adamw1024x128Ideal.main_v0_1)) (v2 : (c : Dev Cert.Adamw1024x128Ideal.nD) → Buf (Elt Ideal) ((c.tc : Thread Cert.Adamw1024x128Ideal.nD Cert.Adamw1024x128Ideal.τ).loc Cert.Adamw1024x128Ideal.main_v0_2)),
      θ_run (Cert.Adamw1024x128Ideal.defs (F := Ideal)) (onTc (τ := Cert.Adamw1024x128Ideal.τ) (Cert.Adamw1024x128Ideal.main (F := Ideal))) ⟨m, fun _ => 0, g⟩ (fun r => ∀ c : Dev Cert.Adamw1024x128Ideal.nD,
          r.2.mem ((c.tc : Thread Cert.Adamw1024x128Ideal.nD Cert.Adamw1024x128Ideal.τ).loc Cert.Adamw1024x128Ideal.main_v0_0) = v0 c
          ∧ r.2.mem ((c.tc : Thread Cert.Adamw1024x128Ideal.nD Cert.Adamw1024x128Ideal.τ).loc Cert.Adamw1024x128Ideal.main_v0_1) = v1 c
          ∧ r.2.mem ((c.tc : Thread Cert.Adamw1024x128Ideal.nD Cert.Adamw1024x128Ideal.τ).loc Cert.Adamw1024x128Ideal.main_v0_2) = v2 c
          ∧ r.2.mem ((c.tc : Thread Cert.Adamw1024x128Ideal.nD Cert.Adamw1024x128Ideal.τ).loc Cert.Adamw1024x128Ideal.main_arg0) = m ((c.tc : Thread Cert.Adamw1024x128Ideal.nD Cert.Adamw1024x128Ideal.τ).loc Cert.Adamw1024x128Ideal.main_arg0)
          ∧ r.2.mem ((c.tc : Thread Cert.Adamw1024x128Ideal.nD Cert.Adamw1024x128Ideal.τ).loc Cert.Adamw1024x128Ideal.main_arg1) = m ((c.tc : Thread Cert.Adamw1024x128Ideal.nD Cert.Adamw1024x128Ideal.τ).loc Cert.Adamw1024x128Ideal.main_arg1)
          ∧ r.2.mem ((c.tc : Thread Cert.Adamw1024x128Ideal.nD Cert.Adamw1024x128Ideal.τ).loc Cert.Adamw1024x128Ideal.main_arg2) = m ((c.tc : Thread Cert.Adamw1024x128Ideal.nD Cert.Adamw1024x128Ideal.τ).loc Cert.Adamw1024x128Ideal.main_arg2)
          ∧ r.2.mem ((c.tc : Thread Cert.Adamw1024x128Ideal.nD Cert.Adamw1024x128Ideal.τ).loc Cert.Adamw1024x128Ideal.main_arg3) = m ((c.tc : Thread Cert.Adamw1024x128Ideal.nD Cert.Adamw1024x128Ideal.τ).loc Cert.Adamw1024x128Ideal.main_arg3))
      ∧ θ_run (Cert.Adamw1024x128RefIdeal.defs (F := Ideal)) (onTc (τ := Cert.Adamw1024x128RefIdeal.τ) (Cert.Adamw1024x128RefIdeal.main (F := Ideal))) ⟨m', fun _ => 0, g'⟩ (fun r => ∀ c : Dev Cert.Adamw1024x128RefIdeal.nD,
          r.2.mem ((c.tc : Thread Cert.Adamw1024x128RefIdeal.nD Cert.Adamw1024x128RefIdeal.τ).loc Cert.Adamw1024x128RefIdeal.main_v23) = v0 c
          ∧ r.2.mem ((c.tc : Thread Cert.Adamw1024x128RefIdeal.nD Cert.Adamw1024x128RefIdeal.τ).loc Cert.Adamw1024x128RefIdeal.main_v4) = v1 c
          ∧ r.2.mem ((c.tc : Thread Cert.Adamw1024x128RefIdeal.nD Cert.Adamw1024x128RefIdeal.τ).loc Cert.Adamw1024x128RefIdeal.main_v10) = v2 c
          ∧ r.2.mem ((c.tc : Thread Cert.Adamw1024x128RefIdeal.nD Cert.Adamw1024x128RefIdeal.τ).loc Cert.Adamw1024x128RefIdeal.main_arg0) = m' ((c.tc : Thread Cert.Adamw1024x128RefIdeal.nD Cert.Adamw1024x128RefIdeal.τ).loc Cert.Adamw1024x128RefIdeal.main_arg0)
          ∧ r.2.mem ((c.tc : Thread Cert.Adamw1024x128RefIdeal.nD Cert.Adamw1024x128RefIdeal.τ).loc Cert.Adamw1024x128RefIdeal.main_arg1) = m' ((c.tc : Thread Cert.Adamw1024x128RefIdeal.nD Cert.Adamw1024x128RefIdeal.τ).loc Cert.Adamw1024x128RefIdeal.main_arg1)
          ∧ r.2.mem ((c.tc : Thread Cert.Adamw1024x128RefIdeal.nD Cert.Adamw1024x128RefIdeal.τ).loc Cert.Adamw1024x128RefIdeal.main_arg2) = m' ((c.tc : Thread Cert.Adamw1024x128RefIdeal.nD Cert.Adamw1024x128RefIdeal.τ).loc Cert.Adamw1024x128RefIdeal.main_arg2)
          ∧ r.2.mem ((c.tc : Thread Cert.Adamw1024x128RefIdeal.nD Cert.Adamw1024x128RefIdeal.τ).loc Cert.Adamw1024x128RefIdeal.main_arg3) = m' ((c.tc : Thread Cert.Adamw1024x128RefIdeal.nD Cert.Adamw1024x128RefIdeal.τ).loc Cert.Adamw1024x128RefIdeal.main_arg3))

def preserves_Adamw8x128_Adamw8x128Ideal : Prop :=
  True

def algebraic_Adamw8x128Ideal_Adamw8x128RefIdeal [hAdamw8x128Ideal : Cert.Adamw8x128Ideal.Facts] [hAdamw8x128RefIdeal : Cert.Adamw8x128RefIdeal.Facts] : Prop :=
  ∀ (m : (ℓ : Loc Cert.Adamw8x128Ideal.nD Cert.Adamw8x128Ideal.τ Cert.Adamw8x128Ideal.sig) → Buf (Elt Ideal) ℓ) (g : Dev Cert.Adamw8x128Ideal.nD → PrngReg)
    (m' : (ℓ : Loc Cert.Adamw8x128RefIdeal.nD Cert.Adamw8x128RefIdeal.τ Cert.Adamw8x128RefIdeal.sig) → Buf (Elt Ideal) ℓ) (g' : Dev Cert.Adamw8x128RefIdeal.nD → PrngReg), Pre_Adamw8x128Ideal m →
    (∀ c : Dev Cert.Adamw8x128Ideal.nD,
      m' ((c.tc : Thread Cert.Adamw8x128RefIdeal.nD Cert.Adamw8x128RefIdeal.τ).loc Cert.Adamw8x128RefIdeal.main_arg0) = m ((c.tc : Thread Cert.Adamw8x128Ideal.nD Cert.Adamw8x128Ideal.τ).loc Cert.Adamw8x128Ideal.main_arg0)
      ∧ m' ((c.tc : Thread Cert.Adamw8x128RefIdeal.nD Cert.Adamw8x128RefIdeal.τ).loc Cert.Adamw8x128RefIdeal.main_arg1) = m ((c.tc : Thread Cert.Adamw8x128Ideal.nD Cert.Adamw8x128Ideal.τ).loc Cert.Adamw8x128Ideal.main_arg1)
      ∧ m' ((c.tc : Thread Cert.Adamw8x128RefIdeal.nD Cert.Adamw8x128RefIdeal.τ).loc Cert.Adamw8x128RefIdeal.main_arg2) = m ((c.tc : Thread Cert.Adamw8x128Ideal.nD Cert.Adamw8x128Ideal.τ).loc Cert.Adamw8x128Ideal.main_arg2)
      ∧ m' ((c.tc : Thread Cert.Adamw8x128RefIdeal.nD Cert.Adamw8x128RefIdeal.τ).loc Cert.Adamw8x128RefIdeal.main_arg3) = m ((c.tc : Thread Cert.Adamw8x128Ideal.nD Cert.Adamw8x128Ideal.τ).loc Cert.Adamw8x128Ideal.main_arg3)) →
    ∃ (v0 : (c : Dev Cert.Adamw8x128Ideal.nD) → Buf (Elt Ideal) ((c.tc : Thread Cert.Adamw8x128Ideal.nD Cert.Adamw8x128Ideal.τ).loc Cert.Adamw8x128Ideal.main_v0_0)) (v1 : (c : Dev Cert.Adamw8x128Ideal.nD) → Buf (Elt Ideal) ((c.tc : Thread Cert.Adamw8x128Ideal.nD Cert.Adamw8x128Ideal.τ).loc Cert.Adamw8x128Ideal.main_v0_1)) (v2 : (c : Dev Cert.Adamw8x128Ideal.nD) → Buf (Elt Ideal) ((c.tc : Thread Cert.Adamw8x128Ideal.nD Cert.Adamw8x128Ideal.τ).loc Cert.Adamw8x128Ideal.main_v0_2)),
      θ_run (Cert.Adamw8x128Ideal.defs (F := Ideal)) (onTc (τ := Cert.Adamw8x128Ideal.τ) (Cert.Adamw8x128Ideal.main (F := Ideal))) ⟨m, fun _ => 0, g⟩ (fun r => ∀ c : Dev Cert.Adamw8x128Ideal.nD,
          r.2.mem ((c.tc : Thread Cert.Adamw8x128Ideal.nD Cert.Adamw8x128Ideal.τ).loc Cert.Adamw8x128Ideal.main_v0_0) = v0 c
          ∧ r.2.mem ((c.tc : Thread Cert.Adamw8x128Ideal.nD Cert.Adamw8x128Ideal.τ).loc Cert.Adamw8x128Ideal.main_v0_1) = v1 c
          ∧ r.2.mem ((c.tc : Thread Cert.Adamw8x128Ideal.nD Cert.Adamw8x128Ideal.τ).loc Cert.Adamw8x128Ideal.main_v0_2) = v2 c
          ∧ r.2.mem ((c.tc : Thread Cert.Adamw8x128Ideal.nD Cert.Adamw8x128Ideal.τ).loc Cert.Adamw8x128Ideal.main_arg0) = m ((c.tc : Thread Cert.Adamw8x128Ideal.nD Cert.Adamw8x128Ideal.τ).loc Cert.Adamw8x128Ideal.main_arg0)
          ∧ r.2.mem ((c.tc : Thread Cert.Adamw8x128Ideal.nD Cert.Adamw8x128Ideal.τ).loc Cert.Adamw8x128Ideal.main_arg1) = m ((c.tc : Thread Cert.Adamw8x128Ideal.nD Cert.Adamw8x128Ideal.τ).loc Cert.Adamw8x128Ideal.main_arg1)
          ∧ r.2.mem ((c.tc : Thread Cert.Adamw8x128Ideal.nD Cert.Adamw8x128Ideal.τ).loc Cert.Adamw8x128Ideal.main_arg2) = m ((c.tc : Thread Cert.Adamw8x128Ideal.nD Cert.Adamw8x128Ideal.τ).loc Cert.Adamw8x128Ideal.main_arg2)
          ∧ r.2.mem ((c.tc : Thread Cert.Adamw8x128Ideal.nD Cert.Adamw8x128Ideal.τ).loc Cert.Adamw8x128Ideal.main_arg3) = m ((c.tc : Thread Cert.Adamw8x128Ideal.nD Cert.Adamw8x128Ideal.τ).loc Cert.Adamw8x128Ideal.main_arg3))
      ∧ θ_run (Cert.Adamw8x128RefIdeal.defs (F := Ideal)) (onTc (τ := Cert.Adamw8x128RefIdeal.τ) (Cert.Adamw8x128RefIdeal.main (F := Ideal))) ⟨m', fun _ => 0, g'⟩ (fun r => ∀ c : Dev Cert.Adamw8x128RefIdeal.nD,
          r.2.mem ((c.tc : Thread Cert.Adamw8x128RefIdeal.nD Cert.Adamw8x128RefIdeal.τ).loc Cert.Adamw8x128RefIdeal.main_v23) = v0 c
          ∧ r.2.mem ((c.tc : Thread Cert.Adamw8x128RefIdeal.nD Cert.Adamw8x128RefIdeal.τ).loc Cert.Adamw8x128RefIdeal.main_v4) = v1 c
          ∧ r.2.mem ((c.tc : Thread Cert.Adamw8x128RefIdeal.nD Cert.Adamw8x128RefIdeal.τ).loc Cert.Adamw8x128RefIdeal.main_v10) = v2 c
          ∧ r.2.mem ((c.tc : Thread Cert.Adamw8x128RefIdeal.nD Cert.Adamw8x128RefIdeal.τ).loc Cert.Adamw8x128RefIdeal.main_arg0) = m' ((c.tc : Thread Cert.Adamw8x128RefIdeal.nD Cert.Adamw8x128RefIdeal.τ).loc Cert.Adamw8x128RefIdeal.main_arg0)
          ∧ r.2.mem ((c.tc : Thread Cert.Adamw8x128RefIdeal.nD Cert.Adamw8x128RefIdeal.τ).loc Cert.Adamw8x128RefIdeal.main_arg1) = m' ((c.tc : Thread Cert.Adamw8x128RefIdeal.nD Cert.Adamw8x128RefIdeal.τ).loc Cert.Adamw8x128RefIdeal.main_arg1)
          ∧ r.2.mem ((c.tc : Thread Cert.Adamw8x128RefIdeal.nD Cert.Adamw8x128RefIdeal.τ).loc Cert.Adamw8x128RefIdeal.main_arg2) = m' ((c.tc : Thread Cert.Adamw8x128RefIdeal.nD Cert.Adamw8x128RefIdeal.τ).loc Cert.Adamw8x128RefIdeal.main_arg2)
          ∧ r.2.mem ((c.tc : Thread Cert.Adamw8x128RefIdeal.nD Cert.Adamw8x128RefIdeal.τ).loc Cert.Adamw8x128RefIdeal.main_arg3) = m' ((c.tc : Thread Cert.Adamw8x128RefIdeal.nD Cert.Adamw8x128RefIdeal.τ).loc Cert.Adamw8x128RefIdeal.main_arg3))

def preserves_Adamw1x1024_Adamw1x1024Ideal : Prop :=
  True

def algebraic_Adamw1x1024Ideal_Adamw1x1024RefIdeal [hAdamw1x1024Ideal : Cert.Adamw1x1024Ideal.Facts] [hAdamw1x1024RefIdeal : Cert.Adamw1x1024RefIdeal.Facts] : Prop :=
  ∀ (m : (ℓ : Loc Cert.Adamw1x1024Ideal.nD Cert.Adamw1x1024Ideal.τ Cert.Adamw1x1024Ideal.sig) → Buf (Elt Ideal) ℓ) (g : Dev Cert.Adamw1x1024Ideal.nD → PrngReg)
    (m' : (ℓ : Loc Cert.Adamw1x1024RefIdeal.nD Cert.Adamw1x1024RefIdeal.τ Cert.Adamw1x1024RefIdeal.sig) → Buf (Elt Ideal) ℓ) (g' : Dev Cert.Adamw1x1024RefIdeal.nD → PrngReg), Pre_Adamw1x1024Ideal m →
    (∀ c : Dev Cert.Adamw1x1024Ideal.nD,
      m' ((c.tc : Thread Cert.Adamw1x1024RefIdeal.nD Cert.Adamw1x1024RefIdeal.τ).loc Cert.Adamw1x1024RefIdeal.main_arg0) = m ((c.tc : Thread Cert.Adamw1x1024Ideal.nD Cert.Adamw1x1024Ideal.τ).loc Cert.Adamw1x1024Ideal.main_arg0)
      ∧ m' ((c.tc : Thread Cert.Adamw1x1024RefIdeal.nD Cert.Adamw1x1024RefIdeal.τ).loc Cert.Adamw1x1024RefIdeal.main_arg1) = m ((c.tc : Thread Cert.Adamw1x1024Ideal.nD Cert.Adamw1x1024Ideal.τ).loc Cert.Adamw1x1024Ideal.main_arg1)
      ∧ m' ((c.tc : Thread Cert.Adamw1x1024RefIdeal.nD Cert.Adamw1x1024RefIdeal.τ).loc Cert.Adamw1x1024RefIdeal.main_arg2) = m ((c.tc : Thread Cert.Adamw1x1024Ideal.nD Cert.Adamw1x1024Ideal.τ).loc Cert.Adamw1x1024Ideal.main_arg2)
      ∧ m' ((c.tc : Thread Cert.Adamw1x1024RefIdeal.nD Cert.Adamw1x1024RefIdeal.τ).loc Cert.Adamw1x1024RefIdeal.main_arg3) = m ((c.tc : Thread Cert.Adamw1x1024Ideal.nD Cert.Adamw1x1024Ideal.τ).loc Cert.Adamw1x1024Ideal.main_arg3)) →
    ∃ (v0 : (c : Dev Cert.Adamw1x1024Ideal.nD) → Buf (Elt Ideal) ((c.tc : Thread Cert.Adamw1x1024Ideal.nD Cert.Adamw1x1024Ideal.τ).loc Cert.Adamw1x1024Ideal.main_v0_0)) (v1 : (c : Dev Cert.Adamw1x1024Ideal.nD) → Buf (Elt Ideal) ((c.tc : Thread Cert.Adamw1x1024Ideal.nD Cert.Adamw1x1024Ideal.τ).loc Cert.Adamw1x1024Ideal.main_v0_1)) (v2 : (c : Dev Cert.Adamw1x1024Ideal.nD) → Buf (Elt Ideal) ((c.tc : Thread Cert.Adamw1x1024Ideal.nD Cert.Adamw1x1024Ideal.τ).loc Cert.Adamw1x1024Ideal.main_v0_2)),
      θ_run (Cert.Adamw1x1024Ideal.defs (F := Ideal)) (onTc (τ := Cert.Adamw1x1024Ideal.τ) (Cert.Adamw1x1024Ideal.main (F := Ideal))) ⟨m, fun _ => 0, g⟩ (fun r => ∀ c : Dev Cert.Adamw1x1024Ideal.nD,
          r.2.mem ((c.tc : Thread Cert.Adamw1x1024Ideal.nD Cert.Adamw1x1024Ideal.τ).loc Cert.Adamw1x1024Ideal.main_v0_0) = v0 c
          ∧ r.2.mem ((c.tc : Thread Cert.Adamw1x1024Ideal.nD Cert.Adamw1x1024Ideal.τ).loc Cert.Adamw1x1024Ideal.main_v0_1) = v1 c
          ∧ r.2.mem ((c.tc : Thread Cert.Adamw1x1024Ideal.nD Cert.Adamw1x1024Ideal.τ).loc Cert.Adamw1x1024Ideal.main_v0_2) = v2 c
          ∧ r.2.mem ((c.tc : Thread Cert.Adamw1x1024Ideal.nD Cert.Adamw1x1024Ideal.τ).loc Cert.Adamw1x1024Ideal.main_arg0) = m ((c.tc : Thread Cert.Adamw1x1024Ideal.nD Cert.Adamw1x1024Ideal.τ).loc Cert.Adamw1x1024Ideal.main_arg0)
          ∧ r.2.mem ((c.tc : Thread Cert.Adamw1x1024Ideal.nD Cert.Adamw1x1024Ideal.τ).loc Cert.Adamw1x1024Ideal.main_arg1) = m ((c.tc : Thread Cert.Adamw1x1024Ideal.nD Cert.Adamw1x1024Ideal.τ).loc Cert.Adamw1x1024Ideal.main_arg1)
          ∧ r.2.mem ((c.tc : Thread Cert.Adamw1x1024Ideal.nD Cert.Adamw1x1024Ideal.τ).loc Cert.Adamw1x1024Ideal.main_arg2) = m ((c.tc : Thread Cert.Adamw1x1024Ideal.nD Cert.Adamw1x1024Ideal.τ).loc Cert.Adamw1x1024Ideal.main_arg2)
          ∧ r.2.mem ((c.tc : Thread Cert.Adamw1x1024Ideal.nD Cert.Adamw1x1024Ideal.τ).loc Cert.Adamw1x1024Ideal.main_arg3) = m ((c.tc : Thread Cert.Adamw1x1024Ideal.nD Cert.Adamw1x1024Ideal.τ).loc Cert.Adamw1x1024Ideal.main_arg3))
      ∧ θ_run (Cert.Adamw1x1024RefIdeal.defs (F := Ideal)) (onTc (τ := Cert.Adamw1x1024RefIdeal.τ) (Cert.Adamw1x1024RefIdeal.main (F := Ideal))) ⟨m', fun _ => 0, g'⟩ (fun r => ∀ c : Dev Cert.Adamw1x1024RefIdeal.nD,
          r.2.mem ((c.tc : Thread Cert.Adamw1x1024RefIdeal.nD Cert.Adamw1x1024RefIdeal.τ).loc Cert.Adamw1x1024RefIdeal.main_v23) = v0 c
          ∧ r.2.mem ((c.tc : Thread Cert.Adamw1x1024RefIdeal.nD Cert.Adamw1x1024RefIdeal.τ).loc Cert.Adamw1x1024RefIdeal.main_v4) = v1 c
          ∧ r.2.mem ((c.tc : Thread Cert.Adamw1x1024RefIdeal.nD Cert.Adamw1x1024RefIdeal.τ).loc Cert.Adamw1x1024RefIdeal.main_v10) = v2 c
          ∧ r.2.mem ((c.tc : Thread Cert.Adamw1x1024RefIdeal.nD Cert.Adamw1x1024RefIdeal.τ).loc Cert.Adamw1x1024RefIdeal.main_arg0) = m' ((c.tc : Thread Cert.Adamw1x1024RefIdeal.nD Cert.Adamw1x1024RefIdeal.τ).loc Cert.Adamw1x1024RefIdeal.main_arg0)
          ∧ r.2.mem ((c.tc : Thread Cert.Adamw1x1024RefIdeal.nD Cert.Adamw1x1024RefIdeal.τ).loc Cert.Adamw1x1024RefIdeal.main_arg1) = m' ((c.tc : Thread Cert.Adamw1x1024RefIdeal.nD Cert.Adamw1x1024RefIdeal.τ).loc Cert.Adamw1x1024RefIdeal.main_arg1)
          ∧ r.2.mem ((c.tc : Thread Cert.Adamw1x1024RefIdeal.nD Cert.Adamw1x1024RefIdeal.τ).loc Cert.Adamw1x1024RefIdeal.main_arg2) = m' ((c.tc : Thread Cert.Adamw1x1024RefIdeal.nD Cert.Adamw1x1024RefIdeal.τ).loc Cert.Adamw1x1024RefIdeal.main_arg2)
          ∧ r.2.mem ((c.tc : Thread Cert.Adamw1x1024RefIdeal.nD Cert.Adamw1x1024RefIdeal.τ).loc Cert.Adamw1x1024RefIdeal.main_arg3) = m' ((c.tc : Thread Cert.Adamw1x1024RefIdeal.nD Cert.Adamw1x1024RefIdeal.τ).loc Cert.Adamw1x1024RefIdeal.main_arg3))

def Claim : Prop :=
  ∃ (hGather : Cert.Gather.Facts) (hGatherIdeal : Cert.GatherIdeal.Facts) (hGatherRefIdeal : Cert.GatherRefIdeal.Facts) (hGatherRef : Cert.GatherRef.Facts) (hPartials : Cert.Partials.Facts) (hPartialsIdeal : Cert.PartialsIdeal.Facts) (hPartialsRefIdeal : Cert.PartialsRefIdeal.Facts) (hPartialsRef : Cert.PartialsRef.Facts) (hScatter : Cert.Scatter.Facts) (hScatterIdeal : Cert.ScatterIdeal.Facts) (hScatterRefIdeal : Cert.ScatterRefIdeal.Facts) (hScatterRef : Cert.ScatterRef.Facts) (hResult : Cert.Result.Facts) (hResultIdeal : Cert.ResultIdeal.Facts) (hResultRefIdeal : Cert.ResultRefIdeal.Facts) (hResultRef : Cert.ResultRef.Facts) (hGrads : Cert.Grads.Facts) (hGradsIdeal : Cert.GradsIdeal.Facts) (hGradsRefIdeal : Cert.GradsRefIdeal.Facts) (hGradsRef : Cert.GradsRef.Facts) (hPairSum : Cert.PairSum.Facts) (hPairSumIdeal : Cert.PairSumIdeal.Facts) (hPairSumRefIdeal : Cert.PairSumRefIdeal.Facts) (hPairSumRef : Cert.PairSumRef.Facts) (hChipSum : Cert.ChipSum.Facts) (hChipSumIdeal : Cert.ChipSumIdeal.Facts) (hChipSumRefIdeal : Cert.ChipSumRefIdeal.Facts) (hDx : Cert.Dx.Facts) (hDxIdeal : Cert.DxIdeal.Facts) (hDxRefIdeal : Cert.DxRefIdeal.Facts) (hLossHead : Cert.LossHead.Facts) (hLossHeadIdeal : Cert.LossHeadIdeal.Facts) (hLossHeadRefIdeal : Cert.LossHeadRefIdeal.Facts) (hNorm : Cert.Norm.Facts) (hNormIdeal : Cert.NormIdeal.Facts) (hNormRefIdeal : Cert.NormRefIdeal.Facts) (hProj : Cert.Proj.Facts) (hProjIdeal : Cert.ProjIdeal.Facts) (hProjRefIdeal : Cert.ProjRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hMerge : Cert.Merge.Facts) (hMergeIdeal : Cert.MergeIdeal.Facts) (hMergeRefIdeal : Cert.MergeRefIdeal.Facts) (hAdamw2x1024 : Cert.Adamw2x1024.Facts) (hAdamw2x1024Ideal : Cert.Adamw2x1024Ideal.Facts) (hAdamw2x1024RefIdeal : Cert.Adamw2x1024RefIdeal.Facts) (hAdamw2048x2564 : Cert.Adamw2048x2564.Facts) (hAdamw2048x2564Ideal : Cert.Adamw2048x2564Ideal.Facts) (hAdamw2048x2564RefIdeal : Cert.Adamw2048x2564RefIdeal.Facts) (hAdamw62x128 : Cert.Adamw62x128.Facts) (hAdamw62x128Ideal : Cert.Adamw62x128Ideal.Facts) (hAdamw62x128RefIdeal : Cert.Adamw62x128RefIdeal.Facts) (hAdamw2x512 : Cert.Adamw2x512.Facts) (hAdamw2x512Ideal : Cert.Adamw2x512Ideal.Facts) (hAdamw2x512RefIdeal : Cert.Adamw2x512RefIdeal.Facts) (hAdamw1024x256 : Cert.Adamw1024x256.Facts) (hAdamw1024x256Ideal : Cert.Adamw1024x256Ideal.Facts) (hAdamw1024x256RefIdeal : Cert.Adamw1024x256RefIdeal.Facts) (hAdamw8x768 : Cert.Adamw8x768.Facts) (hAdamw8x768Ideal : Cert.Adamw8x768Ideal.Facts) (hAdamw8x768RefIdeal : Cert.Adamw8x768RefIdeal.Facts) (hAdamw2x8 : Cert.Adamw2x8.Facts) (hAdamw2x8Ideal : Cert.Adamw2x8Ideal.Facts) (hAdamw2x8RefIdeal : Cert.Adamw2x8RefIdeal.Facts) (hAdamw2x128 : Cert.Adamw2x128.Facts) (hAdamw2x128Ideal : Cert.Adamw2x128Ideal.Facts) (hAdamw2x128RefIdeal : Cert.Adamw2x128RefIdeal.Facts) (hAdamw512x1024 : Cert.Adamw512x1024.Facts) (hAdamw512x1024Ideal : Cert.Adamw512x1024Ideal.Facts) (hAdamw512x1024RefIdeal : Cert.Adamw512x1024RefIdeal.Facts) (hAdamw1024x128 : Cert.Adamw1024x128.Facts) (hAdamw1024x128Ideal : Cert.Adamw1024x128Ideal.Facts) (hAdamw1024x128RefIdeal : Cert.Adamw1024x128RefIdeal.Facts) (hAdamw8x128 : Cert.Adamw8x128.Facts) (hAdamw8x128Ideal : Cert.Adamw8x128Ideal.Facts) (hAdamw8x128RefIdeal : Cert.Adamw8x128RefIdeal.Facts) (hAdamw1x1024 : Cert.Adamw1x1024.Facts) (hAdamw1x1024Ideal : Cert.Adamw1x1024Ideal.Facts) (hAdamw1x1024RefIdeal : Cert.Adamw1x1024RefIdeal.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Partials (hPartials := hPartials)
    ∧ quiescent_PartialsIdeal (hPartialsIdeal := hPartialsIdeal)
    ∧ quiescent_PartialsRefIdeal (hPartialsRefIdeal := hPartialsRefIdeal)
    ∧ quiescent_PartialsRef (hPartialsRef := hPartialsRef)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Result (hResult := hResult)
    ∧ quiescent_ResultIdeal (hResultIdeal := hResultIdeal)
    ∧ quiescent_ResultRefIdeal (hResultRefIdeal := hResultRefIdeal)
    ∧ quiescent_ResultRef (hResultRef := hResultRef)
    ∧ quiescent_Grads (hGrads := hGrads)
    ∧ quiescent_GradsIdeal (hGradsIdeal := hGradsIdeal)
    ∧ quiescent_GradsRefIdeal (hGradsRefIdeal := hGradsRefIdeal)
    ∧ quiescent_GradsRef (hGradsRef := hGradsRef)
    ∧ quiescent_PairSum (hPairSum := hPairSum)
    ∧ quiescent_PairSumIdeal (hPairSumIdeal := hPairSumIdeal)
    ∧ quiescent_PairSumRefIdeal (hPairSumRefIdeal := hPairSumRefIdeal)
    ∧ quiescent_PairSumRef (hPairSumRef := hPairSumRef)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_Dx (hDx := hDx)
    ∧ quiescent_DxIdeal (hDxIdeal := hDxIdeal)
    ∧ quiescent_DxRefIdeal (hDxRefIdeal := hDxRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Norm (hNorm := hNorm)
    ∧ quiescent_NormIdeal (hNormIdeal := hNormIdeal)
    ∧ quiescent_NormRefIdeal (hNormRefIdeal := hNormRefIdeal)
    ∧ quiescent_Proj (hProj := hProj)
    ∧ quiescent_ProjIdeal (hProjIdeal := hProjIdeal)
    ∧ quiescent_ProjRefIdeal (hProjRefIdeal := hProjRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Merge (hMerge := hMerge)
    ∧ quiescent_MergeIdeal (hMergeIdeal := hMergeIdeal)
    ∧ quiescent_MergeRefIdeal (hMergeRefIdeal := hMergeRefIdeal)
    ∧ quiescent_Adamw2x1024 (hAdamw2x1024 := hAdamw2x1024)
    ∧ quiescent_Adamw2x1024Ideal (hAdamw2x1024Ideal := hAdamw2x1024Ideal)
    ∧ quiescent_Adamw2x1024RefIdeal (hAdamw2x1024RefIdeal := hAdamw2x1024RefIdeal)
    ∧ quiescent_Adamw2048x2564 (hAdamw2048x2564 := hAdamw2048x2564)
    ∧ quiescent_Adamw2048x2564Ideal (hAdamw2048x2564Ideal := hAdamw2048x2564Ideal)
    ∧ quiescent_Adamw2048x2564RefIdeal (hAdamw2048x2564RefIdeal := hAdamw2048x2564RefIdeal)
    ∧ quiescent_Adamw62x128 (hAdamw62x128 := hAdamw62x128)
    ∧ quiescent_Adamw62x128Ideal (hAdamw62x128Ideal := hAdamw62x128Ideal)
    ∧ quiescent_Adamw62x128RefIdeal (hAdamw62x128RefIdeal := hAdamw62x128RefIdeal)
    ∧ quiescent_Adamw2x512 (hAdamw2x512 := hAdamw2x512)
    ∧ quiescent_Adamw2x512Ideal (hAdamw2x512Ideal := hAdamw2x512Ideal)
    ∧ quiescent_Adamw2x512RefIdeal (hAdamw2x512RefIdeal := hAdamw2x512RefIdeal)
    ∧ quiescent_Adamw1024x256 (hAdamw1024x256 := hAdamw1024x256)
    ∧ quiescent_Adamw1024x256Ideal (hAdamw1024x256Ideal := hAdamw1024x256Ideal)
    ∧ quiescent_Adamw1024x256RefIdeal (hAdamw1024x256RefIdeal := hAdamw1024x256RefIdeal)
    ∧ quiescent_Adamw8x768 (hAdamw8x768 := hAdamw8x768)
    ∧ quiescent_Adamw8x768Ideal (hAdamw8x768Ideal := hAdamw8x768Ideal)
    ∧ quiescent_Adamw8x768RefIdeal (hAdamw8x768RefIdeal := hAdamw8x768RefIdeal)
    ∧ quiescent_Adamw2x8 (hAdamw2x8 := hAdamw2x8)
    ∧ quiescent_Adamw2x8Ideal (hAdamw2x8Ideal := hAdamw2x8Ideal)
    ∧ quiescent_Adamw2x8RefIdeal (hAdamw2x8RefIdeal := hAdamw2x8RefIdeal)
    ∧ quiescent_Adamw2x128 (hAdamw2x128 := hAdamw2x128)
    ∧ quiescent_Adamw2x128Ideal (hAdamw2x128Ideal := hAdamw2x128Ideal)
    ∧ quiescent_Adamw2x128RefIdeal (hAdamw2x128RefIdeal := hAdamw2x128RefIdeal)
    ∧ quiescent_Adamw512x1024 (hAdamw512x1024 := hAdamw512x1024)
    ∧ quiescent_Adamw512x1024Ideal (hAdamw512x1024Ideal := hAdamw512x1024Ideal)
    ∧ quiescent_Adamw512x1024RefIdeal (hAdamw512x1024RefIdeal := hAdamw512x1024RefIdeal)
    ∧ quiescent_Adamw1024x128 (hAdamw1024x128 := hAdamw1024x128)
    ∧ quiescent_Adamw1024x128Ideal (hAdamw1024x128Ideal := hAdamw1024x128Ideal)
    ∧ quiescent_Adamw1024x128RefIdeal (hAdamw1024x128RefIdeal := hAdamw1024x128RefIdeal)
    ∧ quiescent_Adamw8x128 (hAdamw8x128 := hAdamw8x128)
    ∧ quiescent_Adamw8x128Ideal (hAdamw8x128Ideal := hAdamw8x128Ideal)
    ∧ quiescent_Adamw8x128RefIdeal (hAdamw8x128RefIdeal := hAdamw8x128RefIdeal)
    ∧ quiescent_Adamw1x1024 (hAdamw1x1024 := hAdamw1x1024)
    ∧ quiescent_Adamw1x1024Ideal (hAdamw1x1024Ideal := hAdamw1x1024Ideal)
    ∧ quiescent_Adamw1x1024RefIdeal (hAdamw1x1024RefIdeal := hAdamw1x1024RefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Partials_PartialsIdeal
    ∧ algebraic_PartialsIdeal_PartialsRefIdeal (hPartialsIdeal := hPartialsIdeal) (hPartialsRefIdeal := hPartialsRefIdeal)
    ∧ bitexact_Partials_PartialsRef (hPartials := hPartials) (hPartialsRef := hPartialsRef)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Result_ResultIdeal
    ∧ algebraic_ResultIdeal_ResultRefIdeal (hResultIdeal := hResultIdeal) (hResultRefIdeal := hResultRefIdeal)
    ∧ bitexact_Result_ResultRef (hResult := hResult) (hResultRef := hResultRef)
    ∧ preserves_Grads_GradsIdeal
    ∧ algebraic_GradsIdeal_GradsRefIdeal (hGradsIdeal := hGradsIdeal) (hGradsRefIdeal := hGradsRefIdeal)
    ∧ bitexact_Grads_GradsRef (hGrads := hGrads) (hGradsRef := hGradsRef)
    ∧ preserves_PairSum_PairSumIdeal
    ∧ algebraic_PairSumIdeal_PairSumRefIdeal (hPairSumIdeal := hPairSumIdeal) (hPairSumRefIdeal := hPairSumRefIdeal)
    ∧ bitexact_PairSum_PairSumRef (hPairSum := hPairSum) (hPairSumRef := hPairSumRef)
    ∧ preserves_ChipSum_ChipSumIdeal
    ∧ algebraic_ChipSumIdeal_ChipSumRefIdeal (hChipSumIdeal := hChipSumIdeal) (hChipSumRefIdeal := hChipSumRefIdeal)
    ∧ preserves_Dx_DxIdeal
    ∧ algebraic_DxIdeal_DxRefIdeal (hDxIdeal := hDxIdeal) (hDxRefIdeal := hDxRefIdeal)
    ∧ preserves_LossHead_LossHeadIdeal
    ∧ algebraic_LossHeadIdeal_LossHeadRefIdeal (hLossHeadIdeal := hLossHeadIdeal) (hLossHeadRefIdeal := hLossHeadRefIdeal)
    ∧ preserves_Norm_NormIdeal
    ∧ algebraic_NormIdeal_NormRefIdeal (hNormIdeal := hNormIdeal) (hNormRefIdeal := hNormRefIdeal)
    ∧ preserves_Proj_ProjIdeal
    ∧ algebraic_ProjIdeal_ProjRefIdeal (hProjIdeal := hProjIdeal) (hProjRefIdeal := hProjRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_Merge_MergeIdeal
    ∧ algebraic_MergeIdeal_MergeRefIdeal (hMergeIdeal := hMergeIdeal) (hMergeRefIdeal := hMergeRefIdeal)
    ∧ preserves_Adamw2x1024_Adamw2x1024Ideal
    ∧ algebraic_Adamw2x1024Ideal_Adamw2x1024RefIdeal (hAdamw2x1024Ideal := hAdamw2x1024Ideal) (hAdamw2x1024RefIdeal := hAdamw2x1024RefIdeal)
    ∧ preserves_Adamw2048x2564_Adamw2048x2564Ideal
    ∧ algebraic_Adamw2048x2564Ideal_Adamw2048x2564RefIdeal (hAdamw2048x2564Ideal := hAdamw2048x2564Ideal) (hAdamw2048x2564RefIdeal := hAdamw2048x2564RefIdeal)
    ∧ preserves_Adamw62x128_Adamw62x128Ideal
    ∧ algebraic_Adamw62x128Ideal_Adamw62x128RefIdeal (hAdamw62x128Ideal := hAdamw62x128Ideal) (hAdamw62x128RefIdeal := hAdamw62x128RefIdeal)
    ∧ preserves_Adamw2x512_Adamw2x512Ideal
    ∧ algebraic_Adamw2x512Ideal_Adamw2x512RefIdeal (hAdamw2x512Ideal := hAdamw2x512Ideal) (hAdamw2x512RefIdeal := hAdamw2x512RefIdeal)
    ∧ preserves_Adamw1024x256_Adamw1024x256Ideal
    ∧ algebraic_Adamw1024x256Ideal_Adamw1024x256RefIdeal (hAdamw1024x256Ideal := hAdamw1024x256Ideal) (hAdamw1024x256RefIdeal := hAdamw1024x256RefIdeal)
    ∧ preserves_Adamw8x768_Adamw8x768Ideal
    ∧ algebraic_Adamw8x768Ideal_Adamw8x768RefIdeal (hAdamw8x768Ideal := hAdamw8x768Ideal) (hAdamw8x768RefIdeal := hAdamw8x768RefIdeal)
    ∧ preserves_Adamw2x8_Adamw2x8Ideal
    ∧ algebraic_Adamw2x8Ideal_Adamw2x8RefIdeal (hAdamw2x8Ideal := hAdamw2x8Ideal) (hAdamw2x8RefIdeal := hAdamw2x8RefIdeal)
    ∧ preserves_Adamw2x128_Adamw2x128Ideal
    ∧ algebraic_Adamw2x128Ideal_Adamw2x128RefIdeal (hAdamw2x128Ideal := hAdamw2x128Ideal) (hAdamw2x128RefIdeal := hAdamw2x128RefIdeal)
    ∧ preserves_Adamw512x1024_Adamw512x1024Ideal
    ∧ algebraic_Adamw512x1024Ideal_Adamw512x1024RefIdeal (hAdamw512x1024Ideal := hAdamw512x1024Ideal) (hAdamw512x1024RefIdeal := hAdamw512x1024RefIdeal)
    ∧ preserves_Adamw1024x128_Adamw1024x128Ideal
    ∧ algebraic_Adamw1024x128Ideal_Adamw1024x128RefIdeal (hAdamw1024x128Ideal := hAdamw1024x128Ideal) (hAdamw1024x128RefIdeal := hAdamw1024x128RefIdeal)
    ∧ preserves_Adamw8x128_Adamw8x128Ideal
    ∧ algebraic_Adamw8x128Ideal_Adamw8x128RefIdeal (hAdamw8x128Ideal := hAdamw8x128Ideal) (hAdamw8x128RefIdeal := hAdamw8x128RefIdeal)
    ∧ preserves_Adamw1x1024_Adamw1x1024Ideal
    ∧ algebraic_Adamw1x1024Ideal_Adamw1x1024RefIdeal (hAdamw1x1024Ideal := hAdamw1x1024Ideal) (hAdamw1x1024RefIdeal := hAdamw1x1024RefIdeal)
-- ==== Gather.lean ====
abbrev S6688x1024 : Shape := ⟨2, ![6688, 1024]⟩
abbrev S4x6688x1024 : Shape := ⟨3, ![4, 6688, 1024]⟩
abbrev S6 : Shape := ⟨1, ![6]⟩
abbrev S_ : Shape := ⟨0, ![]⟩
abbrev S1x6688x1024 : Shape := ⟨3, ![1, 6688, 1024]⟩
abbrev S1 : Shape := ⟨1, ![1]⟩
abbrev S1x3344x1024 : Shape := ⟨3, ![1, 3344, 1024]⟩
abbrev S3344x1024 : Shape := ⟨2, ![3344, 1024]⟩

abbrev nBuf : Space → Nat
  | .hbm => 2
  | .vmem => 0
  | .smem => 0
  | _ => 0

abbrev bufTy : (tb : Table) → Fin (tcTables nBuf tb) → BufTy
  | .hbm, ⟨0, _⟩ => ⟨S6688x1024, .bf16⟩
  | .hbm, ⟨1, _⟩ => ⟨S4x6688x1024, .bf16⟩
  | _, _ => ⟨S6688x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_9 : BitVec 32 := 0#32
  ![v10.toNat, 0, 0]
def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32 : BitVec 32 := 3344#32
  let v18 : BitVec 32 := Scalar.muli v8 c3344_i32
  v18
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_10 : BitVec 32 := 3344#32
  let v20 : BitVec 32 := Scalar.muli v8 c3344_i32_10
  v20
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_11 : BitVec 32 := 3344#32
  let v22 : BitVec 32 := Scalar.muli v8 c3344_i32_11
  v22
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_12 : BitVec 32 := 3344#32
  let v24 : BitVec 32 := Scalar.muli v8 c3344_i32_12
  v24
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_13 : BitVec 32 := 3344#32
  let v26 : BitVec 32 := Scalar.muli v8 c3344_i32_13
  v26
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_14 : BitVec 32 := 3344#32
  let v28 : BitVec 32 := Scalar.muli v8 c3344_i32_14
  v28
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_10 : BitVec 32 := 3344#32
  let v20 : BitVec 32 := Scalar.muli v8 c3344_i32_10
  let v21 : BitVec 32 := v20
  let c0_i32_21 : BitVec 32 := 0#32
  ![v10.toNat, v21.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32 : BitVec 32 := 3344#32
  let v18 : BitVec 32 := Scalar.muli v8 c3344_i32
  let v19 : BitVec 32 := v18
  let c0_i32_22 : BitVec 32 := 0#32
  ![v19.toNat, 0]
def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v30 : BitVec 32 := Scalar.muli v2 c4_i32_17
  let v31 : BitVec 32 := Scalar.addi c0_i32_18 v30
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_19 : BitVec 32 := 2#32
  let v32 : BitVec 32 := Scalar.muli v12 c2_i32_19
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v34 : BitVec 32 := Scalar.muli v8 c1_i32_20
  let v35 : BitVec 32 := Scalar.addi v33 v34
  v35.toNat
def k0_dev2 (d0 : Dev nD) : Nat :=
  let c0_i32_26 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_25 : BitVec 32 := 4#32
  let v43 : BitVec 32 := Scalar.muli v13 c4_i32_25
  let v44 : BitVec 32 := Scalar.addi c0_i32_26 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v45 : BitVec 32 := Scalar.muli v5 c2_i32_27
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v47 : BitVec 32 := Scalar.muli v8 c1_i32_28
  let v48 : BitVec 32 := Scalar.addi v46 v47
  v48.toNat
def k0_dev3 (d0 : Dev nD) : Nat :=
  let c0_i32_34 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_33 : BitVec 32 := 4#32
  let v56 : BitVec 32 := Scalar.muli v14 c4_i32_33
  let v57 : BitVec 32 := Scalar.addi c0_i32_34 v56
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_35 : BitVec 32 := 2#32
  let v58 : BitVec 32 := Scalar.muli v15 c2_i32_35
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v60 : BitVec 32 := Scalar.muli v8 c1_i32_36
  let v61 : BitVec 32 := Scalar.addi v59 v60
  v61.toNat
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_40 : BitVec 32 := 3344#32
  let v71 : BitVec 32 := Scalar.muli v8 c3344_i32_40
  v71
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_42 : BitVec 32 := 3344#32
  let v75 : BitVec 32 := Scalar.muli v8 c3344_i32_42
  v75
def k0_mult9 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_44 : BitVec 32 := 3344#32
  let v79 : BitVec 32 := Scalar.muli v8 c3344_i32_44
  v79
def k0_mult10 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_46 : BitVec 32 := 3344#32
  let v83 : BitVec 32 := Scalar.muli v8 c3344_i32_46
  v83
def k0_mult11 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_48 : BitVec 32 := 3344#32
  let v87 : BitVec 32 := Scalar.muli v8 c3344_i32_48
  v87
def k0_mult12 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_50 : BitVec 32 := 3344#32
  let v91 : BitVec 32 := Scalar.muli v8 c3344_i32_50
  v91
def k0_mult13 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_52 : BitVec 32 := 3344#32
  let v95 : BitVec 32 := Scalar.muli v8 c3344_i32_52
  v95
def k0_mult14 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_54 : BitVec 32 := 3344#32
  let v99 : BitVec 32 := Scalar.muli v8 c3344_i32_54
  v99
def k0_off4 (d0 : Dev nD) : Fin 3 → Nat :=
  let c2_i32_53 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.muli c2_i32_53 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v98 : BitVec 32 := Scalar.addi v97 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_54 : BitVec 32 := 3344#32
  let v99 : BitVec 32 := Scalar.muli v8 c3344_i32_54
  let v100 : BitVec 32 := v99
  let c0_i32_61 : BitVec 32 := 0#32
  ![v98.toNat, v100.toNat, 0]
def k0_dev4 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v113 : BitVec 32 := Scalar.muli v2 c4_i32_64
  let v114 : BitVec 32 := Scalar.addi c0_i32_65 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v115 : BitVec 32 := Scalar.muli v5 c2_i32_66
  let v116 : BitVec 32 := Scalar.addi v114 v115
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_67 : BitVec 32 := 1#32
  let v117 : BitVec 32 := Scalar.muli v11 c1_i32_67
  let v118 : BitVec 32 := Scalar.addi v116 v117
  v118.toNat
def k0_mult15 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_71 : BitVec 32 := 3344#32
  let v129 : BitVec 32 := Scalar.muli v8 c3344_i32_71
  v129
def k0_mult16 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_73 : BitVec 32 := 3344#32
  let v133 : BitVec 32 := Scalar.muli v8 c3344_i32_73
  v133
def k0_off5 (d0 : Dev nD) : Fin 3 → Nat :=
  let c2_i32_72 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v131 : BitVec 32 := Scalar.muli c2_i32_72 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v132 : BitVec 32 := Scalar.addi v131 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_73 : BitVec 32 := 3344#32
  let v133 : BitVec 32 := Scalar.muli v8 c3344_i32_73
  let v134 : BitVec 32 := v133
  let c0_i32_80 : BitVec 32 := 0#32
  ![v132.toNat, v134.toNat, 0]
def k0_dev5 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v147 : BitVec 32 := Scalar.muli v2 c4_i32_84
  let v148 : BitVec 32 := Scalar.addi c0_i32_85 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v149 : BitVec 32 := Scalar.muli v5 c2_i32_86
  let v150 : BitVec 32 := Scalar.addi v148 v149
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_87 : BitVec 32 := 1#32
  let v151 : BitVec 32 := Scalar.muli v11 c1_i32_87
  let v152 : BitVec 32 := Scalar.addi v150 v151
  v152.toNat
def k0_mult17 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_91 : BitVec 32 := 3344#32
  let v163 : BitVec 32 := Scalar.muli v8 c3344_i32_91
  v163
def k0_mult18 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_93 : BitVec 32 := 3344#32
  let v167 : BitVec 32 := Scalar.muli v8 c3344_i32_93
  v167
def k0_off6 (d0 : Dev nD) : Fin 3 → Nat :=
  let c2_i32_92 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v165 : BitVec 32 := Scalar.muli c2_i32_92 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v166 : BitVec 32 := Scalar.addi v165 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3344_i32_93 : BitVec 32 := 3344#32
  let v167 : BitVec 32 := Scalar.muli v8 c3344_i32_93
  let v168 : BitVec 32 := v167
  let c0_i32_100 : BitVec 32 := 0#32
  ![v166.toNat, v168.toNat, 0]
def k0_dev6 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v181 : BitVec 32 := Scalar.muli v2 c4_i32_103
  let v182 : BitVec 32 := Scalar.addi c0_i32_104 v181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v183 : BitVec 32 := Scalar.muli v5 c2_i32_105
  let v184 : BitVec 32 := Scalar.addi v182 v183
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_106 : BitVec 32 := 1#32
  let v185 : BitVec 32 := Scalar.muli v11 c1_i32_106
  let v186 : BitVec 32 := Scalar.addi v184 v185
  v186.toNat
def k0_mult19 (d0 : Dev nD) : BitVec 32 :=
  let c1_i32_109 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v195 : BitVec 32 := Scalar.subi c1_i32_109 v8
  let c3344_i32_111 : BitVec 32 := 3344#32
  let v198 : BitVec 32 := Scalar.muli v195 c3344_i32_111
  v198
def k0_mult20 (d0 : Dev nD) : BitVec 32 :=
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v200 : BitVec 32 := Scalar.subi c1_i32_112 v8
  let c3344_i32_114 : BitVec 32 := 3344#32
  let v203 : BitVec 32 := Scalar.muli v200 c3344_i32_114
  v203
def k0_off7 (d0 : Dev nD) : Fin 3 → Nat :=
  let c2_i32_113 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v201 : BitVec 32 := Scalar.muli c2_i32_113 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v202 : BitVec 32 := Scalar.addi v201 v12
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v200 : BitVec 32 := Scalar.subi c1_i32_112 v8
  let c3344_i32_114 : BitVec 32 := 3344#32
  let v203 : BitVec 32 := Scalar.muli v200 c3344_i32_114
  let v204 : BitVec 32 := v203
  let c0_i32_121 : BitVec 32 := 0#32
  ![v202.toNat, v204.toNat, 0]
def k0_mult21 (d0 : Dev nD) : BitVec 32 :=
  let c1_i32_123 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v217 : BitVec 32 := Scalar.subi c1_i32_123 v8
  let c3344_i32_125 : BitVec 32 := 3344#32
  let v220 : BitVec 32 := Scalar.muli v217 c3344_i32_125
  v220
def k0_mult22 (d0 : Dev nD) : BitVec 32 :=
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v222 : BitVec 32 := Scalar.subi c1_i32_126 v8
  let c3344_i32_128 : BitVec 32 := 3344#32
  let v225 : BitVec 32 := Scalar.muli v222 c3344_i32_128
  v225
def k0_off8 (d0 : Dev nD) : Fin 3 → Nat :=
  let c2_i32_127 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v223 : BitVec 32 := Scalar.muli c2_i32_127 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v224 : BitVec 32 := Scalar.addi v223 v5
  let c1_i32_126 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v222 : BitVec 32 := Scalar.subi c1_i32_126 v8
  let c3344_i32_128 : BitVec 32 := 3344#32
  let v225 : BitVec 32 := Scalar.muli v222 c3344_i32_128
  let v226 : BitVec 32 := v225
  let c0_i32_135 : BitVec 32 := 0#32
  ![v224.toNat, v226.toNat, 0]
def k0_mult23 (d0 : Dev nD) : BitVec 32 :=
  let c1_i32_137 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v239 : BitVec 32 := Scalar.subi c1_i32_137 v8
  let c3344_i32_139 : BitVec 32 := 3344#32
  let v242 : BitVec 32 := Scalar.muli v239 c3344_i32_139
  v242
def k0_mult24 (d0 : Dev nD) : BitVec 32 :=
  let c1_i32_140 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v244 : BitVec 32 := Scalar.subi c1_i32_140 v8
  let c3344_i32_142 : BitVec 32 := 3344#32
  let v247 : BitVec 32 := Scalar.muli v244 c3344_i32_142
  v247
def k0_off9 (d0 : Dev nD) : Fin 3 → Nat :=
  let c2_i32_141 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v245 : BitVec 32 := Scalar.muli c2_i32_141 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v246 : BitVec 32 := Scalar.addi v245 v15
  let c1_i32_140 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v244 : BitVec 32 := Scalar.subi c1_i32_140 v8
  let c3344_i32_142 : BitVec 32 := 3344#32
  let v247 : BitVec 32 := Scalar.muli v244 c3344_i32_142
  let v248 : BitVec 32 := v247
  let c0_i32_149 : BitVec 32 := 0#32
  ![v246.toNat, v248.toNat, 0]
-- ==== GatherRef.lean ====
abbrev S26752x1024 : Shape := ⟨2, ![26752, 1024]⟩
abbrev S4x6688x1024 : Shape := ⟨3, ![4, 6688, 1024]⟩

abbrev nBuf : Space → Nat
  | .hbm => 2
  | .vmem => 0
  | .smem => 0
  | _ => 0

abbrev bufTy : (tb : Table) → Fin (tcTables nBuf tb) → BufTy
  | .hbm, ⟨0, _⟩ => ⟨S26752x1024, .bf16⟩
  | .hbm, ⟨1, _⟩ => ⟨S4x6688x1024, .bf16⟩
  | _, _ => ⟨S26752x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Partials.lean ====
abbrev S4x3344x1024 : Shape := ⟨3, ![4, 3344, 1024]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x3344x1024, .bf16⟩
  | .hbm, ⟨1, _⟩ => ⟨S4x3344x1024, .bf16⟩
  | _, _ => ⟨S4x3344x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v10 : BitVec 32 := Scalar.muli v2 c4_i32_5
  let v11 : BitVec 32 := Scalar.addi c0_i32_6 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v12 : BitVec 32 := Scalar.muli v5 c2_i32_7
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v14 : BitVec 32 := Scalar.muli v9 c1_i32_8
  let v15 : BitVec 32 := Scalar.addi v13 v14
  v15.toNat
-- ==== PartialsRef.lean ====
abbrev S32x3344x1024 : Shape := ⟨3, ![32, 3344, 1024]⟩
abbrev S4x2x4x3344x1024 : Shape := ⟨5, ![4, 2, 4, 3344, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x3344x1024, .bf16⟩
  | .hbm, ⟨1, _⟩ => ⟨S4x2x4x3344x1024, .bf16⟩
  | .hbm, ⟨2, _⟩ => ⟨S4x2x4x3344x1024, .bf16⟩
  | .hbm, ⟨3, _⟩ => ⟨S32x3344x1024, .bf16⟩
  | _, _ => ⟨S32x3344x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Scatter.lean ====
abbrev S4x3344x1024 : Shape := ⟨3, ![4, 3344, 1024]⟩
abbrev S3x3344x1024 : Shape := ⟨3, ![3, 3344, 1024]⟩
abbrev S3 : Shape := ⟨1, ![3]⟩
abbrev S1 : Shape := ⟨1, ![1]⟩
abbrev S_ : Shape := ⟨0, ![]⟩
abbrev S1x3344x1024 : Shape := ⟨3, ![1, 3344, 1024]⟩
abbrev S3344x1024 : Shape := ⟨2, ![3344, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x3344x1024, .bf16⟩
  | .hbm, ⟨1, _⟩ => ⟨S3x3344x1024, .bf16⟩
  | _, _ => ⟨S4x3344x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let v14 : BitVec 32 := Scalar.addi v13 v9
  let c0_i32_18 : BitVec 32 := 0#32
  let c0_i32_19 : BitVec 32 := 0#32
  ![v14.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v19 : BitVec 32 := Scalar.muli v2 c4_i32_12
  let v20 : BitVec 32 := Scalar.addi c0_i32_13 v19
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_14 : BitVec 32 := 2#32
  let v21 : BitVec 32 := Scalar.muli v9 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v15 : BitVec 32 := Scalar.muli c2_i32_8 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_29 : BitVec 32 := 0#32
  let c0_i32_30 : BitVec 32 := 0#32
  ![v16.toNat, 0, 0]
def k0_dev2 (d0 : Dev nD) : Nat :=
  let c0_i32_24 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_23 : BitVec 32 := 4#32
  let v33 : BitVec 32 := Scalar.muli v10 c4_i32_23
  let v34 : BitVec 32 := Scalar.addi c0_i32_24 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v35 : BitVec 32 := Scalar.muli v5 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== ScatterRef.lean ====
abbrev S32x3344x1024 : Shape := ⟨3, ![32, 3344, 1024]⟩
abbrev S1x3344x1024 : Shape := ⟨3, ![1, 3344, 1024]⟩
abbrev S16x3344x1024 : Shape := ⟨3, ![16, 3344, 1024]⟩
abbrev S8x3344x1024 : Shape := ⟨3, ![8, 3344, 1024]⟩
abbrev S24x3344x1024 : Shape := ⟨3, ![24, 3344, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32x3344x1024, .bf16⟩
  | .hbm, ⟨1, _⟩ => ⟨S1x3344x1024, .bf16⟩
  | .hbm, ⟨2, _⟩ => ⟨S1x3344x1024, .bf16⟩
  | .hbm, ⟨3, _⟩ => ⟨S1x3344x1024, .bf16⟩
  | .hbm, ⟨4, _⟩ => ⟨S1x3344x1024, .bf16⟩
  | .hbm, ⟨5, _⟩ => ⟨S1x3344x1024, .bf16⟩
  | .hbm, ⟨6, _⟩ => ⟨S1x3344x1024, .bf16⟩
  | .hbm, ⟨7, _⟩ => ⟨S1x3344x1024, .bf16⟩
  | .hbm, ⟨8, _⟩ => ⟨S1x3344x1024, .bf16⟩
  | .hbm, ⟨9, _⟩ => ⟨S1x3344x1024, .bf16⟩
  | .hbm, ⟨10, _⟩ => ⟨S1x3344x1024, .bf16⟩
  | .hbm, ⟨11, _⟩ => ⟨S1x3344x1024, .bf16⟩
  | .hbm, ⟨12, _⟩ => ⟨S1x3344x1024, .bf16⟩
  | .hbm, ⟨13, _⟩ => ⟨S1x3344x1024, .bf16⟩
  | .hbm, ⟨14, _⟩ => ⟨S1x3344x1024, .bf16⟩
  | .hbm, ⟨15, _⟩ => ⟨S1x3344x1024, .bf16⟩
  | .hbm, ⟨16, _⟩ => ⟨S1x3344x1024, .bf16⟩
  | .hbm, ⟨17, _⟩ => ⟨S1x3344x1024, .bf16⟩
  | .hbm, ⟨18, _⟩ => ⟨S1x3344x1024, .bf16⟩
  | .hbm, ⟨19, _⟩ => ⟨S1x3344x1024, .bf16⟩
  | .hbm, ⟨20, _⟩ => ⟨S1x3344x1024, .bf16⟩
  | .hbm, ⟨21, _⟩ => ⟨S1x3344x1024, .bf16⟩
  | .hbm, ⟨22, _⟩ => ⟨S1x3344x1024, .bf16⟩
  | .hbm, ⟨23, _⟩ => ⟨S1x3344x1024, .bf16⟩
  | .hbm, ⟨24, _⟩ => ⟨S1x3344x1024, .bf16⟩
  | .hbm, ⟨25, _⟩ => ⟨S16x3344x1024, .bf16⟩
  | .hbm, ⟨26, _⟩ => ⟨S8x3344x1024, .bf16⟩
  | .hbm, ⟨27, _⟩ => ⟨S24x3344x1024, .bf16⟩
  | _, _ => ⟨S32x3344x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩

abbrev nD : Nat := 1
abbrev τ : Topo := Topo.v7x

variable {F : FTy → Type} [FloatOps F]
-- ==== Result.lean ====
abbrev S3344x1024 : Shape := ⟨2, ![3344, 1024]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S3344x1024, .f32⟩
  | .hbm, ⟨1, _⟩ => ⟨S3344x1024, .f32⟩
  | _, _ => ⟨S3344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v10 : BitVec 32 := Scalar.muli v2 c4_i32_5
  let v11 : BitVec 32 := Scalar.addi c0_i32_6 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v12 : BitVec 32 := Scalar.muli v5 c2_i32_7
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v14 : BitVec 32 := Scalar.muli v9 c1_i32_8
  let v15 : BitVec 32 := Scalar.addi v13 v14
  v15.toNat
-- ==== ResultRef.lean ====
abbrev S26752x1024 : Shape := ⟨2, ![26752, 1024]⟩
abbrev S4x2x3344x1024 : Shape := ⟨4, ![4, 2, 3344, 1024]⟩

abbrev nBuf : Space → Nat
  | .hbm => 4
  | .vmem => 0
  | .smem => 0
  | _ => 0

abbrev bufTy : (tb : Table) → Fin (tcTables nBuf tb) → BufTy
  | .hbm, ⟨0, _⟩ => ⟨S26752x1024, .f32⟩
  | .hbm, ⟨1, _⟩ => ⟨S4x2x3344x1024, .f32⟩
  | .hbm, ⟨2, _⟩ => ⟨S4x2x3344x1024, .f32⟩
  | .hbm, ⟨3, _⟩ => ⟨S26752x1024, .f32⟩
  | _, _ => ⟨S26752x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Grads.lean ====
abbrev S3344x1024 : Shape := ⟨2, ![3344, 1024]⟩
abbrev S1 : Shape := ⟨1, ![1]⟩
abbrev S_ : Shape := ⟨0, ![]⟩
abbrev S6688x1024 : Shape := ⟨2, ![6688, 1024]⟩
abbrev S5128x1024 : Shape := ⟨2, ![5128, 1024]⟩
abbrev S5251072 : Shape := ⟨1, ![5251072]⟩
abbrev S2x1024x2564 : Shape := ⟨3, ![2, 1024, 2564]⟩
abbrev S256x1024 : Shape := ⟨2, ![256, 1024]⟩
abbrev S262144 : Shape := ⟨1, ![262144]⟩
abbrev S2x512x256 : Shape := ⟨3, ![2, 512, 256]⟩
abbrev S512x1024 : Shape := ⟨2, ![512, 1024]⟩
abbrev S524288 : Shape := ⟨1, ![524288]⟩
abbrev S2x256x1024 : Shape := ⟨3, ![2, 256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S3344x1024, .f32⟩
  | .hbm, ⟨1, _⟩ => ⟨S3344x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S6688x1024, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S6688x1024, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S6688x1024, .f32⟩
  | .hbm, ⟨30, _⟩ => ⟨S5128x1024, .f32⟩
  | .hbm, ⟨31, _⟩ => ⟨S5251072, .f32⟩
  | .hbm, ⟨32, _⟩ => ⟨S2x1024x2564, .f32⟩
  | .hbm, ⟨33, _⟩ => ⟨S256x1024, .f32⟩
  | .hbm, ⟨34, _⟩ => ⟨S262144, .f32⟩
  | .hbm, ⟨35, _⟩ => ⟨S2x512x256, .f32⟩
  | .hbm, ⟨36, _⟩ => ⟨S512x1024, .f32⟩
  | .hbm, ⟨37, _⟩ => ⟨S524288, .f32⟩
  | .hbm, ⟨38, _⟩ => ⟨S2x256x1024, .f32⟩
  | .hbm, ⟨39, _⟩ => ⟨S256x1024, .f32⟩
  | .hbm, ⟨40, _⟩ => ⟨S262144, .f32⟩
  | .hbm, ⟨41, _⟩ => ⟨S2x512x256, .f32⟩
  | .hbm, ⟨42, _⟩ => ⟨S512x1024, .f32⟩
  | .hbm, ⟨43, _⟩ => ⟨S524288, .f32⟩
  | .hbm, ⟨44, _⟩ => ⟨S2x256x1024, .f32⟩
  | _, _ => ⟨S3344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_c_7 : Ref sig .tc := ⟨.hbm, 23, rfl⟩
abbrev main_v14 : Ref sig .tc := ⟨.hbm, 24, rfl⟩
abbrev main_c_8 : Ref sig .tc := ⟨.hbm, 25, rfl⟩
abbrev main_v15 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v10 : BitVec 32 := Scalar.muli v2 c4_i32_5
  let v11 : BitVec 32 := Scalar.addi c0_i32_6 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v12 : BitVec 32 := Scalar.muli v5 c2_i32_7
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v14 : BitVec 32 := Scalar.muli v9 c1_i32_8
  let v15 : BitVec 32 := Scalar.addi v13 v14
  v15.toNat
-- ==== GradsRef.lean ====
abbrev S26752x1024 : Shape := ⟨2, ![26752, 1024]⟩
abbrev S4x6688x1024 : Shape := ⟨3, ![4, 6688, 1024]⟩
abbrev S4x5128x1024 : Shape := ⟨3, ![4, 5128, 1024]⟩
abbrev S4x2x1024x2564 : Shape := ⟨4, ![4, 2, 1024, 2564]⟩
abbrev S2x1024x4x2564 : Shape := ⟨4, ![2, 1024, 4, 2564]⟩
abbrev S2x1024x10256 : Shape := ⟨3, ![2, 1024, 10256]⟩
abbrev S4x256x1024 : Shape := ⟨3, ![4, 256, 1024]⟩
abbrev S4x2x512x256 : Shape := ⟨4, ![4, 2, 512, 256]⟩
abbrev S2x512x4x256 : Shape := ⟨4, ![2, 512, 4, 256]⟩
abbrev S2x512x1024 : Shape := ⟨3, ![2, 512, 1024]⟩
abbrev S4x512x1024 : Shape := ⟨3, ![4, 512, 1024]⟩
abbrev S4x2x256x1024 : Shape := ⟨4, ![4, 2, 256, 1024]⟩
abbrev S2x4x256x1024 : Shape := ⟨4, ![2, 4, 256, 1024]⟩
abbrev S2x1024x1024 : Shape := ⟨3, ![2, 1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S26752x1024, .f32⟩
  | .hbm, ⟨1, _⟩ => ⟨S4x6688x1024, .f32⟩
  | .hbm, ⟨2, _⟩ => ⟨S4x5128x1024, .f32⟩
  | .hbm, ⟨3, _⟩ => ⟨S4x2x1024x2564, .f32⟩
  | .hbm, ⟨4, _⟩ => ⟨S2x1024x4x2564, .f32⟩
  | .hbm, ⟨5, _⟩ => ⟨S2x1024x10256, .f32⟩
  | .hbm, ⟨6, _⟩ => ⟨S4x256x1024, .f32⟩
  | .hbm, ⟨7, _⟩ => ⟨S4x2x512x256, .f32⟩
  | .hbm, ⟨8, _⟩ => ⟨S2x512x4x256, .f32⟩
  | .hbm, ⟨9, _⟩ => ⟨S2x512x1024, .f32⟩
  | .hbm, ⟨10, _⟩ => ⟨S4x512x1024, .f32⟩
  | .hbm, ⟨11, _⟩ => ⟨S4x2x256x1024, .f32⟩
  | .hbm, ⟨12, _⟩ => ⟨S2x4x256x1024, .f32⟩
  | .hbm, ⟨13, _⟩ => ⟨S2x1024x1024, .f32⟩
  | .hbm, ⟨14, _⟩ => ⟨S4x256x1024, .f32⟩
  | .hbm, ⟨15, _⟩ => ⟨S4x2x512x256, .f32⟩
  | .hbm, ⟨16, _⟩ => ⟨S2x512x4x256, .f32⟩
  | .hbm, ⟨17, _⟩ => ⟨S2x512x1024, .f32⟩
  | .hbm, ⟨18, _⟩ => ⟨S4x512x1024, .f32⟩
  | .hbm, ⟨19, _⟩ => ⟨S4x2x256x1024, .f32⟩
  | .hbm, ⟨20, _⟩ => ⟨S2x4x256x1024, .f32⟩
  | .hbm, ⟨21, _⟩ => ⟨S2x1024x1024, .f32⟩
  | _, _ => ⟨S26752x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩

abbrev nD : Nat := 1
abbrev τ : Topo := Topo.v7x

variable {F : FTy → Type} [FloatOps F]
-- ==== PairSum.lean ====
abbrev S4x3344x1024 : Shape := ⟨3, ![4, 3344, 1024]⟩
abbrev S1x304x1024 : Shape := ⟨3, ![1, 304, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x3344x1024, .f32⟩
  | .hbm, ⟨1, _⟩ => ⟨S4x3344x1024, .bf16⟩
  | .hbm, ⟨2, _⟩ => ⟨S4x3344x1024, .f32⟩
  | .hbm, ⟨3, _⟩ => ⟨S4x3344x1024, .bf16⟩
  | .local _ .vmem, ⟨0, _⟩ => ⟨S1x304x1024, .f32⟩
  | .local _ .vmem, ⟨1, _⟩ => ⟨S1x304x1024, .f32⟩
  | .local _ .vmem, ⟨2, _⟩ => ⟨S1x304x1024, .bf16⟩
  | .local _ .vmem, ⟨3, _⟩ => ⟨S1x304x1024, .bf16⟩
  | .local _ .vmem, ⟨4, _⟩ => ⟨S1x304x1024, .f32⟩
  | .local _ .vmem, ⟨5, _⟩ => ⟨S1x304x1024, .f32⟩
  | .local _ .vmem, ⟨6, _⟩ => ⟨S1x304x1024, .bf16⟩
  | .local _ .vmem, ⟨7, _⟩ => ⟨S1x304x1024, .bf16⟩
  | _, _ => ⟨S4x3344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x304x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairSumRef.lean ====
abbrev S4x3344x1024 : Shape := ⟨3, ![4, 3344, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x3344x1024, .f32⟩
  | .hbm, ⟨1, _⟩ => ⟨S4x3344x1024, .bf16⟩
  | .hbm, ⟨2, _⟩ => ⟨S4x3344x1024, .f32⟩
  | .hbm, ⟨3, _⟩ => ⟨S4x3344x1024, .f32⟩
  | .hbm, ⟨4, _⟩ => ⟨S4x3344x1024, .bf16⟩
  | _, _ => ⟨S4x3344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ChipSum.lean ====
abbrev S3344x1024 : Shape := ⟨2, ![3344, 1024]⟩
abbrev S3x3344x1024 : Shape := ⟨3, ![3, 3344, 1024]⟩
abbrev S304x1024 : Shape := ⟨2, ![304, 1024]⟩
abbrev S3x304x1024 : Shape := ⟨3, ![3, 304, 1024]⟩
abbrev S1x304x1024 : Shape := ⟨3, ![1, 304, 1024]⟩

abbrev nBuf : Space → Nat
  | .hbm => 3
  | .vmem => 6
  | .smem => 0
  | _ => 0

abbrev bufTy : (tb : Table) → Fin (tcTables nBuf tb) → BufTy
  | .hbm, ⟨0, _⟩ => ⟨S3344x1024, .f32⟩
  | .hbm, ⟨1, _⟩ => ⟨S3x3344x1024, .bf16⟩
  | .hbm, ⟨2, _⟩ => ⟨S3344x1024, .f32⟩
  | .local _ .vmem, ⟨0, _⟩ => ⟨S304x1024, .f32⟩
  | .local _ .vmem, ⟨1, _⟩ => ⟨S304x1024, .f32⟩
  | .local _ .vmem, ⟨2, _⟩ => ⟨S3x304x1024, .bf16⟩
  | .local _ .vmem, ⟨3, _⟩ => ⟨S3x304x1024, .bf16⟩
  | .local _ .vmem, ⟨4, _⟩ => ⟨S304x1024, .f32⟩
  | .local _ .vmem, ⟨5, _⟩ => ⟨S304x1024, .f32⟩
  | _, _ => ⟨S3344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipSumRefIdeal.lean ====
abbrev S3344x1024 : Shape := ⟨2, ![3344, 1024]⟩
abbrev S3x3344x1024 : Shape := ⟨3, ![3, 3344, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S3344x1024, .f32⟩
  | .hbm, ⟨1, _⟩ => ⟨S3x3344x1024, .bf16⟩
  | .hbm, ⟨2, _⟩ => ⟨S3x3344x1024, .f32⟩
  | .hbm, ⟨3, _⟩ => ⟨S_, .f32⟩
  | .hbm, ⟨4, _⟩ => ⟨S3344x1024, .f32⟩
  | .hbm, ⟨5, _⟩ => ⟨S3344x1024, .f32⟩
  | _, _ => ⟨S3344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dx.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S7x1024 : Shape := ⟨2, ![7, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8x1024, .f32⟩
  | .hbm, ⟨6, _⟩ => ⟨S1x1024, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DxRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x1024 : Shape := ⟨2, ![8, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S7x1024 : Shape := ⟨2, ![7, 1024]⟩
abbrev S1 : Shape := ⟨1, ![1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8x1024, .f32⟩
  | .hbm, ⟨5, _⟩ => ⟨S8x128, .f32⟩
  | .hbm, ⟨6, _⟩ => ⟨S1x1, .f32⟩
  | .hbm, ⟨7, _⟩ => ⟨S_, .f32⟩
  | .hbm, ⟨8, _⟩ => ⟨S1x1024, .f32⟩
  | .hbm, ⟨9, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proj.lean ====
abbrev S8192x1024 : Shape := ⟨2, ![8192, 1024]⟩
abbrev S1024x10368 : Shape := ⟨2, ![1024, 10368]⟩
abbrev S8192x10368 : Shape := ⟨2, ![8192, 10368]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x10368, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x10368 : Shape := ⟨2, ![1024, 10368]⟩
abbrev S8192x10368 : Shape := ⟨2, ![8192, 10368]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x1024, .f32⟩
  | .hbm, ⟨3, _⟩ => ⟨S1024x10368, .f32⟩
  | .hbm, ⟨4, _⟩ => ⟨S8192x10368, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDx.lean ====
abbrev S8192x10368 : Shape := ⟨2, ![8192, 10368]⟩
abbrev S1024x10368 : Shape := ⟨2, ![1024, 10368]⟩
abbrev S10368x1024 : Shape := ⟨2, ![10368, 1024]⟩
abbrev S8192x1024 : Shape := ⟨2, ![8192, 1024]⟩
abbrev S1024x1152 : Shape := ⟨2, ![1024, 1152]⟩
abbrev S1152x1024 : Shape := ⟨2, ![1152, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x10368, .bf16⟩
  | .hbm, ⟨1, _⟩ => ⟨S1024x10368, .bf16⟩
  | .hbm, ⟨2, _⟩ => ⟨S10368x1024, .bf16⟩
  | .hbm, ⟨3, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 9], ![false, false, false]⟩

def k0_cond2 (i : grid0.Coords) : BitVec 1 :=
  let arg2 : BitVec 32 := BitVec.ofNat 32 (i 2).val
  let c8_i32 : BitVec 32 := 8#32
  let v12 : BitVec 1 := Scalar.cmpi .eq arg2 c8_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S8192x10368 : Shape := ⟨2, ![8192, 10368]⟩
abbrev S1024x10368 : Shape := ⟨2, ![1024, 10368]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x10368, .bf16⟩
  | .hbm, ⟨1, _⟩ => ⟨S1024x10368, .bf16⟩
  | .hbm, ⟨2, _⟩ => ⟨S_, .f32⟩
  | .hbm, ⟨3, _⟩ => ⟨S8192x1024, .f32⟩
  | .hbm, ⟨4, _⟩ => ⟨S1024x10368, .f32⟩
  | .hbm, ⟨5, _⟩ => ⟨S8192x10368, .f32⟩
  | .hbm, ⟨6, _⟩ => ⟨S8192x10368, .f32⟩
  | .hbm, ⟨7, _⟩ => ⟨S8192x1024, .f32⟩
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S8192x1024 : Shape := ⟨2, ![8192, 1024]⟩
abbrev S8192x10368 : Shape := ⟨2, ![8192, 10368]⟩
abbrev S1024x8192 : Shape := ⟨2, ![1024, 8192]⟩
abbrev S1024x10368 : Shape := ⟨2, ![1024, 10368]⟩
abbrev S1024x1024 : Shape := ⟨2, ![1024, 1024]⟩
abbrev S1024x1152 : Shape := ⟨2, ![1024, 1152]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x8192, .bf16⟩
  | .hbm, ⟨3, _⟩ => ⟨S1024x10368, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S8192x1024 : Shape := ⟨2, ![8192, 1024]⟩
abbrev S8192x10368 : Shape := ⟨2, ![8192, 10368]⟩
abbrev S_ : Shape := ⟨0, ![]⟩
abbrev S1024x10368 : Shape := ⟨2, ![1024, 10368]⟩
abbrev S10368x1024 : Shape := ⟨2, ![10368, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S_, .f32⟩
  | .hbm, ⟨3, _⟩ => ⟨S1024x10368, .f32⟩
  | .hbm, ⟨4, _⟩ => ⟨S8192x1024, .f32⟩
  | .hbm, ⟨5, _⟩ => ⟨S8192x10368, .f32⟩
  | .hbm, ⟨6, _⟩ => ⟨S8192x10368, .f32⟩
  | .hbm, ⟨7, _⟩ => ⟨S10368x1024, .f32⟩
  | .hbm, ⟨8, _⟩ => ⟨S1024x10368, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S2x4096x512 : Shape := ⟨3, ![2, 4096, 512]⟩
abbrev S2x4096x1024 : Shape := ⟨3, ![2, 4096, 1024]⟩
abbrev S2x4096x10368 : Shape := ⟨3, ![2, 4096, 10368]⟩
abbrev S512x1024 : Shape := ⟨2, ![512, 1024]⟩
abbrev S1024x1024 : Shape := ⟨2, ![1024, 1024]⟩
abbrev S1x256x512 : Shape := ⟨3, ![1, 256, 512]⟩
abbrev S1x256x1024 : Shape := ⟨3, ![1, 256, 1024]⟩
abbrev S256x512 : Shape := ⟨2, ![256, 512]⟩
abbrev S256x1024 : Shape := ⟨2, ![256, 1024]⟩

abbrev nBuf : Space → Nat
  | .hbm => 10
  | .vmem => 20
  | .smem => 0
  | _ => 0

abbrev bufTy : (tb : Table) → Fin (tcTables nBuf tb) → BufTy
  | .hbm, ⟨0, _⟩ => ⟨S2x4096x512, .f32⟩
  | .hbm, ⟨1, _⟩ => ⟨S2x4096x1024, .f32⟩
  | .hbm, ⟨2, _⟩ => ⟨S2x4096x512, .f32⟩
  | .hbm, ⟨3, _⟩ => ⟨S2x4096x10368, .f32⟩
  | .hbm, ⟨4, _⟩ => ⟨S2x4096x1024, .f32⟩
  | .hbm, ⟨5, _⟩ => ⟨S512x1024, .bf16⟩
  | .hbm, ⟨6, _⟩ => ⟨S1024x1024, .bf16⟩
  | .hbm, ⟨7, _⟩ => ⟨S512x1024, .bf16⟩
  | .hbm, ⟨8, _⟩ => ⟨S1024x1024, .bf16⟩
  | .hbm, ⟨9, _⟩ => ⟨S2x4096x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S512x1024, .bf16⟩
  | .local _ .vmem, ⟨15, _⟩ => ⟨S1024x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x256x1024, .f32⟩
  | .local _ .vmem, ⟨19, _⟩ => ⟨S1x256x1024, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S2x4096x512 : Shape := ⟨3, ![2, 4096, 512]⟩
abbrev S2x4096x1024 : Shape := ⟨3, ![2, 4096, 1024]⟩
abbrev S2x4096x10368 : Shape := ⟨3, ![2, 4096, 10368]⟩
abbrev S512x1024 : Shape := ⟨2, ![512, 1024]⟩
abbrev S1024x1024 : Shape := ⟨2, ![1024, 1024]⟩
abbrev S2x4096x3072 : Shape := ⟨3, ![2, 4096, 3072]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x1024, .f32⟩
  | .hbm, ⟨2, _⟩ => ⟨S2x4096x512, .f32⟩
  | .hbm, ⟨3, _⟩ => ⟨S2x4096x10368, .f32⟩
  | .hbm, ⟨4, _⟩ => ⟨S2x4096x1024, .f32⟩
  | .hbm, ⟨5, _⟩ => ⟨S512x1024, .bf16⟩
  | .hbm, ⟨6, _⟩ => ⟨S1024x1024, .bf16⟩
  | .hbm, ⟨7, _⟩ => ⟨S512x1024, .bf16⟩
  | .hbm, ⟨8, _⟩ => ⟨S1024x1024, .bf16⟩
  | .hbm, ⟨9, _⟩ => ⟨S2x4096x3072, .f32⟩
  | .hbm, ⟨10, _⟩ => ⟨S2x4096x3072, .f32⟩
  | .hbm, ⟨11, _⟩ => ⟨S2x4096x3072, .f32⟩
  | .hbm, ⟨12, _⟩ => ⟨S_, .f32⟩
  | .hbm, ⟨13, _⟩ => ⟨S2x4096x3072, .f32⟩
  | .hbm, ⟨14, _⟩ => ⟨S2x4096x3072, .f32⟩
  | .hbm, ⟨15, _⟩ => ⟨S_, .f32⟩
  | .hbm, ⟨16, _⟩ => ⟨S2x4096x3072, .f32⟩
  | .hbm, ⟨17, _⟩ => ⟨S2x4096x3072, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S512x1024, .f32⟩
  | .hbm, ⟨22, _⟩ => ⟨S2x4096x1024, .f32⟩
  | .hbm, ⟨23, _⟩ => ⟨S2x4096x1024, .f32⟩
  | .hbm, ⟨24, _⟩ => ⟨S1024x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S512x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S1024x1024, .f32⟩
  | .hbm, ⟨33, _⟩ => ⟨S2x4096x1024, .f32⟩
  | .hbm, ⟨34, _⟩ => ⟨S2x4096x1024, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Adamw2x1024.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw2x1024Ideal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw2x1024RefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw2048x2564.lean ====
abbrev S2048x2564 : Shape := ⟨2, ![2048, 2564]⟩
abbrev S128x2564 : Shape := ⟨2, ![128, 2564]⟩

abbrev nBuf : Space → Nat
  | .hbm => 7
  | .vmem => 14
  | .smem => 0
  | _ => 0

abbrev bufTy : (tb : Table) → Fin (tcTables nBuf tb) → BufTy
  | .hbm, ⟨0, _⟩ => ⟨S2048x2564, .f32⟩
  | .hbm, ⟨1, _⟩ => ⟨S2048x2564, .f32⟩
  | .hbm, ⟨2, _⟩ => ⟨S2048x2564, .f32⟩
  | .hbm, ⟨3, _⟩ => ⟨S2048x2564, .f32⟩
  | .hbm, ⟨4, _⟩ => ⟨S2048x2564, .f32⟩
  | .hbm, ⟨5, _⟩ => ⟨S2048x2564, .f32⟩
  | .hbm, ⟨6, _⟩ => ⟨S2048x2564, .f32⟩
  | .local _ .vmem, ⟨0, _⟩ => ⟨S128x2564, .f32⟩
  | .local _ .vmem, ⟨1, _⟩ => ⟨S128x2564, .f32⟩
  | .local _ .vmem, ⟨2, _⟩ => ⟨S128x2564, .f32⟩
  | .local _ .vmem, ⟨3, _⟩ => ⟨S128x2564, .f32⟩
  | .local _ .vmem, ⟨4, _⟩ => ⟨S128x2564, .f32⟩
  | .local _ .vmem, ⟨5, _⟩ => ⟨S128x2564, .f32⟩
  | .local _ .vmem, ⟨6, _⟩ => ⟨S128x2564, .f32⟩
  | .local _ .vmem, ⟨7, _⟩ => ⟨S128x2564, .f32⟩
  | .local _ .vmem, ⟨8, _⟩ => ⟨S128x2564, .f32⟩
  | .local _ .vmem, ⟨9, _⟩ => ⟨S128x2564, .f32⟩
  | .local _ .vmem, ⟨10, _⟩ => ⟨S128x2564, .f32⟩
  | .local _ .vmem, ⟨11, _⟩ => ⟨S128x2564, .f32⟩
  | .local _ .vmem, ⟨12, _⟩ => ⟨S128x2564, .f32⟩
  | .local _ .vmem, ⟨13, _⟩ => ⟨S128x2564, .f32⟩
  | _, _ => ⟨S2048x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2564 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2564 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2564 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adamw2048x2564Ideal.lean ====
abbrev S2048x2564 : Shape := ⟨2, ![2048, 2564]⟩
abbrev S128x2564 : Shape := ⟨2, ![128, 2564]⟩

abbrev nBuf : Space → Nat
  | .hbm => 7
  | .vmem => 14
  | .smem => 0
  | _ => 0

abbrev bufTy : (tb : Table) → Fin (tcTables nBuf tb) → BufTy
  | .hbm, ⟨0, _⟩ => ⟨S2048x2564, .f32⟩
  | .hbm, ⟨1, _⟩ => ⟨S2048x2564, .f32⟩
  | .hbm, ⟨2, _⟩ => ⟨S2048x2564, .f32⟩
  | .hbm, ⟨3, _⟩ => ⟨S2048x2564, .f32⟩
  | .hbm, ⟨4, _⟩ => ⟨S2048x2564, .f32⟩
  | .hbm, ⟨5, _⟩ => ⟨S2048x2564, .f32⟩
  | .hbm, ⟨6, _⟩ => ⟨S2048x2564, .f32⟩
  | .local _ .vmem, ⟨0, _⟩ => ⟨S128x2564, .f32⟩
  | .local _ .vmem, ⟨1, _⟩ => ⟨S128x2564, .f32⟩
  | .local _ .vmem, ⟨2, _⟩ => ⟨S128x2564, .f32⟩
  | .local _ .vmem, ⟨3, _⟩ => ⟨S128x2564, .f32⟩
  | .local _ .vmem, ⟨4, _⟩ => ⟨S128x2564, .f32⟩
  | .local _ .vmem, ⟨5, _⟩ => ⟨S128x2564, .f32⟩
  | .local _ .vmem, ⟨6, _⟩ => ⟨S128x2564, .f32⟩
  | .local _ .vmem, ⟨7, _⟩ => ⟨S128x2564, .f32⟩
  | .local _ .vmem, ⟨8, _⟩ => ⟨S128x2564, .f32⟩
  | .local _ .vmem, ⟨9, _⟩ => ⟨S128x2564, .f32⟩
  | .local _ .vmem, ⟨10, _⟩ => ⟨S128x2564, .f32⟩
  | .local _ .vmem, ⟨11, _⟩ => ⟨S128x2564, .f32⟩
  | .local _ .vmem, ⟨12, _⟩ => ⟨S128x2564, .f32⟩
  | .local _ .vmem, ⟨13, _⟩ => ⟨S128x2564, .f32⟩
  | _, _ => ⟨S2048x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2564 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2564 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2564 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adamw2048x2564RefIdeal.lean ====
abbrev S2048x2564 : Shape := ⟨2, ![2048, 2564]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2564, .f32⟩
  | .hbm, ⟨1, _⟩ => ⟨S2048x2564, .f32⟩
  | .hbm, ⟨2, _⟩ => ⟨S2048x2564, .f32⟩
  | .hbm, ⟨3, _⟩ => ⟨S2048x2564, .f32⟩
  | .hbm, ⟨4, _⟩ => ⟨S_, .f32⟩
  | .hbm, ⟨5, _⟩ => ⟨S2048x2564, .f32⟩
  | .hbm, ⟨6, _⟩ => ⟨S2048x2564, .f32⟩
  | .hbm, ⟨7, _⟩ => ⟨S_, .f32⟩
  | .hbm, ⟨8, _⟩ => ⟨S2048x2564, .f32⟩
  | .hbm, ⟨9, _⟩ => ⟨S2048x2564, .f32⟩
  | .hbm, ⟨10, _⟩ => ⟨S2048x2564, .f32⟩
  | .hbm, ⟨11, _⟩ => ⟨S_, .f32⟩
  | .hbm, ⟨12, _⟩ => ⟨S2048x2564, .f32⟩
  | .hbm, ⟨13, _⟩ => ⟨S2048x2564, .f32⟩
  | .hbm, ⟨14, _⟩ => ⟨S2048x2564, .f32⟩
  | .hbm, ⟨15, _⟩ => ⟨S_, .f32⟩
  | .hbm, ⟨16, _⟩ => ⟨S2048x2564, .f32⟩
  | .hbm, ⟨17, _⟩ => ⟨S2048x2564, .f32⟩
  | .hbm, ⟨18, _⟩ => ⟨S2048x2564, .f32⟩
  | .hbm, ⟨19, _⟩ => ⟨S_, .f32⟩
  | .hbm, ⟨20, _⟩ => ⟨S2048x2564, .f32⟩
  | .hbm, ⟨21, _⟩ => ⟨S2048x2564, .f32⟩
  | .hbm, ⟨22, _⟩ => ⟨S_, .f32⟩
  | .hbm, ⟨23, _⟩ => ⟨S2048x2564, .f32⟩
  | .hbm, ⟨24, _⟩ => ⟨S2048x2564, .f32⟩
  | .hbm, ⟨25, _⟩ => ⟨S2048x2564, .f32⟩
  | .hbm, ⟨26, _⟩ => ⟨S_, .f32⟩
  | .hbm, ⟨27, _⟩ => ⟨S2048x2564, .f32⟩
  | .hbm, ⟨28, _⟩ => ⟨S2048x2564, .f32⟩
  | .hbm, ⟨29, _⟩ => ⟨S2048x2564, .f32⟩
  | .hbm, ⟨30, _⟩ => ⟨S_, .f32⟩
  | .hbm, ⟨31, _⟩ => ⟨S2048x2564, .f32⟩
  | .hbm, ⟨32, _⟩ => ⟨S2048x2564, .f32⟩
  | .hbm, ⟨33, _⟩ => ⟨S2048x2564, .f32⟩
  | .hbm, ⟨34, _⟩ => ⟨S_, .f32⟩
  | .hbm, ⟨35, _⟩ => ⟨S2048x2564, .f32⟩
  | .hbm, ⟨36, _⟩ => ⟨S2048x2564, .f32⟩
  | _, _ => ⟨S2048x2564, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw62x128.lean ====
abbrev S62x128 : Shape := ⟨2, ![62, 128]⟩

abbrev nBuf : Space → Nat
  | .hbm => 7
  | .vmem => 7
  | .smem => 0
  | _ => 0

abbrev bufTy : (tb : Table) → Fin (tcTables nBuf tb) → BufTy
  | .hbm, ⟨0, _⟩ => ⟨S62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S62x128, .f32⟩
  | .hbm, ⟨5, _⟩ => ⟨S62x128, .f32⟩
  | .hbm, ⟨6, _⟩ => ⟨S62x128, .f32⟩
  | .local _ .vmem, ⟨0, _⟩ => ⟨S62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | _, _ => ⟨S62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw62x128Ideal.lean ====
abbrev S62x128 : Shape := ⟨2, ![62, 128]⟩

abbrev nBuf : Space → Nat
  | .hbm => 7
  | .vmem => 7
  | .smem => 0
  | _ => 0

abbrev bufTy : (tb : Table) → Fin (tcTables nBuf tb) → BufTy
  | .hbm, ⟨0, _⟩ => ⟨S62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S62x128, .f32⟩
  | .hbm, ⟨5, _⟩ => ⟨S62x128, .f32⟩
  | .hbm, ⟨6, _⟩ => ⟨S62x128, .f32⟩
  | .local _ .vmem, ⟨0, _⟩ => ⟨S62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | _, _ => ⟨S62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw62x128RefIdeal.lean ====
abbrev S62x128 : Shape := ⟨2, ![62, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S_, .f32⟩
  | .hbm, ⟨5, _⟩ => ⟨S62x128, .f32⟩
  | .hbm, ⟨6, _⟩ => ⟨S62x128, .f32⟩
  | .hbm, ⟨7, _⟩ => ⟨S_, .f32⟩
  | .hbm, ⟨8, _⟩ => ⟨S62x128, .f32⟩
  | .hbm, ⟨9, _⟩ => ⟨S62x128, .f32⟩
  | .hbm, ⟨10, _⟩ => ⟨S62x128, .f32⟩
  | .hbm, ⟨11, _⟩ => ⟨S_, .f32⟩
  | .hbm, ⟨12, _⟩ => ⟨S62x128, .f32⟩
  | .hbm, ⟨13, _⟩ => ⟨S62x128, .f32⟩
  | .hbm, ⟨14, _⟩ => ⟨S62x128, .f32⟩
  | .hbm, ⟨15, _⟩ => ⟨S_, .f32⟩
  | .hbm, ⟨16, _⟩ => ⟨S62x128, .f32⟩
  | .hbm, ⟨17, _⟩ => ⟨S62x128, .f32⟩
  | .hbm, ⟨18, _⟩ => ⟨S62x128, .f32⟩
  | .hbm, ⟨19, _⟩ => ⟨S_, .f32⟩
  | .hbm, ⟨20, _⟩ => ⟨S62x128, .f32⟩
  | .hbm, ⟨21, _⟩ => ⟨S62x128, .f32⟩
  | .hbm, ⟨22, _⟩ => ⟨S_, .f32⟩
  | .hbm, ⟨23, _⟩ => ⟨S62x128, .f32⟩
  | .hbm, ⟨24, _⟩ => ⟨S62x128, .f32⟩
  | .hbm, ⟨25, _⟩ => ⟨S62x128, .f32⟩
  | .hbm, ⟨26, _⟩ => ⟨S_, .f32⟩
  | .hbm, ⟨27, _⟩ => ⟨S62x128, .f32⟩
  | .hbm, ⟨28, _⟩ => ⟨S62x128, .f32⟩
  | .hbm, ⟨29, _⟩ => ⟨S62x128, .f32⟩
  | .hbm, ⟨30, _⟩ => ⟨S_, .f32⟩
  | .hbm, ⟨31, _⟩ => ⟨S62x128, .f32⟩
  | .hbm, ⟨32, _⟩ => ⟨S62x128, .f32⟩
  | .hbm, ⟨33, _⟩ => ⟨S62x128, .f32⟩
  | .hbm, ⟨34, _⟩ => ⟨S_, .f32⟩
  | .hbm, ⟨35, _⟩ => ⟨S62x128, .f32⟩
  | .hbm, ⟨36, _⟩ => ⟨S62x128, .f32⟩
  | _, _ => ⟨S62x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw2x512.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw2x512Ideal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw2x512RefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw1024x256.lean ====
abbrev S1024x256 : Shape := ⟨2, ![1024, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adamw1024x256Ideal.lean ====
abbrev S1024x256 : Shape := ⟨2, ![1024, 256]⟩
abbrev S128x256 : Shape := ⟨2, ![128, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adamw1024x256RefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw8x768.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw8x768Ideal.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw8x768RefIdeal.lean ====
abbrev S8x768 : Shape := ⟨2, ![8, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | .hbm, ⟨7, _⟩ => ⟨S_, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S_, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S_, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S_, .f32⟩
  | .hbm, ⟨20, _⟩ => ⟨S8x768, .f32⟩
  | .hbm, ⟨21, _⟩ => ⟨S8x768, .f32⟩
  | .hbm, ⟨22, _⟩ => ⟨S_, .f32⟩
  | .hbm, ⟨23, _⟩ => ⟨S8x768, .f32⟩
  | .hbm, ⟨24, _⟩ => ⟨S8x768, .f32⟩
  | .hbm, ⟨25, _⟩ => ⟨S8x768, .f32⟩
  | .hbm, ⟨26, _⟩ => ⟨S_, .f32⟩
  | .hbm, ⟨27, _⟩ => ⟨S8x768, .f32⟩
  | .hbm, ⟨28, _⟩ => ⟨S8x768, .f32⟩
  | .hbm, ⟨29, _⟩ => ⟨S8x768, .f32⟩
  | .hbm, ⟨30, _⟩ => ⟨S_, .f32⟩
  | .hbm, ⟨31, _⟩ => ⟨S8x768, .f32⟩
  | .hbm, ⟨32, _⟩ => ⟨S8x768, .f32⟩
  | .hbm, ⟨33, _⟩ => ⟨S8x768, .f32⟩
  | .hbm, ⟨34, _⟩ => ⟨S_, .f32⟩
  | .hbm, ⟨35, _⟩ => ⟨S8x768, .f32⟩
  | .hbm, ⟨36, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw2x8.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw2x8Ideal.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw2x8RefIdeal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw2x128.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw2x128Ideal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw2x128RefIdeal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw512x1024.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adamw512x1024Ideal.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adamw512x1024RefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw1024x128.lean ====
abbrev S1024x128 : Shape := ⟨2, ![1024, 128]⟩
abbrev S128x128 : Shape := ⟨2, ![128, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adamw1024x128Ideal.lean ====
abbrev S1024x128 : Shape := ⟨2, ![1024, 128]⟩
abbrev S128x128 : Shape := ⟨2, ![128, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Adamw1024x128RefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw8x128.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw8x128Ideal.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw8x128RefIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adamw1x1024.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Adamw1x1024RefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.RegionLaunch.lean ====
/-
# Launching a kernel whose devices write into each other's result arrays without a handshake

A kernel that copies into another device's HBM array and never asks that device first needs, from the start, the
right to write there. The launch below therefore gives the certificate, before any device runs, the arrays of ALL
the devices together with their semaphores, under one update, to be dealt as the kernel uses them: a slice of
device `d`'s result to the device that will fill it. Everything else is the ordinary launch of a kernel that
stages no window: the operands stay in HBM and the body runs once.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline.PerCore
open Idealize.ShloMosaic.Pipeline.PerCore.RDat

set_option Elab.async false

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {P : Type} [Fintype P]

local notation "𝕄" => MT nD τ sig Ix Val Name U Lvl

variable (pcs : P → PCfg sig Λ₀ Val) (a : Dev nD → (p : P) → (pcs p).Adm)
  (rdats : (p : P) → (c : Dev nD) → RDat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem)
  (hp : PreFacts (pcs p).spec (pcs p).pre)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- The launch's facts that every core's level assignment amounts to one assignment for the machine. -/
theorem levels_assigned [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  refine (bigSep_mono fun c _ => lev_assign_cells (c.tc : Thread nD τ) L lv).trans <| (BI.bigSep_bupd _ _).trans <| BI.bupd_mono ?_
  have none_else : ∀ d : Dev nD, (bigSep (Finset.univ.erase Proc.tc) fun q => (coreLevAts ((d, q) : Thread nD τ) L lv : sProp 𝕄)) = BI.emp := fun d =>
    (bigSep_congr (Ψ := fun _ : Proc τ => (BI.emp : sProp 𝕄)) fun q hq => by
      unfold coreLevAts
      rw [bigSep_congr (Ψ := fun _ : SemLoc sig => (BI.emp : sProp 𝕄)) fun sm _ => by
        rw [hL (((d, q) : Thread nD τ), sm) (Finset.ne_of_mem_erase hq), BI.bigSep_empty], BI.bigSep_emp_const]).trans
      (BI.bigSep_emp_const _)
  have all_else : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ => none_else d, BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), all_else, bigSep_sep']
  have drop (A B : sProp 𝕄) : iprop(A ∗ B) ⊢ iprop(B ∗ BI.emp) := by
    iintro ⟨-, H⟩
    isplitl [H]; · iexact H
    iempintro
  exact drop _ _

include phinj hw ho hp in
/-- The launch. Each device owes `O₀ c` from the start; `hglob` receives every device's own semaphores at zero, its
    arrays at the launch contents and the certificate's ghost resources `G`, all at once, and makes of them what each
    device starts from (`G'`). The region's body takes `X c` and returns `Y c`; what follows the region on the device makes
    `Z c` of it (`htail`), which is read at the end (`hY`). -/
theorem θ_run_dealt [DecidableEq P] [Preorder Lvl] [∀ e, Nonempty (Val e)] [Infinite Name]
    [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (tail : Dev nD → Prog (TpuEff nD τ sig Val (Sig Λ₀ P fun p => (pcs p).Adm) .tc) PUnit)
    (hmain : ∀ c, main c = .op (.customCall (entry p) ()) fun _ => tail c)
    (hbody : ∀ c, (rdats p c).BodyObligation defs₀ 𝒱₀ ι Set.univ)
    (hW : IsEmpty (Fin (pcs p).W)) (hnp : IsEmpty (Fin (pcs p).pre.K))
    (O₀ : Dev nD → CellTallies nD τ sig Ix) (howed₀ : ∀ c, (rdats p c).owed 0 = O₀ c) (howedN : ∀ c, (rdats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.RDat.cellsWaits (pinD pcs a) rdats ι p c)
    (G G' : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hglob : (bigSep Finset.univ fun c => iprop(ownSems0 osem c ∗ unscopedRest (pinD pcs a c p).spec c (fun b => m ((c.tc : Thread nD τ).loc b)) ∗ G c) : sProp 𝕄)
      ⊢ |={Set.univ}=> bigSep Finset.univ G')
    (X Y Z : Dev nD → sProp 𝕄)
    (hX : ∀ c, iprop(levAts L lv ∗ launchCred O₀ c ∗ G' c) ⊢ X c)
    (hin : ∀ c, iprop(X c ∗ scopedRest (pinD pcs a c p).spec c) ⊢ (rdats p c).Φ 0)
    (hout : ∀ c, (rdats p c).Φ (Fin.last (pinD pcs a c p).N) ⊢ iprop(Y c ∗ ownSems0 osem c ∗ scopedRest (pinD pcs a c p).spec c))
    (htail : ∀ (c : Dev nD) (R : PUnit → sProp 𝕄), iprop(boundary (c.tc : Thread nD τ) ∗ Y c)
      ⊢ iprop(((boundary (c.tc : Thread nD τ) ∗ Z c) -∗ R ⟨⟩) -∗ wp frame (wpE 𝔻 𝕍 (c.tc : Thread nD τ) none) Set.univ (tail c) R))
    (QY : Dev nD → MemSt nD τ sig Val → Prop)
    (hY : ∀ c (s' : Phys nD τ sig Val), iprop(Z c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hstage : ∀ w s, (((pcs p).spec w).stage s).IsWhole := fun w => isEmptyElim w
  have hss := fun c : Dev nD => scopedSems0_split (pinD pcs a) phinj p (fun _ => hw) (fun _ => ho) (Ix := Ix) (Val := Val) (Name := Name) (U := U) (Lvl := Lvl) c
  have hsb := fun c : Dev nD => scopedBufs_split (pinD pcs a) p c hw.stage_scoped hw.stage_inj hstage (nD := nD) (τ := τ) (Ix := Ix) (Val := Val) (Name := Name) (U := U) (Lvl := Lvl)
  have harrs (c : Dev nD) : (BI.emp : sProp 𝕄) ⊢ (rdats p c).arrays (rdats p c).A := by
    have : IsEmpty (Fin (pinD pcs a c p).W) := hW
    unfold RDat.arrays; rw [Finset.univ_eq_empty, BI.bigSep_empty]
  have hpref (c : Dev nD) : (BI.emp : sProp 𝕄) ⊢ prefHeld (pcs p).pre c (fun _ => fullShare.right) (a c p).1 := by
    unfold prefHeld; rw [Finset.univ_eq_empty, BI.bigSep_empty]
  -- a device's holdings at the start of @main and at its end
  let pre : Dev nD → sProp 𝕄 := fun c => iprop((scopedBufs (c.tc : Thread nD τ) ∗ cellsSems0 (pinD pcs a) p c ∗ idleSems0 (pinD pcs a) phinj p (fun _ => ho) c ∗ opIdle (c.tc : Thread nD τ))
    ∗ owes (c.tc : Thread nD τ) (O₀ c) ∅ ∗ levAts L lv ∗ launchCred O₀ c
    ∗ cellsGhost (pinD pcs a) EP p c ∗ toksInit (pinD pcs a) EP p c ∗ G' c)
  let fin : Dev nD → sProp 𝕄 := fun c => iprop(Z c ∗ scopedSems0 (c.tc : Thread nD τ))
  have launched (c : Dev nD) :
      coreInit (Ix := Ix) (Name := Name) (U := U) (Lvl := Lvl) (owing O₀) 0 (⟨m, fun _ => 0, g⟩ : MemSt nD τ sig Val) (c.tc : Thread nD τ)
        ⊢ iprop((scopedBufs (c.tc : Thread nD τ) ∗ cellsSems0 (pinD pcs a) p c ∗ idleSems0 (pinD pcs a) phinj p (fun _ => ho) c ∗ opIdle (c.tc : Thread nD τ))
            ∗ ownSems0 osem c ∗ unscopedRest (pinD pcs a c p).spec c (fun b => m ((c.tc : Thread nD τ).loc b))
            ∗ owes (c.tc : Thread nD τ) (O₀ c) ∅ ∗ levels0 c ∗ launchCred O₀ c) := by
    refine (coreInit_boundary_owing O₀ m g c).trans ?_
    have hdistinct : Function.Injective (arrRef (pinD pcs a c p).spec) := fun w => (hW.false w).elim
    rw [unscopedBufs_split (pinD pcs a) p c hw.arr_unscoped hdistinct (Ix := Ix) (Name := Name) (U := U) (Lvl := Lvl)]
    unfold boundary
    rw [hss c]
    iintro ⟨⟨Hsc, ⟨⟨Hcells, Hown⟩, Hidle⟩, Hop⟩, ⟨-, Hrest⟩, -, HO, Hlev, -, Hcr⟩
    isplitl [Hsc Hcells Hidle Hop]
    · isplitl [Hsc]; · iexact Hsc
      isplitl [Hcells]; · iexact Hcells
      isplitl [Hidle] <;> iassumption
    isplitl [Hown]; · iexact Hown
    isplitl [Hrest]; · iexact Hrest
    isplitl [HO]; · iexact HO
    isplitl [Hlev] <;> iassumption
  have allLaunched :
      (bigSep Finset.univ fun c : Dev nD => coreInit (Ix := Ix) (Name := Name) (U := U) (Lvl := Lvl) (owing O₀) 0 (⟨m, fun _ => 0, g⟩ : MemSt nD τ sig Val) (c.tc : Thread nD τ))
        ⊢ iprop((bigSep Finset.univ fun c : Dev nD => iprop(scopedBufs (c.tc : Thread nD τ) ∗ cellsSems0 (pinD pcs a) p c ∗ idleSems0 (pinD pcs a) phinj p (fun _ => ho) c ∗ opIdle (c.tc : Thread nD τ)))
            ∗ (bigSep Finset.univ fun c : Dev nD => ownSems0 osem c)
            ∗ (bigSep Finset.univ fun c : Dev nD => unscopedRest (pinD pcs a c p).spec c (fun b => m ((c.tc : Thread nD τ).loc b)))
            ∗ (bigSep Finset.univ fun c : Dev nD => owes (c.tc : Thread nD τ) (O₀ c) ∅)
            ∗ (bigSep Finset.univ fun c : Dev nD => levels0 c)
            ∗ (bigSep Finset.univ fun c : Dev nD => launchCred O₀ c)) := by
    refine (bigSep_mono fun c _ => launched c).trans ?_
    simp only [bigSep_sep']
    exact BI.Entails.refl _
  have one (Φ : P → Dev nD → sProp 𝕄) :
      (bigSep Finset.univ fun c : Dev nD => bigSep Finset.univ fun p' => Φ p' c) ⊢ bigSep Finset.univ fun c : Dev nD => Φ p c :=
    bigSep_mono fun c _ => BI.bigSep_elim (Finset.mem_univ p)
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch: every device's semaphores and arrays go through the certificate's one update
    iintro ⟨Hcores, Hu⟩
    ihave Hc := (allLaunched) $$ Hcores
    icases Hc with ⟨Hbound, Hown, Hrest, HO, Hlev, Hcr⟩
    imod (levels_assigned L lv hL) $$ Hlev with #Hla
    imod hu₀ $$ Hu with ⟨HP, HG⟩
    imod (fund_ghost (pinD pcs a) EP phinj) $$ HP with ⟨Hg, Ht⟩
    imod hglob $$ [Hown Hrest HG] with HG'
    · rw [bigSep_sep', bigSep_sep']; isplitl [Hown]; · iexact Hown
      isplitl [Hrest] <;> iassumption
    imodintro
    iexists ()
    isplitl
    · simp only [pre, bigSep_sep']
      isplitl [Hbound]; · iexact Hbound
      isplitl [HO]; · iexact HO
      isplitr; · iapply (BI.bigSep_intro_persistent (S := Finset.univ) fun (c : Dev nD) _ => (BI.Entails.refl (levAts L lv : sProp 𝕄))); iexact Hla
      isplitl [Hcr]; · iexact Hcr
      isplitl [Hg]; · iapply (one fun p' c => cellsGhost (pinD pcs a) EP p' c); iexact Hg
      isplitl [Ht]; · iapply (one fun p' c => toksInit (pinD pcs a) EP p' c); iexact Ht
      iexact HG'
    · iempintro
  · -- one device's run: into the region with `X c`, out of it with `Y c`
    have hout' : iprop((rdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [hss c, hsb c]
      iintro ⟨HΦ, Hcells, Hst, Hidle⟩
      ihave H := (hout c) $$ HΦ
      icases H with ⟨HY, Hown, Hrest⟩
      isplitl [HY]; · iexact HY
      isplitl [Hcells Hown Hidle]
      · isplitl [Hcells Hown]; · isplitl [Hcells] <;> iassumption
        iexact Hidle
      isplitl [Hst] <;> iassumption
    have hin' : iprop(X c ∗ prefHeld (pcs p).pre c (fun _ => fullShare.right) (a c p).1 ∗ scopedRest (pinD pcs a c p).spec c) ⊢ (rdats p c).Φ 0 := by
      refine (?_ : _ ⊢ iprop(X c ∗ scopedRest (pinD pcs a c p).spec c)).trans (hin c)
      iintro ⟨HX, -, Hr⟩
      isplitl [HX] <;> iassumption
    simp only [pre]
    rw [hmain c]
    iintro ⟨⟨Hsc, Hcells, Hidle, Hop⟩, HO, #Hla, Hcr, Hg, Ht, HG⟩
    ihave Hwait := (hwaits c) $$ Hla
    iapply (fupd_wp frame (wpE 𝔻 𝕍 (c.tc : Thread nD τ) none) Set.univ _ _)
    imod (cellsInit_alloc (pinD pcs a) rdats EP phinj p c) $$ [Hcells Hg] with ⟨%κ, -, Hinit⟩
    · isplitl [Hcells] <;> iassumption
    ihave HX := (hX c) $$ [Hcr HG]
    · isplitr; · iexact Hla
      isplitl [Hcr] <;> iassumption
    imodintro
    iapply (wp_customCall_entry_frame pcs a rdats ι EP κ phinj p defs₀ 𝒱₀ (fun _ => fullShare.right) c Set.univ (fun _ _ => Set.mem_univ _)
        (hbody c) (fun w => isEmptyElim w) none (fun u h => nomatch h) (X := X c) (Y := Y c) (R := scopedRest (pinD pcs a c p).spec c) (I := idleSems0 (pinD pcs a) phinj p (fun _ => ho) c)
        (Entails.of_eq (hsb c)) hin' hout'
        (k := fun _ => tail c) (Q := fun _ => post (liftTc fin BI.emp) (c.tc : Thread nD τ))) $$ [HO Hinit Ht HX Hidle Hsc Hwait]
    · isplitl [HO Hinit Ht Hwait]
      · unfold PerCore.RDat.EntryPre RDat.owesAt owesWithin
        rw [howed₀ c]
        isplitr; · iapply (harrs c); iempintro
        isplitl [HO]
        · iexists ∅; isplitr; · ipureintro; rw [Finset.coe_empty]; exact Set.empty_subset _
          iexact HO
        isplitl [Hwait]; · iexact Hwait
        isplitl [Hinit] <;> iassumption
      isplitr; · iapply (hpref c); iempintro
      isplitl [HX]; · iexact HX
      isplitl [Hidle] <;> iassumption
    iintro ⟨Hpost, HY, Hss, Hsc⟩
    iapply (htail c _) $$ [HY Hss Hsc Hop]
    · isplitl [Hss Hsc Hop]
      · unfold boundary
        isplitl [Hsc]; · iexact Hsc
        isplitl [Hss] <;> iassumption
      iexact HY
    unfold boundary
    iintro ⟨⟨-, Hss, -⟩, HZ⟩
    unfold post; simp only [liftTc_tc, fin]
    unfold PerCore.RDat.EntryPost RDat.owesAt owesWithin
    rw [howedN c]
    icases Hpost with ⟨-, ⟨%W, -, HO⟩⟩
    isplitr [HO]
    · isplitl [HZ] <;> iassumption
    · iexists W; iexact HO
  · -- the end: each device's `Z c` and counters read against the final state
    have reads (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HZ, Hss⟩, HSI⟩
      ihave %hz := (tcScoped_read_pers c s') $$ [Hss HSI]
      · isplitl [Hss] <;> iassumption
      imod (hY c s') $$ [HZ HSI] with ⟨%hy, HSI⟩
      · isplitl [HZ] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ reads s') $$ [H HSI] with %h
    · isplitl [H] <;> iassumption
    imodintro
    ipureintro
    exact ⟨fun c => h c (Finset.mem_univ c), hsc⟩

end Cert.Exchange

end
-- ==== Proof.OneShot.lean ====
/-
# The protocol of an exchange in which every semaphore completes exactly one copy

Each device owns the same list of DMA semaphores, and every one of them completes one copy: a copy of the device's own
(a local copy, or the sending side of a remote one), or the copy some other device sends it. This module states that
once, for any such exchange:

* `Plan` lists the semaphores, who completes which (`tgt k c` is the device whose semaphore `k` device `c` completes),
  how many bytes, and in what order the receiving ones are waited for (`lvl`);
* a payload `pay c k` says what device `c` gets by waiting on its semaphore `k`;
* `copy_rule`, `send_rule` and `wait_rule` are the three steps a body makes;
* `deal` turns the devices' idle semaphores and the ghost resources into what each device starts from.
-/
module

public import proofs.«01_k».proof.Proof.RegionLaunch

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Who completes which semaphore. `tgt k c` is the device whose semaphore `k` the copy of device `c` completes; `remote`
    are the semaphores completed by other devices, waited for in the order of `lvl`. -/
structure Plan (nD : Nat) (sig : RefSig) where
  K : ℕ
  osem : Fin K → SemLoc sig
  osem_inj : Function.Injective osem
  tgt : Fin K → Equiv.Perm (Dev nD)
  amt : Fin K → ℕ
  amt_pos : ∀ k, 0 < amt k
  remote : Finset (Fin K)
  lvl : Fin K → ℕ

variable {nD : Nat} {τ : Topo} {sig : RefSig} {Val : EltTy → Type}

/-- The ghost resources: one copy for the launch's own (idle) staging protocol, one for the exchange. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

namespace Plan

variable (T : Plan nD sig)

/-- Device `c`'s semaphore `k`. -/
abbrev cell (c : Dev nD) (k : Fin T.K) : GSem nD τ sig := ((c.tc : Thread nD τ), T.osem k)

theorem cell_inj {c c' : Dev nD} {k k' : Fin T.K} (h : T.cell (τ := τ) c k = T.cell c' k') : c = c' ∧ k = k' :=
  ⟨congrArg (fun g : GSem nD τ sig => g.1.1) h, T.osem_inj (congrArg Prod.snd h)⟩

/-- What device `c` still owes other devices when the semaphores `S` are the ones it has yet to complete. -/
def owed (c : Dev nD) (S : Finset (Fin T.K)) : CellTallies nD τ sig Unit := ∑ k ∈ S, tallyAt (T.cell (T.tgt k c) k) () (T.amt k)

theorem owed_empty (c : Dev nD) : T.owed (τ := τ) c ∅ = 0 := Finset.sum_empty
theorem owed_erase (c : Dev nD) {S : Finset (Fin T.K)} {k : Fin T.K} (hk : k ∈ S) :
    T.owed (τ := τ) c S = T.owed c (S.erase k) + tallyAt (T.cell (T.tgt k c) k) () (T.amt k) :=
  (Finset.sum_erase_add S _ hk).symm

theorem owed_pos {c : Dev nD} {S : Finset (Fin T.K)} {g : GSem nD τ sig} {u : Unit} (h : 0 < T.owed c S g u) :
    ∃ k ∈ S, g = T.cell (T.tgt k c) k := by
  unfold owed at h
  rw [Finset.sum_apply, Finsupp.finset_sum_apply] at h
  obtain ⟨k, hk, hpos⟩ := Finset.exists_ne_zero_of_sum_ne_zero h.ne'
  rw [tallyAt_apply] at hpos
  refine ⟨k, hk, ?_⟩
  by_contra hn
  exact hpos (if_neg fun h' => hn h'.1)

/-- The cells whose waits carry a level: those of the cores that run the body. -/
def lev (g : GSem nD τ sig) : Finset Unit := if g.1.2 = .tc then {()} else ∅
theorem mem_lev (c : Dev nD) (sm : SemLoc sig) (u : Unit) : u ∈ lev ((c.tc : Thread nD τ), sm) := by
  unfold lev; rw [if_pos rfl]; exact Finset.mem_singleton_self _
/-- A semaphore's level. -/
def lv (g : GSem nD τ sig) (_ : Unit) : ℕ := if h : ∃ k, T.osem k = g.2 then T.lvl h.choose else 0

theorem choose_cell (c : Dev nD) (k : Fin T.K) (h : ∃ k', T.osem k' = (T.cell (τ := τ) c k).2) : h.choose = k := T.osem_inj h.choose_spec
theorem lv_cell (c : Dev nD) (k : Fin T.K) (u : Unit) : T.lv (T.cell (τ := τ) c k) u = T.lvl k := by
  unfold lv
  have h : ∃ k', T.osem k' = (T.cell (τ := τ) c k).2 := ⟨k, rfl⟩
  rw [dif_pos h, T.choose_cell c k h]

/-- A device may wait on its semaphore `k` while all it still owes lies at higher levels. -/
theorem mayWait (c : Dev nD) (k : Fin T.K) (S : Finset (Fin T.K)) (h : ∀ k' ∈ S, T.lvl k < T.lvl k') :
    (levAts lev T.lv : sProp 𝕄) ⊢ MayWait (c.tc : Thread nD τ) (T.osem k) () (T.owed c S) :=
  MayOwe.of_cut (L := lev) (lev := T.lv) (T.lvl k)
    (fun p hp => mem_lev c p.1 p.2)
    (fun g u hg => by
      obtain ⟨k', _, rfl⟩ := T.owed_pos hg
      exact mem_lev _ _ _)
    (fun p hp => by rw [Finset.mem_singleton.mp hp]; exact (T.lv_cell (τ := τ) c k ()).le)
    (fun g u hg => by
      obtain ⟨k', hk', rfl⟩ := T.owed_pos hg
      rw [T.lv_cell]; exact h k' hk')

/-! ## The schedule -/

variable (pay : Dev nD → Fin T.K → sProp (MT nD τ sig Unit Val ℕ (UU nD τ sig) ℕ))

/-- Every semaphore has one round of one duty: the copy it completes. -/
def sched : Rounds.Schedule (GSem nD τ sig) Unit 𝕄 where
  duties g r := if r = 0 ∧ g.1.2 = .tc ∧ ∃ k, T.osem k = g.2 then {()} else ∅
  unitless _ := False
  amount g _ _ := if h : ∃ k, T.osem k = g.2 then T.amt h.choose else 1
  payload g _ _ := if h : ∃ k, T.osem k = g.2 then pay g.1.1 h.choose else iprop(emp)
  amount_pos g _ _ _ := by
    split
    · exact T.amt_pos _
    · exact Nat.one_pos

theorem duties_cell (c : Dev nD) (k : Fin T.K) : (T.sched pay).duties (T.cell c k) 0 = {()} := if_pos ⟨rfl, rfl, k, rfl⟩
theorem duties_later (g : GSem nD τ sig) : ∀ r, 1 ≤ r → (T.sched pay).duties g r = ∅ := fun r hr => if_neg fun h => by omega
theorem amount_cell (c : Dev nD) (k : Fin T.K) (u : Unit) : (T.sched pay).amount (T.cell c k) 0 u = T.amt k := by
  have h : ∃ k', T.osem k' = (T.cell (τ := τ) c k).2 := ⟨k, rfl⟩
  exact (dif_pos h).trans (congrArg T.amt (T.choose_cell c k h))
theorem payload_cell (c : Dev nD) (k : Fin T.K) (u : Unit) : (T.sched pay).payload (T.cell c k) 0 u = pay c k := by
  have h : ∃ k', T.osem k' = (T.cell (τ := τ) c k).2 := ⟨k, rfl⟩
  exact (dif_pos h).trans (congrArg (pay c) (T.choose_cell c k h))
theorem expect_cell (c : Dev nD) (k : Fin T.K) : (T.sched pay).expect (T.cell c k) 0 = T.amt k := by
  unfold Schedule.expect Schedule.amountOf
  rw [duties_cell, Finset.sum_singleton, amount_cell]
theorem rest_cell (c : Dev nD) (k : Fin T.K) :
    bigSep ((T.sched pay).duties (T.cell c k) 0 \ ∅) (fun u => (T.sched pay).payload (T.cell c k) 0 u) = pay c k := by
  rw [Finset.sdiff_empty, duties_cell, bigSep_singleton, payload_cell]

instance payload_storable [h : ∀ c k, BI.Storable (upEmb : UEmb _ 𝕄) (pay c k)] (g : GSem nD τ sig) (r : ℕ) (d : Unit) :
    BI.Storable (upEmb : UEmb _ 𝕄) ((T.sched pay).payload g r d) := by
  show BI.Storable upEmb (if h : ∃ k, T.osem k = g.2 then pay g.1.1 h.choose else iprop(emp))
  split <;> infer_instance

/-! ## What a device holds -/

/-- The semaphores' invariants of every device, and that each has reached its one round. -/
def records (N : Dev nD × Fin T.K → ℕ) : sProp 𝕄 :=
  iprop((bigSep Finset.univ fun ck : Dev nD × Fin T.K => cellInv ER (T.sched pay) (N ck) (T.cell ck.1 ck.2))
    ∗ bigSep Finset.univ fun ck : Dev nD × Fin T.K => reached ER (T.cell ck.1 ck.2) 0)

instance records_persistent (N : Dev nD × Fin T.K → ℕ) : BI.Persistent (T.records (τ := τ) pay N) := by unfold records; infer_instance

/-- The right to complete, once, the semaphore `k` of the device that `c`'s copy completes. -/
def tok (c : Dev nD) (k : Fin T.K) : sProp 𝕄 := dutyTok ER (T.cell (T.tgt k c) k) 0 ()
/-- Device `c` has not waited on its semaphore `k`. -/
def pos (c : Dev nD) (k : Fin T.K) : sProp 𝕄 := atPos ER (T.cell c k) 0 ∅ 0
/-- Device `c`'s semaphore `k` will be completed. -/
def due (c : Dev nD) (k : Fin T.K) : sProp 𝕄 := cred (tallyAt (T.cell c k) () (T.amt k))
/-- Device `c`'s semaphore `k` has been waited on, and reads zero. -/
def zero (c : Dev nD) (k : Fin T.K) : sProp 𝕄 := semVal (T.cell c k) 0
/-- Device `c` has yet to complete the semaphores `S` of other devices. -/
def owing (c : Dev nD) (S : Finset (Fin T.K)) : sProp 𝕄 := iprop(∃ W, owes (c.tc : Thread nD τ) (T.owed c S) W)

theorem inv_at (N : Dev nD × Fin T.K → ℕ) (c : Dev nD) (k : Fin T.K) :
    T.records (τ := τ) pay N ⊢ cellInv ER (T.sched pay) (N (c, k)) (T.cell c k) := by
  have h : (bigSep Finset.univ fun ck : Dev nD × Fin T.K => (cellInv ER (T.sched pay) (N ck) (T.cell ck.1 ck.2) : sProp 𝕄))
      ⊢ cellInv ER (T.sched pay) (N (c, k)) (T.cell c k) := bigSep_elim (Finset.mem_univ (c, k))
  unfold records
  iintro ⟨H, -⟩
  iapply h; iexact H
theorem reached_at (N : Dev nD × Fin T.K → ℕ) (c : Dev nD) (k : Fin T.K) :
    T.records (τ := τ) pay N ⊢ reached ER (T.cell c k) 0 := by
  have h : (bigSep Finset.univ fun ck : Dev nD × Fin T.K => (reached ER (T.cell ck.1 ck.2) 0 : sProp 𝕄)) ⊢ reached ER (T.cell c k) 0 :=
    bigSep_elim (Finset.mem_univ (c, k))
  unfold records
  iintro ⟨-, H⟩
  iapply h; iexact H

/-! ## The three steps of a body -/

section Steps

variable {Λ₀ : Idealize.SL.Sem.Labels} {defs₀ : Defs nD τ sig Val Λ₀} {𝒱₀ : Variants}
variable [∀ c k, BI.Storable (upEmb : UEmb _ (MT nD τ sig Unit Val ℕ (UU nD τ sig) ℕ)) (pay c k)] (N : Dev nD × Fin T.K → ℕ) (c : Dev nD)

/-- A local copy, on the device's own semaphore `k`. -/
theorem copy_rule {sp sp' : Space} {s : Shape} {e : EltTy} {src : Memref sig (c.tc : Thread nD τ).2.kind sp s e} {dst : Memref sig (c.tc : Thread nD τ).2.kind sp' s e} {sem : SemLoc sig}
    {hsrc : src.view.WordExact} {hdst : dst.view.WordExact} {hsem : DmaTarget.Typed (nD := nD) sp sem (.here dst)}
    {α : Type} {Q : α → sProp 𝕄} {k : PUnit → Prog (TpuEff nD τ sig Val Λ₀ (c.tc : Thread nD τ).2) α} {q : PosShare TreeShare}
    {fs : Buf Val (src.view.loc (c.tc : Thread nD τ))} {fd : Buf Val (dst.view.loc (c.tc : Thread nD τ))}
    (j : Fin T.K) (hsm : sem = T.osem j) (htgt : T.tgt j c = c) (hN : dst.view.amount sem = T.amt j)
    (hpay : iprop((dst.view.loc (c.tc : Thread nD τ) ↦[dst.view.set]{fullShare} (dst.view.write Val fd (src.view.read Val fs) Finset.univ))
              ∗ (src.view.loc (c.tc : Thread nD τ) ↦[src.view.set]{q} fs)) ⊢ pay c j) :
    iprop(T.records pay N ∗ (src.view.loc (c.tc : Thread nD τ) ↦[src.view.set]{q} fs) ∗ (dst.view.loc (c.tc : Thread nD τ) ↦[dst.view.set]{fullShare} fd)
        ∗ T.tok c j)
      ⊢ iprop((T.due c j -∗ wp frame (wpE defs₀ 𝒱₀ (c.tc : Thread nD τ) none) Set.univ (k ⟨⟩) Q)
          -∗ wp frame (wpE defs₀ 𝒱₀ (c.tc : Thread nD τ) none) Set.univ (.op (.enqueueDma src (.here dst) sem hsrc hdst hsem) k) Q) := by
  subst hsm
  unfold tok due
  rw [htgt]
  iintro ⟨#HR, Hs, Hd, Ht⟩ Hk
  iapply (Rounds.wp_copy_pointsTo 𝒱₀ ER (T.sched pay) (c.tc : Thread nD τ) none (κ := N (c, j)) (r := 0) (d := ()) (fd := fd) (fs := fs) (q := q)
      (by rw [T.duties_cell pay c j]; exact Finset.mem_singleton_self _) () (T.amt j) hN (T.amount_cell pay c j ())
      (by rw [T.payload_cell pay c j]; exact hpay)) $$ [Hs Hd Ht]
  · isplitr; · iapply (T.inv_at pay N c j); iexact HR
    isplitl [Hs]; · iexact Hs
    isplitl [Hd]; · iexact Hd
    isplitl [Ht]; · iexact Ht
    iapply (T.reached_at pay N c j); iexact HR
  iexact Hk

/-- A copy to another device: it completes the device's own semaphore `j₁` when the source has been read, and semaphore
    `j₂` of the device addressed when the copy has landed. -/
theorem send_rule {c' : Dev nD} {sp sp' : Space} {s : Shape} {e : EltTy} {src : Memref sig (c.tc : Thread nD τ).2.kind sp s e}
    {dst : Memref sig (c'.tc : Thread nD τ).2.kind sp' s e} {hsc : dst.view.ref.isScScratch = false} {sS sem : SemLoc sig}
    {hsrc : src.view.WordExact} {hdst : dst.view.WordExact} {hsem : DmaTarget.Typed sp sem (.remote (c'.tc : Thread nD τ) dst sS hsc)}
    {α : Type} {Q : α → sProp 𝕄} {k : PUnit → Prog (TpuEff nD τ sig Val Λ₀ (c.tc : Thread nD τ).2) α} {q : PosShare TreeShare}
    {fs : Buf Val (src.view.loc (c.tc : Thread nD τ))} {fd : Buf Val (dst.view.loc (c'.tc : Thread nD τ))}
    (j₁ j₂ : Fin T.K) (S : Finset (Fin T.K)) (hS : j₂ ∈ S) (hsS : sS = T.osem j₁) (hsm : sem = T.osem j₂)
    (ht₁ : T.tgt j₁ c = c) (ht₂ : T.tgt j₂ c = c')
    (hN₁ : dst.view.amount sem = T.amt j₁) (hN₂ : T.amt j₂ = T.amt j₁)
    (hpay₁ : (src.view.loc (c.tc : Thread nD τ) ↦[src.view.set]{q} fs) ⊢ pay c j₁)
    (hpay₂ : (dst.view.loc (c'.tc : Thread nD τ) ↦[dst.view.set]{fullShare} (dst.view.write Val fd (src.view.read Val fs) Finset.univ)) ⊢ pay c' j₂)
    (hr : τ.routes (c.tc : Thread nD τ) (c'.tc : Thread nD τ) = true := by routes) :
    iprop(T.records pay N ∗ (src.view.loc (c.tc : Thread nD τ) ↦[src.view.set]{q} fs) ∗ (dst.view.loc (c'.tc : Thread nD τ) ↦[dst.view.set]{fullShare} fd)
        ∗ T.owing c S ∗ T.tok c j₁ ∗ T.tok c j₂)
      ⊢ iprop(((T.due c j₁ ∗ T.owing c (S.erase j₂)) -∗ wp frame (wpE defs₀ 𝒱₀ (c.tc : Thread nD τ) none) Set.univ (k ⟨⟩) Q)
          -∗ wp frame (wpE defs₀ 𝒱₀ (c.tc : Thread nD τ) none) Set.univ
              (.op (.enqueueDma src (.remote (c'.tc : Thread nD τ) dst sS hsc) sem hsrc hdst hsem) k) Q) := by
  subst hsm hsS
  unfold tok due owing
  rw [ht₁, ht₂]
  iintro ⟨#HR, Hs, Hd, ⟨%W, HO⟩, Ht₁, Ht₂⟩ Hk
  iapply (Rounds.wp_send_pointsTo 𝒱₀ ER (T.sched pay) (c.tc : Thread nD τ) none (κ₁ := N (c, j₁)) (κ₂ := N (c', j₂)) (r₁ := 0) (r₂ := 0) (d₁ := ()) (d₂ := ())
      (fd := fd) (fs := fs) (q := q)
      (by rw [T.duties_cell pay c j₁]; exact Finset.mem_singleton_self _) (by rw [T.duties_cell pay c' j₂]; exact Finset.mem_singleton_self _)
      () () (T.amt j₁) hN₁ (O₀ := T.owed c S) (T.amount_cell pay c j₁ ()) ((T.amount_cell pay c' j₂ ()).trans hN₂) (T.owed c (S.erase j₂))
      (by rw [T.owed_erase c hS, ht₂, hN₂]) (W := W)
      (by rw [T.payload_cell pay c j₁]; exact hpay₁) (by rw [T.payload_cell pay c' j₂]; exact hpay₂) (hr := hr)) $$ [Hs Hd HO Ht₁ Ht₂]
  · isplitr; · iapply (T.inv_at pay N c j₁); iexact HR
    isplitr; · iapply (T.inv_at pay N c' j₂); iexact HR
    isplitl [Hs]; · iexact Hs
    isplitl [Hd]; · iexact Hd
    isplitl [HO]; · iexact HO
    isplitl [Ht₁]; · iexact Ht₁
    isplitr; · iapply (T.reached_at pay N c j₁); iexact HR
    isplitl [Ht₂]; · iexact Ht₂
    iapply (T.reached_at pay N c' j₂); iexact HR
  iintro ⟨Hc, HO⟩
  iapply Hk
  isplitl [Hc]; · iexact Hc
  iexists W; iexact HO

/-- The wait on the device's semaphore `j`: it returns the payload, and the semaphore reads zero for good. -/
theorem wait_rule {w : TpuEff nD τ sig Val Λ₀ (c.tc : Thread nD τ).2 PUnit} {sm : SemLoc sig} {k' : ℕ}
    (hw : ∀ K : PUnit → sProp 𝕄, wpE defs₀ 𝒱₀ (c.tc : Thread nD τ) none Set.univ w K = waitSpec (c.tc : Thread nD τ) Set.univ sm k' K)
    {α : Type} {Q : α → sProp 𝕄} {k : PUnit → Prog (TpuEff nD τ sig Val Λ₀ (c.tc : Thread nD τ).2) α}
    (j : Fin T.K) (S : Finset (Fin T.K)) (hsm : sm = T.osem j) (hk : k' = T.amt j) (hlv : ∀ i ∈ S, T.lvl j < T.lvl i) :
    iprop((T.records pay N ∗ levAts lev T.lv) ∗ T.due c j ∗ T.owing c S ∗ T.pos c j)
      ⊢ iprop(((T.owing c S ∗ T.zero c j ∗ pay c j) -∗ wp frame (wpE defs₀ 𝒱₀ (c.tc : Thread nD τ) none) Set.univ (k ⟨⟩) Q)
          -∗ wp frame (wpE defs₀ 𝒱₀ (c.tc : Thread nD τ) none) Set.univ (.op w k) Q) := by
  subst hsm hk
  unfold due owing pos zero
  iintro ⟨⟨#HR, #HL⟩, Hc, ⟨%W, HO⟩, Hat⟩ Hk
  iapply (Rounds.wp_wait_rest_token 𝒱₀ ER (T.sched pay) (c.tc : Thread nD τ) none (κ := N (c, j)) hw (Set.mem_univ _) () (O := T.owed c S) (W := W)
      (R := 0) (m := 0) (T := ∅) (by rw [Nat.zero_add, T.expect_cell pay c j])) $$ [Hc HO Hat]
  · isplitr; · iapply (T.inv_at pay N c j); iexact HR
    isplitl [Hc]; · iexact Hc
    isplitl [HO]; · iexact HO
    isplitr; · iapply (T.mayWait c j S hlv); iexact HL
    iexact Hat
  iintro ⟨HO, Hat, -, Hp⟩
  ihave Hp' := (Entails.of_eq (T.rest_cell pay c j)) $$ Hp
  imod (Rounds.cell_close ER (T.sched pay) (Set.mem_univ (N (c, j))) (fun h => h) (R := 0 + 1) (T.duties_later pay (T.cell c j))) $$ [Hat] with Hz
  · isplitr; · iapply (T.inv_at pay N c j); iexact HR
    iexact Hat
  iapply Hk
  isplitl [HO]; · iexists _; iexact HO
  isplitl [Hz]; · iexact Hz
  iexact Hp'

end Steps

end Plan

end Cert.Exchange

end
-- ==== Proof.OneShotLaunch.lean ====
/-
# Launching an exchange: from the devices' idle semaphores and arrays to a finished run

`deal` makes of every device's idle semaphores what the devices start from: the right to wait on one's own semaphores,
and the right to complete the semaphores one's copies complete. `run_then` is the whole run of an exchange whose body is
proved by the three steps, followed by a tail every device runs on its own: what is left to the certificate is how the
arrays are dealt (`hdeal`), the body (`hbody`), the tail (`htail`) and what is read at the end (`hY`). `run` is the run of
an exchange alone.
-/
module

public import Idealize.ShloMosaic.Lib.Pipeline.TalkSched
public import proofs.«01_k».proof.Proof.OneShot

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Dat cellOf)

namespace Plan

variable {nD : Nat} {τ : Topo} {sig : RefSig} {Val : EltTy → Type}

local notation "𝕄" => MT nD τ sig Unit Val ℕ (UU nD τ sig) ℕ

variable (T : Plan nD sig) (pay : Dev nD → Fin T.K → sProp (MT nD τ sig Unit Val ℕ (UU nD τ sig) ℕ))

/-! ## The ghost resources -/

theorem kcell_inj : Function.Injective fun ck : Dev nD × Fin T.K => T.cell (τ := τ) ck.1 ck.2 :=
  fun a b h => Prod.ext (T.cell_inj h).1 (T.cell_inj h).2

def allCells : Finset (GSem nD τ sig) := Finset.univ.map ⟨fun ck : Dev nD × Fin T.K => T.cell ck.1 ck.2, T.kcell_inj⟩
def allToks : Finset (GSem nD τ sig × ℕ × Unit) :=
  Finset.univ.map ⟨fun ck : Dev nD × Fin T.K => (T.cell ck.1 ck.2, 0, ()), fun _ _ h => T.kcell_inj (congrArg Prod.fst h)⟩

/-- A device's share of the ghost resources, its own semaphores'. -/
def ghost (c : Dev nD) : sProp 𝕄 :=
  iprop((bigSep Finset.univ fun k : Fin T.K => roundState ER (T.sched pay) (T.cell c k) 0)
    ∗ (bigSep Finset.univ fun k : Fin T.K => iprop(T.pos c k ∗ reached ER (T.cell c k) 0))
    ∗ bigSep Finset.univ fun k : Fin T.K => dutyTok ER (T.cell c k) 0 ())

theorem fund : BI.own (ER (initOf T.allCells T.allToks)) ⊢ (|==> bigSep Finset.univ (T.ghost pay) : sProp 𝕄) := by
  have hX (Φ : GSem nD τ sig → sProp 𝕄) : bigSep T.allCells Φ = bigSep Finset.univ fun c : Dev nD => bigSep Finset.univ fun k : Fin T.K => Φ (T.cell c k) := by
    unfold allCells; rw [bigSep_map, bigSep_univ_prod]; rfl
  have hT : bigSep T.allToks (fun x => (dutyTok ER x.1 x.2.1 x.2.2 : sProp 𝕄))
      = bigSep Finset.univ fun c : Dev nD => bigSep Finset.univ fun k : Fin T.K => dutyTok ER (T.cell c k) 0 () := by
    unfold allToks; rw [bigSep_map, bigSep_univ_prod]; rfl
  iintro HX
  imod (Rounds.fund ER (T.sched pay) T.allCells T.allToks) $$ HX with ⟨Hst, Hr, Hat, Htok⟩
  imodintro
  ihave Hst' := (Entails.of_eq (hX fun g => roundState ER (T.sched pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold ghost pos; simp only [bigSep_sep']
  isplitl [Hst']; · iexact Hst'
  isplitl [Hat' Hr']
  · isplitl [Hat'] <;> iassumption
  iexact Htok'

/-- The invariants of a device's semaphores, from their counters at zero. -/
theorem invariants [∀ c k, BI.Storable (upEmb : UEmb _ (MT nD τ sig Unit Val ℕ (UU nD τ sig) ℕ)) (pay c k)] (c : Dev nD) :
    iprop(Pipeline.ownSems0 (Ix := Unit) (Name := ℕ) (U := UU nD τ sig) (Lvl := ℕ) (Val := Val) (τ := τ) T.osem c ∗ T.ghost pay c)
      ⊢ |={Set.univ}=> iprop((bigSep Finset.univ fun k => iprop(∃ κ : ℕ, cellInv ER (T.sched pay) κ (T.cell c k)))
          ∗ (bigSep Finset.univ fun k : Fin T.K => iprop(T.pos c k ∗ reached ER (T.cell c k) 0))
          ∗ bigSep Finset.univ fun k : Fin T.K => dutyTok ER (T.cell c k) 0 ()) := by
  unfold ghost
  rw [show (Pipeline.ownSems0 (Ix := Unit) (Name := ℕ) (U := UU nD τ sig) (Lvl := ℕ) (Val := Val) (τ := τ) T.osem c : sProp 𝕄)
    = bigSep Finset.univ fun k : Fin T.K => semVal (T.cell c k) 0 from rfl]
  have hinv : iprop((bigSep Finset.univ fun k : Fin T.K => semVal (T.cell c k) 0) ∗ bigSep Finset.univ fun k : Fin T.K => roundState ER (T.sched pay) (T.cell c k) 0)
      ⊢ (|={Set.univ}=> bigSep Finset.univ fun k => iprop(∃ κ : ℕ, cellInv ER (T.sched pay) κ (T.cell c k)) : sProp 𝕄) := by
    rw [← bigSep_sep']
    exact (bigSep_mono fun k _ => (Rounds.body_intro ER (T.sched pay) (T.cell c k)).trans inv_alloc).trans (bigSep_fupd _ _)
  iintro ⟨Hv, Hst, Hat, Htok⟩
  imod hinv $$ [Hv Hst] with Hinv
  · isplitl [Hv] <;> iassumption
  imodintro
  isplitl [Hinv]; · iexact Hinv
  isplitl [Hat]; · iexact Hat
  iexact Htok

/-- The tokens, from the devices whose semaphores they complete to the devices that complete them. -/
theorem toks_around :
    (bigSep Finset.univ fun c : Dev nD => bigSep Finset.univ fun k : Fin T.K => (dutyTok ER (T.cell c k) 0 () : sProp 𝕄))
      = bigSep Finset.univ fun c : Dev nD => bigSep Finset.univ fun k : Fin T.K => T.tok c k := by
  let e : Dev nD × Fin T.K ≃ Dev nD × Fin T.K :=
    ⟨fun ck => (T.tgt ck.2 ck.1, ck.2), fun ck => ((T.tgt ck.2).symm ck.1, ck.2),
      fun ck => Prod.ext (Equiv.symm_apply_apply _ _) rfl, fun ck => Prod.ext (Equiv.apply_symm_apply _ _) rfl⟩
  rw [← bigSep_univ_prod (fun ck : Dev nD × Fin T.K => (dutyTok ER (T.cell ck.1 ck.2) 0 () : sProp 𝕄)),
    ← bigSep_univ_prod (fun ck : Dev nD × Fin T.K => (T.tok ck.1 ck.2 : sProp 𝕄)), bigSep_univ_equiv e]
  rfl

/-- What each device starts from, its arrays and credit apart. -/
def dealt (c : Dev nD) : sProp 𝕄 :=
  iprop(∃ N, T.records pay N ∗ (bigSep Finset.univ fun k : Fin T.K => T.pos c k) ∗ bigSep Finset.univ fun k : Fin T.K => T.tok c k)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c => iprop((bigSep Finset.univ fun k => iprop(∃ κ : ℕ, cellInv ER (T.sched pay) κ (T.cell c k)))
          ∗ (bigSep Finset.univ fun k : Fin T.K => iprop(T.pos c k ∗ reached ER (T.cell c k) 0))
          ∗ bigSep Finset.univ fun k : Fin T.K => dutyTok ER (T.cell c k) 0 ()) : sProp 𝕄)
      ⊢ bigSep Finset.univ (T.dealt pay) := by
  rw [bigSep_sep', bigSep_sep', ← bigSep_univ_prod (fun ck : Dev nD × Fin T.K => iprop(∃ κ : ℕ, cellInv ER (T.sched pay) κ (T.cell ck.1 ck.2))),
    bigSep_congr (s := Finset.univ) (fun (c : Dev nD) _ => bigSep_sep' Finset.univ (fun k : Fin T.K => (T.pos c k : sProp 𝕄)) (fun k => reached ER (T.cell c k) 0)),
    bigSep_sep', ← bigSep_univ_prod (fun ck : Dev nD × Fin T.K => (reached ER (T.cell ck.1 ck.2) 0 : sProp 𝕄)), T.toks_around]
  iintro ⟨HI, ⟨Hat, #HR⟩, Htok⟩
  ihave HK := (BI.bigSep_exists_pi Finset.univ (fun (ck : Dev nD × Fin T.K) (κ : ℕ) => (cellInv ER (T.sched pay) κ (T.cell ck.1 ck.2) : sProp 𝕄))) $$ HI
  icases HK with ⟨%N, #HI⟩
  have intro (c : Dev nD) : iprop(T.records pay N ∗ ((bigSep Finset.univ fun k : Fin T.K => T.pos c k) ∗ bigSep Finset.univ fun k : Fin T.K => T.tok c k)) ⊢ T.dealt pay c := by
    unfold dealt
    iintro ⟨#HR, H⟩
    iexists N
    isplitr; · iexact HR
    iexact H
  iapply (with_persistent (S := Finset.univ) (R := T.records pay N) fun c _ => intro c)
  isplitr
  · unfold records; isplitl; · iexact HI
    iexact HR
  · rw [bigSep_sep']
    isplitl [Hat]; · iexact Hat
    iexact Htok

/-- Every device's semaphores at zero and its ghost resources make what every device starts from. -/
theorem deal [∀ c k, BI.Storable (upEmb : UEmb _ (MT nD τ sig Unit Val ℕ (UU nD τ sig) ℕ)) (pay c k)] :
    (bigSep Finset.univ fun c => iprop(Pipeline.ownSems0 (Ix := Unit) (Name := ℕ) (U := UU nD τ sig) (Lvl := ℕ) (Val := Val) (τ := τ) T.osem c ∗ T.ghost pay c) : sProp 𝕄)
      ⊢ |={Set.univ}=> bigSep Finset.univ (T.dealt pay) :=
  ((bigSep_mono fun c _ => T.invariants pay c).trans (bigSep_fupd _ _)).trans (BI.fupd_mono (T.regroup pay))

/-! ## The launch credit -/

theorem launch_cell (c : Dev nD) {k : Fin T.K} (hk : k ∈ T.remote) :
    tallyOn (T.cell (τ := τ) c k) (launchCredit (Pipeline.owing fun d => T.owed (τ := τ) d T.remote) 0 (T.cell (τ := τ) c k)) = (tallyAt (T.cell (τ := τ) c k) () (T.amt k) : CellTallies nD τ sig Unit) := by
  unfold tallyAt; refine congrArg (tallyOn (T.cell (τ := τ) c k)) (Finsupp.ext fun u => ?_); cases u
  rw [Pipeline.launchCredit_owing, Finsupp.single_eq_same]
  have one (d : Dev nD) : T.owed (τ := τ) d T.remote (T.cell c k) () = if d = (T.tgt k).symm c then T.amt k else 0 := by
    unfold owed
    rw [Finset.sum_apply, Finsupp.finset_sum_apply, Finset.sum_eq_single k]
    · rw [tallyAt_apply]
      by_cases h : d = (T.tgt k).symm c
      · subst h; rw [Equiv.apply_symm_apply, if_pos ⟨rfl, rfl⟩, if_pos rfl]
      · rw [if_neg fun h' => h (((T.tgt k).symm_apply_apply d).symm.trans (congrArg _ (T.cell_inj h'.1).1.symm)), if_neg h]
    · intro k' _ hne
      rw [tallyAt_apply, if_neg fun h' => hne (T.cell_inj h'.1).2.symm]
    · exact fun h => absurd hk h
  rw [Finset.sum_congr rfl fun d _ => one d, Finset.sum_ite_eq' Finset.univ ((T.tgt k).symm c) fun _ => T.amt k, if_pos (Finset.mem_univ _)]

theorem dues (c : Dev nD) : (Pipeline.launchCred (fun d => T.owed d T.remote) c : sProp 𝕄) ⊢ bigSep T.remote fun k => T.due c k := by
  classical
  unfold Pipeline.launchCred
  have h := bigSep_map (s := T.remote) ⟨T.osem, T.osem_inj⟩
    (Φ := fun sm : SemLoc sig => (cred (tallyOn ((c.tc : Thread nD τ), sm) (launchCredit (Pipeline.owing fun d => T.owed d T.remote) 0 ((c.tc : Thread nD τ), sm))) : sProp 𝕄))
  refine (BI.bigSep_subset (Φ := fun sm : SemLoc sig => (cred (tallyOn ((c.tc : Thread nD τ), sm) (launchCredit (Pipeline.owing fun d => T.owed d T.remote) 0 ((c.tc : Thread nD τ), sm))) : sProp 𝕄)) (Finset.subset_univ (T.remote.map ⟨T.osem, T.osem_inj⟩))).trans ((Entails.of_eq h).trans (bigSep_mono fun k hk => ?_))
  unfold due
  rw [← T.launch_cell c hk]
  exact Entails.refl _

/-! ## The run -/

/-- What a device holds when its body starts. -/
def start (B : Dev nD → sProp (MT nD τ sig Unit Val ℕ (UU nD τ sig) ℕ)) (c : Dev nD) : sProp 𝕄 :=
  iprop(T.dealt pay c ∗ levAts lev T.lv ∗ (bigSep T.remote fun k => T.due c k) ∗ B c)
/-- What it holds when its body has ended. -/
def finish (E : Dev nD → sProp (MT nD τ sig Unit Val ℕ (UU nD τ sig) ℕ)) (c : Dev nD) : sProp 𝕄 :=
  iprop(E c ∗ bigSep Finset.univ fun k : Fin T.K => T.zero c k)

section Run

variable {Λ₀ : Idealize.SL.Sem.Labels} (cfgs : Fin 1 → Cfg sig Λ₀) (defs₀ : Defs nD τ sig Val Λ₀)

/-- The body's one point: it starts owing what `remote` says, and ends owing nothing. -/
def dats (B E : Dev nD → sProp (MT nD τ sig Unit Val ℕ (UU nD τ sig) ℕ)) (hW : ∀ p, IsEmpty (Fin (cfgs p).W))
    (p : Fin 1) (c : Dev nD) : Dat τ Val Unit ℕ (UU nD τ sig) ℕ (cfgs p) c where
  A w := ((hW p).false w).elim
  after w := ((hW p).false w).elim
  Φ t := if t.val = 0 then T.start pay B c else T.finish E c
  q _ := fullShare
  owed t := if t.val = 0 then T.owed c T.remote else 0

variable [∀ e, Nonempty (Val e)]

/-- The run of an exchange and of what each device does afterwards (`tail`), which makes `Z` of what the exchange leaves
    it with. -/
theorem run_then [∀ c k, BI.Storable (upEmb : UEmb _ (MT nD τ sig Unit Val ℕ (UU nD τ sig) ℕ)) (pay c k)]
    (hinj : Function.Injective (cellOf (nD := nD) (τ := τ) cfgs)) (hw : Pipeline.WinFacts (cfgs 0).spec) (hW : ∀ p, IsEmpty (Fin (cfgs p).W)) (hN : (cfgs 0).N = 1)
    (ho : Pipeline.OwnSemFacts (cfgs 0).spec T.osem)
    (hrest : ∀ c : Dev nD, (Pipeline.scopedRest (Ix := Unit) (Name := ℕ) (U := UU nD τ sig) (Lvl := ℕ) (Val := Val) (τ := τ) (cfgs 0).spec c : sProp 𝕄) = BI.emp)
    (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (tail : Dev nD → Prog (TpuEff nD τ sig Val (Pipeline.Sig Λ₀ (Fin 1) fun p => ((cfgs p).toPCfg (Val := Val)).Adm) .tc) PUnit)
    (hmain : ∀ c, main c = .op (.customCall (Pipeline.entry 0) ()) fun _ => tail c)
    (B E Z : Dev nD → sProp (MT nD τ sig Unit Val ℕ (UU nD τ sig) ℕ))
    (hdeal : (bigSep Finset.univ fun c : Dev nD => Pipeline.unscopedRest (cfgs 0).spec c (fun b => m ((c.tc : Thread nD τ).loc b)) : sProp 𝕄) ⊢ bigSep Finset.univ B)
    (hbody : ∀ (c : Dev nD) (N : Dev nD × Fin T.K → ℕ) (t : Fin (cfgs 0).N),
      iprop((T.records pay N ∗ levAts lev T.lv) ∗ (bigSep Finset.univ fun k : Fin T.K => T.pos c k) ∗ (bigSep Finset.univ fun k : Fin T.K => T.tok c k)
          ∗ (bigSep T.remote fun k => T.due c k) ∗ T.owing c T.remote ∗ B c)
        ⊢ wp frame (wpE defs₀ Variants.none c none) Set.univ (defs₀ .tc (cfgs 0).body ((cfgs 0).bodyArgs t ((cfgs 0).slots t))) fun _ =>
            iprop(T.owing c ∅ ∗ (bigSep Finset.univ fun k : Fin T.K => T.zero c k) ∗ E c))
    (htail : ∀ (c : Dev nD) (R : PUnit → sProp 𝕄), iprop(boundary (c.tc : Thread nD τ) ∗ E c)
      ⊢ iprop(((boundary (c.tc : Thread nD τ) ∗ Z c) -∗ R ⟨⟩)
          -∗ wp frame (wpE (Pipeline.defs (fun p => (cfgs p).toPCfg) defs₀) (Variants.lift Variants.none) (c.tc : Thread nD τ) none) Set.univ (tail c) R))
    (QY : Dev nD → MemSt nD τ sig Val → Prop)
    (hY : ∀ c (s' : Phys nD τ sig Val), iprop(Z c ∗ SI s') ⊢ |={Set.univ}=> iprop(⌜QY c s'.mem⌝ ∗ SI s')) :
    θ_run (Pipeline.defs (fun p => (cfgs p).toPCfg) defs₀) (onTc main) ⟨m, fun _ => 0, g⟩
      (fun r => (∀ c, QY c r.2) ∧ ∀ g' : GSem nD τ sig, (g'.1.2 ≠ .tc ∨ g'.2.isScoped .tc = true) → r.2.sem g' = 0) := by
  have hlast (c : Dev nD) : ¬ (Fin.last (cfgs 0).N).val = 0 := by rw [Fin.val_last, hN]; exact Nat.one_ne_zero
  have hsucc (t : Fin (cfgs 0).N) : t.castSucc.val = 0 ∧ ¬ t.succ.val = 0 := by
    have := t.isLt
    exact ⟨by rw [Fin.val_castSucc]; omega, by rw [Fin.val_succ]; omega⟩
  refine θ_run_dealt (fun p => (cfgs p).toPCfg) (fun _ p => (cfgs p).toPCfg_adm) (Pipeline.Dat.toRs (T.dats pay cfgs B E hW)) () hinj (0 : Fin 1)
    hw.to₀ ho (Pipeline.PreFacts.none _) EP defs₀ Variants.none m g main tail hmain (fun c => ?_) (hW 0) (inferInstanceAs (IsEmpty (Fin 0)))
    (fun c => T.owed c T.remote) (fun _ => rfl) (fun c => if_neg (hlast c)) lev T.lv (fun g h => if_neg h) (fun c => ?_)
    (T.ghost pay) (fun c => iprop(T.dealt pay c ∗ B c))
    (initOf (Pipeline.cells cfgs hinj) (Pipeline.launchToks cfgs hinj), initOf T.allCells T.allToks) ?_ ?_
    (T.start pay B) E Z (fun c => ?_) (fun c => ?_) (fun c => ?_) htail QY hY (fun s h hs => ⟨h, hs⟩)
  · -- the body
    refine Pipeline.BodyObligation.toR (T.dats pay cfgs B E hW 0 c) (fun t => ?_)
    have hWe : IsEmpty (Fin (cfgs 0).W) := hW 0
    rw [Finset.univ_eq_empty, bigSep_empty, bigSep_empty]
    rw [show (T.dats pay cfgs B E hW 0 c).Φ t.castSucc = T.start pay B c from if_pos (e := T.finish E c) (hsucc t).1,
      show (T.dats pay cfgs B E hW 0 c).Φ t.succ = T.finish E c from if_neg (t := T.start pay B c) (hsucc t).2]
    have close (W : Waits sig Unit) : (owes (c.tc : Thread nD τ) 0 W : sProp 𝕄) ⊢ (T.dats pay cfgs B E hW 0 c).owesAt () t.succ :=
      TalkSites.owesAt_intro (T.dats pay cfgs B E hW 0 c) () t.succ 0 (if_neg (t := T.owed c T.remote) (hsucc t).2) rfl W
    have leave : iprop(T.owing c ∅ ∗ (bigSep Finset.univ fun k : Fin T.K => T.zero c k) ∗ E c)
        ⊢ iprop(T.finish E c ∗ (T.dats pay cfgs B E hW 0 c).owesAt () t.succ ∗ BI.emp) := by
      unfold owing finish
      rw [T.owed_empty]
      iintro ⟨⟨%W, HO⟩, Hz, HE⟩
      isplitl [HE Hz]; · isplitl [HE] <;> iassumption
      isplitl [HO]
      · iapply (close W)
        iexact HO
      · iempintro
    unfold start dealt
    unfold Dat.owesAt; rw [show (T.dats pay cfgs B E hW 0 c).owed t.castSucc = T.owed c T.remote from if_pos (e := 0) (hsucc t).1]
    iintro ⟨⟨⟨%N, #HR, Hpos, Htok⟩, #HL, Hdue, HB⟩, ⟨%W, %hW', HO⟩, -⟩
    have h := (hbody c N t).trans (wp_mono _ _ _ fun _ => leave)
    iapply h
    isplitr
    · isplitr; · iexact HR
      iexact HL
    isplitl [Hpos]; · iexact Hpos
    isplitl [Htok]; · iexact Htok
    isplitl [Hdue]; · iexact Hdue
    isplitl [HO]
    · unfold owing; iexists W; iexact HO
    iexact HB
  · -- no staging cell is waited on
    exact Pipeline.PerCore.RDat.cellsWaits_intro _ _ () 0 c fun w => ((hW 0).false w).elim
  · iintro Hu
    ihave H := (ownU_pair _ _) $$ Hu
    icases H with ⟨HP, HX⟩
    imod (T.fund pay) $$ HX with HG
    imodintro
    isplitl [HP] <;> iassumption
  · rw [bigSep_sep', bigSep_sep', bigSep_sep']
    iintro ⟨Hs, Hu, HG⟩
    imod (T.deal pay) $$ [Hs HG] with HD
    · rw [bigSep_sep']; isplitl [Hs] <;> iassumption
    imodintro
    isplitl [HD]; · iexact HD
    iapply hdeal; iexact Hu
  · unfold start
    iintro ⟨HL, Hc, HD, HB⟩
    isplitl [HD]; · iexact HD
    isplitl [HL]; · iexact HL
    isplitl [Hc]; · iapply (T.dues c); iexact Hc
    iexact HB
  · show iprop(T.start pay B c ∗ Pipeline.scopedRest (cfgs 0).spec c) ⊢ (if (0 : Fin ((cfgs 0).N + 1)).val = 0 then T.start pay B c else T.finish E c)
    rw [if_pos (Fin.val_zero _)]
    iintro ⟨H, -⟩
    iexact H
  · show (if (Fin.last (cfgs 0).N).val = 0 then T.start pay B c else T.finish E c) ⊢ iprop(E c ∗ Pipeline.ownSems0 T.osem c ∗ Pipeline.scopedRest (cfgs 0).spec c)
    rw [if_neg (hlast c), hrest c]
    unfold finish
    iintro ⟨HE, Hz⟩
    isplitl [HE]; · iexact HE
    isplitl [Hz]; · iapply (show (bigSep Finset.univ fun k : Fin T.K => T.zero (τ := τ) c k : sProp 𝕄) ⊢ Pipeline.ownSems0 T.osem c from .rfl); iexact Hz
    iempintro

/-- The run of an exchange alone. -/
theorem run [∀ c k, BI.Storable (upEmb : UEmb _ (MT nD τ sig Unit Val ℕ (UU nD τ sig) ℕ)) (pay c k)]
    (hinj : Function.Injective (cellOf (nD := nD) (τ := τ) cfgs)) (hw : Pipeline.WinFacts (cfgs 0).spec) (hW : ∀ p, IsEmpty (Fin (cfgs p).W)) (hN : (cfgs 0).N = 1)
    (ho : Pipeline.OwnSemFacts (cfgs 0).spec T.osem)
    (hrest : ∀ c : Dev nD, (Pipeline.scopedRest (Ix := Unit) (Name := ℕ) (U := UU nD τ sig) (Lvl := ℕ) (Val := Val) (τ := τ) (cfgs 0).spec c : sProp 𝕄) = BI.emp)
    (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (hmain : ∀ c, main c = .op (.customCall (Pipeline.entry 0) ()) fun _ => .ret ⟨⟩)
    (B E : Dev nD → sProp (MT nD τ sig Unit Val ℕ (UU nD τ sig) ℕ))
    (hdeal : (bigSep Finset.univ fun c : Dev nD => Pipeline.unscopedRest (cfgs 0).spec c (fun b => m ((c.tc : Thread nD τ).loc b)) : sProp 𝕄) ⊢ bigSep Finset.univ B)
    (hbody : ∀ (c : Dev nD) (N : Dev nD × Fin T.K → ℕ) (t : Fin (cfgs 0).N),
      iprop((T.records pay N ∗ levAts lev T.lv) ∗ (bigSep Finset.univ fun k : Fin T.K => T.pos c k) ∗ (bigSep Finset.univ fun k : Fin T.K => T.tok c k)
          ∗ (bigSep T.remote fun k => T.due c k) ∗ T.owing c T.remote ∗ B c)
        ⊢ wp frame (wpE defs₀ Variants.none c none) Set.univ (defs₀ .tc (cfgs 0).body ((cfgs 0).bodyArgs t ((cfgs 0).slots t))) fun _ =>
            iprop(T.owing c ∅ ∗ (bigSep Finset.univ fun k : Fin T.K => T.zero c k) ∗ E c))
    (QY : Dev nD → MemSt nD τ sig Val → Prop)
    (hY : ∀ c (s' : Phys nD τ sig Val), iprop(E c ∗ SI s') ⊢ |={Set.univ}=> iprop(⌜QY c s'.mem⌝ ∗ SI s')) :
    θ_run (Pipeline.defs (fun p => (cfgs p).toPCfg) defs₀) (onTc main) ⟨m, fun _ => 0, g⟩
      (fun r => (∀ c, QY c r.2) ∧ ∀ g' : GSem nD τ sig, (g'.1.2 ≠ .tc ∨ g'.2.isScoped .tc = true) → r.2.sem g' = 0) :=
  T.run_then pay cfgs defs₀ hinj hw hW hN ho hrest m g main (fun _ => .ret ⟨⟩) hmain B E E hdeal hbody
    (fun c R => by
      iintro H Hk
      rw [wp_ret]; imodintro
      iapply Hk
      iexact H) QY hY

end Run

end Plan

end Cert.Exchange

end
-- ==== Proof.Pieces.lean ====
/-
# The pieces of an exchanged array

An array into which several copies land is dealt by pieces: each copy's destination to the device that writes it
(`deal_pieces`). Every piece is held at the contents the array has at the end, so a landing copy is one equation between
what its source reads and what its destination is to read (`landed`), and the array is read piece by piece (`read_piece`).
-/
module

public import proofs.«01_k».proof.Proof.OneShotLaunch
public import Idealize.ShloMosaic.Lib.ValueLayout
public import Idealize.ShloMosaic.Lib.Pipeline.ValueKit.Geometry

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {nD : Nat} {τ : Topo} {sig : RefSig} {Val : EltTy → Type}

local notation "𝕄" => MT nD τ sig Unit Val ℕ (UU nD τ sig) ℕ

/-- A copy has landed: where the array's final contents `G` read through the destination as the source read, the
    destination holds `G`. -/
theorem landed {c c' : Thread nD τ} {sp sp' : Space} {s : Shape} {e : EltTy} {src : View sig c.2.kind sp s e} {dst : View sig c'.2.kind sp' s e}
    {fs : Buf Val (src.loc c)} {fd G : Buf Val (dst.loc c')} {q : PosShare TreeShare}
    (h : dst.read Val G = src.read Val fs) :
    (dst.loc c' ↦[dst.set]{q} (dst.write Val fd (src.read Val fs) Finset.univ) : sProp 𝕄) = (dst.loc c' ↦[dst.set]{q} G) := by
  refine pointsTo_congr fun i hi => ?_
  obtain ⟨x, -, rfl⟩ := Finset.mem_map.mp hi
  rw [View.write_emb_of_mem _ _ (Finset.mem_univ x), ← h, View.read_apply, cast_cast, cast_eq]

/-- What a held piece says of the memory. -/
theorem read_piece (ℓ : Loc nD τ sig) (S : Finset (Idx ℓ)) (q : PosShare TreeShare) (f : Buf Val ℓ) (s' : Phys nD τ sig Val) :
    iprop((ℓ ↦[S]{q} f) ∗ SI s') ⊢ (iprop(⌜∀ i ∈ S, s'.mem.mem ℓ i = f i⌝ ∗ SI s') : sProp 𝕄) := by
  iintro ⟨Hp, HSI⟩
  icombine HSI Hp gives %h
  isplitr
  · ipureintro; exact h
  · iexact HSI

/-- The same of several pieces of one array. -/
theorem read_pieces {I : Type} [DecidableEq I] (ℓ : Loc nD τ sig) (K : I → Finset (Idx ℓ)) (f : Buf Val ℓ) (s' : Phys nD τ sig Val) (T : Finset I) :
    iprop((bigSep T fun i => iprop(∃ q, ℓ ↦[K i]{q} f)) ∗ SI s') ⊢ (iprop(⌜∀ i ∈ T, ∀ x ∈ K i, s'.mem.mem ℓ x = f x⌝ ∗ SI s') : sProp 𝕄) := by
  induction T using Finset.induction_on with
  | empty =>
    iintro ⟨-, HSI⟩
    isplitr
    · ipureintro; exact fun i hi => absurd hi (Finset.notMem_empty i)
    · iexact HSI
  | insert i T hi ih =>
    rw [bigSep_insert hi]
    show iprop(((∃ q, ℓ ↦[K i]{q} f) ∗ bigSep T fun i => iprop(∃ q, ℓ ↦[K i]{q} f)) ∗ SI s') ⊢ _
    iintro ⟨⟨⟨%q, Hp⟩, HT⟩, HSI⟩
    ihave H := (read_piece ℓ (K i) q f s') $$ [Hp HSI]
    · isplitl [Hp]; · iexact Hp
      iexact HSI
    icases H with ⟨%h, HSI⟩
    ihave H := ih $$ [HT HSI]
    · isplitl [HT]; · iexact HT
      iexact HSI
    icases H with ⟨%h', HSI⟩
    isplitr
    · ipureintro
      intro j hj
      rcases Finset.mem_insert.mp hj with rfl | hj
      · exact h
      · exact h' j hj
    · iexact HSI

theorem bigSep_comm {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun ij : I × J => Φ ij.1 ij.2), ← bigSep_univ_prod (fun ji : J × I => Φ ji.2 ji.1), bigSep_univ_equiv (Equiv.prodComm J I)]
  rfl

/-- Every device's array `b`, split into the pieces `D i`, is dealt to the devices that write them. -/
theorem deal_pieces {I : Type} [Fintype I] [DecidableEq I] (b : Ref sig .tc) (tgt : I → Equiv.Perm (Dev nD)) (D : I → Dev nD → Finset b.ty.shape.Idx)
    (f : (d : Dev nD) → Buf Val ((d.tc : Thread nD τ).loc b))
    (hdisj : ∀ d i i', i ≠ i' → Disjoint (D i ((tgt i).symm d)) (D i' ((tgt i').symm d)))
    (hcov : ∀ (d : Dev nD) (x : b.ty.shape.Idx), ∃ i, x ∈ D i ((tgt i).symm d)) :
    (bigSep Finset.univ fun d : Dev nD => ((d.tc : Thread nD τ).loc b ↦{fullShare} f d) : sProp 𝕄)
      ⊢ bigSep Finset.univ fun c : Dev nD => bigSep Finset.univ fun i : I => ((((tgt i c).tc : Thread nD τ).loc b ↦[D i c]{fullShare} f (tgt i c)) : sProp 𝕄) := by
  classical
  have one (d : Dev nD) : ((d.tc : Thread nD τ).loc b ↦{fullShare} f d : sProp 𝕄)
      = bigSep Finset.univ fun i : I => ((d.tc : Thread nD τ).loc b ↦[D i ((tgt i).symm d)]{fullShare} f d : sProp 𝕄) := by
    have h := pointsTo_biUnion (ℓ := (d.tc : Thread nD τ).loc b) (q := fullShare) (f := f d) (Ix := Unit) (Name := ℕ) (U := UU nD τ sig) (Lvl := ℕ)
      Finset.univ (fun i => D i ((tgt i).symm d)) fun i _ i' _ h => hdisj d i i' h
    rw [← h]
    congr 1
    exact (Finset.eq_univ_iff_forall.mpr fun x => by
      obtain ⟨i, hi⟩ := hcov d x
      exact Finset.mem_biUnion.mpr ⟨i, Finset.mem_univ _, hi⟩).symm
  have two (i : I) : (bigSep Finset.univ fun d : Dev nD => ((d.tc : Thread nD τ).loc b ↦[D i ((tgt i).symm d)]{fullShare} f d : sProp 𝕄))
      = bigSep Finset.univ fun c : Dev nD => (((tgt i c).tc : Thread nD τ).loc b ↦[D i c]{fullShare} f (tgt i c) : sProp 𝕄) := by
    rw [bigSep_univ_equiv (tgt i)]
    exact bigSep_congr fun c _ => by rw [Equiv.symm_apply_apply]
  rw [bigSep_congr (s := Finset.univ) fun d _ => one d, bigSep_comm, bigSep_congr (s := Finset.univ) fun i _ => two i, bigSep_comm]

/-! ## Windows of an array of rank three -/

/-- The elements `lo ..< lo + n` on the second axis, `j` on the first. -/
def box {A B D : ℕ} (j lo n : ℕ) : Finset (⟨3, ![A, B, D]⟩ : Shape).Idx :=
  Finset.univ.filter fun x => (x 0 : ℕ) = j ∧ lo ≤ (x 1 : ℕ) ∧ (x 1 : ℕ) < lo + n

theorem mem_box {A B D j lo n : ℕ} {x : (⟨3, ![A, B, D]⟩ : Shape).Idx} :
    x ∈ box (A := A) (B := B) (D := D) j lo n ↔ (x 0 : ℕ) = j ∧ lo ≤ (x 1 : ℕ) ∧ (x 1 : ℕ) < lo + n := by
  simp [box]

/-- Where the element `y` of a window whose unit first axis is dropped lies in the array. -/
theorem window_emb {A B D n : ℕ} (off : Fin 3 → ℕ) (inb : ∀ a, off a + (![1, n, D] : Fin 3 → ℕ) a ≤ (![A, B, D] : Fin 3 → ℕ) a)
    (h : (⟨2, ![n, D]⟩ : Shape).numel = (⟨3, ![1, n, D]⟩ : Shape).numel) (y : (⟨2, ![n, D]⟩ : Shape).Idx) :
    ((Rect.unit (s := ⟨3, ![A, B, D]⟩) off ![1, n, D] inb).emb (Shape.reshapeEquiv h y) 0 : ℕ) = off 0
    ∧ ((Rect.unit (s := ⟨3, ![A, B, D]⟩) off ![1, n, D] inb).emb (Shape.reshapeEquiv h y) 1 : ℕ) = off 1 + y 0
    ∧ ((Rect.unit (s := ⟨3, ![A, B, D]⟩) off ![1, n, D] inb).emb (Shape.reshapeEquiv h y) 2 : ℕ) = off 2 + y 1 := by
  have hy : Shape.reshapeEquiv h y = ix3 (⟨0, Nat.one_pos⟩ : Fin 1) (y 0) (y 1) :=
    (congrArg (Shape.reshapeEquiv h) (eq_ix2 y)).trans (reshapeEquiv_ix2_1ab h (y 0) (y 1))
  have hj (j : (Rect.unit (s := ⟨3, ![A, B, D]⟩) off ![1, n, D] inb).shape.Idx) (a : Fin 3) :
      ((Rect.unit (s := ⟨3, ![A, B, D]⟩) off ![1, n, D] inb).emb j a : ℕ) = off a + j a :=
    ValueKit.rect_emb_unit_val (s := ⟨3, ![A, B, D]⟩) off ![1, n, D] inb j a
  rw [hy]
  exact ⟨hj _ 0, hj _ 1, hj _ 2⟩

/-- The elements such a window covers. -/
theorem window_set {A B D n : ℕ} (off : Fin 3 → ℕ) (inb : ∀ a, off a + (![1, n, D] : Fin 3 → ℕ) a ≤ (![A, B, D] : Fin 3 → ℕ) a) (h2 : off 2 = 0) :
    (Rect.unit (s := ⟨3, ![A, B, D]⟩) off ![1, n, D] inb).set = box (off 0) (off 1) n := by
  ext x
  rw [mem_box]
  refine (Rect.mem_set_unit (s := ⟨3, ![A, B, D]⟩)).trans ⟨fun h => ?_, fun ⟨h0, h1, h1'⟩ a => ?_⟩
  · have h0 := h 0
    have h1 := h 1
    change off 0 ≤ (x 0 : ℕ) ∧ (x 0 : ℕ) < off 0 + 1 at h0
    change off 1 ≤ (x 1 : ℕ) ∧ (x 1 : ℕ) < off 1 + n at h1
    omega
  · have h2' : (x 2 : ℕ) < D := (x 2).isLt
    fin_cases a
    · show off 0 ≤ (x 0 : ℕ) ∧ (x 0 : ℕ) < off 0 + 1; omega
    · show off 1 ≤ (x 1 : ℕ) ∧ (x 1 : ℕ) < off 1 + n; omega
    · show off 2 ≤ (x 2 : ℕ) ∧ (x 2 : ℕ) < off 2 + D; omega

end Cert.Exchange

end
-- ==== Proof.GatherPieces.lean ====
/-
# The gather: pieces, addresses and the gathered array

The mesh has four chips of two cores each; device `2 * j + k` is core `k` of chip `j`. Every device starts with its
chip's array of 6688 rows (`main_arg0`) and ends with the four chips' arrays one above the other (`main_v1`).

* `slot` is the part of the result an asynchronous copy addresses, `half` the part of a device's own rows it reads.
* `peer` and `sib` are the devices addressed: the three other chips' device of the same core, and the chip's other core.
* `gathered` is the result's contents at the end: the own chip's rows as the device's own, the other chips' upper half
  from core 0 and lower half from core 1.
-/
module

public import proofs.«01_k».proof.Proof.Pieces
public import proofs.«01_k».proof.Proof.Gen.GatherIdeal.Skeleton
public import proofs.«01_k».proof.Proof.Gen.GatherIdeal.Launch
public import proofs.«01_k».proof.Proof.Gen.GatherIdeal.Points
public import Idealize.ShloMosaic.Lib.Tactic

@[expose] public section

noncomputable section

namespace Cert.GatherProof

open Cert.GatherIdeal Cert.GatherIdeal.Gen
open Idealize.ShloMosaic
open Idealize.ShloMosaic.TcCoe
open Idealize.ShloMosaic.ValueIdx
open Cert.Exchange

variable {F : FTy → Type}

abbrev xM : Memref sig .tc .hbm S6688x1024 .bf16 := Memref.whole main_arg0
abbrev oM : Memref sig .tc .hbm S4x6688x1024 .bf16 := Memref.whole main_v1

/-! ## Parts of the arrays -/

/-- Half of one chip's rows in the result. -/
abbrev slot (off : Fin 3 → ℕ) (inb : ∀ a, off a + S1x3344x1024.size a ≤ S4x6688x1024.size a) : Memref sig .tc .hbm S3344x1024 .bf16 :=
  (oM.slice (Rect.unit (s := S4x6688x1024) off S1x3344x1024.size inb) (fun _ => rfl)).squeeze S3344x1024 squeezes_S1x3344x1024_S3344x1024

/-- All of one chip's rows in the result. -/
abbrev slab (off : Fin 3 → ℕ) (inb : ∀ a, off a + S1x6688x1024.size a ≤ S4x6688x1024.size a) : Memref sig .tc .hbm S6688x1024 .bf16 :=
  (oM.slice (Rect.unit (s := S4x6688x1024) off S1x6688x1024.size inb) (fun _ => rfl)).squeeze S6688x1024 squeezes_S1x6688x1024_S6688x1024

/-- Half of a device's own rows. -/
abbrev half (off : Fin 2 → ℕ) (inb : ∀ a, off a + S3344x1024.size a ≤ S6688x1024.size a) : Memref sig .tc .hbm S3344x1024 .bf16 :=
  xM.slice (Rect.unit (s := S6688x1024) off S3344x1024.size inb) (fun _ => rfl)

/-- Where an element of a slot lies in the result. -/
theorem slot_emb (off : Fin 3 → ℕ) (inb) (y : S3344x1024.Idx) :
    ((slot off inb).view.emb y 0 : ℕ) = off 0 ∧ ((slot off inb).view.emb y 1 : ℕ) = off 1 + y 0 ∧ ((slot off inb).view.emb y 2 : ℕ) = off 2 + y 1 :=
  window_emb off inb _ y

theorem slab_emb (off : Fin 3 → ℕ) (inb) (y : S6688x1024.Idx) :
    ((slab off inb).view.emb y 0 : ℕ) = off 0 ∧ ((slab off inb).view.emb y 1 : ℕ) = off 1 + y 0 ∧ ((slab off inb).view.emb y 2 : ℕ) = off 2 + y 1 :=
  window_emb off inb _ y

theorem slot_set (off : Fin 3 → ℕ) (inb) (h2 : off 2 = 0) : (slot off inb).view.set = box (off 0) (off 1) 3344 :=
  (View.set_reshape _ _).trans ((View.set_slice_whole _ _).trans (window_set off inb h2))

theorem slab_set (off : Fin 3 → ℕ) (inb) (h2 : off 2 = 0) : (slab off inb).view.set = box (off 0) (off 1) 6688 :=
  (View.set_reshape _ _).trans ((View.set_slice_whole _ _).trans (window_set off inb h2))

/-- Where an element of a half lies among the device's own rows. -/
theorem half_emb (off : Fin 2 → ℕ) (inb) (y : S3344x1024.Idx) (a : Fin 2) : ((half off inb).view.emb y a : ℕ) = off a + y a :=
  ValueKit.view_emb_slice_whole_unit_val main_arg0 off S3344x1024.size inb y a

end Cert.GatherProof

end
-- ==== Proof.GatherPlan.lean ====
/-
# The gather: its protocol

Each device owns thirteen DMA semaphores, each completed by one copy.

| semaphore   | completed by                                                | hands over                                      |
|-------------|-------------------------------------------------------------|-------------------------------------------------|
| `k` < 6     | the device itself: its remote copy `k` has read its source  | nothing (sources are lent at a share)           |
| `6 + k`     | the same core of the chip `k + 1` away                      | this core's half of that chip's rows, in place  |
| `9 + k`     | the chip's other core, passing on what it got on its `6 + k`| the other half of that chip's rows, in place    |
| `12`        | the device itself: its local copy has landed                | its own chip's rows, in place                   |

The receiving semaphores `6 + k` are waited for while the device still owes its other core; the `9 + k` once it owes
nothing. Every part of a device's result belongs, from the launch on, to the device that writes it.
-/
module

public import proofs.«01_k».proof.Proof.GatherPieces

@[expose] public section

noncomputable section

namespace Cert.GatherProof

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.Exchange

variable {F : FTy → Type}

local notation "𝕄" => MT nD τ sig Unit (Elt F) ℕ (UU nD τ sig) ℕ

/-! ## The devices addressed -/

/-- The chip `k + 1` away. -/
def other (k : Fin 3) (c : Dev nD) : ℕ := (c.val / 2) ^^^ (k.val + 1)

theorem peer_lt (k : Fin 3) (c : Dev nD) : 2 * other k c + c.val % 2 < nD := by revert k c; decide
theorem sib_lt (c : Dev nD) : 2 * (c.val / 2) + (1 - c.val % 2) < nD := by revert c; decide

def peerOf (k : Fin 3) (c : Dev nD) : Dev nD := ⟨2 * other k c + c.val % 2, peer_lt k c⟩
def sibOf (c : Dev nD) : Dev nD := ⟨2 * (c.val / 2) + (1 - c.val % 2), sib_lt c⟩

theorem peerOf_peerOf (k : Fin 3) (c : Dev nD) : peerOf k (peerOf k c) = c := by revert k c; decide
theorem sibOf_sibOf (c : Dev nD) : sibOf (sibOf c) = c := by revert c; decide

/-- The same core of the chip `k + 1` away; and the chip's other core. -/
def peer (k : Fin 3) : Equiv.Perm (Dev nD) := ⟨peerOf k, peerOf k, peerOf_peerOf k, peerOf_peerOf k⟩
def sib : Equiv.Perm (Dev nD) := ⟨sibOf, sibOf, sibOf_sibOf, sibOf_sibOf⟩

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = sib c := Fin.ext ((k0_dev4_eq c).trans (by revert c; decide))
theorem dev5_eq (c : Dev nD) : (⟨k0_dev5 c, k0_dev5_lt c⟩ : Dev nD) = sib c := Fin.ext ((k0_dev5_eq c).trans (by revert c; decide))
theorem dev6_eq (c : Dev nD) : (⟨k0_dev6 c, k0_dev6_lt c⟩ : Dev nD) = sib c := Fin.ext ((k0_dev6_eq c).trans (by revert c; decide))

/-! ## The parts of a device's result -/

/-- Part 0 is the own chip's rows, part `1 + k` this core's half and part `4 + k` the other half of the chip `k + 1` away. -/
def partChip (i : Fin 7) (d : Dev nD) : ℕ := ![d.val / 2, other 0 d, other 1 d, other 2 d, other 0 d, other 1 d, other 2 d] i
def partLo (i : Fin 7) (d : Dev nD) : ℕ :=
  ![0, 3344 * (d.val % 2), 3344 * (d.val % 2), 3344 * (d.val % 2), 3344 - 3344 * (d.val % 2), 3344 - 3344 * (d.val % 2), 3344 - 3344 * (d.val % 2)] i
def partRows (i : Fin 7) : ℕ := ![6688, 3344, 3344, 3344, 3344, 3344, 3344] i

def own (i : Fin 7) (d : Dev nD) : Finset S4x6688x1024.Idx := box (partChip i d) (partLo i d) (partRows i)

theorem parts_apart (d : Dev nD) (i i' : Fin 7) : i ≠ i' → partChip i d ≠ partChip i' d
    ∨ partLo i d + partRows i ≤ partLo i' d ∨ partLo i' d + partRows i' ≤ partLo i d := by
  revert d i i'; decide

theorem parts_all (d : Dev nD) (j : Fin 4) : (∃ i, partChip i d = j ∧ partLo i d = 0 ∧ partRows i = 6688)
    ∨ (∃ i, partChip i d = j ∧ partLo i d = 0 ∧ partRows i = 3344) ∧ ∃ i, partChip i d = j ∧ partLo i d = 3344 ∧ partRows i = 3344 := by
  revert d j; decide

theorem own_disjoint (d : Dev nD) (i i' : Fin 7) (h : i ≠ i') : Disjoint (own i d) (own i' d) := by
  rw [Finset.disjoint_left]
  intro x hx hx'
  have h1 := mem_box.mp hx
  have h2 := mem_box.mp hx'
  rcases parts_apart d i i' h with h | h | h <;> omega

theorem own_cover (d : Dev nD) (x : S4x6688x1024.Idx) : ∃ i, x ∈ own i d := by
  have hx : (x 1 : ℕ) < 6688 := (x 1).isLt
  rcases parts_all d (x 0) with ⟨i, hj, hl, hr⟩ | ⟨⟨i, hj, hl, hr⟩, ⟨i', hj', hl', hr'⟩⟩
  · exact ⟨i, mem_box.mpr (by rw [hj, hl, hr]; exact ⟨rfl, by omega, by omega⟩)⟩
  · by_cases h : (x 1 : ℕ) < 3344
    · exact ⟨i, mem_box.mpr (by rw [hj, hl, hr]; exact ⟨rfl, by omega, by omega⟩)⟩
    · exact ⟨i', mem_box.mpr (by rw [hj', hl', hr']; exact ⟨rfl, by omega, by omega⟩)⟩

/-- The device written to in part `i`. -/
def dest (i : Fin 7) : Equiv.Perm (Dev nD) := ![Equiv.refl _, peer 0, peer 1, peer 2, sib, sib, sib] i

/-! ## The gathered array -/

variable (m : (ℓ : Loc nD τ sig) → Buf (Elt F) ℓ)

/-- The device whose rows are row `r` of chip `j` in device `c`'s result. -/
def from_ (c : Dev nD) (j : Fin 4) (r : Fin 6688) : Dev nD :=
  ⟨2 * j.val + (if j.val = c.val / 2 then c.val % 2 else r.val / 3344), by
    have := j.isLt; have := r.isLt; show _ < 8; split <;> omega⟩

/-- Device `c`'s result at the end. -/
def gathered (c : Dev nD) : Buf (Elt F) ((c.tc : Thread nD τ).loc main_v1) := fun i : S4x6688x1024.Idx =>
  m (((from_ c (i 0) (i 1)).tc : Thread nD τ).loc main_arg0) (ix2 (i 1) (i 2) : S6688x1024.Idx)

/-- A part of device `c`'s result at the end. -/
abbrev got (q : PosShare TreeShare) (i : Fin 7) (c : Dev nD) : sProp 𝕄 :=
  iprop((c.tc : Thread nD τ).loc main_v1 ↦[own i c]{q} gathered m c)

/-! ## The protocol -/

/-- What the copies complete: the amount a whole chip's rows count, and the amount half of them count. -/
abbrev whole : ℕ := (slab (k0_off1 0) (k0_off1_inb 0)).view.dmaCredit
abbrev halfway : ℕ := (slot (k0_off2 0) (k0_off2_inb 0)).view.dmaCredit

abbrev plan : Plan nD sig where
  K := 13
  osem k := .dma k
  osem_inj := fun a b h => by injection h
  tgt k := ![Equiv.refl _, Equiv.refl _, Equiv.refl _, Equiv.refl _, Equiv.refl _, Equiv.refl _, peer 0, peer 1, peer 2, sib, sib, sib, Equiv.refl _] k
  amt k := if k = 12 then whole else halfway
  amt_pos k := by split <;> exact View.dmaCredit_pos _ (by decide)
  remote := {6, 7, 8, 9, 10, 11}
  lvl k := if k ∈ ({6, 7, 8} : Finset (Fin 13)) then 1 else 2

/-- Which part of the result semaphore `k` hands over. -/
def partOf : Fin 13 → Option (Fin 7) := ![none, none, none, none, none, none, some 1, some 2, some 3, some 4, some 5, some 6, some 0]

def pay (c : Dev nD) (k : Fin 13) : sProp 𝕄 :=
  match partOf k with
  | none => iprop(emp)
  | some i => got m fullShare i c

instance pay_storable (c : Dev nD) (k : Fin plan.K) : BI.Storable (upEmb : UEmb _ 𝕄) (pay m c k) := by
  unfold pay; split <;> infer_instance

end Cert.GatherProof

end
-- ==== Proof.GatherContents.lean ====
/-
# The gather: what each copy carries

Every copy puts in place what the result is to hold there at the end: the local copy (`local_carries`), the copies of a
device's own half to the other chips (`send_carries`), and the copies of a received half to the chip's other core
(`forward_carries`). Beside them, which part of which device's result each copy writes.
-/
module

public import proofs.«01_k».proof.Proof.GatherPlan

@[expose] public section

noncomputable section

namespace Cert.GatherProof

open Cert.GatherIdeal Cert.GatherIdeal.Gen
open Idealize.ShloMosaic
open Idealize.ShloMosaic.TcCoe
open Idealize.ShloMosaic.ValueIdx
open Cert.Exchange

variable {F : FTy → Type} (m : (ℓ : Loc nD τ sig) → Buf (Elt F) ℓ)

/-! ## Which part a copy writes -/

theorem own_eq {i : Fin 7} {d : Dev nD} {off : Fin 3 → ℕ} (h0 : off 0 = partChip i d) (h1 : off 1 = partLo i d) :
    box (off 0) (off 1) (partRows i) = own i d := by rw [own, h0, h1]

theorem local_set (c : Dev nD) : (slab (k0_off1 c) (k0_off1_inb c)).view.set = own 0 c :=
  (slab_set _ _ (by rw [k0_off1_eq]; rfl)).trans (own_eq (i := 0) (by rw [k0_off1_eq]; revert c; decide) (by rw [k0_off1_eq]; revert c; decide))

theorem send_set (c : Dev nD) (k : Fin 3) : (slot (k0_off2 c) (k0_off2_inb c)).view.set = own ⟨1 + k, by omega⟩ (peer k c) := by
  have h : partRows ⟨1 + k.val, by omega⟩ = 3344 := by revert k; decide
  refine (slot_set _ _ (by rw [k0_off2_eq]; rfl)).trans ?_
  rw [← h]
  exact own_eq (by rw [k0_off2_eq]; revert c k; decide) (by rw [k0_off2_eq]; revert c k; decide)

theorem got_set0 (c : Dev nD) : (slot (k0_off4 c) (k0_off4_inb c)).view.set = own 1 c :=
  (slot_set _ _ (by rw [k0_off4_eq]; rfl)).trans (own_eq (i := 1) (by rw [k0_off4_eq]; revert c; decide) (by rw [k0_off4_eq]; revert c; decide))
theorem got_set1 (c : Dev nD) : (slot (k0_off5 c) (k0_off5_inb c)).view.set = own 2 c :=
  (slot_set _ _ (by rw [k0_off5_eq]; rfl)).trans (own_eq (i := 2) (by rw [k0_off5_eq]; revert c; decide) (by rw [k0_off5_eq]; revert c; decide))
theorem got_set2 (c : Dev nD) : (slot (k0_off6 c) (k0_off6_inb c)).view.set = own 3 c :=
  (slot_set _ _ (by rw [k0_off6_eq]; rfl)).trans (own_eq (i := 3) (by rw [k0_off6_eq]; revert c; decide) (by rw [k0_off6_eq]; revert c; decide))

/-- A received half lies, in the other core's result, where it lies in the device's own. -/
theorem own_sib (c : Dev nD) (k : Fin 3) : own ⟨4 + k, by omega⟩ (sib c) = own ⟨1 + k, by omega⟩ c := by
  have h2 : partRows ⟨4 + k.val, by omega⟩ = partRows ⟨1 + k.val, by omega⟩ := by clear c; revert k; decide
  have h0 : partChip ⟨4 + k.val, by omega⟩ (sib c) = partChip ⟨1 + k.val, by omega⟩ c := by clear h2; revert c k; decide
  have h1 : partLo ⟨4 + k.val, by omega⟩ (sib c) = partLo ⟨1 + k.val, by omega⟩ c := by clear h0 h2; revert c k; decide
  rw [own, own, h0, h1, h2]

/-! ## What it writes there -/

/-- The result at an index, from the device it comes from and the row there. -/
theorem gathered_apply {c d : Dev nD} {i : S4x6688x1024.Idx} {y : S6688x1024.Idx} (hd : from_ c (i 0) (i 1) = d)
    (h0 : (i 1 : ℕ) = y 0) (h1 : (i 2 : ℕ) = y 1) : gathered m c i = m ((d.tc : Thread nD τ).loc main_arg0) y := by
  subst hd
  unfold gathered
  congr 1
  rw [eq_ix2 y]
  congr 1
  · exact Fin.ext h0
  · exact Fin.ext h1

/-- Off the own chip's rows the two cores of a chip end with the same. -/
theorem gathered_sib {c : Dev nD} {i : S4x6688x1024.Idx} (h : (i 0 : ℕ) ≠ c.val / 2) : gathered m (sib c) i = gathered m c i := by
  have hs : (sib c).val / 2 = c.val / 2 := by clear h; revert c; decide
  have e : from_ (sib c) (i 0) (i 1) = from_ c (i 0) (i 1) := by
    unfold from_
    refine Fin.ext ?_
    show 2 * (i 0).val + (if (i 0).val = (sib c).val / 2 then _ else _) = 2 * (i 0).val + (if (i 0).val = c.val / 2 then _ else _)
    rw [hs, if_neg h, if_neg h]
  unfold gathered
  rw [e]

theorem chip1 (c : Dev nD) : k0_off1 c 0 = c.val / 2 := by rw [k0_off1_eq]; revert c; decide
theorem chip2 (c : Dev nD) : k0_off2 c 0 = c.val / 2 := by rw [k0_off2_eq]; revert c; decide
theorem peer_chip (k : Fin 3) (c : Dev nD) : c.val / 2 ≠ (peer k c).val / 2 := by revert c k; decide

theorem local_carries (c : Dev nD) : (slab (k0_off1 c) (k0_off1_inb c)).view.read (Elt F) (gathered m c)
    = xM.view.read (Elt F) (m ((c.tc : Thread nD τ).loc main_arg0)) := by
  funext y
  obtain ⟨h0, h1, h2⟩ := slab_emb (k0_off1 c) (k0_off1_inb c) y
  have e0 : k0_off1 c 0 = c.val / 2 := chip1 c
  have e1 : k0_off1 c 1 = 0 := by rw [k0_off1_eq]; rfl
  have e2 : k0_off1 c 2 = 0 := by rw [k0_off1_eq]; rfl
  refine gathered_apply m (d := c) (i := (slab (k0_off1 c) (k0_off1_inb c)).view.emb y) (y := y) ?_ (by omega) (by omega)
  unfold from_
  refine Fin.ext ?_
  show 2 * ((slab (k0_off1 c) (k0_off1_inb c)).view.emb y 0 : ℕ) + (if ((slab (k0_off1 c) (k0_off1_inb c)).view.emb y 0 : ℕ) = c.val / 2 then c.val % 2 else _) = c.val
  rw [if_pos (h0.trans e0), h0, e0]
  omega

theorem send_carries (c : Dev nD) (k : Fin 3) : (slot (k0_off2 c) (k0_off2_inb c)).view.read (Elt F) (gathered m (peer k c))
    = (half (k0_off3 c) (k0_off3_inb c)).view.read (Elt F) (m ((c.tc : Thread nD τ).loc main_arg0)) := by
  funext y
  obtain ⟨h0, h1, h2⟩ := slot_emb (k0_off2 c) (k0_off2_inb c) y
  have g0 := half_emb (k0_off3 c) (k0_off3_inb c) y 0
  have g1 := half_emb (k0_off3 c) (k0_off3_inb c) y 1
  have e0 : k0_off2 c 0 = c.val / 2 := chip2 c
  have e1 : k0_off2 c 1 = 3344 * (c.val % 2) := by rw [k0_off2_eq]; rfl
  have e2 : k0_off2 c 2 = 0 := by rw [k0_off2_eq]; rfl
  have f0 : k0_off3 c 0 = 3344 * (c.val % 2) := by rw [k0_off3_eq]; rfl
  have f1 : k0_off3 c 1 = 0 := by rw [k0_off3_eq]; rfl
  have hne : c.val / 2 ≠ (peer k c).val / 2 := peer_chip k c
  have hy : (y 0 : ℕ) < 3344 := (y 0).isLt
  refine gathered_apply m (d := c) (i := (slot (k0_off2 c) (k0_off2_inb c)).view.emb y) (y := (half (k0_off3 c) (k0_off3_inb c)).view.emb y) ?_
    (by omega) (by omega)
  unfold from_
  refine Fin.ext ?_
  show 2 * ((slot (k0_off2 c) (k0_off2_inb c)).view.emb y 0 : ℕ) + (if ((slot (k0_off2 c) (k0_off2_inb c)).view.emb y 0 : ℕ) = (peer k c).val / 2
    then _ else ((slot (k0_off2 c) (k0_off2_inb c)).view.emb y 1 : ℕ) / 3344) = c.val
  rw [if_neg (fun h => hne ((h0.trans e0).symm.trans h)), h0, e0, h1, e1]
  omega

/-- What is passed on to the other core, off the own chip's rows. -/
theorem forward_carries (c : Dev nD) (off : Fin 3 → ℕ) (inb) (h : off 0 ≠ c.val / 2) :
    (slot off inb).view.read (Elt F) (gathered m (sib c)) = (slot off inb).view.read (Elt F) (gathered m c) := by
  funext y
  exact gathered_sib m (c := c) (i := (slot off inb).view.emb y) (by rw [(slot_emb off inb y).1]; exact h)

theorem off4_ne (c : Dev nD) : k0_off4 c 0 ≠ c.val / 2 := by rw [k0_off4_eq]; revert c; decide
theorem off5_ne (c : Dev nD) : k0_off5 c 0 ≠ c.val / 2 := by rw [k0_off5_eq]; revert c; decide
theorem off6_ne (c : Dev nD) : k0_off6 c 0 ≠ c.val / 2 := by rw [k0_off6_eq]; revert c; decide

end Cert.GatherProof

end
-- ==== Proof.GatherBody.lean ====
/-
# The gather: one device's run
-/
module

public import proofs.«01_k».proof.Proof.GatherContents

@[expose] public section

noncomputable section

namespace Cert.GatherProof

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.Exchange
open Idealize.ShloMosaic.Transfers (shareDrop shareTok pointsTo_toks_split)

variable {F : FTy → Type} [FloatOps F]

local notation "𝕄" => MT nD τ sig Unit (Elt F) ℕ (UU nD τ sig) ℕ

variable (m : (ℓ : Loc nD τ sig) → Buf (Elt F) ℓ)

/-- What device `c` starts with: its own rows, and the parts of the results it is to write. -/
def before (c : Dev nD) : sProp 𝕄 :=
  iprop(((c.tc : Thread nD τ).loc main_arg0 ↦{fullShare} m ((c.tc : Thread nD τ).loc main_arg0))
    ∗ bigSep Finset.univ fun i : Fin 7 => (((dest i c).tc : Thread nD τ).loc main_v1 ↦[own i (dest i c)]{fullShare} m (((dest i c).tc : Thread nD τ).loc main_v1)))

/-- What it ends with: its own rows as they were, and every part of its result. -/
def after (c : Dev nD) : sProp 𝕄 :=
  iprop(((c.tc : Thread nD τ).loc main_arg0 ↦{shareDrop fullShare 4} m ((c.tc : Thread nD τ).loc main_arg0))
    ∗ bigSep Finset.univ fun i : Fin 7 => iprop(∃ q, got m q i c))

theorem list4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem list7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem list13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem list_remote (Φ : Fin 13 → sProp 𝕄) : bigSep plan.remote Φ = iprop(Φ 6 ∗ Φ 7 ∗ Φ 8 ∗ Φ 9 ∗ Φ 10 ∗ Φ 11) :=
  bigSep_eq_bigSepL_of_eq [6, 7, 8, 9, 10, 11] (by decide) (by decide) Φ

/-- The same elements, held under another name. -/
theorem held {ℓ : Loc nD τ sig} {S S' : Finset (Idx ℓ)} {q : PosShare TreeShare} {f : Buf (Elt F) ℓ} (h : S = S') :
    (ℓ ↦[S]{q} f : sProp 𝕄) ⊢ (ℓ ↦[S']{q} f) := by rw [h]

theorem held_at {d d' : Dev nD} (hd : d = d') {S S' : Finset S4x6688x1024.Idx} {q : PosShare TreeShare} (h : S = S') :
    ((d.tc : Thread nD τ).loc main_v1 ↦[S]{q} m ((d.tc : Thread nD τ).loc main_v1) : sProp 𝕄)
      ⊢ ((d'.tc : Thread nD τ).loc main_v1 ↦[S']{q} m ((d'.tc : Thread nD τ).loc main_v1)) := by subst hd h; exact Entails.refl _

/-- Part of what is held. -/
theorem restrict {ℓ : Loc nD τ sig} (S : Finset (Idx ℓ)) {q : PosShare TreeShare} {f : Buf (Elt F) ℓ} :
    (ℓ ↦{q} f : sProp 𝕄) ⊢ (ℓ ↦[S]{q} f) :=
  (pointsTo_split_subset (Finset.subset_univ S)).1.trans (by iintro ⟨H, -⟩; iexact H)

/-- A part held, held twice at half the share. -/
theorem twice {ℓ : Loc nD τ sig} {S : Finset (Idx ℓ)} {q : PosShare TreeShare} {f : Buf (Elt F) ℓ} :
    (ℓ ↦[S]{q} f : sProp 𝕄) ⊢ iprop((ℓ ↦[S]{q.left} f) ∗ (ℓ ↦[S]{q.right} f)) :=
  (pointsTo_share (PosShare.mem_left_op_right q)).1

/-- The semaphores of other devices still to be completed after the first `n` remote copies. -/
def rest (n : ℕ) : Finset (Fin 13) := Finset.univ.filter fun k => 6 + n ≤ k.val ∧ k.val < 12

theorem xM_set : xM.view.set = Finset.univ := View.set_whole _

theorem amount_half (off : Fin 3 → ℕ) (inb) : (slot off inb).view.dmaCredit = halfway := rfl
theorem amount_whole (c : Dev nD) : (slab (k0_off1 c) (k0_off1_inb c)).view.dmaCredit = plan.amt 12 := rfl
theorem amount_own (off : Fin 2 → ℕ) (inb) : (half off inb).view.dmaCredit = halfway := by
  show sig.dmaCredit .tc (Kind.tc.table .hbm) main_arg0.idx S3344x1024 .bf16 = sig.dmaCredit .tc (Kind.tc.table .hbm) main_v1.idx S3344x1024 .bf16
  decide

theorem owing_eq (c : Dev nD) {S S' : Finset (Fin 13)} (h : S = S') : (plan.owing c S : sProp 𝕄) ⊢ plan.owing c S' := by rw [h]

theorem pay_none (c : Dev nD) (k : Fin 13) (h : partOf k = none) (P : sProp 𝕄) : P ⊢ pay m c k := by
  unfold pay; rw [h]; iintro -; iempintro
theorem pay_some (c : Dev nD) (k : Fin 13) (i : Fin 7) (h : partOf k = some i) : pay m c k = got m fullShare i c := by
  unfold pay; rw [h]

/-- The local copy has landed. -/
theorem local_lands (c : Dev nD) (q : PosShare TreeShare) (fd) :
    iprop(((slab (k0_off1 c) (k0_off1_inb c)).view.loc (c.tc : Thread nD τ) ↦[(slab (k0_off1 c) (k0_off1_inb c)).view.set]{fullShare}
        ((slab (k0_off1 c) (k0_off1_inb c)).view.write (Elt F) fd (xM.view.read (Elt F) (m ((c.tc : Thread nD τ).loc main_arg0))) Finset.univ))
      ∗ (xM.view.loc (c.tc : Thread nD τ) ↦[xM.view.set]{q} m ((c.tc : Thread nD τ).loc main_arg0))) ⊢ (pay m c 12 : sProp 𝕄) := by
  rw [pay_some m c 12 0 rfl]
  iintro ⟨H, -⟩
  ihave H := (Entails.of_eq (landed (c := (c.tc : Thread nD τ)) (c' := (c.tc : Thread nD τ)) (dst := (slab (k0_off1 c) (k0_off1_inb c)).view) (local_carries m c))) $$ H
  iapply (held (local_set c)); iexact H

/-- The own half has landed on another chip. -/
theorem send_lands (c n : Dev nD) (k : Fin 3) (hn : n = peer k c) (fd) (j : Fin 13) (hj : partOf j = some ⟨1 + k, by omega⟩ := by rfl) :
    ((slot (k0_off2 c) (k0_off2_inb c)).view.loc (n.tc : Thread nD τ) ↦[(slot (k0_off2 c) (k0_off2_inb c)).view.set]{fullShare}
        ((slot (k0_off2 c) (k0_off2_inb c)).view.write (Elt F) fd ((half (k0_off3 c) (k0_off3_inb c)).view.read (Elt F) (m ((c.tc : Thread nD τ).loc main_arg0))) Finset.univ))
      ⊢ (pay m n j : sProp 𝕄) := by
  subst hn
  rw [pay_some m _ j _ hj]
  iintro H
  ihave H := (Entails.of_eq (landed (c := (c.tc : Thread nD τ)) (c' := ((peer k c).tc : Thread nD τ)) (dst := (slot (k0_off2 c) (k0_off2_inb c)).view) (send_carries m c k))) $$ H
  iapply (held (send_set c k)); iexact H

/-- A half passed on has landed on the chip's other core. -/
theorem forward_lands (c n : Dev nD) (k : Fin 3) (hn : n = sib c) {off : Fin 3 → ℕ} {inb} (h : off 0 ≠ c.val / 2) (hs : (slot off inb).view.set = own ⟨1 + k, by omega⟩ c) (fd)
    (j : Fin 13) (hj : partOf j = some ⟨4 + k, by omega⟩ := by rfl) :
    ((slot off inb).view.loc (n.tc : Thread nD τ) ↦[(slot off inb).view.set]{fullShare}
        ((slot off inb).view.write (Elt F) fd ((slot off inb).view.read (Elt F) (gathered m c)) Finset.univ))
      ⊢ (pay m n j : sProp 𝕄) := by
  subst hn
  rw [pay_some m _ j _ hj]
  iintro H
  ihave H := (Entails.of_eq (landed (c := (c.tc : Thread nD τ)) (c' := ((sib c).tc : Thread nD τ)) (dst := (slot off inb).view) (forward_carries m c off inb h))) $$ H
  iapply (held (hs.trans (own_sib c k).symm)); iexact H

variable (N : Dev nD × Fin 13 → ℕ)

set_option maxHeartbeats 8000000 in
/-- Device `c`'s run: the local copy and three copies out, each received half passed on and kept, every semaphore waited
    for. -/
theorem sound_body (c : Dev nD) :
    iprop((plan.records (pay m) N ∗ levAts (Plan.lev (nD := nD) (τ := τ) (sig := sig)) plan.lv) ∗ (bigSep Finset.univ fun k : Fin plan.K => plan.pos c k)
          ∗ (bigSep Finset.univ fun k : Fin plan.K => plan.tok c k)
          ∗ (bigSep plan.remote fun k => plan.due c k) ∗ plan.owing c plan.remote ∗ before m c)
      ⊢ (wp frame (wpE (defs₀ (F := F)) Variants.none c none) Set.univ (bodyAt0 (F := F) t0_0) fun _ =>
            iprop(plan.owing c ∅ ∗ (bigSep Finset.univ fun k : Fin plan.K => plan.zero c k) ∗ after m c) : sProp 𝕄) := by
  unfold bodyAt0
  rw [cc0_gather_weights_eq_skeleton]
  unfold cc0_gather_weights_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, wp_deviceId]
  unfold before after
  rw [show (bigSep Finset.univ fun k : Fin plan.K => plan.pos c k : sProp 𝕄) = _ from list13 _,
    show (bigSep Finset.univ fun k : Fin plan.K => plan.tok c k : sProp 𝕄) = _ from list13 _,
    show (bigSep Finset.univ fun k : Fin plan.K => plan.zero c k : sProp 𝕄) = _ from list13 _,
    show (bigSep plan.remote fun k => plan.due c k : sProp 𝕄) = _ from list_remote _, list7, list7]
  iintro ⟨⟨#HR, #HL⟩, ⟨p0, p1, p2, p3, p4, p5, p6, p7, p8, p9, p10, p11, p12⟩, ⟨t0, t1, t2, t3, t4, t5, t6, t7, t8, t9, t10, t11, t12⟩, ⟨d6, d7, d8, d9, d10, d11⟩, HO, Hx, ⟨w0, w1, w2, w3, w4, w5, w6⟩⟩
  ihave Hx := (pointsTo_toks_split fullShare 4) $$ Hx
  icases Hx with ⟨Hx, Hxs⟩
  ihave Hxs := (Entails.of_eq (list4 _)) $$ Hxs
  icases Hxs with ⟨x0, x1, x2, x3⟩
  -- the local copy
  ihave HO := (owing_eq c (S' := rest 0) (by decide)) $$ HO
  ihave w0 := (held (local_set c).symm) $$ w0
  iapply (Plan.copy_rule plan (pay m) N c (12 : Fin 13) rfl rfl (amount_whole c) (local_lands m c _ _)) $$ [x3 w0 t12]
  · isplitr; · iexact HR
    isplitl [x3]; · iapply (held (xM_set).symm); iexact x3
    isplitl [w0]; · iexact w0
    iexact t12
  iintro d12
  -- the copy of the own half to the chip 1 away
  ihave x0 := (restrict (half (k0_off3 c) (k0_off3_inb c)).view.set) $$ x0
  ihave w1 := (held_at m (d := dest 1 c) (S := own 1 (dest 1 c)) (dev1_eq c).symm (send_set c 0).symm) $$ w1
  iapply (Plan.send_rule plan (pay m) N c (c' := ⟨k0_dev1 c, k0_dev1_lt c⟩) (0 : Fin 13) (6 : Fin 13) (rest 0) (by decide) rfl rfl rfl (dev1_eq c).symm (amount_half _ _) rfl
      (pay_none m c 0 rfl _) (send_lands m c _ 0 (dev1_eq c) _ _)) $$ [x0 w1 HO t0 t6]
  · isplitr; · iexact HR
    isplitl [x0]; · iexact x0
    isplitl [w1]; · iexact w1
    isplitl [HO]; · iexact HO
    isplitl [t0]; · iexact t0
    iexact t6
  iintro ⟨d0, HO⟩
  ihave HO := (owing_eq c (S' := rest 1) (by decide)) $$ HO
  -- the copy of the own half to the chip 2 away
  ihave x1 := (restrict (half (k0_off3 c) (k0_off3_inb c)).view.set) $$ x1
  ihave w2 := (held_at m (d := dest 2 c) (S := own 2 (dest 2 c)) (dev2_eq c).symm (send_set c 1).symm) $$ w2
  iapply (Plan.send_rule plan (pay m) N c (c' := ⟨k0_dev2 c, k0_dev2_lt c⟩) (1 : Fin 13) (7 : Fin 13) (rest 1) (by decide) rfl rfl rfl (dev2_eq c).symm (amount_half _ _) rfl
      (pay_none m c 1 rfl _) (send_lands m c _ 1 (dev2_eq c) _ _)) $$ [x1 w2 HO t1 t7]
  · isplitr; · iexact HR
    isplitl [x1]; · iexact x1
    isplitl [w2]; · iexact w2
    isplitl [HO]; · iexact HO
    isplitl [t1]; · iexact t1
    iexact t7
  iintro ⟨d1, HO⟩
  ihave HO := (owing_eq c (S' := rest 2) (by decide)) $$ HO
  -- the copy of the own half to the chip 3 away
  ihave x2 := (restrict (half (k0_off3 c) (k0_off3_inb c)).view.set) $$ x2
  ihave w3 := (held_at m (d := dest 3 c) (S := own 3 (dest 3 c)) (dev3_eq c).symm (send_set c 2).symm) $$ w3
  iapply (Plan.send_rule plan (pay m) N c (c' := ⟨k0_dev3 c, k0_dev3_lt c⟩) (2 : Fin 13) (8 : Fin 13) (rest 2) (by decide) rfl rfl rfl (dev3_eq c).symm (amount_half _ _) rfl
      (pay_none m c 2 rfl _) (send_lands m c _ 2 (dev3_eq c) _ _)) $$ [x2 w3 HO t2 t8]
  · isplitr; · iexact HR
    isplitl [x2]; · iexact x2
    isplitl [w3]; · iexact w3
    isplitl [HO]; · iexact HO
    isplitl [t2]; · iexact t2
    iexact t8
  iintro ⟨d2, HO⟩
  ihave HO := (owing_eq c (S' := rest 3) (by decide)) $$ HO
  -- the half from the chip 1 away, passed on to the other core
  iapply (Plan.wait_rule plan (pay m) N c (wpE_waitDma2_eq Variants.none (c : Thread nD τ) none Set.univ) (6 : Fin 13) (rest 3) rfl (amount_half _ _) (by decide)) $$ [d6 HO p6]
  · isplitr; · isplitr; · iexact HR
               iexact HL
    isplitl [d6]; · iexact d6
    isplitl [HO]; · iexact HO
    iexact p6
  iintro ⟨HO, z6, Hp⟩
  ihave g1 := (Entails.of_eq (pay_some m c 6 1 rfl)) $$ Hp
  ihave g1 := twice $$ g1
  icases g1 with ⟨g1, f1⟩
  ihave f1 := (held (got_set0 c).symm) $$ f1
  ihave w4 := (held_at m (d := dest 4 c) (S := own 4 (dest 4 c)) (dev4_eq c).symm ((own_sib c 0).trans (got_set0 c).symm)) $$ w4
  iapply (Plan.send_rule plan (pay m) N c (c' := ⟨k0_dev4 c, k0_dev4_lt c⟩) (3 : Fin 13) (9 : Fin 13) (rest 3) (by decide) rfl rfl rfl (dev4_eq c).symm (amount_half _ _) rfl
      (pay_none m c 3 rfl _) (forward_lands m c _ 0 (dev4_eq c) (off4_ne c) (got_set0 c) _ _)) $$ [f1 w4 HO t3 t9]
  · isplitr; · iexact HR
    isplitl [f1]; · iexact f1
    isplitl [w4]; · iexact w4
    isplitl [HO]; · iexact HO
    isplitl [t3]; · iexact t3
    iexact t9
  iintro ⟨d3, HO⟩
  ihave HO := (owing_eq c (S' := rest 4) (by decide)) $$ HO
  -- the half from the chip 2 away, passed on to the other core
  iapply (Plan.wait_rule plan (pay m) N c (wpE_waitDma2_eq Variants.none (c : Thread nD τ) none Set.univ) (7 : Fin 13) (rest 4) rfl (amount_half _ _) (by decide)) $$ [d7 HO p7]
  · isplitr; · isplitr; · iexact HR
               iexact HL
    isplitl [d7]; · iexact d7
    isplitl [HO]; · iexact HO
    iexact p7
  iintro ⟨HO, z7, Hp⟩
  ihave g2 := (Entails.of_eq (pay_some m c 7 2 rfl)) $$ Hp
  ihave g2 := twice $$ g2
  icases g2 with ⟨g2, f2⟩
  ihave f2 := (held (got_set1 c).symm) $$ f2
  ihave w5 := (held_at m (d := dest 5 c) (S := own 5 (dest 5 c)) (dev5_eq c).symm ((own_sib c 1).trans (got_set1 c).symm)) $$ w5
  iapply (Plan.send_rule plan (pay m) N c (c' := ⟨k0_dev5 c, k0_dev5_lt c⟩) (4 : Fin 13) (10 : Fin 13) (rest 4) (by decide) rfl rfl rfl (dev5_eq c).symm (amount_half _ _) rfl
      (pay_none m c 4 rfl _) (forward_lands m c _ 1 (dev5_eq c) (off5_ne c) (got_set1 c) _ _)) $$ [f2 w5 HO t4 t10]
  · isplitr; · iexact HR
    isplitl [f2]; · iexact f2
    isplitl [w5]; · iexact w5
    isplitl [HO]; · iexact HO
    isplitl [t4]; · iexact t4
    iexact t10
  iintro ⟨d4, HO⟩
  ihave HO := (owing_eq c (S' := rest 5) (by decide)) $$ HO
  -- the half from the chip 3 away, passed on to the other core
  iapply (Plan.wait_rule plan (pay m) N c (wpE_waitDma2_eq Variants.none (c : Thread nD τ) none Set.univ) (8 : Fin 13) (rest 5) rfl (amount_half _ _) (by decide)) $$ [d8 HO p8]
  · isplitr; · isplitr; · iexact HR
               iexact HL
    isplitl [d8]; · iexact d8
    isplitl [HO]; · iexact HO
    iexact p8
  iintro ⟨HO, z8, Hp⟩
  ihave g3 := (Entails.of_eq (pay_some m c 8 3 rfl)) $$ Hp
  ihave g3 := twice $$ g3
  icases g3 with ⟨g3, f3⟩
  ihave f3 := (held (got_set2 c).symm) $$ f3
  ihave w6 := (held_at m (d := dest 6 c) (S := own 6 (dest 6 c)) (dev6_eq c).symm ((own_sib c 2).trans (got_set2 c).symm)) $$ w6
  iapply (Plan.send_rule plan (pay m) N c (c' := ⟨k0_dev6 c, k0_dev6_lt c⟩) (5 : Fin 13) (11 : Fin 13) (rest 5) (by decide) rfl rfl rfl (dev6_eq c).symm (amount_half _ _) rfl
      (pay_none m c 5 rfl _) (forward_lands m c _ 2 (dev6_eq c) (off6_ne c) (got_set2 c) _ _)) $$ [f3 w6 HO t5 t11]
  · isplitr; · iexact HR
    isplitl [f3]; · iexact f3
    isplitl [w6]; · iexact w6
    isplitl [HO]; · iexact HO
    isplitl [t5]; · iexact t5
    iexact t11
  iintro ⟨d5, HO⟩
  ihave HO := (owing_eq c (S' := ∅) (by decide)) $$ HO
  -- the other halves, then the copies out, then the local copy
  iapply (Plan.wait_rule plan (pay m) N c (wpE_waitDma2_eq Variants.none (c : Thread nD τ) none Set.univ) (9 : Fin 13) (∅) rfl (amount_half _ _) (by decide)) $$ [d9 HO p9]
  · isplitr; · isplitr; · iexact HR
               iexact HL
    isplitl [d9]; · iexact d9
    isplitl [HO]; · iexact HO
    iexact p9
  iintro ⟨HO, z9, Hp⟩
  ihave g4 := (Entails.of_eq (pay_some m c 9 4 rfl)) $$ Hp
  iapply (Plan.wait_rule plan (pay m) N c (wpE_waitDma2_eq Variants.none (c : Thread nD τ) none Set.univ) (10 : Fin 13) (∅) rfl (amount_half _ _) (by decide)) $$ [d10 HO p10]
  · isplitr; · isplitr; · iexact HR
               iexact HL
    isplitl [d10]; · iexact d10
    isplitl [HO]; · iexact HO
    iexact p10
  iintro ⟨HO, z10, Hp⟩
  ihave g5 := (Entails.of_eq (pay_some m c 10 5 rfl)) $$ Hp
  iapply (Plan.wait_rule plan (pay m) N c (wpE_waitDma2_eq Variants.none (c : Thread nD τ) none Set.univ) (11 : Fin 13) (∅) rfl (amount_half _ _) (by decide)) $$ [d11 HO p11]
  · isplitr; · isplitr; · iexact HR
               iexact HL
    isplitl [d11]; · iexact d11
    isplitl [HO]; · iexact HO
    iexact p11
  iintro ⟨HO, z11, Hp⟩
  ihave g6 := (Entails.of_eq (pay_some m c 11 6 rfl)) $$ Hp
  iapply (Plan.wait_rule plan (pay m) N c (wpE_waitDma2_eq Variants.none (c : Thread nD τ) none Set.univ) (0 : Fin 13) (∅) rfl (amount_own _ _) (by decide)) $$ [d0 HO p0]
  · isplitr; · isplitr; · iexact HR
               iexact HL
    isplitl [d0]; · iexact d0
    isplitl [HO]; · iexact HO
    iexact p0
  iintro ⟨HO, z0, Hp⟩
  iclear Hp
  iapply (Plan.wait_rule plan (pay m) N c (wpE_waitDma2_eq Variants.none (c : Thread nD τ) none Set.univ) (1 : Fin 13) (∅) rfl (amount_own _ _) (by decide)) $$ [d1 HO p1]
  · isplitr; · isplitr; · iexact HR
               iexact HL
    isplitl [d1]; · iexact d1
    isplitl [HO]; · iexact HO
    iexact p1
  iintro ⟨HO, z1, Hp⟩
  iclear Hp
  iapply (Plan.wait_rule plan (pay m) N c (wpE_waitDma2_eq Variants.none (c : Thread nD τ) none Set.univ) (2 : Fin 13) (∅) rfl (amount_own _ _) (by decide)) $$ [d2 HO p2]
  · isplitr; · isplitr; · iexact HR
               iexact HL
    isplitl [d2]; · iexact d2
    isplitl [HO]; · iexact HO
    iexact p2
  iintro ⟨HO, z2, Hp⟩
  iclear Hp
  iapply (Plan.wait_rule plan (pay m) N c (wpE_waitDma2_eq Variants.none (c : Thread nD τ) none Set.univ) (3 : Fin 13) (∅) rfl (amount_half _ _) (by decide)) $$ [d3 HO p3]
  · isplitr; · isplitr; · iexact HR
               iexact HL
    isplitl [d3]; · iexact d3
    isplitl [HO]; · iexact HO
    iexact p3
  iintro ⟨HO, z3, Hp⟩
  iclear Hp
  iapply (Plan.wait_rule plan (pay m) N c (wpE_waitDma2_eq Variants.none (c : Thread nD τ) none Set.univ) (4 : Fin 13) (∅) rfl (amount_half _ _) (by decide)) $$ [d4 HO p4]
  · isplitr; · isplitr; · iexact HR
               iexact HL
    isplitl [d4]; · iexact d4
    isplitl [HO]; · iexact HO
    iexact p4
  iintro ⟨HO, z4, Hp⟩
  iclear Hp
  iapply (Plan.wait_rule plan (pay m) N c (wpE_waitDma2_eq Variants.none (c : Thread nD τ) none Set.univ) (5 : Fin 13) (∅) rfl (amount_half _ _) (by decide)) $$ [d5 HO p5]
  · isplitr; · isplitr; · iexact HR
               iexact HL
    isplitl [d5]; · iexact d5
    isplitl [HO]; · iexact HO
    iexact p5
  iintro ⟨HO, z5, Hp⟩
  iclear Hp
  iapply (Plan.wait_rule plan (pay m) N c (wpE_waitDma2_eq Variants.none (c : Thread nD τ) none Set.univ) (12 : Fin 13) (∅) rfl (amount_whole c) (by decide)) $$ [d12 HO p12]
  · isplitr; · isplitr; · iexact HR
               iexact HL
    isplitl [d12]; · iexact d12
    isplitl [HO]; · iexact HO
    iexact p12
  iintro ⟨HO, z12, Hp⟩
  ihave g0 := (Entails.of_eq (pay_some m c 12 0 rfl)) $$ Hp
  rw [wp_ret]
  imodintro
  isplitl [HO]; · iexact HO
  isplitl [z0 z1 z2 z3 z4 z5 z6 z7 z8 z9 z10 z11 z12]
  · isplitl [z0]; · iexact z0
    isplitl [z1]; · iexact z1
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    isplitl [z11]; · iexact z11
    iexact z12
  isplitl [Hx]; · iexact Hx
  isplitl [g0]; · iexists _; iexact g0
  isplitl [g1]; · iexists _; iexact g1
  isplitl [g2]; · iexists _; iexact g2
  isplitl [g3]; · iexists _; iexact g3
  isplitl [g4]; · iexists _; iexact g4
  isplitl [g5]; · iexists _; iexact g5
  iexists _; iexact g6

end Cert.GatherProof

end
-- ==== Proof.GatherRun.lean ====
/-
# The gather: the whole run

Run from any memory, every device ends with its own rows as they were and its result `gathered`, and every semaphore reads
zero.
-/
module

public import proofs.«01_k».proof.Proof.GatherBody

@[expose] public section

noncomputable section

namespace Cert.GatherProof

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange

variable {F : FTy → Type} [FloatOps F]

local notation "𝕄" => MT nD τ sig Unit (Elt F) ℕ (UU nD τ sig) ℕ

variable (m : (ℓ : Loc nD τ sig) → Buf (Elt F) ℓ)

/-- What is claimed of device `c`'s memory at the end. -/
def ends (c : Dev nD) (s : MemSt nD τ sig (Elt F)) : Prop :=
  s.mem ((c.tc : Thread nD τ).loc main_arg0) = m ((c.tc : Thread nD τ).loc main_arg0) ∧ s.mem ((c.tc : Thread nD τ).loc main_v1) = gathered m c

theorem ends_of_after (c : Dev nD) (s' : Phys nD τ sig (Elt F)) :
    iprop(after m c ∗ SI s') ⊢ (iprop(|={Set.univ}=> iprop(⌜ends m c s'.mem⌝ ∗ SI s')) : sProp 𝕄) := by
  unfold after
  iintro ⟨⟨Hx, Ho⟩, HSI⟩
  ihave H := (read_piece _ _ _ _ s') $$ [Hx HSI]
  · isplitl [Hx]; · iexact Hx
    iexact HSI
  icases H with ⟨%hx, HSI⟩
  ihave H := (read_pieces ((c.tc : Thread nD τ).loc main_v1) (fun i : Fin 7 => own i c) (gathered m c) s' Finset.univ) $$ [Ho HSI]
  · isplitl [Ho]; · iexact Ho
    iexact HSI
  icases H with ⟨%ho, HSI⟩
  imodintro
  isplitr
  · ipureintro
    refine ⟨funext fun x => hx x (Finset.mem_univ x), funext fun x => ?_⟩
    obtain ⟨i, hi⟩ := own_cover c x
    exact ho i (Finset.mem_univ i) x hi
  · iexact HSI

/-- The arrays at launch, dealt to the devices that write them. -/
theorem deal_arrays :
    (bigSep Finset.univ fun c : Dev nD => (Pipeline.unscopedRest (cfgs 0).spec c (fun b => m ((c.tc : Thread nD τ).loc b)) : sProp 𝕄))
      ⊢ bigSep Finset.univ fun c => before m c := by
  have h : (fun c : Dev nD => (Pipeline.unscopedRest (cfgs 0).spec c (fun b => m ((c.tc : Thread nD τ).loc b)) : sProp 𝕄))
      = fun c : Dev nD => iprop(((c.tc : Thread nD τ).loc main_arg0 ↦{fullShare} m ((c.tc : Thread nD τ).loc main_arg0))
          ∗ ((c.tc : Thread nD τ).loc main_v1 ↦{fullShare} m ((c.tc : Thread nD τ).loc main_v1))) :=
    funext fun c => unscopedRest0_eq c fun b => m ((c.tc : Thread nD τ).loc b)
  rw [h, bigSep_sep']
  unfold before
  rw [bigSep_sep']
  refine sep_mono_right ?_
  exact deal_pieces main_v1 dest (fun i c => own i (dest i c)) (fun d => m ((d.tc : Thread nD τ).loc main_v1))
    (fun d i i' hne => by simp only [Equiv.apply_symm_apply]; exact own_disjoint d i i' hne)
    (fun d x => by simp only [Equiv.apply_symm_apply]; exact own_cover d x)

theorem run_main (g : Dev nD → PrngReg) :
    θ_run (Cert.GatherIdeal.defs (F := F)) (onTc (τ := τ) (Cert.GatherIdeal.main (F := F))) ⟨m, fun _ => 0, g⟩
      (fun r => (∀ c, ends m c r.2) ∧ ∀ g' : GSem nD τ sig, (g'.1.2 ≠ .tc ∨ g'.2.isScoped .tc = true) → r.2.sem g' = 0) :=
  Plan.run plan (pay m) cfgs (defs₀ (F := F)) cellOf_inj winFacts0 (fun _ => ⟨fun w => w.elim0⟩) N_0
    (by decide) (fun c => scopedRest0_eq c) m g main (fun c => rfl) (before m) (after m) (deal_arrays m)
    (fun c N t => sound_body m N c) (ends m) (ends_of_after m)

end Cert.GatherProof

end
-- ==== Proof.GatherValue.lean ====
/-
# The gather: what it leaves, in terms of the whole array

The whole array's rows are cut in four blocks, one per chip, and both devices of a chip hold the same block.  Then every
device's result is the whole array read as four blocks.
-/
module

public import proofs.«01_k».proof.Defs
public import proofs.«01_k».proof.Proof.GatherRun
public import proofs.«01_k».proof.Proof.Gen.Gather
public import proofs.«01_k».proof.Proof.Gen.GatherRef.Run
public import proofs.«01_k».proof.Proof.Gen.GatherRefIdeal.Run

@[expose] public section

noncomputable section

namespace Cert.GatherProof

open Cert.GatherIdeal Cert.GatherIdeal.Gen
open Idealize.ShloMosaic
open Idealize.ShloMosaic.TcCoe
open Idealize.SL Idealize.SL.Sem

variable {F : FTy → Type} [FloatOps F]

/-- The block of rows a device holds is its chip's. -/
theorem rows_of (c : Dev nD) : ((Layout.meshBlock [2, 2, 2] ![[0, 1], []] c) (0 : Fin 2)).val = c.val / 2 := by
  revert c; decide

/-- No device cuts the columns. -/
theorem cols_of (c : Dev nD) : ((Layout.meshBlock [2, 2, 2] ![[0, 1], []] c) (1 : Fin 2)).val = 0 := by
  revert c; decide

/-- The device whose rows make up block `j` is on chip `j`. -/
theorem from_chip (c : Dev nD) (j : Fin 4) (r : Fin 6688) : (from_ c j r).val / 2 = j.val := by
  unfold from_
  show (2 * j.val + _) / 2 = j.val
  have h := r.isLt
  split <;> omega

/-- **The result is the whole array, read as four blocks of rows.** -/
theorem gathered_eq (m : (ℓ : Loc nD τ sig) → Buf (Elt F) ℓ) (w : (⟨2, ![26752, 1024]⟩ : Shape).Idx → Elt F .bf16)
    (hw : ∀ c : Dev nD, m ((c.tc : Thread nD τ).loc main_arg0)
      = Layout.blockN ⟨2, ![6688, 1024]⟩ ⟨2, ![26752, 1024]⟩ (Layout.meshBlock [2, 2, 2] ![[0, 1], []] c) w)
    (h : (⟨2, ![26752, 1024]⟩ : Shape).ShapeCasts ⟨3, ![4, 6688, 1024]⟩) (c : Dev nD) :
    gathered m c = shapeCast ⟨3, ![4, 6688, 1024]⟩ w h := by
  funext i
  have e := (rows_of (from_ c (i 0) (i 1))).trans (from_chip c (i 0) (i 1))
  have e1 := cols_of (from_ c (i 0) (i 1))
  have ht : Layout.TilesN ⟨2, ![6688, 1024]⟩ ⟨2, ![26752, 1024]⟩
      fun b : Fin 2 => Layout.cutSize [2, 2, 2] (![[0, 1], []] b) := by decide
  refine (congrFun (hw (from_ c (i 0) (i 1))) _).trans (shapeCast_apply w h i
    (ht.idx (Layout.meshBlock [2, 2, 2] ![[0, 1], []] (from_ c (i 0) (i 1))) (ValueIdx.ix2 (i 1) (i 2))) ?_).symm
  · rw [Shape.rowMajor_val_two, Shape.rowMajor_val_three, Layout.TilesN.idx_val, Layout.TilesN.idx_val]
    show ((((Layout.meshBlock [2, 2, 2] ![[0, 1], []] (from_ c (i 0) (i 1))) (0 : Fin 2)).val * 6688 + (i 1).val) * 1024
      + (((Layout.meshBlock [2, 2, 2] ![[0, 1], []] (from_ c (i 0) (i 1))) (1 : Fin 2)).val * 1024 + (i 2).val) : ℕ)
      = ((i 0).val * 6688 + (i 1).val) * 1024 + (i 2).val
    rw [e, e1]
    omega

/-! ## The claims -/

/-- The gather, as printed, ends with its argument unchanged and every semaphore at zero. -/
theorem frame_kernel : Cert.quiescent_Gather := fun m ρ _ =>
  (θ_run (Cert.GatherIdeal.defs (F := Bits)) _ _).mono
    (fun _ h => ⟨fun c => (h.1 c).1, sem_eq_zero_of_scoped (by decide) h.2⟩) (run_main (F := Bits) m ρ)

/-- So does its reading over the reals. -/
theorem frame_ideal : Cert.quiescent_GatherIdeal := fun m ρ _ =>
  (θ_run (Cert.GatherIdeal.defs (F := Ideal)) _ _).mono
    (fun _ h => ⟨fun c => (h.1 c).1, sem_eq_zero_of_scoped (by decide) h.2⟩) (run_main (F := Ideal) m ρ)

/-- The reference, read over the reals, ends with its argument unchanged; it has no semaphore. -/
theorem frame_refIdeal : Cert.quiescent_GatherRefIdeal := fun m ρ _ =>
  (θ_run Cert.GatherRefIdeal.defs _ _).mono
    (fun r h => ⟨fun c => (h c).2, sem_eq_zero_of_no_sems (by decide) r.2⟩) (Cert.GatherRefIdeal.Value.run m ρ)

/-- So does the reference as printed. -/
theorem frame_ref : Cert.quiescent_GatherRef := fun m ρ _ =>
  (θ_run Cert.GatherRef.defs _ _).mono
    (fun r h => ⟨fun c => (h c).2, sem_eq_zero_of_no_sems (by decide) r.2⟩) (Cert.GatherRef.Value.run m ρ)

/-- Over the reals every device's result is the reference's. -/
theorem algebraic : Cert.algebraic_GatherIdeal_GatherRefIdeal := fun m g m' g' _ hw =>
  ⟨shapeCast _ (m' (((0 : Dev Cert.GatherRefIdeal.nD).tc : Thread Cert.GatherRefIdeal.nD Cert.GatherRefIdeal.τ).loc Cert.GatherRefIdeal.main_arg0))
      Cert.GatherRefIdeal.Gen.shapeCasts_S26752x1024_S4x6688x1024,
    (θ_run (Cert.GatherIdeal.defs (F := Ideal)) _ _).mono
      (fun _ h c => ⟨(h.1 c).2.trans (gathered_eq m _ hw _ c), (h.1 c).1⟩) (run_main (F := Ideal) m g),
    (θ_run Cert.GatherRefIdeal.defs _ _).mono (fun _ h => h 0) (Cert.GatherRefIdeal.Value.run m' g')⟩

/-- Bit for bit, too, every device's result is the reference's. -/
theorem bitexact : Cert.bitexact_Gather_GatherRef := fun m g m' g' _ hw =>
  ⟨shapeCast _ (m' (((0 : Dev Cert.GatherRef.nD).tc : Thread Cert.GatherRef.nD Cert.GatherRef.τ).loc Cert.GatherRef.main_arg0))
      Cert.GatherRef.Gen.shapeCasts_S26752x1024_S4x6688x1024,
    (θ_run (Cert.GatherIdeal.defs (F := Bits)) _ _).mono
      (fun _ h c => ⟨(h.1 c).2.trans (gathered_eq m _ hw _ c), (h.1 c).1⟩) (run_main (F := Bits) m g),
    (θ_run Cert.GatherRef.defs _ _).mono (fun _ h => h 0) (Cert.GatherRef.Value.run m' g')⟩

end Cert.GatherProof

end
-- ==== Proof.PartialsRun.lean ====
/-
# The swap of the partial sums

The two devices of a chip swap an array: each copies its own into the other's result, and waits until its copy has been
read and until the other's has landed.

| semaphore | completed by                                                  | hands over                       |
|-----------|---------------------------------------------------------------|----------------------------------|
| 0         | the device itself: its copy has read its source               | nothing (the source is lent at a share) |
| 1         | the chip's other device: its copy has landed                  | the whole result, in place       |

A device's result belongs, from the launch on, to the chip's other device.
-/
module

public import proofs.«01_k».proof.Proof.Pieces
public import proofs.«01_k».proof.Proof.Gen.PartialsIdeal.Skeleton
public import proofs.«01_k».proof.Proof.Gen.PartialsIdeal.Launch
public import proofs.«01_k».proof.Proof.Gen.PartialsIdeal.Points
public import Idealize.ShloMosaic.Lib.Tactic

@[expose] public section

noncomputable section

namespace Cert.PartialsProof

open Cert.PartialsIdeal Cert.PartialsIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange

variable {F : FTy → Type}

local notation "𝕄" => MT nD τ sig Unit (Elt F) ℕ (UU nD τ sig) ℕ

abbrev vM : Memref sig .tc .hbm S4x3344x1024 .bf16 := Memref.whole main_arg0
abbrev oM : Memref sig .tc .hbm S4x3344x1024 .bf16 := Memref.whole main_v1

/-! ## The device addressed -/

theorem sib_lt (c : Dev nD) : 2 * (c.val / 2) + (1 - c.val % 2) < nD := by revert c; decide
def sibOf (c : Dev nD) : Dev nD := ⟨2 * (c.val / 2) + (1 - c.val % 2), sib_lt c⟩
theorem sibOf_sibOf (c : Dev nD) : sibOf (sibOf c) = c := by revert c; decide

/-- The chip's other device. -/
def sib : Equiv.Perm (Dev nD) := ⟨sibOf, sibOf, sibOf_sibOf, sibOf_sibOf⟩

theorem dev1_eq (c : Dev nD) : (⟨k0_dev1 c, k0_dev1_lt c⟩ : Dev nD) = sib c := Fin.ext ((k0_dev1_eq c).trans (by revert c; decide))

/-! ## The protocol -/

variable (m : (ℓ : Loc nD τ sig) → Buf (Elt F) ℓ)

/-- Device `c`'s result at the end: what the other device started with. -/
def swapped (c : Dev nD) : Buf (Elt F) ((c.tc : Thread nD τ).loc main_v1) := fun i : S4x3344x1024.Idx =>
  m (((sib c).tc : Thread nD τ).loc main_arg0) i

/-- What the copy counts. -/
abbrev whole : ℕ := oM.view.dmaCredit

/-- The completions owed from afar: the landings. -/
abbrev landings : Finset (Fin 2) := {1}

abbrev plan : Plan nD sig where
  K := 2
  osem k := .dma k
  osem_inj := fun a b h => by injection h
  tgt k := ![Equiv.refl _, sib] k
  amt k := whole
  amt_pos k := View.dmaCredit_pos _ (by decide)
  remote := landings
  lvl k := 0

def pay (c : Dev nD) (k : Fin 2) : sProp 𝕄 :=
  if k = 0 then iprop(emp) else iprop((c.tc : Thread nD τ).loc main_v1 ↦{fullShare} swapped m c)

instance pay_storable (c : Dev nD) (k : Fin plan.K) : BI.Storable (upEmb : UEmb _ 𝕄) (pay m c k) := by
  unfold pay; split <;> infer_instance

/-! ## One device's run -/

/-- What device `c` starts with: its own array, and the other device's result, which it is to write. -/
def before (c : Dev nD) : sProp 𝕄 :=
  iprop(((c.tc : Thread nD τ).loc main_arg0 ↦{fullShare} m ((c.tc : Thread nD τ).loc main_arg0))
    ∗ (((sib c).tc : Thread nD τ).loc main_v1 ↦{fullShare} m (((sib c).tc : Thread nD τ).loc main_v1)))

/-- What it ends with: its own array as it was, and its result. -/
def after (c : Dev nD) : sProp 𝕄 :=
  iprop(((c.tc : Thread nD τ).loc main_arg0 ↦{fullShare.left} m ((c.tc : Thread nD τ).loc main_arg0))
    ∗ ((c.tc : Thread nD τ).loc main_v1 ↦{fullShare} swapped m c))

theorem list2 (Φ : Fin 2 → sProp 𝕄) : bigSep Finset.univ Φ = iprop(Φ 0 ∗ Φ 1) :=
  bigSep_univ_eq_bigSepL [0, 1] (by decide) (by decide) Φ
theorem list_remote (Φ : Fin 2 → sProp 𝕄) : bigSep plan.remote Φ = Φ 1 :=
  bigSep_eq_bigSepL_of_eq [1] (by decide) (by decide) Φ

theorem vM_set : vM.view.set = Finset.univ := View.set_whole _
theorem oM_set : oM.view.set = Finset.univ := View.set_whole _

theorem amount_own : vM.view.dmaCredit = whole := by
  show sig.dmaCredit .tc (Kind.tc.table .hbm) main_arg0.idx S4x3344x1024 .bf16 = sig.dmaCredit .tc (Kind.tc.table .hbm) main_v1.idx S4x3344x1024 .bf16
  decide

theorem owing_eq (c : Dev nD) {S S' : Finset (Fin 2)} (h : S = S') : (plan.owing c S : sProp 𝕄) ⊢ plan.owing c S' := by rw [h]

theorem held {ℓ : Loc nD τ sig} {S S' : Finset (Idx ℓ)} {q : PosShare TreeShare} {f : Buf (Elt F) ℓ} (h : S = S') :
    (ℓ ↦[S]{q} f : sProp 𝕄) ⊢ (ℓ ↦[S']{q} f) := by rw [h]

theorem held_at {d d' : Dev nD} (hd : d = d') {S S' : Finset S4x3344x1024.Idx} {q : PosShare TreeShare} (h : S = S') :
    ((d.tc : Thread nD τ).loc main_v1 ↦[S]{q} m ((d.tc : Thread nD τ).loc main_v1) : sProp 𝕄)
      ⊢ ((d'.tc : Thread nD τ).loc main_v1 ↦[S']{q} m ((d'.tc : Thread nD τ).loc main_v1)) := by subst hd h; exact Entails.refl _

theorem halves {ℓ : Loc nD τ sig} {S : Finset (Idx ℓ)} {q : PosShare TreeShare} {f : Buf (Elt F) ℓ} :
    (ℓ ↦[S]{q} f : sProp 𝕄) ⊢ iprop((ℓ ↦[S]{q.left} f) ∗ (ℓ ↦[S]{q.right} f)) :=
  (pointsTo_share (PosShare.mem_left_op_right q)).1

theorem pay_send (c : Dev nD) (P : sProp 𝕄) : P ⊢ pay m c 0 := by
  unfold pay; rw [if_pos rfl]; iintro -; iempintro
theorem pay_recv (c : Dev nD) : pay m c 1 = iprop((c.tc : Thread nD τ).loc main_v1 ↦{fullShare} swapped m c) := by
  unfold pay; rw [if_neg (by decide)]

/-- What the copy carries is what the other device is to end with. -/
theorem carries (c d : Dev nD) (h : d = c) : oM.view.read (Elt F) (fun i : S4x3344x1024.Idx => m ((d.tc : Thread nD τ).loc main_arg0) i)
    = vM.view.read (Elt F) (m ((c.tc : Thread nD τ).loc main_arg0)) := by subst h; rfl

/-- The copy has landed on the other device. -/
theorem lands (c n : Dev nD) (hn : n = sib c) (fd) :
    (oM.view.loc (n.tc : Thread nD τ) ↦[oM.view.set]{fullShare}
        (oM.view.write (Elt F) fd (vM.view.read (Elt F) (m ((c.tc : Thread nD τ).loc main_arg0))) Finset.univ))
      ⊢ (pay m n 1 : sProp 𝕄) := by
  subst hn
  rw [pay_recv m]
  iintro H
  ihave H := (Entails.of_eq (landed (c := (c.tc : Thread nD τ)) (c' := ((sib c).tc : Thread nD τ)) (dst := oM.view) (G := swapped m (sib c))
    (carries m c (sib (sib c)) (sibOf_sibOf c)))) $$ H
  iapply (held (oM_set)); iexact H

variable [FloatOps F] (N : Dev nD × Fin 2 → ℕ)

/-- Device `c`'s run: the copy out, and the two waits. -/
theorem sound_body (c : Dev nD) :
    iprop((plan.records (pay m) N ∗ levAts (Plan.lev (nD := nD) (τ := τ) (sig := sig)) plan.lv) ∗ (bigSep Finset.univ fun k : Fin plan.K => plan.pos c k)
          ∗ (bigSep Finset.univ fun k : Fin plan.K => plan.tok c k)
          ∗ (bigSep plan.remote fun k => plan.due c k) ∗ plan.owing c plan.remote ∗ before m c)
      ⊢ (wp frame (wpE (defs₀ (F := F)) Variants.none c none) Set.univ (bodyAt0 (F := F) t0_0) fun _ =>
            iprop(plan.owing c ∅ ∗ (bigSep Finset.univ fun k : Fin plan.K => plan.zero c k) ∗ after m c) : sProp 𝕄) := by
  unfold bodyAt0
  rw [cc0_pair_partials_eq_skeleton]
  unfold cc0_pair_partials_skel
  simp only [Prog.lift, Prog.bind_op, Prog.bind_ret, Prog.pure_eq_ret, wp_deviceId]
  unfold before after
  rw [show (bigSep Finset.univ fun k : Fin plan.K => plan.pos c k : sProp 𝕄) = _ from list2 _,
    show (bigSep Finset.univ fun k : Fin plan.K => plan.tok c k : sProp 𝕄) = _ from list2 _,
    show (bigSep Finset.univ fun k : Fin plan.K => plan.zero c k : sProp 𝕄) = _ from list2 _,
    show (bigSep plan.remote fun k => plan.due c k : sProp 𝕄) = _ from list_remote _]
  iintro ⟨⟨#HR, #HL⟩, ⟨p0, p1⟩, ⟨t0, t1⟩, d1, HO, Hx, w⟩
  ihave Hx := halves $$ Hx
  icases Hx with ⟨Hx, x⟩
  ihave x := (held vM_set.symm) $$ x
  ihave w := (held_at m (d := sib c) (S := Finset.univ) (dev1_eq c).symm oM_set.symm) $$ w
  iapply (Plan.send_rule plan (pay m) N c (c' := ⟨k0_dev1 c, k0_dev1_lt c⟩) (0 : Fin 2) (1 : Fin 2) landings (by decide) rfl rfl rfl (dev1_eq c).symm rfl rfl
      (pay_send m c _) (lands m c _ (dev1_eq c) _)) $$ [x w HO t0 t1]
  · isplitr; · iexact HR
    isplitl [x]; · iexact x
    isplitl [w]; · iexact w
    isplitl [HO]; · iexact HO
    isplitl [t0]; · iexact t0
    iexact t1
  iintro ⟨d0, HO⟩
  ihave HO := (owing_eq c (S' := ∅) (by decide)) $$ HO
  iapply (Plan.wait_rule plan (pay m) N c (wpE_waitDma2_eq Variants.none (c : Thread nD τ) none Set.univ) (0 : Fin 2) ∅ rfl amount_own (by decide)) $$ [d0 HO p0]
  · isplitr; · isplitr; · iexact HR
               iexact HL
    isplitl [d0]; · iexact d0
    isplitl [HO]; · iexact HO
    iexact p0
  iintro ⟨HO, z0, -⟩
  iapply (Plan.wait_rule plan (pay m) N c (wpE_waitDma2_eq Variants.none (c : Thread nD τ) none Set.univ) (1 : Fin 2) ∅ rfl rfl (by decide)) $$ [d1 HO p1]
  · isplitr; · isplitr; · iexact HR
               iexact HL
    isplitl [d1]; · iexact d1
    isplitl [HO]; · iexact HO
    iexact p1
  iintro ⟨HO, z1, Hp⟩
  ihave g := (Entails.of_eq (pay_recv m c)) $$ Hp
  rw [wp_ret]
  imodintro
  isplitl [HO]; · iexact HO
  isplitl [z0 z1]
  · isplitl [z0]; · iexact z0
    iexact z1
  isplitl [Hx]; · iexact Hx
  iexact g

/-! ## The whole run -/

/-- What is claimed of device `c`'s memory at the end. -/
def ends (c : Dev nD) (s : MemSt nD τ sig (Elt F)) : Prop :=
  s.mem ((c.tc : Thread nD τ).loc main_arg0) = m ((c.tc : Thread nD τ).loc main_arg0) ∧ s.mem ((c.tc : Thread nD τ).loc main_v1) = swapped m c

theorem ends_of_after (c : Dev nD) (s' : Phys nD τ sig (Elt F)) :
    iprop(after m c ∗ SI s') ⊢ (iprop(|={Set.univ}=> iprop(⌜ends m c s'.mem⌝ ∗ SI s')) : sProp 𝕄) := by
  unfold after
  iintro ⟨⟨Hx, Ho⟩, HSI⟩
  ihave H := (read_piece _ _ _ _ s') $$ [Hx HSI]
  · isplitl [Hx]; · iexact Hx
    iexact HSI
  icases H with ⟨%hx, HSI⟩
  ihave H := (read_piece _ _ _ _ s') $$ [Ho HSI]
  · isplitl [Ho]; · iexact Ho
    iexact HSI
  icases H with ⟨%ho, HSI⟩
  imodintro
  isplitr
  · ipureintro
    exact ⟨funext fun x => hx x (Finset.mem_univ x), funext fun x => ho x (Finset.mem_univ x)⟩
  · iexact HSI

/-- The arrays at launch, dealt to the devices that write them. -/
theorem deal_arrays :
    (bigSep Finset.univ fun c : Dev nD => (Pipeline.unscopedRest (cfgs 0).spec c (fun b => m ((c.tc : Thread nD τ).loc b)) : sProp 𝕄))
      ⊢ bigSep Finset.univ fun c => before m c := by
  have h : (fun c : Dev nD => (Pipeline.unscopedRest (cfgs 0).spec c (fun b => m ((c.tc : Thread nD τ).loc b)) : sProp 𝕄))
      = fun c : Dev nD => iprop(((c.tc : Thread nD τ).loc main_arg0 ↦{fullShare} m ((c.tc : Thread nD τ).loc main_arg0))
          ∗ ((c.tc : Thread nD τ).loc main_v1 ↦{fullShare} m ((c.tc : Thread nD τ).loc main_v1))) :=
    funext fun c => unscopedRest0_eq c fun b => m ((c.tc : Thread nD τ).loc b)
  rw [h, bigSep_sep']
  unfold before
  rw [bigSep_sep']
  exact sep_mono_right (Entails.of_eq (bigSep_univ_equiv sib _))

/-- Run from any memory, every device ends with its own array as it was and its result the other device's array, and
    every semaphore reads zero. -/
theorem run_main (g : Dev nD → PrngReg) :
    θ_run (Cert.PartialsIdeal.defs (F := F)) (onTc (τ := τ) (Cert.PartialsIdeal.main (F := F))) ⟨m, fun _ => 0, g⟩
      (fun r => (∀ c, ends m c r.2) ∧ ∀ g' : GSem nD τ sig, (g'.1.2 ≠ .tc ∨ g'.2.isScoped .tc = true) → r.2.sem g' = 0) :=
  Plan.run plan (pay m) cfgs (defs₀ (F := F)) cellOf_inj winFacts0 (fun _ => ⟨fun w => w.elim0⟩) N_0
    (by decide) (fun c => scopedRest0_eq c) m g main (fun c => rfl) (before m) (after m) (deal_arrays m)
    (fun c N t => sound_body m N c) (ends m) (ends_of_after m)

end Cert.PartialsProof

end
-- ==== Proof.PartialsValue.lean ====
/-
# The swap of the partial sums, in terms of the whole array

The whole array is eight blocks, one per device; the result is the eight blocks with the two of each chip exchanged.
-/
module

public import proofs.«01_k».proof.Defs
public import proofs.«01_k».proof.Proof.PartialsRun
public import proofs.«01_k».proof.Proof.Gen.Partials
public import proofs.«01_k».proof.Proof.Gen.PartialsRef.Run
public import proofs.«01_k».proof.Proof.Gen.PartialsRefIdeal.Run
public import Idealize.ShloMosaic.Lib.Pointwise

@[expose] public section

noncomputable section

namespace Cert.PartialsProof

open Cert.PartialsIdeal Cert.PartialsIdeal.Gen
open Idealize.ShloMosaic
open Idealize.ShloMosaic.TcCoe
open Idealize.SL Idealize.SL.Sem

variable {F : FTy → Type} [FloatOps F]

theorem tiled : Layout.Tiles ⟨3, ![4, 3344, 1024]⟩ (⟨3, ![32, 3344, 1024]⟩ : Shape) 0 8 := by decide

/-- **A device's result is its block of the whole array with the two blocks of each chip exchanged.** -/
theorem swapped_eq (m : (ℓ : Loc nD τ sig) → Buf (Elt F) ℓ) (w : (⟨3, ![32, 3344, 1024]⟩ : Shape).Idx → Elt F .bf16)
    (hw : ∀ c : Dev nD, m ((c.tc : Thread nD τ).loc main_arg0) = Layout.block ⟨3, ![4, 3344, 1024]⟩ (⟨3, ![32, 3344, 1024]⟩ : Shape) 0 8 c w)
    (h : (⟨3, ![32, 3344, 1024]⟩ : Shape).ShapeCasts (⟨5, ![4, 2, 4, 3344, 1024]⟩ : Shape)) (h' : (⟨5, ![4, 2, 4, 3344, 1024]⟩ : Shape).ShapeCasts (⟨3, ![32, 3344, 1024]⟩ : Shape))
    (c : Dev nD) :
    swapped m c = Layout.block ⟨3, ![4, 3344, 1024]⟩ (⟨3, ![32, 3344, 1024]⟩ : Shape) 0 8 c (shapeCast (⟨3, ![32, 3344, 1024]⟩ : Shape) (Host.reverse [1] (shapeCast (⟨5, ![4, 2, 4, 3344, 1024]⟩ : Shape) w h)) h') := by
  funext i
  have hc : c.val < 8 := c.isLt
  rw [Layout.block_apply]
  refine (congrFun (hw (sib c)) i).trans ?_
  rw [Layout.block_apply, shapeCast_apply _ h' (tiled.idx c i) (ValueIdx.ix5 (⟨c.val / 2, by omega⟩ : Fin 4) (⟨c.val % 2, by omega⟩ : Fin 2) (i 0) (i 1) (i 2)) ?_,
    Host.reverse_apply, shapeCast_apply w h _ (tiled.idx (sib c) i) ?_]
  · rw [Shape.rowMajor_val_three, Shape.rowMajor_val_five, Layout.Tiles.idx_val, Layout.Tiles.idx_val, Layout.Tiles.idx_val]
    have hs : (sib c).val = 2 * (c.val / 2) + (1 - c.val % 2) := rfl
    show ((((sib c).val * 4 + (i 0).val) * 3344 + (i 1).val) * 1024 + (i 2).val : ℕ)
      = ((((c.val / 2 * 2 + (2 - (c.val % 2 + 1))) * 4 + (i 0).val) * 3344 + (i 1).val) * 1024 + (i 2).val : ℕ)
    rw [hs]
    have : c.val % 2 < 2 := Nat.mod_lt _ (by decide)
    omega
  · rw [Shape.rowMajor_val_five, Shape.rowMajor_val_three, Layout.Tiles.idx_val, Layout.Tiles.idx_val, Layout.Tiles.idx_val]
    show ((((c.val / 2 * 2 + c.val % 2) * 4 + (i 0).val) * 3344 + (i 1).val) * 1024 + (i 2).val : ℕ)
      = (((c.val * 4 + (i 0).val) * 3344 + (i 1).val) * 1024 + (i 2).val : ℕ)
    omega

/-! ## The claims -/

/-- The exchange, as printed, ends with its argument unchanged and every semaphore at zero. -/
theorem frame_kernel : Cert.quiescent_Partials := fun m ρ _ =>
  (θ_run (Cert.PartialsIdeal.defs (F := Bits)) _ _).mono
    (fun _ h => ⟨fun c => (h.1 c).1, sem_eq_zero_of_scoped (by decide) h.2⟩) (run_main (F := Bits) m ρ)

/-- So does its reading over the reals. -/
theorem frame_ideal : Cert.quiescent_PartialsIdeal := fun m ρ _ =>
  (θ_run (Cert.PartialsIdeal.defs (F := Ideal)) _ _).mono
    (fun _ h => ⟨fun c => (h.1 c).1, sem_eq_zero_of_scoped (by decide) h.2⟩) (run_main (F := Ideal) m ρ)

/-- The reference, read over the reals, ends with its argument unchanged; it has no semaphore. -/
theorem frame_refIdeal : Cert.quiescent_PartialsRefIdeal := fun m ρ _ =>
  (θ_run Cert.PartialsRefIdeal.defs _ _).mono
    (fun r h => ⟨fun c => (h c).2, sem_eq_zero_of_no_sems (by decide) r.2⟩) (Cert.PartialsRefIdeal.Value.run m ρ)

/-- So does the reference as printed. -/
theorem frame_ref : Cert.quiescent_PartialsRef := fun m ρ _ =>
  (θ_run Cert.PartialsRef.defs _ _).mono
    (fun r h => ⟨fun c => (h c).2, sem_eq_zero_of_no_sems (by decide) r.2⟩) (Cert.PartialsRef.Value.run m ρ)

/-- Over the reals every device's result is its block of the reference's. -/
theorem algebraic : Cert.algebraic_PartialsIdeal_PartialsRefIdeal := fun m g m' g' _ hw =>
  ⟨shapeCast _ (Host.reverse [1] (shapeCast _ (m' (((0 : Dev Cert.PartialsRefIdeal.nD).tc : Thread Cert.PartialsRefIdeal.nD Cert.PartialsRefIdeal.τ).loc Cert.PartialsRefIdeal.main_arg0))
        Cert.PartialsRefIdeal.Gen.shapeCasts_S32x3344x1024_S4x2x4x3344x1024))
      Cert.PartialsRefIdeal.Gen.shapeCasts_S4x2x4x3344x1024_S32x3344x1024,
    (θ_run (Cert.PartialsIdeal.defs (F := Ideal)) _ _).mono
      (fun _ h c => ⟨(h.1 c).2.trans (swapped_eq m _ hw _ _ c), (h.1 c).1⟩) (run_main (F := Ideal) m g),
    (θ_run Cert.PartialsRefIdeal.defs _ _).mono (fun _ h => h 0) (Cert.PartialsRefIdeal.Value.run m' g')⟩

/-- Bit for bit, too, every device's result is its block of the reference's. -/
theorem bitexact : Cert.bitexact_Partials_PartialsRef := fun m g m' g' _ hw =>
  ⟨shapeCast _ (Host.reverse [1] (shapeCast _ (m' (((0 : Dev Cert.PartialsRef.nD).tc : Thread Cert.PartialsRef.nD Cert.PartialsRef.τ).loc Cert.PartialsRef.main_arg0))
        Cert.PartialsRef.Gen.shapeCasts_S32x3344x1024_S4x2x4x3344x1024))
      Cert.PartialsRef.Gen.shapeCasts_S4x2x4x3344x1024_S32x3344x1024,
    (θ_run (Cert.PartialsIdeal.defs (F := Bits)) _ _).mono
      (fun _ h c => ⟨(h.1 c).2.trans (swapped_eq m _ hw _ _ c), (h.1 c).1⟩) (run_main (F := Bits) m g),
    (θ_run Cert.PartialsRef.defs _ _).mono (fun _ h => h 0) (Cert.PartialsRef.Value.run m' g')⟩

end Cert.PartialsProof

end
-- ==== Proof.ScatterRun.lean ====
/-
# The scatter of the pair's sums

Every device sends each of the other three chips' device of the same core that chip's block of its own array, and waits
for its three copies to have been read and for the three others' to have landed.

| semaphore | completed by                                                | hands over                              |
|-----------|-------------------------------------------------------------|-----------------------------------------|
| `k` < 3   | the device itself: its copy `k` has read its source         | nothing (sources are lent at a share)   |
| `3 + k`   | the same core of the chip `k + 1` away: its copy has landed | slot `k` of the result, in place        |

Slot `k` of a device's result belongs, from the launch on, to the same core of the chip `k + 1` away.
-/
module

public import proofs.«01_k».proof.Proof.Pieces
public import proofs.«01_k».proof.Proof.Gen.ScatterIdeal.Skeleton
public import proofs.«01_k».proof.Proof.Gen.ScatterIdeal.Launch
public import proofs.«01_k».proof.Proof.Gen.ScatterIdeal.Points
public import Idealize.ShloMosaic.Lib.Tactic

@[expose] public section

noncomputable section

namespace Cert.ScatterProof

open Cert.ScatterIdeal Cert.ScatterIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Exchange
open Idealize.ShloMosaic.Transfers (shareDrop pointsTo_toks_split)

variable {F : FTy → Type}

local notation "𝕄" => MT nD τ sig Unit (Elt F) ℕ (UU nD τ sig) ℕ

abbrev vM : Memref sig .tc .hbm S4x3344x1024 .bf16 := Memref.whole main_arg0
abbrev oM : Memref sig .tc .hbm S3x3344x1024 .bf16 := Memref.whole main_v1

/-- A block of a device's own array. -/
abbrev blk (off : Fin 3 → ℕ) (inb : ∀ a, off a + S1x3344x1024.size a ≤ S4x3344x1024.size a) : Memref sig .tc .hbm S3344x1024 .bf16 :=
  (vM.slice (Rect.unit (s := S4x3344x1024) off S1x3344x1024.size inb) (fun _ => rfl)).squeeze S3344x1024 squeezes_S1x3344x1024_S3344x1024

/-- A slot of the result. -/
abbrev slot (off : Fin 3 → ℕ) (inb : ∀ a, off a + S1x3344x1024.size a ≤ S3x3344x1024.size a) : Memref sig .tc .hbm S3344x1024 .bf16 :=
  (oM.slice (Rect.unit (s := S3x3344x1024) off S1x3344x1024.size inb) (fun _ => rfl)).squeeze S3344x1024 squeezes_S1x3344x1024_S3344x1024

theorem blk_emb (off : Fin 3 → ℕ) (inb) (y : S3344x1024.Idx) :
    ((blk off inb).view.emb y 0 : ℕ) = off 0 ∧ ((blk off inb).view.emb y 1 : ℕ) = off 1 + y 0 ∧ ((blk off inb).view.emb y 2 : ℕ) = off 2 + y 1 :=
  window_emb off inb _ y

theorem slot_emb (off : Fin 3 → ℕ) (inb) (y : S3344x1024.Idx) :
    ((slot off inb).view.emb y 0 : ℕ) = off 0 ∧ ((slot off inb).view.emb y 1 : ℕ) = off 1 + y 0 ∧ ((slot off inb).view.emb y 2 : ℕ) = off 2 + y 1 :=
  window_emb off inb _ y

/-- The elements of slot `k`. -/
def own (k : Fin 3) : Finset S3x3344x1024.Idx := box k.val 0 3344

theorem slot_set (off : Fin 3 → ℕ) (inb) (k : Fin 3) (h0 : off 0 = k) (h1 : off 1 = 0) (h2 : off 2 = 0) : (slot off inb).view.set = own k := by
  refine (View.set_reshape _ _).trans ((View.set_slice_whole _ _).trans ((window_set off inb h2).trans ?_))
  rw [h0, h1]; rfl

theorem own_disjoint (k k' : Fin 3) (h : k ≠ k') : Disjoint (own k) (own k') := by
  rw [Finset.disjoint_left]
  intro x hx hx'
  exact h (Fin.ext ((mem_box.mp hx).1.symm.trans (mem_box.mp hx').1))

theorem own_cover (x : S3x3344x1024.Idx) : ∃ k, x ∈ own k :=
  ⟨x 0, mem_box.mpr ⟨rfl, Nat.zero_le _, by have : (x 1 : ℕ) < 3344 := (x 1).isLt; omega⟩⟩

/-! ## The devices addressed -/

/-- The chip `k + 1` away. -/
def other (k : Fin 3) (c : Dev nD) : ℕ := (c.val / 2) ^^^ (k.val + 1)

theorem peer_lt (k : Fin 3) (c : Dev nD) : 2 * other k c + c.val % 2 < nD := by revert k c; decide
def peerOf (k : Fin 3) (c : Dev nD) : Dev nD := ⟨2 * other k c + c.val % 2, peer_lt k c⟩
theorem peerOf_peerOf (k : Fin 3) (c : Dev nD) : peerOf k (peerOf k c) = c := by revert k c; decide

/-- The same core of the chip `k + 1` away. -/
def peer (k : Fin 3) : Equiv.Perm (Dev nD) := ⟨peerOf k, peerOf k, peerOf_peerOf k, peerOf_peerOf k⟩

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))

theorem chip1 (c : Dev nD) : k0_off1 c 0 = (peer 0 c).val / 2 := by rw [k0_off1_eq]; revert c; decide
theorem chip2 (c : Dev nD) : k0_off2 c 0 = (peer 1 c).val / 2 := by rw [k0_off2_eq]; revert c; decide
theorem chip3 (c : Dev nD) : k0_off3 c 0 = (peer 2 c).val / 2 := by rw [k0_off3_eq]; revert c; decide

theorem flat1 (c : Dev nD) : k0_off1 c 1 = 0 ∧ k0_off1 c 2 = 0 := by rw [k0_off1_eq]; exact ⟨rfl, rfl⟩
theorem flat2 (c : Dev nD) : k0_off2 c 1 = 0 ∧ k0_off2 c 2 = 0 := by rw [k0_off2_eq]; exact ⟨rfl, rfl⟩
theorem flat3 (c : Dev nD) : k0_off3 c 1 = 0 ∧ k0_off3 c 2 = 0 := by rw [k0_off3_eq]; exact ⟨rfl, rfl⟩

/-! ## The protocol -/

variable (m : (ℓ : Loc nD τ sig) → Buf (Elt F) ℓ)

theorem chip_lt (c : Dev nD) : c.val / 2 < 4 := by revert c; decide

/-- Device `c`'s result at the end: in slot `k`, what the same core of the chip `k + 1` away holds for this chip. -/
def scattered (c : Dev nD) : Buf (Elt F) ((c.tc : Thread nD τ).loc main_v1) := fun i : S3x3344x1024.Idx =>
  m (((peer (i 0) c).tc : Thread nD τ).loc main_arg0) (ix3 (⟨c.val / 2, chip_lt c⟩ : Fin 4) (i 1) (i 2) : S4x3344x1024.Idx)

/-- What a copy counts. -/
abbrev amount : ℕ := (slot ![0, 0, 0] inb_S3x3344x1024_S1x3344x1024_0_0_0).view.dmaCredit

/-- The completions still owed from afar after the first `n` copies. -/
def rest (n : ℕ) : Finset (Fin 6) := Finset.univ.filter fun k => 3 + n ≤ k.val

abbrev plan : Plan nD sig where
  K := 6
  osem k := .dma k
  osem_inj := fun a b h => by injection h
  tgt k := ![Equiv.refl _, Equiv.refl _, Equiv.refl _, peer 0, peer 1, peer 2] k
  amt k := amount
  amt_pos k := View.dmaCredit_pos _ (by decide)
  remote := {3, 4, 5}
  lvl k := 0

/-- Which slot of the result semaphore `k` hands over. -/
def slotOf : Fin 6 → Option (Fin 3) := ![none, none, none, some 0, some 1, some 2]

def pay (c : Dev nD) (k : Fin 6) : sProp 𝕄 :=
  match slotOf k with
  | none => iprop(emp)
  | some i => iprop((c.tc : Thread nD τ).loc main_v1 ↦[own i]{fullShare} scattered m c)

instance pay_storable (c : Dev nD) (k : Fin plan.K) : BI.Storable (upEmb : UEmb _ 𝕄) (pay m c k) := by
  unfold pay; split <;> infer_instance

theorem pay_send (c : Dev nD) (k : Fin 6) (h : slotOf k = none) (P : sProp 𝕄) : P ⊢ pay m c k := by
  unfold pay; rw [h]; iintro -; iempintro
theorem pay_recv (c : Dev nD) (k : Fin 6) (i : Fin 3) (h : slotOf k = some i) :
    pay m c k = iprop((c.tc : Thread nD τ).loc main_v1 ↦[own i]{fullShare} scattered m c) := by unfold pay; rw [h]

/-! ## What each copy carries -/

theorem scattered_apply {c d : Dev nD} {i : S3x3344x1024.Idx} {y : S4x3344x1024.Idx} (hd : peer (i 0) c = d) (h0 : c.val / 2 = y 0)
    (h1 : (i 1 : ℕ) = y 1) (h2 : (i 2 : ℕ) = y 2) : scattered m c i = m ((d.tc : Thread nD τ).loc main_arg0) y := by
  subst hd
  unfold scattered
  congr 1
  rw [eq_ix3 y]
  congr 1
  · exact Fin.ext h0
  · exact Fin.ext h1
  · exact Fin.ext h2

theorem carries (c : Dev nD) (k : Fin 3) {off off' : Fin 3 → ℕ} {inb inb'} (e0 : off 0 = (peer k c).val / 2) (e1 : off 1 = 0) (e2 : off 2 = 0)
    (e0' : off' 0 = k) (e1' : off' 1 = 0) (e2' : off' 2 = 0) :
    (slot off' inb').view.read (Elt F) (scattered m (peer k c)) = (blk off inb).view.read (Elt F) (m ((c.tc : Thread nD τ).loc main_arg0)) := by
  funext y
  obtain ⟨h0, h1, h2⟩ := blk_emb off inb y
  obtain ⟨h0', h1', h2'⟩ := slot_emb off' inb' y
  refine scattered_apply m (c := peer k c) (d := c) (i := (slot off' inb').view.emb y) (y := (blk off inb).view.emb y) ?_ (by omega) (by omega) (by omega)
  rw [show (slot off' inb').view.emb y 0 = k from Fin.ext (h0'.trans e0')]
  exact peerOf_peerOf k c

/-- A block has landed on another chip. -/
theorem lands (c n : Dev nD) (k : Fin 3) (hn : n = peer k c) {off off' : Fin 3 → ℕ} {inb inb'} (e0 : off 0 = (peer k c).val / 2) (e1 : off 1 = 0) (e2 : off 2 = 0)
    (e0' : off' 0 = k) (e1' : off' 1 = 0) (e2' : off' 2 = 0) (fd) (j : Fin 6) (hj : slotOf j = some k) :
    ((slot off' inb').view.loc (n.tc : Thread nD τ) ↦[(slot off' inb').view.set]{fullShare}
        ((slot off' inb').view.write (Elt F) fd ((blk off inb).view.read (Elt F) (m ((c.tc : Thread nD τ).loc main_arg0))) Finset.univ))
      ⊢ (pay m n j : sProp 𝕄) := by
  subst hn
  rw [pay_recv m _ j k hj, ← slot_set off' inb' k e0' e1' e2']
  exact Entails.of_eq (landed (c := (c.tc : Thread nD τ)) (c' := ((peer k c).tc : Thread nD τ)) (dst := (slot off' inb').view)
    (carries m c k e0 e1 e2 e0' e1' e2'))

/-- The three copies. -/
theorem sent0 (c n : Dev nD) (hn : n = peer 0 c) (fd) :
    ((slot ![0, 0, 0] inb_S3x3344x1024_S1x3344x1024_0_0_0).view.loc (n.tc : Thread nD τ)
        ↦[(slot ![0, 0, 0] inb_S3x3344x1024_S1x3344x1024_0_0_0).view.set]{fullShare}
        ((slot ![0, 0, 0] inb_S3x3344x1024_S1x3344x1024_0_0_0).view.write (Elt F) fd ((blk (k0_off1 c) (k0_off1_inb c)).view.read (Elt F) (m ((c.tc : Thread nD τ).loc main_arg0))) Finset.univ))
      ⊢ (pay m n 3 : sProp 𝕄) :=
  lands m c n 0 hn (off := k0_off1 c) (off' := ![0, 0, 0]) (inb := k0_off1_inb c) (inb' := inb_S3x3344x1024_S1x3344x1024_0_0_0)
    (chip1 c) (flat1 c).1 (flat1 c).2 rfl rfl rfl fd 3 rfl
theorem sent1 (c n : Dev nD) (hn : n = peer 1 c) (fd) :
    ((slot ![1, 0, 0] inb_S3x3344x1024_S1x3344x1024_1_0_0).view.loc (n.tc : Thread nD τ)
        ↦[(slot ![1, 0, 0] inb_S3x3344x1024_S1x3344x1024_1_0_0).view.set]{fullShare}
        ((slot ![1, 0, 0] inb_S3x3344x1024_S1x3344x1024_1_0_0).view.write (Elt F) fd ((blk (k0_off2 c) (k0_off2_inb c)).view.read (Elt F) (m ((c.tc : Thread nD τ).loc main_arg0))) Finset.univ))
      ⊢ (pay m n 4 : sProp 𝕄) :=
  lands m c n 1 hn (off := k0_off2 c) (off' := ![1, 0, 0]) (inb := k0_off2_inb c) (inb' := inb_S3x3344x1024_S1x3344x1024_1_0_0)
    (chip2 c) (flat2 c).1 (flat2 c).2 rfl rfl rfl fd 4 rfl
theorem sent2 (c n : Dev nD) (hn : n = peer 2 c) (fd) :
    ((slot ![2, 0, 0] inb_S3x3344x1024_S1x3344x1024_2_0_0).view.loc (n.tc : Thread nD τ)
        ↦[(slot ![2, 0, 0] inb_S3x3344x1024_S1x3344x1024_2_0_0).view.set]{fullShare}
        ((slot ![2, 0, 0] inb_S3x3344x1024_S1x3344x1024_2_0_0).view.write (Elt F) fd ((blk (k0_off3 c) (k0_off3_inb c)).view.read (Elt F) (m ((c.tc : Thread nD τ).loc main_arg0))) Finset.univ))
      ⊢ (pay m n 5 : sProp 𝕄) :=
  lands m c n 2 hn (off := k0_off3 c) (off' := ![2, 0, 0]) (inb := k0_off3_inb c) (inb' := inb_S3x3344x1024_S1x3344x1024_2_0_0)
    (chip3 c) (flat3 c).1 (flat3 c).2 rfl rfl rfl fd 5 rfl

/-! ## One device's run -/

/-- What device `c` starts with: its own array, and the slots of the other devices' results which it is to write. -/
def before (c : Dev nD) : sProp 𝕄 :=
  iprop(((c.tc : Thread nD τ).loc main_arg0 ↦{fullShare} m ((c.tc : Thread nD τ).loc main_arg0))
    ∗ bigSep Finset.univ fun k : Fin 3 => (((peer k c).tc : Thread nD τ).loc main_v1 ↦[own k]{fullShare} m (((peer k c).tc : Thread nD τ).loc main_v1)))

/-- What it ends with: its own array as it was, and its result. -/
def after (c : Dev nD) : sProp 𝕄 :=
  iprop(((c.tc : Thread nD τ).loc main_arg0 ↦{shareDrop fullShare 3} m ((c.tc : Thread nD τ).loc main_arg0))
    ∗ bigSep Finset.univ fun k : Fin 3 => iprop(∃ q, (c.tc : Thread nD τ).loc main_v1 ↦[own k]{q} scattered m c))

theorem list3 (Φ : Fin 3 → sProp 𝕄) : bigSep Finset.univ Φ = iprop(Φ 0 ∗ Φ 1 ∗ Φ 2) :=
  bigSep_univ_eq_bigSepL [0, 1, 2] (by decide) (by decide) Φ
theorem list6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem list_remote (Φ : Fin 6 → sProp 𝕄) : bigSep plan.remote Φ = iprop(Φ 3 ∗ Φ 4 ∗ Φ 5) :=
  bigSep_eq_bigSepL_of_eq [3, 4, 5] (by decide) (by decide) Φ

theorem amount_slot (off : Fin 3 → ℕ) (inb) : (slot off inb).view.dmaCredit = amount := rfl
theorem amount_own (off : Fin 3 → ℕ) (inb) : (blk off inb).view.dmaCredit = amount := by
  show sig.dmaCredit .tc (Kind.tc.table .hbm) main_arg0.idx S3344x1024 .bf16 = sig.dmaCredit .tc (Kind.tc.table .hbm) main_v1.idx S3344x1024 .bf16
  decide

theorem owing_eq (c : Dev nD) {S S' : Finset (Fin 6)} (h : S = S') : (plan.owing c S : sProp 𝕄) ⊢ plan.owing c S' := by rw [h]

theorem held_at {d d' : Dev nD} (hd : d = d') {S S' : Finset S3x3344x1024.Idx} {q : PosShare TreeShare} (h : S = S') :
    ((d.tc : Thread nD τ).loc main_v1 ↦[S]{q} m ((d.tc : Thread nD τ).loc main_v1) : sProp 𝕄)
      ⊢ ((d'.tc : Thread nD τ).loc main_v1 ↦[S']{q} m ((d'.tc : Thread nD τ).loc main_v1)) := by subst hd h; exact Entails.refl _

/-- Part of what is held. -/
theorem restrict {ℓ : Loc nD τ sig} (S : Finset (Idx ℓ)) {q : PosShare TreeShare} {f : Buf (Elt F) ℓ} :
    (ℓ ↦{q} f : sProp 𝕄) ⊢ (ℓ ↦[S]{q} f) :=
  (pointsTo_split_subset (Finset.subset_univ S)).1.trans (by iintro ⟨H, -⟩; iexact H)

variable [FloatOps F] (N : Dev nD × Fin 6 → ℕ)

/-- Device `c`'s run: the three copies out, and the six waits. -/
theorem sound_body (c : Dev nD) :
    iprop((plan.records (pay m) N ∗ levAts (Plan.lev (nD := nD) (τ := τ) (sig := sig)) plan.lv) ∗ (bigSep Finset.univ fun k : Fin plan.K => plan.pos c k)
          ∗ (bigSep Finset.univ fun k : Fin plan.K => plan.tok c k)
          ∗ (bigSep plan.remote fun k => plan.due c k) ∗ plan.owing c plan.remote ∗ before m c)
      ⊢ (wp frame (wpE (defs₀ (F := F)) Variants.none c none) Set.univ (bodyAt0 (F := F) t0_0) fun _ =>
            iprop(plan.owing c ∅ ∗ (bigSep Finset.univ fun k : Fin plan.K => plan.zero c k) ∗ after m c) : sProp 𝕄) := by
  unfold bodyAt0
  rw [cc0_scatter_partials_eq_skeleton]
  unfold cc0_scatter_partials_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  unfold before after
  rw [show (bigSep Finset.univ fun k : Fin plan.K => plan.pos c k : sProp 𝕄) = _ from list6 _,
    show (bigSep Finset.univ fun k : Fin plan.K => plan.tok c k : sProp 𝕄) = _ from list6 _,
    show (bigSep Finset.univ fun k : Fin plan.K => plan.zero c k : sProp 𝕄) = _ from list6 _,
    show (bigSep plan.remote fun k => plan.due c k : sProp 𝕄) = _ from list_remote _,
    list3, list3]
  iintro ⟨⟨#HR, #HL⟩, ⟨p0, p1, p2, p3, p4, p5⟩, ⟨t0, t1, t2, t3, t4, t5⟩, ⟨d3, d4, d5⟩, HO, Hx, ⟨w0, w1, w2⟩⟩
  ihave HO := (owing_eq c (S' := rest 0) (by decide)) $$ HO
  ihave Hx := (pointsTo_toks_split fullShare 3) $$ Hx
  icases Hx with ⟨Hx, Hs⟩
  ihave Hs := (Entails.of_eq (list3 _)) $$ Hs
  icases Hs with ⟨x0, x1, x2⟩
  ihave x0 := (restrict ((blk (k0_off1 c) (k0_off1_inb c)).view.set)) $$ x0
  ihave x1 := (restrict ((blk (k0_off2 c) (k0_off2_inb c)).view.set)) $$ x1
  ihave x2 := (restrict ((blk (k0_off3 c) (k0_off3_inb c)).view.set)) $$ x2
  ihave w0 := (held_at m (d := peer 0 c) (S := own 0) (dev1_eq c).symm (slot_set ![0, 0, 0] inb_S3x3344x1024_S1x3344x1024_0_0_0 0 rfl rfl rfl).symm) $$ w0
  ihave w1 := (held_at m (d := peer 1 c) (S := own 1) (dev2_eq c).symm (slot_set ![1, 0, 0] inb_S3x3344x1024_S1x3344x1024_1_0_0 1 rfl rfl rfl).symm) $$ w1
  ihave w2 := (held_at m (d := peer 2 c) (S := own 2) (dev3_eq c).symm (slot_set ![2, 0, 0] inb_S3x3344x1024_S1x3344x1024_2_0_0 2 rfl rfl rfl).symm) $$ w2
  iapply (Plan.send_rule plan (pay m) N c (c' := ⟨k0_dev1 c, k0_dev1_lt c⟩) (0 : Fin 6) (3 : Fin 6) (rest 0) (by decide) rfl rfl rfl (dev1_eq c).symm rfl rfl
      (pay_send m c 0 rfl _) (sent0 m c _ (dev1_eq c) _)) $$ [x0 w0 HO t0 t3]
  · isplitr; · iexact HR
    isplitl [x0]; · iexact x0
    isplitl [w0]; · iexact w0
    isplitl [HO]; · iexact HO
    isplitl [t0]; · iexact t0
    iexact t3
  iintro ⟨d0, HO⟩
  ihave HO := (owing_eq c (S' := rest 1) (by decide)) $$ HO
  iapply (Plan.send_rule plan (pay m) N c (c' := ⟨k0_dev2 c, k0_dev2_lt c⟩) (1 : Fin 6) (4 : Fin 6) (rest 1) (by decide) rfl rfl rfl (dev2_eq c).symm rfl rfl
      (pay_send m c 1 rfl _) (sent1 m c _ (dev2_eq c) _)) $$ [x1 w1 HO t1 t4]
  · isplitr; · iexact HR
    isplitl [x1]; · iexact x1
    isplitl [w1]; · iexact w1
    isplitl [HO]; · iexact HO
    isplitl [t1]; · iexact t1
    iexact t4
  iintro ⟨d1, HO⟩
  ihave HO := (owing_eq c (S' := rest 2) (by decide)) $$ HO
  iapply (Plan.send_rule plan (pay m) N c (c' := ⟨k0_dev3 c, k0_dev3_lt c⟩) (2 : Fin 6) (5 : Fin 6) (rest 2) (by decide) rfl rfl rfl (dev3_eq c).symm rfl rfl
      (pay_send m c 2 rfl _) (sent2 m c _ (dev3_eq c) _)) $$ [x2 w2 HO t2 t5]
  · isplitr; · iexact HR
    isplitl [x2]; · iexact x2
    isplitl [w2]; · iexact w2
    isplitl [HO]; · iexact HO
    isplitl [t2]; · iexact t2
    iexact t5
  iintro ⟨d2, HO⟩
  ihave HO := (owing_eq c (S' := rest 3) (by decide)) $$ HO
  iapply (Plan.wait_rule plan (pay m) N c (wpE_waitDma2_eq Variants.none (c : Thread nD τ) none Set.univ) (0 : Fin 6) (rest 3) rfl (amount_own _ _) (by decide)) $$ [d0 HO p0]
  · isplitr; · isplitr; · iexact HR
               iexact HL
    isplitl [d0]; · iexact d0
    isplitl [HO]; · iexact HO
    iexact p0
  iintro ⟨HO, z0, -⟩
  iapply (Plan.wait_rule plan (pay m) N c (wpE_waitDma2_eq Variants.none (c : Thread nD τ) none Set.univ) (3 : Fin 6) (rest 3) rfl (amount_slot _ _) (by decide)) $$ [d3 HO p3]
  · isplitr; · isplitr; · iexact HR
               iexact HL
    isplitl [d3]; · iexact d3
    isplitl [HO]; · iexact HO
    iexact p3
  iintro ⟨HO, z3, Hp⟩
  ihave g0 := (Entails.of_eq (pay_recv m c 3 0 rfl)) $$ Hp
  iapply (Plan.wait_rule plan (pay m) N c (wpE_waitDma2_eq Variants.none (c : Thread nD τ) none Set.univ) (1 : Fin 6) (rest 3) rfl (amount_own _ _) (by decide)) $$ [d1 HO p1]
  · isplitr; · isplitr; · iexact HR
               iexact HL
    isplitl [d1]; · iexact d1
    isplitl [HO]; · iexact HO
    iexact p1
  iintro ⟨HO, z1, -⟩
  iapply (Plan.wait_rule plan (pay m) N c (wpE_waitDma2_eq Variants.none (c : Thread nD τ) none Set.univ) (4 : Fin 6) (rest 3) rfl (amount_slot _ _) (by decide)) $$ [d4 HO p4]
  · isplitr; · isplitr; · iexact HR
               iexact HL
    isplitl [d4]; · iexact d4
    isplitl [HO]; · iexact HO
    iexact p4
  iintro ⟨HO, z4, Hp⟩
  ihave g1 := (Entails.of_eq (pay_recv m c 4 1 rfl)) $$ Hp
  iapply (Plan.wait_rule plan (pay m) N c (wpE_waitDma2_eq Variants.none (c : Thread nD τ) none Set.univ) (2 : Fin 6) (rest 3) rfl (amount_own _ _) (by decide)) $$ [d2 HO p2]
  · isplitr; · isplitr; · iexact HR
               iexact HL
    isplitl [d2]; · iexact d2
    isplitl [HO]; · iexact HO
    iexact p2
  iintro ⟨HO, z2, -⟩
  iapply (Plan.wait_rule plan (pay m) N c (wpE_waitDma2_eq Variants.none (c : Thread nD τ) none Set.univ) (5 : Fin 6) (rest 3) rfl (amount_slot _ _) (by decide)) $$ [d5 HO p5]
  · isplitr; · isplitr; · iexact HR
               iexact HL
    isplitl [d5]; · iexact d5
    isplitl [HO]; · iexact HO
    iexact p5
  iintro ⟨HO, z5, Hp⟩
  ihave g2 := (Entails.of_eq (pay_recv m c 5 2 rfl)) $$ Hp
  rw [wp_ret]
  imodintro
  isplitl [HO]; · iapply (owing_eq c (S := rest 3) (S' := ∅) (by decide)); iexact HO
  isplitl [z0 z1 z2 z3 z4 z5]
  · isplitl [z0]; · iexact z0
    isplitl [z1]; · iexact z1
    isplitl [z2]; · iexact z2
    isplitl [z3]; · iexact z3
    isplitl [z4]; · iexact z4
    iexact z5
  isplitl [Hx]; · iexact Hx
  isplitl [g0]; · iexists fullShare; iexact g0
  isplitl [g1]; · iexists fullShare; iexact g1
  iexists fullShare; iexact g2

/-! ## The whole run -/

/-- What is claimed of device `c`'s memory at the end. -/
def ends (c : Dev nD) (s : MemSt nD τ sig (Elt F)) : Prop :=
  s.mem ((c.tc : Thread nD τ).loc main_arg0) = m ((c.tc : Thread nD τ).loc main_arg0) ∧ s.mem ((c.tc : Thread nD τ).loc main_v1) = scattered m c

theorem ends_of_after (c : Dev nD) (s' : Phys nD τ sig (Elt F)) :
    iprop(after m c ∗ SI s') ⊢ (iprop(|={Set.univ}=> iprop(⌜ends m c s'.mem⌝ ∗ SI s')) : sProp 𝕄) := by
  unfold after
  iintro ⟨⟨Hx, Ho⟩, HSI⟩
  ihave H := (read_piece _ _ _ _ s') $$ [Hx HSI]
  · isplitl [Hx]; · iexact Hx
    iexact HSI
  icases H with ⟨%hx, HSI⟩
  ihave H := (read_pieces ((c.tc : Thread nD τ).loc main_v1) (fun i : Fin 3 => own i) (scattered m c) s' Finset.univ) $$ [Ho HSI]
  · isplitl [Ho]; · iexact Ho
    iexact HSI
  icases H with ⟨%ho, HSI⟩
  imodintro
  isplitr
  · ipureintro
    refine ⟨funext fun x => hx x (Finset.mem_univ x), funext fun x => ?_⟩
    obtain ⟨i, hi⟩ := own_cover x
    exact ho i (Finset.mem_univ i) x hi
  · iexact HSI

/-- The arrays at launch, dealt to the devices that write them. -/
theorem deal_arrays :
    (bigSep Finset.univ fun c : Dev nD => (Pipeline.unscopedRest (cfgs 0).spec c (fun b => m ((c.tc : Thread nD τ).loc b)) : sProp 𝕄))
      ⊢ bigSep Finset.univ fun c => before m c := by
  have h : (fun c : Dev nD => (Pipeline.unscopedRest (cfgs 0).spec c (fun b => m ((c.tc : Thread nD τ).loc b)) : sProp 𝕄))
      = fun c : Dev nD => iprop(((c.tc : Thread nD τ).loc main_arg0 ↦{fullShare} m ((c.tc : Thread nD τ).loc main_arg0))
          ∗ ((c.tc : Thread nD τ).loc main_v1 ↦{fullShare} m ((c.tc : Thread nD τ).loc main_v1))) :=
    funext fun c => unscopedRest0_eq c fun b => m ((c.tc : Thread nD τ).loc b)
  rw [h, bigSep_sep']
  unfold before
  rw [bigSep_sep']
  refine sep_mono_right ?_
  exact deal_pieces main_v1 peer (fun k c => own k) (fun d => m ((d.tc : Thread nD τ).loc main_v1))
    (fun d k k' hne => own_disjoint k k' hne) (fun d x => own_cover x)

/-- Run from any memory, every device ends with its own array as it was and its result the three blocks sent to it, and
    every semaphore reads zero. -/
theorem run_main (g : Dev nD → PrngReg) :
    θ_run (Cert.ScatterIdeal.defs (F := F)) (onTc (τ := τ) (Cert.ScatterIdeal.main (F := F))) ⟨m, fun _ => 0, g⟩
      (fun r => (∀ c, ends m c r.2) ∧ ∀ g' : GSem nD τ sig, (g'.1.2 ≠ .tc ∨ g'.2.isScoped .tc = true) → r.2.sem g' = 0) :=
  Plan.run plan (pay m) cfgs (defs₀ (F := F)) cellOf_inj winFacts0 (fun _ => ⟨fun w => w.elim0⟩) N_0
    (by decide) (fun c => scopedRest0_eq c) m g main (fun c => rfl) (before m) (after m) (deal_arrays m)
    (fun c N t => sound_body m N c) (ends m) (ends_of_after m)

end Cert.ScatterProof

end
-- ==== Proof.ScatterValue.lean ====
/-
# The scatter of the pair's sums, in terms of the whole array

The whole array is 32 blocks: block `4 * d + u` is what device `d` holds for chip `u`. The result is 24 of them in
another order, three per device (`origin`), which the reference lays one after the other.
-/
module

public import proofs.«01_k».proof.Defs
public import proofs.«01_k».proof.Proof.ScatterRun
public import proofs.«01_k».proof.Proof.Gen.Scatter
public import proofs.«01_k».proof.Proof.Gen.ScatterRef.Run
public import proofs.«01_k».proof.Proof.Gen.ScatterRefIdeal.Run
public import Idealize.ShloMosaic.Lib.Pointwise

@[expose] public section

noncomputable section

namespace Cert.ScatterProof

open Cert.ScatterIdeal Cert.ScatterIdeal.Gen
open Idealize.ShloMosaic
open Idealize.ShloMosaic.TcCoe
open Idealize.SL Idealize.SL.Sem

variable {F : FTy → Type} [FloatOps F]

theorem tiled : Layout.Tiles ⟨3, ![4, 3344, 1024]⟩ (⟨3, ![32, 3344, 1024]⟩ : Shape) 0 8 := by decide
theorem tiled' : Layout.Tiles ⟨3, ![3, 3344, 1024]⟩ (⟨3, ![24, 3344, 1024]⟩ : Shape) 0 8 := by decide

/-- The block of the whole array which is block `n` of the result: block `n` is slot `n % 3` of device `n / 3`, and comes
    from the same core of the chip `n % 3 + 1` away. -/
def origin (n : ℕ) : ℕ := 4 * (2 * ((n / 6) ^^^ (n % 3 + 1)) + n / 3 % 2) + n / 6

theorem origin_lt (n : Fin 24) : origin n < 32 := by revert n; decide

theorem origin_eq (c : Dev nD) (k : Fin 3) : origin (c.val * 3 + k.val) = (peer k c).val * 4 + c.val / 2 := by revert c k; decide

theorem sliced (n : ℕ) (h : origin n < 32) : (⟨3, ![32, 3344, 1024]⟩ : Shape).Slices ![origin n, 0, 0] ⟨3, ![1, 3344, 1024]⟩ :=
  ⟨rfl, fun a => by
    fin_cases a
    · show origin n + 1 ≤ 32; omega
    · show 0 + 3344 ≤ 3344; omega
    · show 0 + 1024 ≤ 1024; omega⟩

section Blocks

variable {α : Type} (w : (⟨3, ![32, 3344, 1024]⟩ : Shape).Idx → α)

/-- Block `n` of the result. -/
abbrev piece (n : Fin 24) : (⟨3, ![1, 3344, 1024]⟩ : Shape).Idx → α := extractStridedSlice _ ![origin n, 0, 0] w (sliced n (origin_lt n))

/-- The blocks laid one after the other: sixteen, and eight. -/
def stacked : (⟨3, ![24, 3344, 1024]⟩ : Shape).Idx → α :=
  concatenate ⟨3, ![24, 3344, 1024]⟩ 0
    [⟨⟨3, ![16, 3344, 1024]⟩, concatenate ⟨3, ![16, 3344, 1024]⟩ 0
        (List.ofFn fun n : Fin 16 => ⟨⟨3, ![1, 3344, 1024]⟩, piece w ⟨n, by omega⟩⟩) (by rw [List.map_ofFn]; exact (by decide : Shape.Concatenates (List.replicate 16 ⟨3, ![1, 3344, 1024]⟩) ⟨3, ![16, 3344, 1024]⟩ 0))⟩,
     ⟨⟨3, ![8, 3344, 1024]⟩, concatenate ⟨3, ![8, 3344, 1024]⟩ 0
        (List.ofFn fun n : Fin 8 => ⟨⟨3, ![1, 3344, 1024]⟩, piece w ⟨16 + n, by omega⟩⟩) (by rw [List.map_ofFn]; exact (by decide : Shape.Concatenates (List.replicate 8 ⟨3, ![1, 3344, 1024]⟩) ⟨3, ![8, 3344, 1024]⟩ 0))⟩]
    (by exact (by decide : Shape.Concatenates [⟨3, ![16, 3344, 1024]⟩, ⟨3, ![8, 3344, 1024]⟩] ⟨3, ![24, 3344, 1024]⟩ 0))

theorem piece_apply (n : Fin 24) (y : (⟨3, ![1, 3344, 1024]⟩ : Shape).Idx) :
    piece w n y = w (ValueIdx.ix3 (⟨origin n, origin_lt n⟩ : Fin 32) (y 1) (y 2)) := by
  refine extractStridedSlice_apply _ w _ y _ fun a => ?_
  have h0 : (y 0).val < 1 := (y 0).isLt
  fin_cases a
  · show origin n = origin n + (y 0).val; omega
  · show (y 1).val = 0 + (y 1).val; omega
  · show (y 2).val = 0 + (y 2).val; omega

/-- The blocks so laid, read at an index. -/
theorem stacked_apply (j : (⟨3, ![24, 3344, 1024]⟩ : Shape).Idx) :
    stacked w j = w (ValueIdx.ix3 (⟨origin (j 0).val, origin_lt (j 0)⟩ : Fin 32) (j 1) (j 2)) := by
  have h0 : (j 0).val < 24 := (j 0).isLt
  unfold stacked
  by_cases h : (j 0).val < 16
  · refine (concatenate_pair_apply_left (s₁ := ⟨3, ![16, 3344, 1024]⟩) (s₂ := ⟨3, ![8, 3344, 1024]⟩) 0 _ _ _ j rfl
      (ValueIdx.ix3 (⟨(j 0).val, h⟩ : Fin 16) (j 1) (j 2)) (fun b => by fin_cases b <;> rfl)).trans ?_
    refine (concatenate_ofFn_unit_apply (t := ⟨3, ![16, 3344, 1024]⟩) (s₁ := ⟨3, ![1, 3344, 1024]⟩) 0 (fun n : Fin 16 => piece w ⟨n, by omega⟩) _ rfl rfl _
      (⟨(j 0).val, h⟩ : Fin 16) rfl (ValueIdx.ix3 (0 : Fin 1) (j 1) (j 2)) (fun b hb => by fin_cases b; exacts [absurd rfl hb, rfl, rfl])).trans ?_
    exact piece_apply w (⟨(j 0).val, h0⟩ : Fin 24) _
  · refine (concatenate_pair_apply_right (s₁ := ⟨3, ![16, 3344, 1024]⟩) (s₂ := ⟨3, ![8, 3344, 1024]⟩) 0 _ _ _ j rfl rfl
      (ValueIdx.ix3 (⟨(j 0).val - 16, by omega⟩ : Fin 8) (j 1) (j 2))
      (fun b hb => by fin_cases b; exacts [absurd rfl hb, rfl, rfl]) (by show (j 0).val - 16 + 16 = (j 0).val; omega)).trans ?_
    refine (concatenate_ofFn_unit_apply (t := ⟨3, ![8, 3344, 1024]⟩) (s₁ := ⟨3, ![1, 3344, 1024]⟩) 0 (fun n : Fin 8 => piece w ⟨16 + n, by omega⟩) _ rfl rfl _
      (⟨(j 0).val - 16, by omega⟩ : Fin 8) rfl (ValueIdx.ix3 (0 : Fin 1) (j 1) (j 2)) (fun b hb => by fin_cases b; exacts [absurd rfl hb, rfl, rfl])).trans ?_
    have e : (⟨16 + ((j 0).val - 16), by omega⟩ : Fin 24) = ⟨(j 0).val, h0⟩ := Fin.ext (by show 16 + ((j 0).val - 16) = (j 0).val; omega)
    exact (congrArg (fun n => piece w n _) e).trans (piece_apply w (⟨(j 0).val, h0⟩ : Fin 24) _)

end Blocks

/-- **A device's result is its three blocks of the whole array so laid.** -/
theorem scattered_eq (m : (ℓ : Loc nD τ sig) → Buf (Elt F) ℓ) (w : (⟨3, ![32, 3344, 1024]⟩ : Shape).Idx → Elt F .bf16)
    (hw : ∀ c : Dev nD, m ((c.tc : Thread nD τ).loc main_arg0) = Layout.block ⟨3, ![4, 3344, 1024]⟩ (⟨3, ![32, 3344, 1024]⟩ : Shape) 0 8 c w) (c : Dev nD) :
    scattered m c = Layout.block ⟨3, ![3, 3344, 1024]⟩ (⟨3, ![24, 3344, 1024]⟩ : Shape) 0 8 c (stacked w) := by
  funext i
  rw [Layout.block_apply, stacked_apply]
  unfold scattered
  refine (congrFun (hw (peer (i 0) c)) _).trans ?_
  rw [Layout.block_apply]
  congr 1
  funext b
  refine Fin.ext ?_
  rw [Layout.Tiles.idx_val]
  fin_cases b
  · exact (origin_eq c (i 0)).symm
  · rfl
  · rfl

/-! ## The claims -/

/-- The exchange, as printed, ends with its argument unchanged and every semaphore at zero. -/
theorem frame_kernel : Cert.quiescent_Scatter := fun m ρ _ =>
  (θ_run (Cert.ScatterIdeal.defs (F := Bits)) _ _).mono
    (fun _ h => ⟨fun c => (h.1 c).1, sem_eq_zero_of_scoped (by decide) h.2⟩) (run_main (F := Bits) m ρ)

/-- So does its reading over the reals. -/
theorem frame_ideal : Cert.quiescent_ScatterIdeal := fun m ρ _ =>
  (θ_run (Cert.ScatterIdeal.defs (F := Ideal)) _ _).mono
    (fun _ h => ⟨fun c => (h.1 c).1, sem_eq_zero_of_scoped (by decide) h.2⟩) (run_main (F := Ideal) m ρ)

/-- The reference, read over the reals, ends with its argument unchanged; it has no semaphore. -/
theorem frame_refIdeal : Cert.quiescent_ScatterRefIdeal := fun m ρ _ =>
  (θ_run Cert.ScatterRefIdeal.defs _ _).mono
    (fun r h => ⟨fun c => (h c).2, sem_eq_zero_of_no_sems (by decide) r.2⟩) (Cert.ScatterRefIdeal.Value.run m ρ)

/-- So does the reference as printed. -/
theorem frame_ref : Cert.quiescent_ScatterRef := fun m ρ _ =>
  (θ_run Cert.ScatterRef.defs _ _).mono
    (fun r h => ⟨fun c => (h c).2, sem_eq_zero_of_no_sems (by decide) r.2⟩) (Cert.ScatterRef.Value.run m ρ)

/-- Over the reals every device's result is its block of the reference's. -/
theorem algebraic : Cert.algebraic_ScatterIdeal_ScatterRefIdeal := fun m g m' g' _ hw =>
  ⟨stacked (m' (((0 : Dev Cert.ScatterRefIdeal.nD).tc : Thread Cert.ScatterRefIdeal.nD Cert.ScatterRefIdeal.τ).loc Cert.ScatterRefIdeal.main_arg0)),
    (θ_run (Cert.ScatterIdeal.defs (F := Ideal)) _ _).mono
      (fun _ h c => ⟨(h.1 c).2.trans (scattered_eq m _ hw c), (h.1 c).1⟩) (run_main (F := Ideal) m g),
    (θ_run Cert.ScatterRefIdeal.defs _ _).mono (fun _ h => ⟨(h 0).1.trans rfl, (h 0).2⟩) (Cert.ScatterRefIdeal.Value.run m' g')⟩

/-- Bit for bit, too, every device's result is its block of the reference's. -/
theorem bitexact : Cert.bitexact_Scatter_ScatterRef := fun m g m' g' _ hw =>
  ⟨stacked (m' (((0 : Dev Cert.ScatterRef.nD).tc : Thread Cert.ScatterRef.nD Cert.ScatterRef.τ).loc Cert.ScatterRef.main_arg0)),
    (θ_run (Cert.ScatterIdeal.defs (F := Bits)) _ _).mono
      (fun _ h c => ⟨(h.1 c).2.trans (scattered_eq m _ hw c), (h.1 c).1⟩) (run_main (F := Bits) m g),
    (θ_run Cert.ScatterRef.defs _ _).mono (fun _ h => ⟨(h 0).1.trans rfl, (h 0).2⟩) (Cert.ScatterRef.Value.run m' g')⟩

end Cert.ScatterProof

end
-- ==== Proof.ResultRun.lean ====
/-
# The swap of the reduced halves

The two devices of a chip swap an array: each copies its own into the other's result, and waits until its copy has been
read and until the other's has landed.

| semaphore | completed by                                                  | hands over                       |
|-----------|---------------------------------------------------------------|----------------------------------|
| 0         | the device itself: its copy has read its source               | nothing (the source is lent at a share) |
| 1         | the chip's other device: its copy has landed                  | the whole result, in place       |

A device's result belongs, from the launch on, to the chip's other device.
-/
module

public import proofs.«01_k».proof.Proof.Pieces
public import proofs.«01_k».proof.Proof.Gen.ResultIdeal.Skeleton
public import proofs.«01_k».proof.Proof.Gen.ResultIdeal.Launch
public import proofs.«01_k».proof.Proof.Gen.ResultIdeal.Points
public import Idealize.ShloMosaic.Lib.Tactic

@[expose] public section

noncomputable section

namespace Cert.ResultProof

open Cert.ResultIdeal Cert.ResultIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange

variable {F : FTy → Type}

local notation "𝕄" => MT nD τ sig Unit (Elt F) ℕ (UU nD τ sig) ℕ

abbrev vM : Memref sig .tc .hbm S3344x1024 .f32 := Memref.whole main_arg0
abbrev oM : Memref sig .tc .hbm S3344x1024 .f32 := Memref.whole main_v1

/-! ## The device addressed -/

theorem sib_lt (c : Dev nD) : 2 * (c.val / 2) + (1 - c.val % 2) < nD := by revert c; decide
def sibOf (c : Dev nD) : Dev nD := ⟨2 * (c.val / 2) + (1 - c.val % 2), sib_lt c⟩
theorem sibOf_sibOf (c : Dev nD) : sibOf (sibOf c) = c := by revert c; decide

/-- The chip's other device. -/
def sib : Equiv.Perm (Dev nD) := ⟨sibOf, sibOf, sibOf_sibOf, sibOf_sibOf⟩

theorem dev1_eq (c : Dev nD) : (⟨k0_dev1 c, k0_dev1_lt c⟩ : Dev nD) = sib c := Fin.ext ((k0_dev1_eq c).trans (by revert c; decide))

/-! ## The protocol -/

variable (m : (ℓ : Loc nD τ sig) → Buf (Elt F) ℓ)

/-- Device `c`'s result at the end: what the other device started with. -/
def swapped (c : Dev nD) : Buf (Elt F) ((c.tc : Thread nD τ).loc main_v1) := fun i : S3344x1024.Idx =>
  m (((sib c).tc : Thread nD τ).loc main_arg0) i

/-- What the copy counts. -/
abbrev whole : ℕ := oM.view.dmaCredit

/-- The completions owed from afar: the landings. -/
abbrev landings : Finset (Fin 2) := {1}

abbrev plan : Plan nD sig where
  K := 2
  osem k := .dma k
  osem_inj := fun a b h => by injection h
  tgt k := ![Equiv.refl _, sib] k
  amt k := whole
  amt_pos k := View.dmaCredit_pos _ (by decide)
  remote := landings
  lvl k := 0

def pay (c : Dev nD) (k : Fin 2) : sProp 𝕄 :=
  if k = 0 then iprop(emp) else iprop((c.tc : Thread nD τ).loc main_v1 ↦{fullShare} swapped m c)

instance pay_storable (c : Dev nD) (k : Fin plan.K) : BI.Storable (upEmb : UEmb _ 𝕄) (pay m c k) := by
  unfold pay; split <;> infer_instance

/-! ## One device's run -/

/-- What device `c` starts with: its own array, and the other device's result, which it is to write. -/
def before (c : Dev nD) : sProp 𝕄 :=
  iprop(((c.tc : Thread nD τ).loc main_arg0 ↦{fullShare} m ((c.tc : Thread nD τ).loc main_arg0))
    ∗ (((sib c).tc : Thread nD τ).loc main_v1 ↦{fullShare} m (((sib c).tc : Thread nD τ).loc main_v1)))

/-- What it ends with: its own array as it was, and its result. -/
def after (c : Dev nD) : sProp 𝕄 :=
  iprop(((c.tc : Thread nD τ).loc main_arg0 ↦{fullShare.left} m ((c.tc : Thread nD τ).loc main_arg0))
    ∗ ((c.tc : Thread nD τ).loc main_v1 ↦{fullShare} swapped m c))

theorem list2 (Φ : Fin 2 → sProp 𝕄) : bigSep Finset.univ Φ = iprop(Φ 0 ∗ Φ 1) :=
  bigSep_univ_eq_bigSepL [0, 1] (by decide) (by decide) Φ
theorem list_remote (Φ : Fin 2 → sProp 𝕄) : bigSep plan.remote Φ = Φ 1 :=
  bigSep_eq_bigSepL_of_eq [1] (by decide) (by decide) Φ

theorem vM_set : vM.view.set = Finset.univ := View.set_whole _
theorem oM_set : oM.view.set = Finset.univ := View.set_whole _

theorem amount_own : vM.view.dmaCredit = whole := by
  show sig.dmaCredit .tc (Kind.tc.table .hbm) main_arg0.idx S3344x1024 .f32 = sig.dmaCredit .tc (Kind.tc.table .hbm) main_v1.idx S3344x1024 .f32
  decide

theorem owing_eq (c : Dev nD) {S S' : Finset (Fin 2)} (h : S = S') : (plan.owing c S : sProp 𝕄) ⊢ plan.owing c S' := by rw [h]

theorem held {ℓ : Loc nD τ sig} {S S' : Finset (Idx ℓ)} {q : PosShare TreeShare} {f : Buf (Elt F) ℓ} (h : S = S') :
    (ℓ ↦[S]{q} f : sProp 𝕄) ⊢ (ℓ ↦[S']{q} f) := by rw [h]

theorem held_at {d d' : Dev nD} (hd : d = d') {S S' : Finset S3344x1024.Idx} {q : PosShare TreeShare} (h : S = S') :
    ((d.tc : Thread nD τ).loc main_v1 ↦[S]{q} m ((d.tc : Thread nD τ).loc main_v1) : sProp 𝕄)
      ⊢ ((d'.tc : Thread nD τ).loc main_v1 ↦[S']{q} m ((d'.tc : Thread nD τ).loc main_v1)) := by subst hd h; exact Entails.refl _

theorem halves {ℓ : Loc nD τ sig} {S : Finset (Idx ℓ)} {q : PosShare TreeShare} {f : Buf (Elt F) ℓ} :
    (ℓ ↦[S]{q} f : sProp 𝕄) ⊢ iprop((ℓ ↦[S]{q.left} f) ∗ (ℓ ↦[S]{q.right} f)) :=
  (pointsTo_share (PosShare.mem_left_op_right q)).1

theorem pay_send (c : Dev nD) (P : sProp 𝕄) : P ⊢ pay m c 0 := by
  unfold pay; rw [if_pos rfl]; iintro -; iempintro
theorem pay_recv (c : Dev nD) : pay m c 1 = iprop((c.tc : Thread nD τ).loc main_v1 ↦{fullShare} swapped m c) := by
  unfold pay; rw [if_neg (by decide)]

/-- What the copy carries is what the other device is to end with. -/
theorem carries (c d : Dev nD) (h : d = c) : oM.view.read (Elt F) (fun i : S3344x1024.Idx => m ((d.tc : Thread nD τ).loc main_arg0) i)
    = vM.view.read (Elt F) (m ((c.tc : Thread nD τ).loc main_arg0)) := by subst h; rfl

/-- The copy has landed on the other device. -/
theorem lands (c n : Dev nD) (hn : n = sib c) (fd) :
    (oM.view.loc (n.tc : Thread nD τ) ↦[oM.view.set]{fullShare}
        (oM.view.write (Elt F) fd (vM.view.read (Elt F) (m ((c.tc : Thread nD τ).loc main_arg0))) Finset.univ))
      ⊢ (pay m n 1 : sProp 𝕄) := by
  subst hn
  rw [pay_recv m]
  iintro H
  ihave H := (Entails.of_eq (landed (c := (c.tc : Thread nD τ)) (c' := ((sib c).tc : Thread nD τ)) (dst := oM.view) (G := swapped m (sib c))
    (carries m c (sib (sib c)) (sibOf_sibOf c)))) $$ H
  iapply (held (oM_set)); iexact H

variable [FloatOps F] (N : Dev nD × Fin 2 → ℕ)

/-- Device `c`'s run: the copy out, and the two waits. -/
theorem sound_body (c : Dev nD) :
    iprop((plan.records (pay m) N ∗ levAts (Plan.lev (nD := nD) (τ := τ) (sig := sig)) plan.lv) ∗ (bigSep Finset.univ fun k : Fin plan.K => plan.pos c k)
          ∗ (bigSep Finset.univ fun k : Fin plan.K => plan.tok c k)
          ∗ (bigSep plan.remote fun k => plan.due c k) ∗ plan.owing c plan.remote ∗ before m c)
      ⊢ (wp frame (wpE (defs₀ (F := F)) Variants.none c none) Set.univ (bodyAt0 (F := F) t0_0) fun _ =>
            iprop(plan.owing c ∅ ∗ (bigSep Finset.univ fun k : Fin plan.K => plan.zero c k) ∗ after m c) : sProp 𝕄) := by
  unfold bodyAt0
  rw [cc0_pair_result_eq_skeleton]
  unfold cc0_pair_result_skel
  simp only [Prog.lift, Prog.bind_op, Prog.bind_ret, Prog.pure_eq_ret, wp_deviceId]
  unfold before after
  rw [show (bigSep Finset.univ fun k : Fin plan.K => plan.pos c k : sProp 𝕄) = _ from list2 _,
    show (bigSep Finset.univ fun k : Fin plan.K => plan.tok c k : sProp 𝕄) = _ from list2 _,
    show (bigSep Finset.univ fun k : Fin plan.K => plan.zero c k : sProp 𝕄) = _ from list2 _,
    show (bigSep plan.remote fun k => plan.due c k : sProp 𝕄) = _ from list_remote _]
  iintro ⟨⟨#HR, #HL⟩, ⟨p0, p1⟩, ⟨t0, t1⟩, d1, HO, Hx, w⟩
  ihave Hx := halves $$ Hx
  icases Hx with ⟨Hx, x⟩
  ihave x := (held vM_set.symm) $$ x
  ihave w := (held_at m (d := sib c) (S := Finset.univ) (dev1_eq c).symm oM_set.symm) $$ w
  iapply (Plan.send_rule plan (pay m) N c (c' := ⟨k0_dev1 c, k0_dev1_lt c⟩) (0 : Fin 2) (1 : Fin 2) landings (by decide) rfl rfl rfl (dev1_eq c).symm rfl rfl
      (pay_send m c _) (lands m c _ (dev1_eq c) _)) $$ [x w HO t0 t1]
  · isplitr; · iexact HR
    isplitl [x]; · iexact x
    isplitl [w]; · iexact w
    isplitl [HO]; · iexact HO
    isplitl [t0]; · iexact t0
    iexact t1
  iintro ⟨d0, HO⟩
  ihave HO := (owing_eq c (S' := ∅) (by decide)) $$ HO
  iapply (Plan.wait_rule plan (pay m) N c (wpE_waitDma2_eq Variants.none (c : Thread nD τ) none Set.univ) (0 : Fin 2) ∅ rfl amount_own (by decide)) $$ [d0 HO p0]
  · isplitr; · isplitr; · iexact HR
               iexact HL
    isplitl [d0]; · iexact d0
    isplitl [HO]; · iexact HO
    iexact p0
  iintro ⟨HO, z0, -⟩
  iapply (Plan.wait_rule plan (pay m) N c (wpE_waitDma2_eq Variants.none (c : Thread nD τ) none Set.univ) (1 : Fin 2) ∅ rfl rfl (by decide)) $$ [d1 HO p1]
  · isplitr; · isplitr; · iexact HR
               iexact HL
    isplitl [d1]; · iexact d1
    isplitl [HO]; · iexact HO
    iexact p1
  iintro ⟨HO, z1, Hp⟩
  ihave g := (Entails.of_eq (pay_recv m c)) $$ Hp
  rw [wp_ret]
  imodintro
  isplitl [HO]; · iexact HO
  isplitl [z0 z1]
  · isplitl [z0]; · iexact z0
    iexact z1
  isplitl [Hx]; · iexact Hx
  iexact g

/-! ## The whole run -/

/-- What is claimed of device `c`'s memory at the end. -/
def ends (c : Dev nD) (s : MemSt nD τ sig (Elt F)) : Prop :=
  s.mem ((c.tc : Thread nD τ).loc main_arg0) = m ((c.tc : Thread nD τ).loc main_arg0) ∧ s.mem ((c.tc : Thread nD τ).loc main_v1) = swapped m c

theorem ends_of_after (c : Dev nD) (s' : Phys nD τ sig (Elt F)) :
    iprop(after m c ∗ SI s') ⊢ (iprop(|={Set.univ}=> iprop(⌜ends m c s'.mem⌝ ∗ SI s')) : sProp 𝕄) := by
  unfold after
  iintro ⟨⟨Hx, Ho⟩, HSI⟩
  ihave H := (read_piece _ _ _ _ s') $$ [Hx HSI]
  · isplitl [Hx]; · iexact Hx
    iexact HSI
  icases H with ⟨%hx, HSI⟩
  ihave H := (read_piece _ _ _ _ s') $$ [Ho HSI]
  · isplitl [Ho]; · iexact Ho
    iexact HSI
  icases H with ⟨%ho, HSI⟩
  imodintro
  isplitr
  · ipureintro
    exact ⟨funext fun x => hx x (Finset.mem_univ x), funext fun x => ho x (Finset.mem_univ x)⟩
  · iexact HSI

/-- The arrays at launch, dealt to the devices that write them. -/
theorem deal_arrays :
    (bigSep Finset.univ fun c : Dev nD => (Pipeline.unscopedRest (cfgs 0).spec c (fun b => m ((c.tc : Thread nD τ).loc b)) : sProp 𝕄))
      ⊢ bigSep Finset.univ fun c => before m c := by
  have h : (fun c : Dev nD => (Pipeline.unscopedRest (cfgs 0).spec c (fun b => m ((c.tc : Thread nD τ).loc b)) : sProp 𝕄))
      = fun c : Dev nD => iprop(((c.tc : Thread nD τ).loc main_arg0 ↦{fullShare} m ((c.tc : Thread nD τ).loc main_arg0))
          ∗ ((c.tc : Thread nD τ).loc main_v1 ↦{fullShare} m ((c.tc : Thread nD τ).loc main_v1))) :=
    funext fun c => unscopedRest0_eq c fun b => m ((c.tc : Thread nD τ).loc b)
  rw [h, bigSep_sep']
  unfold before
  rw [bigSep_sep']
  exact sep_mono_right (Entails.of_eq (bigSep_univ_equiv sib _))

/-- Run from any memory, every device ends with its own array as it was and its result the other device's array, and
    every semaphore reads zero. -/
theorem run_main (g : Dev nD → PrngReg) :
    θ_run (Cert.ResultIdeal.defs (F := F)) (onTc (τ := τ) (Cert.ResultIdeal.main (F := F))) ⟨m, fun _ => 0, g⟩
      (fun r => (∀ c, ends m c r.2) ∧ ∀ g' : GSem nD τ sig, (g'.1.2 ≠ .tc ∨ g'.2.isScoped .tc = true) → r.2.sem g' = 0) :=
  Plan.run plan (pay m) cfgs (defs₀ (F := F)) cellOf_inj winFacts0 (fun _ => ⟨fun w => w.elim0⟩) N_0
    (by decide) (fun c => scopedRest0_eq c) m g main (fun c => rfl) (before m) (after m) (deal_arrays m)
    (fun c N t => sound_body m N c) (ends m) (ends_of_after m)

end Cert.ResultProof

end
-- ==== Proof.ResultValue.lean ====
/-
# The swap of the reduced halves, in terms of the whole array

The whole array is eight blocks, one per device; the result is the eight blocks with the two of each chip exchanged.
-/
module

public import proofs.«01_k».proof.Defs
public import proofs.«01_k».proof.Proof.ResultRun
public import proofs.«01_k».proof.Proof.Gen.Result
public import proofs.«01_k».proof.Proof.Gen.ResultRef.Run
public import proofs.«01_k».proof.Proof.Gen.ResultRefIdeal.Run
public import Idealize.ShloMosaic.Lib.Pointwise

@[expose] public section

noncomputable section

namespace Cert.ResultProof

open Cert.ResultIdeal Cert.ResultIdeal.Gen
open Idealize.ShloMosaic
open Idealize.ShloMosaic.TcCoe
open Idealize.SL Idealize.SL.Sem

variable {F : FTy → Type} [FloatOps F]

theorem tiled : Layout.Tiles ⟨2, ![3344, 1024]⟩ (⟨2, ![26752, 1024]⟩ : Shape) 0 8 := by decide

/-- **A device's result is its block of the whole array with the two blocks of each chip exchanged.** -/
theorem swapped_eq (m : (ℓ : Loc nD τ sig) → Buf (Elt F) ℓ) (w : (⟨2, ![26752, 1024]⟩ : Shape).Idx → Elt F .f32)
    (hw : ∀ c : Dev nD, m ((c.tc : Thread nD τ).loc main_arg0) = Layout.block ⟨2, ![3344, 1024]⟩ (⟨2, ![26752, 1024]⟩ : Shape) 0 8 c w)
    (h : (⟨2, ![26752, 1024]⟩ : Shape).ShapeCasts (⟨4, ![4, 2, 3344, 1024]⟩ : Shape)) (h' : (⟨4, ![4, 2, 3344, 1024]⟩ : Shape).ShapeCasts (⟨2, ![26752, 1024]⟩ : Shape))
    (c : Dev nD) :
    swapped m c = Layout.block ⟨2, ![3344, 1024]⟩ (⟨2, ![26752, 1024]⟩ : Shape) 0 8 c (shapeCast (⟨2, ![26752, 1024]⟩ : Shape) (Host.reverse [1] (shapeCast (⟨4, ![4, 2, 3344, 1024]⟩ : Shape) w h)) h') := by
  funext i
  have hc : c.val < 8 := c.isLt
  rw [Layout.block_apply]
  refine (congrFun (hw (sib c)) i).trans ?_
  rw [Layout.block_apply, shapeCast_apply _ h' (tiled.idx c i) (ValueIdx.ix4 (⟨c.val / 2, by omega⟩ : Fin 4) (⟨c.val % 2, by omega⟩ : Fin 2) (i 0) (i 1)) ?_,
    Host.reverse_apply, shapeCast_apply w h _ (tiled.idx (sib c) i) ?_]
  · rw [Shape.rowMajor_val_two, Shape.rowMajor_val_four, Layout.Tiles.idx_val, Layout.Tiles.idx_val]
    have hs : (sib c).val = 2 * (c.val / 2) + (1 - c.val % 2) := rfl
    show (((sib c).val * 3344 + (i 0).val) * 1024 + (i 1).val : ℕ)
      = (((c.val / 2 * 2 + (2 - (c.val % 2 + 1))) * 3344 + (i 0).val) * 1024 + (i 1).val : ℕ)
    rw [hs]
    have : c.val % 2 < 2 := Nat.mod_lt _ (by decide)
    omega
  · rw [Shape.rowMajor_val_four, Shape.rowMajor_val_two, Layout.Tiles.idx_val, Layout.Tiles.idx_val]
    show (((c.val / 2 * 2 + c.val % 2) * 3344 + (i 0).val) * 1024 + (i 1).val : ℕ)
      = ((c.val * 3344 + (i 0).val) * 1024 + (i 1).val : ℕ)
    omega

/-! ## The claims -/

/-- The exchange, as printed, ends with its argument unchanged and every semaphore at zero. -/
theorem frame_kernel : Cert.quiescent_Result := fun m ρ _ =>
  (θ_run (Cert.ResultIdeal.defs (F := Bits)) _ _).mono
    (fun _ h => ⟨fun c => (h.1 c).1, sem_eq_zero_of_scoped (by decide) h.2⟩) (run_main (F := Bits) m ρ)

/-- So does its reading over the reals. -/
theorem frame_ideal : Cert.quiescent_ResultIdeal := fun m ρ _ =>
  (θ_run (Cert.ResultIdeal.defs (F := Ideal)) _ _).mono
    (fun _ h => ⟨fun c => (h.1 c).1, sem_eq_zero_of_scoped (by decide) h.2⟩) (run_main (F := Ideal) m ρ)

/-- The reference, read over the reals, ends with its argument unchanged; it has no semaphore. -/
theorem frame_refIdeal : Cert.quiescent_ResultRefIdeal := fun m ρ _ =>
  (θ_run Cert.ResultRefIdeal.defs _ _).mono
    (fun r h => ⟨fun c => (h c).2, sem_eq_zero_of_no_sems (by decide) r.2⟩) (Cert.ResultRefIdeal.Value.run m ρ)

/-- So does the reference as printed. -/
theorem frame_ref : Cert.quiescent_ResultRef := fun m ρ _ =>
  (θ_run Cert.ResultRef.defs _ _).mono
    (fun r h => ⟨fun c => (h c).2, sem_eq_zero_of_no_sems (by decide) r.2⟩) (Cert.ResultRef.Value.run m ρ)

/-- Over the reals every device's result is its block of the reference's. -/
theorem algebraic : Cert.algebraic_ResultIdeal_ResultRefIdeal := fun m g m' g' _ hw =>
  ⟨shapeCast _ (Host.reverse [1] (shapeCast _ (m' (((0 : Dev Cert.ResultRefIdeal.nD).tc : Thread Cert.ResultRefIdeal.nD Cert.ResultRefIdeal.τ).loc Cert.ResultRefIdeal.main_arg0))
        Cert.ResultRefIdeal.Gen.shapeCasts_S26752x1024_S4x2x3344x1024))
      Cert.ResultRefIdeal.Gen.shapeCasts_S4x2x3344x1024_S26752x1024,
    (θ_run (Cert.ResultIdeal.defs (F := Ideal)) _ _).mono
      (fun _ h c => ⟨(h.1 c).2.trans (swapped_eq m _ hw _ _ c), (h.1 c).1⟩) (run_main (F := Ideal) m g),
    (θ_run Cert.ResultRefIdeal.defs _ _).mono (fun _ h => h 0) (Cert.ResultRefIdeal.Value.run m' g')⟩

/-- Bit for bit, too, every device's result is its block of the reference's. -/
theorem bitexact : Cert.bitexact_Result_ResultRef := fun m g m' g' _ hw =>
  ⟨shapeCast _ (Host.reverse [1] (shapeCast _ (m' (((0 : Dev Cert.ResultRef.nD).tc : Thread Cert.ResultRef.nD Cert.ResultRef.τ).loc Cert.ResultRef.main_arg0))
        Cert.ResultRef.Gen.shapeCasts_S26752x1024_S4x2x3344x1024))
      Cert.ResultRef.Gen.shapeCasts_S4x2x3344x1024_S26752x1024,
    (θ_run (Cert.ResultIdeal.defs (F := Bits)) _ _).mono
      (fun _ h c => ⟨(h.1 c).2.trans (swapped_eq m _ hw _ _ c), (h.1 c).1⟩) (run_main (F := Bits) m g),
    (θ_run Cert.ResultRef.defs _ _).mono (fun _ h => h 0) (Cert.ResultRef.Value.run m' g')⟩

end Cert.ResultProof

end
-- ==== Proof.GradsCuts.lean ====
/-
# Cutting the weights' gradients out of the rows of a chip

A chip holds 6688 rows of 1024; each weight's gradient is a run of these rows, read in row-major order. The whole array
is four such groups of rows, one per chip, and the gradient of a whole weight has the four parts beside one another on
the axis the chips cut. Both ways of reading name the same element.
-/
module

public import proofs.«01_k».proof.Defs
public import proofs.«01_k».proof.Proof.Gen.GradsIdeal.Launch
public import Idealize.ShloMosaic.Lib.Pointwise

@[expose] public section

noncomputable section

namespace Cert.GradsProof

open Cert.GradsIdeal Cert.GradsIdeal.Gen
open Idealize.ShloMosaic
open Idealize.ShloMosaic.TcCoe
open Idealize.SL Idealize.SL.Sem
open Idealize.ShloMosaic.StableHlo

variable {α : Type}

/-- The rows of the whole array that one chip holds. -/
def chipRows (w : (⟨2, ![26752, 1024]⟩ : Shape).Idx → α) (p : Fin 4) : (⟨2, ![6688, 1024]⟩ : Shape).Idx → α :=
  fun i => w (ValueIdx.ix2 (⟨p.val * 6688 + (i 0).val, by have : (i 0).val < 6688 := (i 0).isLt; omega⟩ : Fin 26752) (i 1))

/-- A position in a weight of two layers is less than the number of its elements. -/
theorem mem_flat {a b x y z : ℕ} (hx : x < 2) (hy : y < a) (hz : z < b) : (x * a + y) * b + z < 2 * a * b := by
  have h1 : x * a + y + 1 ≤ 2 * a := by have := Nat.mul_le_mul_right a (show x ≤ 1 by omega); omega
  have h2 := Nat.mul_le_mul_right b h1
  rw [Nat.add_mul] at h2
  omega

/-- **A weight read from its chip's rows is the chip's part of the whole array.** -/
theorem part_eq {a b n off N : ℕ} (w : (⟨2, ![26752, 1024]⟩ : Shape).Idx → α) (p : Fin 4) (hn : n * 1024 = 2 * a * b) (hoff : off + n ≤ 6688)
    (h1 : (⟨2, ![6688, 1024]⟩ : Shape).Slices ![off, 0] ⟨2, ![n, 1024]⟩) (h2 : (⟨2, ![n, 1024]⟩ : Shape).ShapeCasts ⟨1, ![N]⟩)
    (h3 : (⟨1, ![N]⟩ : Shape).ShapeCasts ⟨3, ![2, a, b]⟩)
    (h4 : (⟨2, ![26752, 1024]⟩ : Shape).ShapeCasts ⟨3, ![4, 6688, 1024]⟩)
    (h5 : (⟨3, ![4, 6688, 1024]⟩ : Shape).Slices ![0, off, 0] ⟨3, ![4, n, 1024]⟩)
    (h6 : (⟨3, ![4, n, 1024]⟩ : Shape).ShapeCasts ⟨4, ![4, 2, a, b]⟩) (hN : N = n * 1024) (x : Fin 2) (y : Fin a) (z : Fin b) :
    shapeCast ⟨3, ![2, a, b]⟩ (shapeCast ⟨1, ![N]⟩ (extractStridedSlice ⟨2, ![n, 1024]⟩ ![off, 0] (chipRows w p) h1) h2) h3 (ValueIdx.ix3 x y z)
      = shapeCast ⟨4, ![4, 2, a, b]⟩ (extractStridedSlice ⟨3, ![4, n, 1024]⟩ ![0, off, 0] (shapeCast ⟨3, ![4, 6688, 1024]⟩ w h4) h5) h6
          (ValueIdx.ix4 p x y z) := by
  have hq := mem_flat x.isLt y.isLt z.isLt
  rw [← hn] at hq
  obtain ⟨q, hqe⟩ : ∃ q, q = (x.val * a + y.val) * b + z.val := ⟨_, rfl⟩
  rw [← hqe] at hq
  have hr : q / 1024 < n := by omega
  have hl : q % 1024 < 1024 := by omega
  have hp : p.val < 4 := p.isLt
  have e4 : ((p.val * 2 + x.val) * a + y.val) * b + z.val = (p.val * n + q / 1024) * 1024 + q % 1024 := by
    have : ((p.val * 2 + x.val) * a + y.val) * b + z.val = p.val * (2 * a * b) + ((x.val * a + y.val) * b + z.val) := by ring
    rw [this, ← hn, ← hqe, ← Nat.mul_assoc]
    omega
  rw [shapeCast_apply _ h3 _ (ValueIdx.ix1 (⟨q, by omega⟩ : Fin N)) ?_,
    shapeCast_apply _ h2 _ (ValueIdx.ix2 (⟨q / 1024, hr⟩ : Fin n) (⟨q % 1024, hl⟩ : Fin 1024)) ?_,
    extractStridedSlice_apply _ _ h1 _ (ValueIdx.ix2 (⟨off + q / 1024, by omega⟩ : Fin 6688) (⟨q % 1024, hl⟩ : Fin 1024)) ?_,
    shapeCast_apply _ h6 _ (ValueIdx.ix3 p (⟨q / 1024, hr⟩ : Fin n) (⟨q % 1024, hl⟩ : Fin 1024)) ?_,
    extractStridedSlice_apply _ _ h5 _ (ValueIdx.ix3 p (⟨off + q / 1024, by omega⟩ : Fin 6688) (⟨q % 1024, hl⟩ : Fin 1024)) ?_,
    shapeCast_apply w h4 _ (ValueIdx.ix2 (⟨p.val * 6688 + (off + q / 1024), by omega⟩ : Fin 26752) (⟨q % 1024, hl⟩ : Fin 1024)) ?_]
  · rfl
  · rw [Shape.rowMajor_val_two, Shape.rowMajor_val_three]; rfl
  · intro d
    match d with
    | 0 => exact (Nat.zero_add _).symm
    | 1 => rfl
    | 2 => exact (Nat.zero_add _).symm
  · rw [Shape.rowMajor_val_three, Shape.rowMajor_val_four]
    exact e4.symm
  · intro d
    match d with
    | 0 => rfl
    | 1 => exact (Nat.zero_add _).symm
  · rw [Shape.rowMajor_val_two, Shape.rowMajor_val_one]
    show q / 1024 * 1024 + q % 1024 = q
    omega
  · rw [Shape.rowMajor_val_one, Shape.rowMajor_val_three]
    exact hqe

/-- The chip's part of an array cut along its last axis. -/
theorem block_last {a b B : ℕ} (X : (⟨4, ![4, 2, a, b]⟩ : Shape).Idx → α) (c : Dev nD) (hB : B = 4 * b)
    (h : (⟨4, ![4, 2, a, b]⟩ : Shape).Transposes [1, 2, 0, 3] ⟨4, ![2, a, 4, b]⟩)
    (h' : (⟨4, ![2, a, 4, b]⟩ : Shape).ShapeCasts ⟨3, ![2, a, B]⟩)
    (ht : Layout.TilesN ⟨3, ![2, a, b]⟩ ⟨3, ![2, a, B]⟩ fun d : Fin 3 => Layout.cutSize [2, 2, 2] (![[], [], [0, 1]] d))
    (p : Fin 4) (hp : p.val = c.val / 2)
    (i : (⟨3, ![2, a, b]⟩ : Shape).Idx) :
    Layout.blockN ⟨3, ![2, a, b]⟩ ⟨3, ![2, a, B]⟩ (Layout.meshBlock [2, 2, 2] ![[], [], [0, 1]] c)
        (shapeCast ⟨3, ![2, a, B]⟩ (transpose ⟨4, ![2, a, 4, b]⟩ [1, 2, 0, 3] X h) h') ht i
      = X (ValueIdx.ix4 p (i 0) (i 1) (i 2)) := by
  have e0 : ((Layout.meshBlock [2, 2, 2] ![[], [], [0, 1]] c) (0 : Fin 3)).val = 0 := by clear p hp; revert c; decide
  have e1 : ((Layout.meshBlock [2, 2, 2] ![[], [], [0, 1]] c) (1 : Fin 3)).val = 0 := by clear p hp; revert c; decide
  have e2 : ((Layout.meshBlock [2, 2, 2] ![[], [], [0, 1]] c) (2 : Fin 3)).val = c.val / 2 := by clear p hp; revert c; decide
  rw [Layout.blockN_apply, shapeCast_apply _ h' _ (ValueIdx.ix4 (i 0) (i 1) p (i 2)) ?_,
    transpose_apply _ X h _ (ValueIdx.ix4 p (i 0) (i 1) (i 2)) ?_]
  · intro d
    match d with
    | 0 => rfl
    | 1 => rfl
    | 2 => rfl
    | 3 => rfl
  · rw [Shape.rowMajor_val_four, Shape.rowMajor_val_three, Layout.TilesN.idx_val, Layout.TilesN.idx_val, Layout.TilesN.idx_val]
    subst hB
    have e : ∀ j k l : ℕ, j = 0 → k = 0 → l = p.val → (((i 0).val * a + (i 1).val) * 4 + p.val) * b + (i 2).val
        = ((j * 2 + (i 0).val) * a + (k * a + (i 1).val)) * (4 * b) + (l * b + (i 2).val) := by
      rintro j k l rfl rfl rfl
      ring
    exact e _ _ _ e0 e1 (e2.trans hp.symm)

/-- The chip's part of an array cut along its middle axis. -/
theorem block_middle {a b A : ℕ} (X : (⟨4, ![4, 2, a, b]⟩ : Shape).Idx → α) (c : Dev nD) (hA : A = 4 * a)
    (h : (⟨4, ![4, 2, a, b]⟩ : Shape).Transposes [1, 0, 2, 3] ⟨4, ![2, 4, a, b]⟩)
    (h' : (⟨4, ![2, 4, a, b]⟩ : Shape).ShapeCasts ⟨3, ![2, A, b]⟩)
    (ht : Layout.TilesN ⟨3, ![2, a, b]⟩ ⟨3, ![2, A, b]⟩ fun d : Fin 3 => Layout.cutSize [2, 2, 2] (![[], [0, 1], []] d))
    (p : Fin 4) (hp : p.val = c.val / 2)
    (i : (⟨3, ![2, a, b]⟩ : Shape).Idx) :
    Layout.blockN ⟨3, ![2, a, b]⟩ ⟨3, ![2, A, b]⟩ (Layout.meshBlock [2, 2, 2] ![[], [0, 1], []] c)
        (shapeCast ⟨3, ![2, A, b]⟩ (transpose ⟨4, ![2, 4, a, b]⟩ [1, 0, 2, 3] X h) h') ht i
      = X (ValueIdx.ix4 p (i 0) (i 1) (i 2)) := by
  have e0 : ((Layout.meshBlock [2, 2, 2] ![[], [0, 1], []] c) (0 : Fin 3)).val = 0 := by clear p hp; revert c; decide
  have e1 : ((Layout.meshBlock [2, 2, 2] ![[], [0, 1], []] c) (1 : Fin 3)).val = c.val / 2 := by clear p hp; revert c; decide
  have e2 : ((Layout.meshBlock [2, 2, 2] ![[], [0, 1], []] c) (2 : Fin 3)).val = 0 := by clear p hp; revert c; decide
  rw [Layout.blockN_apply, shapeCast_apply _ h' _ (ValueIdx.ix4 (i 0) p (i 1) (i 2)) ?_,
    transpose_apply _ X h _ (ValueIdx.ix4 p (i 0) (i 1) (i 2)) ?_]
  · intro d
    match d with
    | 0 => rfl
    | 1 => rfl
    | 2 => rfl
    | 3 => rfl
  · rw [Shape.rowMajor_val_four, Shape.rowMajor_val_three, Layout.TilesN.idx_val, Layout.TilesN.idx_val, Layout.TilesN.idx_val]
    subst hA
    have e : ∀ j k l : ℕ, j = 0 → k = p.val → l = 0 → (((i 0).val * 4 + p.val) * a + (i 1).val) * b + (i 2).val
        = ((j * 2 + (i 0).val) * (4 * a) + (k * a + (i 1).val)) * b + (l * b + (i 2).val) := by
      rintro j k l rfl rfl rfl
      ring
    exact e _ _ _ e0 (e1.trans hp.symm) e2

section Whole

variable {a b n off N A B : ℕ} (w : (⟨2, ![26752, 1024]⟩ : Shape).Idx → α) (p : Fin 4) (c : Dev nD) (hp : p.val = c.val / 2)
  (hn : n * 1024 = 2 * a * b) (hoff : off + n ≤ 6688) (hN : N = n * 1024)
  (h1 : (⟨2, ![6688, 1024]⟩ : Shape).Slices ![off, 0] ⟨2, ![n, 1024]⟩) (h2 : (⟨2, ![n, 1024]⟩ : Shape).ShapeCasts ⟨1, ![N]⟩)
  (h3 : (⟨1, ![N]⟩ : Shape).ShapeCasts ⟨3, ![2, a, b]⟩)
  (h4 : (⟨2, ![26752, 1024]⟩ : Shape).ShapeCasts ⟨3, ![4, 6688, 1024]⟩)
  (h5 : (⟨3, ![4, 6688, 1024]⟩ : Shape).Slices ![0, off, 0] ⟨3, ![4, n, 1024]⟩)
  (h6 : (⟨3, ![4, n, 1024]⟩ : Shape).ShapeCasts ⟨4, ![4, 2, a, b]⟩)

include hp hn hoff hN

/-- **A weight cut along its last axis: the gradient read from a chip's rows is the chip's block of the whole one.** -/
theorem last_eq (hB : B = 4 * b) (h7 : (⟨4, ![4, 2, a, b]⟩ : Shape).Transposes [1, 2, 0, 3] ⟨4, ![2, a, 4, b]⟩)
    (h8 : (⟨4, ![2, a, 4, b]⟩ : Shape).ShapeCasts ⟨3, ![2, a, B]⟩)
    (ht : Layout.TilesN ⟨3, ![2, a, b]⟩ ⟨3, ![2, a, B]⟩ fun d : Fin 3 => Layout.cutSize [2, 2, 2] (![[], [], [0, 1]] d)) :
    shapeCast ⟨3, ![2, a, b]⟩ (shapeCast ⟨1, ![N]⟩ (extractStridedSlice ⟨2, ![n, 1024]⟩ ![off, 0] (chipRows w p) h1) h2) h3
      = Layout.blockN ⟨3, ![2, a, b]⟩ ⟨3, ![2, a, B]⟩ (Layout.meshBlock [2, 2, 2] ![[], [], [0, 1]] c)
          (shapeCast ⟨3, ![2, a, B]⟩ (transpose ⟨4, ![2, a, 4, b]⟩ [1, 2, 0, 3] (shapeCast ⟨4, ![4, 2, a, b]⟩
            (extractStridedSlice ⟨3, ![4, n, 1024]⟩ ![0, off, 0] (shapeCast ⟨3, ![4, 6688, 1024]⟩ w h4) h5) h6) h7) h8) ht := by
  funext i
  rw [block_last _ c hB h7 h8 ht p hp i]
  conv_lhs => rw [ValueIdx.eq_ix3 i]
  exact part_eq w p hn hoff h1 h2 h3 h4 h5 h6 hN (i 0) (i 1) (i 2)

/-- **The same of a weight cut along its middle axis.** -/
theorem middle_eq (hA : A = 4 * a) (h7 : (⟨4, ![4, 2, a, b]⟩ : Shape).Transposes [1, 0, 2, 3] ⟨4, ![2, 4, a, b]⟩)
    (h8 : (⟨4, ![2, 4, a, b]⟩ : Shape).ShapeCasts ⟨3, ![2, A, b]⟩)
    (ht : Layout.TilesN ⟨3, ![2, a, b]⟩ ⟨3, ![2, A, b]⟩ fun d : Fin 3 => Layout.cutSize [2, 2, 2] (![[], [0, 1], []] d)) :
    shapeCast ⟨3, ![2, a, b]⟩ (shapeCast ⟨1, ![N]⟩ (extractStridedSlice ⟨2, ![n, 1024]⟩ ![off, 0] (chipRows w p) h1) h2) h3
      = Layout.blockN ⟨3, ![2, a, b]⟩ ⟨3, ![2, A, b]⟩ (Layout.meshBlock [2, 2, 2] ![[], [0, 1], []] c)
          (shapeCast ⟨3, ![2, A, b]⟩ (transpose ⟨4, ![2, 4, a, b]⟩ [1, 0, 2, 3] (shapeCast ⟨4, ![4, 2, a, b]⟩
            (extractStridedSlice ⟨3, ![4, n, 1024]⟩ ![0, off, 0] (shapeCast ⟨3, ![4, 6688, 1024]⟩ w h4) h5) h6) h7) h8) ht := by
  funext i
  rw [block_middle _ c hA h7 h8 ht p hp i]
  conv_lhs => rw [ValueIdx.eq_ix3 i]
  exact part_eq w p hn hoff h1 h2 h3 h4 h5 h6 hN (i 0) (i 1) (i 2)

end Whole

/-- **A device's own half and its sibling's, each in its place, are the rows of their chip.** -/
theorem joined (w : (⟨2, ![26752, 1024]⟩ : Shape).Idx → α) (c d : Dev nD) (hd : d.val = 2 * (c.val / 2) + (1 - c.val % 2)) (p : Fin 4)
    (hp : p.val = c.val / 2) (z : S6688x1024.Idx → α) (h : S6688x1024.Slices ![c.val % 2 * 3344, 0] S3344x1024)
    (h' : S6688x1024.Slices ![(1 - c.val % 2) * 3344, 0] S3344x1024) :
    updateSlice (updateSlice z (Layout.block ⟨2, ![3344, 1024]⟩ ⟨2, ![26752, 1024]⟩ 0 8 c w) ![c.val % 2 * 3344, 0] h)
        (Layout.block ⟨2, ![3344, 1024]⟩ ⟨2, ![26752, 1024]⟩ 0 8 d w) ![(1 - c.val % 2) * 3344, 0] h'
      = chipRows w p := by
  funext i
  have hi : (i 0).val < 6688 := (i 0).isLt
  have hj : (i 1).val < 1024 := (i 1).isLt
  rw [updateSlice_apply, updateSlice_apply]
  split
  · rename_i hin
    have h0 : (1 - c.val % 2) * 3344 ≤ (i 0).val ∧ (i 0).val < (1 - c.val % 2) * 3344 + 3344 := hin 0
    rw [Layout.block_apply]
    refine congrArg w (funext fun k => Fin.ext ?_)
    rw [Layout.Tiles.idx_val]
    match k with
    | 0 =>
      show d.val * 3344 + ((i 0).val - (1 - c.val % 2) * 3344) = p.val * 6688 + (i 0).val
      omega
    | 1 => exact Nat.sub_zero _
  · rename_i hout
    have h0 : c.val % 2 * 3344 ≤ (i 0).val ∧ (i 0).val < c.val % 2 * 3344 + 3344 := by
      by_contra hno
      refine hout fun k => ?_
      match k with
      | 0 =>
        show (1 - c.val % 2) * 3344 ≤ (i 0).val ∧ (i 0).val < (1 - c.val % 2) * 3344 + 3344
        omega
      | 1 => exact ⟨Nat.zero_le _, by show (i 1).val < 0 + 1024; omega⟩
    rw [dif_pos (fun k => by
      match k with
      | 0 => exact h0
      | 1 => exact ⟨Nat.zero_le _, by show (i 1).val < 0 + 1024; omega⟩), Layout.block_apply]
    refine congrArg w (funext fun k => Fin.ext ?_)
    rw [Layout.Tiles.idx_val]
    match k with
    | 0 =>
      show c.val * 3344 + ((i 0).val - c.val % 2 * 3344) = p.val * 6688 + (i 0).val
      omega
    | 1 => exact Nat.sub_zero _

end Cert.GradsProof

end
-- ==== Proof.GradsRun.lean ====
/-
# The swap of the reduced halves, and the gradients cut out of them

As in `ResultRun` the two devices of a chip swap their halves of the reduced gradient rows. Then each device, on its own,
puts the two halves together in the order of the rows and cuts the gradients of the five large weights out of them, in a
straight line of array operations (`hostOps1`). What a device's arrays hold at the end is what that line makes of the
launch's contents with the swapped half in place (`ends`).
-/
module

public import proofs.«01_k».proof.Proof.Pieces
public import proofs.«01_k».proof.Proof.Gen.GradsIdeal.Skeleton
public import proofs.«01_k».proof.Proof.Gen.GradsIdeal.Launch
public import proofs.«01_k».proof.Proof.Gen.GradsIdeal.Points
public import proofs.«01_k».proof.Proof.Gen.GradsIdeal.Regions
public import Idealize.ShloMosaic.Lib.Pipeline.FrameTail
public import Idealize.ShloMosaic.Lib.Tactic

@[expose] public section

noncomputable section

namespace Cert.GradsProof

open Cert.GradsIdeal Cert.GradsIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange

variable {F : FTy → Type}

local notation "𝕄" => MT nD τ sig Unit (Elt F) ℕ (UU nD τ sig) ℕ

abbrev vM : Memref sig .tc .hbm S3344x1024 .f32 := Memref.whole main_arg0
abbrev oM : Memref sig .tc .hbm S3344x1024 .f32 := Memref.whole main_v1

/-! ## The device addressed -/

theorem sib_lt (c : Dev nD) : 2 * (c.val / 2) + (1 - c.val % 2) < nD := by revert c; decide
def sibOf (c : Dev nD) : Dev nD := ⟨2 * (c.val / 2) + (1 - c.val % 2), sib_lt c⟩
theorem sibOf_sibOf (c : Dev nD) : sibOf (sibOf c) = c := by revert c; decide

/-- The chip's other device. -/
def sib : Equiv.Perm (Dev nD) := ⟨sibOf, sibOf, sibOf_sibOf, sibOf_sibOf⟩

theorem dev1_eq (c : Dev nD) : (⟨k0_dev1 c, k0_dev1_lt c⟩ : Dev nD) = sib c := Fin.ext ((k0_dev1_eq c).trans (by revert c; decide))

/-! ## The protocol -/

variable (m : (ℓ : Loc nD τ sig) → Buf (Elt F) ℓ)

/-- Device `c`'s result at the end: what the other device started with. -/
def swapped (c : Dev nD) : Buf (Elt F) ((c.tc : Thread nD τ).loc main_v1) := fun i : S3344x1024.Idx =>
  m (((sib c).tc : Thread nD τ).loc main_arg0) i

/-- What the copy counts. -/
abbrev whole : ℕ := oM.view.dmaCredit

/-- The completions owed from afar: the landings. -/
abbrev landings : Finset (Fin 2) := {1}

abbrev plan : Plan nD sig where
  K := 2
  osem k := .dma k
  osem_inj := fun a b h => by injection h
  tgt k := ![Equiv.refl _, sib] k
  amt k := whole
  amt_pos k := View.dmaCredit_pos _ (by decide)
  remote := landings
  lvl k := 0

def pay (c : Dev nD) (k : Fin 2) : sProp 𝕄 :=
  if k = 0 then iprop((c.tc : Thread nD τ).loc main_arg0 ↦{fullShare.right} m ((c.tc : Thread nD τ).loc main_arg0)) else iprop((c.tc : Thread nD τ).loc main_v1 ↦{fullShare} swapped m c)

instance pay_storable (c : Dev nD) (k : Fin plan.K) : BI.Storable (upEmb : UEmb _ 𝕄) (pay m c k) := by
  unfold pay; split <;> infer_instance

/-! ## One device's run -/

/-- The two arrays of the exchange. -/
abbrev exchanged : Finset (DevRef τ sig) := {Proc.devRef .tc main_arg0, Proc.devRef .tc main_v1}

/-- A device's other arrays, at the launch contents. -/
def rest (c : Dev nD) : sProp 𝕄 := StableHlo.held (c.tc : Thread nD τ) (Pipeline.ucRefs τ sig \ exchanged) (fun b => m (c, b))

/-- What device `c` starts with: its own array, the other device's result, which it is to write, and its other arrays. -/
def before (c : Dev nD) : sProp 𝕄 :=
  iprop(((c.tc : Thread nD τ).loc main_arg0 ↦{fullShare} m ((c.tc : Thread nD τ).loc main_arg0))
    ∗ (((sib c).tc : Thread nD τ).loc main_v1 ↦{fullShare} m (((sib c).tc : Thread nD τ).loc main_v1)) ∗ rest m c)

/-- What it leaves the exchange with: its own array as it was, its result, and its other arrays. -/
def after (c : Dev nD) : sProp 𝕄 :=
  iprop(((c.tc : Thread nD τ).loc main_arg0 ↦{fullShare} m ((c.tc : Thread nD τ).loc main_arg0))
    ∗ ((c.tc : Thread nD τ).loc main_v1 ↦{fullShare} swapped m c) ∗ rest m c)

/-- A device's arrays after the exchange. -/
abbrev exchangedTo (c : Dev nD) : Valuation τ sig (Elt F) :=
  Function.update (fun b => m (c, b)) (Proc.devRef .tc main_v1) (swapped m c)

theorem list2 (Φ : Fin 2 → sProp 𝕄) : bigSep Finset.univ Φ = iprop(Φ 0 ∗ Φ 1) :=
  bigSep_univ_eq_bigSepL [0, 1] (by decide) (by decide) Φ
theorem list_remote (Φ : Fin 2 → sProp 𝕄) : bigSep plan.remote Φ = Φ 1 :=
  bigSep_eq_bigSepL_of_eq [1] (by decide) (by decide) Φ

theorem vM_set : vM.view.set = Finset.univ := View.set_whole _
theorem oM_set : oM.view.set = Finset.univ := View.set_whole _

theorem amount_own : vM.view.dmaCredit = whole := by
  show sig.dmaCredit .tc (Kind.tc.table .hbm) main_arg0.idx S3344x1024 .f32 = sig.dmaCredit .tc (Kind.tc.table .hbm) main_v1.idx S3344x1024 .f32
  decide

theorem owing_eq (c : Dev nD) {S S' : Finset (Fin 2)} (h : S = S') : (plan.owing c S : sProp 𝕄) ⊢ plan.owing c S' := by rw [h]

theorem held {ℓ : Loc nD τ sig} {S S' : Finset (Idx ℓ)} {q : PosShare TreeShare} {f : Buf (Elt F) ℓ} (h : S = S') :
    (ℓ ↦[S]{q} f : sProp 𝕄) ⊢ (ℓ ↦[S']{q} f) := by rw [h]

theorem held_at {d d' : Dev nD} (hd : d = d') {S S' : Finset S3344x1024.Idx} {q : PosShare TreeShare} (h : S = S') :
    ((d.tc : Thread nD τ).loc main_v1 ↦[S]{q} m ((d.tc : Thread nD τ).loc main_v1) : sProp 𝕄)
      ⊢ ((d'.tc : Thread nD τ).loc main_v1 ↦[S']{q} m ((d'.tc : Thread nD τ).loc main_v1)) := by subst hd h; exact Entails.refl _

theorem halves {ℓ : Loc nD τ sig} {S : Finset (Idx ℓ)} {q : PosShare TreeShare} {f : Buf (Elt F) ℓ} :
    (ℓ ↦[S]{q} f : sProp 𝕄) ⊢ iprop((ℓ ↦[S]{q.left} f) ∗ (ℓ ↦[S]{q.right} f)) :=
  (pointsTo_share (PosShare.mem_left_op_right q)).1

theorem rejoin {ℓ : Loc nD τ sig} {S : Finset (Idx ℓ)} {q : PosShare TreeShare} {f : Buf (Elt F) ℓ} :
    iprop((ℓ ↦[S]{q.left} f) ∗ (ℓ ↦[S]{q.right} f)) ⊢ (ℓ ↦[S]{q} f : sProp 𝕄) :=
  (pointsTo_share (PosShare.mem_left_op_right q)).2

theorem pay_send (c : Dev nD) : pay m c 0 = iprop((c.tc : Thread nD τ).loc main_arg0 ↦{fullShare.right} m ((c.tc : Thread nD τ).loc main_arg0)) := by
  unfold pay; rw [if_pos rfl]
theorem read_back (c : Dev nD) :
    (vM.view.loc (c.tc : Thread nD τ) ↦[vM.view.set]{fullShare.right} m ((c.tc : Thread nD τ).loc main_arg0)) ⊢ (pay m c 0 : sProp 𝕄) := by
  rw [pay_send m]; exact held vM_set
theorem pay_recv (c : Dev nD) : pay m c 1 = iprop((c.tc : Thread nD τ).loc main_v1 ↦{fullShare} swapped m c) := by
  unfold pay; rw [if_neg (by decide)]

/-- What the copy carries is what the other device is to end with. -/
theorem carries (c d : Dev nD) (h : d = c) : oM.view.read (Elt F) (fun i : S3344x1024.Idx => m ((d.tc : Thread nD τ).loc main_arg0) i)
    = vM.view.read (Elt F) (m ((c.tc : Thread nD τ).loc main_arg0)) := by subst h; rfl

/-- The copy has landed on the other device. -/
theorem lands (c n : Dev nD) (hn : n = sib c) (fd) :
    (oM.view.loc (n.tc : Thread nD τ) ↦[oM.view.set]{fullShare}
        (oM.view.write (Elt F) fd (vM.view.read (Elt F) (m ((c.tc : Thread nD τ).loc main_arg0))) Finset.univ))
      ⊢ (pay m n 1 : sProp 𝕄) := by
  subst hn
  rw [pay_recv m]
  iintro H
  ihave H := (Entails.of_eq (landed (c := (c.tc : Thread nD τ)) (c' := ((sib c).tc : Thread nD τ)) (dst := oM.view) (G := swapped m (sib c))
    (carries m c (sib (sib c)) (sibOf_sibOf c)))) $$ H
  iapply (held (oM_set)); iexact H

variable [FloatOps F] (N : Dev nD × Fin 2 → ℕ)

/-- Device `c`'s run: the copy out, and the two waits. -/
theorem sound_body (c : Dev nD) :
    iprop((plan.records (pay m) N ∗ levAts (Plan.lev (nD := nD) (τ := τ) (sig := sig)) plan.lv) ∗ (bigSep Finset.univ fun k : Fin plan.K => plan.pos c k)
          ∗ (bigSep Finset.univ fun k : Fin plan.K => plan.tok c k)
          ∗ (bigSep plan.remote fun k => plan.due c k) ∗ plan.owing c plan.remote ∗ before m c)
      ⊢ (wp frame (wpE (defs₀ (F := F)) Variants.none c none) Set.univ (bodyAt0 (F := F) t0_0) fun _ =>
            iprop(plan.owing c ∅ ∗ (bigSep Finset.univ fun k : Fin plan.K => plan.zero c k) ∗ after m c) : sProp 𝕄) := by
  unfold bodyAt0
  rw [cc0_pair_result_eq_skeleton]
  unfold cc0_pair_result_skel
  simp only [Prog.lift, Prog.bind_op, Prog.bind_ret, Prog.pure_eq_ret, wp_deviceId]
  unfold before after
  rw [show (bigSep Finset.univ fun k : Fin plan.K => plan.pos c k : sProp 𝕄) = _ from list2 _,
    show (bigSep Finset.univ fun k : Fin plan.K => plan.tok c k : sProp 𝕄) = _ from list2 _,
    show (bigSep Finset.univ fun k : Fin plan.K => plan.zero c k : sProp 𝕄) = _ from list2 _,
    show (bigSep plan.remote fun k => plan.due c k : sProp 𝕄) = _ from list_remote _]
  iintro ⟨⟨#HR, #HL⟩, ⟨p0, p1⟩, ⟨t0, t1⟩, d1, HO, Hx, w, Hr⟩
  ihave Hx := halves $$ Hx
  icases Hx with ⟨Hx, x⟩
  ihave x := (held vM_set.symm) $$ x
  ihave w := (held_at m (d := sib c) (S := Finset.univ) (dev1_eq c).symm oM_set.symm) $$ w
  iapply (Plan.send_rule plan (pay m) N c (c' := ⟨k0_dev1 c, k0_dev1_lt c⟩) (0 : Fin 2) (1 : Fin 2) landings (by decide) rfl rfl rfl (dev1_eq c).symm rfl rfl
      (read_back m c) (lands m c _ (dev1_eq c) _)) $$ [x w HO t0 t1]
  · isplitr; · iexact HR
    isplitl [x]; · iexact x
    isplitl [w]; · iexact w
    isplitl [HO]; · iexact HO
    isplitl [t0]; · iexact t0
    iexact t1
  iintro ⟨d0, HO⟩
  ihave HO := (owing_eq c (S' := ∅) (by decide)) $$ HO
  iapply (Plan.wait_rule plan (pay m) N c (wpE_waitDma2_eq Variants.none (c : Thread nD τ) none Set.univ) (0 : Fin 2) ∅ rfl amount_own (by decide)) $$ [d0 HO p0]
  · isplitr; · isplitr; · iexact HR
               iexact HL
    isplitl [d0]; · iexact d0
    isplitl [HO]; · iexact HO
    iexact p0
  iintro ⟨HO, z0, Hp⟩
  ihave x := (Entails.of_eq (pay_send m c)) $$ Hp
  ihave Hx := rejoin $$ [Hx x]
  · isplitl [Hx] <;> iassumption
  iapply (Plan.wait_rule plan (pay m) N c (wpE_waitDma2_eq Variants.none (c : Thread nD τ) none Set.univ) (1 : Fin 2) ∅ rfl rfl (by decide)) $$ [d1 HO p1]
  · isplitr; · isplitr; · iexact HR
               iexact HL
    isplitl [d1]; · iexact d1
    isplitl [HO]; · iexact HO
    iexact p1
  iintro ⟨HO, z1, Hp⟩
  ihave g := (Entails.of_eq (pay_recv m c)) $$ Hp
  rw [wp_ret]
  imodintro
  isplitl [HO]; · iexact HO
  isplitl [z0 z1]
  · isplitl [z0]; · iexact z0
    iexact z1
  isplitl [Hx]; · iexact Hx
  isplitl [g] <;> iassumption

/-! ## The straight line after it -/

theorem ops_sub (c : Dev nD) : ∀ op ∈ (hostOps1 c : List (HloOp τ sig (Elt F))), op.bufs ⊆ Pipeline.ucRefs τ sig := fun op h =>
  Pipeline.sub_ucRefs op (List.forall_iff_forall_mem.mp (hostOps1_sub c) op h)
theorem ops_fresh (c : Dev nD) : ∀ op ∈ (hostOps1 c : List (HloOp τ sig (Elt F))), op.fresh = ∅ := fun op h =>
  List.forall_iff_forall_mem.mp (hostOps1_fresh c) op h

theorem exchanged_sub : exchanged ⊆ Pipeline.ucRefs τ sig := fun b hb => by
  rcases Finset.mem_insert.mp hb with rfl | hb
  · exact Pipeline.devRef_mem_ucRefs (by decide)
  · rw [Finset.mem_singleton.mp hb]; exact Pipeline.devRef_mem_ucRefs (by decide)

theorem exchanged_ne : (Proc.devRef .tc main_arg0 : DevRef τ sig) ≠ Proc.devRef .tc main_v1 := by decide

theorem group3 (P Q R : sProp 𝕄) : iprop((P ∗ Q) ∗ R) = iprop(P ∗ Q ∗ R) := equiv_iff.mp ⟨BI.sep_assoc, BI.sep_assoc'⟩

theorem held_exchanged (c : Dev nD) (V : Valuation τ sig (Elt F)) :
    (StableHlo.held (c.tc : Thread nD τ) exchanged V : sProp 𝕄)
      = iprop(((c.tc : Thread nD τ).loc main_arg0 ↦{fullShare} V (Proc.devRef .tc main_arg0))
          ∗ ((c.tc : Thread nD τ).loc main_v1 ↦{fullShare} V (Proc.devRef .tc main_v1))) := by
  unfold StableHlo.held exchanged
  rw [bigSep_insert (Finset.notMem_singleton.mpr exchanged_ne), bigSep_singleton]
  rfl

/-- What a device leaves the exchange with is all its arrays, the result at the other device's half. -/
theorem after_held (c : Dev nD) : (after m c : sProp 𝕄) = StableHlo.held (c.tc : Thread nD τ) (Pipeline.ucRefs τ sig) (exchangedTo m c) := by
  rw [StableHlo.held_sub_split _ exchanged_sub, held_exchanged]
  unfold after rest
  rw [show exchangedTo m c (Proc.devRef .tc main_arg0) = m ((c.tc : Thread nD τ).loc main_arg0) from Function.update_of_ne exchanged_ne _ _,
    show exchangedTo m c (Proc.devRef .tc main_v1) = swapped m c from Function.update_self _ _ _,
    StableHlo.held_congr (V := exchangedTo m c) (V' := fun b => m (c, b)) _ fun b hb =>
      Function.update_of_ne (fun h => (Finset.mem_sdiff.mp hb).2 (h ▸ Finset.mem_insert_of_mem (Finset.mem_singleton_self _))) _ _,
    group3]

/-- What it ends with. -/
def done (c : Dev nD) : sProp 𝕄 :=
  StableHlo.held (c.tc : Thread nD τ) (Pipeline.ucRefs τ sig) (StableHlo.after (hostOps1 c) (exchangedTo m c))

/-- The straight line's run. -/
theorem sound_tail (c : Dev nD) (R : PUnit → sProp 𝕄) :
    iprop(boundary (c.tc : Thread nD τ) ∗ after m c)
      ⊢ iprop(((boundary (c.tc : Thread nD τ) ∗ done m c) -∗ R ⟨⟩)
          -∗ wp frame (wpE (Pipeline.defs (fun p => (cfgs p).toPCfg) (defs₀ (F := F))) (Variants.lift Variants.none) (c.tc : Thread nD τ) none) Set.univ
              (Pipeline.chain [StableHlo.seq (hostOps1 c)]) R) := by
  rw [after_held, Pipeline.chain_cons]
  iintro H Hk
  iapply (StableHlo.wp_seq _ none Set.univ c (Pipeline.ucRefs τ sig) (fun _ => Pipeline.chain []) (hostOps1 c) (ops_sub c) (ops_fresh c) (exchangedTo m c)) $$ H
  iintro H
  rw [Pipeline.chain_nil, wp_pure]; imodintro
  iapply Hk
  iexact H

/-! ## The whole run -/

/-- What is claimed of device `c`'s memory at the end. -/
def ends (c : Dev nD) (s : MemSt nD τ sig (Elt F)) : Prop :=
  ∀ b ∈ Pipeline.ucRefs τ sig, s.mem (c, b) = StableHlo.after (hostOps1 c) (exchangedTo m c) b

theorem ends_of_done (c : Dev nD) (s' : Phys nD τ sig (Elt F)) :
    iprop(done m c ∗ SI s') ⊢ (iprop(|={Set.univ}=> iprop(⌜ends m c s'.mem⌝ ∗ SI s')) : sProp 𝕄) := by
  unfold done StableHlo.held
  iintro ⟨H, HSI⟩
  ihave %h := (SI_pointsTo_bufs_agree (qs := fun _ => fullShare) (Pipeline.ucRefs τ sig)) $$ [HSI H]
  · isplitl [HSI]; · iexact HSI
    iexact H
  imodintro
  isplitr
  · ipureintro; exact h
  · iexact HSI

/-- The arrays at launch, dealt to the devices that write them. -/
theorem deal_arrays :
    (bigSep Finset.univ fun c : Dev nD => (Pipeline.unscopedRest (cfgs 0).spec c (fun b => m ((c.tc : Thread nD τ).loc b)) : sProp 𝕄))
      ⊢ bigSep Finset.univ fun c => before m c := by
  have h : (fun c : Dev nD => (Pipeline.unscopedRest (cfgs 0).spec c (fun b => m ((c.tc : Thread nD τ).loc b)) : sProp 𝕄))
      = fun c : Dev nD => iprop(((c.tc : Thread nD τ).loc main_arg0 ↦{fullShare} m ((c.tc : Thread nD τ).loc main_arg0))
          ∗ ((c.tc : Thread nD τ).loc main_v1 ↦{fullShare} m ((c.tc : Thread nD τ).loc main_v1)) ∗ rest m c) :=
    funext fun c => by
      have hu : (Pipeline.unscopedRest (cfgs 0).spec c (fun b => m ((c.tc : Thread nD τ).loc b)) : sProp 𝕄)
          = StableHlo.held (c.tc : Thread nD τ) (Pipeline.ucRefs τ sig) (fun b => m (c, b)) := by
        refine Eq.trans ?_ (Pipeline.unscopedBufs_held c (fun b => m (c, b)))
        unfold Pipeline.unscopedRest unscopedBufs
        rw [show Finset.univ.image (Pipeline.arrRef (cfgs 0).spec) = ∅ from rfl, Finset.sdiff_empty]
      rw [hu, StableHlo.held_sub_split _ exchanged_sub, held_exchanged, group3]
      rfl
  rw [h, bigSep_sep', bigSep_sep']
  unfold before
  rw [bigSep_sep', bigSep_sep']
  exact sep_mono_right (sep_mono_left (Entails.of_eq (bigSep_univ_equiv sib _)))

theorem main_eq (c : Dev nD) : main (F := F) c = .op (.customCall (Pipeline.entry 0) ()) fun _ => Pipeline.chain [StableHlo.seq (hostOps1 c)] := by
  rw [main_chain c, Pipeline.chain_cons]
  simp only [Prog.lift, Prog.bind_op, Prog.bind_ret]

set_option maxRecDepth 10000 in
/-- Run from any memory, every device's arrays end as the straight line makes them of the launch's with the other
    device's half in place, and every semaphore reads zero. -/
theorem run_main (g : Dev nD → PrngReg) :
    θ_run (Cert.GradsIdeal.defs (F := F)) (onTc (τ := τ) (Cert.GradsIdeal.main (F := F))) ⟨m, fun _ => 0, g⟩
      (fun r => (∀ c, ends m c r.2) ∧ ∀ g' : GSem nD τ sig, (g'.1.2 ≠ .tc ∨ g'.2.isScoped .tc = true) → r.2.sem g' = 0) :=
  Plan.run_then plan (pay m) cfgs (defs₀ (F := F)) cellOf_inj winFacts0 (fun _ => ⟨fun w => w.elim0⟩) N_0
    (by decide) (fun c => scopedRest0_eq c) m g main (fun c => Pipeline.chain [StableHlo.seq (hostOps1 c)]) main_eq
    (before m) (after m) (done m) (deal_arrays m)
    (fun c N t => sound_body m N c) (sound_tail m) (ends m) (ends_of_done m)

end Cert.GradsProof

end
-- ==== Proof.GradsReads.lean ====
/-
# What the lines after the swap compute

Each device writes its own half and the one it received into an array of its chip's rows, at starts it computes from its
number, and cuts the weights' gradients out of these rows.
-/
module

public import proofs.«01_k».proof.Defs
public import proofs.«01_k».proof.Proof.GradsRun
public import Idealize.ShloMosaic.Lib.WordCmp

@[expose] public section

noncomputable section

namespace Cert.GradsProof

open Cert.GradsIdeal Cert.GradsIdeal.Gen
open Idealize.ShloMosaic
open Idealize.ShloMosaic.TcCoe
open Idealize.SL Idealize.SL.Sem
open Idealize.ShloMosaic.StableHlo

variable {F : FTy → Type} [FloatOps F]

/-- The array both halves are written to, before they are. -/
def blank : S6688x1024.Idx → Elt F .f32 := broadcastInDim S6688x1024 ![] bcast_S_S6688x1024 (constant S_ .f32 0#32)

/-- A device's own half lies within its chip's rows. -/
theorem fits (c : Dev nD) : S6688x1024.Slices ![c.val % 2 * 3344, 0] S3344x1024 := by revert c; decide
/-- So does its sibling's. -/
theorem fits' (c : Dev nD) : S6688x1024.Slices ![(1 - c.val % 2) * 3344, 0] S3344x1024 := by revert c; decide

/-- A device's number on its chip, as the program computes it. -/
abbrev core (c : Dev nD) : S_.Idx → BitVec 32 :=
  id (Host.remui (Host.divui (constantI S_ 32 (Dev.word c)) (constantI S_ 32 1#32)) (constantI S_ 32 2#32))

/-- The first row of the half with number `x`, as the program computes it. -/
abbrev firstRow (x : S_.Idx → BitVec 32) : S_.Idx → BitVec 32 :=
  select (cmpi .slt (muli x (constantI S_ 32 3344#32)) (constantI S_ 32 0#32))
    (addi (muli x (constantI S_ 32 3344#32)) (constantI S_ 32 6688#32)) (muli x (constantI S_ 32 3344#32))

/-- A device's own half starts at row 3344 times its number on the chip. -/
theorem own_start (c : Dev nD) : (firstRow (core c) (Shape.Idx.first h_S_)).toInt = ((c.val % 2 * 3344 : ℕ) : ℤ) := by
  revert c; decide

/-- Its sibling's half starts at row 3344 times the sibling's number. -/
theorem other_start (c : Dev nD) :
    (firstRow (subi (constantI S_ 32 1#32) (core c)) (Shape.Idx.first h_S_)).toInt = (((1 - c.val % 2) * 3344 : ℕ) : ℤ) := by
  revert c; decide

/-- The assembled rows: the device's own half and the one it received, each in its place. -/
theorem rows (c : Dev nD) (V : Valuation τ sig (Elt F)) :
   StableHlo.after (hostOps1 c) V (Proc.devRef .tc main_v17) =
     updateSlice (updateSlice blank (V (Proc.devRef .tc main_arg0)) ![c.val % 2 * 3344, 0] (fits c))
       (V (Proc.devRef .tc main_v1)) ![(1 - c.val % 2) * 3344, 0] (fits' c) := by
  after_results_simp
  refine (WordCmp.dynamicUpdateSlice_eq_update _ _ _ _ _ (fits' c) fun a => ?_).trans
    (congrArg (fun x => updateSlice x _ _ (fits' c)) (WordCmp.dynamicUpdateSlice_eq_update _ _ _ _ _ (fits c) fun a => ?_))
  · match a with
    | 0 =>
      dsimp only [Matrix.cons_val_zero]
      after_results_simp
      exact other_start c
    | 1 =>
      dsimp only [Matrix.cons_val_one, Matrix.cons_val_zero, Matrix.cons_val_fin_one]
      after_results_simp
      rfl
  · match a with
    | 0 =>
      dsimp only [Matrix.cons_val_zero]
      after_results_simp
      exact own_start c
    | 1 =>
      dsimp only [Matrix.cons_val_one, Matrix.cons_val_zero, Matrix.cons_val_fin_one]
      after_results_simp
      rfl

/-- The first weight's gradient is rows 0 to 5127. -/
theorem cut0 (c : Dev nD) (V : Valuation τ sig (Elt F)) :
    StableHlo.after (hostOps1 c) V (Proc.devRef .tc main_v20)
      = shapeCast S2x1024x2564 (shapeCast S5251072 (extractStridedSlice S5128x1024 ![0, 0]
          (StableHlo.after (hostOps1 c) V (Proc.devRef .tc main_v17)) slices_S6688x1024_S5128x1024_0_0) shapeCasts_S5128x1024_S5251072) shapeCasts_S5251072_S2x1024x2564 := by
  after_results_simp
  rfl

/-- The second weight's gradient is rows 5128 to 5383. -/
theorem cut1 (c : Dev nD) (V : Valuation τ sig (Elt F)) :
    StableHlo.after (hostOps1 c) V (Proc.devRef .tc main_v23)
      = shapeCast S2x512x256 (shapeCast S262144 (extractStridedSlice S256x1024 ![5128, 0]
          (StableHlo.after (hostOps1 c) V (Proc.devRef .tc main_v17)) slices_S6688x1024_S256x1024_5128_0) shapeCasts_S256x1024_S262144) shapeCasts_S262144_S2x512x256 := by
  after_results_simp
  rfl

/-- The third weight's gradient is rows 5384 to 5895. -/
theorem cut2 (c : Dev nD) (V : Valuation τ sig (Elt F)) :
    StableHlo.after (hostOps1 c) V (Proc.devRef .tc main_v26)
      = shapeCast S2x256x1024 (shapeCast S524288 (extractStridedSlice S512x1024 ![5384, 0]
          (StableHlo.after (hostOps1 c) V (Proc.devRef .tc main_v17)) slices_S6688x1024_S512x1024_5384_0) shapeCasts_S512x1024_S524288) shapeCasts_S524288_S2x256x1024 := by
  after_results_simp
  rfl

/-- The fourth weight's gradient is rows 5896 to 6151. -/
theorem cut3 (c : Dev nD) (V : Valuation τ sig (Elt F)) :
    StableHlo.after (hostOps1 c) V (Proc.devRef .tc main_v29)
      = shapeCast S2x512x256 (shapeCast S262144 (extractStridedSlice S256x1024 ![5896, 0]
          (StableHlo.after (hostOps1 c) V (Proc.devRef .tc main_v17)) slices_S6688x1024_S256x1024_5896_0) shapeCasts_S256x1024_S262144) shapeCasts_S262144_S2x512x256 := by
  after_results_simp
  rfl

/-- The fifth weight's gradient is rows 6152 to 6663. -/
theorem cut4 (c : Dev nD) (V : Valuation τ sig (Elt F)) :
    StableHlo.after (hostOps1 c) V (Proc.devRef .tc main_v32)
      = shapeCast S2x256x1024 (shapeCast S524288 (extractStridedSlice S512x1024 ![6152, 0]
          (StableHlo.after (hostOps1 c) V (Proc.devRef .tc main_v17)) slices_S6688x1024_S512x1024_6152_0) shapeCasts_S512x1024_S524288) shapeCasts_S524288_S2x256x1024 := by
  after_results_simp
  rfl

end Cert.GradsProof

end
-- ==== Proof.GradsValue.lean ====
/-
# The gradients of the five large weights, in terms of the whole array

The whole array is eight halves of rows, one per device. After the swap every device holds its chip's rows, and each
gradient it cuts out of them is its block of the gradient the reference cuts out of the whole array.
-/
module

public import proofs.«01_k».proof.Defs
public import proofs.«01_k».proof.Proof.GradsCuts
public import proofs.«01_k».proof.Proof.GradsReads
public import proofs.«01_k».proof.Proof.Gen.Grads
public import proofs.«01_k».proof.Proof.Gen.GradsRef.Run
public import proofs.«01_k».proof.Proof.Gen.GradsRefIdeal.Run

@[expose] public section

noncomputable section

namespace Cert.GradsProof

open Cert.GradsIdeal Cert.GradsIdeal.Gen
open Idealize.ShloMosaic
open Idealize.ShloMosaic.TcCoe
open Idealize.SL Idealize.SL.Sem
open Idealize.ShloMosaic.StableHlo

variable {F : FTy → Type} [FloatOps F]

/-- The chip of a device. -/
def chip (c : Dev nD) : Fin 4 := ⟨c.val / 2, by have : c.val < 8 := c.isLt; omega⟩

/-- The argument ends unchanged: nothing writes it. -/
theorem kept (m : (ℓ : Loc nD τ sig) → Buf (Elt F) ℓ) (c : Dev nD) {s : MemSt nD τ sig (Elt F)} (hs : ends m c s) :
    s.mem ((c.tc : Thread nD τ).loc main_arg0) = m ((c.tc : Thread nD τ).loc main_arg0) :=
  (hs _ (Pipeline.devRef_mem_ucRefs (by decide))).trans
    ((StableHlo.after_of_writes_sub (hostOps1 c) _ (hostOps1_writes c) (by decide)).trans
      (show exchangedTo m c (Proc.devRef .tc main_arg0) = m (c, Proc.devRef .tc main_arg0) from
        Function.update_of_ne exchanged_ne _ _))

section Value

variable (m : (ℓ : Loc nD τ sig) → Buf (Elt F) ℓ) (w : (⟨2, ![26752, 1024]⟩ : Shape).Idx → Elt F .f32)
  (hw : ∀ c : Dev nD, m ((c.tc : Thread nD τ).loc main_arg0) = Layout.block ⟨2, ![3344, 1024]⟩ ⟨2, ![26752, 1024]⟩ 0 8 c w)

include hw

/-- **After the swap a device holds all rows of its chip.** -/
theorem rows_eq (c : Dev nD) :
    StableHlo.after (hostOps1 c) (exchangedTo m c) (Proc.devRef .tc main_v17) = chipRows w (chip c) := by
  have e0 : exchangedTo m c (Proc.devRef .tc main_arg0) = Layout.block ⟨2, ![3344, 1024]⟩ ⟨2, ![26752, 1024]⟩ 0 8 c w :=
    (show exchangedTo m c (Proc.devRef .tc main_arg0) = m (c, Proc.devRef .tc main_arg0) from
      Function.update_of_ne exchanged_ne _ _).trans (hw c)
  have e1 : exchangedTo m c (Proc.devRef .tc main_v1) = Layout.block ⟨2, ![3344, 1024]⟩ ⟨2, ![26752, 1024]⟩ 0 8 (sib c) w :=
    (show exchangedTo m c (Proc.devRef .tc main_v1) = swapped m c from Function.update_self _ _ _).trans (hw (sib c))
  refine (rows c _).trans ?_
  rw [e0, e1]
  exact joined w c (sib c) rfl (chip c) rfl _ (fits c) (fits' c)

/-- **Every gradient a device ends with is its block of the gradient cut out of the whole array.** -/
theorem grads_eq (c : Dev nD) {s : MemSt nD τ sig (Elt F)} (hs : ends m c s) :
    s.mem ((c.tc : Thread nD τ).loc main_v20)
        = Layout.blockN ⟨3, ![2, 1024, 2564]⟩ ⟨3, ![2, 1024, 10256]⟩ (Layout.meshBlock [2, 2, 2] ![[], [], [0, 1]] c)
            (shapeCast ⟨3, ![2, 1024, 10256]⟩ (transpose ⟨4, ![2, 1024, 4, 2564]⟩ [1, 2, 0, 3] (shapeCast ⟨4, ![4, 2, 1024, 2564]⟩
              (extractStridedSlice ⟨3, ![4, 5128, 1024]⟩ ![0, 0, 0] (shapeCast ⟨3, ![4, 6688, 1024]⟩ w
                Cert.GradsRef.Gen.shapeCasts_S26752x1024_S4x6688x1024) Cert.GradsRef.Gen.slices_S4x6688x1024_S4x5128x1024_0_0_0)
              Cert.GradsRef.Gen.shapeCasts_S4x5128x1024_S4x2x1024x2564) Cert.GradsRef.Gen.transposes_S4x2x1024x2564_S2x1024x4x2564_1_2_0_3)
              Cert.GradsRef.Gen.shapeCasts_S2x1024x4x2564_S2x1024x10256)
    ∧ s.mem ((c.tc : Thread nD τ).loc main_v23)
        = Layout.blockN ⟨3, ![2, 512, 256]⟩ ⟨3, ![2, 512, 1024]⟩ (Layout.meshBlock [2, 2, 2] ![[], [], [0, 1]] c)
            (shapeCast ⟨3, ![2, 512, 1024]⟩ (transpose ⟨4, ![2, 512, 4, 256]⟩ [1, 2, 0, 3] (shapeCast ⟨4, ![4, 2, 512, 256]⟩
              (extractStridedSlice ⟨3, ![4, 256, 1024]⟩ ![0, 5128, 0] (shapeCast ⟨3, ![4, 6688, 1024]⟩ w
                Cert.GradsRef.Gen.shapeCasts_S26752x1024_S4x6688x1024) Cert.GradsRef.Gen.slices_S4x6688x1024_S4x256x1024_0_5128_0)
              Cert.GradsRef.Gen.shapeCasts_S4x256x1024_S4x2x512x256) Cert.GradsRef.Gen.transposes_S4x2x512x256_S2x512x4x256_1_2_0_3)
              Cert.GradsRef.Gen.shapeCasts_S2x512x4x256_S2x512x1024)
    ∧ s.mem ((c.tc : Thread nD τ).loc main_v26)
        = Layout.blockN ⟨3, ![2, 256, 1024]⟩ ⟨3, ![2, 1024, 1024]⟩ (Layout.meshBlock [2, 2, 2] ![[], [0, 1], []] c)
            (shapeCast ⟨3, ![2, 1024, 1024]⟩ (transpose ⟨4, ![2, 4, 256, 1024]⟩ [1, 0, 2, 3] (shapeCast ⟨4, ![4, 2, 256, 1024]⟩
              (extractStridedSlice ⟨3, ![4, 512, 1024]⟩ ![0, 5384, 0] (shapeCast ⟨3, ![4, 6688, 1024]⟩ w
                Cert.GradsRef.Gen.shapeCasts_S26752x1024_S4x6688x1024) Cert.GradsRef.Gen.slices_S4x6688x1024_S4x512x1024_0_5384_0)
              Cert.GradsRef.Gen.shapeCasts_S4x512x1024_S4x2x256x1024) Cert.GradsRef.Gen.transposes_S4x2x256x1024_S2x4x256x1024_1_0_2_3)
              Cert.GradsRef.Gen.shapeCasts_S2x4x256x1024_S2x1024x1024)
    ∧ s.mem ((c.tc : Thread nD τ).loc main_v29)
        = Layout.blockN ⟨3, ![2, 512, 256]⟩ ⟨3, ![2, 512, 1024]⟩ (Layout.meshBlock [2, 2, 2] ![[], [], [0, 1]] c)
            (shapeCast ⟨3, ![2, 512, 1024]⟩ (transpose ⟨4, ![2, 512, 4, 256]⟩ [1, 2, 0, 3] (shapeCast ⟨4, ![4, 2, 512, 256]⟩
              (extractStridedSlice ⟨3, ![4, 256, 1024]⟩ ![0, 5896, 0] (shapeCast ⟨3, ![4, 6688, 1024]⟩ w
                Cert.GradsRef.Gen.shapeCasts_S26752x1024_S4x6688x1024) Cert.GradsRef.Gen.slices_S4x6688x1024_S4x256x1024_0_5896_0)
              Cert.GradsRef.Gen.shapeCasts_S4x256x1024_S4x2x512x256) Cert.GradsRef.Gen.transposes_S4x2x512x256_S2x512x4x256_1_2_0_3)
              Cert.GradsRef.Gen.shapeCasts_S2x512x4x256_S2x512x1024)
    ∧ s.mem ((c.tc : Thread nD τ).loc main_v32)
        = Layout.blockN ⟨3, ![2, 256, 1024]⟩ ⟨3, ![2, 1024, 1024]⟩ (Layout.meshBlock [2, 2, 2] ![[], [0, 1], []] c)
            (shapeCast ⟨3, ![2, 1024, 1024]⟩ (transpose ⟨4, ![2, 4, 256, 1024]⟩ [1, 0, 2, 3] (shapeCast ⟨4, ![4, 2, 256, 1024]⟩
              (extractStridedSlice ⟨3, ![4, 512, 1024]⟩ ![0, 6152, 0] (shapeCast ⟨3, ![4, 6688, 1024]⟩ w
                Cert.GradsRef.Gen.shapeCasts_S26752x1024_S4x6688x1024) Cert.GradsRef.Gen.slices_S4x6688x1024_S4x512x1024_0_6152_0)
              Cert.GradsRef.Gen.shapeCasts_S4x512x1024_S4x2x256x1024) Cert.GradsRef.Gen.transposes_S4x2x256x1024_S2x4x256x1024_1_0_2_3)
              Cert.GradsRef.Gen.shapeCasts_S2x4x256x1024_S2x1024x1024)
    ∧ s.mem ((c.tc : Thread nD τ).loc main_arg0) = m ((c.tc : Thread nD τ).loc main_arg0) :=
  ⟨(hs _ (Pipeline.devRef_mem_ucRefs (by decide))).trans ((cut0 c _).trans ((congrArg (fun R => shapeCast _ (shapeCast _ (extractStridedSlice _ _ R _) _) _) (rows_eq m w hw c)).trans
      (last_eq w (chip c) c rfl (by decide) (by decide) (by decide) _ _ _ _ _ _ (by decide) _ _ _))),
    (hs _ (Pipeline.devRef_mem_ucRefs (by decide))).trans ((cut1 c _).trans ((congrArg (fun R => shapeCast _ (shapeCast _ (extractStridedSlice _ _ R _) _) _) (rows_eq m w hw c)).trans
      (last_eq w (chip c) c rfl (by decide) (by decide) (by decide) _ _ _ _ _ _ (by decide) _ _ _))),
    (hs _ (Pipeline.devRef_mem_ucRefs (by decide))).trans ((cut2 c _).trans ((congrArg (fun R => shapeCast _ (shapeCast _ (extractStridedSlice _ _ R _) _) _) (rows_eq m w hw c)).trans
      (middle_eq w (chip c) c rfl (by decide) (by decide) (by decide) _ _ _ _ _ _ (by decide) _ _ _))),
    (hs _ (Pipeline.devRef_mem_ucRefs (by decide))).trans ((cut3 c _).trans ((congrArg (fun R => shapeCast _ (shapeCast _ (extractStridedSlice _ _ R _) _) _) (rows_eq m w hw c)).trans
      (last_eq w (chip c) c rfl (by decide) (by decide) (by decide) _ _ _ _ _ _ (by decide) _ _ _))),
    (hs _ (Pipeline.devRef_mem_ucRefs (by decide))).trans ((cut4 c _).trans ((congrArg (fun R => shapeCast _ (shapeCast _ (extractStridedSlice _ _ R _) _) _) (rows_eq m w hw c)).trans
      (middle_eq w (chip c) c rfl (by decide) (by decide) (by decide) _ _ _ _ _ _ (by decide) _ _ _))),
    kept m c hs⟩

end Value

/-! ## The claims -/

/-- The exchange and the lines after it, as printed, end with the argument unchanged and every semaphore at zero. -/
theorem frame_kernel : Cert.quiescent_Grads := fun m ρ _ =>
  (θ_run (Cert.GradsIdeal.defs (F := Bits)) _ _).mono
    (fun _ h => ⟨fun c => kept m c (h.1 c), sem_eq_zero_of_scoped (by decide) h.2⟩) (run_main (F := Bits) m ρ)

/-- So does their reading over the reals. -/
theorem frame_ideal : Cert.quiescent_GradsIdeal := fun m ρ _ =>
  (θ_run (Cert.GradsIdeal.defs (F := Ideal)) _ _).mono
    (fun _ h => ⟨fun c => kept m c (h.1 c), sem_eq_zero_of_scoped (by decide) h.2⟩) (run_main (F := Ideal) m ρ)

/-- The reference, read over the reals, ends with its argument unchanged; it has no semaphore. -/
theorem frame_refIdeal : Cert.quiescent_GradsRefIdeal := fun m ρ _ =>
  (θ_run Cert.GradsRefIdeal.defs _ _).mono
    (fun r h => ⟨fun c => (h c).2.2.2.2.2, sem_eq_zero_of_no_sems (by decide) r.2⟩) (Cert.GradsRefIdeal.Value.run m ρ)

/-- So does the reference as printed. -/
theorem frame_ref : Cert.quiescent_GradsRef := fun m ρ _ =>
  (θ_run Cert.GradsRef.defs _ _).mono
    (fun r h => ⟨fun c => (h c).2.2.2.2.2, sem_eq_zero_of_no_sems (by decide) r.2⟩) (Cert.GradsRef.Value.run m ρ)

/-- Over the reals every gradient a device ends with is its block of the reference's. -/
theorem algebraic : Cert.algebraic_GradsIdeal_GradsRefIdeal := fun m g m' g' _ hw =>
  ⟨_, _, _, _, _,
    (θ_run (Cert.GradsIdeal.defs (F := Ideal)) _ _).mono (fun _ h c => grads_eq m _ hw c (h.1 c)) (run_main (F := Ideal) m g),
    (θ_run Cert.GradsRefIdeal.defs _ _).mono (fun _ h => h 0) (Cert.GradsRefIdeal.Value.run m' g')⟩

/-- Bit for bit, too, every gradient a device ends with is its block of the reference's. -/
theorem bitexact : Cert.bitexact_Grads_GradsRef := fun m g m' g' _ hw =>
  ⟨_, _, _, _, _,
    (θ_run (Cert.GradsIdeal.defs (F := Bits)) _ _).mono (fun _ h c => grads_eq m _ hw c (h.1 c)) (run_main (F := Bits) m g),
    (θ_run Cert.GradsRef.defs _ _).mono (fun _ h => h 0) (Cert.GradsRef.Value.run m' g')⟩

end Cert.GradsProof

end
-- ==== Proof.SumValue.lean ====
/-
# The sums of the reduce-scatter of the gradients

Each device adds what the other device of its chip sent to what it holds of its own half (`PairSum`), and what the three
other chips sent to the pair's sum for its own chip (`ChipSum`).  The second is done in blocks of 304 rows.
-/
module

public import proofs.«01_k».proof.Defs
public import proofs.«01_k».proof.Proof.Gen.PairSumIdeal.Value
public import proofs.«01_k».proof.Proof.Gen.PairSumRefIdeal.Run
public import proofs.«01_k».proof.Proof.Gen.PairSum.Value
public import proofs.«01_k».proof.Proof.Gen.PairSumRef.Run
public import proofs.«01_k».proof.Proof.Gen.ChipSumIdeal.Value
public import proofs.«01_k».proof.Proof.Gen.ChipSumRefIdeal.Run
public import Idealize.ShloMosaic.Lib.Pointwise
public import Idealize.ShloMosaic.Lib.IdealHost
public import Idealize.ShloMosaic.Lib.Quiescent

@[expose] public section

noncomputable section

open Idealize.ShloMosaic Idealize.ShloMosaic.TcCoe Idealize.SL.Sem
open Idealize.ShloMosaic.Pipeline (Dat)

namespace Cert.PairSumProof

/-- The pair's sum, and its rounding, are the reference's. -/
theorem algebraic : Cert.algebraic_PairSumIdeal_PairSumRefIdeal := fun m g m' g' _ hw =>
  ⟨_, _, Cert.PairSumIdeal.Value.run m g,
   (θ_run Cert.PairSumRefIdeal.defs _ _).mono (fun _ h c =>
      ⟨(h c).1.trans (by rw [(hw c).1, (hw c).2]; rfl), (h c).2.1.trans (by rw [(hw c).1, (hw c).2]; rfl), (h c).2.2⟩)
    (Cert.PairSumRefIdeal.Value.run m' g')⟩

/-- They are so bit for bit, too. -/
theorem bitexact : Cert.bitexact_PairSum_PairSumRef := fun m g m' g' _ hw =>
  ⟨_, _, Cert.PairSum.Value.run m g,
   (θ_run Cert.PairSumRef.defs _ _).mono (fun _ h c =>
      ⟨(h c).1.trans (by rw [(hw c).1, (hw c).2]; rfl), (h c).2.1.trans (by rw [(hw c).1, (hw c).2]; rfl), (h c).2.2⟩)
    (Cert.PairSumRef.Value.run m' g')⟩

end Cert.PairSumProof

namespace Cert.ChipSumProof

open Cert.ChipSumIdeal Cert.ChipSumIdeal.Gen

section

variable {F : FTy → Type} [FloatOps F]
variable (m : (ℓ : Loc nD τ sig) → Buf (Elt F) ℓ) (ρ : Dev nD → PrngReg)

/-- Where slot `k` of what was received holds what is added to element `i`. -/
abbrev slot (k : Fin 3) (i : S3344x1024.Idx) : S3x3344x1024.Idx := ValueIdx.ix3 k (i 0) (i 1)

/-- The three slots of `r` added to `a`, one after the other. -/
abbrev total (a : S3344x1024.Idx → Elt F .f32) (r : S3x3344x1024.Idx → Elt F .bf16) : S3344x1024.Idx → Elt F .f32 := fun i =>
  FloatOps.addf (FloatOps.addf (FloatOps.addf (a i) (FloatOps.extf .f32 bitsLt_bf16_f32 (r (slot 0 i))))
    (FloatOps.extf .f32 bitsLt_bf16_f32 (r (slot 1 i)))) (FloatOps.extf .f32 bitsLt_bf16_f32 (r (slot 2 i)))

/-- The blocks of the two arguments and of the result at a point are the same rows. -/
theorem places : ∀ t : Fin cfg0.N, win0_0.index t (0 : Fin 2) = win0_2.index t (0 : Fin 2) ∧ win0_0.index t (1 : Fin 2) = 0
    ∧ win0_1.index t (0 : Fin 3) = 0 ∧ win0_1.index t (1 : Fin 3) = win0_2.index t (0 : Fin 2) ∧ win0_1.index t (2 : Fin 3) = 0
    ∧ win0_2.index t (0 : Fin 2) = t.val ∧ win0_2.index t (1 : Fin 2) = 0 :=
  (by decide +kernel : ∀ t : Fin grid0.N, _)

/-- What a point writes back is its block of the total. -/
theorem flushed_eq (c : Dev nD) (t : Fin cfg0.N) :
    (dats m 0 c).flushed 2 t = ((cfg0.win 2).blk t).view.read (Elt F) (total (V m c main_arg0) (V m c main_arg1)) := by
  rw [Value.flushed2]
  obtain ⟨e0, e1, e2, e3, e4, e5, e6⟩ := places t
  funext j
  have hj0 : (j 0).val < 304 := (j 0).isLt
  have hj1 : (j 1).val < 1024 := (j 1).isLt
  refine (Value.canon2_eq (View.ld (iblk m c 0 t) r0_0) (View.ld (iblk m c 1 t) r0_1) (View.ld (iblk m c 1 t) r0_2) (View.ld (iblk m c 1 t) r0_3) j).trans ?_
  have a : View.ld (iblk m c 0 t) r0_0 (Value.ix2_0 j) = V m c main_arg0 (((cfg0.win 2).blk t).view.emb j) := by
    refine congrArg (V m c main_arg0) (funext fun b => Fin.ext ?_)
    fin_cases b
    · show win0_0.index t (0 : Fin 2) * 304 + 1 * (0 + 1 * (j 0).val) = win0_2.index t (0 : Fin 2) * 304 + 1 * (j 0).val; omega
    · show win0_0.index t (1 : Fin 2) * 1024 + 1 * (0 + 1 * (j 1).val) = win0_2.index t (1 : Fin 2) * 1024 + 1 * (j 1).val; omega
  have b (k : Fin 3) (off : Fin 3 → ℕ) (h : ∀ a, off a + S1x304x1024.size a ≤ S3x304x1024.size a) (h0 : off 0 = k.val) (h1 : off 1 = 0) (h2 : off 2 = 0) :
      View.ld (iblk m c 1 t) (Rect.unit (s := S3x304x1024) off S1x304x1024.size h) (Value.ix2_1 j)
        = V m c main_arg1 (slot k (((cfg0.win 2).blk t).view.emb j)) := by
    refine congrArg (V m c main_arg1) (funext fun b => Fin.ext ?_)
    fin_cases b
    · show win0_1.index t (0 : Fin 3) * 3 + 1 * (off 0 + 1 * 0) = k.val; omega
    · show win0_1.index t (1 : Fin 3) * 304 + 1 * (off 1 + 1 * (j 0).val) = win0_2.index t (0 : Fin 2) * 304 + 1 * (j 0).val; omega
    · show win0_1.index t (2 : Fin 3) * 1024 + 1 * (off 2 + 1 * (j 1).val) = win0_2.index t (1 : Fin 2) * 1024 + 1 * (j 1).val; omega
  refine congrArg₂ FloatOps.addf (congrArg₂ FloatOps.addf (congrArg₂ FloatOps.addf a (congrArg (FloatOps.extf .f32 bitsLt_bf16_f32) ?_))
    (congrArg (FloatOps.extf .f32 bitsLt_bf16_f32) ?_)) (congrArg (FloatOps.extf .f32 bitsLt_bf16_f32) ?_)
  · exact b 0 _ _ rfl rfl rfl
  · exact b 1 _ _ rfl rfl rfl
  · exact b 2 _ _ rfl rfl rfl

/-- The elements of a point's block are those of its rows. -/
theorem mem_rows (t : Fin cfg0.N) (i : S3344x1024.Idx) :
    i ∈ ((cfg0.win 2).blk t).view.set ↔ ∀ a, win0_2.index t a * S304x1024.size a ≤ (i a).val ∧ (i a).val < win0_2.index t a * S304x1024.size a + S304x1024.size a := by
  show i ∈ ((View.whole main_v0).slice (win0_2.rect t)).set ↔ _
  rw [View.set_slice_whole, Rect.mem_set_unit]

/-- An element is in the block of the point that has its row. -/
theorem cover (i : S3344x1024.Idx) : ∃ t : Fin cfg0.N, (cfg0.win 2).flush t = true ∧ i ∈ ((cfg0.win 2).blk t).view.set := by
  have h0 : (i 0).val < 3344 := (i 0).isLt
  have h1 : (i 1).val < 1024 := (i 1).isLt
  have hN : cfg0.N = 11 := N_0
  obtain ⟨e0, e1, e2, e3, e4, e5, e6⟩ := places ⟨(i 0).val / 304, by omega⟩
  refine ⟨⟨(i 0).val / 304, by omega⟩, flush0_2 _, ?_⟩
  rw [mem_rows]
  intro a
  fin_cases a
  · show win0_2.index _ (0 : Fin 2) * 304 ≤ (i 0).val ∧ (i 0).val < win0_2.index _ (0 : Fin 2) * 304 + 304
    rw [e5]; dsimp only; omega
  · show win0_2.index _ (1 : Fin 2) * 1024 ≤ (i 1).val ∧ (i 1).val < win0_2.index _ (1 : Fin 2) * 1024 + 1024
    rw [e6]; omega

/-- The result is the total. -/
theorem final (c : Dev nD) : (dats m 0 c).arrAt 2 cfg0.N = total (m ((c : Thread nD τ).loc main_arg0)) (m ((c : Thread nD τ).loc main_arg1)) :=
  (dats m 0 c).arrAt_eq_of_cover 2 _ (fun t _ => flushed_eq m c t) cover

end

/-- Over the reals the total is the sum over the slots, added. -/
theorem total_eq (a : FVec Ideal S3344x1024 .f32) (r : FVec Ideal S3x3344x1024 .bf16) (h : S3x3344x1024.ReducesTo [0] S3344x1024) (z : FVec Ideal Cert.ChipSumRefIdeal.S_ .f32) (hz : ∀ i, z i = 0)
    (hs : 0 < Cert.ChipSumRefIdeal.S_.numel) :
    total (F := Ideal) a r = addf a (Host.reduceAdd (extf .f32 r bitsLt_bf16_f32) z h hs) := by
  funext i
  refine Eq.trans ?_ (congrArg (fun y => (a i : EReal) + y)
    ((ValueIdx.hostReduceAdd_apply (extf .f32 r bitsLt_bf16_f32) z h hs i).trans (Ideal.hostReduceAdd_r3_a0 h _ _ i)).symm)
  rw [hz, zero_add, Fin.sum_univ_three]
  show ((a i : EReal) + r (slot 0 i)) + r (slot 1 i) + r (slot 2 i) = (a i : EReal) + (r (slot 0 i) + r (slot 1 i) + r (slot 2 i))
  rw [add_assoc, add_assoc, ← add_assoc (r (slot 0 i) : EReal)]

/-- The result is the reference's. -/
theorem algebraic : Cert.algebraic_ChipSumIdeal_ChipSumRefIdeal := fun m g m' g' _ hw =>
  ⟨fun c => total (m ((c : Thread nD τ).loc main_arg0)) (m ((c : Thread nD τ).loc main_arg1)),
   (θ_run defs _ _).mono (fun _ h c => ⟨(h c).1.trans (final m c), (h c).2⟩) (Value.run_blocks m g),
   (θ_run Cert.ChipSumRefIdeal.defs _ _).mono (fun _ h c =>
      ⟨(h c).1.trans (by rw [(hw c).1, (hw c).2]; exact (total_eq _ _ _ _ (fun _ => Ideal.ofBits_zero_f32) _).symm), (h c).2⟩)
    (Cert.ChipSumRefIdeal.Value.run m' g')⟩

end Cert.ChipSumProof

end
-- ==== Proof.NormRow.lean ====
/-
# The gradient of one row of the root-mean-square norm

For a row `x` of length 1024, the norm is `x_j / √u · g_j` with `u = (Σ x_k²)/1024 + ε`.  With `d` the gradient of its
output, the gradient of `x` can be written in two ways:

* `r · (d_j g_j − x_j r · (Σ d_k g_k x_k r)/1024)` with `r = 1/√u`, and
* as the chain rule gives it, through the square root, the mean and the square: `d_j g_j r + 2 · x_j · a`, where `a` is
  `(Σ x_k d_k g_k) · (−½) · (r/u) / 1024`.

The two are equal because `r² = 1/u`.  They are so on the extended reals, whatever the numbers are: where a number of the row
is infinite, `u` is and `r` is zero, and both are zero; otherwise `r` is a positive real number, which goes into sums of
extended reals.
-/
module

public import Idealize.ShloMosaic.Lib.IdealHost

@[expose] public section

noncomputable section

open Idealize.ShloMosaic

namespace Cert.NormRow

/-- The numbers of the row, as the program has them: its length, the small number ε added to the mean, and one half taken off. -/
abbrev len : EReal := Ideal.ofBits .f32 0x44800000#32
@[inherit_doc len] abbrev eps : EReal := Ideal.ofBits .f32 0x358637BD#32
@[inherit_doc len] abbrev half : EReal := Ideal.ofBits .f32 0xBF000000#32

theorem len_eq : len = ((1024 : ℝ) : EReal) := by
  simp [len, Ideal.ofBits, Ideal.ieee, -EReal.coe_mul]; norm_num

theorem half_eq : half = ((-(1 / 2) : ℝ) : EReal) := by
  simp [half, Ideal.ofBits, Ideal.ieee, -EReal.coe_mul, -EReal.coe_neg]; norm_num

theorem eps_eq : ∃ e : ℝ, 0 < e ∧ eps = (e : EReal) := by
  refine ⟨8796093 * (2 : ℝ) ^ (-43 : ℤ), by positivity, ?_⟩
  simp [eps, Ideal.ofBits, Ideal.ieee, -EReal.coe_mul]

/-- The sum of real numbers is their sum as extended reals. -/
theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

/-- The reciprocal root of the mean of the squares and ε. -/
abbrev root (x : Fin 1024 → EReal) : EReal := Ideal.rsqrt (Ideal.div (∑ k, x k * x k) len + eps)

/-- The gradient of the row as the kernel has it. -/
abbrev direct (x d g : Fin 1024 → EReal) (j : Fin 1024) : EReal :=
  root x * (d j * g j - x j * root x * Ideal.div (∑ k, d k * g k * (x k * root x)) len)

/-- What the chain rule passes on through the mean of the squares. -/
abbrev through (x d g : Fin 1024 → EReal) : EReal :=
  Ideal.div ((∑ k, x k * (d k * g k)) * (half * Ideal.div (root x) (Ideal.div (∑ k, x k * x k) len + eps))) len

/-- The gradient of the row by the chain rule. -/
abbrev chained (x d g : Fin 1024 → EReal) (j : Fin 1024) : EReal :=
  d j * g j * root x + x j * through x d g + through x d g * x j

/-- A real factor that is not negative goes into a sum of extended reals. -/
theorem sum_mul {n : ℕ} (f : Fin n → EReal) {r : ℝ} (hr : 0 ≤ r) : (∑ k, f k) * (r : EReal) = ∑ k, f k * (r : EReal) := by
  induction n with
  | zero => simp
  | succ n ih =>
    rw [Fin.sum_univ_succ, Fin.sum_univ_succ, ← ih, EReal.right_distrib_of_nonneg_of_ne_top (EReal.coe_nonneg.mpr hr) (EReal.coe_ne_top r)]

/-- Twice a real multiple of an extended real. -/
theorem twice (s : EReal) (a : ℝ) : s * (a : EReal) + s * (a : EReal) = s * ((2 * a : ℝ) : EReal) := by
  induction s with
  | coe s => rw [← EReal.coe_mul, ← EReal.coe_mul, ← EReal.coe_add]; congr 1; ring
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

/-- They are equal for a row of real numbers. -/
theorem chained_eq_of_real (X : Fin 1024 → ℝ) (d g : Fin 1024 → EReal) (j : Fin 1024) :
    chained (fun k => (X k : EReal)) d g j = direct (fun k => (X k : EReal)) d g j := by
  obtain ⟨e, he, hε⟩ := eps_eq
  have hu : 0 < (∑ k, X k * X k) * (1 / 1024) + e :=
    add_pos_of_nonneg_of_pos (mul_nonneg (Finset.sum_nonneg fun k _ => mul_self_nonneg _) (by norm_num)) he
  have n0 : (1024 : ℝ) ≠ 0 := by norm_num
  simp only [chained, direct, through, root, len_eq, half_eq, hε, ← EReal.coe_mul, coe_sum, Ideal.div_coe n0, ← EReal.coe_add,
    Ideal.rsqrt_coe, if_neg (not_lt.mpr hu.le), if_neg hu.ne', Ideal.div_coe hu.ne']
  set u := (∑ k, X k * X k) * (1 / 1024) + e with hU
  set r := (√u)⁻¹ with hr
  have hr0 : 0 ≤ r := inv_nonneg.mpr (Real.sqrt_nonneg u)
  have hrr : 1 / u = r * r := by
    rw [hr, ← mul_inv, Real.mul_self_sqrt hu.le, one_div]
  have hs : (∑ k, d k * g k * ((X k * r : ℝ) : EReal)) = (∑ k, (X k : EReal) * (d k * g k)) * (r : EReal) := by
    rw [sum_mul _ hr0]
    exact Finset.sum_congr rfl fun k _ => by rw [EReal.coe_mul, ← mul_assoc, mul_comm (d k * g k)]
  rw [hrr, hs]
  generalize (∑ k, (X k : EReal) * (d k * g k)) = s
  generalize d j * g j = p
  rw [sub_eq_add_neg, EReal.left_distrib_of_nonneg_of_ne_top (EReal.coe_nonneg.mpr hr0) (EReal.coe_ne_top r), add_assoc, mul_comm p]
  congr 1
  have e1 : (X j : EReal) * (s * ((-(1 / 2) * (r * (r * r)) : ℝ) : EReal) * ((1 / 1024 : ℝ) : EReal))
      = s * ((X j * (-(1 / 2) * (r * (r * r))) * (1 / 1024) : ℝ) : EReal) := by
    simp only [EReal.coe_mul]; ac_rfl
  have e2 : ((X j * r : ℝ) : EReal) * (s * (r : EReal) * ((1 / 1024 : ℝ) : EReal)) = s * ((X j * r * r * (1 / 1024) : ℝ) : EReal) := by
    simp only [EReal.coe_mul]; ac_rfl
  rw [mul_comm _ (X j : EReal), e1, e2, twice, ← mul_neg, ← EReal.coe_neg, mul_comm (r : EReal), mul_assoc s, ← EReal.coe_mul]
  congr 2
  ring

/-- A square is not negative. -/
theorem sq_nonneg (x : EReal) : 0 ≤ x * x := by
  induction x with
  | coe r => rw [← EReal.coe_mul]; exact EReal.coe_nonneg.mpr (mul_self_nonneg r)
  | top => exact le_of_lt (by rw [EReal.top_mul_top]; exact EReal.coe_lt_top 0)
  | bot => exact le_of_lt (by rw [EReal.bot_mul_bot]; exact EReal.coe_lt_top 0)

/-- Where a number of the row is infinite, the mean of the squares is, and its reciprocal root is zero. -/
theorem mean_top (x : Fin 1024 → EReal) (h : ∃ k, x k * x k = ⊤) : Ideal.div (∑ k, x k * x k) len + eps = ⊤ := by
  obtain ⟨k, hk⟩ := h
  have e : ∑ k, x k * x k = ⊤ := top_le_iff.mp (hk ▸ Finset.single_le_sum (f := fun k => x k * x k) (fun k _ => sq_nonneg _) (Finset.mem_univ k))
  obtain ⟨ε, -, hε⟩ := eps_eq
  rw [e, len_eq, Ideal.div_coe (by norm_num), EReal.top_mul_coe_of_pos (by norm_num), hε]
  exact EReal.top_add_coe ε

/-- They are equal for every row. -/
theorem chained_eq (x d g : Fin 1024 → EReal) (j : Fin 1024) : chained x d g j = direct x d g j := by
  by_cases h : ∃ k, x k * x k = ⊤
  · have n0 : (1024 : ℝ) ≠ 0 := by norm_num
    have z : Ideal.div 0 ⊤ = 0 := by rw [Ideal.div, if_neg EReal.top_ne_zero, zero_mul]
    simp only [chained, direct, through, root, mean_top x h, Ideal.rsqrt_top, z]
    simp only [len_eq, Ideal.div_coe n0, zero_mul, mul_zero, add_zero]
  · have hx (k : Fin 1024) : ∃ r : ℝ, x k = (r : EReal) := by
      have hk : ¬x k * x k = ⊤ := fun e => h ⟨k, e⟩
      generalize x k = y at hk
      induction y with
      | coe r => exact ⟨r, rfl⟩
      | top => exact absurd EReal.top_mul_top hk
      | bot => exact absurd EReal.bot_mul_bot hk
    choose X hX using hx
    obtain rfl : x = fun k => (X k : EReal) := funext hX
    exact chained_eq_of_real X d g j

end Cert.NormRow

end
-- ==== Proof.DxValue.lean ====
/-
# The gradient of the layer's input

What the kernel computes of every row is the chain rule's gradient of that row's norm, with what the layer passes on
beside the norm added.  The kernel goes over the rows in blocks of 512.
-/
module

public import proofs.«01_k».proof.Defs
public import proofs.«01_k».proof.Proof.Gen.DxIdeal.Frame
public import proofs.«01_k».proof.Proof.NormRow
public import Idealize.ShloMosaic.Lib.Pipeline.Value
public import Idealize.ShloMosaic.Lib.Pointwise
public import Idealize.ShloMosaic.Lib.IdealHost

@[expose] public section

noncomputable section

open Idealize.ShloMosaic Idealize.ShloMosaic.TcCoe Idealize.SL.Sem
open Idealize.ShloMosaic.Pipeline (Dat)

namespace Cert.DxProof

open Cert.DxIdeal Cert.DxIdeal.Gen Cert.NormRow

/-- What the kernel stores for a block of rows: each row's gradient, with what is passed on beside it added. -/
theorem stored (x d : FVec Ideal S512x1024 .f32) (g : FVec Ideal S1x1024 .f32) (y : FVec Ideal S512x1024 .f32) (j : S512x1024.Idx) :
    (k0_pay5 (F := Ideal) x d g y j : EReal)
      = direct (fun k => x (ix2 (j 0) k)) (fun k => d (ix2 (j 0) k)) (fun k => g (ix2 0 k)) (j 1) + y j := by
  obtain ⟨a, b, rfl⟩ : ∃ a b, j = ix2 a b := ⟨j 0, j 1, eq_ix2 j⟩
  pointwise [k0_pay5, k0_pay4, k0_pay3]

section

variable (m : (ℓ : Loc nD τ sig) → Buf (Elt Ideal) ℓ) (ρ : Dev nD → PrngReg)

theorem hz : (![0, 0] : Fin 2 → ℕ) = fun _ => 0 := by
  funext a; fin_cases a <;> rfl

/-- What the first point leaves for its rows. -/
theorem left_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc : cond0_0 i)
    (x0 : Vec Ideal S512x1024 .f32) (x1 : Vec Ideal S512x1024 .f32) (x2 : Vec Ideal S1x1024 .f32) (x3 : Vec Ideal S512x1024 .f32) :
    out0_A_4 c i arg1 harg1 arg2 harg2 arg3 harg3 arg4 harg4 arg5 harg5 arg6 harg6 hc x0 x1 x2 x3 = k0_pay5 (F := Ideal) x0 x1 x2 x3 := by
  unfold out0_A_4
  rw [View.read_writes_eq_canon _ _ _ (cover0_A_4 c i arg1 harg1 arg2 harg2 arg3 harg3 arg4 harg4 arg5 harg5 arg6 harg6 hc x0 x1 x2 x3)]
  unfold kernelRun0_A
  dsimp only
  rw [View.canon_unit_zero hz]
  simp only [View.readAt_eq_ld, harg1.read_unread, harg2.read_unread, harg3.read_unread, harg4.read_unread,
    View.ld_unit_zero (S := S512x1024) hz, View.ld_unit_zero (S := S1x1024) hz]

/-- What a later point leaves for its rows: the same; what it holds of the other result does not matter. -/
theorem left_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc : ¬cond0_0 i)
    (x0 : Vec Ideal S512x1024 .f32) (x1 : Vec Ideal S512x1024 .f32) (x2 : Vec Ideal S1x1024 .f32) (x3 : Vec Ideal S512x1024 .f32) (xo5 : Vec Ideal S8x1024 .f32) :
    out0_B_4 c i arg1 harg1 arg2 harg2 arg3 harg3 arg4 harg4 arg5 harg5 arg6 harg6 hc x0 x1 x2 x3 xo5 = k0_pay5 (F := Ideal) x0 x1 x2 x3 := by
  unfold out0_B_4
  rw [View.read_writes_eq_canon _ _ _ (cover0_B_4 c i arg1 harg1 arg2 harg2 arg3 harg3 arg4 harg4 arg5 harg5 arg6 harg6 hc x0 x1 x2 x3 xo5)]
  unfold kernelRun0_B
  dsimp only
  rw [View.canon_unit_zero hz]
  simp only [View.readAt_eq_ld, harg1.read_unread, harg2.read_unread, harg3.read_unread, harg4.read_unread,
    View.ld_unit_zero (S := S512x1024) hz, View.ld_unit_zero (S := S1x1024) hz]

/-- The result: of every row the gradient, with what is passed on beside it added. -/
abbrev result (x d : FVec Ideal S8192x1024 .f32) (g : FVec Ideal S1x1024 .f32) (y : FVec Ideal S8192x1024 .f32) : FVec Ideal S8192x1024 .f32 := fun i =>
  (direct (fun k => x (ix2 (i 0) k)) (fun k => d (ix2 (i 0) k)) (fun k => g (ix2 0 k)) (i 1) + y i : EReal)

/-- The blocks of the arguments and of the result at a point are the same rows; the norm's weights are there whole. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ win0_4.index t (0 : Fin 2) = t.val ∧ win0_4.index t (1 : Fin 2) = 0 :=
  (by decide +kernel : ∀ t : Fin grid0.N, _)

/-- What a point writes back is its block of the result. -/
theorem flushed_eq (c : Dev nD) (t : Fin cfg0.N) :
    (dats m 0 c).flushed 4 t = ((cfg0.win 4).blk t).view.read (Elt Ideal)
      (result (V m c main_arg0) (V m c main_arg1) (V m c main_arg2) (V m c main_arg3)) := by
  have e : (dats m 0 c).flushed 4 t = (cfg0.win 4).cut (grid0.coords t) (k0_pay5 (F := Ideal) (iblk m c 0 t) (iblk m c 1 t) (iblk m c 2 t) (iblk m c 3 t)) := by
    show (cfg0.win 4).cut (grid0.coords t) ((dats m 0 c).after 4 t) = _
    rw [after0_4]
    by_cases h0 : t.val % 16 = 0
    · rw [outsAt0_A m c t h0, left_A]
    · rw [outsAt0_B m c t h0, left_B]
  rw [e]
  obtain ⟨⟨a0, a1⟩, ⟨b0, b1⟩, ⟨c0, c1⟩, ⟨d0, d1⟩, e0, e1⟩ := places t
  funext j
  have hj0 : (j 0).val < 512 := (j 0).isLt
  have hj1 : (j 1).val < 1024 := (j 1).isLt
  refine (stored _ _ _ _ j).trans ?_
  have hx (k : Fin 1024) : iblk m c 0 t (ix2 (j 0) k) = V m c main_arg0 (ix2 ((((cfg0.win 4).blk t).view.emb j) 0) k) := by
    refine congrArg (V m c main_arg0) (funext fun b => Fin.ext ?_)
    fin_cases b
    · show win0_0.index t (0 : Fin 2) * 512 + 1 * (j 0).val = win0_4.index t (0 : Fin 2) * 512 + 1 * (j 0).val; omega
    · show win0_0.index t (1 : Fin 2) * 1024 + 1 * k.val = k.val; omega
  have hd (k : Fin 1024) : iblk m c 1 t (ix2 (j 0) k) = V m c main_arg1 (ix2 ((((cfg0.win 4).blk t).view.emb j) 0) k) := by
    refine congrArg (V m c main_arg1) (funext fun b => Fin.ext ?_)
    fin_cases b
    · show win0_1.index t (0 : Fin 2) * 512 + 1 * (j 0).val = win0_4.index t (0 : Fin 2) * 512 + 1 * (j 0).val; omega
    · show win0_1.index t (1 : Fin 2) * 1024 + 1 * k.val = k.val; omega
  have hg (k : Fin 1024) : iblk m c 2 t (ix2 0 k) = V m c main_arg2 (ix2 0 k) := by
    refine congrArg (V m c main_arg2) (funext fun b => Fin.ext ?_)
    fin_cases b
    · show win0_2.index t (0 : Fin 2) * 1 + 1 * 0 = 0; omega
    · show win0_2.index t (1 : Fin 2) * 1024 + 1 * k.val = k.val; omega
  have hy : iblk m c 3 t j = V m c main_arg3 (((cfg0.win 4).blk t).view.emb j) := by
    refine congrArg (V m c main_arg3) (funext fun b => Fin.ext ?_)
    fin_cases b
    · show win0_3.index t (0 : Fin 2) * 512 + 1 * (j 0).val = win0_4.index t (0 : Fin 2) * 512 + 1 * (j 0).val; omega
    · show win0_3.index t (1 : Fin 2) * 1024 + 1 * (j 1).val = win0_4.index t (1 : Fin 2) * 1024 + 1 * (j 1).val; omega
  have hj : j 1 = (((cfg0.win 4).blk t).view.emb j) 1 := by
    refine Fin.ext ?_
    show (j 1).val = win0_4.index t (1 : Fin 2) * 1024 + 1 * (j 1).val; omega
  rw [hy, funext hx, funext hd, funext hg, hj]
  rfl

/-- The elements of a point's block are those of its rows. -/
theorem mem_rows (t : Fin cfg0.N) (i : S8192x1024.Idx) :
    i ∈ ((cfg0.win 4).blk t).view.set ↔ ∀ a, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]

/-- An element is in the block of the point that has its row. -/
theorem cover (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN : cfg0.N = 16 := N_0
  obtain ⟨-, -, -, -, e0, e1⟩ := places ⟨(i 0).val / 512, by omega⟩
  refine ⟨⟨(i 0).val / 512, by omega⟩, flush0_4 _, ?_⟩
  rw [mem_rows]
  intro a
  fin_cases a
  · show win0_4.index _ (0 : Fin 2) * 512 ≤ (i 0).val ∧ (i 0).val < win0_4.index _ (0 : Fin 2) * 512 + 512
    rw [e0]; dsimp only; omega
  · show win0_4.index _ (1 : Fin 2) * 1024 ≤ (i 1).val ∧ (i 1).val < win0_4.index _ (1 : Fin 2) * 1024 + 1024
    rw [e1]; omega

/-- The kernel's result is that, of the whole arrays. -/
theorem final (c : Dev nD) : (dats m 0 c).arrAt 4 cfg0.N = result (m ((c : Thread nD τ).loc main_arg0)) (m ((c : Thread nD τ).loc main_arg1))
    (m ((c : Thread nD τ).loc main_arg2)) (m ((c : Thread nD τ).loc main_arg3)) :=
  (dats m 0 c).arrAt_eq_of_cover 4 _ (fun t _ => flushed_eq m c t) cover

end

end Cert.DxProof

end
-- ==== Proof.DxWeights.lean ====
/-
# The gradient of the norm's weights

The kernel adds up, over the blocks of rows, what every row gives to the gradient of the norm's weights: of each column,
the gradient of the norm's output times the normed input.  The sum is the first row of the second result; what the
kernel keeps in the seven other rows is not read.
-/
module

public import proofs.«01_k».proof.Proof.DxValue

@[expose] public section

noncomputable section

open Idealize.ShloMosaic Idealize.ShloMosaic.TcCoe Idealize.SL.Sem
open Idealize.ShloMosaic.Pipeline (Dat)

namespace Cert.DxProof

open Cert.DxIdeal Cert.DxIdeal.Gen Cert.NormRow

/-- What the kernel makes of the second result at a block of rows, from what it holds. -/
abbrev step (x d : FVec Ideal S512x1024 .f32) (o : FVec Ideal S8x1024 .f32) : FVec Ideal S8x1024 .f32 :=
  k0_pay1 (F := Ideal) (k0_pay6 o) (k0_pay7 x d) (Scalar.ofBits .f32 0x00000000#32)

/-- What a block of rows gives to the gradient of a weight. -/
def blockShare (x d : FVec Ideal S512x1024 .f32) (j : Fin 1024) : EReal :=
  ∑ r : Fin 512, d (ix2 r j) * (x (ix2 r j) * root (fun k => x (ix2 r k)))

/-- It is added to the first row. -/
theorem added (x d : FVec Ideal S512x1024 .f32) (o : FVec Ideal S8x1024 .f32) (j : Fin 1024) :
    (step x d o (ix2 0 j) : EReal) = o (ix2 0 j) + blockShare x d j := by
  unfold blockShare
  pointwise [step, k0_pay1, k0_pay6, k0_pay7, k0_pay4, k0_pay3]

section

variable (m : (ℓ : Loc nD τ sig) → Buf (Elt Ideal) ℓ) (ρ : Dev nD → PrngReg)

/-- What the first point leaves for the weights: it starts from zero. -/
theorem weights_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc : cond0_0 i)
    (x0 : Vec Ideal S512x1024 .f32) (x1 : Vec Ideal S512x1024 .f32) (x2 : Vec Ideal S1x1024 .f32) (x3 : Vec Ideal S512x1024 .f32) :
    out0_A_5 c i arg1 harg1 arg2 harg2 arg3 harg3 arg4 harg4 arg5 harg5 arg6 harg6 hc x0 x1 x2 x3
      = step x0 x1 (k0_pay2 (F := Ideal)) := by
  unfold out0_A_5
  rw [View.read_writes_eq_canon _ _ _ (cover0_A_5 c i arg1 harg1 arg2 harg2 arg3 harg3 arg4 harg4 arg5 harg5 arg6 harg6 hc x0 x1 x2 x3)]
  unfold kernelRun0_A
  dsimp only
  sl_unfold_words
  rw [View.canon_cons_unit_zero (S := S8x1024) hz, View.readCov_unit_zero (S := S8x1024) _ hz]
  refine congrArg₂ (fun a b => step a b (k0_pay2 (F := Ideal))) ?_ ?_
  · rw [View.readAt_eq_ld, harg1.read_unread, View.ld_unit_zero (S := S512x1024) hz]
  · rw [View.readAt_eq_ld, harg2.read_unread, View.ld_unit_zero (S := S512x1024) hz]

/-- What a later point leaves for them: it adds to what the point before left. -/
theorem weights_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc : ¬cond0_0 i)
    (x0 : Vec Ideal S512x1024 .f32) (x1 : Vec Ideal S512x1024 .f32) (x2 : Vec Ideal S1x1024 .f32) (x3 : Vec Ideal S512x1024 .f32) (xo5 : Vec Ideal S8x1024 .f32) :
    out0_B_5 c i arg1 harg1 arg2 harg2 arg3 harg3 arg4 harg4 arg5 harg5 arg6 harg6 hc x0 x1 x2 x3 xo5
      = step x0 x1 xo5 := by
  unfold out0_B_5
  rw [View.read_writes_eq_canon _ _ _ (cover0_B_5 c i arg1 harg1 arg2 harg2 arg3 harg3 arg4 harg4 arg5 harg5 arg6 harg6 hc x0 x1 x2 x3 xo5)]
  unfold kernelRun0_B
  dsimp only
  rw [View.canon_unit_zero hz]
  refine (congrArg₂ (fun a b => step a b _) ?_ ?_).trans (congrArg (step x0 x1) ?_)
  · rw [View.readAt_eq_ld, harg1.read_unread, View.ld_unit_zero (S := S512x1024) hz]
  · rw [View.readAt_eq_ld, harg2.read_unread, View.ld_unit_zero (S := S512x1024) hz]
  · rw [View.readAt_eq_ld, harg6.read_unread, View.ld_unit_zero (S := S8x1024) hz]

/-- What the points leave for them. -/
theorem weights_first (c : Dev nD) (t : Fin cfg0.N) (h0 : t.val % 16 = 0) :
    (outsAt0 m c t.val t.isLt).2 = step (iblk m c 0 t) (iblk m c 1 t) (k0_pay2 (F := Ideal)) := by
  rw [outsAt0_A m c t h0, weights_A]

@[inherit_doc weights_first]
theorem weights_later (c : Dev nD) (t : Fin cfg0.N) (h0 : ¬t.val % 16 = 0) :
    (outsAt0 m c t.val t.isLt).2 = step (iblk m c 0 t) (iblk m c 1 t) (outsAt0 m c (t.val - 1) (Nat.lt_of_le_of_lt (Nat.sub_le _ _) t.isLt)).2 := by
  rw [outsAt0_B m c t h0, weights_B]

/-- What row `k` gives to the gradient of the norm's weights; nothing past the last row. -/
abbrev share (x d : FVec Ideal S8192x1024 .f32) (j : Fin 1024) (k : ℕ) : EReal :=
  if h : k < 8192 then d (ix2 ⟨k, h⟩ j) * (x (ix2 ⟨k, h⟩ j) * root (fun l => x (ix2 ⟨k, h⟩ l))) else 0

/-- The rows of a point's block give what the rows of the array there give. -/
theorem block_shares (c : Dev nD) (t : Fin cfg0.N) (j : Fin 1024) :
    blockShare (iblk m c 0 t) (iblk m c 1 t) j = ∑ r ∈ Finset.range 512, share (V m c main_arg0) (V m c main_arg1) j (512 * t.val + r) := by
  unfold blockShare
  rw [Finset.sum_range]
  have hN : cfg0.N = 16 := N_0
  obtain ⟨⟨a0, a1⟩, ⟨b0, b1⟩, -⟩ := places t
  refine Finset.sum_congr rfl fun r _ => ?_
  have hk : 512 * t.val + r.val < 8192 := by have := t.isLt; omega
  have hx (l : Fin 1024) : iblk m c 0 t (ix2 r l) = V m c main_arg0 (ix2 ⟨512 * t.val + r.val, hk⟩ l) := by
    refine congrArg (V m c main_arg0) (funext fun b => Fin.ext ?_)
    fin_cases b
    · show win0_0.index t (0 : Fin 2) * 512 + 1 * r.val = 512 * t.val + r.val; omega
    · show win0_0.index t (1 : Fin 2) * 1024 + 1 * l.val = l.val; omega
  have hd : iblk m c 1 t (ix2 r j) = V m c main_arg1 (ix2 ⟨512 * t.val + r.val, hk⟩ j) := by
    refine congrArg (V m c main_arg1) (funext fun b => Fin.ext ?_)
    fin_cases b
    · show win0_1.index t (0 : Fin 2) * 512 + 1 * r.val = 512 * t.val + r.val; omega
    · show win0_1.index t (1 : Fin 2) * 1024 + 1 * j.val = j.val; omega
  rw [hd, hx j, funext hx, share, dif_pos hk]

/-- After a point, the first row holds the sum over the rows so far. -/
theorem sums (c : Dev nD) (j : Fin 1024) : ∀ (n : ℕ) (h : n < cfg0.N),
    ((outsAt0 m c n h).2 (ix2 0 j) : EReal) = ∑ k ∈ Finset.range (512 * (n + 1)), share (V m c main_arg0) (V m c main_arg1) j k
  | 0, h => by
    rw [weights_first m c ⟨0, h⟩ (Nat.zero_mod _), added, block_shares]
    have z : (k0_pay2 (F := Ideal) (ix2 0 j) : EReal) = 0 := by
      pointwise [k0_pay2]
    rw [z, zero_add]
    simp
  | n + 1, h => by
    have hN : cfg0.N = 16 := N_0
    rw [weights_later m c ⟨n + 1, h⟩ (by dsimp only; omega), added, block_shares]
    refine (congrArg (· + _) (sums c j n (Nat.lt_of_succ_lt h))).trans ?_
    rw [show 512 * (n + 1 + 1) = 512 * (n + 1) + 512 by ring, Finset.sum_range_add]

/-- The gradient of the norm's weights: of each column, the sum over the rows. -/
abbrev weights (x d : FVec Ideal S8192x1024 .f32) : FVec Ideal S1024 .f32 := fun i =>
  (∑ k : Fin 8192, (d (ix2 k (i 0)) : EReal) * (x (ix2 k (i 0)) * root (fun l => x (ix2 k l))) : EReal)

/-- The last point. -/
abbrev last : Fin cfg0.N := t0_15

/-- The second result is what the last point leaves. -/
theorem final_weights (c : Dev nD) : (dats m 0 c).arrAt 5 cfg0.N = (outsAt0 m c last.val last.isLt).2 := by
  refine (dats m 0 c).arrAt_eq_of_cover 5 ((outsAt0 m c last.val last.isLt).2 : FVec Ideal S8x1024 .f32) (fun t hf => ?_) fun i =>
    ⟨last, (flush0_5 last).mpr rfl, ?_⟩
  · have hN : cfg0.N = 16 := N_0
    have h15 : t.val = 15 := by have := (flush0_5 t).mp hf; have := t.isLt; omega
    obtain rfl : t = last := Fin.ext h15
    show (cfg0.win 5).cut (grid0.coords last) ((dats m 0 c).after 5 last) = _
    rw [after0_5]
    have hz' : (fun a => win0_5.index last a * main_v0_1.ty.shape.size a) = fun _ => 0 := funext fun a => by fin_cases a <;> decide
    exact (Memref.read_access_unit_zero (Elt Ideal) main_v0_1 hz' (fun a => by rw [congrFun hz' a]; simp) _).symm
  · show i ∈ ((View.whole main_v0_1).slice (win0_5.rect last)).set
    rw [View.set_slice_whole, Rect.mem_set_unit]
    have h0 : (i 0).val < 8 := (i 0).isLt
    have h1 : (i 1).val < 1024 := (i 1).isLt
    have e0 : win0_5.index last (0 : Fin 2) = 0 := by decide +kernel
    have e1 : win0_5.index last (1 : Fin 2) = 0 := by decide +kernel
    intro a
    fin_cases a
    · show win0_5.index last (0 : Fin 2) * 8 ≤ (i 0).val ∧ (i 0).val < win0_5.index last (0 : Fin 2) * 8 + 8; omega
    · show win0_5.index last (1 : Fin 2) * 1024 ≤ (i 1).val ∧ (i 1).val < win0_5.index last (1 : Fin 2) * 1024 + 1024; omega

/-- What the lines after the call cut out of it. -/
theorem cut_weights (c : Dev nD) : Pipeline.afterTail₀ cfgs (dats m) 0 (V0 m) [hostOps1] c main_v2
    = weights (m ((c : Thread nD τ).loc main_arg0)) (m ((c : Thread nD τ).loc main_arg1)) := by
  have e : Pipeline.afterTail₀ cfgs (dats m) 0 (V0 m) [hostOps1] c main_v2
      = (shapeCast S1024 (extractStridedSlice S1x1024 ![0, 0] ((outsAt0 m c last.val last.isLt).2) slices_S8x1024_S1x1024_0_0) shapeCasts_S1x1024_S1024 : FVec Ideal S1024 .f32) := by
    unfold Pipeline.afterTail₀
    simp only [List.flatten_cons, List.flatten_nil, List.append_nil]
    after_results_simp
    refine congrArg (fun x => (shapeCast S1024 (extractStridedSlice S1x1024 ![0, 0] (x : FVec Ideal S8x1024 .f32) slices_S8x1024_S1x1024_0_0) shapeCasts_S1x1024_S1024 : FVec Ideal S1024 .f32)) ?_
    exact (Pipeline.withArrays_arr spec0 (by decide) c (V0 m c) (fun w => (dats m 0 c).arrAt w cfg0.N) 5).trans (final_weights m c)
  rw [e]
  funext j
  obtain ⟨j, rfl⟩ : ∃ a, j = ix1 a := ⟨j 0, eq_ix1 j⟩
  pointwise
  rw [sums]
  show ∑ k ∈ Finset.range 8192, _ = _
  rw [Finset.sum_range]
  exact Finset.sum_congr rfl fun k _ => dif_pos k.isLt

/-- What the kernel leaves: the two results, and its arguments as they were. -/
theorem run (c₀ : Dev nD → PrngReg) : θ_run defs (onTc (τ := τ) (main (F := Ideal))) ⟨m, fun _ => 0, c₀⟩ fun r => ∀ c : Dev nD,
      r.2.mem ((c : Thread nD τ).loc main_v0_0) = result (m ((c : Thread nD τ).loc main_arg0)) (m ((c : Thread nD τ).loc main_arg1))
          (m ((c : Thread nD τ).loc main_arg2)) (m ((c : Thread nD τ).loc main_arg3))
      ∧ r.2.mem ((c : Thread nD τ).loc main_v2) = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  θ_run_and ((θ_run defs _ _).mono (fun _ h c => ((h c).1 4).trans (final m c)) (run_main m c₀))
    (θ_run_and ((θ_run defs _ _).mono (fun _ h c => ((h c).2 main_v2 (by decide)).trans (cut_weights m c)) (run_main m c₀))
      (unchanged m c₀)) |> fun h => (θ_run defs _ _).mono (fun _ h c => ⟨h.1 c, h.2.1 c, h.2.2 c⟩) h

end

end Cert.DxProof

end
-- ==== Proof.DxReference.lean ====
/-
# The reference's gradients are the kernel's

The reference's two results are, row by row and column by column, the sums the kernel makes.
-/
module

public import proofs.«01_k».proof.Defs
public import proofs.«01_k».proof.Proof.Gen.DxRefIdeal.Run
public import proofs.«01_k».proof.Proof.DxWeights
public import Idealize.ShloMosaic.Lib.Pointwise

@[expose] public section

noncomputable section

open Idealize.ShloMosaic Idealize.ShloMosaic.TcCoe Idealize.SL.Sem

namespace Cert.DxProof

open Cert.DxRefIdeal Cert.DxRefIdeal.Gen Cert.NormRow

/-- The mean of the squares of every row, and ε. -/
abbrev refMean (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The gradient of the norm's input before the norm's scale, as the reference has it. -/
abbrev refScaled (d : FVec Ideal S8192x1024 .f32) (g : FVec Ideal S1x1024 .f32) : FVec Ideal S8192x1024 .f32 :=
  mulf d (broadcastInDim S8192x1024 ![0, 1] bcast_S1x1024_S8192x1024_0_1 g)

/-- What the reference passes on through the mean of the squares, for every element of a row. -/
abbrev refThrough (x d : FVec Ideal S8192x1024 .f32) (g : FVec Ideal S1x1024 .f32) : FVec Ideal S8192x1024 .f32 :=
  broadcastInDim S8192x1024 ![0] bcast_S8192_S8192x1024_0 (Host.reduceAdd (Host.divf (mulf (shapeCast _ (Host.reduceAdd (mulf x (refScaled d g))
      (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (refMean x)) (refMean x))))
      (broadcastInDim S8192x1 ![] bcast_S_S8192x1 (constant S_ .f32 0x44800000#32))) (constant S_ .f32 0x00000000#32) reducesTo_S8192x1_S8192_d1 h_S_)

/-- The reference's result. -/
abbrev refResult (x d : FVec Ideal S8192x1024 .f32) (g : FVec Ideal S1x1024 .f32) (y : FVec Ideal S8192x1024 .f32) : FVec Ideal S8192x1024 .f32 :=
  addf (addf (addf (mulf (refScaled d g) (broadcastInDim S8192x1024 ![0, 1] bcast_S8192x1_S8192x1024_0_1 (Host.rsqrt (refMean x))))
    (mulf x (refThrough x d g))) (mulf (refThrough x d g) x)) y

/-- It is, row by row, the chain rule's gradient, with what is passed on beside it added. -/
theorem ref_eq (x d : FVec Ideal S8192x1024 .f32) (g : FVec Ideal S1x1024 .f32) (y : FVec Ideal S8192x1024 .f32) (j : S8192x1024.Idx) :
    (refResult x d g y j : EReal)
      = chained (fun k => x (ix2 (j 0) k)) (fun k => d (ix2 (j 0) k)) (fun k => g (ix2 0 k)) (j 1) + y j := by
  obtain ⟨a, b, rfl⟩ : ∃ a b, j = ix2 a b := ⟨j 0, j 1, eq_ix2 j⟩
  pointwise [refResult, refThrough, refScaled, refMean]
  simp only [Finset.univ_unique, Finset.sum_singleton]

/-- It is what the kernel computes. -/
theorem ref_eq_result (x d : FVec Ideal S8192x1024 .f32) (g : FVec Ideal S1x1024 .f32) (y : FVec Ideal S8192x1024 .f32) :
    refResult x d g y = result x d g y := by
  funext j
  exact (ref_eq x d g y j).trans (congrArg (· + (y j : EReal)) (chained_eq _ _ _ _))

/-- The reference's second result. -/
abbrev refWeights (x d : FVec Ideal S8192x1024 .f32) : FVec Ideal S1024 .f32 :=
  shapeCast _ (shapeCast _ (Host.reduceAdd (mulf (mulf x (broadcastInDim S8192x1024 ![0, 1] bcast_S8192x1_S8192x1024_0_1 (Host.rsqrt (refMean x)))) d)
    (constant S_ .f32 0x00000000#32) reducesTo_S8192x1024_S1024_d0 h_S_) shapeCasts_S1024_S1x1024) shapeCasts_S1x1024_S1024

/-- It is what the kernel computes. -/
theorem ref_eq_weights (x d : FVec Ideal S8192x1024 .f32) : refWeights x d = weights x d := by
  funext j
  obtain ⟨j, rfl⟩ : ∃ a, j = ix1 a := ⟨j 0, eq_ix1 j⟩
  pointwise [refWeights, refMean]
  exact Finset.sum_congr rfl fun k _ => mul_comm _ _

/-- The results are the reference's. -/
theorem algebraic : Cert.algebraic_DxIdeal_DxRefIdeal := fun m g m' g' _ hw =>
  ⟨fun c => result (m ((c : Thread nD τ).loc Cert.DxIdeal.main_arg0)) (m ((c : Thread nD τ).loc Cert.DxIdeal.main_arg1))
      (m ((c : Thread nD τ).loc Cert.DxIdeal.main_arg2)) (m ((c : Thread nD τ).loc Cert.DxIdeal.main_arg3)),
   fun c => weights (m ((c : Thread nD τ).loc Cert.DxIdeal.main_arg0)) (m ((c : Thread nD τ).loc Cert.DxIdeal.main_arg1)),
   run m g,
   (θ_run defs _ _).mono (fun _ h c =>
      ⟨(h c).1.trans (by rw [(hw c).1, (hw c).2.1, (hw c).2.2.1, (hw c).2.2.2]; exact ref_eq_result _ _ _ _),
       (h c).2.1.trans (by rw [(hw c).1, (hw c).2.1]; exact ref_eq_weights _ _), (h c).2.2⟩)
    (Cert.DxRefIdeal.Value.run m' g')⟩

end Cert.DxProof

end
-- ==== Proof.LossRow.lean ====
/-
# The loss of one row

The loss of a row is the mean of the squares of the errors, which are what the norm of the row gives, less the target.
Half of the loss has the gradient error/1024 in what the norm gives; the chain rule has it as a half times a 1024th of
twice the error.
-/
module

public import proofs.«01_k».proof.Proof.NormRow

@[expose] public section

noncomputable section

open Idealize.ShloMosaic

namespace Cert.LossRow

open Cert.NormRow

/-- The numbers of the loss, as the programs have them: a half, one, two, and a 1024th. -/
abbrev part : EReal := Ideal.ofBits .f32 0x3F000000#32
@[inherit_doc part] abbrev one : EReal := Ideal.ofBits .f32 0x3F800000#32
@[inherit_doc part] abbrev two : EReal := Ideal.ofBits .f32 0x40000000#32
@[inherit_doc part] abbrev small : EReal := Ideal.ofBits .f32 0x3A800000#32

theorem part_eq : part = ((1 / 2 : ℝ) : EReal) := by
  simp [part, Ideal.ofBits, Ideal.ieee, -EReal.coe_mul]; norm_num

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

theorem small_eq : small = ((1 / 1024 : ℝ) : EReal) := by
  simp [small, Ideal.ofBits, Ideal.ieee, -EReal.coe_mul]; norm_num

/-- The errors of a row `x` with the target `t`, the norm having the weights `g`. -/
abbrev err (x t g : Fin 1024 → EReal) (j : Fin 1024) : EReal := x j * root x * g j - t j

/-- The gradient of half the row's loss in what the norm gives. -/
abbrev slope (x t g : Fin 1024 → EReal) (j : Fin 1024) : EReal := err x t g j * small

/-- The gradient of half the row's loss in the row. -/
abbrev rowGradient (x t g : Fin 1024 → EReal) (j : Fin 1024) : EReal := direct x (slope x t g) g j

/-- The row's loss. -/
abbrev rowLoss (x t g : Fin 1024 → EReal) : EReal := Ideal.div (∑ k, err x t g k * err x t g k) len

/-- What the row gives to the gradient of a weight of the norm. -/
abbrev rowWeight (x t g : Fin 1024 → EReal) (j : Fin 1024) : EReal := slope x t g j * (x j * root x)

/-- The gradient as the chain rule has it. -/
theorem slope_eq (e : EReal) : Ideal.div (part * one) len * (two * e) = e * small := by
  rw [part_eq, one_eq, two_eq, small_eq, len_eq, Ideal.div_coe (by norm_num), ← EReal.coe_mul, ← EReal.coe_mul, ← mul_assoc,
    ← EReal.coe_mul, mul_comm]
  norm_num

/-- Half of a sum is the sum of the halves. -/
theorem part_add (a b : EReal) : part * (a + b) = part * a + part * b := by
  rw [part_eq]
  exact EReal.left_distrib_of_nonneg_of_ne_top (EReal.coe_nonneg.mpr (by norm_num)) (EReal.coe_ne_top _) _ _

end Cert.LossRow

end
-- ==== Proof.LossBlock.lean ====
/-
# What the loss kernel does with a block of rows

At a block of 512 rows the kernel stores the gradient of every row, adds to the gradient of the norm's weights what the
rows give, and adds to the loss half of theirs.
-/
module

public import proofs.«01_k».proof.Defs
public import proofs.«01_k».proof.Proof.Gen.LossHeadIdeal.Frame
public import proofs.«01_k».proof.Proof.LossRow
public import Idealize.ShloMosaic.Lib.Pipeline.Value
public import Idealize.ShloMosaic.Lib.Pointwise
public import Idealize.ShloMosaic.Lib.IdealHost

@[expose] public section

noncomputable section

open Idealize.ShloMosaic Idealize.ShloMosaic.TcCoe Idealize.SL.Sem
open Idealize.ShloMosaic.Pipeline (Dat)

namespace Cert.LossProof

open Cert.LossHeadIdeal Cert.LossHeadIdeal.Gen Cert.NormRow Cert.LossRow

/-- A row of a block, and the one row of the norm's weights. -/
abbrev row {n : ℕ} (x : FVec Ideal ⟨2, ![n, 1024]⟩ .f32) (r : Fin n) (k : Fin 1024) : EReal := x (ix2 r k)

/-- What the kernel stores for a block of rows: each row's gradient. -/
theorem stored (x t : FVec Ideal S512x1024 .f32) (g : FVec Ideal S1x1024 .f32) (j : S512x1024.Idx) :
    (k0_pay9 (F := Ideal) x g t g j : EReal)
      = rowGradient (row x (j 0)) (row t (j 0)) (row g (0 : Fin 1)) (j 1) := by
  obtain ⟨a, b, rfl⟩ : ∃ a b, j = ix2 a b := ⟨j 0, j 1, eq_ix2 j⟩
  pointwise [k0_pay9, k0_pay8, k0_pay7, k0_pay6, k0_pay5]

/-- What it makes of the gradient of the norm's weights at a block of rows, from what it holds. -/
abbrev weightStep (x t : FVec Ideal S512x1024 .f32) (g : FVec Ideal S1x1024 .f32) (o : FVec Ideal S8x1024 .f32) : FVec Ideal S8x1024 .f32 :=
  k0_pay1 (F := Ideal) (k0_pay6 x) (k0_pay8 x g t) (k0_pay10 o)

/-- What it makes of the loss. -/
abbrev lossStep (x t : FVec Ideal S512x1024 .f32) (g : FVec Ideal S1x1024 .f32) (o : FVec Ideal S8x128 .f32) : FVec Ideal S8x128 .f32 :=
  k0_pay2 (F := Ideal) (k0_pay7 x g t) o

/-- What a block of rows gives to the gradient of a weight. -/
def blockWeight (x t : FVec Ideal S512x1024 .f32) (g : FVec Ideal S1x1024 .f32) (j : Fin 1024) : EReal :=
  ∑ r : Fin 512, rowWeight (row x r) (row t r) (row g (0 : Fin 1)) j

/-- The loss of a block of rows. -/
def blockLoss (x t : FVec Ideal S512x1024 .f32) (g : FVec Ideal S1x1024 .f32) : EReal :=
  ∑ r : Fin 512, rowLoss (row x r) (row t r) (row g (0 : Fin 1))

/-- It is added to the first row. -/
theorem weight_added (x t : FVec Ideal S512x1024 .f32) (g : FVec Ideal S1x1024 .f32) (o : FVec Ideal S8x1024 .f32) (j : Fin 1024) :
    (weightStep x t g o (ix2 0 j) : EReal) = o (ix2 0 j) + blockWeight x t g j := by
  unfold blockWeight
  pointwise [weightStep, k0_pay1, k0_pay10, k0_pay8, k0_pay7, k0_pay6, k0_pay5]

/-- Half of it is added to the first element. -/
theorem loss_added (x t : FVec Ideal S512x1024 .f32) (g : FVec Ideal S1x1024 .f32) (o : FVec Ideal S8x128 .f32) :
    (lossStep x t g o (ix2 0 0) : EReal) = o (ix2 0 0) + part * blockLoss x t g := by
  unfold blockLoss
  pointwise [lossStep, k0_pay2, k0_pay7, k0_pay6, k0_pay5]

end Cert.LossProof

end
-- ==== Proof.LossPoints.lean ====
/-
# What the points of the loss kernel leave

The first point starts the two sums from zero, a later one from what the point before left; both store the gradients of
their rows.  The last two theorems say it of the sums at the points of the run.
-/
module

public import proofs.«01_k».proof.Proof.LossBlock

@[expose] public section

noncomputable section

open Idealize.ShloMosaic Idealize.ShloMosaic.TcCoe Idealize.SL.Sem
open Idealize.ShloMosaic.Pipeline (Dat)

namespace Cert.LossProof

open Cert.LossHeadIdeal Cert.LossHeadIdeal.Gen

theorem hz : (![0, 0] : Fin 2 → ℕ) = fun _ => 0 := by
  funext a; fin_cases a <;> rfl

/-- What the first point leaves for its rows. -/
theorem rows_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x128 .f32) (harg6 : arg6.IsWhole) (hc : cond0_0 i)
    (x0 : Vec Ideal S512x1024 .f32) (x1 : Vec Ideal S512x1024 .f32) (x2 : Vec Ideal S1x1024 .f32) :
    out0_A_3 c i arg1 harg1 arg2 harg2 arg3 harg3 arg4 harg4 arg5 harg5 arg6 harg6 hc x0 x1 x2
      = k0_pay9 (F := Ideal) x0 x2 x1 x2 := by
  unfold out0_A_3
  rw [View.read_writes_eq_canon _ _ _ (cover0_A_3 c i arg1 harg1 arg2 harg2 arg3 harg3 arg4 harg4 arg5 harg5 arg6 harg6 hc x0 x1 x2)]
  unfold kernelRun0_A
  dsimp only
  rw [View.canon_unit_zero hz]
  simp only [View.readAt_eq_ld, harg1.read_unread, harg2.read_unread, harg3.read_unread,
    View.ld_unit_zero (S := S512x1024) hz, View.ld_unit_zero (S := S1x1024) hz]

/-- What a later point leaves for its rows: the same. -/
theorem rows_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x128 .f32) (harg6 : arg6.IsWhole) (hc : ¬cond0_0 i)
    (x0 : Vec Ideal S512x1024 .f32) (x1 : Vec Ideal S512x1024 .f32) (x2 : Vec Ideal S1x1024 .f32) (xo4 : Vec Ideal S8x1024 .f32) (xo5 : Vec Ideal S8x128 .f32) :
    out0_B_3 c i arg1 harg1 arg2 harg2 arg3 harg3 arg4 harg4 arg5 harg5 arg6 harg6 hc x0 x1 x2 xo4 xo5
      = k0_pay9 (F := Ideal) x0 x2 x1 x2 := by
  unfold out0_B_3
  rw [View.read_writes_eq_canon _ _ _ (cover0_B_3 c i arg1 harg1 arg2 harg2 arg3 harg3 arg4 harg4 arg5 harg5 arg6 harg6 hc x0 x1 x2 xo4 xo5)]
  unfold kernelRun0_B
  dsimp only
  rw [View.canon_unit_zero hz]
  simp only [View.readAt_eq_ld, harg1.read_unread, harg2.read_unread, harg3.read_unread,
    View.ld_unit_zero (S := S512x1024) hz, View.ld_unit_zero (S := S1x1024) hz]

/-- What the first point leaves for the gradient of the norm's weights. -/
theorem weights_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x128 .f32) (harg6 : arg6.IsWhole) (hc : cond0_0 i)
    (x0 : Vec Ideal S512x1024 .f32) (x1 : Vec Ideal S512x1024 .f32) (x2 : Vec Ideal S1x1024 .f32) :
    out0_A_4 c i arg1 harg1 arg2 harg2 arg3 harg3 arg4 harg4 arg5 harg5 arg6 harg6 hc x0 x1 x2
      = weightStep x0 x1 x2 (k0_pay3 (F := Ideal)) := by
  unfold out0_A_4
  rw [View.read_writes_eq_canon _ _ _ (cover0_A_4 c i arg1 harg1 arg2 harg2 arg3 harg3 arg4 harg4 arg5 harg5 arg6 harg6 hc x0 x1 x2)]
  unfold kernelRun0_A
  dsimp only
  sl_unfold_words
  rw [View.canon_cons_unit_zero (S := S8x1024) hz, View.readCov_unit_zero (S := S8x1024) _ hz]
  refine (congrArg₂ (fun a b => weightStep a b _ _) ?_ ?_).trans (congrArg (fun e => weightStep x0 x1 e _) ?_)
  · rw [View.readAt_eq_ld, harg1.read_unread, View.ld_unit_zero (S := S512x1024) hz]
  · rw [View.readAt_eq_ld, harg2.read_unread, View.ld_unit_zero (S := S512x1024) hz]
  · rw [View.readAt_eq_ld, harg3.read_unread, View.ld_unit_zero (S := S1x1024) hz]

/-- What a later point leaves for it. -/
theorem weights_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x128 .f32) (harg6 : arg6.IsWhole) (hc : ¬cond0_0 i)
    (x0 : Vec Ideal S512x1024 .f32) (x1 : Vec Ideal S512x1024 .f32) (x2 : Vec Ideal S1x1024 .f32) (xo4 : Vec Ideal S8x1024 .f32) (xo5 : Vec Ideal S8x128 .f32) :
    out0_B_4 c i arg1 harg1 arg2 harg2 arg3 harg3 arg4 harg4 arg5 harg5 arg6 harg6 hc x0 x1 x2 xo4 xo5
      = weightStep x0 x1 x2 xo4 := by
  unfold out0_B_4
  rw [View.read_writes_eq_canon _ _ _ (cover0_B_4 c i arg1 harg1 arg2 harg2 arg3 harg3 arg4 harg4 arg5 harg5 arg6 harg6 hc x0 x1 x2 xo4 xo5)]
  unfold kernelRun0_B
  dsimp only
  rw [View.canon_unit_zero hz]
  refine ((congrArg₂ (fun a b => weightStep a b _ _) ?_ ?_).trans (congrArg (fun e => weightStep x0 x1 e _) ?_)).trans (congrArg (weightStep x0 x1 x2) ?_)
  · rw [View.readAt_eq_ld, harg1.read_unread, View.ld_unit_zero (S := S512x1024) hz]
  · rw [View.readAt_eq_ld, harg2.read_unread, View.ld_unit_zero (S := S512x1024) hz]
  · rw [View.readAt_eq_ld, harg3.read_unread, View.ld_unit_zero (S := S1x1024) hz]
  · rw [View.readAt_eq_ld, harg5.read_unread, View.ld_unit_zero (S := S8x1024) hz]

/-- What the first point leaves for the loss. -/
theorem loss_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x128 .f32) (harg6 : arg6.IsWhole) (hc : cond0_0 i)
    (x0 : Vec Ideal S512x1024 .f32) (x1 : Vec Ideal S512x1024 .f32) (x2 : Vec Ideal S1x1024 .f32) :
    out0_A_5 c i arg1 harg1 arg2 harg2 arg3 harg3 arg4 harg4 arg5 harg5 arg6 harg6 hc x0 x1 x2
      = lossStep x0 x1 x2 (k0_pay4 (F := Ideal)) := by
  unfold out0_A_5
  rw [View.read_writes_eq_canon _ _ _ (cover0_A_5 c i arg1 harg1 arg2 harg2 arg3 harg3 arg4 harg4 arg5 harg5 arg6 harg6 hc x0 x1 x2)]
  unfold kernelRun0_A
  dsimp only
  sl_unfold_words
  rw [View.canon_cons_unit_zero (S := S8x128) hz, View.readCov_unit_zero (S := S8x128) _ hz]
  refine (congrArg₂ (fun a b => lossStep a b _ _) ?_ ?_).trans (congrArg (fun e => lossStep x0 x1 e _) ?_)
  · rw [View.readAt_eq_ld, harg1.read_unread, View.ld_unit_zero (S := S512x1024) hz]
  · rw [View.readAt_eq_ld, harg2.read_unread, View.ld_unit_zero (S := S512x1024) hz]
  · rw [View.readAt_eq_ld, harg3.read_unread, View.ld_unit_zero (S := S1x1024) hz]

/-- What a later point leaves for it. -/
theorem loss_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x128 .f32) (harg6 : arg6.IsWhole) (hc : ¬cond0_0 i)
    (x0 : Vec Ideal S512x1024 .f32) (x1 : Vec Ideal S512x1024 .f32) (x2 : Vec Ideal S1x1024 .f32) (xo4 : Vec Ideal S8x1024 .f32) (xo5 : Vec Ideal S8x128 .f32) :
    out0_B_5 c i arg1 harg1 arg2 harg2 arg3 harg3 arg4 harg4 arg5 harg5 arg6 harg6 hc x0 x1 x2 xo4 xo5
      = lossStep x0 x1 x2 xo5 := by
  unfold out0_B_5
  rw [View.read_writes_eq_canon _ _ _ (cover0_B_5 c i arg1 harg1 arg2 harg2 arg3 harg3 arg4 harg4 arg5 harg5 arg6 harg6 hc x0 x1 x2 xo4 xo5)]
  unfold kernelRun0_B
  dsimp only
  rw [View.canon_unit_zero hz]
  refine ((congrArg₂ (fun a b => lossStep a b _ _) ?_ ?_).trans (congrArg (fun e => lossStep x0 x1 e _) ?_)).trans (congrArg (lossStep x0 x1 x2) ?_)
  · rw [View.readAt_eq_ld, harg1.read_unread, View.ld_unit_zero (S := S512x1024) hz]
  · rw [View.readAt_eq_ld, harg2.read_unread, View.ld_unit_zero (S := S512x1024) hz]
  · rw [View.readAt_eq_ld, harg3.read_unread, View.ld_unit_zero (S := S1x1024) hz]
  · rw [View.readAt_eq_ld, harg6.read_unread, View.ld_unit_zero (S := S8x128) hz]

section

variable (m : (ℓ : Loc nD τ sig) → Buf (Elt Ideal) ℓ)

/-- What the point before a point left. -/
abbrev before (c : Dev nD) (t : Fin cfg0.N) := outsAt0 m c (t.val - 1) (Nat.lt_of_le_of_lt (Nat.sub_le _ _) t.isLt)

/-- What every point leaves for its rows. -/
theorem at_rows (c : Dev nD) (t : Fin cfg0.N) :
    (outsAt0 m c t.val t.isLt).1 = k0_pay9 (F := Ideal) (iblk m c 0 t) (iblk m c 2 t) (iblk m c 1 t) (iblk m c 2 t) := by
  by_cases h0 : t.val % 16 = 0
  · rw [outsAt0_A m c t h0, rows_A]
  · rw [outsAt0_B m c t h0, rows_B]

/-- What the points leave for the two sums: the first one, and a later one. -/
theorem at_first (c : Dev nD) (t : Fin cfg0.N) (h0 : t.val % 16 = 0) :
    (outsAt0 m c t.val t.isLt).2 = (weightStep (iblk m c 0 t) (iblk m c 1 t) (iblk m c 2 t) (k0_pay3 (F := Ideal)),
      lossStep (iblk m c 0 t) (iblk m c 1 t) (iblk m c 2 t) (k0_pay4 (F := Ideal))) := by
  rw [outsAt0_A m c t h0, weights_A, loss_A]

@[inherit_doc at_first]
theorem at_later (c : Dev nD) (t : Fin cfg0.N) (h0 : ¬t.val % 16 = 0) :
    (outsAt0 m c t.val t.isLt).2 = (weightStep (iblk m c 0 t) (iblk m c 1 t) (iblk m c 2 t) (before m c t).2.1,
      lossStep (iblk m c 0 t) (iblk m c 1 t) (iblk m c 2 t) (before m c t).2.2) := by
  rw [outsAt0_B m c t h0, weights_B, loss_B]

end

end Cert.LossProof

end
-- ==== Proof.LossSums.lean ====
/-
# The loss head's results

The kernel goes over the rows in blocks of 512.  Every block's gradients are the block of the first result; the gradient
of the norm's weights and the loss are added up over the blocks, in the first row of the second result and in the first
element of the third.  What is kept beside them is not read.
-/
module

public import proofs.«01_k».proof.Proof.LossPoints

@[expose] public section

noncomputable section

open Idealize.ShloMosaic Idealize.ShloMosaic.TcCoe Idealize.SL.Sem
open Idealize.ShloMosaic.Pipeline (Dat)

namespace Cert.LossProof

open Cert.LossHeadIdeal Cert.LossHeadIdeal.Gen Cert.NormRow Cert.LossRow

/-- The first result: the gradient of every row. -/
abbrev gradient (x t : FVec Ideal S8192x1024 .f32) (g : FVec Ideal S1x1024 .f32) : FVec Ideal S8192x1024 .f32 := fun i =>
  (rowGradient (row x (i 0)) (row t (i 0)) (row g (0 : Fin 1)) (i 1) : EReal)

/-- The gradient of the norm's weights: of each column, the sum over the rows. -/
abbrev weights (x t : FVec Ideal S8192x1024 .f32) (g : FVec Ideal S1x1024 .f32) : FVec Ideal S1024 .f32 := fun i =>
  (∑ k : Fin 8192, rowWeight (row x k) (row t k) (row g (0 : Fin 1)) (i 0) : EReal)

/-- The loss: half of the sum over the rows. -/
abbrev loss (x t : FVec Ideal S8192x1024 .f32) (g : FVec Ideal S1x1024 .f32) : FVec Ideal S_ .f32 := fun _ =>
  (part * ∑ k : Fin 8192, rowLoss (row x k) (row t k) (row g (0 : Fin 1)) : EReal)

section

variable (m : (ℓ : Loc nD τ sig) → Buf (Elt Ideal) ℓ)

/-- The blocks of the arguments and of the first result at a point are the same rows; the norm's weights are there whole. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 2) = t.val ∧ win0_3.index t (1 : Fin 2) = 0 :=
  (by decide +kernel : ∀ t : Fin grid0.N, _)

/-- The row of the whole arrays that is row `r` of a point's block. -/
abbrev place (t : Fin cfg0.N) (r : Fin 512) : Fin 8192 := ⟨512 * t.val + r.val, by
  have hN : cfg0.N = 16 := N_0
  have := t.isLt
  omega⟩

/-- The rows of the blocks of the three arguments. -/
theorem row_x (c : Dev nD) (t : Fin cfg0.N) (r : Fin 512) : row (iblk m c 0 t) r = row (V m c main_arg0) (place t r) := by
  obtain ⟨⟨a0, a1⟩, -⟩ := places t
  funext k
  refine congrArg (V m c main_arg0) (funext fun b => Fin.ext ?_)
  fin_cases b
  · show win0_0.index t (0 : Fin 2) * 512 + 1 * r.val = 512 * t.val + r.val; omega
  · show win0_0.index t (1 : Fin 2) * 1024 + 1 * k.val = k.val; omega

@[inherit_doc row_x]
theorem row_t (c : Dev nD) (t : Fin cfg0.N) (r : Fin 512) : row (iblk m c 1 t) r = row (V m c main_arg1) (place t r) := by
  obtain ⟨-, ⟨a0, a1⟩, -⟩ := places t
  funext k
  refine congrArg (V m c main_arg1) (funext fun b => Fin.ext ?_)
  fin_cases b
  · show win0_1.index t (0 : Fin 2) * 512 + 1 * r.val = 512 * t.val + r.val; omega
  · show win0_1.index t (1 : Fin 2) * 1024 + 1 * k.val = k.val; omega

@[inherit_doc row_x]
theorem row_g (c : Dev nD) (t : Fin cfg0.N) : row (iblk m c 2 t) (0 : Fin 1) = row (V m c main_arg2) (0 : Fin 1) := by
  obtain ⟨-, -, ⟨a0, a1⟩, -⟩ := places t
  funext k
  refine congrArg (V m c main_arg2) (funext fun b => Fin.ext ?_)
  fin_cases b
  · show win0_2.index t (0 : Fin 2) * 1 + 1 * 0 = 0; omega
  · show win0_2.index t (1 : Fin 2) * 1024 + 1 * k.val = k.val; omega

/-- What a point writes back of the first result is its block of it. -/
theorem flushed_eq (c : Dev nD) (t : Fin cfg0.N) :
    (dats m 0 c).flushed 3 t = ((cfg0.win 3).blk t).view.read (Elt Ideal)
      (gradient (V m c main_arg0) (V m c main_arg1) (V m c main_arg2)) := by
  have e : (dats m 0 c).flushed 3 t = (cfg0.win 3).cut (grid0.coords t) (k0_pay9 (F := Ideal) (iblk m c 0 t) (iblk m c 2 t) (iblk m c 1 t) (iblk m c 2 t)) := by
    show (cfg0.win 3).cut (grid0.coords t) ((dats m 0 c).after 3 t) = _
    rw [after0_3, at_rows]
  rw [e]
  obtain ⟨-, -, -, e0, e1⟩ := places t
  funext j
  refine (stored _ _ _ j).trans ?_
  have h0 : place t (j 0) = (((cfg0.win 3).blk t).view.emb j) 0 := by
    refine Fin.ext ?_
    show 512 * t.val + (j 0).val = win0_3.index t (0 : Fin 2) * 512 + 1 * (j 0).val; omega
  have h1 : j 1 = (((cfg0.win 3).blk t).view.emb j) 1 := by
    refine Fin.ext ?_
    show (j 1).val = win0_3.index t (1 : Fin 2) * 1024 + 1 * (j 1).val; omega
  exact congr (congr (congrArg₂ rowGradient ((row_x m c t (j 0)).trans (congrArg (row (V m c main_arg0)) h0))
    ((row_t m c t (j 0)).trans (congrArg (row (V m c main_arg1)) h0))) (row_g m c t)) h1

/-- The elements of a point's block are those of its rows. -/
theorem mem_rows (t : Fin cfg0.N) (i : S8192x1024.Idx) :
    i ∈ ((cfg0.win 3).blk t).view.set ↔ ∀ a, win0_3.index t a * S512x1024.size a ≤ (i a).val ∧ (i a).val < win0_3.index t a * S512x1024.size a + S512x1024.size a := by
  show i ∈ ((View.whole main_v0_0).slice (win0_3.rect t)).set ↔ _
  rw [View.set_slice_whole, Rect.mem_set_unit]

/-- An element is in the block of the point that has its row. -/
theorem cover (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hN : cfg0.N = 16 := N_0
  obtain ⟨-, -, -, e0, e1⟩ := places ⟨(i 0).val / 512, by omega⟩
  refine ⟨⟨(i 0).val / 512, by omega⟩, flush0_3 _, ?_⟩
  rw [mem_rows]
  intro a
  fin_cases a
  · show win0_3.index _ (0 : Fin 2) * 512 ≤ (i 0).val ∧ (i 0).val < win0_3.index _ (0 : Fin 2) * 512 + 512
    rw [e0]; dsimp only; omega
  · show win0_3.index _ (1 : Fin 2) * 1024 ≤ (i 1).val ∧ (i 1).val < win0_3.index _ (1 : Fin 2) * 1024 + 1024
    rw [e1]; omega

/-- The first result is that, of the whole arrays. -/
theorem final_gradient (c : Dev nD) : (dats m 0 c).arrAt 3 cfg0.N = gradient (V m c main_arg0) (V m c main_arg1) (V m c main_arg2) :=
  (dats m 0 c).arrAt_eq_of_cover 3 _ (fun t _ => flushed_eq m c t) cover

/-- What row `k` gives to a sum over the rows; nothing past the last row. -/
abbrev upTo (f : Fin 8192 → EReal) (k : ℕ) : EReal := if h : k < 8192 then f ⟨k, h⟩ else 0

theorem upTo_row (f : Fin 8192 → EReal) (k : Fin 8192) : upTo f k.val = f k := dif_pos k.isLt

/-- The rows of a block are the next 512 of the array. -/
theorem block_sum (f : Fin 8192 → EReal) (t : Fin cfg0.N) :
    ∑ r : Fin 512, f (place t r) = ∑ r ∈ Finset.range 512, upTo f (512 * t.val + r) := by
  rw [Finset.sum_range]
  exact Finset.sum_congr rfl fun r _ => (upTo_row f (place t r)).symm

/-- All the rows. -/
theorem all_sum (f : Fin 8192 → EReal) : ∑ k ∈ Finset.range (512 * (15 + 1)), upTo f k = ∑ k, f k := by
  show ∑ k ∈ Finset.range 8192, upTo f k = _
  rw [Finset.sum_range]
  exact Finset.sum_congr rfl fun k _ => upTo_row f k

/-- What row `k` gives to the gradient of a weight, and its loss. -/
abbrev weightOf (c : Dev nD) (j : Fin 1024) (k : Fin 8192) : EReal :=
  rowWeight (row (V m c main_arg0) k) (row (V m c main_arg1) k) (row (V m c main_arg2) (0 : Fin 1)) j
@[inherit_doc weightOf]
abbrev lossOf (c : Dev nD) (k : Fin 8192) : EReal :=
  rowLoss (row (V m c main_arg0) k) (row (V m c main_arg1) k) (row (V m c main_arg2) (0 : Fin 1))

/-- What a point's block gives to the gradient of a weight, and its loss. -/
theorem block_weight (c : Dev nD) (t : Fin cfg0.N) (j : Fin 1024) : blockWeight (iblk m c 0 t) (iblk m c 1 t) (iblk m c 2 t) j
    = ∑ r ∈ Finset.range 512, upTo (weightOf m c j) (512 * t.val + r) := by
  rw [← block_sum]
  exact Finset.sum_congr rfl fun r _ => by rw [row_x, row_t, row_g]

@[inherit_doc block_weight]
theorem block_loss (c : Dev nD) (t : Fin cfg0.N) : blockLoss (iblk m c 0 t) (iblk m c 1 t) (iblk m c 2 t)
    = ∑ r ∈ Finset.range 512, upTo (lossOf m c) (512 * t.val + r) := by
  rw [← block_sum]
  exact Finset.sum_congr rfl fun r _ => by rw [row_x, row_t, row_g]

/-- After a point the two sums are those over the rows so far. -/
theorem sums (c : Dev nD) (j : Fin 1024) : ∀ (n : ℕ) (h : n < cfg0.N),
    ((outsAt0 m c n h).2.1 (ix2 0 j) : EReal) = ∑ k ∈ Finset.range (512 * (n + 1)), upTo (weightOf m c j) k
    ∧ ((outsAt0 m c n h).2.2 (ix2 0 0) : EReal) = part * ∑ k ∈ Finset.range (512 * (n + 1)), upTo (lossOf m c) k
  | 0, h => by
    rw [at_first m c ⟨0, h⟩ (Nat.zero_mod _)]
    dsimp only
    rw [weight_added, loss_added, block_weight, block_loss]
    have z₁ : (k0_pay3 (F := Ideal) (ix2 0 j) : EReal) = 0 := by
      pointwise [k0_pay3]
    have z₂ : (k0_pay4 (F := Ideal) (ix2 0 0) : EReal) = 0 := by
      pointwise [k0_pay4]
    rw [z₁, z₂, zero_add, zero_add]
    simp
  | n + 1, h => by
    have hN : cfg0.N = 16 := N_0
    obtain ⟨hw, hl⟩ := sums c j n (Nat.lt_of_succ_lt h)
    rw [at_later m c ⟨n + 1, h⟩ (by dsimp only; omega)]
    dsimp only
    rw [weight_added, loss_added, block_weight, block_loss]
    refine ⟨(congrArg (· + _) hw).trans ?_, (congrArg (· + _) hl).trans ?_⟩
    · rw [show 512 * (n + 1 + 1) = 512 * (n + 1) + 512 by ring, Finset.sum_range_add]
    · rw [show 512 * (n + 1 + 1) = 512 * (n + 1) + 512 by ring, Finset.sum_range_add, part_add]

end

end Cert.LossProof

end
-- ==== Proof.LossRun.lean ====
/-
# The run of the loss kernel

The arrays the two sums are in hold at the end what the last point left; the lines after the call cut the sums out.
-/
module

public import proofs.«01_k».proof.Proof.LossSums

@[expose] public section

noncomputable section

open Idealize.ShloMosaic Idealize.ShloMosaic.TcCoe Idealize.SL.Sem
open Idealize.ShloMosaic.Pipeline (Dat)

namespace Cert.LossProof

open Cert.LossHeadIdeal Cert.LossHeadIdeal.Gen Cert.NormRow Cert.LossRow

section

variable (m : (ℓ : Loc nD τ sig) → Buf (Elt Ideal) ℓ)

/-- The last point. -/
abbrev last : Fin cfg0.N := t0_15

/-- It is the only one that has the number 15. -/
theorem eq_last (t : Fin cfg0.N) (h : t.val % 16 = 15) : t = last := by
  have hN : cfg0.N = 16 := N_0
  have := t.isLt
  exact Fin.ext (show t.val = 15 by omega)

/-- The second array is what the last point leaves. -/
theorem final_weights (c : Dev nD) : (dats m 0 c).arrAt 4 cfg0.N = (outsAt0 m c last.val last.isLt).2.1 := by
  refine (dats m 0 c).arrAt_eq_of_cover 4 ((outsAt0 m c last.val last.isLt).2.1 : FVec Ideal S8x1024 .f32) (fun t hf => ?_) fun i =>
    ⟨last, (flush0_4 last).mpr rfl, ?_⟩
  · obtain rfl := eq_last t ((flush0_4 t).mp hf)
    show (cfg0.win 4).cut (grid0.coords last) ((dats m 0 c).after 4 last) = _
    rw [after0_4]
    have hz' : (fun a => win0_4.index last a * main_v0_1.ty.shape.size a) = fun _ => 0 := funext fun a => by fin_cases a <;> decide
    exact (Memref.read_access_unit_zero (Elt Ideal) main_v0_1 hz' (fun a => by rw [congrFun hz' a]; simp) _).symm
  · show i ∈ ((View.whole main_v0_1).slice (win0_4.rect last)).set
    rw [View.set_slice_whole, Rect.mem_set_unit]
    have h0 : (i 0).val < 8 := (i 0).isLt
    have h1 : (i 1).val < 1024 := (i 1).isLt
    have e0 : win0_4.index last (0 : Fin 2) = 0 := by decide +kernel
    have e1 : win0_4.index last (1 : Fin 2) = 0 := by decide +kernel
    intro a
    fin_cases a
    · show win0_4.index last (0 : Fin 2) * 8 ≤ (i 0).val ∧ (i 0).val < win0_4.index last (0 : Fin 2) * 8 + 8; omega
    · show win0_4.index last (1 : Fin 2) * 1024 ≤ (i 1).val ∧ (i 1).val < win0_4.index last (1 : Fin 2) * 1024 + 1024; omega

/-- So is the third. -/
theorem final_loss (c : Dev nD) : (dats m 0 c).arrAt 5 cfg0.N = (outsAt0 m c last.val last.isLt).2.2 := by
  refine (dats m 0 c).arrAt_eq_of_cover 5 ((outsAt0 m c last.val last.isLt).2.2 : FVec Ideal S8x128 .f32) (fun t hf => ?_) fun i =>
    ⟨last, (flush0_5 last).mpr rfl, ?_⟩
  · obtain rfl := eq_last t ((flush0_5 t).mp hf)
    show (cfg0.win 5).cut (grid0.coords last) ((dats m 0 c).after 5 last) = _
    rw [after0_5]
    have hz' : (fun a => win0_5.index last a * main_v0_2.ty.shape.size a) = fun _ => 0 := funext fun a => by fin_cases a <;> decide
    exact (Memref.read_access_unit_zero (Elt Ideal) main_v0_2 hz' (fun a => by rw [congrFun hz' a]; simp) _).symm
  · show i ∈ ((View.whole main_v0_2).slice (win0_5.rect last)).set
    rw [View.set_slice_whole, Rect.mem_set_unit]
    have h0 : (i 0).val < 8 := (i 0).isLt
    have h1 : (i 1).val < 128 := (i 1).isLt
    have e0 : win0_5.index last (0 : Fin 2) = 0 := by decide +kernel
    have e1 : win0_5.index last (1 : Fin 2) = 0 := by decide +kernel
    intro a
    fin_cases a
    · show win0_5.index last (0 : Fin 2) * 8 ≤ (i 0).val ∧ (i 0).val < win0_5.index last (0 : Fin 2) * 8 + 8; omega
    · show win0_5.index last (1 : Fin 2) * 128 ≤ (i 1).val ∧ (i 1).val < win0_5.index last (1 : Fin 2) * 128 + 128; omega

/-- What the lines after the call cut out of the second array. -/
theorem cut_weights (c : Dev nD) : Pipeline.afterTail₀ cfgs (dats m) 0 (V0 m) [hostOps1] c main_v4
    = weights (V m c main_arg0) (V m c main_arg1) (V m c main_arg2) := by
  have e : Pipeline.afterTail₀ cfgs (dats m) 0 (V0 m) [hostOps1] c main_v4
      = (shapeCast S1024 (extractStridedSlice S1x1024 ![0, 0] ((outsAt0 m c last.val last.isLt).2.1) slices_S8x1024_S1x1024_0_0) shapeCasts_S1x1024_S1024 : FVec Ideal S1024 .f32) := by
    unfold Pipeline.afterTail₀
    simp only [List.flatten_cons, List.flatten_nil, List.append_nil]
    after_results_simp
    refine congrArg (fun x => (shapeCast S1024 (extractStridedSlice S1x1024 ![0, 0] (x : FVec Ideal S8x1024 .f32) slices_S8x1024_S1x1024_0_0) shapeCasts_S1x1024_S1024 : FVec Ideal S1024 .f32)) ?_
    exact (Pipeline.withArrays_arr spec0 (by decide) c (V0 m c) (fun w => (dats m 0 c).arrAt w cfg0.N) 4).trans (final_weights m c)
  rw [e]
  funext j
  obtain ⟨j, rfl⟩ : ∃ a, j = ix1 a := ⟨j 0, eq_ix1 j⟩
  pointwise
  exact (sums m c j 15 last.isLt).1.trans (all_sum _)

/-- What they cut out of the third. -/
theorem cut_loss (c : Dev nD) : Pipeline.afterTail₀ cfgs (dats m) 0 (V0 m) [hostOps1] c main_v2
    = loss (V m c main_arg0) (V m c main_arg1) (V m c main_arg2) := by
  have e : Pipeline.afterTail₀ cfgs (dats m) 0 (V0 m) [hostOps1] c main_v2
      = (shapeCast S_ (extractStridedSlice S1x1 ![0, 0] ((outsAt0 m c last.val last.isLt).2.2) slices_S8x128_S1x1_0_0) shapeCasts_S1x1_S_ : FVec Ideal S_ .f32) := by
    unfold Pipeline.afterTail₀
    simp only [List.flatten_cons, List.flatten_nil, List.append_nil]
    after_results_simp
    refine congrArg (fun x => (shapeCast S_ (extractStridedSlice S1x1 ![0, 0] (x : FVec Ideal S8x128 .f32) slices_S8x128_S1x1_0_0) shapeCasts_S1x1_S_ : FVec Ideal S_ .f32)) ?_
    exact (Pipeline.withArrays_arr spec0 (by decide) c (V0 m c) (fun w => (dats m 0 c).arrAt w cfg0.N) 5).trans (final_loss m c)
  rw [e]
  funext j
  pointwise
  exact (sums m c 0 15 last.isLt).2.trans (congrArg (part * ·) (all_sum _))

/-- What the kernel leaves: the three results, and its arguments as they were. -/
theorem run (c₀ : Dev nD → PrngReg) : θ_run defs (onTc (τ := τ) (main (F := Ideal))) ⟨m, fun _ => 0, c₀⟩ fun r => ∀ c : Dev nD,
      r.2.mem ((c : Thread nD τ).loc main_v2) = loss (m ((c : Thread nD τ).loc main_arg0)) (m ((c : Thread nD τ).loc main_arg1)) (m ((c : Thread nD τ).loc main_arg2))
      ∧ r.2.mem ((c : Thread nD τ).loc main_v0_0) = gradient (m ((c : Thread nD τ).loc main_arg0)) (m ((c : Thread nD τ).loc main_arg1)) (m ((c : Thread nD τ).loc main_arg2))
      ∧ r.2.mem ((c : Thread nD τ).loc main_v4) = weights (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v2 (by decide)).trans (cut_loss m c), ((h.1 c).1 3).trans (final_gradient m c),
      ((h.1 c).2 main_v4 (by decide)).trans (cut_weights m c), h.2 c⟩)
    (θ_run_and (run_main m c₀) (unchanged m c₀))

end

end Cert.LossProof

end
-- ==== Proof.LossReference.lean ====
/-
# The reference's loss and its gradients are the kernel's

The reference's three results are, row by row and column by column, what the kernel makes.
-/
module

public import proofs.«01_k».proof.Defs
public import proofs.«01_k».proof.Proof.Gen.LossHeadRefIdeal.Run
public import proofs.«01_k».proof.Proof.LossRun
public import Idealize.ShloMosaic.Lib.Pointwise

@[expose] public section

noncomputable section

open Idealize.ShloMosaic Idealize.ShloMosaic.TcCoe Idealize.SL.Sem

namespace Cert.LossProof

open Cert.LossHeadRefIdeal Cert.LossHeadRefIdeal.Gen Cert.NormRow Cert.LossRow

/-- The mean of the squares of every row, and ε. -/
abbrev refMean (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The rows scaled by it. -/
abbrev refNormed (x : FVec Ideal S8192x1024 .f32) : FVec Ideal S8192x1024 .f32 :=
  mulf x (broadcastInDim S8192x1024 ![0, 1] bcast_S8192x1_S8192x1024_0_1 (Host.rsqrt (refMean x)))

/-- The errors. -/
abbrev refErr (x t : FVec Ideal S8192x1024 .f32) (g : FVec Ideal S1x1024 .f32) : FVec Ideal S8192x1024 .f32 :=
  subf (mulf (refNormed x) (broadcastInDim S8192x1024 ![0, 1] bcast_S1x1024_S8192x1024_0_1 g)) t

/-- The gradient of what the norm gives. -/
abbrev refSlope (x t : FVec Ideal S8192x1024 .f32) (g : FVec Ideal S1x1024 .f32) : FVec Ideal S8192x1024 .f32 :=
  mulf (broadcastInDim S8192x1024 ![0] bcast_S8192_S8192x1024_0 (Host.divf (broadcastInDim S8192 ![] bcast_S_S8192
      (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) (refErr x t g))

/-- It is the kernel's. -/
theorem ref_slope (x t : FVec Ideal S8192x1024 .f32) (g : FVec Ideal S1x1024 .f32) (r : Fin 8192) (k : Fin 1024) :
    (refSlope x t g (ix2 r k) : EReal) = slope (row x r) (row t r) (row g (0 : Fin 1)) k := by
  refine Eq.trans ?_ (slope_eq _)
  pointwise [refSlope, refErr, refNormed, refMean]

/-- The gradient `d` of what the norm gives, times the weights. -/
abbrev refScaled (d : FVec Ideal S8192x1024 .f32) (g : FVec Ideal S1x1024 .f32) : FVec Ideal S8192x1024 .f32 :=
  mulf d (broadcastInDim S8192x1024 ![0, 1] bcast_S1x1024_S8192x1024_0_1 g)

/-- What the reference passes on through the mean of the squares, for every element of a row. -/
abbrev refThrough (x d : FVec Ideal S8192x1024 .f32) (g : FVec Ideal S1x1024 .f32) : FVec Ideal S8192x1024 .f32 :=
  broadcastInDim S8192x1024 ![0] bcast_S8192_S8192x1024_0 (Host.reduceAdd (Host.divf (mulf (shapeCast _ (Host.reduceAdd (mulf x (refScaled d g))
      (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (refMean x)) (refMean x))))
      (broadcastInDim S8192x1 ![] bcast_S_S8192x1 (constant S_ .f32 0x44800000#32))) (constant S_ .f32 0x00000000#32) reducesTo_S8192x1_S8192_d1 h_S_)

/-- The gradient of the norm's input, from that of what it gives. -/
abbrev refGradient (x d : FVec Ideal S8192x1024 .f32) (g : FVec Ideal S1x1024 .f32) : FVec Ideal S8192x1024 .f32 :=
  addf (addf (mulf (refScaled d g) (broadcastInDim S8192x1024 ![0, 1] bcast_S8192x1_S8192x1024_0_1 (Host.rsqrt (refMean x))))
    (mulf x (refThrough x d g))) (mulf (refThrough x d g) x)

/-- It is, row by row, the chain rule's. -/
theorem ref_eq (x d : FVec Ideal S8192x1024 .f32) (g : FVec Ideal S1x1024 .f32) (r : Fin 8192) (k : Fin 1024) :
    (refGradient x d g (ix2 r k) : EReal) = chained (row x r) (row d r) (row g (0 : Fin 1)) k := by
  pointwise [refGradient, refThrough, refScaled, refMean]
  simp only [Finset.univ_unique, Finset.sum_singleton]

/-- The reference's gradient of the rows is the kernel's. -/
theorem ref_eq_gradient (x t : FVec Ideal S8192x1024 .f32) (g : FVec Ideal S1x1024 .f32) :
    refGradient x (refSlope x t g) g = gradient x t g := by
  funext j
  obtain ⟨r, k, rfl⟩ : ∃ a b, j = ix2 a b := ⟨j 0, j 1, eq_ix2 j⟩
  refine (ref_eq x _ g r k).trans ?_
  rw [show row (refSlope x t g) r = slope (row x r) (row t r) (row g (0 : Fin 1)) from funext (ref_slope x t g r)]
  exact chained_eq _ _ _ _

/-- The reference's gradient of the norm's weights, from that of what the norm gives. -/
abbrev refWeights (x d : FVec Ideal S8192x1024 .f32) : FVec Ideal S1024 .f32 :=
  shapeCast _ (shapeCast _ (Host.reduceAdd (mulf (refNormed x) d) (constant S_ .f32 0x00000000#32) reducesTo_S8192x1024_S1024_d0 h_S_)
    shapeCasts_S1024_S1x1024) shapeCasts_S1x1024_S1024

/-- It is, of each column, the sum over the rows. -/
theorem ref_weights (x d : FVec Ideal S8192x1024 .f32) (j : Fin 1024) :
    (refWeights x d (ix1 j) : EReal) = ∑ k : Fin 8192, row x k j * root (row x k) * row d k j := by
  pointwise [refWeights, refNormed, refMean]

/-- It is the kernel's. -/
theorem ref_eq_weights (x t : FVec Ideal S8192x1024 .f32) (g : FVec Ideal S1x1024 .f32) : refWeights x (refSlope x t g) = weights x t g := by
  funext j
  obtain ⟨j, rfl⟩ : ∃ a, j = ix1 a := ⟨j 0, eq_ix1 j⟩
  refine (ref_weights x _ j).trans (Finset.sum_congr rfl fun k _ => ?_)
  rw [show row (refSlope x t g) k j = _ from ref_slope x t g k j]
  exact mul_comm _ _

/-- The reference's loss. -/
abbrev refLoss (x t : FVec Ideal S8192x1024 .f32) (g : FVec Ideal S1x1024 .f32) : FVec Ideal S_ .f32 :=
  mulf (constant S_ .f32 0x3F000000#32) (Host.reduceAdd (Host.divf (Host.reduceAdd (mulf (refErr x t g) (refErr x t g)) (constant S_ .f32 0x00000000#32)
    reducesTo_S8192x1024_S8192_d1 h_S_) (broadcastInDim S8192 ![] bcast_S_S8192 (constant S_ .f32 0x44800000#32))) (constant S_ .f32 0x00000000#32) reducesTo_S8192_S_d0 h_S_)

/-- It is the kernel's. -/
theorem ref_eq_loss (x t : FVec Ideal S8192x1024 .f32) (g : FVec Ideal S1x1024 .f32) : refLoss x t g = loss x t g := by
  funext j
  pointwise [refLoss, refErr, refNormed, refMean]

/-- The results are the reference's. -/
theorem algebraic : Cert.algebraic_LossHeadIdeal_LossHeadRefIdeal := fun m g m' g' _ hw =>
  ⟨fun c => loss (m ((c : Thread nD τ).loc Cert.LossHeadIdeal.main_arg0)) (m ((c : Thread nD τ).loc Cert.LossHeadIdeal.main_arg1))
      (m ((c : Thread nD τ).loc Cert.LossHeadIdeal.main_arg2)),
   fun c => gradient (m ((c : Thread nD τ).loc Cert.LossHeadIdeal.main_arg0)) (m ((c : Thread nD τ).loc Cert.LossHeadIdeal.main_arg1))
      (m ((c : Thread nD τ).loc Cert.LossHeadIdeal.main_arg2)),
   fun c => weights (m ((c : Thread nD τ).loc Cert.LossHeadIdeal.main_arg0)) (m ((c : Thread nD τ).loc Cert.LossHeadIdeal.main_arg1))
      (m ((c : Thread nD τ).loc Cert.LossHeadIdeal.main_arg2)),
   run m g,
   (θ_run defs _ _).mono (fun _ h c =>
      ⟨(h c).1.trans (by rw [(hw c).1, (hw c).2.1, (hw c).2.2]; exact ref_eq_loss _ _ _),
       (h c).2.1.trans (by unfold Cert.LossHeadRefIdeal.Value.res_main_v48; rw [(hw c).1, (hw c).2.1, (hw c).2.2]; exact ref_eq_gradient _ _ _),
       (h c).2.2.1.trans (by rw [(hw c).1, (hw c).2.1, (hw c).2.2]; exact ref_eq_weights _ _ _), (h c).2.2.2⟩)
    (Cert.LossHeadRefIdeal.Value.run m' g')⟩

end Cert.LossProof

end
-- ==== Proof.NormValue.lean ====
/-
# The norm

The kernel divides every row by its root mean square and scales it by the weights, 512 rows at a time; the reference does
the same with the whole array.  The rounding of the result does nothing over the reals.
-/
module

public import proofs.«01_k».proof.Defs
public import proofs.«01_k».proof.Proof.Gen.NormIdeal.Frame
public import proofs.«01_k».proof.Proof.Gen.NormRefIdeal.Run
public import proofs.«01_k».proof.Proof.NormRow
public import Idealize.ShloMosaic.Lib.Pipeline.Value
public import Idealize.ShloMosaic.Lib.Pointwise
public import Idealize.ShloMosaic.Lib.IdealHost

@[expose] public section

noncomputable section

open Idealize.ShloMosaic Idealize.ShloMosaic.TcCoe Idealize.SL.Sem
open Idealize.ShloMosaic.Pipeline (Dat)

namespace Cert.NormProof

open Cert.NormIdeal Cert.NormIdeal.Gen Cert.NormRow

/-- What the kernel stores for a block of rows: each element by the reciprocal root of its row, and by its column's weight. -/
theorem stored (x : FVec Ideal S512x1024 .f32) (g : FVec Ideal S1x1024 .f32) (j : S512x1024.Idx) :
    (k0_pay1 (F := Ideal) x g j : EReal) = x j * root (fun k => x (ix2 (j 0) k)) * g (ix2 0 (j 1)) := by
  obtain ⟨a, b, rfl⟩ : ∃ a b, j = ix2 a b := ⟨j 0, j 1, eq_ix2 j⟩
  pointwise [k0_pay1]

/-- The result: the same of the whole array. -/
abbrev result (x : FVec Ideal S8192x1024 .f32) (g : FVec Ideal S1x1024 .f32) : FVec Ideal S8192x1024 .bf16 := fun i =>
  (x i * root (fun k => x (ix2 (i 0) k)) * g (ix2 0 (i 1)) : EReal)

section

variable (m : (ℓ : Loc nD τ sig) → Buf (Elt Ideal) ℓ) (ρ : Dev nD → PrngReg)

theorem hz : (![0, 0] : Fin 2 → ℕ) = fun _ => 0 := by
  funext a; fin_cases a <;> rfl

/-- The blocks of the array and of the result at a point are the same rows; the weights are there whole. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- What a point writes back is its block of the result. -/
theorem flushed_eq (c : Dev nD) (t : Fin cfg0.N) :
    (dats m 0 c).flushed 2 t = ((cfg0.win 2).blk t).view.read (Elt Ideal) (result (V m c main_arg0) (V m c main_arg1)) := by
  have e : (dats m 0 c).flushed 2 t = (cfg0.win 2).cut (grid0.coords t) (k0_pay1 (F := Ideal) (iblk m c 0 t) (iblk m c 1 t)) := by
    show (cfg0.win 2).cut (grid0.coords t) ((dats m 0 c).after 2 t) = _
    rw [after0_2]
    unfold out0_2
    rw [View.canon_unit_zero hz, View.ld_unit_zero (S := S512x1024) hz, View.ld_unit_zero (S := S1x1024) hz]
  rw [e]
  obtain ⟨⟨a0, a1⟩, ⟨b0, b1⟩, c0, c1⟩ := places t
  funext j
  have hj0 : (j 0).val < 512 := (j 0).isLt
  have hj1 : (j 1).val < 1024 := (j 1).isLt
  refine (stored _ _ j).trans ?_
  have hx : iblk m c 0 t j = V m c main_arg0 (((cfg0.win 2).blk t).view.emb j) := by
    refine congrArg (V m c main_arg0) (funext fun b => Fin.ext ?_)
    fin_cases b
    · show win0_0.index t (0 : Fin 2) * 512 + 1 * (j 0).val = win0_2.index t (0 : Fin 2) * 512 + 1 * (j 0).val; omega
    · show win0_0.index t (1 : Fin 2) * 1024 + 1 * (j 1).val = win0_2.index t (1 : Fin 2) * 1024 + 1 * (j 1).val; omega
  have hr (k : Fin 1024) : iblk m c 0 t (ix2 (j 0) k) = V m c main_arg0 (ix2 ((((cfg0.win 2).blk t).view.emb j) 0) k) := by
    refine congrArg (V m c main_arg0) (funext fun b => Fin.ext ?_)
    fin_cases b
    · show win0_0.index t (0 : Fin 2) * 512 + 1 * (j 0).val = win0_2.index t (0 : Fin 2) * 512 + 1 * (j 0).val; omega
    · show win0_0.index t (1 : Fin 2) * 1024 + 1 * k.val = k.val; omega
  have hg : iblk m c 1 t (ix2 0 (j 1)) = V m c main_arg1 (ix2 0 ((((cfg0.win 2).blk t).view.emb j) 1)) := by
    refine congrArg (V m c main_arg1) (funext fun b => Fin.ext ?_)
    fin_cases b
    · show win0_1.index t (0 : Fin 2) * 1 + 1 * 0 = 0; omega
    · show win0_1.index t (1 : Fin 2) * 1024 + 1 * (j 1).val = win0_2.index t (1 : Fin 2) * 1024 + 1 * (j 1).val; omega
  rw [hx, funext hr, hg]
  rfl

/-- The elements of a point's block are those of its rows. -/
theorem mem_rows (t : Fin cfg0.N) (i : S8192x1024.Idx) :
    i ∈ ((cfg0.win 2).blk t).view.set ↔ ∀ a, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]

/-- An element is in the block of the point that has its row. -/
theorem cover (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  obtain ⟨-, -, c0, c1⟩ := places ⟨(i 0).val / 512, by omega⟩
  refine ⟨⟨(i 0).val / 512, by omega⟩, flush0_2 _, ?_⟩
  rw [mem_rows]
  intro a
  fin_cases a
  · show win0_2.index _ (0 : Fin 2) * 512 ≤ (i 0).val ∧ (i 0).val < win0_2.index _ (0 : Fin 2) * 512 + 512
    rw [c0]; dsimp only; omega
  · show win0_2.index _ (1 : Fin 2) * 1024 ≤ (i 1).val ∧ (i 1).val < win0_2.index _ (1 : Fin 2) * 1024 + 1024
    rw [c1]; omega

/-- The kernel's result is that, of the whole arrays. -/
theorem final (c : Dev nD) : (dats m 0 c).arrAt 2 cfg0.N = result (m ((c : Thread nD τ).loc main_arg0)) (m ((c : Thread nD τ).loc main_arg1)) :=
  (dats m 0 c).arrAt_eq_of_cover 2 _ (fun t _ => flushed_eq m c t) cover

end

/-- The mean of the squares of every row, and ε, as the reference has them. -/
abbrev refMean (x : FVec Ideal S8192x1024 .f32) : FVec Ideal Cert.NormRefIdeal.S8192x1 .f32 :=
  addf (Host.divf (broadcastInDim Cert.NormRefIdeal.S8192x1 ![0] Cert.NormRefIdeal.Gen.bcast_S8192_S8192x1_0 (Host.reduceAdd (mulf x x) (constant Cert.NormRefIdeal.S_ .f32 0x00000000#32)
      Cert.NormRefIdeal.Gen.reducesTo_S8192x1024_S8192_d1 Cert.NormRefIdeal.Gen.h_S_))
    (broadcastInDim Cert.NormRefIdeal.S8192x1 ![] Cert.NormRefIdeal.Gen.bcast_S_S8192x1 (constant Cert.NormRefIdeal.S_ .f32 0x44800000#32)))
    (broadcastInDim Cert.NormRefIdeal.S8192x1 ![] Cert.NormRefIdeal.Gen.bcast_S_S8192x1 (constant Cert.NormRefIdeal.S_ .f32 0x358637BD#32))

/-- The reference's result. -/
abbrev refResult (x : FVec Ideal S8192x1024 .f32) (g : FVec Ideal S1x1024 .f32) : FVec Ideal S8192x1024 .bf16 :=
  truncf .bf16 (mulf (mulf x (broadcastInDim S8192x1024 ![0, 1] Cert.NormRefIdeal.Gen.bcast_S8192x1_S8192x1024_0_1 (Host.rsqrt (refMean x))))
    (broadcastInDim S8192x1024 ![0, 1] Cert.NormRefIdeal.Gen.bcast_S1x1024_S8192x1024_0_1 g)) Cert.NormRefIdeal.Gen.bitsLt_bf16_f32

/-- It is what the kernel computes. -/
theorem ref_eq (x : FVec Ideal S8192x1024 .f32) (g : FVec Ideal S1x1024 .f32) : refResult x g = result x g := by
  funext j
  obtain ⟨a, b, rfl⟩ : ∃ a b, j = ix2 a b := ⟨j 0, j 1, eq_ix2 j⟩
  pointwise [refResult, refMean]
  rfl

/-- The result is the reference's. -/
theorem algebraic : Cert.algebraic_NormIdeal_NormRefIdeal := fun m g m' g' _ hw =>
  ⟨fun c => result (m ((c : Thread nD τ).loc main_arg0)) (m ((c : Thread nD τ).loc main_arg1)),
   (θ_run defs _ _).mono (fun _ h c => ⟨((h.1 c).1 2).trans (final m c), h.2 c⟩) (θ_run_and (run_main m g) (unchanged m g)),
   (θ_run Cert.NormRefIdeal.defs _ _).mono (fun _ h c =>
      ⟨(h c).1.trans (by rw [(hw c).1, (hw c).2]; exact ref_eq _ _), (h c).2⟩)
    (Cert.NormRefIdeal.Value.run m' g')⟩

end Cert.NormProof

end
-- ==== Proof.ProjValue.lean ====
/-
# The projection into the layer

The kernel multiplies 1024 rows of the input by 1152 columns of the weights at a time; an element of the product is one sum
over the 1024 numbers of its row and its column, as in the reference.
-/
module

public import proofs.«01_k».proof.Defs
public import proofs.«01_k».proof.Proof.Gen.ProjIdeal.Frame
public import proofs.«01_k».proof.Proof.Gen.ProjRefIdeal.Run
public import Idealize.ShloMosaic.Lib.Pipeline.Value
public import Idealize.ShloMosaic.Lib.Pointwise
public import Idealize.ShloMosaic.Lib.IdealHost

@[expose] public section

noncomputable section

open Idealize.ShloMosaic Idealize.ShloMosaic.TcCoe Idealize.SL.Sem
open Idealize.ShloMosaic.Pipeline (Dat)

namespace Cert.ProjProof

open Cert.ProjIdeal Cert.ProjIdeal.Gen

/-- What the kernel stores for a block, started from zero: the products of its rows and its columns. -/
theorem stored (x : FVec Ideal S1024x1024 .bf16) (y : FVec Ideal S1024x1152 .bf16) (j : S1024x1152.Idx) :
    (k0_pay2 (F := Ideal) (k0_pay1 (F := Ideal)) x y j : EReal) = ∑ k : Fin 1024, (x (ix2 (j 0) k) * y (ix2 k (j 1)) : EReal) := by
  obtain ⟨a, b, rfl⟩ : ∃ a b, j = ix2 a b := ⟨j 0, j 1, eq_ix2 j⟩
  pointwise [k0_pay2, k0_pay1]

/-- An element of the product of the whole arrays. -/
abbrev entry (x : FVec Ideal S8192x1024 .bf16) (w : FVec Ideal S1024x10368 .bf16) (a : Fin 8192) (b : Fin 10368) : EReal :=
  ∑ k : Fin 1024, (x (ix2 a k) * w (ix2 k b) : EReal)

/-- The product of the whole arrays. -/
abbrev product (x : FVec Ideal S8192x1024 .bf16) (w : FVec Ideal S1024x10368 .bf16) : FVec Ideal S8192x10368 .f32 := fun i =>
  entry x w (i 0) (i 1)

section

variable (m : (ℓ : Loc nD τ sig) → Buf (Elt Ideal) ℓ) (ρ : Dev nD → PrngReg)

theorem hz : (![0, 0] : Fin 2 → ℕ) = fun _ => 0 := by
  funext a; fin_cases a <;> rfl

/-- What a point leaves. -/
theorem left (c : Dev nD) (i : grid0.Coords) (arg3 : Memref sig .tc .vmem S1024x1024 .bf16) (harg3 : arg3.IsWhole) (arg4 : Memref sig .tc .vmem S1024x1152 .bf16) (harg4 : arg4.IsWhole) (arg5 : Memref sig .tc .vmem S1024x1152 .f32) (harg5 : arg5.IsWhole) (arg6 : Memref sig .tc .vmem S1024x1152 .f32) (harg6 : arg6.IsWhole) (hc0 : cond0_0 i) (hc1 : cond0_1 i)
    (x0 : Vec Ideal S1024x1024 .bf16) (x1 : Vec Ideal S1024x1152 .bf16) :
    out0_A_2 c i arg3 harg3 arg4 harg4 arg5 harg5 arg6 harg6 hc0 hc1 x0 x1 = k0_pay2 (F := Ideal) (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, View.readCov_cons_toLoadRect, View.readCov_unit_zero (S := S1024x1152) _ hz]
  refine congrArg₂ (k0_pay2 (F := Ideal) (k0_pay1 (F := Ideal))) ?_ ?_
  · rw [View.readAt_eq_ld, harg3.read_unread, View.ld_unit_zero (S := S1024x1024) hz]
  · rw [View.readAt_eq_ld, harg4.read_unread, View.ld_unit_zero (S := S1024x1152) hz]

/-- The points go over the blocks of columns for one block of rows after the other. -/
theorem places : ∀ t : Fin cfg0.N, (win0_0.index t (0 : Fin 2) = t.val / 9 ∧ win0_0.index t (1 : Fin 2) = 0)
    ∧ (win0_1.index t (0 : Fin 2) = 0 ∧ win0_1.index t (1 : Fin 2) = t.val % 9)
    ∧ win0_2.index t (0 : Fin 2) = t.val / 9 ∧ win0_2.index t (1 : Fin 2) = t.val % 9 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal) (product (V m c main_arg0) (V m c main_arg1)) := by
  have e : (dats m 0 c).flushed 2 t = (cfg0.win 2).cut (grid0.coords t) (k0_pay2 (F := Ideal) (k0_pay1 (F := Ideal)) (iblk m c 0 t) (iblk m c 1 t)) := by
    show (cfg0.win 2).cut (grid0.coords t) ((dats m 0 c).after 2 t) = _
    rw [after0_2]
    unfold outsAt0
    rw [left]
  rw [e]
  obtain ⟨⟨a0, a1⟩, ⟨b0, b1⟩, c0, c1⟩ := places t
  funext j
  refine (stored _ _ j).trans ?_
  show _ = entry (V m c main_arg0) (V m c main_arg1) ((((cfg0.win 2).blk t).view.emb j) 0) ((((cfg0.win 2).blk t).view.emb j) 1)
  refine Finset.sum_congr rfl fun k _ => congrArg₂ (fun a b : EReal => a * b) ?_ ?_
  · refine congrArg (V m c main_arg0) (funext fun b => Fin.ext ?_)
    fin_cases b
    · show win0_0.index t (0 : Fin 2) * 1024 + 1 * (j 0).val = win0_2.index t (0 : Fin 2) * 1024 + 1 * (j 0).val; omega
    · show win0_0.index t (1 : Fin 2) * 1024 + 1 * k.val = k.val; omega
  · refine congrArg (V m c main_arg1) (funext fun b => Fin.ext ?_)
    fin_cases b
    · show win0_1.index t (0 : Fin 2) * 1024 + 1 * k.val = k.val; omega
    · show win0_1.index t (1 : Fin 2) * 1152 + 1 * (j 1).val = win0_2.index t (1 : Fin 2) * 1152 + 1 * (j 1).val; omega

/-- The elements of a point's block are those of its rows and its columns. -/
theorem mem_block (t : Fin cfg0.N) (i : S8192x10368.Idx) :
    i ∈ ((cfg0.win 2).blk t).view.set ↔ ∀ a, win0_2.index t a * S1024x1152.size a ≤ (i a).val ∧ (i a).val < win0_2.index t a * S1024x1152.size a + S1024x1152.size a := by
  show i ∈ ((View.whole main_v0).slice (win0_2.rect t)).set ↔ _
  rw [View.set_slice_whole, Rect.mem_set_unit]

/-- An element is in the block of the point that has its row and its column. -/
theorem cover (i : S8192x10368.Idx) : ∃ t : Fin cfg0.N, (cfg0.win 2).flush t = true ∧ i ∈ ((cfg0.win 2).blk t).view.set := by
  have h0 : (i 0).val < 8192 := (i 0).isLt
  have h1 : (i 1).val < 10368 := (i 1).isLt
  have hN : cfg0.N = 72 := N_0
  obtain ⟨-, -, c0, c1⟩ := places ⟨(i 0).val / 1024 * 9 + (i 1).val / 1152, by omega⟩
  refine ⟨⟨(i 0).val / 1024 * 9 + (i 1).val / 1152, by omega⟩, flush0_2 _, ?_⟩
  rw [mem_block]
  intro a
  fin_cases a
  · show win0_2.index _ (0 : Fin 2) * 1024 ≤ (i 0).val ∧ (i 0).val < win0_2.index _ (0 : Fin 2) * 1024 + 1024
    rw [c0]; dsimp only; omega
  · show win0_2.index _ (1 : Fin 2) * 1152 ≤ (i 1).val ∧ (i 1).val < win0_2.index _ (1 : Fin 2) * 1152 + 1152
    rw [c1]; dsimp only; omega

/-- The kernel's result is the product. -/
theorem final (c : Dev nD) : (dats m 0 c).arrAt 2 cfg0.N = product (m ((c : Thread nD τ).loc main_arg0)) (m ((c : Thread nD τ).loc main_arg1)) :=
  (dats m 0 c).arrAt_eq_of_cover 2 _ (fun t _ => flushed_eq m c t) cover

end

/-- The reference's result. -/
abbrev refProduct (x : FVec Ideal S8192x1024 .bf16) (w : FVec Ideal S1024x10368 .bf16) : FVec Ideal S8192x10368 .f32 :=
  Host.dotGeneral Cert.ProjRefIdeal.dot_S8192x1024_S1024x10368_S8192x10368_1_0_0_1_n_n none (extf .f32 x Cert.ProjRefIdeal.Gen.bitsLt_bf16_f32) (extf .f32 w Cert.ProjRefIdeal.Gen.bitsLt_bf16_f32)

/-- It is the product. -/
theorem ref_eq (x : FVec Ideal S8192x1024 .bf16) (w : FVec Ideal S1024x10368 .bf16) : refProduct x w = product x w := by
  funext j
  obtain ⟨a, b, rfl⟩ : ∃ a b, j = ix2 a b := ⟨j 0, j 1, eq_ix2 j⟩
  pointwise [refProduct]
  rfl

/-- The result is the reference's. -/
theorem algebraic : Cert.algebraic_ProjIdeal_ProjRefIdeal := fun m g m' g' _ hw =>
  ⟨fun c => product (m ((c : Thread nD τ).loc main_arg0)) (m ((c : Thread nD τ).loc main_arg1)),
   (θ_run defs _ _).mono (fun _ h c => ⟨((h.1 c).1 2).trans (final m c), h.2 c⟩) (θ_run_and (run_main m g) (unchanged m g)),
   (θ_run Cert.ProjRefIdeal.defs _ _).mono (fun _ h c =>
      ⟨(h c).1.trans (by rw [(hw c).1, (hw c).2]; exact ref_eq _ _), (h c).2⟩)
    (Cert.ProjRefIdeal.Value.run m' g')⟩

end Cert.ProjProof

end
-- ==== Proof.ProjDxValue.lean ====
/-
# The gradient of the projection's input

The kernel multiplies 1024 rows of the gradient of the projection's output by the transposed weights, 1152 of the 10368
numbers of a row at a time: the first point of a row block starts the sum from zero, each later one adds to what the point
before left, and the ninth writes the sum back.  The reference's product is one sum over the 10368 numbers.
-/
module

public import proofs.«01_k».proof.Defs
public import proofs.«01_k».proof.Proof.Gen.ProjDxIdeal.Frame
public import proofs.«01_k».proof.Proof.Gen.ProjDxRefIdeal.Run
public import Idealize.ShloMosaic.Lib.Pipeline.Value
public import Idealize.ShloMosaic.Lib.Pointwise
public import Idealize.ShloMosaic.Lib.IdealHost

@[expose] public section

noncomputable section

open Idealize.ShloMosaic Idealize.ShloMosaic.TcCoe Idealize.SL.Sem
open Idealize.ShloMosaic.Pipeline (Dat)

namespace Cert.ProjDxProof

open Cert.ProjDxIdeal Cert.ProjDxIdeal.Gen

/-- The products of a block's rows and its columns. -/
def part (x : FVec Ideal S1024x1152 .bf16) (y : FVec Ideal S1152x1024 .bf16) (j : S1024x1024.Idx) : EReal :=
  ∑ k : Fin 1152, (x (ix2 (j 0) k) * y (ix2 k (j 1)) : EReal)

/-- What a point leaves: what it starts from, and the products of its rows and its columns. -/
theorem stored (s : FVec Ideal S1024x1024 .f32) (x : FVec Ideal S1024x1152 .bf16) (y : FVec Ideal S1152x1024 .bf16) (j : S1024x1024.Idx) :
    (k0_pay2 (F := Ideal) s x y j : EReal) = s j + part x y j := by
  obtain ⟨a, b, rfl⟩ : ∃ a b, j = ix2 a b := ⟨j 0, j 1, eq_ix2 j⟩
  unfold part
  pointwise [k0_pay2]

/-- The sum starts from zero. -/
theorem start (j : S1024x1024.Idx) : (k0_pay1 (F := Ideal) j : EReal) = 0 := by
  obtain ⟨a, b, rfl⟩ : ∃ a b, j = ix2 a b := ⟨j 0, j 1, eq_ix2 j⟩
  pointwise [k0_pay1]

/-- The number of the `k`-th element of the `s`-th of the nine parts of a row. -/
abbrev place (s : Fin 9) (k : Fin 1152) : Fin 10368 := ⟨s.val * 1152 + k.val, by have := s.isLt; have := k.isLt; omega⟩

/-- An element of the product of an array and the transpose of another. -/
@[irreducible] def entry (x : FVec Ideal S8192x10368 .bf16) (w : FVec Ideal S1024x10368 .bf16) (a : Fin 8192) (b : Fin 1024) : EReal :=
  ∑ k : Fin 10368, (x (ix2 a k) * w (ix2 b k) : EReal)

/-- The nine parts of its sum. -/
theorem entry_parts (x : FVec Ideal S8192x10368 .bf16) (w : FVec Ideal S1024x10368 .bf16) (a : Fin 8192) (b : Fin 1024) :
    entry x w a b = ∑ s : Fin 9, ∑ k : Fin 1152, (x (ix2 a (place s k)) * w (ix2 b (place s k)) : EReal) := by
  unfold entry
  exact Fin.sum_univ_tiles 9 1152 (by decide) fun k : Fin 10368 => (x (ix2 a k) * w (ix2 b k) : EReal)

/-- The product. -/
abbrev product (x : FVec Ideal S8192x10368 .bf16) (w : FVec Ideal S1024x10368 .bf16) : FVec Ideal S8192x1024 .f32 := fun i =>
  entry x w (i 0) (i 1)

theorem hz : (![0, 0] : Fin 2 → ℕ) = fun _ => 0 := by
  funext a; fin_cases a <;> rfl

/-- What the first point of a row block leaves of the sum. -/
theorem sum_A (c : Dev nD) (i : grid0.Coords) (arg3 : Memref sig .tc .vmem S1024x1152 .bf16) (harg3 : arg3.IsWhole) (arg4 : Memref sig .tc .vmem S1152x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec Ideal S1024x1152 .bf16) (x1 : Vec Ideal S1152x1024 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S1024x1024) _ hz]
  refine congrArg₂ (k0_pay2 (F := Ideal) (k0_pay1 (F := Ideal))) ?_ ?_
  · rw [View.readAt_eq_ld, harg3.read_unread, View.ld_unit_zero (S := S1024x1152) hz]
  · rw [View.readAt_eq_ld, harg4.read_unread, View.ld_unit_zero (S := S1152x1024) hz]

/-- What a later one leaves of it. -/
theorem sum_B (c : Dev nD) (i : grid0.Coords) (arg3 : Memref sig .tc .vmem S1024x1152 .bf16) (harg3 : arg3.IsWhole) (arg4 : Memref sig .tc .vmem S1152x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec Ideal S1024x1152 .bf16) (x1 : Vec Ideal S1152x1024 .bf16) (xs0 : Vec Ideal S1024x1024 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread, View.ld_unit_zero (S := S1024x1152) hz,
    View.ld_unit_zero (S := S1152x1024) hz, View.ld_unit_zero (S := S1024x1024) hz]

/-- What the last one leaves of it. -/
theorem sum_C (c : Dev nD) (i : grid0.Coords) (arg3 : Memref sig .tc .vmem S1024x1152 .bf16) (harg3 : arg3.IsWhole) (arg4 : Memref sig .tc .vmem S1152x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x1152 .bf16) (x1 : Vec Ideal S1152x1024 .bf16) (xs0 : Vec Ideal S1024x1024 .f32) :
    sout0_C_0 c i arg3 harg3 arg4 harg4 arg5 harg5 arg6 harg6 hc0 hc1 x0 x1 xs0 = k0_pay2 (F := Ideal) xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1152) hz,
    View.ld_unit_zero (S := S1152x1024) hz, View.ld_unit_zero (S := S1024x1024) hz]

/-- It writes the same back. -/
theorem left_C (c : Dev nD) (i : grid0.Coords) (arg3 : Memref sig .tc .vmem S1024x1152 .bf16) (harg3 : arg3.IsWhole) (arg4 : Memref sig .tc .vmem S1152x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec Ideal S1024x1152 .bf16) (x1 : Vec Ideal S1152x1024 .bf16) (xs0 : Vec Ideal S1024x1024 .f32) :
    out0_C_2 c i arg3 harg3 arg4 harg4 arg5 harg5 arg6 harg6 hc0 hc1 x0 x1 xs0 = k0_pay2 (F := Ideal) xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x1152) hz,
    View.ld_unit_zero (S := S1152x1024) hz, View.ld_unit_zero (S := S1024x1024) hz]

section

variable (m : (ℓ : Loc nD τ sig) → Buf (Elt Ideal) ℓ) (ρ : Dev nD → PrngReg)

/-- The sum after a point. -/
def sumAt (c : Dev nD) (n : ℕ) (h : n < cfg0.N) : S1024x1024.Idx → EReal := (outsAt0 m c n h).2

/-- What a point adds to it. -/
def added (c : Dev nD) (n : ℕ) (j : S1024x1024.Idx) : EReal :=
  if h : n < cfg0.N then part (iblk m c 0 ⟨n, h⟩) (iblk m c 1 ⟨n, h⟩) j else 0

theorem added_of_lt (c : Dev nD) (n : ℕ) (h : n < cfg0.N) (j : S1024x1024.Idx) : added m c n j = part (iblk m c 0 ⟨n, h⟩) (iblk m c 1 ⟨n, h⟩) j :=
  dif_pos h

/-- What the points leave of the sum: the first one of a row block, and a later one. -/
theorem at_first (c : Dev nD) (t : Fin cfg0.N) (h0 : t.val % 9 = 0) :
    (outsAt0 m c t.val t.isLt).2 = k0_pay2 (F := Ideal) (k0_pay1 (F := Ideal)) (iblk m c 0 t) (iblk m c 1 t) := by
  rw [outsAt0_A m c t h0 (by omega)]
  dsimp only
  rw [sum_A]

@[inherit_doc at_first]
theorem at_later (c : Dev nD) (t : Fin cfg0.N) (h0 : ¬t.val % 9 = 0) :
    (outsAt0 m c t.val t.isLt).2
      = k0_pay2 (F := Ideal) (outsAt0 m c (t.val - 1) (Nat.lt_of_le_of_lt (Nat.sub_le _ _) t.isLt)).2 (iblk m c 0 t) (iblk m c 1 t) := by
  by_cases h1 : t.val % 9 = 8
  · rw [outsAt0_C m c t h0 h1]
    dsimp only
    rw [sum_C]
  · rw [outsAt0_B m c t h0 h1]
    dsimp only
    rw [sum_B]

/-- At the first point the sum is what the point adds. -/
theorem sum_first (c : Dev nD) (n : ℕ) (h : n < cfg0.N) (hn : n % 9 = 0) : sumAt m c n h = fun j => 0 + added m c n j := by
  funext j
  rw [added_of_lt m c n h, ← start j, ← stored]
  exact congrFun (at_first m c ⟨n, h⟩ hn) j

/-- At a later one it is that of the point before, and what the point adds. -/
theorem sum_later (c : Dev nD) (n : ℕ) (h : n + 1 < cfg0.N) (hn : ¬(n + 1) % 9 = 0) :
    sumAt m c (n + 1) h = fun j => sumAt m c n (Nat.lt_of_succ_lt h) j + added m c (n + 1) j := by
  funext j
  rw [added_of_lt m c (n + 1) h, ← stored]
  exact congrFun (at_later m c ⟨n + 1, h⟩ hn) j

/-- At the last point of a row block it is what its nine points have added. -/
theorem sum_last (c : Dev nD) (n : ℕ) (h : n < cfg0.N) (hn : n % 9 = 8) (j : S1024x1024.Idx) :
    sumAt m c n h j = ∑ s ∈ Finset.range 9, added m c (9 * (n / 9) + s) j := by
  have hN : 9 * (n / 9) + n % 9 < cfg0.N := by rw [Nat.div_add_mod]; exact h
  rw [Pipeline.eq_accAt_of_mod (sumAt m c) 9 (fun n _ j => 0 + added m c n j) (fun n _ s j => s j + added m c n j)
    (sum_first m c) (sum_later m c) (by decide) n h hN]
  rw [Pipeline.accAt_add_apply _ _ (fun _ => 0) (added m c) (9 * (n / 9)) 8 (fun _ _ => rfl) (fun _ _ _ _ _ _ => rfl) (n % 9) (by omega) hN j, hn, zero_add]

/-- The points go over the row blocks, and for each over the blocks of the numbers that are summed. -/
theorem places : ∀ t : Fin cfg0.N, (win0_0.index t (0 : Fin 2) = t.val / 9 ∧ win0_0.index t (1 : Fin 2) = t.val % 9)
    ∧ (win0_1.index t (0 : Fin 2) = t.val % 9 ∧ win0_1.index t (1 : Fin 2) = 0)
    ∧ win0_2.index t (0 : Fin 2) = t.val / 9 ∧ win0_2.index t (1 : Fin 2) = 0 :=
  (by decide +kernel : ∀ t : Fin grid0.N, _)

/-- The arguments: the gradient of the output, and the weights. -/
abbrev whole0 (c : Dev nD) : FVec Ideal S8192x10368 .bf16 := m ((c : Thread nD τ).loc main_arg0)
@[inherit_doc whole0] abbrev whole1 (c : Dev nD) : FVec Ideal S1024x10368 .bf16 := m ((c : Thread nD τ).loc main_arg1)

/-- The weights are transposed before the call. -/
theorem transposed (c : Dev nD) : V m c main_v0 = transpose S10368x1024 [1, 0] (m ((c : Thread nD τ).loc main_arg1)) transposes_S1024x10368_S10368x1024_1_0 := by
  show StableHlo.after hostOps0 (fun b => m (c, b)) main_v0 = _
  after_results_simp

/-- An element of them. -/
theorem transposed_apply (c : Dev nD) (k : Fin 10368) (b : Fin 1024) :
    V m c main_v0 (ix2 k b) = m ((c : Thread nD τ).loc main_arg1) (ix2 b k) := by
  rw [transposed]
  pointwise

/-- What the point of a row block that has the `s`-th part adds to an element: that part of its sum. -/
theorem added_eq (c : Dev nD) (t : Fin cfg0.N) (j : S1024x1024.Idx) (s : Fin 9) :
    added m c (9 * (t.val / 9) + s.val) j = ∑ k : Fin 1152, (whole0 m c (ix2 ((((cfg0.win 2).blk t).view.emb j) 0) (place s k)) * whole1 m c (ix2 ((((cfg0.win 2).blk t).view.emb j) 1) (place s k)) : EReal) := by
  have hN : cfg0.N = 72 := N_0
  have ht := t.isLt
  have hs := s.isLt
  have h : 9 * (t.val / 9) + s.val < cfg0.N := by omega
  obtain ⟨⟨a0, a1⟩, ⟨b0, b1⟩, -, -⟩ := places ⟨9 * (t.val / 9) + s.val, h⟩
  obtain ⟨-, -, c0, c1⟩ := places t
  dsimp only at a0 a1 b0 b1
  rw [added_of_lt m c _ h]
  unfold part
  refine Finset.sum_congr rfl fun k _ => congrArg₂ (fun a b : EReal => a * b) ?_ ?_
  · refine (congrArg (V m c main_arg0) (funext fun b => Fin.ext ?_)).trans (congrFun (V_main_arg0 m c) _)
    fin_cases b
    · show win0_0.index _ (0 : Fin 2) * 1024 + 1 * (j 0).val = win0_2.index t (0 : Fin 2) * 1024 + 1 * (j 0).val; omega
    · show win0_0.index _ (1 : Fin 2) * 1152 + 1 * k.val = s.val * 1152 + k.val; omega
  · refine (congrArg (V m c main_v0) (funext fun b => Fin.ext ?_)).trans (transposed_apply m c _ _)
    fin_cases b
    · show win0_1.index _ (0 : Fin 2) * 1152 + 1 * k.val = s.val * 1152 + k.val; omega
    · show win0_1.index _ (1 : Fin 2) * 1024 + 1 * (j 1).val = win0_2.index t (1 : Fin 2) * 1024 + 1 * (j 1).val; omega

/-- The row and the column, in the product, of an element of a point's block. -/
abbrev rowOf (t : Fin cfg0.N) (j : S1024x1024.Idx) : Fin 8192 := (((cfg0.win 2).blk t).view.emb j) 0
@[inherit_doc rowOf] abbrev colOf (t : Fin cfg0.N) (j : S1024x1024.Idx) : Fin 1024 := (((cfg0.win 2).blk t).view.emb j) 1

/-- A block whose elements are those of the product is the product's. -/
theorem block_eq (c : Dev nD) (t : Fin cfg0.N) (X : FVec Ideal S1024x1024 .f32)
    (h : ∀ j : S1024x1024.Idx, (X j : EReal) = entry (whole0 m c) (whole1 m c) (rowOf t j) (colOf t j)) :
    (cfg0.win 2).cut (grid0.coords t) X = ((cfg0.win 2).blk t).view.read (Elt Ideal) (product (whole0 m c) (whole1 m c)) := by
  funext j
  refine Eq.trans (b := (X j : EReal)) rfl ?_
  refine (h j).trans ?_
  rfl

/-- What the last point of a row block writes back is its block of the product. -/
theorem flushed_eq (c : Dev nD) (t : Fin cfg0.N) (hf : (cfg0.win 2).flush t = true) :
    (dats m 0 c).flushed 2 t = ((cfg0.win 2).blk t).view.read (Elt Ideal) (product (m ((c : Thread nD τ).loc main_arg0)) (m ((c : Thread nD τ).loc main_arg1))) := by
  have h1 : t.val % 9 = 8 := (flush0_2 t).mp hf
  have e : (dats m 0 c).flushed 2 t = (cfg0.win 2).cut (grid0.coords t) (outsAt0 m c t.val t.isLt).2 := by
    show (cfg0.win 2).cut (grid0.coords t) ((dats m 0 c).after 2 t) = _
    rw [after0_2, outsAt0_C m c t (by omega) h1]
    dsimp only
    rw [left_C, sum_C]
  rw [e]
  refine block_eq m c t _ fun j => ?_
  rw [entry_parts]
  refine (sum_last m c t.val t.isLt h1 j).trans ?_
  rw [Finset.sum_range]
  exact Finset.sum_congr rfl fun s _ => added_eq m c t j s

/-- The elements of a point's block are those of its rows. -/
theorem mem_rows (t : Fin cfg0.N) (i : S8192x1024.Idx) :
    i ∈ ((cfg0.win 2).blk t).view.set ↔ ∀ a, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]

/-- An element is in the block that the last point of its row block writes back. -/
theorem cover (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 72 := N_0
  obtain ⟨-, -, c0, c1⟩ := places ⟨(i 0).val / 1024 * 9 + 8, by omega⟩
  refine ⟨⟨(i 0).val / 1024 * 9 + 8, by omega⟩, (flush0_2 _).mpr (by dsimp only; omega), ?_⟩
  rw [mem_rows]
  intro a
  fin_cases a
  · show win0_2.index _ (0 : Fin 2) * 1024 ≤ (i 0).val ∧ (i 0).val < win0_2.index _ (0 : Fin 2) * 1024 + 1024
    rw [c0]; dsimp only; omega
  · show win0_2.index _ (1 : Fin 2) * 1024 ≤ (i 1).val ∧ (i 1).val < win0_2.index _ (1 : Fin 2) * 1024 + 1024
    rw [c1]; omega

/-- The kernel's result is the product. -/
theorem final (c : Dev nD) : (dats m 0 c).arrAt 2 cfg0.N = product (m ((c : Thread nD τ).loc main_arg0)) (m ((c : Thread nD τ).loc main_arg1)) :=
  (dats m 0 c).arrAt_eq_of_cover 2 _ (fun t hf => flushed_eq m c t hf) cover

end

/-- The reference's result. -/
abbrev refProduct (x : FVec Ideal S8192x10368 .bf16) (w : FVec Ideal S1024x10368 .bf16) : FVec Ideal S8192x1024 .f32 :=
  Host.dotGeneral Cert.ProjDxRefIdeal.dot_S8192x10368_S1024x10368_S8192x1024_1_1_0_0_n_n none (extf .f32 x Cert.ProjDxRefIdeal.Gen.bitsLt_bf16_f32) (extf .f32 w Cert.ProjDxRefIdeal.Gen.bitsLt_bf16_f32)

/-- It is the product. -/
theorem ref_eq (x : FVec Ideal S8192x10368 .bf16) (w : FVec Ideal S1024x10368 .bf16) : refProduct x w = product x w := by
  funext j
  obtain ⟨a, b, rfl⟩ : ∃ a b, j = ix2 a b := ⟨j 0, j 1, eq_ix2 j⟩
  show _ = entry x w a b
  unfold entry
  pointwise [refProduct]

/-- The result is the reference's. -/
theorem algebraic : Cert.algebraic_ProjDxIdeal_ProjDxRefIdeal := fun m g m' g' _ hw =>
  ⟨fun c => product (m ((c : Thread nD τ).loc main_arg0)) (m ((c : Thread nD τ).loc main_arg1)),
   (θ_run defs _ _).mono (fun _ h c => ⟨((h.1 c).1 2).trans (final m c), h.2 c⟩) (θ_run_and (run_main m g) (unchanged m g)),
   (θ_run Cert.ProjDxRefIdeal.defs _ _).mono (fun _ h c =>
      ⟨(h c).1.trans (by rw [(hw c).1, (hw c).2]; exact ref_eq _ _), (h c).2⟩)
    (Cert.ProjDxRefIdeal.Value.run m' g')⟩

end Cert.ProjDxProof

end
-- ==== Proof.ProjDwValue.lean ====
/-
# The gradient of the projection's weights

The kernel multiplies the transposed input of the projection by 1152 columns of the gradient of its output, 1024 of the 8192
numbers of a column at a time: the first point of a block of columns starts the sum from zero, each later one adds to what
the point before left, and the eighth writes the sum back.  The reference's product is one sum over the 8192 numbers.
-/
module

public import proofs.«01_k».proof.Defs
public import proofs.«01_k».proof.Proof.Gen.ProjDwIdeal.Frame
public import proofs.«01_k».proof.Proof.Gen.ProjDwRefIdeal.Run
public import Idealize.ShloMosaic.Lib.Pipeline.Value
public import Idealize.ShloMosaic.Lib.Pointwise
public import Idealize.ShloMosaic.Lib.IdealHost

@[expose] public section

noncomputable section

open Idealize.ShloMosaic Idealize.ShloMosaic.TcCoe Idealize.SL.Sem
open Idealize.ShloMosaic.Pipeline (Dat)

namespace Cert.ProjDwProof

open Cert.ProjDwIdeal Cert.ProjDwIdeal.Gen

/-- The products of a block's rows and its columns. -/
def part (x : FVec Ideal S1024x1024 .bf16) (y : FVec Ideal S1024x1152 .bf16) (j : S1024x1152.Idx) : EReal :=
  ∑ k : Fin 1024, (x (ix2 (j 0) k) * y (ix2 k (j 1)) : EReal)

/-- What a point leaves: what it starts from, and the products of its rows and its columns. -/
theorem stored (s : FVec Ideal S1024x1152 .f32) (x : FVec Ideal S1024x1024 .bf16) (y : FVec Ideal S1024x1152 .bf16) (j : S1024x1152.Idx) :
    (k0_pay2 (F := Ideal) s x y j : EReal) = s j + part x y j := by
  obtain ⟨a, b, rfl⟩ : ∃ a b, j = ix2 a b := ⟨j 0, j 1, eq_ix2 j⟩
  unfold part
  pointwise [k0_pay2]

/-- The sum starts from zero. -/
theorem start (j : S1024x1152.Idx) : (k0_pay1 (F := Ideal) j : EReal) = 0 := by
  obtain ⟨a, b, rfl⟩ : ∃ a b, j = ix2 a b := ⟨j 0, j 1, eq_ix2 j⟩
  pointwise [k0_pay1]

/-- The number of the `k`-th element of the `s`-th of the eight parts of a column. -/
abbrev place (s : Fin 8) (k : Fin 1024) : Fin 8192 := ⟨s.val * 1024 + k.val, by have := s.isLt; have := k.isLt; omega⟩

/-- An element of the product of the transpose of an array and another. -/
@[irreducible] def entry (x : FVec Ideal S8192x1024 .bf16) (d : FVec Ideal S8192x10368 .bf16) (a : Fin 1024) (b : Fin 10368) : EReal :=
  ∑ k : Fin 8192, (x (ix2 k a) * d (ix2 k b) : EReal)

/-- The eight parts of its sum. -/
theorem entry_parts (x : FVec Ideal S8192x1024 .bf16) (d : FVec Ideal S8192x10368 .bf16) (a : Fin 1024) (b : Fin 10368) :
    entry x d a b = ∑ s : Fin 8, ∑ k : Fin 1024, (x (ix2 (place s k) a) * d (ix2 (place s k) b) : EReal) := by
  unfold entry
  exact Fin.sum_univ_tiles 8 1024 (by decide) fun k : Fin 8192 => (x (ix2 k a) * d (ix2 k b) : EReal)

/-- The product. -/
abbrev product (x : FVec Ideal S8192x1024 .bf16) (d : FVec Ideal S8192x10368 .bf16) : FVec Ideal S1024x10368 .f32 := fun i =>
  entry x d (i 0) (i 1)

theorem hz : (![0, 0] : Fin 2 → ℕ) = fun _ => 0 := by
  funext a; fin_cases a <;> rfl

/-- What the first point of a block of columns leaves of the sum. -/
theorem sum_A (c : Dev nD) (i : grid0.Coords) (arg3 : Memref sig .tc .vmem S1024x1024 .bf16) (harg3 : arg3.IsWhole) (arg4 : Memref sig .tc .vmem S1024x1152 .bf16) (harg4 : arg4.IsWhole) (arg5 : Memref sig .tc .vmem S1024x1152 .f32) (harg5 : arg5.IsWhole) (arg6 : Memref sig .tc .vmem S1024x1152 .f32) (harg6 : arg6.IsWhole) (hc0 : cond0_0 i) (hc1 : ¬cond0_1 i)
    (x0 : Vec Ideal S1024x1024 .bf16) (x1 : Vec Ideal S1024x1152 .bf16) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz, View.readCov_unit_zero (S := S1024x1152) _ hz]
  refine congrArg₂ (k0_pay2 (F := Ideal) (k0_pay1 (F := Ideal))) ?_ ?_
  · rw [View.readAt_eq_ld, harg3.read_unread, View.ld_unit_zero (S := S1024x1024) hz]
  · rw [View.readAt_eq_ld, harg4.read_unread, View.ld_unit_zero (S := S1024x1152) hz]

/-- What a later one leaves of it. -/
theorem sum_B (c : Dev nD) (i : grid0.Coords) (arg3 : Memref sig .tc .vmem S1024x1024 .bf16) (harg3 : arg3.IsWhole) (arg4 : Memref sig .tc .vmem S1024x1152 .bf16) (harg4 : arg4.IsWhole) (arg5 : Memref sig .tc .vmem S1024x1152 .f32) (harg5 : arg5.IsWhole) (arg6 : Memref sig .tc .vmem S1024x1152 .f32) (harg6 : arg6.IsWhole) (hc0 : ¬cond0_0 i) (hc1 : ¬cond0_1 i)
    (x0 : Vec Ideal S1024x1024 .bf16) (x1 : Vec Ideal S1024x1152 .bf16) (xs0 : Vec Ideal S1024x1152 .f32) :
    sout0_B_0 c i arg3 harg3 arg4 harg4 arg5 harg5 arg6 harg6 hc0 hc1 x0 x1 xs0 = k0_pay2 (F := Ideal) xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread, View.ld_unit_zero (S := S1024x1024) hz,
    View.ld_unit_zero (S := S1024x1152) hz, View.ld_unit_zero (S := S1024x1152) hz]

/-- What the last one leaves of it. -/
theorem sum_C (c : Dev nD) (i : grid0.Coords) (arg3 : Memref sig .tc .vmem S1024x1024 .bf16) (harg3 : arg3.IsWhole) (arg4 : Memref sig .tc .vmem S1024x1152 .bf16) (harg4 : arg4.IsWhole) (arg5 : Memref sig .tc .vmem S1024x1152 .f32) (harg5 : arg5.IsWhole) (arg6 : Memref sig .tc .vmem S1024x1152 .f32) (harg6 : arg6.IsWhole) (hc0 : ¬cond0_0 i) (hc1 : cond0_1 i)
    (x0 : Vec Ideal S1024x1024 .bf16) (x1 : Vec Ideal S1024x1152 .bf16) (xs0 : Vec Ideal S1024x1152 .f32) :
    sout0_C_0 c i arg3 harg3 arg4 harg4 arg5 harg5 arg6 harg6 hc0 hc1 x0 x1 xs0 = k0_pay2 (F := Ideal) xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz,
    View.ld_unit_zero (S := S1024x1152) hz, View.ld_unit_zero (S := S1024x1152) hz]

/-- It writes the same back. -/
theorem left_C (c : Dev nD) (i : grid0.Coords) (arg3 : Memref sig .tc .vmem S1024x1024 .bf16) (harg3 : arg3.IsWhole) (arg4 : Memref sig .tc .vmem S1024x1152 .bf16) (harg4 : arg4.IsWhole) (arg5 : Memref sig .tc .vmem S1024x1152 .f32) (harg5 : arg5.IsWhole) (arg6 : Memref sig .tc .vmem S1024x1152 .f32) (harg6 : arg6.IsWhole) (hc0 : ¬cond0_0 i) (hc1 : cond0_1 i)
    (x0 : Vec Ideal S1024x1024 .bf16) (x1 : Vec Ideal S1024x1152 .bf16) (xs0 : Vec Ideal S1024x1152 .f32) :
    out0_C_2 c i arg3 harg3 arg4 harg4 arg5 harg5 arg6 harg6 hc0 hc1 x0 x1 xs0 = k0_pay2 (F := Ideal) xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1152) _ hz]
  simp only [View.readAt_eq_ld, harg3.read_unread, harg4.read_unread, harg6.read_unread, View.ld_unit_zero (S := S1024x1024) hz,
    View.ld_unit_zero (S := S1024x1152) hz, View.ld_unit_zero (S := S1024x1152) hz]

section

variable (m : (ℓ : Loc nD τ sig) → Buf (Elt Ideal) ℓ) (ρ : Dev nD → PrngReg)

/-- The sum after a point. -/
def sumAt (c : Dev nD) (n : ℕ) (h : n < cfg0.N) : S1024x1152.Idx → EReal := (outsAt0 m c n h).2

/-- What a point adds to it. -/
def added (c : Dev nD) (n : ℕ) (j : S1024x1152.Idx) : EReal :=
  if h : n < cfg0.N then part (iblk m c 0 ⟨n, h⟩) (iblk m c 1 ⟨n, h⟩) j else 0

theorem added_of_lt (c : Dev nD) (n : ℕ) (h : n < cfg0.N) (j : S1024x1152.Idx) : added m c n j = part (iblk m c 0 ⟨n, h⟩) (iblk m c 1 ⟨n, h⟩) j :=
  dif_pos h

/-- What the points leave of the sum: the first one of a block of columns, and a later one. -/
theorem at_first (c : Dev nD) (t : Fin cfg0.N) (h0 : t.val % 8 = 0) :
    (outsAt0 m c t.val t.isLt).2 = k0_pay2 (F := Ideal) (k0_pay1 (F := Ideal)) (iblk m c 0 t) (iblk m c 1 t) := by
  rw [outsAt0_A m c t h0 (by omega)]
  dsimp only
  rw [sum_A]

@[inherit_doc at_first]
theorem at_later (c : Dev nD) (t : Fin cfg0.N) (h0 : ¬t.val % 8 = 0) :
    (outsAt0 m c t.val t.isLt).2
      = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    rw [sum_C]
  · rw [outsAt0_B m c t h0 h1]
    dsimp only
    rw [sum_B]

/-- At the first point the sum is what the point adds. -/
theorem sum_first (c : Dev nD) (n : ℕ) (h : n < cfg0.N) (hn : n % 8 = 0) : sumAt m c n h = fun j => 0 + added m c n j := by
  funext j
  rw [added_of_lt m c n h, ← start j, ← stored]
  exact congrFun (at_first m c ⟨n, h⟩ hn) j

/-- At a later one it is that of the point before, and what the point adds. -/
theorem sum_later (c : Dev nD) (n : ℕ) (h : n + 1 < cfg0.N) (hn : ¬(n + 1) % 8 = 0) :
    sumAt m c (n + 1) h = fun j => sumAt m c n (Nat.lt_of_succ_lt h) j + added m c (n + 1) j := by
  funext j
  rw [added_of_lt m c (n + 1) h, ← stored]
  exact congrFun (at_later m c ⟨n + 1, h⟩ hn) j

/-- At the last point of a block of columns it is what its eight points have added. -/
theorem sum_last (c : Dev nD) (n : ℕ) (h : n < cfg0.N) (hn : n % 8 = 7) (j : S1024x1152.Idx) :
    sumAt m c n h j = ∑ s ∈ Finset.range 8, added m c (8 * (n / 8) + s) j := by
  have hN : 8 * (n / 8) + n % 8 < cfg0.N := by rw [Nat.div_add_mod]; exact h
  rw [Pipeline.eq_accAt_of_mod (sumAt m c) 8 (fun n _ j => 0 + added m c n j) (fun n _ s j => s j + added m c n j)
    (sum_first m c) (sum_later m c) (by decide) n h hN]
  rw [Pipeline.accAt_add_apply _ _ (fun _ => 0) (added m c) (8 * (n / 8)) 7 (fun _ _ => rfl) (fun _ _ _ _ _ _ => rfl) (n % 8) (by omega) hN j, hn, zero_add]

/-- The points go over the blocks of columns, and for each over the blocks of the numbers that are summed. -/
theorem places : ∀ t : Fin cfg0.N, (win0_0.index t (0 : Fin 2) = 0 ∧ win0_0.index t (1 : Fin 2) = t.val % 8)
    ∧ (win0_1.index t (0 : Fin 2) = t.val % 8 ∧ win0_1.index t (1 : Fin 2) = t.val / 8)
    ∧ win0_2.index t (0 : Fin 2) = 0 ∧ win0_2.index t (1 : Fin 2) = t.val / 8 :=
  (by decide +kernel : ∀ t : Fin grid0.N, _)

/-- The arguments: the input, and the gradient of the output. -/
abbrev whole0 (c : Dev nD) : FVec Ideal S8192x1024 .bf16 := m ((c : Thread nD τ).loc main_arg0)
@[inherit_doc whole0] abbrev whole1 (c : Dev nD) : FVec Ideal S8192x10368 .bf16 := m ((c : Thread nD τ).loc main_arg1)

/-- The input is transposed before the call. -/
theorem transposed (c : Dev nD) : V m c main_v0 = transpose S1024x8192 [1, 0] (m ((c : Thread nD τ).loc main_arg0)) transposes_S8192x1024_S1024x8192_1_0 := by
  show StableHlo.after hostOps0 (fun b => m (c, b)) main_v0 = _
  after_results_simp

/-- An element of it. -/
theorem transposed_apply (c : Dev nD) (a : Fin 1024) (k : Fin 8192) :
    V m c main_v0 (ix2 a k) = m ((c : Thread nD τ).loc main_arg0) (ix2 k a) := by
  rw [transposed]
  pointwise

/-- What the point of a block of columns that has the `s`-th part adds to an element: that part of its sum. -/
theorem added_eq (c : Dev nD) (t : Fin cfg0.N) (j : S1024x1152.Idx) (s : Fin 8) :
    added m c (8 * (t.val / 8) + s.val) j = ∑ k : Fin 1024, (whole0 m c (ix2 (place s k) ((((cfg0.win 2).blk t).view.emb j) 0)) * whole1 m c (ix2 (place s k) ((((cfg0.win 2).blk t).view.emb j) 1)) : EReal) := by
  have hN : cfg0.N = 72 := N_0
  have ht := t.isLt
  have hs := s.isLt
  have h : 8 * (t.val / 8) + s.val < cfg0.N := by omega
  obtain ⟨⟨a0, a1⟩, ⟨b0, b1⟩, -, -⟩ := places ⟨8 * (t.val / 8) + s.val, h⟩
  obtain ⟨-, -, c0, c1⟩ := places t
  dsimp only at a0 a1 b0 b1
  rw [added_of_lt m c _ h]
  unfold part
  refine Finset.sum_congr rfl fun k _ => congrArg₂ (fun a b : EReal => a * b) ?_ ?_
  · refine (congrArg (V m c main_v0) (funext fun b => Fin.ext ?_)).trans (transposed_apply m c _ _)
    fin_cases b
    · show win0_0.index _ (0 : Fin 2) * 1024 + 1 * (j 0).val = win0_2.index t (0 : Fin 2) * 1024 + 1 * (j 0).val; omega
    · show win0_0.index _ (1 : Fin 2) * 1024 + 1 * k.val = s.val * 1024 + k.val; omega
  · refine (congrArg (V m c main_arg1) (funext fun b => Fin.ext ?_)).trans (congrFun (V_main_arg1 m c) _)
    fin_cases b
    · show win0_1.index _ (0 : Fin 2) * 1024 + 1 * k.val = s.val * 1024 + k.val; omega
    · show win0_1.index _ (1 : Fin 2) * 1152 + 1 * (j 1).val = win0_2.index t (1 : Fin 2) * 1152 + 1 * (j 1).val; omega

/-- The row and the column, in the product, of an element of a point's block. -/
abbrev rowOf (t : Fin cfg0.N) (j : S1024x1152.Idx) : Fin 1024 := (((cfg0.win 2).blk t).view.emb j) 0
@[inherit_doc rowOf] abbrev colOf (t : Fin cfg0.N) (j : S1024x1152.Idx) : Fin 10368 := (((cfg0.win 2).blk t).view.emb j) 1

/-- A block whose elements are those of the product is the product's. -/
theorem block_eq (c : Dev nD) (t : Fin cfg0.N) (X : FVec Ideal S1024x1152 .f32)
    (h : ∀ j : S1024x1152.Idx, (X j : EReal) = entry (whole0 m c) (whole1 m c) (rowOf t j) (colOf t j)) :
    (cfg0.win 2).cut (grid0.coords t) X = ((cfg0.win 2).blk t).view.read (Elt Ideal) (product (whole0 m c) (whole1 m c)) := by
  funext j
  refine Eq.trans (b := (X j : EReal)) rfl ?_
  refine (h j).trans ?_
  rfl

/-- What the last point of a block of columns writes back is its block of the product. -/
theorem flushed_eq (c : Dev nD) (t : Fin cfg0.N) (hf : (cfg0.win 2).flush t = true) :
    (dats m 0 c).flushed 2 t = ((cfg0.win 2).blk t).view.read (Elt Ideal) (product (m ((c : Thread nD τ).loc main_arg0)) (m ((c : Thread nD τ).loc main_arg1))) := by
  have h1 : t.val % 8 = 7 := (flush0_2 t).mp hf
  have e : (dats m 0 c).flushed 2 t = (cfg0.win 2).cut (grid0.coords t) (outsAt0 m c t.val t.isLt).2 := by
    show (cfg0.win 2).cut (grid0.coords t) ((dats m 0 c).after 2 t) = _
    rw [after0_2, outsAt0_C m c t (by omega) h1]
    dsimp only
    rw [left_C, sum_C]
  rw [e]
  refine block_eq m c t _ fun j => ?_
  rw [entry_parts]
  refine (sum_last m c t.val t.isLt h1 j).trans ?_
  rw [Finset.sum_range]
  exact Finset.sum_congr rfl fun s _ => added_eq m c t j s

/-- The elements of a point's block are those of its columns. -/
theorem mem_columns (t : Fin cfg0.N) (i : S1024x10368.Idx) :
    i ∈ ((cfg0.win 2).blk t).view.set ↔ ∀ a, win0_2.index t a * S1024x1152.size a ≤ (i a).val ∧ (i a).val < win0_2.index t a * S1024x1152.size a + S1024x1152.size a := by
  show i ∈ ((View.whole main_v1).slice (win0_2.rect t)).set ↔ _
  rw [View.set_slice_whole, Rect.mem_set_unit]

/-- An element is in the block that the last point of its block of columns writes back. -/
theorem cover (i : S1024x10368.Idx) : ∃ t : Fin cfg0.N, (cfg0.win 2).flush t = true ∧ i ∈ ((cfg0.win 2).blk t).view.set := by
  have h0 : (i 0).val < 1024 := (i 0).isLt
  have h1 : (i 1).val < 10368 := (i 1).isLt
  have hN : cfg0.N = 72 := N_0
  obtain ⟨-, -, c0, c1⟩ := places ⟨(i 1).val / 1152 * 8 + 7, by omega⟩
  refine ⟨⟨(i 1).val / 1152 * 8 + 7, by omega⟩, (flush0_2 _).mpr (by dsimp only; omega), ?_⟩
  rw [mem_columns]
  intro a
  fin_cases a
  · show win0_2.index _ (0 : Fin 2) * 1024 ≤ (i 0).val ∧ (i 0).val < win0_2.index _ (0 : Fin 2) * 1024 + 1024
    rw [c0]; omega
  · show win0_2.index _ (1 : Fin 2) * 1152 ≤ (i 1).val ∧ (i 1).val < win0_2.index _ (1 : Fin 2) * 1152 + 1152
    rw [c1]; dsimp only; omega

/-- The kernel's result is the product. -/
theorem final (c : Dev nD) : (dats m 0 c).arrAt 2 cfg0.N = product (m ((c : Thread nD τ).loc main_arg0)) (m ((c : Thread nD τ).loc main_arg1)) :=
  (dats m 0 c).arrAt_eq_of_cover 2 _ (fun t hf => flushed_eq m c t hf) cover

end

/-- The reference's result. -/
abbrev refProduct (x : FVec Ideal S8192x1024 .bf16) (d : FVec Ideal S8192x10368 .bf16) : FVec Ideal S1024x10368 .f32 :=
  transpose S1024x10368 [1, 0] (Host.dotGeneral Cert.ProjDwRefIdeal.dot_S8192x10368_S8192x1024_S10368x1024_0_0_1_1_n_n none (extf .f32 d Cert.ProjDwRefIdeal.Gen.bitsLt_bf16_f32)
    (extf .f32 x Cert.ProjDwRefIdeal.Gen.bitsLt_bf16_f32) : FVec Ideal Cert.ProjDwRefIdeal.S10368x1024 .f32) Cert.ProjDwRefIdeal.Gen.transposes_S10368x1024_S1024x10368_1_0

/-- It is the product. -/
theorem ref_eq (x : FVec Ideal S8192x1024 .bf16) (d : FVec Ideal S8192x10368 .bf16) : refProduct x d = product x d := by
  funext j
  obtain ⟨a, b, rfl⟩ : ∃ a b, j = ix2 a b := ⟨j 0, j 1, eq_ix2 j⟩
  show _ = entry x d a b
  unfold entry
  pointwise [refProduct]
  exact Finset.sum_congr rfl fun k _ => mul_comm _ _

/-- The result is the reference's. -/
theorem algebraic : Cert.algebraic_ProjDwIdeal_ProjDwRefIdeal := fun m g m' g' _ hw =>
  ⟨fun c => product (m ((c : Thread nD τ).loc main_arg0)) (m ((c : Thread nD τ).loc main_arg1)),
   (θ_run defs _ _).mono (fun _ h c => ⟨((h.1 c).1 2).trans (final m c), h.2 c⟩) (θ_run_and (run_main m g) (unchanged m g)),
   (θ_run Cert.ProjDwRefIdeal.defs _ _).mono (fun _ h c =>
      ⟨(h c).1.trans (by rw [(hw c).1, (hw c).2]; exact ref_eq _ _), (h c).2⟩)
    (Cert.ProjDwRefIdeal.Value.run m' g')⟩

end Cert.ProjDwProof

end
-- ==== Proof.MergeValue.lean ====
/-
# The merge of the branches

The kernel takes 256 rows at a time: it multiplies each of three branches by its weights, adds the three products up, each
element times its gate, multiplies the sum by the weights of the output and adds the input.  The reference does the same
with the whole arrays; its gates are the logistic function written out.
-/
module

public import proofs.«01_k».proof.Defs
public import proofs.«01_k».proof.Proof.Gen.MergeIdeal.Frame
public import proofs.«01_k».proof.Proof.Gen.MergeRefIdeal.Run
public import Idealize.ShloMosaic.Lib.Pipeline.Value
public import Idealize.ShloMosaic.Lib.Pointwise
public import Idealize.ShloMosaic.Lib.IdealHost

@[expose] public section

noncomputable section

open Idealize.ShloMosaic Idealize.ShloMosaic.TcCoe Idealize.SL.Sem
open Idealize.ShloMosaic.Pipeline (Dat)

namespace Cert.MergeProof

open Cert.MergeIdeal Cert.MergeIdeal.Gen

/-- An element of the merged rows of the whole arrays. -/
@[irreducible] def merged (a : FVec Ideal S2x4096x512 .f32) (b : FVec Ideal S2x4096x1024 .f32) (c : FVec Ideal S2x4096x512 .f32) (p : FVec Ideal S2x4096x10368 .f32)
    (u : FVec Ideal S512x1024 .bf16) (v : FVec Ideal S1024x1024 .bf16) (w : FVec Ideal S512x1024 .bf16) (d : Fin 2) (r : Fin 4096) (n : Fin 1024) : EReal :=
  Ideal.logistic (p (ix3 d r ⟨7168 + n.val, by omega⟩)) * ∑ k : Fin 512, (a (ix3 d r k) * u (ix2 k n) : EReal)
    + Ideal.logistic (p (ix3 d r ⟨7168 + (1024 + n.val), by omega⟩)) * ∑ k : Fin 1024, (b (ix3 d r k) * v (ix2 k n) : EReal)
    + Ideal.logistic (p (ix3 d r ⟨7168 + (2048 + n.val), by omega⟩)) * ∑ k : Fin 512, (c (ix3 d r k) * w (ix2 k n) : EReal)

/-- An element of the result. -/
@[irreducible] def entry (a : FVec Ideal S2x4096x512 .f32) (b : FVec Ideal S2x4096x1024 .f32) (c : FVec Ideal S2x4096x512 .f32) (p : FVec Ideal S2x4096x10368 .f32)
    (x : FVec Ideal S2x4096x1024 .f32) (u : FVec Ideal S512x1024 .bf16) (v : FVec Ideal S1024x1024 .bf16) (w : FVec Ideal S512x1024 .bf16) (o : FVec Ideal S1024x1024 .bf16) (d : Fin 2) (r : Fin 4096) (n : Fin 1024) : EReal :=
  x (ix3 d r n) + ∑ l : Fin 1024, (merged a b c p u v w d r l * o (ix2 l n) : EReal)

/-- The result. -/
abbrev result (a : FVec Ideal S2x4096x512 .f32) (b : FVec Ideal S2x4096x1024 .f32) (c : FVec Ideal S2x4096x512 .f32) (p : FVec Ideal S2x4096x10368 .f32)
    (x : FVec Ideal S2x4096x1024 .f32) (u : FVec Ideal S512x1024 .bf16) (v : FVec Ideal S1024x1024 .bf16) (w : FVec Ideal S512x1024 .bf16) (o : FVec Ideal S1024x1024 .bf16) : FVec Ideal S2x4096x1024 .f32 := fun i =>
  entry a b c p x u v w o (i 0) (i 1) (i 2)

/-- What the kernel has of a block's merged rows. -/
theorem merged_block (a : FVec Ideal S1x256x512 .f32) (b : FVec Ideal S1x256x1024 .f32) (c : FVec Ideal S1x256x512 .f32)
    (g h k : FVec Ideal S1x256x1024 .f32) (u : FVec Ideal S512x1024 .bf16) (v : FVec Ideal S1024x1024 .bf16) (w : FVec Ideal S512x1024 .bf16)
    (r : Fin 256) (n : Fin 1024) :
    (k0_pay2 (F := Ideal) a b c g h k u v w (ix2 r n) : EReal)
      = Ideal.logistic (g (ix3 0 r n)) * ∑ k : Fin 512, (a (ix3 0 r k) * u (ix2 k n) : EReal)
        + Ideal.logistic (h (ix3 0 r n)) * ∑ k : Fin 1024, (b (ix3 0 r k) * v (ix2 k n) : EReal)
        + Ideal.logistic (k (ix3 0 r n)) * ∑ k : Fin 512, (c (ix3 0 r k) * w (ix2 k n) : EReal) := by
  pointwise [k0_pay2]

/-- What it stores for merged rows. -/
theorem stored (s : FVec Ideal S256x1024 .f32) (x : FVec Ideal S1x256x1024 .f32) (w : FVec Ideal S1024x1024 .bf16) (r : Fin 256) (n : Fin 1024) :
    (k0_pay1 (F := Ideal) s x w (ix3 0 r n) : EReal) = x (ix3 0 r n) + ∑ l : Fin 1024, (s (ix2 r l) * w (ix2 l n) : EReal) := by
  pointwise [k0_pay1]

theorem hz : (![0, 0] : Fin 2 → ℕ) = fun _ => 0 := by
  funext a; fin_cases a <;> rfl

@[inherit_doc hz] theorem hz3 : (![0, 0, 0] : Fin 3 → ℕ) = fun _ => 0 := by
  funext a; fin_cases a <;> rfl

/-- What a point leaves. -/
theorem left (c : Dev nD) (i : grid0.Coords) (arg2 : Memref sig .tc .vmem S1x256x512 .f32) (harg2 : arg2.IsWhole) (arg3 : Memref sig .tc .vmem S1x256x1024 .f32) (harg3 : arg3.IsWhole) (arg4 : Memref sig .tc .vmem S1x256x512 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1x256x1024 .f32) (harg13 : arg13.IsWhole)
    (x0 : Vec Ideal S1x256x512 .f32) (x1 : Vec Ideal S1x256x1024 .f32) (x2 : Vec Ideal S1x256x512 .f32) (x3 : Vec Ideal S1x256x1024 .f32) (x4 : Vec Ideal S1x256x1024 .f32) (x5 : Vec Ideal S1x256x1024 .f32) (x6 : Vec Ideal S1x256x1024 .f32) (x7 : Vec Ideal S512x1024 .bf16) (x8 : Vec Ideal S1024x1024 .bf16) (x9 : Vec Ideal S512x1024 .bf16) (x10 : Vec Ideal S1024x1024 .bf16) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = k0_pay1 (F := Ideal) (k0_pay2 (F := Ideal) x0 x1 x2 x3 x4 x5 x7 x8 x9) x6 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x256x512) hz3, View.ld_unit_zero (S := S1x256x1024) hz3,
    View.ld_unit_zero (S := S512x1024) hz, View.ld_unit_zero (S := S1024x1024) hz]

/-- The points go over the rows, for one sequence after the other. -/
theorem places : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 3) = t.val / 16 ∧ win0_2.index t (1 : Fin 3) = t.val % 16 ∧ win0_2.index t (2 : Fin 3) = 0)
    ∧ (win0_6.index t (0 : Fin 3) = t.val / 16 ∧ win0_6.index t (1 : Fin 3) = t.val % 16 ∧ win0_6.index t (2 : Fin 3) = 0)
    ∧ win0_11.index t (0 : Fin 3) = t.val / 16 ∧ win0_11.index t (1 : Fin 3) = t.val % 16 ∧ win0_11.index t (2 : Fin 3) = 0 :=
  (by decide +kernel : ∀ t : Fin grid0.N, _)

/-- The gates' blocks are the same rows, of three ranges of 1024 columns. -/
theorem gate_places : ∀ t : Fin cfg0.N,
    (win0_3.index t (0 : Fin 3) = t.val / 16 ∧ win0_3.index t (1 : Fin 3) = t.val % 16 ∧ win0_3.index t (2 : Fin 3) = 7)
    ∧ (win0_4.index t (0 : Fin 3) = t.val / 16 ∧ win0_4.index t (1 : Fin 3) = t.val % 16 ∧ win0_4.index t (2 : Fin 3) = 8)
    ∧ win0_5.index t (0 : Fin 3) = t.val / 16 ∧ win0_5.index t (1 : Fin 3) = t.val % 16 ∧ win0_5.index t (2 : Fin 3) = 9 :=
  (by decide +kernel : ∀ t : Fin grid0.N, _)

/-- The weights are there whole. -/
theorem weight_places : ∀ t : Fin cfg0.N, (∀ a : Fin 2, win0_7.index t a = 0) ∧ (∀ a : Fin 2, win0_8.index t a = 0)
    ∧ (∀ a : Fin 2, win0_9.index t a = 0) ∧ ∀ a : Fin 2, win0_10.index t a = 0 :=
  (by decide +kernel : ∀ t : Fin grid0.N, _)

/-- The sequence of a point. -/
abbrev seqOf (t : Fin cfg0.N) : Fin 2 := ⟨t.val / 16, by have := t.isLt; have : cfg0.N = 32 := N_0; omega⟩
/-- The place in its sequence of a row of a point's block. -/
abbrev rowOf (t : Fin cfg0.N) (r : Fin 256) : Fin 4096 := ⟨t.val % 16 * 256 + r.val, by omega⟩

section

variable (m : (ℓ : Loc nD τ sig) → Buf (Elt Ideal) ℓ) (ρ : Dev nD → PrngReg)

/-- The arguments: the three branches, the projection that has the gates, the input, and the four weights. -/
abbrev whole0 (c : Dev nD) : FVec Ideal S2x4096x512 .f32 := m ((c : Thread nD τ).loc main_arg0)
@[inherit_doc whole0] abbrev whole1 (c : Dev nD) : FVec Ideal S2x4096x1024 .f32 := m ((c : Thread nD τ).loc main_arg1)
@[inherit_doc whole0] abbrev whole2 (c : Dev nD) : FVec Ideal S2x4096x512 .f32 := m ((c : Thread nD τ).loc main_arg2)
@[inherit_doc whole0] abbrev whole3 (c : Dev nD) : FVec Ideal S2x4096x10368 .f32 := m ((c : Thread nD τ).loc main_arg3)
@[inherit_doc whole0] abbrev whole4 (c : Dev nD) : FVec Ideal S2x4096x1024 .f32 := m ((c : Thread nD τ).loc main_arg4)
@[inherit_doc whole0] abbrev whole5 (c : Dev nD) : FVec Ideal S512x1024 .bf16 := m ((c : Thread nD τ).loc main_arg5)
@[inherit_doc whole0] abbrev whole6 (c : Dev nD) : FVec Ideal S1024x1024 .bf16 := m ((c : Thread nD τ).loc main_arg6)
@[inherit_doc whole0] abbrev whole7 (c : Dev nD) : FVec Ideal S512x1024 .bf16 := m ((c : Thread nD τ).loc main_arg7)
@[inherit_doc whole0] abbrev whole8 (c : Dev nD) : FVec Ideal S1024x1024 .bf16 := m ((c : Thread nD τ).loc main_arg8)

/-- The blocks of the branches and of the input at a point. -/
theorem block0 (c : Dev nD) (t : Fin cfg0.N) (r : Fin 256) (k : Fin 512) : iblk m c 0 t (ix3 0 r k) = whole0 m c (ix3 (seqOf t) (rowOf t r) k) := by
  obtain ⟨⟨e0, e1, e2⟩, -⟩ := places t
  refine congrArg (V m c main_arg0) (funext fun b => Fin.ext ?_)
  fin_cases b
  · show win0_0.index t (0 : Fin 3) * 1 + 1 * 0 = t.val / 16; omega
  · show win0_0.index t (1 : Fin 3) * 256 + 1 * r.val = t.val % 16 * 256 + r.val; omega
  · show win0_0.index t (2 : Fin 3) * 512 + 1 * k.val = k.val; omega

@[inherit_doc block0]
theorem block1 (c : Dev nD) (t : Fin cfg0.N) (r : Fin 256) (k : Fin 1024) : iblk m c 1 t (ix3 0 r k) = whole1 m c (ix3 (seqOf t) (rowOf t r) k) := by
  obtain ⟨-, ⟨e0, e1, e2⟩, -⟩ := places t
  refine congrArg (V m c main_arg1) (funext fun b => Fin.ext ?_)
  fin_cases b
  · show win0_1.index t (0 : Fin 3) * 1 + 1 * 0 = t.val / 16; omega
  · show win0_1.index t (1 : Fin 3) * 256 + 1 * r.val = t.val % 16 * 256 + r.val; omega
  · show win0_1.index t (2 : Fin 3) * 1024 + 1 * k.val = k.val; omega

@[inherit_doc block0]
theorem block2 (c : Dev nD) (t : Fin cfg0.N) (r : Fin 256) (k : Fin 512) : iblk m c 2 t (ix3 0 r k) = whole2 m c (ix3 (seqOf t) (rowOf t r) k) := by
  obtain ⟨-, -, ⟨e0, e1, e2⟩, -⟩ := places t
  refine congrArg (V m c main_arg2) (funext fun b => Fin.ext ?_)
  fin_cases b
  · show win0_2.index t (0 : Fin 3) * 1 + 1 * 0 = t.val / 16; omega
  · show win0_2.index t (1 : Fin 3) * 256 + 1 * r.val = t.val % 16 * 256 + r.val; omega
  · show win0_2.index t (2 : Fin 3) * 512 + 1 * k.val = k.val; omega

@[inherit_doc block0]
theorem block6 (c : Dev nD) (t : Fin cfg0.N) (r : Fin 256) (k : Fin 1024) : iblk m c 6 t (ix3 0 r k) = whole4 m c (ix3 (seqOf t) (rowOf t r) k) := by
  obtain ⟨-, -, -, ⟨e0, e1, e2⟩, -⟩ := places t
  refine congrArg (V m c main_arg4) (funext fun b => Fin.ext ?_)
  fin_cases b
  · show win0_6.index t (0 : Fin 3) * 1 + 1 * 0 = t.val / 16; omega
  · show win0_6.index t (1 : Fin 3) * 256 + 1 * r.val = t.val % 16 * 256 + r.val; omega
  · show win0_6.index t (2 : Fin 3) * 1024 + 1 * k.val = k.val; omega

/-- The gates' blocks at a point. -/
theorem gate3 (c : Dev nD) (t : Fin cfg0.N) (r : Fin 256) (n : Fin 1024) :
    X0_3 m c t (ix3 0 r n) = whole3 m c (ix3 (seqOf t) (rowOf t r) ⟨7168 + n.val, by omega⟩) := by
  obtain ⟨⟨e0, e1, e2⟩, -⟩ := gate_places t
  unfold X0_3 Pipeline.Window.fill
  rw [dif_pos (moved0_3 t _)]
  refine congrArg (V m c main_arg3) (funext fun b => Fin.ext ?_)
  fin_cases b
  · show win0_3.index t (0 : Fin 3) * 1 + 1 * 0 = t.val / 16; omega
  · show win0_3.index t (1 : Fin 3) * 256 + 1 * r.val = t.val % 16 * 256 + r.val; omega
  · show win0_3.index t (2 : Fin 3) * 1024 + 1 * n.val = 7168 + n.val; omega

@[inherit_doc gate3]
theorem gate4 (c : Dev nD) (t : Fin cfg0.N) (r : Fin 256) (n : Fin 1024) :
    X0_4 m c t (ix3 0 r n) = whole3 m c (ix3 (seqOf t) (rowOf t r) ⟨7168 + (1024 + n.val), by omega⟩) := by
  obtain ⟨-, ⟨e0, e1, e2⟩, -⟩ := gate_places t
  unfold X0_4 Pipeline.Window.fill
  rw [dif_pos (moved0_4 t _)]
  refine congrArg (V m c main_arg3) (funext fun b => Fin.ext ?_)
  fin_cases b
  · show win0_4.index t (0 : Fin 3) * 1 + 1 * 0 = t.val / 16; omega
  · show win0_4.index t (1 : Fin 3) * 256 + 1 * r.val = t.val % 16 * 256 + r.val; omega
  · show win0_4.index t (2 : Fin 3) * 1024 + 1 * n.val = 7168 + (1024 + n.val); omega

@[inherit_doc gate3]
theorem gate5 (c : Dev nD) (t : Fin cfg0.N) (r : Fin 256) (n : Fin 1024) :
    X0_5 m c t (ix3 0 r n) = whole3 m c (ix3 (seqOf t) (rowOf t r) ⟨7168 + (2048 + n.val), by omega⟩) := by
  obtain ⟨-, -, e0, e1, e2⟩ := gate_places t
  unfold X0_5 Pipeline.Window.fill
  rw [dif_pos (moved0_5 t _)]
  refine congrArg (V m c main_arg3) (funext fun b => Fin.ext ?_)
  fin_cases b
  · show win0_5.index t (0 : Fin 3) * 1 + 1 * 0 = t.val / 16; omega
  · show win0_5.index t (1 : Fin 3) * 256 + 1 * r.val = t.val % 16 * 256 + r.val; omega
  · show win0_5.index t (2 : Fin 3) * 1024 + 1 * n.val = 7168 + (2048 + n.val); omega

/-- The weights at a point. -/
theorem weight7 (c : Dev nD) (t : Fin cfg0.N) (k : Fin 512) (n : Fin 1024) : iblk m c 7 t (ix2 k n) = whole5 m c (ix2 k n) := by
  obtain ⟨e, -⟩ := weight_places t
  refine congrArg (V m c main_arg5) (funext fun b => Fin.ext ?_)
  have e0 := e 0
  have e1 := e 1
  fin_cases b
  · show win0_7.index t (0 : Fin 2) * 512 + 1 * k.val = k.val; omega
  · show win0_7.index t (1 : Fin 2) * 1024 + 1 * n.val = n.val; omega

@[inherit_doc weight7]
theorem weight8 (c : Dev nD) (t : Fin cfg0.N) (k : Fin 1024) (n : Fin 1024) : iblk m c 8 t (ix2 k n) = whole6 m c (ix2 k n) := by
  obtain ⟨-, e, -⟩ := weight_places t
  refine congrArg (V m c main_arg6) (funext fun b => Fin.ext ?_)
  have e0 := e 0
  have e1 := e 1
  fin_cases b
  · show win0_8.index t (0 : Fin 2) * 1024 + 1 * k.val = k.val; omega
  · show win0_8.index t (1 : Fin 2) * 1024 + 1 * n.val = n.val; omega

@[inherit_doc weight7]
theorem weight9 (c : Dev nD) (t : Fin cfg0.N) (k : Fin 512) (n : Fin 1024) : iblk m c 9 t (ix2 k n) = whole7 m c (ix2 k n) := by
  obtain ⟨-, -, e, -⟩ := weight_places t
  refine congrArg (V m c main_arg7) (funext fun b => Fin.ext ?_)
  have e0 := e 0
  have e1 := e 1
  fin_cases b
  · show win0_9.index t (0 : Fin 2) * 512 + 1 * k.val = k.val; omega
  · show win0_9.index t (1 : Fin 2) * 1024 + 1 * n.val = n.val; omega

@[inherit_doc weight7]
theorem weight10 (c : Dev nD) (t : Fin cfg0.N) (k : Fin 1024) (n : Fin 1024) : iblk m c 10 t (ix2 k n) = whole8 m c (ix2 k n) := by
  obtain ⟨-, -, -, e⟩ := weight_places t
  refine congrArg (V m c main_arg8) (funext fun b => Fin.ext ?_)
  have e0 := e 0
  have e1 := e 1
  fin_cases b
  · show win0_10.index t (0 : Fin 2) * 1024 + 1 * k.val = k.val; omega
  · show win0_10.index t (1 : Fin 2) * 1024 + 1 * n.val = n.val; omega

/-- The merged rows of a point's block are those of the whole arrays. -/
theorem merged_eq (c : Dev nD) (t : Fin cfg0.N) (r : Fin 256) (n : Fin 1024) :
    ((k0_pay2 (F := Ideal) (iblk m c 0 t) (iblk m c 1 t) (iblk m c 2 t) (X0_3 m c t) (X0_4 m c t) (X0_5 m c t) (iblk m c 7 t) (iblk m c 8 t) (iblk m c 9 t)) (ix2 r n) : EReal)
      = merged (whole0 m c) (whole1 m c) (whole2 m c) (whole3 m c) (whole5 m c) (whole6 m c) (whole7 m c) (seqOf t) (rowOf t r) n := by
  rw [merged_block]
  unfold merged
  simp only [block0, block1, block2, gate3, gate4, gate5, weight7, weight8, weight9]

/-- What a point stores is the result's elements of its rows. -/
theorem stored_eq (c : Dev nD) (t : Fin cfg0.N) (r : Fin 256) (n : Fin 1024) :
    (k0_pay1 (F := Ideal) (k0_pay2 (F := Ideal) (iblk m c 0 t) (iblk m c 1 t) (iblk m c 2 t) (X0_3 m c t) (X0_4 m c t) (X0_5 m c t) (iblk m c 7 t) (iblk m c 8 t) (iblk m c 9 t)) (iblk m c 6 t) (iblk m c 10 t) (ix3 0 r n) : EReal)
      = entry (whole0 m c) (whole1 m c) (whole2 m c) (whole3 m c) (whole4 m c) (whole5 m c) (whole6 m c) (whole7 m c) (whole8 m c) (seqOf t) (rowOf t r) n := by
  rw [stored]
  unfold entry
  simp only [merged_eq, block6, weight10]

/-- A block whose elements are the result's of a point's rows is the result's block. -/
theorem block_eq (c : Dev nD) (t : Fin cfg0.N) (X : FVec Ideal S1x256x1024 .f32)
    (h : ∀ (r : Fin 256) (n : Fin 1024), (X (ix3 0 r n) : EReal) = entry (whole0 m c) (whole1 m c) (whole2 m c) (whole3 m c) (whole4 m c) (whole5 m c) (whole6 m c) (whole7 m c) (whole8 m c) (seqOf t) (rowOf t r) n) :
    (cfg0.win 11).cut (grid0.coords t) X = ((cfg0.win 11).blk t).view.read (Elt Ideal) (result (whole0 m c) (whole1 m c) (whole2 m c) (whole3 m c) (whole4 m c) (whole5 m c) (whole6 m c) (whole7 m c) (whole8 m c)) := by
  obtain ⟨-, -, -, -, e0, e1, e2⟩ := places t
  funext j
  obtain ⟨z, r, n, rfl⟩ : ∃ (z : Fin 1) (r : Fin 256) (n : Fin 1024), j = ix3 z r n := ⟨j 0, j 1, j 2, eq_ix3 j⟩
  obtain rfl : z = 0 := Subsingleton.elim _ _
  have hi : ((cfg0.win 11).blk t).view.emb (ix3 0 r n) = ix3 (seqOf t) (rowOf t r) n := by
    refine funext fun b => Fin.ext ?_
    fin_cases b
    · show win0_11.index t (0 : Fin 3) * 1 + 1 * 0 = t.val / 16; omega
    · show win0_11.index t (1 : Fin 3) * 256 + 1 * r.val = t.val % 16 * 256 + r.val; omega
    · show win0_11.index t (2 : Fin 3) * 1024 + 1 * n.val = n.val; omega
  refine Eq.trans (b := (X (ix3 0 r n) : EReal)) rfl ?_
  refine (h r n).trans ?_
  show _ = result (whole0 m c) (whole1 m c) (whole2 m c) (whole3 m c) (whole4 m c) (whole5 m c) (whole6 m c) (whole7 m c) (whole8 m c) (((cfg0.win 11).blk t).view.emb (ix3 0 r n))
  rw [hi]
  rfl

/-- What a point writes back is its block of the result. -/
theorem flushed_eq (c : Dev nD) (t : Fin cfg0.N) :
    (dats m 0 c).flushed 11 t = ((cfg0.win 11).blk t).view.read (Elt Ideal) (result (whole0 m c) (whole1 m c) (whole2 m c) (whole3 m c) (whole4 m c) (whole5 m c) (whole6 m c) (whole7 m c) (whole8 m c)) := by
  have e : (dats m 0 c).flushed 11 t = (cfg0.win 11).cut (grid0.coords t) (k0_pay1 (F := Ideal) (k0_pay2 (F := Ideal) (iblk m c 0 t) (iblk m c 1 t) (iblk m c 2 t) (X0_3 m c t) (X0_4 m c t) (X0_5 m c t) (iblk m c 7 t) (iblk m c 8 t) (iblk m c 9 t)) (iblk m c 6 t) (iblk m c 10 t)) := by
    show (cfg0.win 11).cut (grid0.coords t) ((dats m 0 c).after 11 t) = _
    rw [after0_11]
    unfold outsAt0
    rw [left]
  rw [e]
  exact block_eq m c t _ (stored_eq m c t)

/-- The elements of a point's block are those of its rows. -/
theorem mem_rows (t : Fin cfg0.N) (i : S2x4096x1024.Idx) :
    i ∈ ((cfg0.win 11).blk t).view.set ↔ ∀ a, win0_11.index t a * S1x256x1024.size a ≤ (i a).val ∧ (i a).val < win0_11.index t a * S1x256x1024.size a + S1x256x1024.size a := by
  show i ∈ ((View.whole main_v0).slice (win0_11.rect t)).set ↔ _
  rw [View.set_slice_whole, Rect.mem_set_unit]

/-- An element is in the block of the point that has its row. -/
theorem cover (i : S2x4096x1024.Idx) : ∃ t : Fin cfg0.N, (cfg0.win 11).flush t = true ∧ i ∈ ((cfg0.win 11).blk t).view.set := by
  have h0 : (i 0).val < 2 := (i 0).isLt
  have h1 : (i 1).val < 4096 := (i 1).isLt
  have h2 : (i 2).val < 1024 := (i 2).isLt
  have hN : cfg0.N = 32 := N_0
  obtain ⟨-, -, -, -, e0, e1, e2⟩ := places ⟨(i 0).val * 16 + (i 1).val / 256, by omega⟩
  refine ⟨⟨(i 0).val * 16 + (i 1).val / 256, by omega⟩, flush0_11 _, ?_⟩
  rw [mem_rows]
  intro a
  fin_cases a
  · show win0_11.index _ (0 : Fin 3) * 1 ≤ (i 0).val ∧ (i 0).val < win0_11.index _ (0 : Fin 3) * 1 + 1
    rw [e0]; dsimp only; omega
  · show win0_11.index _ (1 : Fin 3) * 256 ≤ (i 1).val ∧ (i 1).val < win0_11.index _ (1 : Fin 3) * 256 + 256
    rw [e1]; dsimp only; omega
  · show win0_11.index _ (2 : Fin 3) * 1024 ≤ (i 2).val ∧ (i 2).val < win0_11.index _ (2 : Fin 3) * 1024 + 1024
    rw [e2]; omega

/-- The kernel's result. -/
theorem final (c : Dev nD) : (dats m 0 c).arrAt 11 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 11 _ (fun t _ => flushed_eq m c t) cover

end

/-- The reference's gates. -/
abbrev refGates (p : FVec Ideal S2x4096x10368 .f32) : FVec Ideal Cert.MergeRefIdeal.S2x4096x3072 .f32 :=
  Host.divf (broadcastInDim Cert.MergeRefIdeal.S2x4096x3072 ![] Cert.MergeRefIdeal.Gen.bcast_S_S2x4096x3072 (constant Cert.MergeRefIdeal.S_ .f32 0x3F800000#32))
    (addf (broadcastInDim Cert.MergeRefIdeal.S2x4096x3072 ![] Cert.MergeRefIdeal.Gen.bcast_S_S2x4096x3072 (constant Cert.MergeRefIdeal.S_ .f32 0x3F800000#32))
      (Host.exp (Host.negf (extractStridedSlice Cert.MergeRefIdeal.S2x4096x3072 ![0, 0, 7168] p Cert.MergeRefIdeal.Gen.slices_S2x4096x10368_S2x4096x3072_0_0_7168))))

/-- The reference's merged rows. -/
abbrev refMerged (a : FVec Ideal S2x4096x512 .f32) (b : FVec Ideal S2x4096x1024 .f32) (c : FVec Ideal S2x4096x512 .f32) (p : FVec Ideal S2x4096x10368 .f32)
    (u : FVec Ideal S512x1024 .bf16) (v : FVec Ideal S1024x1024 .bf16) (w : FVec Ideal S512x1024 .bf16) : FVec Ideal S2x4096x1024 .f32 :=
  addf (addf
    (mulf (extractStridedSlice S2x4096x1024 ![0, 0, 0] (refGates p) Cert.MergeRefIdeal.Gen.slices_S2x4096x3072_S2x4096x1024_0_0_0)
      (Host.dotGeneral Cert.MergeRefIdeal.dot_S2x4096x512_S512x1024_S2x4096x1024_2_0_01_1_n_n none a (extf .f32 u Cert.MergeRefIdeal.Gen.bitsLt_bf16_f32)))
    (mulf (extractStridedSlice S2x4096x1024 ![0, 0, 1024] (refGates p) Cert.MergeRefIdeal.Gen.slices_S2x4096x3072_S2x4096x1024_0_0_1024)
      (Host.dotGeneral Cert.MergeRefIdeal.dot_S2x4096x1024_S1024x1024_S2x4096x1024_2_0_01_1_n_n none b (extf .f32 v Cert.MergeRefIdeal.Gen.bitsLt_bf16_f32))))
    (mulf (extractStridedSlice S2x4096x1024 ![0, 0, 2048] (refGates p) Cert.MergeRefIdeal.Gen.slices_S2x4096x3072_S2x4096x1024_0_0_2048)
      (Host.dotGeneral Cert.MergeRefIdeal.dot_S2x4096x512_S512x1024_S2x4096x1024_2_0_01_1_n_n none c (extf .f32 w Cert.MergeRefIdeal.Gen.bitsLt_bf16_f32)))

/-- The reference's result. -/
abbrev refResult (a : FVec Ideal S2x4096x512 .f32) (b : FVec Ideal S2x4096x1024 .f32) (c : FVec Ideal S2x4096x512 .f32) (p : FVec Ideal S2x4096x10368 .f32)
    (x : FVec Ideal S2x4096x1024 .f32) (u : FVec Ideal S512x1024 .bf16) (v : FVec Ideal S1024x1024 .bf16) (w : FVec Ideal S512x1024 .bf16) (o : FVec Ideal S1024x1024 .bf16) : FVec Ideal S2x4096x1024 .f32 :=
  addf x (Host.dotGeneral Cert.MergeRefIdeal.dot_S2x4096x1024_S1024x1024_S2x4096x1024_2_0_01_1_n_n none (refMerged a b c p u v w)
    (extf .f32 o Cert.MergeRefIdeal.Gen.bitsLt_bf16_f32))

/-- It is the kernel's. -/
theorem ref_eq (a : FVec Ideal S2x4096x512 .f32) (b : FVec Ideal S2x4096x1024 .f32) (c : FVec Ideal S2x4096x512 .f32) (p : FVec Ideal S2x4096x10368 .f32)
    (x : FVec Ideal S2x4096x1024 .f32) (u : FVec Ideal S512x1024 .bf16) (v : FVec Ideal S1024x1024 .bf16) (w : FVec Ideal S512x1024 .bf16) (o : FVec Ideal S1024x1024 .bf16) : refResult a b c p x u v w o = result a b c p x u v w o := by
  funext j
  obtain ⟨d, r, n, rfl⟩ : ∃ (d : Fin 2) (r : Fin 4096) (n : Fin 1024), j = ix3 d r n := ⟨j 0, j 1, j 2, eq_ix3 j⟩
  show _ = entry a b c p x u v w o d r n
  unfold entry merged Ideal.logistic
  pointwise [refResult, refMerged, refGates]

/-- The result is the reference's. -/
theorem algebraic : Cert.algebraic_MergeIdeal_MergeRefIdeal := fun m g m' g' _ hw =>
  ⟨fun c => result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)),
   (θ_run defs _ _).mono (fun _ h c => ⟨((h.1 c).1 11).trans (final m c), h.2 c⟩) (θ_run_and (run_main m g) (unchanged m g)),
   (θ_run Cert.MergeRefIdeal.defs _ _).mono (fun _ h c =>
      ⟨(h c).1.trans (by
        obtain ⟨h0, h1, h2, h3, h4, h5, h6, h7, h8⟩ := hw c
        rw [h0, h1, h2, h3, h4, h5, h6, h7, h8]
        exact ref_eq _ _ _ _ _ _ _ _ _), (h c).2⟩)
    (Cert.MergeRefIdeal.Value.run m' g')⟩

end Cert.MergeProof

end
-- ==== Proof.AdamwValue.lean ====
/-
# AdamW

The update of one array, for each of the twelve shapes of the arrays: the change of the weights and the two new moments
are the reference's.  The kernel goes over the rows in blocks; every element of the results depends on the same element of
the arguments, so the blocks tile the results and both sides are the same function of the arguments, element by element.
-/
module

public import proofs.«01_k».proof.Defs
public import proofs.«01_k».proof.Proof.Gen.Adamw2x1024Ideal.Value
public import proofs.«01_k».proof.Proof.Gen.Adamw2x1024RefIdeal.Run
public import proofs.«01_k».proof.Proof.Gen.Adamw2048x2564Ideal.Value
public import proofs.«01_k».proof.Proof.Gen.Adamw2048x2564RefIdeal.Run
public import proofs.«01_k».proof.Proof.Gen.Adamw62x128Ideal.Value
public import proofs.«01_k».proof.Proof.Gen.Adamw62x128RefIdeal.Run
public import proofs.«01_k».proof.Proof.Gen.Adamw2x512Ideal.Value
public import proofs.«01_k».proof.Proof.Gen.Adamw2x512RefIdeal.Run
public import proofs.«01_k».proof.Proof.Gen.Adamw1024x256Ideal.Value
public import proofs.«01_k».proof.Proof.Gen.Adamw1024x256RefIdeal.Run
public import proofs.«01_k».proof.Proof.Gen.Adamw8x768Ideal.Value
public import proofs.«01_k».proof.Proof.Gen.Adamw8x768RefIdeal.Run
public import proofs.«01_k».proof.Proof.Gen.Adamw2x8Ideal.Value
public import proofs.«01_k».proof.Proof.Gen.Adamw2x8RefIdeal.Run
public import proofs.«01_k».proof.Proof.Gen.Adamw2x128Ideal.Value
public import proofs.«01_k».proof.Proof.Gen.Adamw2x128RefIdeal.Run
public import proofs.«01_k».proof.Proof.Gen.Adamw512x1024Ideal.Value
public import proofs.«01_k».proof.Proof.Gen.Adamw512x1024RefIdeal.Run
public import proofs.«01_k».proof.Proof.Gen.Adamw1024x128Ideal.Value
public import proofs.«01_k».proof.Proof.Gen.Adamw1024x128RefIdeal.Run
public import proofs.«01_k».proof.Proof.Gen.Adamw8x128Ideal.Value
public import proofs.«01_k».proof.Proof.Gen.Adamw8x128RefIdeal.Run
public import proofs.«01_k».proof.Proof.Gen.Adamw1x1024Ideal.Value
public import proofs.«01_k».proof.Proof.Gen.Adamw1x1024RefIdeal.Run

@[expose] public section

noncomputable section

open Idealize.ShloMosaic Idealize.ShloMosaic.TcCoe Idealize.SL.Sem

namespace Cert.AdamwProof

/-- Results that are functions of one set of weights, gradients and moments are the same functions of an equal set. -/
theorem carry {A : Type} {w g m v w' g' m' v' x y z : A} {K : Prop} (delta : A → A → A → A → A) (mean var : A → A → A)
    (same : w' = w ∧ g' = g ∧ m' = m ∧ v' = v) (h : x = delta w' g' m' v' ∧ y = mean g' m' ∧ z = var g' v' ∧ K) :
    x = delta w g m v ∧ y = mean g m ∧ z = var g v ∧ K := by
  obtain ⟨rfl, rfl, rfl, rfl⟩ := same
  exact h

/-- The update of an array of 2 rows of 1024. -/
theorem adamw2x1024 : Cert.algebraic_Adamw2x1024Ideal_Adamw2x1024RefIdeal := fun m g m' g' _ hw =>
  ⟨_, _, _, Cert.Adamw2x1024Ideal.Value.run m g, (θ_run Cert.Adamw2x1024RefIdeal.defs _ _).mono
    (fun _ h c => carry (fun w g m v => Cert.Adamw2x1024Ideal.Value.G4 g m v w) Cert.Adamw2x1024Ideal.Value.G5 Cert.Adamw2x1024Ideal.Value.G6 (hw c) (h c))
    (Cert.Adamw2x1024RefIdeal.Value.run m' g')⟩

/-- The update of an array of 2048 rows of 2564. -/
theorem adamw2048x2564 : Cert.algebraic_Adamw2048x2564Ideal_Adamw2048x2564RefIdeal := fun m g m' g' _ hw =>
  ⟨_, _, _, Cert.Adamw2048x2564Ideal.Value.run m g, (θ_run Cert.Adamw2048x2564RefIdeal.defs _ _).mono
    (fun _ h c => carry (fun w g m v => Cert.Adamw2048x2564Ideal.Value.G4 g m v w) Cert.Adamw2048x2564Ideal.Value.G5 Cert.Adamw2048x2564Ideal.Value.G6 (hw c) (h c))
    (Cert.Adamw2048x2564RefIdeal.Value.run m' g')⟩

/-- The update of an array of 62 rows of 128. -/
theorem adamw62x128 : Cert.algebraic_Adamw62x128Ideal_Adamw62x128RefIdeal := fun m g m' g' _ hw =>
  ⟨_, _, _, Cert.Adamw62x128Ideal.Value.run m g, (θ_run Cert.Adamw62x128RefIdeal.defs _ _).mono
    (fun _ h c => carry (fun w g m v => Cert.Adamw62x128Ideal.Value.G4 g m v w) Cert.Adamw62x128Ideal.Value.G5 Cert.Adamw62x128Ideal.Value.G6 (hw c) (h c))
    (Cert.Adamw62x128RefIdeal.Value.run m' g')⟩

/-- The update of an array of 2 rows of 512. -/
theorem adamw2x512 : Cert.algebraic_Adamw2x512Ideal_Adamw2x512RefIdeal := fun m g m' g' _ hw =>
  ⟨_, _, _, Cert.Adamw2x512Ideal.Value.run m g, (θ_run Cert.Adamw2x512RefIdeal.defs _ _).mono
    (fun _ h c => carry (fun w g m v => Cert.Adamw2x512Ideal.Value.G4 g m v w) Cert.Adamw2x512Ideal.Value.G5 Cert.Adamw2x512Ideal.Value.G6 (hw c) (h c))
    (Cert.Adamw2x512RefIdeal.Value.run m' g')⟩

/-- The update of an array of 1024 rows of 256. -/
theorem adamw1024x256 : Cert.algebraic_Adamw1024x256Ideal_Adamw1024x256RefIdeal := fun m g m' g' _ hw =>
  ⟨_, _, _, Cert.Adamw1024x256Ideal.Value.run m g, (θ_run Cert.Adamw1024x256RefIdeal.defs _ _).mono
    (fun _ h c => carry (fun w g m v => Cert.Adamw1024x256Ideal.Value.G4 g m v w) Cert.Adamw1024x256Ideal.Value.G5 Cert.Adamw1024x256Ideal.Value.G6 (hw c) (h c))
    (Cert.Adamw1024x256RefIdeal.Value.run m' g')⟩

/-- The update of an array of 8 rows of 768. -/
theorem adamw8x768 : Cert.algebraic_Adamw8x768Ideal_Adamw8x768RefIdeal := fun m g m' g' _ hw =>
  ⟨_, _, _, Cert.Adamw8x768Ideal.Value.run m g, (θ_run Cert.Adamw8x768RefIdeal.defs _ _).mono
    (fun _ h c => carry (fun w g m v => Cert.Adamw8x768Ideal.Value.G4 g m v w) Cert.Adamw8x768Ideal.Value.G5 Cert.Adamw8x768Ideal.Value.G6 (hw c) (h c))
    (Cert.Adamw8x768RefIdeal.Value.run m' g')⟩

/-- The update of an array of 2 rows of 8. -/
theorem adamw2x8 : Cert.algebraic_Adamw2x8Ideal_Adamw2x8RefIdeal := fun m g m' g' _ hw =>
  ⟨_, _, _, Cert.Adamw2x8Ideal.Value.run m g, (θ_run Cert.Adamw2x8RefIdeal.defs _ _).mono
    (fun _ h c => carry (fun w g m v => Cert.Adamw2x8Ideal.Value.G4 g m v w) Cert.Adamw2x8Ideal.Value.G5 Cert.Adamw2x8Ideal.Value.G6 (hw c) (h c))
    (Cert.Adamw2x8RefIdeal.Value.run m' g')⟩

/-- The update of an array of 2 rows of 128. -/
theorem adamw2x128 : Cert.algebraic_Adamw2x128Ideal_Adamw2x128RefIdeal := fun m g m' g' _ hw =>
  ⟨_, _, _, Cert.Adamw2x128Ideal.Value.run m g, (θ_run Cert.Adamw2x128RefIdeal.defs _ _).mono
    (fun _ h c => carry (fun w g m v => Cert.Adamw2x128Ideal.Value.G4 g m v w) Cert.Adamw2x128Ideal.Value.G5 Cert.Adamw2x128Ideal.Value.G6 (hw c) (h c))
    (Cert.Adamw2x128RefIdeal.Value.run m' g')⟩

/-- The update of an array of 512 rows of 1024. -/
theorem adamw512x1024 : Cert.algebraic_Adamw512x1024Ideal_Adamw512x1024RefIdeal := fun m g m' g' _ hw =>
  ⟨_, _, _, Cert.Adamw512x1024Ideal.Value.run m g, (θ_run Cert.Adamw512x1024RefIdeal.defs _ _).mono
    (fun _ h c => carry (fun w g m v => Cert.Adamw512x1024Ideal.Value.G4 g m v w) Cert.Adamw512x1024Ideal.Value.G5 Cert.Adamw512x1024Ideal.Value.G6 (hw c) (h c))
    (Cert.Adamw512x1024RefIdeal.Value.run m' g')⟩

/-- The update of an array of 1024 rows of 128. -/
theorem adamw1024x128 : Cert.algebraic_Adamw1024x128Ideal_Adamw1024x128RefIdeal := fun m g m' g' _ hw =>
  ⟨_, _, _, Cert.Adamw1024x128Ideal.Value.run m g, (θ_run Cert.Adamw1024x128RefIdeal.defs _ _).mono
    (fun _ h c => carry (fun w g m v => Cert.Adamw1024x128Ideal.Value.G4 g m v w) Cert.Adamw1024x128Ideal.Value.G5 Cert.Adamw1024x128Ideal.Value.G6 (hw c) (h c))
    (Cert.Adamw1024x128RefIdeal.Value.run m' g')⟩

/-- The update of an array of 8 rows of 128. -/
theorem adamw8x128 : Cert.algebraic_Adamw8x128Ideal_Adamw8x128RefIdeal := fun m g m' g' _ hw =>
  ⟨_, _, _, Cert.Adamw8x128Ideal.Value.run m g, (θ_run Cert.Adamw8x128RefIdeal.defs _ _).mono
    (fun _ h c => carry (fun w g m v => Cert.Adamw8x128Ideal.Value.G4 g m v w) Cert.Adamw8x128Ideal.Value.G5 Cert.Adamw8x128Ideal.Value.G6 (hw c) (h c))
    (Cert.Adamw8x128RefIdeal.Value.run m' g')⟩

/-- The update of an array of 1 rows of 1024. -/
theorem adamw1x1024 : Cert.algebraic_Adamw1x1024Ideal_Adamw1x1024RefIdeal := fun m g m' g' _ hw =>
  ⟨_, _, _, Cert.Adamw1x1024Ideal.Value.run m g, (θ_run Cert.Adamw1x1024RefIdeal.defs _ _).mono
    (fun _ h c => carry (fun w g m v => Cert.Adamw1x1024Ideal.Value.G4 g m v w) Cert.Adamw1x1024Ideal.Value.G5 Cert.Adamw1x1024Ideal.Value.G6 (hw c) (h c))
    (Cert.Adamw1x1024RefIdeal.Value.run m' g')⟩

end Cert.AdamwProof

end
-- ==== Proof.lean ====
/-
# The claim

Each part is proved in its own module: the all-gather in `GatherValue`, the two swaps in `PartialsValue` and `ResultValue`,
the scatter in `ScatterValue`, the second swap together with the gradients cut out of its halves in `GradsValue`, the sums of the
reduce-scatter in `SumValue`, the optimizer in `AdamwValue`; that the calls on one device leave their arguments alone is read off
their runs here.  The witnesses of the programs' stated facts come first, as the claim asks for them.
-/
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRef
public import proofs.«01_k».proof.Proof.Gen.GatherRef.Run
public import proofs.«01_k».proof.Proof.Gen.GatherRefIdeal.Run
public import proofs.«01_k».proof.Proof.Gen.Partials
public import proofs.«01_k».proof.Proof.Gen.PartialsIdeal
public import proofs.«01_k».proof.Proof.Gen.PartialsIdeal.Skeleton
public import proofs.«01_k».proof.Proof.Gen.PartialsIdeal.Launch
public import proofs.«01_k».proof.Proof.Gen.PartialsIdeal.Points
public import proofs.«01_k».proof.Proof.Gen.PartialsIdeal.Frame
public import proofs.«01_k».proof.Proof.Gen.PartialsRef
public import proofs.«01_k».proof.Proof.Gen.PartialsRef.Run
public import proofs.«01_k».proof.Proof.Gen.PartialsRefIdeal
public import proofs.«01_k».proof.Proof.Gen.PartialsRefIdeal.Run
public import proofs.«01_k».proof.Proof.Gen.Scatter
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterRef
public import proofs.«01_k».proof.Proof.Gen.ScatterRef.Run
public import proofs.«01_k».proof.Proof.Gen.ScatterRefIdeal
public import proofs.«01_k».proof.Proof.Gen.ScatterRefIdeal.Run
public import proofs.«01_k».proof.Proof.Gen.Result
public import proofs.«01_k».proof.Proof.Gen.ResultIdeal
public import proofs.«01_k».proof.Proof.Gen.ResultIdeal.Skeleton
public import proofs.«01_k».proof.Proof.Gen.ResultIdeal.Launch
public import proofs.«01_k».proof.Proof.Gen.ResultIdeal.Points
public import proofs.«01_k».proof.Proof.Gen.ResultIdeal.Frame
public import proofs.«01_k».proof.Proof.Gen.ResultRef
public import proofs.«01_k».proof.Proof.Gen.ResultRef.Run
public import proofs.«01_k».proof.Proof.Gen.ResultRefIdeal
public import proofs.«01_k».proof.Proof.Gen.ResultRefIdeal.Run
public import proofs.«01_k».proof.Proof.Gen.Grads
public import proofs.«01_k».proof.Proof.Gen.GradsIdeal
public import proofs.«01_k».proof.Proof.Gen.GradsIdeal.Skeleton
public import proofs.«01_k».proof.Proof.Gen.GradsIdeal.Launch
public import proofs.«01_k».proof.Proof.Gen.GradsIdeal.Points
public import proofs.«01_k».proof.Proof.Gen.GradsIdeal.Regions
public import proofs.«01_k».proof.Proof.Gen.GradsRef
public import proofs.«01_k».proof.Proof.Gen.GradsRef.Run
public import proofs.«01_k».proof.Proof.Gen.GradsRefIdeal
public import proofs.«01_k».proof.Proof.Gen.GradsRefIdeal.Run
public import proofs.«01_k».proof.Proof.Gen.PairSum
public import proofs.«01_k».proof.Proof.Gen.PairSum.Skeleton
public import proofs.«01_k».proof.Proof.Gen.PairSum.Launch
public import proofs.«01_k».proof.Proof.Gen.PairSum.Points
public import proofs.«01_k».proof.Proof.Gen.PairSum.Frame
public import proofs.«01_k».proof.Proof.Gen.PairSum.Value
public import proofs.«01_k».proof.Proof.Gen.PairSumIdeal
public import proofs.«01_k».proof.Proof.Gen.PairSumIdeal.Skeleton
public import proofs.«01_k».proof.Proof.Gen.PairSumIdeal.Launch
public import proofs.«01_k».proof.Proof.Gen.PairSumIdeal.Points
public import proofs.«01_k».proof.Proof.Gen.PairSumIdeal.Frame
public import proofs.«01_k».proof.Proof.Gen.PairSumIdeal.Value
public import proofs.«01_k».proof.Proof.Gen.PairSumRef
public import proofs.«01_k».proof.Proof.Gen.PairSumRef.Run
public import proofs.«01_k».proof.Proof.Gen.PairSumRefIdeal
public import proofs.«01_k».proof.Proof.Gen.PairSumRefIdeal.Run
public import proofs.«01_k».proof.Proof.Gen.ChipSum
public import proofs.«01_k».proof.Proof.Gen.ChipSum.Skeleton
public import proofs.«01_k».proof.Proof.Gen.ChipSum.Launch
public import proofs.«01_k».proof.Proof.Gen.ChipSum.Points
public import proofs.«01_k».proof.Proof.Gen.ChipSum.Frame
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import proofs.«01_k».proof.Proof.Gen.ChipSumIdeal.Frame
public import proofs.«01_k».proof.Proof.Gen.ChipSumIdeal.Value
public import proofs.«01_k».proof.Proof.Gen.ChipSumRefIdeal
public import proofs.«01_k».proof.Proof.Gen.ChipSumRefIdeal.Run
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxRefIdeal
public import proofs.«01_k».proof.Proof.Gen.ProjDxRefIdeal.Run
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwRefIdeal
public import proofs.«01_k».proof.Proof.Gen.ProjDwRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Adamw2x1024
public import proofs.«01_k».proof.Proof.Gen.Adamw2x1024.Skeleton
public import proofs.«01_k».proof.Proof.Gen.Adamw2x1024.Launch
public import proofs.«01_k».proof.Proof.Gen.Adamw2x1024.Points
public import proofs.«01_k».proof.Proof.Gen.Adamw2x1024.Frame
public import proofs.«01_k».proof.Proof.Gen.Adamw2x1024Ideal
public import proofs.«01_k».proof.Proof.Gen.Adamw2x1024Ideal.Skeleton
public import proofs.«01_k».proof.Proof.Gen.Adamw2x1024Ideal.Launch
public import proofs.«01_k».proof.Proof.Gen.Adamw2x1024Ideal.Points
public import proofs.«01_k».proof.Proof.Gen.Adamw2x1024Ideal.Frame
public import proofs.«01_k».proof.Proof.Gen.Adamw2x1024Ideal.Value
public import proofs.«01_k».proof.Proof.Gen.Adamw2x1024RefIdeal
public import proofs.«01_k».proof.Proof.Gen.Adamw2x1024RefIdeal.Run
public import proofs.«01_k».proof.Proof.Gen.Adamw2048x2564
public import proofs.«01_k».proof.Proof.Gen.Adamw2048x2564.Skeleton
public import proofs.«01_k».proof.Proof.Gen.Adamw2048x2564.Launch
public import proofs.«01_k».proof.Proof.Gen.Adamw2048x2564.Points
public import proofs.«01_k».proof.Proof.Gen.Adamw2048x2564.Frame
public import proofs.«01_k».proof.Proof.Gen.Adamw2048x2564Ideal
public import proofs.«01_k».proof.Proof.Gen.Adamw2048x2564Ideal.Skeleton
public import proofs.«01_k».proof.Proof.Gen.Adamw2048x2564Ideal.Launch
public import proofs.«01_k».proof.Proof.Gen.Adamw2048x2564Ideal.Points
public import proofs.«01_k».proof.Proof.Gen.Adamw2048x2564Ideal.Frame
public import proofs.«01_k».proof.Proof.Gen.Adamw2048x2564Ideal.Value
public import proofs.«01_k».proof.Proof.Gen.Adamw2048x2564RefIdeal
public import proofs.«01_k».proof.Proof.Gen.Adamw2048x2564RefIdeal.Run
public import proofs.«01_k».proof.Proof.Gen.Adamw62x128
public import proofs.«01_k».proof.Proof.Gen.Adamw62x128.Skeleton
public import proofs.«01_k».proof.Proof.Gen.Adamw62x128.Launch
public import proofs.«01_k».proof.Proof.Gen.Adamw62x128.Points
public import proofs.«01_k».proof.Proof.Gen.Adamw62x128.Frame
public import proofs.«01_k».proof.Proof.Gen.Adamw62x128Ideal
public import proofs.«01_k».proof.Proof.Gen.Adamw62x128Ideal.Skeleton
public import proofs.«01_k».proof.Proof.Gen.Adamw62x128Ideal.Launch
public import proofs.«01_k».proof.Proof.Gen.Adamw62x128Ideal.Points
public import proofs.«01_k».proof.Proof.Gen.Adamw62x128Ideal.Frame
public import proofs.«01_k».proof.Proof.Gen.Adamw62x128Ideal.Value
public import proofs.«01_k».proof.Proof.Gen.Adamw62x128RefIdeal
public import proofs.«01_k».proof.Proof.Gen.Adamw62x128RefIdeal.Run
public import proofs.«01_k».proof.Proof.Gen.Adamw2x512
public import proofs.«01_k».proof.Proof.Gen.Adamw2x512.Skeleton
public import proofs.«01_k».proof.Proof.Gen.Adamw2x512.Launch
public import proofs.«01_k».proof.Proof.Gen.Adamw2x512.Points
public import proofs.«01_k».proof.Proof.Gen.Adamw2x512.Frame
public import proofs.«01_k».proof.Proof.Gen.Adamw2x512Ideal
public import proofs.«01_k».proof.Proof.Gen.Adamw2x512Ideal.Skeleton
public import proofs.«01_k».proof.Proof.Gen.Adamw2x512Ideal.Launch
public import proofs.«01_k».proof.Proof.Gen.Adamw2x512Ideal.Points
public import proofs.«01_k».proof.Proof.Gen.Adamw2x512Ideal.Frame
public import proofs.«01_k».proof.Proof.Gen.Adamw2x512Ideal.Value
public import proofs.«01_k».proof.Proof.Gen.Adamw2x512RefIdeal
public import proofs.«01_k».proof.Proof.Gen.Adamw2x512RefIdeal.Run
public import proofs.«01_k».proof.Proof.Gen.Adamw1024x256
public import proofs.«01_k».proof.Proof.Gen.Adamw1024x256.Skeleton
public import proofs.«01_k».proof.Proof.Gen.Adamw1024x256.Launch
public import proofs.«01_k».proof.Proof.Gen.Adamw1024x256.Points
public import proofs.«01_k».proof.Proof.Gen.Adamw1024x256.Frame
public import proofs.«01_k».proof.Proof.Gen.Adamw1024x256Ideal
public import proofs.«01_k».proof.Proof.Gen.Adamw1024x256Ideal.Skeleton
public import proofs.«01_k».proof.Proof.Gen.Adamw1024x256Ideal.Launch
public import proofs.«01_k».proof.Proof.Gen.Adamw1024x256Ideal.Points
public import proofs.«01_k».proof.Proof.Gen.Adamw1024x256Ideal.Frame
public import proofs.«01_k».proof.Proof.Gen.Adamw1024x256Ideal.Value
public import proofs.«01_k».proof.Proof.Gen.Adamw1024x256RefIdeal
public import proofs.«01_k».proof.Proof.Gen.Adamw1024x256RefIdeal.Run
public import proofs.«01_k».proof.Proof.Gen.Adamw8x768
public import proofs.«01_k».proof.Proof.Gen.Adamw8x768.Skeleton
public import proofs.«01_k».proof.Proof.Gen.Adamw8x768.Launch
public import proofs.«01_k».proof.Proof.Gen.Adamw8x768.Points
public import proofs.«01_k».proof.Proof.Gen.Adamw8x768.Frame
public import proofs.«01_k».proof.Proof.Gen.Adamw8x768Ideal
public import proofs.«01_k».proof.Proof.Gen.Adamw8x768Ideal.Skeleton
public import proofs.«01_k».proof.Proof.Gen.Adamw8x768Ideal.Launch
public import proofs.«01_k».proof.Proof.Gen.Adamw8x768Ideal.Points
public import proofs.«01_k».proof.Proof.Gen.Adamw8x768Ideal.Frame
public import proofs.«01_k».proof.Proof.Gen.Adamw8x768Ideal.Value
public import proofs.«01_k».proof.Proof.Gen.Adamw8x768RefIdeal
public import proofs.«01_k».proof.Proof.Gen.Adamw8x768RefIdeal.Run
public import proofs.«01_k».proof.Proof.Gen.Adamw2x8
public import proofs.«01_k».proof.Proof.Gen.Adamw2x8.Skeleton
public import proofs.«01_k».proof.Proof.Gen.Adamw2x8.Launch
public import proofs.«01_k».proof.Proof.Gen.Adamw2x8.Points
public import proofs.«01_k».proof.Proof.Gen.Adamw2x8.Frame
public import proofs.«01_k».proof.Proof.Gen.Adamw2x8Ideal
public import proofs.«01_k».proof.Proof.Gen.Adamw2x8Ideal.Skeleton
public import proofs.«01_k».proof.Proof.Gen.Adamw2x8Ideal.Launch
public import proofs.«01_k».proof.Proof.Gen.Adamw2x8Ideal.Points
public import proofs.«01_k».proof.Proof.Gen.Adamw2x8Ideal.Frame
public import proofs.«01_k».proof.Proof.Gen.Adamw2x8Ideal.Value
public import proofs.«01_k».proof.Proof.Gen.Adamw2x8RefIdeal
public import proofs.«01_k».proof.Proof.Gen.Adamw2x8RefIdeal.Run
public import proofs.«01_k».proof.Proof.Gen.Adamw2x128
public import proofs.«01_k».proof.Proof.Gen.Adamw2x128.Skeleton
public import proofs.«01_k».proof.Proof.Gen.Adamw2x128.Launch
public import proofs.«01_k».proof.Proof.Gen.Adamw2x128.Points
public import proofs.«01_k».proof.Proof.Gen.Adamw2x128.Frame
public import proofs.«01_k».proof.Proof.Gen.Adamw2x128Ideal
public import proofs.«01_k».proof.Proof.Gen.Adamw2x128Ideal.Skeleton
public import proofs.«01_k».proof.Proof.Gen.Adamw2x128Ideal.Launch
public import proofs.«01_k».proof.Proof.Gen.Adamw2x128Ideal.Points
public import proofs.«01_k».proof.Proof.Gen.Adamw2x128Ideal.Frame
public import proofs.«01_k».proof.Proof.Gen.Adamw2x128Ideal.Value
public import proofs.«01_k».proof.Proof.Gen.Adamw2x128RefIdeal
public import proofs.«01_k».proof.Proof.Gen.Adamw2x128RefIdeal.Run
public import proofs.«01_k».proof.Proof.Gen.Adamw512x1024
public import proofs.«01_k».proof.Proof.Gen.Adamw512x1024.Skeleton
public import proofs.«01_k».proof.Proof.Gen.Adamw512x1024.Launch
public import proofs.«01_k».proof.Proof.Gen.Adamw512x1024.Points
public import proofs.«01_k».proof.Proof.Gen.Adamw512x1024.Frame
public import proofs.«01_k».proof.Proof.Gen.Adamw512x1024Ideal
public import proofs.«01_k».proof.Proof.Gen.Adamw512x1024Ideal.Skeleton
public import proofs.«01_k».proof.Proof.Gen.Adamw512x1024Ideal.Launch
public import proofs.«01_k».proof.Proof.Gen.Adamw512x1024Ideal.Points
public import proofs.«01_k».proof.Proof.Gen.Adamw512x1024Ideal.Frame
public import proofs.«01_k».proof.Proof.Gen.Adamw512x1024Ideal.Value
public import proofs.«01_k».proof.Proof.Gen.Adamw512x1024RefIdeal
public import proofs.«01_k».proof.Proof.Gen.Adamw512x1024RefIdeal.Run
public import proofs.«01_k».proof.Proof.Gen.Adamw1024x128
public import proofs.«01_k».proof.Proof.Gen.Adamw1024x128.Skeleton
public import proofs.«01_k».proof.Proof.Gen.Adamw1024x128.Launch
public import proofs.«01_k».proof.Proof.Gen.Adamw1024x128.Points
public import proofs.«01_k».proof.Proof.Gen.Adamw1024x128.Frame
public import proofs.«01_k».proof.Proof.Gen.Adamw1024x128Ideal
public import proofs.«01_k».proof.Proof.Gen.Adamw1024x128Ideal.Skeleton
public import proofs.«01_k».proof.Proof.Gen.Adamw1024x128Ideal.Launch
public import proofs.«01_k».proof.Proof.Gen.Adamw1024x128Ideal.Points
public import proofs.«01_k».proof.Proof.Gen.Adamw1024x128Ideal.Frame
public import proofs.«01_k».proof.Proof.Gen.Adamw1024x128Ideal.Value
public import proofs.«01_k».proof.Proof.Gen.Adamw1024x128RefIdeal
public import proofs.«01_k».proof.Proof.Gen.Adamw1024x128RefIdeal.Run
public import proofs.«01_k».proof.Proof.Gen.Adamw8x128
public import proofs.«01_k».proof.Proof.Gen.Adamw8x128.Skeleton
public import proofs.«01_k».proof.Proof.Gen.Adamw8x128.Launch
public import proofs.«01_k».proof.Proof.Gen.Adamw8x128.Points
public import proofs.«01_k».proof.Proof.Gen.Adamw8x128.Frame
public import proofs.«01_k».proof.Proof.Gen.Adamw8x128Ideal
public import proofs.«01_k».proof.Proof.Gen.Adamw8x128Ideal.Skeleton
public import proofs.«01_k».proof.Proof.Gen.Adamw8x128Ideal.Launch
public import proofs.«01_k».proof.Proof.Gen.Adamw8x128Ideal.Points
public import proofs.«01_k».proof.Proof.Gen.Adamw8x128Ideal.Frame
public import proofs.«01_k».proof.Proof.Gen.Adamw8x128Ideal.Value
public import proofs.«01_k».proof.Proof.Gen.Adamw8x128RefIdeal
public import proofs.«01_k».proof.Proof.Gen.Adamw8x128RefIdeal.Run
public import proofs.«01_k».proof.Proof.Gen.Adamw1x1024
public import proofs.«01_k».proof.Proof.Gen.Adamw1x1024.Skeleton
public import proofs.«01_k».proof.Proof.Gen.Adamw1x1024.Launch
public import proofs.«01_k».proof.Proof.Gen.Adamw1x1024.Points
public import proofs.«01_k».proof.Proof.Gen.Adamw1x1024.Frame
public import proofs.«01_k».proof.Proof.Gen.Adamw1x1024Ideal
public import proofs.«01_k».proof.Proof.Gen.Adamw1x1024Ideal.Skeleton
public import proofs.«01_k».proof.Proof.Gen.Adamw1x1024Ideal.Launch
public import proofs.«01_k».proof.Proof.Gen.Adamw1x1024Ideal.Points
public import proofs.«01_k».proof.Proof.Gen.Adamw1x1024Ideal.Frame
public import proofs.«01_k».proof.Proof.Gen.Adamw1x1024Ideal.Value
public import proofs.«01_k».proof.Proof.Gen.Adamw1x1024RefIdeal
public import proofs.«01_k».proof.Proof.Gen.Adamw1x1024RefIdeal.Run
public import proofs.«01_k».proof.Proof.GatherRun
public import proofs.«01_k».proof.Proof.GatherValue
public import proofs.«01_k».proof.Proof.PartialsValue
public import proofs.«01_k».proof.Proof.ScatterValue
public import proofs.«01_k».proof.Proof.ResultValue
public import proofs.«01_k».proof.Proof.GradsValue
public import Idealize.ShloMosaic.Adequacy
public import Idealize.ShloMosaic.Init
public import proofs.«01_k».proof.Proof.SumValue
public import proofs.«01_k».proof.Proof.DxReference
public import proofs.«01_k».proof.Proof.LossReference
public import proofs.«01_k».proof.Proof.NormValue
public import proofs.«01_k».proof.Proof.ProjValue
public import proofs.«01_k».proof.Proof.ProjDxValue
public import proofs.«01_k».proof.Proof.ProjDwValue
public import proofs.«01_k».proof.Proof.MergeValue
public import proofs.«01_k».proof.Proof.AdamwValue
public import Idealize.ShloMosaic.Lib.Quiescent

@[expose] public section

noncomputable section

namespace Cert.Proof

open Idealize.ShloMosaic Idealize.ShloMosaic.TcCoe Idealize.SL.Sem

/-- Every claim of the programs. -/
theorem claim : Cert.Claim := ⟨Cert.Gather.Gen.facts, Cert.GatherIdeal.Gen.facts, Cert.GatherRefIdeal.Gen.facts, Cert.GatherRef.Gen.facts, Cert.Partials.Gen.facts, Cert.PartialsIdeal.Gen.facts, Cert.PartialsRefIdeal.Gen.facts, Cert.PartialsRef.Gen.facts, Cert.Scatter.Gen.facts, Cert.ScatterIdeal.Gen.facts, Cert.ScatterRefIdeal.Gen.facts, Cert.ScatterRef.Gen.facts, Cert.Result.Gen.facts, Cert.ResultIdeal.Gen.facts, Cert.ResultRefIdeal.Gen.facts, Cert.ResultRef.Gen.facts,
  Cert.Grads.Gen.facts, Cert.GradsIdeal.Gen.facts, Cert.GradsRefIdeal.Gen.facts, Cert.GradsRef.Gen.facts,
  Cert.PairSum.Gen.facts, Cert.PairSumIdeal.Gen.facts, Cert.PairSumRefIdeal.Gen.facts, Cert.PairSumRef.Gen.facts,
  Cert.ChipSum.Gen.facts, Cert.ChipSumIdeal.Gen.facts, Cert.ChipSumRefIdeal.Gen.facts,
  Cert.Dx.Gen.facts, Cert.DxIdeal.Gen.facts, Cert.DxRefIdeal.Gen.facts,
  Cert.LossHead.Gen.facts, Cert.LossHeadIdeal.Gen.facts, Cert.LossHeadRefIdeal.Gen.facts,
  Cert.Norm.Gen.facts, Cert.NormIdeal.Gen.facts, Cert.NormRefIdeal.Gen.facts,
  Cert.Proj.Gen.facts, Cert.ProjIdeal.Gen.facts, Cert.ProjRefIdeal.Gen.facts,
  Cert.ProjDx.Gen.facts, Cert.ProjDxIdeal.Gen.facts, Cert.ProjDxRefIdeal.Gen.facts,
  Cert.ProjDw.Gen.facts, Cert.ProjDwIdeal.Gen.facts, Cert.ProjDwRefIdeal.Gen.facts,
  Cert.Merge.Gen.facts, Cert.MergeIdeal.Gen.facts, Cert.MergeRefIdeal.Gen.facts,
  Cert.Adamw2x1024.Gen.facts, Cert.Adamw2x1024Ideal.Gen.facts, Cert.Adamw2x1024RefIdeal.Gen.facts,
  Cert.Adamw2048x2564.Gen.facts, Cert.Adamw2048x2564Ideal.Gen.facts, Cert.Adamw2048x2564RefIdeal.Gen.facts,
  Cert.Adamw62x128.Gen.facts, Cert.Adamw62x128Ideal.Gen.facts, Cert.Adamw62x128RefIdeal.Gen.facts,
  Cert.Adamw2x512.Gen.facts, Cert.Adamw2x512Ideal.Gen.facts, Cert.Adamw2x512RefIdeal.Gen.facts,
  Cert.Adamw1024x256.Gen.facts, Cert.Adamw1024x256Ideal.Gen.facts, Cert.Adamw1024x256RefIdeal.Gen.facts,
  Cert.Adamw8x768.Gen.facts, Cert.Adamw8x768Ideal.Gen.facts, Cert.Adamw8x768RefIdeal.Gen.facts,
  Cert.Adamw2x8.Gen.facts, Cert.Adamw2x8Ideal.Gen.facts, Cert.Adamw2x8RefIdeal.Gen.facts,
  Cert.Adamw2x128.Gen.facts, Cert.Adamw2x128Ideal.Gen.facts, Cert.Adamw2x128RefIdeal.Gen.facts,
  Cert.Adamw512x1024.Gen.facts, Cert.Adamw512x1024Ideal.Gen.facts, Cert.Adamw512x1024RefIdeal.Gen.facts,
  Cert.Adamw1024x128.Gen.facts, Cert.Adamw1024x128Ideal.Gen.facts, Cert.Adamw1024x128RefIdeal.Gen.facts,
  Cert.Adamw8x128.Gen.facts, Cert.Adamw8x128Ideal.Gen.facts, Cert.Adamw8x128RefIdeal.Gen.facts,
  Cert.Adamw1x1024.Gen.facts, Cert.Adamw1x1024Ideal.Gen.facts, Cert.Adamw1x1024RefIdeal.Gen.facts,
  Cert.GatherProof.frame_kernel, Cert.GatherProof.frame_ideal, Cert.GatherProof.frame_refIdeal, Cert.GatherProof.frame_ref,
  Cert.PartialsProof.frame_kernel, Cert.PartialsProof.frame_ideal, Cert.PartialsProof.frame_refIdeal, Cert.PartialsProof.frame_ref,
  Cert.ScatterProof.frame_kernel, Cert.ScatterProof.frame_ideal, Cert.ScatterProof.frame_refIdeal, Cert.ScatterProof.frame_ref,
  Cert.ResultProof.frame_kernel, Cert.ResultProof.frame_ideal, Cert.ResultProof.frame_refIdeal, Cert.ResultProof.frame_ref,
  Cert.GradsProof.frame_kernel, Cert.GradsProof.frame_ideal, Cert.GradsProof.frame_refIdeal, Cert.GradsProof.frame_ref,
  fun m ρ _ => Cert.PairSum.Gen.frame m ρ, fun m ρ _ => Cert.PairSumIdeal.Gen.frame m ρ,
  fun m ρ _ => (θ_run Cert.PairSumRefIdeal.defs _ _).mono (fun r h => ⟨fun c => (h c).2.2, sem_eq_zero_of_no_sems (by decide) r.2⟩) (Cert.PairSumRefIdeal.Value.run m ρ),
  fun m ρ _ => (θ_run Cert.PairSumRef.defs _ _).mono (fun r h => ⟨fun c => (h c).2.2, sem_eq_zero_of_no_sems (by decide) r.2⟩) (Cert.PairSumRef.Value.run m ρ),
  fun m ρ _ => Cert.ChipSum.Gen.frame m ρ, fun m ρ _ => Cert.ChipSumIdeal.Gen.frame m ρ,
  fun m ρ _ => (θ_run Cert.ChipSumRefIdeal.defs _ _).mono (fun r h => ⟨fun c => (h c).2, sem_eq_zero_of_no_sems (by decide) r.2⟩) (Cert.ChipSumRefIdeal.Value.run m ρ),
  fun m ρ _ => Cert.Dx.Gen.frame m ρ, fun m ρ _ => Cert.DxIdeal.Gen.frame m ρ,
  fun m ρ _ => (θ_run Cert.DxRefIdeal.defs _ _).mono (fun r h => ⟨fun c => (h c).2.2, sem_eq_zero_of_no_sems (by decide) r.2⟩) (Cert.DxRefIdeal.Value.run m ρ),
  fun m ρ _ => Cert.LossHead.Gen.frame m ρ, fun m ρ _ => Cert.LossHeadIdeal.Gen.frame m ρ,
  fun m ρ _ => (θ_run Cert.LossHeadRefIdeal.defs _ _).mono (fun r h => ⟨fun c => (h c).2.2.2, sem_eq_zero_of_no_sems (by decide) r.2⟩) (Cert.LossHeadRefIdeal.Value.run m ρ),
  fun m ρ _ => Cert.Norm.Gen.frame m ρ, fun m ρ _ => Cert.NormIdeal.Gen.frame m ρ,
  fun m ρ _ => (θ_run Cert.NormRefIdeal.defs _ _).mono (fun r h => ⟨fun c => (h c).2, sem_eq_zero_of_no_sems (by decide) r.2⟩) (Cert.NormRefIdeal.Value.run m ρ),
  fun m ρ _ => Cert.Proj.Gen.frame m ρ, fun m ρ _ => Cert.ProjIdeal.Gen.frame m ρ,
  fun m ρ _ => (θ_run Cert.ProjRefIdeal.defs _ _).mono (fun r h => ⟨fun c => (h c).2, sem_eq_zero_of_no_sems (by decide) r.2⟩) (Cert.ProjRefIdeal.Value.run m ρ),
  fun m ρ _ => Cert.ProjDx.Gen.frame m ρ, fun m ρ _ => Cert.ProjDxIdeal.Gen.frame m ρ,
  fun m ρ _ => (θ_run Cert.ProjDxRefIdeal.defs _ _).mono (fun r h => ⟨fun c => (h c).2, sem_eq_zero_of_no_sems (by decide) r.2⟩) (Cert.ProjDxRefIdeal.Value.run m ρ),
  fun m ρ _ => Cert.ProjDw.Gen.frame m ρ, fun m ρ _ => Cert.ProjDwIdeal.Gen.frame m ρ,
  fun m ρ _ => (θ_run Cert.ProjDwRefIdeal.defs _ _).mono (fun r h => ⟨fun c => (h c).2, sem_eq_zero_of_no_sems (by decide) r.2⟩) (Cert.ProjDwRefIdeal.Value.run m ρ),
  fun m ρ _ => Cert.Merge.Gen.frame m ρ, fun m ρ _ => Cert.MergeIdeal.Gen.frame m ρ,
  fun m ρ _ => (θ_run Cert.MergeRefIdeal.defs _ _).mono (fun r h => ⟨fun c => (h c).2, sem_eq_zero_of_no_sems (by decide) r.2⟩) (Cert.MergeRefIdeal.Value.run m ρ),
  fun m ρ _ => Cert.Adamw2x1024.Gen.frame m ρ, fun m ρ _ => Cert.Adamw2x1024Ideal.Gen.frame m ρ,
  fun m ρ _ => (θ_run Cert.Adamw2x1024RefIdeal.defs _ _).mono (fun r h => ⟨fun c => (h c).2.2.2, sem_eq_zero_of_no_sems (by decide) r.2⟩) (Cert.Adamw2x1024RefIdeal.Value.run m ρ),
  fun m ρ _ => Cert.Adamw2048x2564.Gen.frame m ρ, fun m ρ _ => Cert.Adamw2048x2564Ideal.Gen.frame m ρ,
  fun m ρ _ => (θ_run Cert.Adamw2048x2564RefIdeal.defs _ _).mono (fun r h => ⟨fun c => (h c).2.2.2, sem_eq_zero_of_no_sems (by decide) r.2⟩) (Cert.Adamw2048x2564RefIdeal.Value.run m ρ),
  fun m ρ _ => Cert.Adamw62x128.Gen.frame m ρ, fun m ρ _ => Cert.Adamw62x128Ideal.Gen.frame m ρ,
  fun m ρ _ => (θ_run Cert.Adamw62x128RefIdeal.defs _ _).mono (fun r h => ⟨fun c => (h c).2.2.2, sem_eq_zero_of_no_sems (by decide) r.2⟩) (Cert.Adamw62x128RefIdeal.Value.run m ρ),
  fun m ρ _ => Cert.Adamw2x512.Gen.frame m ρ, fun m ρ _ => Cert.Adamw2x512Ideal.Gen.frame m ρ,
  fun m ρ _ => (θ_run Cert.Adamw2x512RefIdeal.defs _ _).mono (fun r h => ⟨fun c => (h c).2.2.2, sem_eq_zero_of_no_sems (by decide) r.2⟩) (Cert.Adamw2x512RefIdeal.Value.run m ρ),
  fun m ρ _ => Cert.Adamw1024x256.Gen.frame m ρ, fun m ρ _ => Cert.Adamw1024x256Ideal.Gen.frame m ρ,
  fun m ρ _ => (θ_run Cert.Adamw1024x256RefIdeal.defs _ _).mono (fun r h => ⟨fun c => (h c).2.2.2, sem_eq_zero_of_no_sems (by decide) r.2⟩) (Cert.Adamw1024x256RefIdeal.Value.run m ρ),
  fun m ρ _ => Cert.Adamw8x768.Gen.frame m ρ, fun m ρ _ => Cert.Adamw8x768Ideal.Gen.frame m ρ,
  fun m ρ _ => (θ_run Cert.Adamw8x768RefIdeal.defs _ _).mono (fun r h => ⟨fun c => (h c).2.2.2, sem_eq_zero_of_no_sems (by decide) r.2⟩) (Cert.Adamw8x768RefIdeal.Value.run m ρ),
  fun m ρ _ => Cert.Adamw2x8.Gen.frame m ρ, fun m ρ _ => Cert.Adamw2x8Ideal.Gen.frame m ρ,
  fun m ρ _ => (θ_run Cert.Adamw2x8RefIdeal.defs _ _).mono (fun r h => ⟨fun c => (h c).2.2.2, sem_eq_zero_of_no_sems (by decide) r.2⟩) (Cert.Adamw2x8RefIdeal.Value.run m ρ),
  fun m ρ _ => Cert.Adamw2x128.Gen.frame m ρ, fun m ρ _ => Cert.Adamw2x128Ideal.Gen.frame m ρ,
  fun m ρ _ => (θ_run Cert.Adamw2x128RefIdeal.defs _ _).mono (fun r h => ⟨fun c => (h c).2.2.2, sem_eq_zero_of_no_sems (by decide) r.2⟩) (Cert.Adamw2x128RefIdeal.Value.run m ρ),
  fun m ρ _ => Cert.Adamw512x1024.Gen.frame m ρ, fun m ρ _ => Cert.Adamw512x1024Ideal.Gen.frame m ρ,
  fun m ρ _ => (θ_run Cert.Adamw512x1024RefIdeal.defs _ _).mono (fun r h => ⟨fun c => (h c).2.2.2, sem_eq_zero_of_no_sems (by decide) r.2⟩) (Cert.Adamw512x1024RefIdeal.Value.run m ρ),
  fun m ρ _ => Cert.Adamw1024x128.Gen.frame m ρ, fun m ρ _ => Cert.Adamw1024x128Ideal.Gen.frame m ρ,
  fun m ρ _ => (θ_run Cert.Adamw1024x128RefIdeal.defs _ _).mono (fun r h => ⟨fun c => (h c).2.2.2, sem_eq_zero_of_no_sems (by decide) r.2⟩) (Cert.Adamw1024x128RefIdeal.Value.run m ρ),
  fun m ρ _ => Cert.Adamw8x128.Gen.frame m ρ, fun m ρ _ => Cert.Adamw8x128Ideal.Gen.frame m ρ,
  fun m ρ _ => (θ_run Cert.Adamw8x128RefIdeal.defs _ _).mono (fun r h => ⟨fun c => (h c).2.2.2, sem_eq_zero_of_no_sems (by decide) r.2⟩) (Cert.Adamw8x128RefIdeal.Value.run m ρ),
  fun m ρ _ => Cert.Adamw1x1024.Gen.frame m ρ, fun m ρ _ => Cert.Adamw1x1024Ideal.Gen.frame m ρ,
  fun m ρ _ => (θ_run Cert.Adamw1x1024RefIdeal.defs _ _).mono (fun r h => ⟨fun c => (h c).2.2.2, sem_eq_zero_of_no_sems (by decide) r.2⟩) (Cert.Adamw1x1024RefIdeal.Value.run m ρ),
  trivial, Cert.GatherProof.algebraic, Cert.GatherProof.bitexact,
  trivial, Cert.PartialsProof.algebraic, Cert.PartialsProof.bitexact,
  trivial, Cert.ScatterProof.algebraic, Cert.ScatterProof.bitexact,
  trivial, Cert.ResultProof.algebraic, Cert.ResultProof.bitexact,
  trivial, Cert.GradsProof.algebraic, Cert.GradsProof.bitexact,
  trivial, Cert.PairSumProof.algebraic, Cert.PairSumProof.bitexact,
  trivial, Cert.ChipSumProof.algebraic,
  trivial, Cert.DxProof.algebraic,
  trivial, Cert.LossProof.algebraic,
  trivial, Cert.NormProof.algebraic,
  trivial, Cert.ProjProof.algebraic,
  trivial, Cert.ProjDxProof.algebraic,
  trivial, Cert.ProjDwProof.algebraic,
  trivial, Cert.MergeProof.algebraic,
  trivial, Cert.AdamwProof.adamw2x1024,
  trivial, Cert.AdamwProof.adamw2048x2564,
  trivial, Cert.AdamwProof.adamw62x128,
  trivial, Cert.AdamwProof.adamw2x512,
  trivial, Cert.AdamwProof.adamw1024x256,
  trivial, Cert.AdamwProof.adamw8x768,
  trivial, Cert.AdamwProof.adamw2x8,
  trivial, Cert.AdamwProof.adamw2x128,
  trivial, Cert.AdamwProof.adamw512x1024,
  trivial, Cert.AdamwProof.adamw1024x128,
  trivial, Cert.AdamwProof.adamw8x128,
  trivial, Cert.AdamwProof.adamw1x1024⟩

end Cert.Proof

end
